-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S96x784x512 : Shape := ⟨3, ![96, 784, 512]⟩
abbrev S_ : Shape := ⟨0, ![]⟩
abbrev S512 : Shape := ⟨1, ![512]⟩

class Facts : Prop where
  bcast_S_S96x784x512 : S_.BroadcastsInDim S96x784x512 (![] : Fin 0 → Fin S96x784x512.rank)
  reducesTo_S96x784x512_S_d0_1_2 : S96x784x512.ReducesTo [0, 1, 2] S_
  h_S_ : 0 < S_.numel
  reducesTo_S_S_d : S_.ReducesTo [] S_
  bcast_S_S512 : S_.BroadcastsInDim S512 (![] : Fin 0 → Fin S512.rank)
  reducesTo_S512_S_d0 : S512.ReducesTo [0] S_

variable [Facts]

def fn_part3 {F : FTy → Type} [FloatOps F] (main_v43 : IVec S_ 1) (main_v48 : IVec S512 1) : IVec S_ 1 :=
  let main_c_21 : IVec S_ 1 := constantI S_ 1 1#1
  let main_v49 : IVec S_ 1 := (fun x v => Host.reduce IntOp.andi x v reducesTo_S512_S_d0 h_S_) main_v48 main_c_21
  let main_v50 : IVec S_ 1 := andi main_v43 main_v49
  main_v50

def fn_part2 {F : FTy → Type} [FloatOps F] (main_arg5 : FVec F S512 .f32) (main_arg6 : FVec F S512 .f32) (main_arg7 : FVec F S512 .f32) (main_v29 : IVec S_ 1) (main_v31 : IVec S512 1) : IVec S_ 1 :=
  let main_cst_14 : FVec F S_ .f32 := constant S_ .f32 0x7F800000#32
  let main_v32 : FVec F S512 .f32 := broadcastInDim S512 ![] bcast_S_S512 main_cst_14
  let main_v33 : IVec S512 1 := cmpf .olt main_arg5 main_v32
  let main_v34 : IVec S512 1 := andi main_v31 main_v33
  let main_c_15 : IVec S_ 1 := constantI S_ 1 1#1
  let main_v35 : IVec S_ 1 := (fun x v => Host.reduce IntOp.andi x v reducesTo_S512_S_d0 h_S_) main_v34 main_c_15
  let main_v36 : IVec S_ 1 := andi main_v29 main_v35
  let main_cst_16 : FVec F S_ .f32 := constant S_ .f32 0xFF800000#32
  let main_v37 : FVec F S512 .f32 := broadcastInDim S512 ![] bcast_S_S512 main_cst_16
  let main_v38 : IVec S512 1 := cmpf .ogt main_arg6 main_v37
  let main_cst_17 : FVec F S_ .f32 := constant S_ .f32 0x7F800000#32
  let main_v39 : FVec F S512 .f32 := broadcastInDim S512 ![] bcast_S_S512 main_cst_17
  let main_v40 : IVec S512 1 := cmpf .olt main_arg6 main_v39
  let main_v41 : IVec S512 1 := andi main_v38 main_v40
  let main_c_18 : IVec S_ 1 := constantI S_ 1 1#1
  let main_v42 : IVec S_ 1 := (fun x v => Host.reduce IntOp.andi x v reducesTo_S512_S_d0 h_S_) main_v41 main_c_18
  let main_v43 : IVec S_ 1 := andi main_v36 main_v42
  let main_cst_19 : FVec F S_ .f32 := constant S_ .f32 0xFF800000#32
  let main_v44 : FVec F S512 .f32 := broadcastInDim S512 ![] bcast_S_S512 main_cst_19
  let main_v45 : IVec S512 1 := cmpf .ogt main_arg7 main_v44
  let main_cst_20 : FVec F S_ .f32 := constant S_ .f32 0x7F800000#32
  let main_v46 : FVec F S512 .f32 := broadcastInDim S512 ![] bcast_S_S512 main_cst_20
  let main_v47 : IVec S512 1 := cmpf .olt main_arg7 main_v46
  let main_v48 : IVec S512 1 := andi main_v45 main_v47
  fn_part3 (F := F) main_v43 main_v48

def fn_part1 {F : FTy → Type} [FloatOps F] (main_arg1 : FVec F S_ .f32) (main_arg3 : FVec F S_ .f32) (main_arg4 : IVec S96x784x512 8) (main_arg5 : FVec F S512 .f32) (main_arg6 : FVec F S512 .f32) (main_arg7 : FVec F S512 .f32) (main_v15 : IVec S_ 1) (main_c_6 : IVec S_ 8) : IVec S_ 1 :=
  let main_v16 : IVec S96x784x512 8 := broadcastInDim S96x784x512 ![] bcast_S_S96x784x512 main_c_6
  let main_v17 : IVec S96x784x512 1 := cmpi .ule main_arg4 main_v16
  let main_c_7 : IVec S_ 1 := constantI S_ 1 1#1
  let main_v18 : IVec S_ 1 := (fun x v => Host.reduce IntOp.andi x v reducesTo_S96x784x512_S_d0_1_2 h_S_) main_v17 main_c_7
  let main_v19 : IVec S_ 1 := andi main_v15 main_v18
  let main_cst : FVec F S_ .f32 := constant S_ .f32 0xFF800000#32
  let main_v20 : IVec S_ 1 := cmpf .ogt main_arg1 main_cst
  let main_cst_8 : FVec F S_ .f32 := constant S_ .f32 0x7F800000#32
  let main_v21 : IVec S_ 1 := cmpf .olt main_arg1 main_cst_8
  let main_v22 : IVec S_ 1 := andi main_v20 main_v21
  let main_c_9 : IVec S_ 1 := constantI S_ 1 1#1
  let main_v23 : IVec S_ 1 := (fun x v => Host.reduce IntOp.andi x v reducesTo_S_S_d h_S_) main_v22 main_c_9
  let main_v24 : IVec S_ 1 := andi main_v19 main_v23
  let main_cst_10 : FVec F S_ .f32 := constant S_ .f32 0xFF800000#32
  let main_v25 : IVec S_ 1 := cmpf .ogt main_arg3 main_cst_10
  let main_cst_11 : FVec F S_ .f32 := constant S_ .f32 0x7F800000#32
  let main_v26 : IVec S_ 1 := cmpf .olt main_arg3 main_cst_11
  let main_v27 : IVec S_ 1 := andi main_v25 main_v26
  let main_c_12 : IVec S_ 1 := constantI S_ 1 1#1
  let main_v28 : IVec S_ 1 := (fun x v => Host.reduce IntOp.andi x v reducesTo_S_S_d h_S_) main_v27 main_c_12
  let main_v29 : IVec S_ 1 := andi main_v24 main_v28
  let main_cst_13 : FVec F S_ .f32 := constant S_ .f32 0xFF800000#32
  let main_v30 : FVec F S512 .f32 := broadcastInDim S512 ![] bcast_S_S512 main_cst_13
  let main_v31 : IVec S512 1 := cmpf .ogt main_arg5 main_v30
  fn_part2 (F := F) main_arg5 main_arg6 main_arg7 main_v29 main_v31

def fn {F : FTy → Type} [FloatOps F] (main_arg0 : IVec S96x784x512 8) (main_arg1 : FVec F S_ .f32) (main_arg2 : IVec S96x784x512 8) (main_arg3 : FVec F S_ .f32) (main_arg4 : IVec S96x784x512 8) (main_arg5 : FVec F S512 .f32) (main_arg6 : FVec F S512 .f32) (main_arg7 : FVec F S512 .f32) : IVec S_ 1 :=
  let main_c : IVec S_ 8 := constantI S_ 8 127#8
  let main_v0 : IVec S96x784x512 8 := broadcastInDim S96x784x512 ![] bcast_S_S96x784x512 main_c
  let main_v1 : IVec S96x784x512 1 := cmpi .ne main_arg0 main_v0
  let main_c_0 : IVec S_ 8 := constantI S_ 8 255#8
  let main_v2 : IVec S96x784x512 8 := broadcastInDim S96x784x512 ![] bcast_S_S96x784x512 main_c_0
  let main_v3 : IVec S96x784x512 1 := cmpi .ne main_arg0 main_v2
  let main_v4 : IVec S96x784x512 1 := andi main_v1 main_v3
  let main_c_1 : IVec S_ 1 := constantI S_ 1 1#1
  let main_v5 : IVec S_ 1 := (fun x v => Host.reduce IntOp.andi x v reducesTo_S96x784x512_S_d0_1_2 h_S_) main_v4 main_c_1
  let main_c_2 : IVec S_ 8 := constantI S_ 8 124#8
  let main_v6 : IVec S96x784x512 8 := broadcastInDim S96x784x512 ![] bcast_S_S96x784x512 main_c_2
  let main_v7 : IVec S96x784x512 1 := cmpi .ult main_arg2 main_v6
  let main_c_3 : IVec S_ 8 := constantI S_ 8 128#8
  let main_v8 : IVec S96x784x512 8 := broadcastInDim S96x784x512 ![] bcast_S_S96x784x512 main_c_3
  let main_v9 : IVec S96x784x512 1 := cmpi .uge main_arg2 main_v8
  let main_c_4 : IVec S_ 8 := constantI S_ 8 252#8
  let main_v10 : IVec S96x784x512 8 := broadcastInDim S96x784x512 ![] bcast_S_S96x784x512 main_c_4
  let main_v11 : IVec S96x784x512 1 := cmpi .ult main_arg2 main_v10
  let main_v12 : IVec S96x784x512 1 := andi main_v9 main_v11
  let main_v13 : IVec S96x784x512 1 := ori main_v7 main_v12
  let main_c_5 : IVec S_ 1 := constantI S_ 1 1#1
  let main_v14 : IVec S_ 1 := (fun x v => Host.reduce IntOp.andi x v reducesTo_S96x784x512_S_d0_1_2 h_S_) main_v13 main_c_5
  let main_v15 : IVec S_ 1 := andi main_v5 main_v14
  let main_c_6 : IVec S_ 8 := constantI S_ 8 1#8
  fn_part1 (F := F) main_arg1 main_arg3 main_arg4 main_arg5 main_arg6 main_arg7 main_v15 main_c_6
-- ==== Kernel.lean ====
abbrev S96x784x512 : Shape := ⟨3, ![96, 784, 512]⟩
abbrev S_ : Shape := ⟨0, ![]⟩
abbrev S512 : Shape := ⟨1, ![512]⟩
abbrev S1 : Shape := ⟨1, ![1]⟩
abbrev S4x128 : Shape := ⟨2, ![4, 128]⟩
abbrev S16x128 : Shape := ⟨2, ![16, 128]⟩
abbrev S75264x512 : Shape := ⟨2, ![75264, 512]⟩
abbrev S37x3136x128 : Shape := ⟨3, ![37, 3136, 128]⟩
abbrev S13x3136x128 : Shape := ⟨3, ![13, 3136, 128]⟩
abbrev S6x3136x128 : Shape := ⟨3, ![6, 3136, 128]⟩
abbrev S2x16x128 : Shape := ⟨3, ![2, 16, 128]⟩
abbrev S8x128 : Shape := ⟨2, ![8, 128]⟩
abbrev S13 : Shape := ⟨1, ![13]⟩
abbrev S6 : Shape := ⟨1, ![6]⟩
abbrev S1x3136x128 : Shape := ⟨3, ![1, 3136, 128]⟩
abbrev S3136x128 : Shape := ⟨2, ![3136, 128]⟩
abbrev S1x448x128 : Shape := ⟨3, ![1, 448, 128]⟩
abbrev S448x128 : Shape := ⟨2, ![448, 128]⟩
abbrev S32x128 : Shape := ⟨2, ![32, 128]⟩
abbrev S1x32x128 : Shape := ⟨3, ![1, 32, 128]⟩
abbrev S1x16x128 : Shape := ⟨3, ![1, 16, 128]⟩
abbrev S1x128 : Shape := ⟨2, ![1, 128]⟩
abbrev S128 : Shape := ⟨1, ![128]⟩

abbrev nBuf : Space → Nat
  | .hbm => 26
  | .vmem => 12
  | .smem => 2
  | _ => 0

abbrev bufTy : (tb : Table) → Fin (tcTables nBuf tb) → BufTy
  | .hbm, ⟨0, _⟩ => ⟨S96x784x512, .i8⟩
  | .hbm, ⟨1, _⟩ => ⟨S_, .f32⟩
  | .hbm, ⟨2, _⟩ => ⟨S96x784x512, .i8⟩
  | .hbm, ⟨3, _⟩ => ⟨S_, .f32⟩
  | .hbm, ⟨4, _⟩ => ⟨S96x784x512, .i8⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S96x784x512, .fp8e4m3⟩
  | .hbm, ⟨9, _⟩ => ⟨S96x784x512, .fp8e5m2⟩
  | .hbm, ⟨10, _⟩ => ⟨S1, .f32⟩
  | .hbm, ⟨11, _⟩ => ⟨S1, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S16x128, .f32⟩
  | .hbm, ⟨17, _⟩ => ⟨S75264x512, .fp8e4m3⟩
  | .hbm, ⟨18, _⟩ => ⟨S75264x512, .fp8e5m2⟩
  | .hbm, ⟨19, _⟩ => ⟨S75264x512, .i8⟩
  | .hbm, ⟨20, _⟩ => ⟨S75264x512, .bf16⟩
  | .hbm, ⟨21, _⟩ => ⟨S4x128, .f32⟩
  | .hbm, ⟨22, _⟩ => ⟨S4x128, .f32⟩
  | .hbm, ⟨23, _⟩ => ⟨S96x784x512, .bf16⟩
  | .hbm, ⟨24, _⟩ => ⟨S512, .f32⟩
  | .hbm, ⟨25, _⟩ => ⟨S512, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S16x128, .f32⟩
  | .local _ .vmem, ⟨4, _⟩ => ⟨S4x128, .f32⟩
  | .local _ .vmem, ⟨5, _⟩ => ⟨S4x128, .f32⟩
  | .local _ .vmem, ⟨6, _⟩ => ⟨S37x3136x128, .fp8e4m3⟩
  | .local _ .vmem, ⟨7, _⟩ => ⟨S37x3136x128, .fp8e5m2⟩
  | .local _ .vmem, ⟨8, _⟩ => ⟨S13x3136x128, .i8⟩
  | .local _ .vmem, ⟨9, _⟩ => ⟨S6x3136x128, .bf16⟩
  | .local _ .vmem, ⟨10, _⟩ => ⟨S2x16x128, .f32⟩
  | .local _ .vmem, ⟨11, _⟩ => ⟨S8x128, .f32⟩
  | .local _ .smem, ⟨0, _⟩ => ⟨S1, .f32⟩
  | .local _ .smem, ⟨1, _⟩ => ⟨S1, .f32⟩
  | _, _ => ⟨S96x784x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def k0_mult1 : BitVec 32 :=
  let c0_i32_3 : BitVec 32 := 0#32
  c0_i32_3
def k0_mult2 : BitVec 32 :=
  let c0_i32_4 : BitVec 32 := 0#32
  c0_i32_4
def k0_mult3 : BitVec 32 :=
  let c0_i32_5 : BitVec 32 := 0#32
  c0_i32_5
def k0_mult4 : BitVec 32 :=
  let c0_i32_6 : BitVec 32 := 0#32
  c0_i32_6
def k0_mult5 : BitVec 32 :=
  let c0_i32_7 : BitVec 32 := 0#32
  c0_i32_7
def k0_mult6 : BitVec 32 :=
  let c0_i32_8 : BitVec 32 := 0#32
  c0_i32_8
def k0_off1 (c0_i32_2 : BitVec 32) : Fin 1 → Nat :=
  let c13_i32 : BitVec 32 := 13#32
  let v5 : BitVec 32 := Scalar.remsi c0_i32_2 c13_i32
  ![v5.toNat]
def k0_off2 (c0_i32 : BitVec 32) : Fin 3 → Nat :=
  let c37_i32 : BitVec 32 := 37#32
  let v4 : BitVec 32 := Scalar.remsi c0_i32 c37_i32
  let c0_i32_9 : BitVec 32 := 0#32
  let c0_i32_10 : BitVec 32 := 0#32
  ![v4.toNat, 0, 0]
def k0_off3 (c0_i32_2 : BitVec 32) : Fin 3 → Nat :=
  let c13_i32 : BitVec 32 := 13#32
  let v5 : BitVec 32 := Scalar.remsi c0_i32_2 c13_i32
  let c0_i32_11 : BitVec 32 := 0#32
  let c0_i32_12 : BitVec 32 := 0#32
  ![v5.toNat, 0, 0]
def k0_mult7 : BitVec 32 :=
  let c3136_i32 : BitVec 32 := 3136#32
  c3136_i32
def k0_mult8 : BitVec 32 :=
  let c0_i32_18 : BitVec 32 := 0#32
  c0_i32_18
def k0_mult9 : BitVec 32 :=
  let c3136_i32_19 : BitVec 32 := 3136#32
  c3136_i32_19
def k0_mult10 : BitVec 32 :=
  let c0_i32_20 : BitVec 32 := 0#32
  c0_i32_20
def k0_mult11 : BitVec 32 :=
  let c3136_i32_21 : BitVec 32 := 3136#32
  c3136_i32_21
def k0_mult12 : BitVec 32 :=
  let c0_i32_22 : BitVec 32 := 0#32
  c0_i32_22
def k0_mult13 : BitVec 32 :=
  let c6272_i32 : BitVec 32 := 6272#32
  c6272_i32
def k0_mult14 : BitVec 32 :=
  let c0_i32_32 : BitVec 32 := 0#32
  c0_i32_32
def k0_mult15 : BitVec 32 :=
  let c6272_i32_33 : BitVec 32 := 6272#32
  c6272_i32_33
def k0_mult16 : BitVec 32 :=
  let c0_i32_34 : BitVec 32 := 0#32
  c0_i32_34
def k0_mult17 : BitVec 32 :=
  let c6272_i32_35 : BitVec 32 := 6272#32
  c6272_i32_35
def k0_mult18 : BitVec 32 :=
  let c0_i32_36 : BitVec 32 := 0#32
  c0_i32_36
def k0_mult19 : BitVec 32 :=
  let c9408_i32 : BitVec 32 := 9408#32
  c9408_i32
def k0_mult20 : BitVec 32 :=
  let c0_i32_46 : BitVec 32 := 0#32
  c0_i32_46
def k0_mult21 : BitVec 32 :=
  let c9408_i32_47 : BitVec 32 := 9408#32
  c9408_i32_47
def k0_mult22 : BitVec 32 :=
  let c0_i32_48 : BitVec 32 := 0#32
  c0_i32_48
def k0_mult23 : BitVec 32 :=
  let c9408_i32_49 : BitVec 32 := 9408#32
  c9408_i32_49
def k0_mult24 : BitVec 32 :=
  let c0_i32_50 : BitVec 32 := 0#32
  c0_i32_50
def k0_mult25 : BitVec 32 :=
  let c12544_i32 : BitVec 32 := 12544#32
  c12544_i32
def k0_mult26 : BitVec 32 :=
  let c0_i32_60 : BitVec 32 := 0#32
  c0_i32_60
def k0_mult27 : BitVec 32 :=
  let c12544_i32_61 : BitVec 32 := 12544#32
  c12544_i32_61
def k0_mult28 : BitVec 32 :=
  let c0_i32_62 : BitVec 32 := 0#32
  c0_i32_62
def k0_mult29 : BitVec 32 :=
  let c12544_i32_63 : BitVec 32 := 12544#32
  c12544_i32_63
def k0_mult30 : BitVec 32 :=
  let c0_i32_64 : BitVec 32 := 0#32
  c0_i32_64
def k0_mult31 : BitVec 32 :=
  let c15680_i32 : BitVec 32 := 15680#32
  c15680_i32
def k0_mult32 : BitVec 32 :=
  let c0_i32_74 : BitVec 32 := 0#32
  c0_i32_74
def k0_mult33 : BitVec 32 :=
  let c15680_i32_75 : BitVec 32 := 15680#32
  c15680_i32_75
def k0_mult34 : BitVec 32 :=
  let c0_i32_76 : BitVec 32 := 0#32
  c0_i32_76
def k0_mult35 : BitVec 32 :=
  let c15680_i32_77 : BitVec 32 := 15680#32
  c15680_i32_77
def k0_mult36 : BitVec 32 :=
  let c0_i32_78 : BitVec 32 := 0#32
  c0_i32_78
def k0_mult37 : BitVec 32 :=
  let c18816_i32 : BitVec 32 := 18816#32
  c18816_i32
def k0_mult38 : BitVec 32 :=
  let c0_i32_88 : BitVec 32 := 0#32
  c0_i32_88
def k0_mult39 : BitVec 32 :=
  let c18816_i32_89 : BitVec 32 := 18816#32
  c18816_i32_89
def k0_mult40 : BitVec 32 :=
  let c0_i32_90 : BitVec 32 := 0#32
  c0_i32_90
def k0_mult41 : BitVec 32 :=
  let c18816_i32_91 : BitVec 32 := 18816#32
  c18816_i32_91
def k0_mult42 : BitVec 32 :=
  let c0_i32_92 : BitVec 32 := 0#32
  c0_i32_92
def k0_mult43 : BitVec 32 :=
  let c21952_i32 : BitVec 32 := 21952#32
  c21952_i32
def k0_mult44 : BitVec 32 :=
  let c0_i32_102 : BitVec 32 := 0#32
  c0_i32_102
def k0_mult45 : BitVec 32 :=
  let c21952_i32_103 : BitVec 32 := 21952#32
  c21952_i32_103
def k0_mult46 : BitVec 32 :=
  let c0_i32_104 : BitVec 32 := 0#32
  c0_i32_104
def k0_mult47 : BitVec 32 :=
  let c21952_i32_105 : BitVec 32 := 21952#32
  c21952_i32_105
def k0_mult48 : BitVec 32 :=
  let c0_i32_106 : BitVec 32 := 0#32
  c0_i32_106
def k0_mult49 : BitVec 32 :=
  let c25088_i32 : BitVec 32 := 25088#32
  c25088_i32
def k0_mult50 : BitVec 32 :=
  let c0_i32_116 : BitVec 32 := 0#32
  c0_i32_116
def k0_mult51 : BitVec 32 :=
  let c25088_i32_117 : BitVec 32 := 25088#32
  c25088_i32_117
def k0_mult52 : BitVec 32 :=
  let c0_i32_118 : BitVec 32 := 0#32
  c0_i32_118
def k0_mult53 : BitVec 32 :=
  let c25088_i32_119 : BitVec 32 := 25088#32
  c25088_i32_119
def k0_mult54 : BitVec 32 :=
  let c0_i32_120 : BitVec 32 := 0#32
  c0_i32_120
def k0_mult55 : BitVec 32 :=
  let c28224_i32 : BitVec 32 := 28224#32
  c28224_i32
def k0_mult56 : BitVec 32 :=
  let c0_i32_130 : BitVec 32 := 0#32
  c0_i32_130
def k0_mult57 : BitVec 32 :=
  let c28224_i32_131 : BitVec 32 := 28224#32
  c28224_i32_131
def k0_mult58 : BitVec 32 :=
  let c0_i32_132 : BitVec 32 := 0#32
  c0_i32_132
def k0_mult59 : BitVec 32 :=
  let c28224_i32_133 : BitVec 32 := 28224#32
  c28224_i32_133
def k0_mult60 : BitVec 32 :=
  let c0_i32_134 : BitVec 32 := 0#32
  c0_i32_134
def k0_mult61 : BitVec 32 :=
  let c31360_i32 : BitVec 32 := 31360#32
  c31360_i32
def k0_mult62 : BitVec 32 :=
  let c0_i32_144 : BitVec 32 := 0#32
  c0_i32_144
def k0_mult63 : BitVec 32 :=
  let c31360_i32_145 : BitVec 32 := 31360#32
  c31360_i32_145
def k0_mult64 : BitVec 32 :=
  let c0_i32_146 : BitVec 32 := 0#32
  c0_i32_146
def k0_mult65 : BitVec 32 :=
  let c31360_i32_147 : BitVec 32 := 31360#32
  c31360_i32_147
def k0_mult66 : BitVec 32 :=
  let c0_i32_148 : BitVec 32 := 0#32
  c0_i32_148
def k0_mult67 : BitVec 32 :=
  let c34496_i32 : BitVec 32 := 34496#32
  c34496_i32
def k0_mult68 : BitVec 32 :=
  let c0_i32_158 : BitVec 32 := 0#32
  c0_i32_158
def k0_mult69 : BitVec 32 :=
  let c34496_i32_159 : BitVec 32 := 34496#32
  c34496_i32_159
def k0_mult70 : BitVec 32 :=
  let c0_i32_160 : BitVec 32 := 0#32
  c0_i32_160
def k0_mult71 : BitVec 32 :=
  let c34496_i32_161 : BitVec 32 := 34496#32
  c34496_i32_161
def k0_mult72 : BitVec 32 :=
  let c0_i32_162 : BitVec 32 := 0#32
  c0_i32_162
@[reducible] def k0_t1_loop (i : grid0.Coords) : Scf.Loop 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_171 : BitVec 32 := 1#32
  ⟨arg0, v285, c1_i32_171⟩
def k0_cond1 (i : grid0.Coords) (k0_t1 : Fin (k0_t1_loop i).trips) : BitVec 1 :=
  let arg0 : BitVec 32 := BitVec.ofNat 32 (i 0).val
  let c1_i32_171 : BitVec 32 := 1#32
  let arg21 : BitVec 32 := Scf.iv arg0 c1_i32_171 k0_t1
  let c12_i32 : BitVec 32 := 12#32
  let v412 : BitVec 32 := Scalar.addi arg21 c12_i32
  let c96_i32_242 : BitVec 32 := 96#32
  let v413 : BitVec 1 := Scalar.cmpi .slt v412 c96_i32_242
  let v414 : BitVec 32 := Scalar.extui v413
  let c0_i32_243 : BitVec 32 := 0#32
  let v415 : BitVec 1 := Scalar.cmpi .ne v414 c0_i32_243
  v415

def k0_mult73 (i : grid0.Coords) (k0_t1 : Fin (k0_t1_loop i).trips) : BitVec 32 :=
  let arg0 : BitVec 32 := BitVec.ofNat 32 (i 0).val
  let c1_i32_171 : BitVec 32 := 1#32
  let arg21 : BitVec 32 := Scf.iv arg0 c1_i32_171 k0_t1
  let c12_i32_302 : BitVec 32 := 12#32
  let v523 : BitVec 32 := Scalar.addi arg21 c12_i32_302
  let c0_i32_306 : BitVec 32 := 0#32
  let v527 : BitVec 1 := Scalar.cmpi .sgt v523 c0_i32_306
  let v528 : BitVec 32 := Scalar.extui v527
  let c0_i32_307 : BitVec 32 := 0#32
  let v529 : BitVec 1 := Scalar.cmpi .slt v523 c0_i32_307
  let v530 : BitVec 32 := Scalar.extui v529
  let v531 : BitVec 32 := Scalar.subi v528 v530
  let c24_i32_305 : BitVec 32 := 24#32
  let c0_i32_308 : BitVec 32 := 0#32
  let v532 : BitVec 1 := Scalar.cmpi .sgt c24_i32_305 c0_i32_308
  let v533 : BitVec 32 := Scalar.extui v532
  let c0_i32_309 : BitVec 32 := 0#32
  let v534 : BitVec 1 := Scalar.cmpi .slt c24_i32_305 c0_i32_309
  let v535 : BitVec 32 := Scalar.extui v534
  let v536 : BitVec 32 := Scalar.subi v533 v535
  let v537 : BitVec 1 := Scalar.cmpi .ne v531 v536
  let v538 : BitVec 32 := Scalar.remsi v523 c24_i32_305
  let c0_i32_310 : BitVec 32 := 0#32
  let v539 : BitVec 1 := Scalar.cmpi .ne v538 c0_i32_310
  let v540 : BitVec 1 := Scalar.andi v537 v539
  let v526 : BitVec 32 := Scalar.divsi v523 c24_i32_305
  let c1_i32_311 : BitVec 32 := 1#32
  let v541 : BitVec 32 := Scalar.subi v526 c1_i32_311
  let v542 : BitVec 32 := Scalar.select v540 v541 v526
  let c24_i32_312 : BitVec 32 := 24#32
  let v543 : BitVec 32 := Scalar.muli v542 c24_i32_312
  let v544 : BitVec 32 := Scalar.subi v523 v543
  let c3136_i32_313 : BitVec 32 := 3136#32
  let v545 : BitVec 32 := Scalar.muli v544 c3136_i32_313
  v545
def k0_mult74 (i : grid0.Coords) (k0_t1 : Fin (k0_t1_loop i).trips) : BitVec 32 :=
  let arg0 : BitVec 32 := BitVec.ofNat 32 (i 0).val
  let c1_i32_171 : BitVec 32 := 1#32
  let arg21 : BitVec 32 := Scf.iv arg0 c1_i32_171 k0_t1
  let c12_i32_302 : BitVec 32 := 12#32
  let v523 : BitVec 32 := Scalar.addi arg21 c12_i32_302
  let c0_i32_306 : BitVec 32 := 0#32
  let v527 : BitVec 1 := Scalar.cmpi .sgt v523 c0_i32_306
  let v528 : BitVec 32 := Scalar.extui v527
  let c0_i32_307 : BitVec 32 := 0#32
  let v529 : BitVec 1 := Scalar.cmpi .slt v523 c0_i32_307
  let v530 : BitVec 32 := Scalar.extui v529
  let v531 : BitVec 32 := Scalar.subi v528 v530
  let c24_i32_305 : BitVec 32 := 24#32
  let c0_i32_308 : BitVec 32 := 0#32
  let v532 : BitVec 1 := Scalar.cmpi .sgt c24_i32_305 c0_i32_308
  let v533 : BitVec 32 := Scalar.extui v532
  let c0_i32_309 : BitVec 32 := 0#32
  let v534 : BitVec 1 := Scalar.cmpi .slt c24_i32_305 c0_i32_309
  let v535 : BitVec 32 := Scalar.extui v534
  let v536 : BitVec 32 := Scalar.subi v533 v535
  let v537 : BitVec 1 := Scalar.cmpi .ne v531 v536
  let v538 : BitVec 32 := Scalar.remsi v523 c24_i32_305
  let c0_i32_310 : BitVec 32 := 0#32
  let v539 : BitVec 1 := Scalar.cmpi .ne v538 c0_i32_310
  let v540 : BitVec 1 := Scalar.andi v537 v539
  let v526 : BitVec 32 := Scalar.divsi v523 c24_i32_305
  let c1_i32_311 : BitVec 32 := 1#32
  let v541 : BitVec 32 := Scalar.subi v526 c1_i32_311
  let v542 : BitVec 32 := Scalar.select v540 v541 v526
  let c128_i32_314 : BitVec 32 := 128#32
  let v547 : BitVec 32 := Scalar.muli v542 c128_i32_314
  v547
def k0_mult75 (i : grid0.Coords) (k0_t1 : Fin (k0_t1_loop i).trips) : BitVec 32 :=
  let arg0 : BitVec 32 := BitVec.ofNat 32 (i 0).val
  let c1_i32_171 : BitVec 32 := 1#32
  let arg21 : BitVec 32 := Scf.iv arg0 c1_i32_171 k0_t1
  let c12_i32_302 : BitVec 32 := 12#32
  let v523 : BitVec 32 := Scalar.addi arg21 c12_i32_302
  let c0_i32_316 : BitVec 32 := 0#32
  let v550 : BitVec 1 := Scalar.cmpi .sgt v523 c0_i32_316
  let v551 : BitVec 32 := Scalar.extui v550
  let c0_i32_317 : BitVec 32 := 0#32
  let v552 : BitVec 1 := Scalar.cmpi .slt v523 c0_i32_317
  let v553 : BitVec 32 := Scalar.extui v552
  let v554 : BitVec 32 := Scalar.subi v551 v553
  let c24_i32_315 : BitVec 32 := 24#32
  let c0_i32_318 : BitVec 32 := 0#32
  let v555 : BitVec 1 := Scalar.cmpi .sgt c24_i32_315 c0_i32_318
  let v556 : BitVec 32 := Scalar.extui v555
  let c0_i32_319 : BitVec 32 := 0#32
  let v557 : BitVec 1 := Scalar.cmpi .slt c24_i32_315 c0_i32_319
  let v558 : BitVec 32 := Scalar.extui v557
  let v559 : BitVec 32 := Scalar.subi v556 v558
  let v560 : BitVec 1 := Scalar.cmpi .ne v554 v559
  let v561 : BitVec 32 := Scalar.remsi v523 c24_i32_315
  let c0_i32_320 : BitVec 32 := 0#32
  let v562 : BitVec 1 := Scalar.cmpi .ne v561 c0_i32_320
  let v563 : BitVec 1 := Scalar.andi v560 v562
  let v549 : BitVec 32 := Scalar.divsi v523 c24_i32_315
  let c1_i32_321 : BitVec 32 := 1#32
  let v564 : BitVec 32 := Scalar.subi v549 c1_i32_321
  let v565 : BitVec 32 := Scalar.select v563 v564 v549
  let c24_i32_322 : BitVec 32 := 24#32
  let v566 : BitVec 32 := Scalar.muli v565 c24_i32_322
  let v567 : BitVec 32 := Scalar.subi v523 v566
  let c3136_i32_323 : BitVec 32 := 3136#32
  let v568 : BitVec 32 := Scalar.muli v567 c3136_i32_323
  v568
def k0_mult76 (i : grid0.Coords) (k0_t1 : Fin (k0_t1_loop i).trips) : BitVec 32 :=
  let arg0 : BitVec 32 := BitVec.ofNat 32 (i 0).val
  let c1_i32_171 : BitVec 32 := 1#32
  let arg21 : BitVec 32 := Scf.iv arg0 c1_i32_171 k0_t1
  let c12_i32_302 : BitVec 32 := 12#32
  let v523 : BitVec 32 := Scalar.addi arg21 c12_i32_302
  let c0_i32_316 : BitVec 32 := 0#32
  let v550 : BitVec 1 := Scalar.cmpi .sgt v523 c0_i32_316
  let v551 : BitVec 32 := Scalar.extui v550
  let c0_i32_317 : BitVec 32 := 0#32
  let v552 : BitVec 1 := Scalar.cmpi .slt v523 c0_i32_317
  let v553 : BitVec 32 := Scalar.extui v552
  let v554 : BitVec 32 := Scalar.subi v551 v553
  let c24_i32_315 : BitVec 32 := 24#32
  let c0_i32_318 : BitVec 32 := 0#32
  let v555 : BitVec 1 := Scalar.cmpi .sgt c24_i32_315 c0_i32_318
  let v556 : BitVec 32 := Scalar.extui v555
  let c0_i32_319 : BitVec 32 := 0#32
  let v557 : BitVec 1 := Scalar.cmpi .slt c24_i32_315 c0_i32_319
  let v558 : BitVec 32 := Scalar.extui v557
  let v559 : BitVec 32 := Scalar.subi v556 v558
  let v560 : BitVec 1 := Scalar.cmpi .ne v554 v559
  let v561 : BitVec 32 := Scalar.remsi v523 c24_i32_315
  let c0_i32_320 : BitVec 32 := 0#32
  let v562 : BitVec 1 := Scalar.cmpi .ne v561 c0_i32_320
  let v563 : BitVec 1 := Scalar.andi v560 v562
  let v549 : BitVec 32 := Scalar.divsi v523 c24_i32_315
  let c1_i32_321 : BitVec 32 := 1#32
  let v564 : BitVec 32 := Scalar.subi v549 c1_i32_321
  let v565 : BitVec 32 := Scalar.select v563 v564 v549
  let c128_i32_324 : BitVec 32 := 128#32
  let v570 : BitVec 32 := Scalar.muli v565 c128_i32_324
  v570
def k0_mult77 (i : grid0.Coords) (k0_t1 : Fin (k0_t1_loop i).trips) : BitVec 32 :=
  let arg0 : BitVec 32 := BitVec.ofNat 32 (i 0).val
  let c1_i32_171 : BitVec 32 := 1#32
  let arg21 : BitVec 32 := Scf.iv arg0 c1_i32_171 k0_t1
  let c12_i32_302 : BitVec 32 := 12#32
  let v523 : BitVec 32 := Scalar.addi arg21 c12_i32_302
  let c0_i32_326 : BitVec 32 := 0#32
  let v573 : BitVec 1 := Scalar.cmpi .sgt v523 c0_i32_326
  let v574 : BitVec 32 := Scalar.extui v573
  let c0_i32_327 : BitVec 32 := 0#32
  let v575 : BitVec 1 := Scalar.cmpi .slt v523 c0_i32_327
  let v576 : BitVec 32 := Scalar.extui v575
  let v577 : BitVec 32 := Scalar.subi v574 v576
  let c24_i32_325 : BitVec 32 := 24#32
  let c0_i32_328 : BitVec 32 := 0#32
  let v578 : BitVec 1 := Scalar.cmpi .sgt c24_i32_325 c0_i32_328
  let v579 : BitVec 32 := Scalar.extui v578
  let c0_i32_329 : BitVec 32 := 0#32
  let v580 : BitVec 1 := Scalar.cmpi .slt c24_i32_325 c0_i32_329
  let v581 : BitVec 32 := Scalar.extui v580
  let v582 : BitVec 32 := Scalar.subi v579 v581
  let v583 : BitVec 1 := Scalar.cmpi .ne v577 v582
  let v584 : BitVec 32 := Scalar.remsi v523 c24_i32_325
  let c0_i32_330 : BitVec 32 := 0#32
  let v585 : BitVec 1 := Scalar.cmpi .ne v584 c0_i32_330
  let v586 : BitVec 1 := Scalar.andi v583 v585
  let v572 : BitVec 32 := Scalar.divsi v523 c24_i32_325
  let c1_i32_331 : BitVec 32 := 1#32
  let v587 : BitVec 32 := Scalar.subi v572 c1_i32_331
  let v588 : BitVec 32 := Scalar.select v586 v587 v572
  let c24_i32_332 : BitVec 32 := 24#32
  let v589 : BitVec 32 := Scalar.muli v588 c24_i32_332
  let v590 : BitVec 32 := Scalar.subi v523 v589
  let c3136_i32_333 : BitVec 32 := 3136#32
  let v591 : BitVec 32 := Scalar.muli v590 c3136_i32_333
  v591
def k0_mult78 (i : grid0.Coords) (k0_t1 : Fin (k0_t1_loop i).trips) : BitVec 32 :=
  let arg0 : BitVec 32 := BitVec.ofNat 32 (i 0).val
  let c1_i32_171 : BitVec 32 := 1#32
  let arg21 : BitVec 32 := Scf.iv arg0 c1_i32_171 k0_t1
  let c12_i32_302 : BitVec 32 := 12#32
  let v523 : BitVec 32 := Scalar.addi arg21 c12_i32_302
  let c0_i32_326 : BitVec 32 := 0#32
  let v573 : BitVec 1 := Scalar.cmpi .sgt v523 c0_i32_326
  let v574 : BitVec 32 := Scalar.extui v573
  let c0_i32_327 : BitVec 32 := 0#32
  let v575 : BitVec 1 := Scalar.cmpi .slt v523 c0_i32_327
  let v576 : BitVec 32 := Scalar.extui v575
  let v577 : BitVec 32 := Scalar.subi v574 v576
  let c24_i32_325 : BitVec 32 := 24#32
  let c0_i32_328 : BitVec 32 := 0#32
  let v578 : BitVec 1 := Scalar.cmpi .sgt c24_i32_325 c0_i32_328
  let v579 : BitVec 32 := Scalar.extui v578
  let c0_i32_329 : BitVec 32 := 0#32
  let v580 : BitVec 1 := Scalar.cmpi .slt c24_i32_325 c0_i32_329
  let v581 : BitVec 32 := Scalar.extui v580
  let v582 : BitVec 32 := Scalar.subi v579 v581
  let v583 : BitVec 1 := Scalar.cmpi .ne v577 v582
  let v584 : BitVec 32 := Scalar.remsi v523 c24_i32_325
  let c0_i32_330 : BitVec 32 := 0#32
  let v585 : BitVec 1 := Scalar.cmpi .ne v584 c0_i32_330
  let v586 : BitVec 1 := Scalar.andi v583 v585
  let v572 : BitVec 32 := Scalar.divsi v523 c24_i32_325
  let c1_i32_331 : BitVec 32 := 1#32
  let v587 : BitVec 32 := Scalar.subi v572 c1_i32_331
  let v588 : BitVec 32 := Scalar.select v586 v587 v572
  let c128_i32_334 : BitVec 32 := 128#32
  let v593 : BitVec 32 := Scalar.muli v588 c128_i32_334
  v593
def k0_off4 (i : grid0.Coords) (k0_t1 : Fin (k0_t1_loop i).trips) : Fin 1 → Nat :=
  let arg0 : BitVec 32 := BitVec.ofNat 32 (i 0).val
  let c1_i32_171 : BitVec 32 := 1#32
  let arg21 : BitVec 32 := Scf.iv arg0 c1_i32_171 k0_t1
  let c12_i32_302 : BitVec 32 := 12#32
  let v523 : BitVec 32 := Scalar.addi arg21 c12_i32_302
  let c13_i32_304 : BitVec 32 := 13#32
  let v525 : BitVec 32 := Scalar.remsi v523 c13_i32_304
  ![v525.toNat]
def k0_off5 (i : grid0.Coords) (k0_t1 : Fin (k0_t1_loop i).trips) : Fin 3 → Nat :=
  let arg0 : BitVec 32 := BitVec.ofNat 32 (i 0).val
  let c1_i32_171 : BitVec 32 := 1#32
  let arg21 : BitVec 32 := Scf.iv arg0 c1_i32_171 k0_t1
  let c12_i32_302 : BitVec 32 := 12#32
  let v523 : BitVec 32 := Scalar.addi arg21 c12_i32_302
  let c37_i32_303 : BitVec 32 := 37#32
  let v524 : BitVec 32 := Scalar.remsi v523 c37_i32_303
  let c0_i32_335 : BitVec 32 := 0#32
  let c0_i32_336 : BitVec 32 := 0#32
  ![v524.toNat, 0, 0]
def k0_off6 (i : grid0.Coords) (k0_t1 : Fin (k0_t1_loop i).trips) : Fin 2 → Nat :=
  let arg0 : BitVec 32 := BitVec.ofNat 32 (i 0).val
  let c1_i32_171 : BitVec 32 := 1#32
  let arg21 : BitVec 32 := Scf.iv arg0 c1_i32_171 k0_t1
  let c12_i32_302 : BitVec 32 := 12#32
  let v523 : BitVec 32 := Scalar.addi arg21 c12_i32_302
  let c0_i32_306 : BitVec 32 := 0#32
  let v527 : BitVec 1 := Scalar.cmpi .sgt v523 c0_i32_306
  let v528 : BitVec 32 := Scalar.extui v527
  let c0_i32_307 : BitVec 32 := 0#32
  let v529 : BitVec 1 := Scalar.cmpi .slt v523 c0_i32_307
  let v530 : BitVec 32 := Scalar.extui v529
  let v531 : BitVec 32 := Scalar.subi v528 v530
  let c24_i32_305 : BitVec 32 := 24#32
  let c0_i32_308 : BitVec 32 := 0#32
  let v532 : BitVec 1 := Scalar.cmpi .sgt c24_i32_305 c0_i32_308
  let v533 : BitVec 32 := Scalar.extui v532
  let c0_i32_309 : BitVec 32 := 0#32
  let v534 : BitVec 1 := Scalar.cmpi .slt c24_i32_305 c0_i32_309
  let v535 : BitVec 32 := Scalar.extui v534
  let v536 : BitVec 32 := Scalar.subi v533 v535
  let v537 : BitVec 1 := Scalar.cmpi .ne v531 v536
  let v538 : BitVec 32 := Scalar.remsi v523 c24_i32_305
  let c0_i32_310 : BitVec 32 := 0#32
  let v539 : BitVec 1 := Scalar.cmpi .ne v538 c0_i32_310
  let v540 : BitVec 1 := Scalar.andi v537 v539
  let v526 : BitVec 32 := Scalar.divsi v523 c24_i32_305
  let c1_i32_311 : BitVec 32 := 1#32
  let v541 : BitVec 32 := Scalar.subi v526 c1_i32_311
  let v542 : BitVec 32 := Scalar.select v540 v541 v526
  let c24_i32_312 : BitVec 32 := 24#32
  let v543 : BitVec 32 := Scalar.muli v542 c24_i32_312
  let v544 : BitVec 32 := Scalar.subi v523 v543
  let c3136_i32_313 : BitVec 32 := 3136#32
  let v545 : BitVec 32 := Scalar.muli v544 c3136_i32_313
  let v546 : BitVec 32 := v545
  let c128_i32_314 : BitVec 32 := 128#32
  let v547 : BitVec 32 := Scalar.muli v542 c128_i32_314
  let v548 : BitVec 32 := v547
  ![v546.toNat, v548.toNat]
def k0_off7 (i : grid0.Coords) (k0_t1 : Fin (k0_t1_loop i).trips) : Fin 3 → Nat :=
  let arg0 : BitVec 32 := BitVec.ofNat 32 (i 0).val
  let c1_i32_171 : BitVec 32 := 1#32
  let arg21 : BitVec 32 := Scf.iv arg0 c1_i32_171 k0_t1
  let c12_i32_302 : BitVec 32 := 12#32
  let v523 : BitVec 32 := Scalar.addi arg21 c12_i32_302
  let c13_i32_304 : BitVec 32 := 13#32
  let v525 : BitVec 32 := Scalar.remsi v523 c13_i32_304
  let c0_i32_337 : BitVec 32 := 0#32
  let c0_i32_338 : BitVec 32 := 0#32
  ![v525.toNat, 0, 0]
def k0_mult79 (i : grid0.Coords) (k0_t1 : Fin (k0_t1_loop i).trips) : BitVec 32 :=
  let arg0 : BitVec 32 := BitVec.ofNat 32 (i 0).val
  let c1_i32_171 : BitVec 32 := 1#32
  let arg21 : BitVec 32 := Scf.iv arg0 c1_i32_171 k0_t1
  let c0_i32_247 : BitVec 32 := 0#32
  let v419 : BitVec 1 := Scalar.cmpi .sgt arg21 c0_i32_247
  let v420 : BitVec 32 := Scalar.extui v419
  let c0_i32_248 : BitVec 32 := 0#32
  let v421 : BitVec 1 := Scalar.cmpi .slt arg21 c0_i32_248
  let v422 : BitVec 32 := Scalar.extui v421
  let v423 : BitVec 32 := Scalar.subi v420 v422
  let c24_i32_246 : BitVec 32 := 24#32
  let c0_i32_249 : BitVec 32 := 0#32
  let v424 : BitVec 1 := Scalar.cmpi .sgt c24_i32_246 c0_i32_249
  let v425 : BitVec 32 := Scalar.extui v424
  let c0_i32_250 : BitVec 32 := 0#32
  let v426 : BitVec 1 := Scalar.cmpi .slt c24_i32_246 c0_i32_250
  let v427 : BitVec 32 := Scalar.extui v426
  let v428 : BitVec 32 := Scalar.subi v425 v427
  let v429 : BitVec 1 := Scalar.cmpi .ne v423 v428
  let v430 : BitVec 32 := Scalar.remsi arg21 c24_i32_246
  let c0_i32_251 : BitVec 32 := 0#32
  let v431 : BitVec 1 := Scalar.cmpi .ne v430 c0_i32_251
  let v432 : BitVec 1 := Scalar.andi v429 v431
  let v418 : BitVec 32 := Scalar.divsi arg21 c24_i32_246
  let c1_i32_252 : BitVec 32 := 1#32
  let v433 : BitVec 32 := Scalar.subi v418 c1_i32_252
  let v434 : BitVec 32 := Scalar.select v432 v433 v418
  let c24_i32_253 : BitVec 32 := 24#32
  let v435 : BitVec 32 := Scalar.muli v434 c24_i32_253
  let v436 : BitVec 32 := Scalar.subi arg21 v435
  let c3136_i32_254 : BitVec 32 := 3136#32
  let v437 : BitVec 32 := Scalar.muli v436 c3136_i32_254
  v437
def k0_mult80 (i : grid0.Coords) (k0_t1 : Fin (k0_t1_loop i).trips) : BitVec 32 :=
  let arg0 : BitVec 32 := BitVec.ofNat 32 (i 0).val
  let c1_i32_171 : BitVec 32 := 1#32
  let arg21 : BitVec 32 := Scf.iv arg0 c1_i32_171 k0_t1
  let c0_i32_247 : BitVec 32 := 0#32
  let v419 : BitVec 1 := Scalar.cmpi .sgt arg21 c0_i32_247
  let v420 : BitVec 32 := Scalar.extui v419
  let c0_i32_248 : BitVec 32 := 0#32
  let v421 : BitVec 1 := Scalar.cmpi .slt arg21 c0_i32_248
  let v422 : BitVec 32 := Scalar.extui v421
  let v423 : BitVec 32 := Scalar.subi v420 v422
  let c24_i32_246 : BitVec 32 := 24#32
  let c0_i32_249 : BitVec 32 := 0#32
  let v424 : BitVec 1 := Scalar.cmpi .sgt c24_i32_246 c0_i32_249
  let v425 : BitVec 32 := Scalar.extui v424
  let c0_i32_250 : BitVec 32 := 0#32
  let v426 : BitVec 1 := Scalar.cmpi .slt c24_i32_246 c0_i32_250
  let v427 : BitVec 32 := Scalar.extui v426
  let v428 : BitVec 32 := Scalar.subi v425 v427
  let v429 : BitVec 1 := Scalar.cmpi .ne v423 v428
  let v430 : BitVec 32 := Scalar.remsi arg21 c24_i32_246
  let c0_i32_251 : BitVec 32 := 0#32
  let v431 : BitVec 1 := Scalar.cmpi .ne v430 c0_i32_251
  let v432 : BitVec 1 := Scalar.andi v429 v431
  let v418 : BitVec 32 := Scalar.divsi arg21 c24_i32_246
  let c1_i32_252 : BitVec 32 := 1#32
  let v433 : BitVec 32 := Scalar.subi v418 c1_i32_252
  let v434 : BitVec 32 := Scalar.select v432 v433 v418
  let c128_i32 : BitVec 32 := 128#32
  let v439 : BitVec 32 := Scalar.muli v434 c128_i32
  v439
def k0_mult81 (i : grid0.Coords) (k0_t1 : Fin (k0_t1_loop i).trips) : BitVec 32 :=
  let arg0 : BitVec 32 := BitVec.ofNat 32 (i 0).val
  let c1_i32_171 : BitVec 32 := 1#32
  let arg21 : BitVec 32 := Scf.iv arg0 c1_i32_171 k0_t1
  let c0_i32_256 : BitVec 32 := 0#32
  let v442 : BitVec 1 := Scalar.cmpi .sgt arg21 c0_i32_256
  let v443 : BitVec 32 := Scalar.extui v442
  let c0_i32_257 : BitVec 32 := 0#32
  let v444 : BitVec 1 := Scalar.cmpi .slt arg21 c0_i32_257
  let v445 : BitVec 32 := Scalar.extui v444
  let v446 : BitVec 32 := Scalar.subi v443 v445
  let c24_i32_255 : BitVec 32 := 24#32
  let c0_i32_258 : BitVec 32 := 0#32
  let v447 : BitVec 1 := Scalar.cmpi .sgt c24_i32_255 c0_i32_258
  let v448 : BitVec 32 := Scalar.extui v447
  let c0_i32_259 : BitVec 32 := 0#32
  let v449 : BitVec 1 := Scalar.cmpi .slt c24_i32_255 c0_i32_259
  let v450 : BitVec 32 := Scalar.extui v449
  let v451 : BitVec 32 := Scalar.subi v448 v450
  let v452 : BitVec 1 := Scalar.cmpi .ne v446 v451
  let v453 : BitVec 32 := Scalar.remsi arg21 c24_i32_255
  let c0_i32_260 : BitVec 32 := 0#32
  let v454 : BitVec 1 := Scalar.cmpi .ne v453 c0_i32_260
  let v455 : BitVec 1 := Scalar.andi v452 v454
  let v441 : BitVec 32 := Scalar.divsi arg21 c24_i32_255
  let c1_i32_261 : BitVec 32 := 1#32
  let v456 : BitVec 32 := Scalar.subi v441 c1_i32_261
  let v457 : BitVec 32 := Scalar.select v455 v456 v441
  let c24_i32_262 : BitVec 32 := 24#32
  let v458 : BitVec 32 := Scalar.muli v457 c24_i32_262
  let v459 : BitVec 32 := Scalar.subi arg21 v458
  let c3136_i32_263 : BitVec 32 := 3136#32
  let v460 : BitVec 32 := Scalar.muli v459 c3136_i32_263
  v460
def k0_mult82 (i : grid0.Coords) (k0_t1 : Fin (k0_t1_loop i).trips) : BitVec 32 :=
  let arg0 : BitVec 32 := BitVec.ofNat 32 (i 0).val
  let c1_i32_171 : BitVec 32 := 1#32
  let arg21 : BitVec 32 := Scf.iv arg0 c1_i32_171 k0_t1
  let c0_i32_256 : BitVec 32 := 0#32
  let v442 : BitVec 1 := Scalar.cmpi .sgt arg21 c0_i32_256
  let v443 : BitVec 32 := Scalar.extui v442
  let c0_i32_257 : BitVec 32 := 0#32
  let v444 : BitVec 1 := Scalar.cmpi .slt arg21 c0_i32_257
  let v445 : BitVec 32 := Scalar.extui v444
  let v446 : BitVec 32 := Scalar.subi v443 v445
  let c24_i32_255 : BitVec 32 := 24#32
  let c0_i32_258 : BitVec 32 := 0#32
  let v447 : BitVec 1 := Scalar.cmpi .sgt c24_i32_255 c0_i32_258
  let v448 : BitVec 32 := Scalar.extui v447
  let c0_i32_259 : BitVec 32 := 0#32
  let v449 : BitVec 1 := Scalar.cmpi .slt c24_i32_255 c0_i32_259
  let v450 : BitVec 32 := Scalar.extui v449
  let v451 : BitVec 32 := Scalar.subi v448 v450
  let v452 : BitVec 1 := Scalar.cmpi .ne v446 v451
  let v453 : BitVec 32 := Scalar.remsi arg21 c24_i32_255
  let c0_i32_260 : BitVec 32 := 0#32
  let v454 : BitVec 1 := Scalar.cmpi .ne v453 c0_i32_260
  let v455 : BitVec 1 := Scalar.andi v452 v454
  let v441 : BitVec 32 := Scalar.divsi arg21 c24_i32_255
  let c1_i32_261 : BitVec 32 := 1#32
  let v456 : BitVec 32 := Scalar.subi v441 c1_i32_261
  let v457 : BitVec 32 := Scalar.select v455 v456 v441
  let c128_i32_264 : BitVec 32 := 128#32
  let v462 : BitVec 32 := Scalar.muli v457 c128_i32_264
  v462
def k0_mult83 (i : grid0.Coords) (k0_t1 : Fin (k0_t1_loop i).trips) : BitVec 32 :=
  let arg0 : BitVec 32 := BitVec.ofNat 32 (i 0).val
  let c1_i32_171 : BitVec 32 := 1#32
  let arg21 : BitVec 32 := Scf.iv arg0 c1_i32_171 k0_t1
  let c0_i32_266 : BitVec 32 := 0#32
  let v465 : BitVec 1 := Scalar.cmpi .sgt arg21 c0_i32_266
  let v466 : BitVec 32 := Scalar.extui v465
  let c0_i32_267 : BitVec 32 := 0#32
  let v467 : BitVec 1 := Scalar.cmpi .slt arg21 c0_i32_267
  let v468 : BitVec 32 := Scalar.extui v467
  let v469 : BitVec 32 := Scalar.subi v466 v468
  let c24_i32_265 : BitVec 32 := 24#32
  let c0_i32_268 : BitVec 32 := 0#32
  let v470 : BitVec 1 := Scalar.cmpi .sgt c24_i32_265 c0_i32_268
  let v471 : BitVec 32 := Scalar.extui v470
  let c0_i32_269 : BitVec 32 := 0#32
  let v472 : BitVec 1 := Scalar.cmpi .slt c24_i32_265 c0_i32_269
  let v473 : BitVec 32 := Scalar.extui v472
  let v474 : BitVec 32 := Scalar.subi v471 v473
  let v475 : BitVec 1 := Scalar.cmpi .ne v469 v474
  let v476 : BitVec 32 := Scalar.remsi arg21 c24_i32_265
  let c0_i32_270 : BitVec 32 := 0#32
  let v477 : BitVec 1 := Scalar.cmpi .ne v476 c0_i32_270
  let v478 : BitVec 1 := Scalar.andi v475 v477
  let v464 : BitVec 32 := Scalar.divsi arg21 c24_i32_265
  let c1_i32_271 : BitVec 32 := 1#32
  let v479 : BitVec 32 := Scalar.subi v464 c1_i32_271
  let v480 : BitVec 32 := Scalar.select v478 v479 v464
  let c24_i32_272 : BitVec 32 := 24#32
  let v481 : BitVec 32 := Scalar.muli v480 c24_i32_272
  let v482 : BitVec 32 := Scalar.subi arg21 v481
  let c3136_i32_273 : BitVec 32 := 3136#32
  let v483 : BitVec 32 := Scalar.muli v482 c3136_i32_273
  v483
def k0_mult84 (i : grid0.Coords) (k0_t1 : Fin (k0_t1_loop i).trips) : BitVec 32 :=
  let arg0 : BitVec 32 := BitVec.ofNat 32 (i 0).val
  let c1_i32_171 : BitVec 32 := 1#32
  let arg21 : BitVec 32 := Scf.iv arg0 c1_i32_171 k0_t1
  let c0_i32_266 : BitVec 32 := 0#32
  let v465 : BitVec 1 := Scalar.cmpi .sgt arg21 c0_i32_266
  let v466 : BitVec 32 := Scalar.extui v465
  let c0_i32_267 : BitVec 32 := 0#32
  let v467 : BitVec 1 := Scalar.cmpi .slt arg21 c0_i32_267
  let v468 : BitVec 32 := Scalar.extui v467
  let v469 : BitVec 32 := Scalar.subi v466 v468
  let c24_i32_265 : BitVec 32 := 24#32
  let c0_i32_268 : BitVec 32 := 0#32
  let v470 : BitVec 1 := Scalar.cmpi .sgt c24_i32_265 c0_i32_268
  let v471 : BitVec 32 := Scalar.extui v470
  let c0_i32_269 : BitVec 32 := 0#32
  let v472 : BitVec 1 := Scalar.cmpi .slt c24_i32_265 c0_i32_269
  let v473 : BitVec 32 := Scalar.extui v472
  let v474 : BitVec 32 := Scalar.subi v471 v473
  let v475 : BitVec 1 := Scalar.cmpi .ne v469 v474
  let v476 : BitVec 32 := Scalar.remsi arg21 c24_i32_265
  let c0_i32_270 : BitVec 32 := 0#32
  let v477 : BitVec 1 := Scalar.cmpi .ne v476 c0_i32_270
  let v478 : BitVec 1 := Scalar.andi v475 v477
  let v464 : BitVec 32 := Scalar.divsi arg21 c24_i32_265
  let c1_i32_271 : BitVec 32 := 1#32
  let v479 : BitVec 32 := Scalar.subi v464 c1_i32_271
  let v480 : BitVec 32 := Scalar.select v478 v479 v464
  let c128_i32_274 : BitVec 32 := 128#32
  let v485 : BitVec 32 := Scalar.muli v480 c128_i32_274
  v485
def k0_off8 (i : grid0.Coords) (k0_t1 : Fin (k0_t1_loop i).trips) : Fin 1 → Nat :=
  let arg0 : BitVec 32 := BitVec.ofNat 32 (i 0).val
  let c1_i32_171 : BitVec 32 := 1#32
  let arg21 : BitVec 32 := Scf.iv arg0 c1_i32_171 k0_t1
  let c13_i32_245 : BitVec 32 := 13#32
  let v417 : BitVec 32 := Scalar.remsi arg21 c13_i32_245
  ![v417.toNat]
def k0_off9 (i : grid0.Coords) (k0_t1 : Fin (k0_t1_loop i).trips) : Fin 3 → Nat :=
  let arg0 : BitVec 32 := BitVec.ofNat 32 (i 0).val
  let c1_i32_171 : BitVec 32 := 1#32
  let arg21 : BitVec 32 := Scf.iv arg0 c1_i32_171 k0_t1
  let c37_i32_244 : BitVec 32 := 37#32
  let v416 : BitVec 32 := Scalar.remsi arg21 c37_i32_244
  let c0_i32_275 : BitVec 32 := 0#32
  let c0_i32_276 : BitVec 32 := 0#32
  ![v416.toNat, 0, 0]
def k0_off10 (i : grid0.Coords) (k0_t1 : Fin (k0_t1_loop i).trips) : Fin 2 → Nat :=
  let arg0 : BitVec 32 := BitVec.ofNat 32 (i 0).val
  let c1_i32_171 : BitVec 32 := 1#32
  let arg21 : BitVec 32 := Scf.iv arg0 c1_i32_171 k0_t1
  let c0_i32_247 : BitVec 32 := 0#32
  let v419 : BitVec 1 := Scalar.cmpi .sgt arg21 c0_i32_247
  let v420 : BitVec 32 := Scalar.extui v419
  let c0_i32_248 : BitVec 32 := 0#32
  let v421 : BitVec 1 := Scalar.cmpi .slt arg21 c0_i32_248
  let v422 : BitVec 32 := Scalar.extui v421
  let v423 : BitVec 32 := Scalar.subi v420 v422
  let c24_i32_246 : BitVec 32 := 24#32
  let c0_i32_249 : BitVec 32 := 0#32
  let v424 : BitVec 1 := Scalar.cmpi .sgt c24_i32_246 c0_i32_249
  let v425 : BitVec 32 := Scalar.extui v424
  let c0_i32_250 : BitVec 32 := 0#32
  let v426 : BitVec 1 := Scalar.cmpi .slt c24_i32_246 c0_i32_250
  let v427 : BitVec 32 := Scalar.extui v426
  let v428 : BitVec 32 := Scalar.subi v425 v427
  let v429 : BitVec 1 := Scalar.cmpi .ne v423 v428
  let v430 : BitVec 32 := Scalar.remsi arg21 c24_i32_246
  let c0_i32_251 : BitVec 32 := 0#32
  let v431 : BitVec 1 := Scalar.cmpi .ne v430 c0_i32_251
  let v432 : BitVec 1 := Scalar.andi v429 v431
  let v418 : BitVec 32 := Scalar.divsi arg21 c24_i32_246
  let c1_i32_252 : BitVec 32 := 1#32
  let v433 : BitVec 32 := Scalar.subi v418 c1_i32_252
  let v434 : BitVec 32 := Scalar.select v432 v433 v418
  let c24_i32_253 : BitVec 32 := 24#32
  let v435 : BitVec 32 := Scalar.muli v434 c24_i32_253
  let v436 : BitVec 32 := Scalar.subi arg21 v435
  let c3136_i32_254 : BitVec 32 := 3136#32
  let v437 : BitVec 32 := Scalar.muli v436 c3136_i32_254
  let v438 : BitVec 32 := v437
  let c128_i32 : BitVec 32 := 128#32
  let v439 : BitVec 32 := Scalar.muli v434 c128_i32
  let v440 : BitVec 32 := v439
  ![v438.toNat, v440.toNat]
def k0_off11 (i : grid0.Coords) (k0_t1 : Fin (k0_t1_loop i).trips) : Fin 3 → Nat :=
  let arg0 : BitVec 32 := BitVec.ofNat 32 (i 0).val
  let c1_i32_171 : BitVec 32 := 1#32
  let arg21 : BitVec 32 := Scf.iv arg0 c1_i32_171 k0_t1
  let c13_i32_245 : BitVec 32 := 13#32
  let v417 : BitVec 32 := Scalar.remsi arg21 c13_i32_245
  let c0_i32_277 : BitVec 32 := 0#32
  let c0_i32_278 : BitVec 32 := 0#32
  ![v417.toNat, 0, 0]
@[reducible] def k0_t2_loop : Scf.Loop 32 :=
  let c0_i32_286 : BitVec 32 := 0#32
  let c7_i32_287 : BitVec 32 := 7#32
  let v509 : BitVec 32 := Scalar.addi c0_i32_286 c7_i32_287
  let c1_i32_288 : BitVec 32 := 1#32
  ⟨c0_i32_286, v509, c1_i32_288⟩
def k0_mult85 (k0_t2 : Fin k0_t2_loop.trips) : BitVec 32 :=
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  v523
def k0_off12 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_302 : BitVec 32 := 0#32
  ![v502.toNat, v524.toNat, 0]
def k0_off13 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c13_i32_282 : BitVec 32 := 13#32
  let v503 : BitVec 32 := Scalar.remsi arg21 c13_i32_282
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_308 : BitVec 32 := 0#32
  ![v503.toNat, v524.toNat, 0]
def k0_off14 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_329 : BitVec 32 := 0#32
  ![v502.toNat, v524.toNat, 0]
def k0_off15 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_343 : BitVec 32 := 0#32
  ![v502.toNat, Nat.add v524.toNat 32, 0]
def k0_off16 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_357 : BitVec 32 := 0#32
  ![v502.toNat, Nat.add v524.toNat 64, 0]
def k0_off17 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_371 : BitVec 32 := 0#32
  ![v502.toNat, Nat.add v524.toNat 96, 0]
def k0_off18 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_385 : BitVec 32 := 0#32
  ![v502.toNat, Nat.add v524.toNat 128, 0]
def k0_off19 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_399 : BitVec 32 := 0#32
  ![v502.toNat, Nat.add v524.toNat 160, 0]
def k0_off20 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_413 : BitVec 32 := 0#32
  ![v502.toNat, Nat.add v524.toNat 192, 0]
def k0_off21 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_427 : BitVec 32 := 0#32
  ![v502.toNat, Nat.add v524.toNat 224, 0]
def k0_off22 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_441 : BitVec 32 := 0#32
  ![v502.toNat, Nat.add v524.toNat 256, 0]
def k0_off23 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_455 : BitVec 32 := 0#32
  ![v502.toNat, Nat.add v524.toNat 288, 0]
def k0_off24 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_469 : BitVec 32 := 0#32
  ![v502.toNat, Nat.add v524.toNat 320, 0]
def k0_off25 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_483 : BitVec 32 := 0#32
  ![v502.toNat, Nat.add v524.toNat 352, 0]
def k0_off26 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_489 : BitVec 32 := 0#32
  ![v502.toNat, Nat.add v524.toNat 384, 0]
def k0_off27 (i : grid0.Coords) (k0_t1 : Fin (k0_t1_loop i).trips) (k0_t2 : Fin k0_t2_loop.trips) : Fin 3 → Nat :=
  let arg0 : BitVec 32 := BitVec.ofNat 32 (i 0).val
  let c1_i32_171 : BitVec 32 := 1#32
  let arg21 : BitVec 32 := Scf.iv arg0 c1_i32_171 k0_t1
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t2
  let c448_i32 : BitVec 32 := 448#32
  let v523 : BitVec 32 := Scalar.muli arg22 c448_i32
  let v524 : BitVec 32 := v523
  let c0_i32_495 : BitVec 32 := 0#32
  ![v502.toNat, Nat.add v524.toNat 416, 0]
@[reducible] def k0_t3_loop (i : grid0.Coords) : Scf.Loop 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let v282 : BitVec 32 := Scalar.addi arg0 v281
  let c1_i32_172 : BitVec 32 := 1#32
  ⟨v285, v282, c1_i32_172⟩
def k0_cond2 (i : grid0.Coords) (k0_t3 : Fin (k0_t3_loop i).trips) : BitVec 1 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c12_i32 : BitVec 32 := 12#32
  let v412 : BitVec 32 := Scalar.addi arg21 c12_i32
  let c96_i32_242 : BitVec 32 := 96#32
  let v413 : BitVec 1 := Scalar.cmpi .slt v412 c96_i32_242
  let v414 : BitVec 32 := Scalar.extui v413
  let c0_i32_243 : BitVec 32 := 0#32
  let v415 : BitVec 1 := Scalar.cmpi .ne v414 c0_i32_243
  v415

def k0_mult86 (i : grid0.Coords) (k0_t3 : Fin (k0_t3_loop i).trips) : BitVec 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c12_i32_302 : BitVec 32 := 12#32
  let v523 : BitVec 32 := Scalar.addi arg21 c12_i32_302
  let c0_i32_306 : BitVec 32 := 0#32
  let v527 : BitVec 1 := Scalar.cmpi .sgt v523 c0_i32_306
  let v528 : BitVec 32 := Scalar.extui v527
  let c0_i32_307 : BitVec 32 := 0#32
  let v529 : BitVec 1 := Scalar.cmpi .slt v523 c0_i32_307
  let v530 : BitVec 32 := Scalar.extui v529
  let v531 : BitVec 32 := Scalar.subi v528 v530
  let c24_i32_305 : BitVec 32 := 24#32
  let c0_i32_308 : BitVec 32 := 0#32
  let v532 : BitVec 1 := Scalar.cmpi .sgt c24_i32_305 c0_i32_308
  let v533 : BitVec 32 := Scalar.extui v532
  let c0_i32_309 : BitVec 32 := 0#32
  let v534 : BitVec 1 := Scalar.cmpi .slt c24_i32_305 c0_i32_309
  let v535 : BitVec 32 := Scalar.extui v534
  let v536 : BitVec 32 := Scalar.subi v533 v535
  let v537 : BitVec 1 := Scalar.cmpi .ne v531 v536
  let v538 : BitVec 32 := Scalar.remsi v523 c24_i32_305
  let c0_i32_310 : BitVec 32 := 0#32
  let v539 : BitVec 1 := Scalar.cmpi .ne v538 c0_i32_310
  let v540 : BitVec 1 := Scalar.andi v537 v539
  let v526 : BitVec 32 := Scalar.divsi v523 c24_i32_305
  let c1_i32_311 : BitVec 32 := 1#32
  let v541 : BitVec 32 := Scalar.subi v526 c1_i32_311
  let v542 : BitVec 32 := Scalar.select v540 v541 v526
  let c24_i32_312 : BitVec 32 := 24#32
  let v543 : BitVec 32 := Scalar.muli v542 c24_i32_312
  let v544 : BitVec 32 := Scalar.subi v523 v543
  let c3136_i32_313 : BitVec 32 := 3136#32
  let v545 : BitVec 32 := Scalar.muli v544 c3136_i32_313
  v545
def k0_mult87 (i : grid0.Coords) (k0_t3 : Fin (k0_t3_loop i).trips) : BitVec 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c12_i32_302 : BitVec 32 := 12#32
  let v523 : BitVec 32 := Scalar.addi arg21 c12_i32_302
  let c0_i32_306 : BitVec 32 := 0#32
  let v527 : BitVec 1 := Scalar.cmpi .sgt v523 c0_i32_306
  let v528 : BitVec 32 := Scalar.extui v527
  let c0_i32_307 : BitVec 32 := 0#32
  let v529 : BitVec 1 := Scalar.cmpi .slt v523 c0_i32_307
  let v530 : BitVec 32 := Scalar.extui v529
  let v531 : BitVec 32 := Scalar.subi v528 v530
  let c24_i32_305 : BitVec 32 := 24#32
  let c0_i32_308 : BitVec 32 := 0#32
  let v532 : BitVec 1 := Scalar.cmpi .sgt c24_i32_305 c0_i32_308
  let v533 : BitVec 32 := Scalar.extui v532
  let c0_i32_309 : BitVec 32 := 0#32
  let v534 : BitVec 1 := Scalar.cmpi .slt c24_i32_305 c0_i32_309
  let v535 : BitVec 32 := Scalar.extui v534
  let v536 : BitVec 32 := Scalar.subi v533 v535
  let v537 : BitVec 1 := Scalar.cmpi .ne v531 v536
  let v538 : BitVec 32 := Scalar.remsi v523 c24_i32_305
  let c0_i32_310 : BitVec 32 := 0#32
  let v539 : BitVec 1 := Scalar.cmpi .ne v538 c0_i32_310
  let v540 : BitVec 1 := Scalar.andi v537 v539
  let v526 : BitVec 32 := Scalar.divsi v523 c24_i32_305
  let c1_i32_311 : BitVec 32 := 1#32
  let v541 : BitVec 32 := Scalar.subi v526 c1_i32_311
  let v542 : BitVec 32 := Scalar.select v540 v541 v526
  let c128_i32_314 : BitVec 32 := 128#32
  let v547 : BitVec 32 := Scalar.muli v542 c128_i32_314
  v547
def k0_mult88 (i : grid0.Coords) (k0_t3 : Fin (k0_t3_loop i).trips) : BitVec 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c12_i32_302 : BitVec 32 := 12#32
  let v523 : BitVec 32 := Scalar.addi arg21 c12_i32_302
  let c0_i32_316 : BitVec 32 := 0#32
  let v550 : BitVec 1 := Scalar.cmpi .sgt v523 c0_i32_316
  let v551 : BitVec 32 := Scalar.extui v550
  let c0_i32_317 : BitVec 32 := 0#32
  let v552 : BitVec 1 := Scalar.cmpi .slt v523 c0_i32_317
  let v553 : BitVec 32 := Scalar.extui v552
  let v554 : BitVec 32 := Scalar.subi v551 v553
  let c24_i32_315 : BitVec 32 := 24#32
  let c0_i32_318 : BitVec 32 := 0#32
  let v555 : BitVec 1 := Scalar.cmpi .sgt c24_i32_315 c0_i32_318
  let v556 : BitVec 32 := Scalar.extui v555
  let c0_i32_319 : BitVec 32 := 0#32
  let v557 : BitVec 1 := Scalar.cmpi .slt c24_i32_315 c0_i32_319
  let v558 : BitVec 32 := Scalar.extui v557
  let v559 : BitVec 32 := Scalar.subi v556 v558
  let v560 : BitVec 1 := Scalar.cmpi .ne v554 v559
  let v561 : BitVec 32 := Scalar.remsi v523 c24_i32_315
  let c0_i32_320 : BitVec 32 := 0#32
  let v562 : BitVec 1 := Scalar.cmpi .ne v561 c0_i32_320
  let v563 : BitVec 1 := Scalar.andi v560 v562
  let v549 : BitVec 32 := Scalar.divsi v523 c24_i32_315
  let c1_i32_321 : BitVec 32 := 1#32
  let v564 : BitVec 32 := Scalar.subi v549 c1_i32_321
  let v565 : BitVec 32 := Scalar.select v563 v564 v549
  let c24_i32_322 : BitVec 32 := 24#32
  let v566 : BitVec 32 := Scalar.muli v565 c24_i32_322
  let v567 : BitVec 32 := Scalar.subi v523 v566
  let c3136_i32_323 : BitVec 32 := 3136#32
  let v568 : BitVec 32 := Scalar.muli v567 c3136_i32_323
  v568
def k0_mult89 (i : grid0.Coords) (k0_t3 : Fin (k0_t3_loop i).trips) : BitVec 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c12_i32_302 : BitVec 32 := 12#32
  let v523 : BitVec 32 := Scalar.addi arg21 c12_i32_302
  let c0_i32_316 : BitVec 32 := 0#32
  let v550 : BitVec 1 := Scalar.cmpi .sgt v523 c0_i32_316
  let v551 : BitVec 32 := Scalar.extui v550
  let c0_i32_317 : BitVec 32 := 0#32
  let v552 : BitVec 1 := Scalar.cmpi .slt v523 c0_i32_317
  let v553 : BitVec 32 := Scalar.extui v552
  let v554 : BitVec 32 := Scalar.subi v551 v553
  let c24_i32_315 : BitVec 32 := 24#32
  let c0_i32_318 : BitVec 32 := 0#32
  let v555 : BitVec 1 := Scalar.cmpi .sgt c24_i32_315 c0_i32_318
  let v556 : BitVec 32 := Scalar.extui v555
  let c0_i32_319 : BitVec 32 := 0#32
  let v557 : BitVec 1 := Scalar.cmpi .slt c24_i32_315 c0_i32_319
  let v558 : BitVec 32 := Scalar.extui v557
  let v559 : BitVec 32 := Scalar.subi v556 v558
  let v560 : BitVec 1 := Scalar.cmpi .ne v554 v559
  let v561 : BitVec 32 := Scalar.remsi v523 c24_i32_315
  let c0_i32_320 : BitVec 32 := 0#32
  let v562 : BitVec 1 := Scalar.cmpi .ne v561 c0_i32_320
  let v563 : BitVec 1 := Scalar.andi v560 v562
  let v549 : BitVec 32 := Scalar.divsi v523 c24_i32_315
  let c1_i32_321 : BitVec 32 := 1#32
  let v564 : BitVec 32 := Scalar.subi v549 c1_i32_321
  let v565 : BitVec 32 := Scalar.select v563 v564 v549
  let c128_i32_324 : BitVec 32 := 128#32
  let v570 : BitVec 32 := Scalar.muli v565 c128_i32_324
  v570
def k0_mult90 (i : grid0.Coords) (k0_t3 : Fin (k0_t3_loop i).trips) : BitVec 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c12_i32_302 : BitVec 32 := 12#32
  let v523 : BitVec 32 := Scalar.addi arg21 c12_i32_302
  let c0_i32_326 : BitVec 32 := 0#32
  let v573 : BitVec 1 := Scalar.cmpi .sgt v523 c0_i32_326
  let v574 : BitVec 32 := Scalar.extui v573
  let c0_i32_327 : BitVec 32 := 0#32
  let v575 : BitVec 1 := Scalar.cmpi .slt v523 c0_i32_327
  let v576 : BitVec 32 := Scalar.extui v575
  let v577 : BitVec 32 := Scalar.subi v574 v576
  let c24_i32_325 : BitVec 32 := 24#32
  let c0_i32_328 : BitVec 32 := 0#32
  let v578 : BitVec 1 := Scalar.cmpi .sgt c24_i32_325 c0_i32_328
  let v579 : BitVec 32 := Scalar.extui v578
  let c0_i32_329 : BitVec 32 := 0#32
  let v580 : BitVec 1 := Scalar.cmpi .slt c24_i32_325 c0_i32_329
  let v581 : BitVec 32 := Scalar.extui v580
  let v582 : BitVec 32 := Scalar.subi v579 v581
  let v583 : BitVec 1 := Scalar.cmpi .ne v577 v582
  let v584 : BitVec 32 := Scalar.remsi v523 c24_i32_325
  let c0_i32_330 : BitVec 32 := 0#32
  let v585 : BitVec 1 := Scalar.cmpi .ne v584 c0_i32_330
  let v586 : BitVec 1 := Scalar.andi v583 v585
  let v572 : BitVec 32 := Scalar.divsi v523 c24_i32_325
  let c1_i32_331 : BitVec 32 := 1#32
  let v587 : BitVec 32 := Scalar.subi v572 c1_i32_331
  let v588 : BitVec 32 := Scalar.select v586 v587 v572
  let c24_i32_332 : BitVec 32 := 24#32
  let v589 : BitVec 32 := Scalar.muli v588 c24_i32_332
  let v590 : BitVec 32 := Scalar.subi v523 v589
  let c3136_i32_333 : BitVec 32 := 3136#32
  let v591 : BitVec 32 := Scalar.muli v590 c3136_i32_333
  v591
def k0_mult91 (i : grid0.Coords) (k0_t3 : Fin (k0_t3_loop i).trips) : BitVec 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c12_i32_302 : BitVec 32 := 12#32
  let v523 : BitVec 32 := Scalar.addi arg21 c12_i32_302
  let c0_i32_326 : BitVec 32 := 0#32
  let v573 : BitVec 1 := Scalar.cmpi .sgt v523 c0_i32_326
  let v574 : BitVec 32 := Scalar.extui v573
  let c0_i32_327 : BitVec 32 := 0#32
  let v575 : BitVec 1 := Scalar.cmpi .slt v523 c0_i32_327
  let v576 : BitVec 32 := Scalar.extui v575
  let v577 : BitVec 32 := Scalar.subi v574 v576
  let c24_i32_325 : BitVec 32 := 24#32
  let c0_i32_328 : BitVec 32 := 0#32
  let v578 : BitVec 1 := Scalar.cmpi .sgt c24_i32_325 c0_i32_328
  let v579 : BitVec 32 := Scalar.extui v578
  let c0_i32_329 : BitVec 32 := 0#32
  let v580 : BitVec 1 := Scalar.cmpi .slt c24_i32_325 c0_i32_329
  let v581 : BitVec 32 := Scalar.extui v580
  let v582 : BitVec 32 := Scalar.subi v579 v581
  let v583 : BitVec 1 := Scalar.cmpi .ne v577 v582
  let v584 : BitVec 32 := Scalar.remsi v523 c24_i32_325
  let c0_i32_330 : BitVec 32 := 0#32
  let v585 : BitVec 1 := Scalar.cmpi .ne v584 c0_i32_330
  let v586 : BitVec 1 := Scalar.andi v583 v585
  let v572 : BitVec 32 := Scalar.divsi v523 c24_i32_325
  let c1_i32_331 : BitVec 32 := 1#32
  let v587 : BitVec 32 := Scalar.subi v572 c1_i32_331
  let v588 : BitVec 32 := Scalar.select v586 v587 v572
  let c128_i32_334 : BitVec 32 := 128#32
  let v593 : BitVec 32 := Scalar.muli v588 c128_i32_334
  v593
def k0_off28 (i : grid0.Coords) (k0_t3 : Fin (k0_t3_loop i).trips) : Fin 1 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c12_i32_302 : BitVec 32 := 12#32
  let v523 : BitVec 32 := Scalar.addi arg21 c12_i32_302
  let c13_i32_304 : BitVec 32 := 13#32
  let v525 : BitVec 32 := Scalar.remsi v523 c13_i32_304
  ![v525.toNat]
def k0_off29 (i : grid0.Coords) (k0_t3 : Fin (k0_t3_loop i).trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c12_i32_302 : BitVec 32 := 12#32
  let v523 : BitVec 32 := Scalar.addi arg21 c12_i32_302
  let c37_i32_303 : BitVec 32 := 37#32
  let v524 : BitVec 32 := Scalar.remsi v523 c37_i32_303
  let c0_i32_335 : BitVec 32 := 0#32
  let c0_i32_336 : BitVec 32 := 0#32
  ![v524.toNat, 0, 0]
def k0_off30 (i : grid0.Coords) (k0_t3 : Fin (k0_t3_loop i).trips) : Fin 2 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c12_i32_302 : BitVec 32 := 12#32
  let v523 : BitVec 32 := Scalar.addi arg21 c12_i32_302
  let c0_i32_306 : BitVec 32 := 0#32
  let v527 : BitVec 1 := Scalar.cmpi .sgt v523 c0_i32_306
  let v528 : BitVec 32 := Scalar.extui v527
  let c0_i32_307 : BitVec 32 := 0#32
  let v529 : BitVec 1 := Scalar.cmpi .slt v523 c0_i32_307
  let v530 : BitVec 32 := Scalar.extui v529
  let v531 : BitVec 32 := Scalar.subi v528 v530
  let c24_i32_305 : BitVec 32 := 24#32
  let c0_i32_308 : BitVec 32 := 0#32
  let v532 : BitVec 1 := Scalar.cmpi .sgt c24_i32_305 c0_i32_308
  let v533 : BitVec 32 := Scalar.extui v532
  let c0_i32_309 : BitVec 32 := 0#32
  let v534 : BitVec 1 := Scalar.cmpi .slt c24_i32_305 c0_i32_309
  let v535 : BitVec 32 := Scalar.extui v534
  let v536 : BitVec 32 := Scalar.subi v533 v535
  let v537 : BitVec 1 := Scalar.cmpi .ne v531 v536
  let v538 : BitVec 32 := Scalar.remsi v523 c24_i32_305
  let c0_i32_310 : BitVec 32 := 0#32
  let v539 : BitVec 1 := Scalar.cmpi .ne v538 c0_i32_310
  let v540 : BitVec 1 := Scalar.andi v537 v539
  let v526 : BitVec 32 := Scalar.divsi v523 c24_i32_305
  let c1_i32_311 : BitVec 32 := 1#32
  let v541 : BitVec 32 := Scalar.subi v526 c1_i32_311
  let v542 : BitVec 32 := Scalar.select v540 v541 v526
  let c24_i32_312 : BitVec 32 := 24#32
  let v543 : BitVec 32 := Scalar.muli v542 c24_i32_312
  let v544 : BitVec 32 := Scalar.subi v523 v543
  let c3136_i32_313 : BitVec 32 := 3136#32
  let v545 : BitVec 32 := Scalar.muli v544 c3136_i32_313
  let v546 : BitVec 32 := v545
  let c128_i32_314 : BitVec 32 := 128#32
  let v547 : BitVec 32 := Scalar.muli v542 c128_i32_314
  let v548 : BitVec 32 := v547
  ![v546.toNat, v548.toNat]
def k0_off31 (i : grid0.Coords) (k0_t3 : Fin (k0_t3_loop i).trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c12_i32_302 : BitVec 32 := 12#32
  let v523 : BitVec 32 := Scalar.addi arg21 c12_i32_302
  let c13_i32_304 : BitVec 32 := 13#32
  let v525 : BitVec 32 := Scalar.remsi v523 c13_i32_304
  let c0_i32_337 : BitVec 32 := 0#32
  let c0_i32_338 : BitVec 32 := 0#32
  ![v525.toNat, 0, 0]
def k0_mult92 (i : grid0.Coords) (k0_t3 : Fin (k0_t3_loop i).trips) : BitVec 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c0_i32_247 : BitVec 32 := 0#32
  let v419 : BitVec 1 := Scalar.cmpi .sgt arg21 c0_i32_247
  let v420 : BitVec 32 := Scalar.extui v419
  let c0_i32_248 : BitVec 32 := 0#32
  let v421 : BitVec 1 := Scalar.cmpi .slt arg21 c0_i32_248
  let v422 : BitVec 32 := Scalar.extui v421
  let v423 : BitVec 32 := Scalar.subi v420 v422
  let c24_i32_246 : BitVec 32 := 24#32
  let c0_i32_249 : BitVec 32 := 0#32
  let v424 : BitVec 1 := Scalar.cmpi .sgt c24_i32_246 c0_i32_249
  let v425 : BitVec 32 := Scalar.extui v424
  let c0_i32_250 : BitVec 32 := 0#32
  let v426 : BitVec 1 := Scalar.cmpi .slt c24_i32_246 c0_i32_250
  let v427 : BitVec 32 := Scalar.extui v426
  let v428 : BitVec 32 := Scalar.subi v425 v427
  let v429 : BitVec 1 := Scalar.cmpi .ne v423 v428
  let v430 : BitVec 32 := Scalar.remsi arg21 c24_i32_246
  let c0_i32_251 : BitVec 32 := 0#32
  let v431 : BitVec 1 := Scalar.cmpi .ne v430 c0_i32_251
  let v432 : BitVec 1 := Scalar.andi v429 v431
  let v418 : BitVec 32 := Scalar.divsi arg21 c24_i32_246
  let c1_i32_252 : BitVec 32 := 1#32
  let v433 : BitVec 32 := Scalar.subi v418 c1_i32_252
  let v434 : BitVec 32 := Scalar.select v432 v433 v418
  let c24_i32_253 : BitVec 32 := 24#32
  let v435 : BitVec 32 := Scalar.muli v434 c24_i32_253
  let v436 : BitVec 32 := Scalar.subi arg21 v435
  let c3136_i32_254 : BitVec 32 := 3136#32
  let v437 : BitVec 32 := Scalar.muli v436 c3136_i32_254
  v437
def k0_mult93 (i : grid0.Coords) (k0_t3 : Fin (k0_t3_loop i).trips) : BitVec 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c0_i32_247 : BitVec 32 := 0#32
  let v419 : BitVec 1 := Scalar.cmpi .sgt arg21 c0_i32_247
  let v420 : BitVec 32 := Scalar.extui v419
  let c0_i32_248 : BitVec 32 := 0#32
  let v421 : BitVec 1 := Scalar.cmpi .slt arg21 c0_i32_248
  let v422 : BitVec 32 := Scalar.extui v421
  let v423 : BitVec 32 := Scalar.subi v420 v422
  let c24_i32_246 : BitVec 32 := 24#32
  let c0_i32_249 : BitVec 32 := 0#32
  let v424 : BitVec 1 := Scalar.cmpi .sgt c24_i32_246 c0_i32_249
  let v425 : BitVec 32 := Scalar.extui v424
  let c0_i32_250 : BitVec 32 := 0#32
  let v426 : BitVec 1 := Scalar.cmpi .slt c24_i32_246 c0_i32_250
  let v427 : BitVec 32 := Scalar.extui v426
  let v428 : BitVec 32 := Scalar.subi v425 v427
  let v429 : BitVec 1 := Scalar.cmpi .ne v423 v428
  let v430 : BitVec 32 := Scalar.remsi arg21 c24_i32_246
  let c0_i32_251 : BitVec 32 := 0#32
  let v431 : BitVec 1 := Scalar.cmpi .ne v430 c0_i32_251
  let v432 : BitVec 1 := Scalar.andi v429 v431
  let v418 : BitVec 32 := Scalar.divsi arg21 c24_i32_246
  let c1_i32_252 : BitVec 32 := 1#32
  let v433 : BitVec 32 := Scalar.subi v418 c1_i32_252
  let v434 : BitVec 32 := Scalar.select v432 v433 v418
  let c128_i32 : BitVec 32 := 128#32
  let v439 : BitVec 32 := Scalar.muli v434 c128_i32
  v439
def k0_mult94 (i : grid0.Coords) (k0_t3 : Fin (k0_t3_loop i).trips) : BitVec 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c0_i32_256 : BitVec 32 := 0#32
  let v442 : BitVec 1 := Scalar.cmpi .sgt arg21 c0_i32_256
  let v443 : BitVec 32 := Scalar.extui v442
  let c0_i32_257 : BitVec 32 := 0#32
  let v444 : BitVec 1 := Scalar.cmpi .slt arg21 c0_i32_257
  let v445 : BitVec 32 := Scalar.extui v444
  let v446 : BitVec 32 := Scalar.subi v443 v445
  let c24_i32_255 : BitVec 32 := 24#32
  let c0_i32_258 : BitVec 32 := 0#32
  let v447 : BitVec 1 := Scalar.cmpi .sgt c24_i32_255 c0_i32_258
  let v448 : BitVec 32 := Scalar.extui v447
  let c0_i32_259 : BitVec 32 := 0#32
  let v449 : BitVec 1 := Scalar.cmpi .slt c24_i32_255 c0_i32_259
  let v450 : BitVec 32 := Scalar.extui v449
  let v451 : BitVec 32 := Scalar.subi v448 v450
  let v452 : BitVec 1 := Scalar.cmpi .ne v446 v451
  let v453 : BitVec 32 := Scalar.remsi arg21 c24_i32_255
  let c0_i32_260 : BitVec 32 := 0#32
  let v454 : BitVec 1 := Scalar.cmpi .ne v453 c0_i32_260
  let v455 : BitVec 1 := Scalar.andi v452 v454
  let v441 : BitVec 32 := Scalar.divsi arg21 c24_i32_255
  let c1_i32_261 : BitVec 32 := 1#32
  let v456 : BitVec 32 := Scalar.subi v441 c1_i32_261
  let v457 : BitVec 32 := Scalar.select v455 v456 v441
  let c24_i32_262 : BitVec 32 := 24#32
  let v458 : BitVec 32 := Scalar.muli v457 c24_i32_262
  let v459 : BitVec 32 := Scalar.subi arg21 v458
  let c3136_i32_263 : BitVec 32 := 3136#32
  let v460 : BitVec 32 := Scalar.muli v459 c3136_i32_263
  v460
def k0_mult95 (i : grid0.Coords) (k0_t3 : Fin (k0_t3_loop i).trips) : BitVec 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c0_i32_256 : BitVec 32 := 0#32
  let v442 : BitVec 1 := Scalar.cmpi .sgt arg21 c0_i32_256
  let v443 : BitVec 32 := Scalar.extui v442
  let c0_i32_257 : BitVec 32 := 0#32
  let v444 : BitVec 1 := Scalar.cmpi .slt arg21 c0_i32_257
  let v445 : BitVec 32 := Scalar.extui v444
  let v446 : BitVec 32 := Scalar.subi v443 v445
  let c24_i32_255 : BitVec 32 := 24#32
  let c0_i32_258 : BitVec 32 := 0#32
  let v447 : BitVec 1 := Scalar.cmpi .sgt c24_i32_255 c0_i32_258
  let v448 : BitVec 32 := Scalar.extui v447
  let c0_i32_259 : BitVec 32 := 0#32
  let v449 : BitVec 1 := Scalar.cmpi .slt c24_i32_255 c0_i32_259
  let v450 : BitVec 32 := Scalar.extui v449
  let v451 : BitVec 32 := Scalar.subi v448 v450
  let v452 : BitVec 1 := Scalar.cmpi .ne v446 v451
  let v453 : BitVec 32 := Scalar.remsi arg21 c24_i32_255
  let c0_i32_260 : BitVec 32 := 0#32
  let v454 : BitVec 1 := Scalar.cmpi .ne v453 c0_i32_260
  let v455 : BitVec 1 := Scalar.andi v452 v454
  let v441 : BitVec 32 := Scalar.divsi arg21 c24_i32_255
  let c1_i32_261 : BitVec 32 := 1#32
  let v456 : BitVec 32 := Scalar.subi v441 c1_i32_261
  let v457 : BitVec 32 := Scalar.select v455 v456 v441
  let c128_i32_264 : BitVec 32 := 128#32
  let v462 : BitVec 32 := Scalar.muli v457 c128_i32_264
  v462
def k0_mult96 (i : grid0.Coords) (k0_t3 : Fin (k0_t3_loop i).trips) : BitVec 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c0_i32_266 : BitVec 32 := 0#32
  let v465 : BitVec 1 := Scalar.cmpi .sgt arg21 c0_i32_266
  let v466 : BitVec 32 := Scalar.extui v465
  let c0_i32_267 : BitVec 32 := 0#32
  let v467 : BitVec 1 := Scalar.cmpi .slt arg21 c0_i32_267
  let v468 : BitVec 32 := Scalar.extui v467
  let v469 : BitVec 32 := Scalar.subi v466 v468
  let c24_i32_265 : BitVec 32 := 24#32
  let c0_i32_268 : BitVec 32 := 0#32
  let v470 : BitVec 1 := Scalar.cmpi .sgt c24_i32_265 c0_i32_268
  let v471 : BitVec 32 := Scalar.extui v470
  let c0_i32_269 : BitVec 32 := 0#32
  let v472 : BitVec 1 := Scalar.cmpi .slt c24_i32_265 c0_i32_269
  let v473 : BitVec 32 := Scalar.extui v472
  let v474 : BitVec 32 := Scalar.subi v471 v473
  let v475 : BitVec 1 := Scalar.cmpi .ne v469 v474
  let v476 : BitVec 32 := Scalar.remsi arg21 c24_i32_265
  let c0_i32_270 : BitVec 32 := 0#32
  let v477 : BitVec 1 := Scalar.cmpi .ne v476 c0_i32_270
  let v478 : BitVec 1 := Scalar.andi v475 v477
  let v464 : BitVec 32 := Scalar.divsi arg21 c24_i32_265
  let c1_i32_271 : BitVec 32 := 1#32
  let v479 : BitVec 32 := Scalar.subi v464 c1_i32_271
  let v480 : BitVec 32 := Scalar.select v478 v479 v464
  let c24_i32_272 : BitVec 32 := 24#32
  let v481 : BitVec 32 := Scalar.muli v480 c24_i32_272
  let v482 : BitVec 32 := Scalar.subi arg21 v481
  let c3136_i32_273 : BitVec 32 := 3136#32
  let v483 : BitVec 32 := Scalar.muli v482 c3136_i32_273
  v483
def k0_mult97 (i : grid0.Coords) (k0_t3 : Fin (k0_t3_loop i).trips) : BitVec 32 :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c0_i32_266 : BitVec 32 := 0#32
  let v465 : BitVec 1 := Scalar.cmpi .sgt arg21 c0_i32_266
  let v466 : BitVec 32 := Scalar.extui v465
  let c0_i32_267 : BitVec 32 := 0#32
  let v467 : BitVec 1 := Scalar.cmpi .slt arg21 c0_i32_267
  let v468 : BitVec 32 := Scalar.extui v467
  let v469 : BitVec 32 := Scalar.subi v466 v468
  let c24_i32_265 : BitVec 32 := 24#32
  let c0_i32_268 : BitVec 32 := 0#32
  let v470 : BitVec 1 := Scalar.cmpi .sgt c24_i32_265 c0_i32_268
  let v471 : BitVec 32 := Scalar.extui v470
  let c0_i32_269 : BitVec 32 := 0#32
  let v472 : BitVec 1 := Scalar.cmpi .slt c24_i32_265 c0_i32_269
  let v473 : BitVec 32 := Scalar.extui v472
  let v474 : BitVec 32 := Scalar.subi v471 v473
  let v475 : BitVec 1 := Scalar.cmpi .ne v469 v474
  let v476 : BitVec 32 := Scalar.remsi arg21 c24_i32_265
  let c0_i32_270 : BitVec 32 := 0#32
  let v477 : BitVec 1 := Scalar.cmpi .ne v476 c0_i32_270
  let v478 : BitVec 1 := Scalar.andi v475 v477
  let v464 : BitVec 32 := Scalar.divsi arg21 c24_i32_265
  let c1_i32_271 : BitVec 32 := 1#32
  let v479 : BitVec 32 := Scalar.subi v464 c1_i32_271
  let v480 : BitVec 32 := Scalar.select v478 v479 v464
  let c128_i32_274 : BitVec 32 := 128#32
  let v485 : BitVec 32 := Scalar.muli v480 c128_i32_274
  v485
def k0_off32 (i : grid0.Coords) (k0_t3 : Fin (k0_t3_loop i).trips) : Fin 1 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c13_i32_245 : BitVec 32 := 13#32
  let v417 : BitVec 32 := Scalar.remsi arg21 c13_i32_245
  ![v417.toNat]
def k0_off33 (i : grid0.Coords) (k0_t3 : Fin (k0_t3_loop i).trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_244 : BitVec 32 := 37#32
  let v416 : BitVec 32 := Scalar.remsi arg21 c37_i32_244
  let c0_i32_275 : BitVec 32 := 0#32
  let c0_i32_276 : BitVec 32 := 0#32
  ![v416.toNat, 0, 0]
def k0_off34 (i : grid0.Coords) (k0_t3 : Fin (k0_t3_loop i).trips) : Fin 2 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c0_i32_247 : BitVec 32 := 0#32
  let v419 : BitVec 1 := Scalar.cmpi .sgt arg21 c0_i32_247
  let v420 : BitVec 32 := Scalar.extui v419
  let c0_i32_248 : BitVec 32 := 0#32
  let v421 : BitVec 1 := Scalar.cmpi .slt arg21 c0_i32_248
  let v422 : BitVec 32 := Scalar.extui v421
  let v423 : BitVec 32 := Scalar.subi v420 v422
  let c24_i32_246 : BitVec 32 := 24#32
  let c0_i32_249 : BitVec 32 := 0#32
  let v424 : BitVec 1 := Scalar.cmpi .sgt c24_i32_246 c0_i32_249
  let v425 : BitVec 32 := Scalar.extui v424
  let c0_i32_250 : BitVec 32 := 0#32
  let v426 : BitVec 1 := Scalar.cmpi .slt c24_i32_246 c0_i32_250
  let v427 : BitVec 32 := Scalar.extui v426
  let v428 : BitVec 32 := Scalar.subi v425 v427
  let v429 : BitVec 1 := Scalar.cmpi .ne v423 v428
  let v430 : BitVec 32 := Scalar.remsi arg21 c24_i32_246
  let c0_i32_251 : BitVec 32 := 0#32
  let v431 : BitVec 1 := Scalar.cmpi .ne v430 c0_i32_251
  let v432 : BitVec 1 := Scalar.andi v429 v431
  let v418 : BitVec 32 := Scalar.divsi arg21 c24_i32_246
  let c1_i32_252 : BitVec 32 := 1#32
  let v433 : BitVec 32 := Scalar.subi v418 c1_i32_252
  let v434 : BitVec 32 := Scalar.select v432 v433 v418
  let c24_i32_253 : BitVec 32 := 24#32
  let v435 : BitVec 32 := Scalar.muli v434 c24_i32_253
  let v436 : BitVec 32 := Scalar.subi arg21 v435
  let c3136_i32_254 : BitVec 32 := 3136#32
  let v437 : BitVec 32 := Scalar.muli v436 c3136_i32_254
  let v438 : BitVec 32 := v437
  let c128_i32 : BitVec 32 := 128#32
  let v439 : BitVec 32 := Scalar.muli v434 c128_i32
  let v440 : BitVec 32 := v439
  ![v438.toNat, v440.toNat]
def k0_off35 (i : grid0.Coords) (k0_t3 : Fin (k0_t3_loop i).trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c13_i32_245 : BitVec 32 := 13#32
  let v417 : BitVec 32 := Scalar.remsi arg21 c13_i32_245
  let c0_i32_277 : BitVec 32 := 0#32
  let c0_i32_278 : BitVec 32 := 0#32
  ![v417.toNat, 0, 0]
@[reducible] def k0_t4_loop : Scf.Loop 32 :=
  let c0_i32_286 : BitVec 32 := 0#32
  let c7_i32_287 : BitVec 32 := 7#32
  let v509 : BitVec 32 := Scalar.addi c0_i32_286 c7_i32_287
  let c1_i32_288 : BitVec 32 := 1#32
  ⟨c0_i32_286, v509, c1_i32_288⟩
def k0_mult98 (k0_t4 : Fin k0_t4_loop.trips) : BitVec 32 :=
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  v523
def k0_off36 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_302 : BitVec 32 := 0#32
  ![v502.toNat, v524.toNat, 0]
def k0_off37 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c13_i32_282 : BitVec 32 := 13#32
  let v503 : BitVec 32 := Scalar.remsi arg21 c13_i32_282
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_308 : BitVec 32 := 0#32
  ![v503.toNat, v524.toNat, 0]
def k0_off38 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_329 : BitVec 32 := 0#32
  ![v502.toNat, v524.toNat, 0]
def k0_off39 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_343 : BitVec 32 := 0#32
  ![v502.toNat, Nat.add v524.toNat 32, 0]
def k0_off40 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_357 : BitVec 32 := 0#32
  ![v502.toNat, Nat.add v524.toNat 64, 0]
def k0_off41 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_371 : BitVec 32 := 0#32
  ![v502.toNat, Nat.add v524.toNat 96, 0]
def k0_off42 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_385 : BitVec 32 := 0#32
  ![v502.toNat, Nat.add v524.toNat 128, 0]
def k0_off43 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_399 : BitVec 32 := 0#32
  ![v502.toNat, Nat.add v524.toNat 160, 0]
def k0_off44 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_413 : BitVec 32 := 0#32
  ![v502.toNat, Nat.add v524.toNat 192, 0]
def k0_off45 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_427 : BitVec 32 := 0#32
  ![v502.toNat, Nat.add v524.toNat 224, 0]
def k0_off46 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_441 : BitVec 32 := 0#32
  ![v502.toNat, Nat.add v524.toNat 256, 0]
def k0_off47 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_455 : BitVec 32 := 0#32
  ![v502.toNat, Nat.add v524.toNat 288, 0]
def k0_off48 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_469 : BitVec 32 := 0#32
  ![v502.toNat, Nat.add v524.toNat 320, 0]
def k0_off49 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_483 : BitVec 32 := 0#32
  ![v502.toNat, Nat.add v524.toNat 352, 0]
def k0_off50 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_489 : BitVec 32 := 0#32
  ![v502.toNat, Nat.add v524.toNat 384, 0]
def k0_off51 (i : grid0.Coords) (k0_t3 : Fin (k0_t3_loop i).trips) (k0_t4 : Fin k0_t4_loop.trips) : Fin 3 → Nat :=
  let arg0 : BitVec 32 := BitVec.ofNat 32 (i 0).val
  let c24_i32 : BitVec 32 := 24#32
  let v280 : BitVec 32 := Scalar.addi arg0 c24_i32
  let v281 : BitVec 32 := Scalar.subi v280 arg0
  let c1_i32_170 : BitVec 32 := 1#32
  let v283 : BitVec 32 := Scalar.divsi v281 c1_i32_170
  let v284 : BitVec 32 := Scalar.muli v283 c1_i32_170
  let v285 : BitVec 32 := Scalar.addi arg0 v284
  let c1_i32_172 : BitVec 32 := 1#32
  let arg21 : BitVec 32 := Scf.iv v285 c1_i32_172 k0_t3
  let c37_i32_281 : BitVec 32 := 37#32
  let v502 : BitVec 32 := Scalar.remsi arg21 c37_i32_281
  let c0_i32_286 : BitVec 32 := 0#32
  let c1_i32_288 : BitVec 32 := 1#32
  let arg22 : BitVec 32 := Scf.iv c0_i32_286 c1_i32_288 k0_t4
  let c448_i32 : BitVec 32 := 448#32
  let v523 : BitVec 32 := Scalar.muli arg22 c448_i32
  let v524 : BitVec 32 := v523
  let c0_i32_495 : BitVec 32 := 0#32
  ![v502.toNat, Nat.add v524.toNat 416, 0]
@[reducible] def k0_t5_loop (i : grid0.Coords) : Scf.Loop 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_177 : BitVec 32 := 1#32
  ⟨v286, v292, c1_i32_177⟩
def k0_off52 (i : grid0.Coords) (k0_t5 : Fin (k0_t5_loop i).trips) : Fin 2 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c1_i32_242 : BitVec 32 := 1#32
  let v412 : BitVec 32 := Scalar.subi arg21 c1_i32_242
  let v415 : Index := Scalar.indexCast v412
  let c0_245 : Index := 0#32
  ![v415.toNat, 0]
@[reducible] def k0_t6_loop (i : grid0.Coords) : Scf.Loop 32 :=
  let arg0 : BitVec 32 := BitVec.ofNat 32 (i 0).val
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_273 : BitVec 32 := 1#32
  ⟨arg0, v479, c1_i32_273⟩
def k0_cond3 (i : grid0.Coords) (k0_t5 : Fin (k0_t5_loop i).trips) (k0_t6 : Fin (k0_t6_loop i).trips) : BitVec 1 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c12_i32 : BitVec 32 := 12#32
  let v483 : BitVec 32 := Scalar.addi v481 c12_i32
  let c96_i32_277 : BitVec 32 := 96#32
  let v484 : BitVec 1 := Scalar.cmpi .slt v483 c96_i32_277
  let v485 : BitVec 32 := Scalar.extui v484
  let c0_i32_278 : BitVec 32 := 0#32
  let v486 : BitVec 1 := Scalar.cmpi .ne v485 c0_i32_278
  v486

def k0_mult99 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c12_i32_349 : BitVec 32 := 12#32
  let v605 : BitVec 32 := Scalar.addi v481 c12_i32_349
  let c0_i32_353 : BitVec 32 := 0#32
  let v609 : BitVec 1 := Scalar.cmpi .sgt v605 c0_i32_353
  let v610 : BitVec 32 := Scalar.extui v609
  let c0_i32_354 : BitVec 32 := 0#32
  let v611 : BitVec 1 := Scalar.cmpi .slt v605 c0_i32_354
  let v612 : BitVec 32 := Scalar.extui v611
  let v613 : BitVec 32 := Scalar.subi v610 v612
  let c24_i32_352 : BitVec 32 := 24#32
  let c0_i32_355 : BitVec 32 := 0#32
  let v614 : BitVec 1 := Scalar.cmpi .sgt c24_i32_352 c0_i32_355
  let v615 : BitVec 32 := Scalar.extui v614
  let c0_i32_356 : BitVec 32 := 0#32
  let v616 : BitVec 1 := Scalar.cmpi .slt c24_i32_352 c0_i32_356
  let v617 : BitVec 32 := Scalar.extui v616
  let v618 : BitVec 32 := Scalar.subi v615 v617
  let v619 : BitVec 1 := Scalar.cmpi .ne v613 v618
  let v620 : BitVec 32 := Scalar.remsi v605 c24_i32_352
  let c0_i32_357 : BitVec 32 := 0#32
  let v621 : BitVec 1 := Scalar.cmpi .ne v620 c0_i32_357
  let v622 : BitVec 1 := Scalar.andi v619 v621
  let v608 : BitVec 32 := Scalar.divsi v605 c24_i32_352
  let c1_i32_358 : BitVec 32 := 1#32
  let v623 : BitVec 32 := Scalar.subi v608 c1_i32_358
  let v624 : BitVec 32 := Scalar.select v622 v623 v608
  let c24_i32_359 : BitVec 32 := 24#32
  let v625 : BitVec 32 := Scalar.muli v624 c24_i32_359
  let v626 : BitVec 32 := Scalar.subi v605 v625
  let c3136_i32_360 : BitVec 32 := 3136#32
  let v627 : BitVec 32 := Scalar.muli v626 c3136_i32_360
  v627
def k0_mult100 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c12_i32_349 : BitVec 32 := 12#32
  let v605 : BitVec 32 := Scalar.addi v481 c12_i32_349
  let c0_i32_353 : BitVec 32 := 0#32
  let v609 : BitVec 1 := Scalar.cmpi .sgt v605 c0_i32_353
  let v610 : BitVec 32 := Scalar.extui v609
  let c0_i32_354 : BitVec 32 := 0#32
  let v611 : BitVec 1 := Scalar.cmpi .slt v605 c0_i32_354
  let v612 : BitVec 32 := Scalar.extui v611
  let v613 : BitVec 32 := Scalar.subi v610 v612
  let c24_i32_352 : BitVec 32 := 24#32
  let c0_i32_355 : BitVec 32 := 0#32
  let v614 : BitVec 1 := Scalar.cmpi .sgt c24_i32_352 c0_i32_355
  let v615 : BitVec 32 := Scalar.extui v614
  let c0_i32_356 : BitVec 32 := 0#32
  let v616 : BitVec 1 := Scalar.cmpi .slt c24_i32_352 c0_i32_356
  let v617 : BitVec 32 := Scalar.extui v616
  let v618 : BitVec 32 := Scalar.subi v615 v617
  let v619 : BitVec 1 := Scalar.cmpi .ne v613 v618
  let v620 : BitVec 32 := Scalar.remsi v605 c24_i32_352
  let c0_i32_357 : BitVec 32 := 0#32
  let v621 : BitVec 1 := Scalar.cmpi .ne v620 c0_i32_357
  let v622 : BitVec 1 := Scalar.andi v619 v621
  let v608 : BitVec 32 := Scalar.divsi v605 c24_i32_352
  let c1_i32_358 : BitVec 32 := 1#32
  let v623 : BitVec 32 := Scalar.subi v608 c1_i32_358
  let v624 : BitVec 32 := Scalar.select v622 v623 v608
  let c128_i32_361 : BitVec 32 := 128#32
  let v629 : BitVec 32 := Scalar.muli v624 c128_i32_361
  v629
def k0_mult101 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c12_i32_349 : BitVec 32 := 12#32
  let v605 : BitVec 32 := Scalar.addi v481 c12_i32_349
  let c0_i32_363 : BitVec 32 := 0#32
  let v632 : BitVec 1 := Scalar.cmpi .sgt v605 c0_i32_363
  let v633 : BitVec 32 := Scalar.extui v632
  let c0_i32_364 : BitVec 32 := 0#32
  let v634 : BitVec 1 := Scalar.cmpi .slt v605 c0_i32_364
  let v635 : BitVec 32 := Scalar.extui v634
  let v636 : BitVec 32 := Scalar.subi v633 v635
  let c24_i32_362 : BitVec 32 := 24#32
  let c0_i32_365 : BitVec 32 := 0#32
  let v637 : BitVec 1 := Scalar.cmpi .sgt c24_i32_362 c0_i32_365
  let v638 : BitVec 32 := Scalar.extui v637
  let c0_i32_366 : BitVec 32 := 0#32
  let v639 : BitVec 1 := Scalar.cmpi .slt c24_i32_362 c0_i32_366
  let v640 : BitVec 32 := Scalar.extui v639
  let v641 : BitVec 32 := Scalar.subi v638 v640
  let v642 : BitVec 1 := Scalar.cmpi .ne v636 v641
  let v643 : BitVec 32 := Scalar.remsi v605 c24_i32_362
  let c0_i32_367 : BitVec 32 := 0#32
  let v644 : BitVec 1 := Scalar.cmpi .ne v643 c0_i32_367
  let v645 : BitVec 1 := Scalar.andi v642 v644
  let v631 : BitVec 32 := Scalar.divsi v605 c24_i32_362
  let c1_i32_368 : BitVec 32 := 1#32
  let v646 : BitVec 32 := Scalar.subi v631 c1_i32_368
  let v647 : BitVec 32 := Scalar.select v645 v646 v631
  let c24_i32_369 : BitVec 32 := 24#32
  let v648 : BitVec 32 := Scalar.muli v647 c24_i32_369
  let v649 : BitVec 32 := Scalar.subi v605 v648
  let c3136_i32_370 : BitVec 32 := 3136#32
  let v650 : BitVec 32 := Scalar.muli v649 c3136_i32_370
  v650
def k0_mult102 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c12_i32_349 : BitVec 32 := 12#32
  let v605 : BitVec 32 := Scalar.addi v481 c12_i32_349
  let c0_i32_363 : BitVec 32 := 0#32
  let v632 : BitVec 1 := Scalar.cmpi .sgt v605 c0_i32_363
  let v633 : BitVec 32 := Scalar.extui v632
  let c0_i32_364 : BitVec 32 := 0#32
  let v634 : BitVec 1 := Scalar.cmpi .slt v605 c0_i32_364
  let v635 : BitVec 32 := Scalar.extui v634
  let v636 : BitVec 32 := Scalar.subi v633 v635
  let c24_i32_362 : BitVec 32 := 24#32
  let c0_i32_365 : BitVec 32 := 0#32
  let v637 : BitVec 1 := Scalar.cmpi .sgt c24_i32_362 c0_i32_365
  let v638 : BitVec 32 := Scalar.extui v637
  let c0_i32_366 : BitVec 32 := 0#32
  let v639 : BitVec 1 := Scalar.cmpi .slt c24_i32_362 c0_i32_366
  let v640 : BitVec 32 := Scalar.extui v639
  let v641 : BitVec 32 := Scalar.subi v638 v640
  let v642 : BitVec 1 := Scalar.cmpi .ne v636 v641
  let v643 : BitVec 32 := Scalar.remsi v605 c24_i32_362
  let c0_i32_367 : BitVec 32 := 0#32
  let v644 : BitVec 1 := Scalar.cmpi .ne v643 c0_i32_367
  let v645 : BitVec 1 := Scalar.andi v642 v644
  let v631 : BitVec 32 := Scalar.divsi v605 c24_i32_362
  let c1_i32_368 : BitVec 32 := 1#32
  let v646 : BitVec 32 := Scalar.subi v631 c1_i32_368
  let v647 : BitVec 32 := Scalar.select v645 v646 v631
  let c128_i32_371 : BitVec 32 := 128#32
  let v652 : BitVec 32 := Scalar.muli v647 c128_i32_371
  v652
def k0_mult103 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c12_i32_349 : BitVec 32 := 12#32
  let v605 : BitVec 32 := Scalar.addi v481 c12_i32_349
  let c0_i32_373 : BitVec 32 := 0#32
  let v655 : BitVec 1 := Scalar.cmpi .sgt v605 c0_i32_373
  let v656 : BitVec 32 := Scalar.extui v655
  let c0_i32_374 : BitVec 32 := 0#32
  let v657 : BitVec 1 := Scalar.cmpi .slt v605 c0_i32_374
  let v658 : BitVec 32 := Scalar.extui v657
  let v659 : BitVec 32 := Scalar.subi v656 v658
  let c24_i32_372 : BitVec 32 := 24#32
  let c0_i32_375 : BitVec 32 := 0#32
  let v660 : BitVec 1 := Scalar.cmpi .sgt c24_i32_372 c0_i32_375
  let v661 : BitVec 32 := Scalar.extui v660
  let c0_i32_376 : BitVec 32 := 0#32
  let v662 : BitVec 1 := Scalar.cmpi .slt c24_i32_372 c0_i32_376
  let v663 : BitVec 32 := Scalar.extui v662
  let v664 : BitVec 32 := Scalar.subi v661 v663
  let v665 : BitVec 1 := Scalar.cmpi .ne v659 v664
  let v666 : BitVec 32 := Scalar.remsi v605 c24_i32_372
  let c0_i32_377 : BitVec 32 := 0#32
  let v667 : BitVec 1 := Scalar.cmpi .ne v666 c0_i32_377
  let v668 : BitVec 1 := Scalar.andi v665 v667
  let v654 : BitVec 32 := Scalar.divsi v605 c24_i32_372
  let c1_i32_378 : BitVec 32 := 1#32
  let v669 : BitVec 32 := Scalar.subi v654 c1_i32_378
  let v670 : BitVec 32 := Scalar.select v668 v669 v654
  let c24_i32_379 : BitVec 32 := 24#32
  let v671 : BitVec 32 := Scalar.muli v670 c24_i32_379
  let v672 : BitVec 32 := Scalar.subi v605 v671
  let c3136_i32_380 : BitVec 32 := 3136#32
  let v673 : BitVec 32 := Scalar.muli v672 c3136_i32_380
  v673
def k0_mult104 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c12_i32_349 : BitVec 32 := 12#32
  let v605 : BitVec 32 := Scalar.addi v481 c12_i32_349
  let c0_i32_373 : BitVec 32 := 0#32
  let v655 : BitVec 1 := Scalar.cmpi .sgt v605 c0_i32_373
  let v656 : BitVec 32 := Scalar.extui v655
  let c0_i32_374 : BitVec 32 := 0#32
  let v657 : BitVec 1 := Scalar.cmpi .slt v605 c0_i32_374
  let v658 : BitVec 32 := Scalar.extui v657
  let v659 : BitVec 32 := Scalar.subi v656 v658
  let c24_i32_372 : BitVec 32 := 24#32
  let c0_i32_375 : BitVec 32 := 0#32
  let v660 : BitVec 1 := Scalar.cmpi .sgt c24_i32_372 c0_i32_375
  let v661 : BitVec 32 := Scalar.extui v660
  let c0_i32_376 : BitVec 32 := 0#32
  let v662 : BitVec 1 := Scalar.cmpi .slt c24_i32_372 c0_i32_376
  let v663 : BitVec 32 := Scalar.extui v662
  let v664 : BitVec 32 := Scalar.subi v661 v663
  let v665 : BitVec 1 := Scalar.cmpi .ne v659 v664
  let v666 : BitVec 32 := Scalar.remsi v605 c24_i32_372
  let c0_i32_377 : BitVec 32 := 0#32
  let v667 : BitVec 1 := Scalar.cmpi .ne v666 c0_i32_377
  let v668 : BitVec 1 := Scalar.andi v665 v667
  let v654 : BitVec 32 := Scalar.divsi v605 c24_i32_372
  let c1_i32_378 : BitVec 32 := 1#32
  let v669 : BitVec 32 := Scalar.subi v654 c1_i32_378
  let v670 : BitVec 32 := Scalar.select v668 v669 v654
  let c128_i32_381 : BitVec 32 := 128#32
  let v675 : BitVec 32 := Scalar.muli v670 c128_i32_381
  v675
def k0_off53 (i : grid0.Coords) (k0_t5 : Fin (k0_t5_loop i).trips) (k0_t6 : Fin (k0_t6_loop i).trips) : Fin 1 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c12_i32_349 : BitVec 32 := 12#32
  let v605 : BitVec 32 := Scalar.addi v481 c12_i32_349
  let c13_i32_351 : BitVec 32 := 13#32
  let v607 : BitVec 32 := Scalar.remsi v605 c13_i32_351
  ![v607.toNat]
def k0_off54 (i : grid0.Coords) (k0_t5 : Fin (k0_t5_loop i).trips) (k0_t6 : Fin (k0_t6_loop i).trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c12_i32_349 : BitVec 32 := 12#32
  let v605 : BitVec 32 := Scalar.addi v481 c12_i32_349
  let c37_i32_350 : BitVec 32 := 37#32
  let v606 : BitVec 32 := Scalar.remsi v605 c37_i32_350
  let c0_i32_382 : BitVec 32 := 0#32
  let c0_i32_383 : BitVec 32 := 0#32
  ![v606.toNat, 0, 0]
def k0_off55 (i : grid0.Coords) (k0_t5 : Fin (k0_t5_loop i).trips) (k0_t6 : Fin (k0_t6_loop i).trips) : Fin 2 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c12_i32_349 : BitVec 32 := 12#32
  let v605 : BitVec 32 := Scalar.addi v481 c12_i32_349
  let c0_i32_353 : BitVec 32 := 0#32
  let v609 : BitVec 1 := Scalar.cmpi .sgt v605 c0_i32_353
  let v610 : BitVec 32 := Scalar.extui v609
  let c0_i32_354 : BitVec 32 := 0#32
  let v611 : BitVec 1 := Scalar.cmpi .slt v605 c0_i32_354
  let v612 : BitVec 32 := Scalar.extui v611
  let v613 : BitVec 32 := Scalar.subi v610 v612
  let c24_i32_352 : BitVec 32 := 24#32
  let c0_i32_355 : BitVec 32 := 0#32
  let v614 : BitVec 1 := Scalar.cmpi .sgt c24_i32_352 c0_i32_355
  let v615 : BitVec 32 := Scalar.extui v614
  let c0_i32_356 : BitVec 32 := 0#32
  let v616 : BitVec 1 := Scalar.cmpi .slt c24_i32_352 c0_i32_356
  let v617 : BitVec 32 := Scalar.extui v616
  let v618 : BitVec 32 := Scalar.subi v615 v617
  let v619 : BitVec 1 := Scalar.cmpi .ne v613 v618
  let v620 : BitVec 32 := Scalar.remsi v605 c24_i32_352
  let c0_i32_357 : BitVec 32 := 0#32
  let v621 : BitVec 1 := Scalar.cmpi .ne v620 c0_i32_357
  let v622 : BitVec 1 := Scalar.andi v619 v621
  let v608 : BitVec 32 := Scalar.divsi v605 c24_i32_352
  let c1_i32_358 : BitVec 32 := 1#32
  let v623 : BitVec 32 := Scalar.subi v608 c1_i32_358
  let v624 : BitVec 32 := Scalar.select v622 v623 v608
  let c24_i32_359 : BitVec 32 := 24#32
  let v625 : BitVec 32 := Scalar.muli v624 c24_i32_359
  let v626 : BitVec 32 := Scalar.subi v605 v625
  let c3136_i32_360 : BitVec 32 := 3136#32
  let v627 : BitVec 32 := Scalar.muli v626 c3136_i32_360
  let v628 : BitVec 32 := v627
  let c128_i32_361 : BitVec 32 := 128#32
  let v629 : BitVec 32 := Scalar.muli v624 c128_i32_361
  let v630 : BitVec 32 := v629
  ![v628.toNat, v630.toNat]
def k0_off56 (i : grid0.Coords) (k0_t5 : Fin (k0_t5_loop i).trips) (k0_t6 : Fin (k0_t6_loop i).trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c12_i32_349 : BitVec 32 := 12#32
  let v605 : BitVec 32 := Scalar.addi v481 c12_i32_349
  let c13_i32_351 : BitVec 32 := 13#32
  let v607 : BitVec 32 := Scalar.remsi v605 c13_i32_351
  let c0_i32_384 : BitVec 32 := 0#32
  let c0_i32_385 : BitVec 32 := 0#32
  ![v607.toNat, 0, 0]
def k0_mult105 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c0_i32_282 : BitVec 32 := 0#32
  let v490 : BitVec 1 := Scalar.cmpi .sgt v481 c0_i32_282
  let v491 : BitVec 32 := Scalar.extui v490
  let c0_i32_283 : BitVec 32 := 0#32
  let v492 : BitVec 1 := Scalar.cmpi .slt v481 c0_i32_283
  let v493 : BitVec 32 := Scalar.extui v492
  let v494 : BitVec 32 := Scalar.subi v491 v493
  let c24_i32_281 : BitVec 32 := 24#32
  let c0_i32_284 : BitVec 32 := 0#32
  let v495 : BitVec 1 := Scalar.cmpi .sgt c24_i32_281 c0_i32_284
  let v496 : BitVec 32 := Scalar.extui v495
  let c0_i32_285 : BitVec 32 := 0#32
  let v497 : BitVec 1 := Scalar.cmpi .slt c24_i32_281 c0_i32_285
  let v498 : BitVec 32 := Scalar.extui v497
  let v499 : BitVec 32 := Scalar.subi v496 v498
  let v500 : BitVec 1 := Scalar.cmpi .ne v494 v499
  let v501 : BitVec 32 := Scalar.remsi v481 c24_i32_281
  let c0_i32_286 : BitVec 32 := 0#32
  let v502 : BitVec 1 := Scalar.cmpi .ne v501 c0_i32_286
  let v503 : BitVec 1 := Scalar.andi v500 v502
  let v489 : BitVec 32 := Scalar.divsi v481 c24_i32_281
  let c1_i32_287 : BitVec 32 := 1#32
  let v504 : BitVec 32 := Scalar.subi v489 c1_i32_287
  let v505 : BitVec 32 := Scalar.select v503 v504 v489
  let c24_i32_288 : BitVec 32 := 24#32
  let v506 : BitVec 32 := Scalar.muli v505 c24_i32_288
  let v507 : BitVec 32 := Scalar.subi v481 v506
  let c3136_i32_289 : BitVec 32 := 3136#32
  let v508 : BitVec 32 := Scalar.muli v507 c3136_i32_289
  v508
def k0_mult106 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c0_i32_282 : BitVec 32 := 0#32
  let v490 : BitVec 1 := Scalar.cmpi .sgt v481 c0_i32_282
  let v491 : BitVec 32 := Scalar.extui v490
  let c0_i32_283 : BitVec 32 := 0#32
  let v492 : BitVec 1 := Scalar.cmpi .slt v481 c0_i32_283
  let v493 : BitVec 32 := Scalar.extui v492
  let v494 : BitVec 32 := Scalar.subi v491 v493
  let c24_i32_281 : BitVec 32 := 24#32
  let c0_i32_284 : BitVec 32 := 0#32
  let v495 : BitVec 1 := Scalar.cmpi .sgt c24_i32_281 c0_i32_284
  let v496 : BitVec 32 := Scalar.extui v495
  let c0_i32_285 : BitVec 32 := 0#32
  let v497 : BitVec 1 := Scalar.cmpi .slt c24_i32_281 c0_i32_285
  let v498 : BitVec 32 := Scalar.extui v497
  let v499 : BitVec 32 := Scalar.subi v496 v498
  let v500 : BitVec 1 := Scalar.cmpi .ne v494 v499
  let v501 : BitVec 32 := Scalar.remsi v481 c24_i32_281
  let c0_i32_286 : BitVec 32 := 0#32
  let v502 : BitVec 1 := Scalar.cmpi .ne v501 c0_i32_286
  let v503 : BitVec 1 := Scalar.andi v500 v502
  let v489 : BitVec 32 := Scalar.divsi v481 c24_i32_281
  let c1_i32_287 : BitVec 32 := 1#32
  let v504 : BitVec 32 := Scalar.subi v489 c1_i32_287
  let v505 : BitVec 32 := Scalar.select v503 v504 v489
  let c128_i32 : BitVec 32 := 128#32
  let v510 : BitVec 32 := Scalar.muli v505 c128_i32
  v510
def k0_mult107 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c0_i32_291 : BitVec 32 := 0#32
  let v513 : BitVec 1 := Scalar.cmpi .sgt v481 c0_i32_291
  let v514 : BitVec 32 := Scalar.extui v513
  let c0_i32_292 : BitVec 32 := 0#32
  let v515 : BitVec 1 := Scalar.cmpi .slt v481 c0_i32_292
  let v516 : BitVec 32 := Scalar.extui v515
  let v517 : BitVec 32 := Scalar.subi v514 v516
  let c24_i32_290 : BitVec 32 := 24#32
  let c0_i32_293 : BitVec 32 := 0#32
  let v518 : BitVec 1 := Scalar.cmpi .sgt c24_i32_290 c0_i32_293
  let v519 : BitVec 32 := Scalar.extui v518
  let c0_i32_294 : BitVec 32 := 0#32
  let v520 : BitVec 1 := Scalar.cmpi .slt c24_i32_290 c0_i32_294
  let v521 : BitVec 32 := Scalar.extui v520
  let v522 : BitVec 32 := Scalar.subi v519 v521
  let v523 : BitVec 1 := Scalar.cmpi .ne v517 v522
  let v524 : BitVec 32 := Scalar.remsi v481 c24_i32_290
  let c0_i32_295 : BitVec 32 := 0#32
  let v525 : BitVec 1 := Scalar.cmpi .ne v524 c0_i32_295
  let v526 : BitVec 1 := Scalar.andi v523 v525
  let v512 : BitVec 32 := Scalar.divsi v481 c24_i32_290
  let c1_i32_296 : BitVec 32 := 1#32
  let v527 : BitVec 32 := Scalar.subi v512 c1_i32_296
  let v528 : BitVec 32 := Scalar.select v526 v527 v512
  let c24_i32_297 : BitVec 32 := 24#32
  let v529 : BitVec 32 := Scalar.muli v528 c24_i32_297
  let v530 : BitVec 32 := Scalar.subi v481 v529
  let c3136_i32_298 : BitVec 32 := 3136#32
  let v531 : BitVec 32 := Scalar.muli v530 c3136_i32_298
  v531
def k0_mult108 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c0_i32_291 : BitVec 32 := 0#32
  let v513 : BitVec 1 := Scalar.cmpi .sgt v481 c0_i32_291
  let v514 : BitVec 32 := Scalar.extui v513
  let c0_i32_292 : BitVec 32 := 0#32
  let v515 : BitVec 1 := Scalar.cmpi .slt v481 c0_i32_292
  let v516 : BitVec 32 := Scalar.extui v515
  let v517 : BitVec 32 := Scalar.subi v514 v516
  let c24_i32_290 : BitVec 32 := 24#32
  let c0_i32_293 : BitVec 32 := 0#32
  let v518 : BitVec 1 := Scalar.cmpi .sgt c24_i32_290 c0_i32_293
  let v519 : BitVec 32 := Scalar.extui v518
  let c0_i32_294 : BitVec 32 := 0#32
  let v520 : BitVec 1 := Scalar.cmpi .slt c24_i32_290 c0_i32_294
  let v521 : BitVec 32 := Scalar.extui v520
  let v522 : BitVec 32 := Scalar.subi v519 v521
  let v523 : BitVec 1 := Scalar.cmpi .ne v517 v522
  let v524 : BitVec 32 := Scalar.remsi v481 c24_i32_290
  let c0_i32_295 : BitVec 32 := 0#32
  let v525 : BitVec 1 := Scalar.cmpi .ne v524 c0_i32_295
  let v526 : BitVec 1 := Scalar.andi v523 v525
  let v512 : BitVec 32 := Scalar.divsi v481 c24_i32_290
  let c1_i32_296 : BitVec 32 := 1#32
  let v527 : BitVec 32 := Scalar.subi v512 c1_i32_296
  let v528 : BitVec 32 := Scalar.select v526 v527 v512
  let c128_i32_299 : BitVec 32 := 128#32
  let v533 : BitVec 32 := Scalar.muli v528 c128_i32_299
  v533
def k0_mult109 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c0_i32_301 : BitVec 32 := 0#32
  let v536 : BitVec 1 := Scalar.cmpi .sgt v481 c0_i32_301
  let v537 : BitVec 32 := Scalar.extui v536
  let c0_i32_302 : BitVec 32 := 0#32
  let v538 : BitVec 1 := Scalar.cmpi .slt v481 c0_i32_302
  let v539 : BitVec 32 := Scalar.extui v538
  let v540 : BitVec 32 := Scalar.subi v537 v539
  let c24_i32_300 : BitVec 32 := 24#32
  let c0_i32_303 : BitVec 32 := 0#32
  let v541 : BitVec 1 := Scalar.cmpi .sgt c24_i32_300 c0_i32_303
  let v542 : BitVec 32 := Scalar.extui v541
  let c0_i32_304 : BitVec 32 := 0#32
  let v543 : BitVec 1 := Scalar.cmpi .slt c24_i32_300 c0_i32_304
  let v544 : BitVec 32 := Scalar.extui v543
  let v545 : BitVec 32 := Scalar.subi v542 v544
  let v546 : BitVec 1 := Scalar.cmpi .ne v540 v545
  let v547 : BitVec 32 := Scalar.remsi v481 c24_i32_300
  let c0_i32_305 : BitVec 32 := 0#32
  let v548 : BitVec 1 := Scalar.cmpi .ne v547 c0_i32_305
  let v549 : BitVec 1 := Scalar.andi v546 v548
  let v535 : BitVec 32 := Scalar.divsi v481 c24_i32_300
  let c1_i32_306 : BitVec 32 := 1#32
  let v550 : BitVec 32 := Scalar.subi v535 c1_i32_306
  let v551 : BitVec 32 := Scalar.select v549 v550 v535
  let c24_i32_307 : BitVec 32 := 24#32
  let v552 : BitVec 32 := Scalar.muli v551 c24_i32_307
  let v553 : BitVec 32 := Scalar.subi v481 v552
  let c3136_i32_308 : BitVec 32 := 3136#32
  let v554 : BitVec 32 := Scalar.muli v553 c3136_i32_308
  v554
def k0_mult110 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c0_i32_301 : BitVec 32 := 0#32
  let v536 : BitVec 1 := Scalar.cmpi .sgt v481 c0_i32_301
  let v537 : BitVec 32 := Scalar.extui v536
  let c0_i32_302 : BitVec 32 := 0#32
  let v538 : BitVec 1 := Scalar.cmpi .slt v481 c0_i32_302
  let v539 : BitVec 32 := Scalar.extui v538
  let v540 : BitVec 32 := Scalar.subi v537 v539
  let c24_i32_300 : BitVec 32 := 24#32
  let c0_i32_303 : BitVec 32 := 0#32
  let v541 : BitVec 1 := Scalar.cmpi .sgt c24_i32_300 c0_i32_303
  let v542 : BitVec 32 := Scalar.extui v541
  let c0_i32_304 : BitVec 32 := 0#32
  let v543 : BitVec 1 := Scalar.cmpi .slt c24_i32_300 c0_i32_304
  let v544 : BitVec 32 := Scalar.extui v543
  let v545 : BitVec 32 := Scalar.subi v542 v544
  let v546 : BitVec 1 := Scalar.cmpi .ne v540 v545
  let v547 : BitVec 32 := Scalar.remsi v481 c24_i32_300
  let c0_i32_305 : BitVec 32 := 0#32
  let v548 : BitVec 1 := Scalar.cmpi .ne v547 c0_i32_305
  let v549 : BitVec 1 := Scalar.andi v546 v548
  let v535 : BitVec 32 := Scalar.divsi v481 c24_i32_300
  let c1_i32_306 : BitVec 32 := 1#32
  let v550 : BitVec 32 := Scalar.subi v535 c1_i32_306
  let v551 : BitVec 32 := Scalar.select v549 v550 v535
  let c128_i32_309 : BitVec 32 := 128#32
  let v556 : BitVec 32 := Scalar.muli v551 c128_i32_309
  v556
def k0_off57 (i : grid0.Coords) (k0_t5 : Fin (k0_t5_loop i).trips) (k0_t6 : Fin (k0_t6_loop i).trips) : Fin 1 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c13_i32_280 : BitVec 32 := 13#32
  let v488 : BitVec 32 := Scalar.remsi v481 c13_i32_280
  ![v488.toNat]
def k0_off58 (i : grid0.Coords) (k0_t5 : Fin (k0_t5_loop i).trips) (k0_t6 : Fin (k0_t6_loop i).trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_279 : BitVec 32 := 37#32
  let v487 : BitVec 32 := Scalar.remsi v481 c37_i32_279
  let c0_i32_310 : BitVec 32 := 0#32
  let c0_i32_311 : BitVec 32 := 0#32
  ![v487.toNat, 0, 0]
def k0_off59 (i : grid0.Coords) (k0_t5 : Fin (k0_t5_loop i).trips) (k0_t6 : Fin (k0_t6_loop i).trips) : Fin 2 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c0_i32_282 : BitVec 32 := 0#32
  let v490 : BitVec 1 := Scalar.cmpi .sgt v481 c0_i32_282
  let v491 : BitVec 32 := Scalar.extui v490
  let c0_i32_283 : BitVec 32 := 0#32
  let v492 : BitVec 1 := Scalar.cmpi .slt v481 c0_i32_283
  let v493 : BitVec 32 := Scalar.extui v492
  let v494 : BitVec 32 := Scalar.subi v491 v493
  let c24_i32_281 : BitVec 32 := 24#32
  let c0_i32_284 : BitVec 32 := 0#32
  let v495 : BitVec 1 := Scalar.cmpi .sgt c24_i32_281 c0_i32_284
  let v496 : BitVec 32 := Scalar.extui v495
  let c0_i32_285 : BitVec 32 := 0#32
  let v497 : BitVec 1 := Scalar.cmpi .slt c24_i32_281 c0_i32_285
  let v498 : BitVec 32 := Scalar.extui v497
  let v499 : BitVec 32 := Scalar.subi v496 v498
  let v500 : BitVec 1 := Scalar.cmpi .ne v494 v499
  let v501 : BitVec 32 := Scalar.remsi v481 c24_i32_281
  let c0_i32_286 : BitVec 32 := 0#32
  let v502 : BitVec 1 := Scalar.cmpi .ne v501 c0_i32_286
  let v503 : BitVec 1 := Scalar.andi v500 v502
  let v489 : BitVec 32 := Scalar.divsi v481 c24_i32_281
  let c1_i32_287 : BitVec 32 := 1#32
  let v504 : BitVec 32 := Scalar.subi v489 c1_i32_287
  let v505 : BitVec 32 := Scalar.select v503 v504 v489
  let c24_i32_288 : BitVec 32 := 24#32
  let v506 : BitVec 32 := Scalar.muli v505 c24_i32_288
  let v507 : BitVec 32 := Scalar.subi v481 v506
  let c3136_i32_289 : BitVec 32 := 3136#32
  let v508 : BitVec 32 := Scalar.muli v507 c3136_i32_289
  let v509 : BitVec 32 := v508
  let c128_i32 : BitVec 32 := 128#32
  let v510 : BitVec 32 := Scalar.muli v505 c128_i32
  let v511 : BitVec 32 := v510
  ![v509.toNat, v511.toNat]
def k0_off60 (i : grid0.Coords) (k0_t5 : Fin (k0_t5_loop i).trips) (k0_t6 : Fin (k0_t6_loop i).trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c13_i32_280 : BitVec 32 := 13#32
  let v488 : BitVec 32 := Scalar.remsi v481 c13_i32_280
  let c0_i32_312 : BitVec 32 := 0#32
  let c0_i32_313 : BitVec 32 := 0#32
  ![v488.toNat, 0, 0]
def k0_cond4 (i : grid0.Coords) (k0_t5 : Fin (k0_t5_loop i).trips) (k0_t6 : Fin (k0_t6_loop i).trips) : BitVec 1 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_316 : BitVec 32 := 6#32
  let v573 : BitVec 1 := Scalar.cmpi .sge v482 c6_i32_316
  let v574 : BitVec 32 := Scalar.extui v573
  let c0_i32_317 : BitVec 32 := 0#32
  let v575 : BitVec 1 := Scalar.cmpi .ne v574 c0_i32_317
  v575

def k0_mult111 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  v626
def k0_mult112 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c128_i32_360 : BitVec 32 := 128#32
  let v628 : BitVec 32 := Scalar.muli v623 c128_i32_360
  v628
def k0_off61 (i : grid0.Coords) (k0_t5 : Fin (k0_t5_loop i).trips) (k0_t6 : Fin (k0_t6_loop i).trips) : Fin 1 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c6_i32_350 : BitVec 32 := 6#32
  let v606 : BitVec 32 := Scalar.remsi v605 c6_i32_350
  ![v606.toNat]
def k0_off62 (i : grid0.Coords) (k0_t5 : Fin (k0_t5_loop i).trips) (k0_t6 : Fin (k0_t6_loop i).trips) : Fin 2 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  let v627 : BitVec 32 := v626
  let c128_i32_360 : BitVec 32 := 128#32
  let v628 : BitVec 32 := Scalar.muli v623 c128_i32_360
  let v629 : BitVec 32 := v628
  ![v627.toNat, v629.toNat]
def k0_off63 (i : grid0.Coords) (k0_t5 : Fin (k0_t5_loop i).trips) (k0_t6 : Fin (k0_t6_loop i).trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c6_i32_350 : BitVec 32 := 6#32
  let v606 : BitVec 32 := Scalar.remsi v605 c6_i32_350
  let c0_i32_361 : BitVec 32 := 0#32
  let c0_i32_362 : BitVec 32 := 0#32
  ![v606.toNat, 0, 0]
@[reducible] def k0_t7_loop : Scf.Loop 32 :=
  let c0_i32_331 : BitVec 32 := 0#32
  let c7_i32_332 : BitVec 32 := 7#32
  let v588 : BitVec 32 := Scalar.addi c0_i32_331 c7_i32_332
  let c1_i32_333 : BitVec 32 := 1#32
  ⟨c0_i32_331, v588, c1_i32_333⟩
def k0_mult113 (k0_t7 : Fin k0_t7_loop.trips) : BitVec 32 :=
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  v605
def k0_off64 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_349 : BitVec 32 := 0#32
  ![v576.toNat, v606.toNat, 0]
def k0_off65 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c13_i32_319 : BitVec 32 := 13#32
  let v577 : BitVec 32 := Scalar.remsi v481 c13_i32_319
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_355 : BitVec 32 := 0#32
  ![v577.toNat, v606.toNat, 0]
def k0_off66 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c37_i32_322 : BitVec 32 := 37#32
  let v582 : BitVec 32 := Scalar.remsi v482 c37_i32_322
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_358 : BitVec 32 := 0#32
  ![v582.toNat, v606.toNat, 0]
def k0_off67 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_394 : BitVec 32 := 0#32
  ![v576.toNat, v606.toNat, 0]
def k0_off68 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_397 : BitVec 32 := 0#32
  ![v583.toNat, v606.toNat, 0]
def k0_off69 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_397 : BitVec 32 := 0#32
  ![v583.toNat, v606.toNat, 0]
def k0_off70 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_417 : BitVec 32 := 0#32
  ![v576.toNat, Nat.add v606.toNat 32, 0]
def k0_off71 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_420 : BitVec 32 := 0#32
  ![v583.toNat, Nat.add v606.toNat 32, 0]
def k0_off72 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_440 : BitVec 32 := 0#32
  ![v576.toNat, Nat.add v606.toNat 64, 0]
def k0_off73 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_443 : BitVec 32 := 0#32
  ![v583.toNat, Nat.add v606.toNat 64, 0]
def k0_off74 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_463 : BitVec 32 := 0#32
  ![v576.toNat, Nat.add v606.toNat 96, 0]
def k0_off75 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_466 : BitVec 32 := 0#32
  ![v583.toNat, Nat.add v606.toNat 96, 0]
def k0_off76 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_486 : BitVec 32 := 0#32
  ![v576.toNat, Nat.add v606.toNat 128, 0]
def k0_off77 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_489 : BitVec 32 := 0#32
  ![v583.toNat, Nat.add v606.toNat 128, 0]
def k0_off78 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_509 : BitVec 32 := 0#32
  ![v576.toNat, Nat.add v606.toNat 160, 0]
def k0_off79 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_512 : BitVec 32 := 0#32
  ![v583.toNat, Nat.add v606.toNat 160, 0]
def k0_off80 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_532 : BitVec 32 := 0#32
  ![v576.toNat, Nat.add v606.toNat 192, 0]
def k0_off81 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_535 : BitVec 32 := 0#32
  ![v583.toNat, Nat.add v606.toNat 192, 0]
def k0_off82 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_555 : BitVec 32 := 0#32
  ![v576.toNat, Nat.add v606.toNat 224, 0]
def k0_off83 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_558 : BitVec 32 := 0#32
  ![v583.toNat, Nat.add v606.toNat 224, 0]
def k0_off84 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_578 : BitVec 32 := 0#32
  ![v576.toNat, Nat.add v606.toNat 256, 0]
def k0_off85 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_581 : BitVec 32 := 0#32
  ![v583.toNat, Nat.add v606.toNat 256, 0]
def k0_off86 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_601 : BitVec 32 := 0#32
  ![v576.toNat, Nat.add v606.toNat 288, 0]
def k0_off87 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_604 : BitVec 32 := 0#32
  ![v583.toNat, Nat.add v606.toNat 288, 0]
def k0_off88 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_624 : BitVec 32 := 0#32
  ![v576.toNat, Nat.add v606.toNat 320, 0]
def k0_off89 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_627 : BitVec 32 := 0#32
  ![v583.toNat, Nat.add v606.toNat 320, 0]
def k0_off90 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_647 : BitVec 32 := 0#32
  ![v576.toNat, Nat.add v606.toNat 352, 0]
def k0_off91 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_650 : BitVec 32 := 0#32
  ![v583.toNat, Nat.add v606.toNat 352, 0]
def k0_off92 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_656 : BitVec 32 := 0#32
  ![v576.toNat, Nat.add v606.toNat 384, 0]
def k0_off93 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_659 : BitVec 32 := 0#32
  ![v583.toNat, Nat.add v606.toNat 384, 0]
def k0_off94 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_665 : BitVec 32 := 0#32
  ![v576.toNat, Nat.add v606.toNat 416, 0]
def k0_off95 (i : grid0.Coords) (k0_t5 : Fin (k0_t5_loop i).trips) (k0_t6 : Fin (k0_t6_loop i).trips) (k0_t7 : Fin k0_t7_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t7
  let c448_i32 : BitVec 32 := 448#32
  let v605 : BitVec 32 := Scalar.muli arg23 c448_i32
  let v606 : BitVec 32 := v605
  let c0_i32_668 : BitVec 32 := 0#32
  ![v583.toNat, Nat.add v606.toNat 416, 0]
def k0_cond5 (i : grid0.Coords) (k0_t5 : Fin (k0_t5_loop i).trips) (k0_t6 : Fin (k0_t6_loop i).trips) : BitVec 1 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c1_i32_347 : BitVec 32 := 1#32
  let v602 : BitVec 1 := Scalar.cmpi .sge v482 c1_i32_347
  let v603 : BitVec 32 := Scalar.extui v602
  let c0_i32_348 : BitVec 32 := 0#32
  let v604 : BitVec 1 := Scalar.cmpi .ne v603 c0_i32_348
  v604

def k0_mult114 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  v626
def k0_mult115 (i : grid0.Coords) (k0_t5 : Fin (k0_t5_loop i).trips) (k0_t6 : Fin (k0_t6_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c128_i32_360 : BitVec 32 := 128#32
  let v628 : BitVec 32 := Scalar.muli v623 c128_i32_360
  v628
def k0_off96 (i : grid0.Coords) (k0_t5 : Fin (k0_t5_loop i).trips) (k0_t6 : Fin (k0_t6_loop i).trips) : Fin 1 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c6_i32_350 : BitVec 32 := 6#32
  let v606 : BitVec 32 := Scalar.remsi v605 c6_i32_350
  ![v606.toNat]
def k0_off97 (i : grid0.Coords) (k0_t5 : Fin (k0_t5_loop i).trips) (k0_t6 : Fin (k0_t6_loop i).trips) : Fin 2 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  let v627 : BitVec 32 := v626
  let c128_i32_360 : BitVec 32 := 128#32
  let v628 : BitVec 32 := Scalar.muli v623 c128_i32_360
  let v629 : BitVec 32 := v628
  ![v627.toNat, v629.toNat]
def k0_off98 (i : grid0.Coords) (k0_t5 : Fin (k0_t5_loop i).trips) (k0_t6 : Fin (k0_t6_loop i).trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c1_i32_273 : BitVec 32 := 1#32
  let arg22 : BitVec 32 := Scf.iv arg0 c1_i32_273 k0_t6
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c6_i32_350 : BitVec 32 := 6#32
  let v606 : BitVec 32 := Scalar.remsi v605 c6_i32_350
  let c0_i32_361 : BitVec 32 := 0#32
  let c0_i32_362 : BitVec 32 := 0#32
  ![v606.toNat, 0, 0]
@[reducible] def k0_t8_loop (i : grid0.Coords) : Scf.Loop 32 :=
  let arg0 : BitVec 32 := BitVec.ofNat 32 (i 0).val
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let v476 : BitVec 32 := Scalar.addi arg0 v475
  let c1_i32_274 : BitVec 32 := 1#32
  ⟨v479, v476, c1_i32_274⟩
def k0_cond6 (i : grid0.Coords) (k0_t5 : Fin (k0_t5_loop i).trips) (k0_t8 : Fin (k0_t8_loop i).trips) : BitVec 1 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c12_i32 : BitVec 32 := 12#32
  let v483 : BitVec 32 := Scalar.addi v481 c12_i32
  let c96_i32_277 : BitVec 32 := 96#32
  let v484 : BitVec 1 := Scalar.cmpi .slt v483 c96_i32_277
  let v485 : BitVec 32 := Scalar.extui v484
  let c0_i32_278 : BitVec 32 := 0#32
  let v486 : BitVec 1 := Scalar.cmpi .ne v485 c0_i32_278
  v486

def k0_mult116 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c12_i32_349 : BitVec 32 := 12#32
  let v605 : BitVec 32 := Scalar.addi v481 c12_i32_349
  let c0_i32_353 : BitVec 32 := 0#32
  let v609 : BitVec 1 := Scalar.cmpi .sgt v605 c0_i32_353
  let v610 : BitVec 32 := Scalar.extui v609
  let c0_i32_354 : BitVec 32 := 0#32
  let v611 : BitVec 1 := Scalar.cmpi .slt v605 c0_i32_354
  let v612 : BitVec 32 := Scalar.extui v611
  let v613 : BitVec 32 := Scalar.subi v610 v612
  let c24_i32_352 : BitVec 32 := 24#32
  let c0_i32_355 : BitVec 32 := 0#32
  let v614 : BitVec 1 := Scalar.cmpi .sgt c24_i32_352 c0_i32_355
  let v615 : BitVec 32 := Scalar.extui v614
  let c0_i32_356 : BitVec 32 := 0#32
  let v616 : BitVec 1 := Scalar.cmpi .slt c24_i32_352 c0_i32_356
  let v617 : BitVec 32 := Scalar.extui v616
  let v618 : BitVec 32 := Scalar.subi v615 v617
  let v619 : BitVec 1 := Scalar.cmpi .ne v613 v618
  let v620 : BitVec 32 := Scalar.remsi v605 c24_i32_352
  let c0_i32_357 : BitVec 32 := 0#32
  let v621 : BitVec 1 := Scalar.cmpi .ne v620 c0_i32_357
  let v622 : BitVec 1 := Scalar.andi v619 v621
  let v608 : BitVec 32 := Scalar.divsi v605 c24_i32_352
  let c1_i32_358 : BitVec 32 := 1#32
  let v623 : BitVec 32 := Scalar.subi v608 c1_i32_358
  let v624 : BitVec 32 := Scalar.select v622 v623 v608
  let c24_i32_359 : BitVec 32 := 24#32
  let v625 : BitVec 32 := Scalar.muli v624 c24_i32_359
  let v626 : BitVec 32 := Scalar.subi v605 v625
  let c3136_i32_360 : BitVec 32 := 3136#32
  let v627 : BitVec 32 := Scalar.muli v626 c3136_i32_360
  v627
def k0_mult117 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c12_i32_349 : BitVec 32 := 12#32
  let v605 : BitVec 32 := Scalar.addi v481 c12_i32_349
  let c0_i32_353 : BitVec 32 := 0#32
  let v609 : BitVec 1 := Scalar.cmpi .sgt v605 c0_i32_353
  let v610 : BitVec 32 := Scalar.extui v609
  let c0_i32_354 : BitVec 32 := 0#32
  let v611 : BitVec 1 := Scalar.cmpi .slt v605 c0_i32_354
  let v612 : BitVec 32 := Scalar.extui v611
  let v613 : BitVec 32 := Scalar.subi v610 v612
  let c24_i32_352 : BitVec 32 := 24#32
  let c0_i32_355 : BitVec 32 := 0#32
  let v614 : BitVec 1 := Scalar.cmpi .sgt c24_i32_352 c0_i32_355
  let v615 : BitVec 32 := Scalar.extui v614
  let c0_i32_356 : BitVec 32 := 0#32
  let v616 : BitVec 1 := Scalar.cmpi .slt c24_i32_352 c0_i32_356
  let v617 : BitVec 32 := Scalar.extui v616
  let v618 : BitVec 32 := Scalar.subi v615 v617
  let v619 : BitVec 1 := Scalar.cmpi .ne v613 v618
  let v620 : BitVec 32 := Scalar.remsi v605 c24_i32_352
  let c0_i32_357 : BitVec 32 := 0#32
  let v621 : BitVec 1 := Scalar.cmpi .ne v620 c0_i32_357
  let v622 : BitVec 1 := Scalar.andi v619 v621
  let v608 : BitVec 32 := Scalar.divsi v605 c24_i32_352
  let c1_i32_358 : BitVec 32 := 1#32
  let v623 : BitVec 32 := Scalar.subi v608 c1_i32_358
  let v624 : BitVec 32 := Scalar.select v622 v623 v608
  let c128_i32_361 : BitVec 32 := 128#32
  let v629 : BitVec 32 := Scalar.muli v624 c128_i32_361
  v629
def k0_mult118 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c12_i32_349 : BitVec 32 := 12#32
  let v605 : BitVec 32 := Scalar.addi v481 c12_i32_349
  let c0_i32_363 : BitVec 32 := 0#32
  let v632 : BitVec 1 := Scalar.cmpi .sgt v605 c0_i32_363
  let v633 : BitVec 32 := Scalar.extui v632
  let c0_i32_364 : BitVec 32 := 0#32
  let v634 : BitVec 1 := Scalar.cmpi .slt v605 c0_i32_364
  let v635 : BitVec 32 := Scalar.extui v634
  let v636 : BitVec 32 := Scalar.subi v633 v635
  let c24_i32_362 : BitVec 32 := 24#32
  let c0_i32_365 : BitVec 32 := 0#32
  let v637 : BitVec 1 := Scalar.cmpi .sgt c24_i32_362 c0_i32_365
  let v638 : BitVec 32 := Scalar.extui v637
  let c0_i32_366 : BitVec 32 := 0#32
  let v639 : BitVec 1 := Scalar.cmpi .slt c24_i32_362 c0_i32_366
  let v640 : BitVec 32 := Scalar.extui v639
  let v641 : BitVec 32 := Scalar.subi v638 v640
  let v642 : BitVec 1 := Scalar.cmpi .ne v636 v641
  let v643 : BitVec 32 := Scalar.remsi v605 c24_i32_362
  let c0_i32_367 : BitVec 32 := 0#32
  let v644 : BitVec 1 := Scalar.cmpi .ne v643 c0_i32_367
  let v645 : BitVec 1 := Scalar.andi v642 v644
  let v631 : BitVec 32 := Scalar.divsi v605 c24_i32_362
  let c1_i32_368 : BitVec 32 := 1#32
  let v646 : BitVec 32 := Scalar.subi v631 c1_i32_368
  let v647 : BitVec 32 := Scalar.select v645 v646 v631
  let c24_i32_369 : BitVec 32 := 24#32
  let v648 : BitVec 32 := Scalar.muli v647 c24_i32_369
  let v649 : BitVec 32 := Scalar.subi v605 v648
  let c3136_i32_370 : BitVec 32 := 3136#32
  let v650 : BitVec 32 := Scalar.muli v649 c3136_i32_370
  v650
def k0_mult119 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c12_i32_349 : BitVec 32 := 12#32
  let v605 : BitVec 32 := Scalar.addi v481 c12_i32_349
  let c0_i32_363 : BitVec 32 := 0#32
  let v632 : BitVec 1 := Scalar.cmpi .sgt v605 c0_i32_363
  let v633 : BitVec 32 := Scalar.extui v632
  let c0_i32_364 : BitVec 32 := 0#32
  let v634 : BitVec 1 := Scalar.cmpi .slt v605 c0_i32_364
  let v635 : BitVec 32 := Scalar.extui v634
  let v636 : BitVec 32 := Scalar.subi v633 v635
  let c24_i32_362 : BitVec 32 := 24#32
  let c0_i32_365 : BitVec 32 := 0#32
  let v637 : BitVec 1 := Scalar.cmpi .sgt c24_i32_362 c0_i32_365
  let v638 : BitVec 32 := Scalar.extui v637
  let c0_i32_366 : BitVec 32 := 0#32
  let v639 : BitVec 1 := Scalar.cmpi .slt c24_i32_362 c0_i32_366
  let v640 : BitVec 32 := Scalar.extui v639
  let v641 : BitVec 32 := Scalar.subi v638 v640
  let v642 : BitVec 1 := Scalar.cmpi .ne v636 v641
  let v643 : BitVec 32 := Scalar.remsi v605 c24_i32_362
  let c0_i32_367 : BitVec 32 := 0#32
  let v644 : BitVec 1 := Scalar.cmpi .ne v643 c0_i32_367
  let v645 : BitVec 1 := Scalar.andi v642 v644
  let v631 : BitVec 32 := Scalar.divsi v605 c24_i32_362
  let c1_i32_368 : BitVec 32 := 1#32
  let v646 : BitVec 32 := Scalar.subi v631 c1_i32_368
  let v647 : BitVec 32 := Scalar.select v645 v646 v631
  let c128_i32_371 : BitVec 32 := 128#32
  let v652 : BitVec 32 := Scalar.muli v647 c128_i32_371
  v652
def k0_mult120 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c12_i32_349 : BitVec 32 := 12#32
  let v605 : BitVec 32 := Scalar.addi v481 c12_i32_349
  let c0_i32_373 : BitVec 32 := 0#32
  let v655 : BitVec 1 := Scalar.cmpi .sgt v605 c0_i32_373
  let v656 : BitVec 32 := Scalar.extui v655
  let c0_i32_374 : BitVec 32 := 0#32
  let v657 : BitVec 1 := Scalar.cmpi .slt v605 c0_i32_374
  let v658 : BitVec 32 := Scalar.extui v657
  let v659 : BitVec 32 := Scalar.subi v656 v658
  let c24_i32_372 : BitVec 32 := 24#32
  let c0_i32_375 : BitVec 32 := 0#32
  let v660 : BitVec 1 := Scalar.cmpi .sgt c24_i32_372 c0_i32_375
  let v661 : BitVec 32 := Scalar.extui v660
  let c0_i32_376 : BitVec 32 := 0#32
  let v662 : BitVec 1 := Scalar.cmpi .slt c24_i32_372 c0_i32_376
  let v663 : BitVec 32 := Scalar.extui v662
  let v664 : BitVec 32 := Scalar.subi v661 v663
  let v665 : BitVec 1 := Scalar.cmpi .ne v659 v664
  let v666 : BitVec 32 := Scalar.remsi v605 c24_i32_372
  let c0_i32_377 : BitVec 32 := 0#32
  let v667 : BitVec 1 := Scalar.cmpi .ne v666 c0_i32_377
  let v668 : BitVec 1 := Scalar.andi v665 v667
  let v654 : BitVec 32 := Scalar.divsi v605 c24_i32_372
  let c1_i32_378 : BitVec 32 := 1#32
  let v669 : BitVec 32 := Scalar.subi v654 c1_i32_378
  let v670 : BitVec 32 := Scalar.select v668 v669 v654
  let c24_i32_379 : BitVec 32 := 24#32
  let v671 : BitVec 32 := Scalar.muli v670 c24_i32_379
  let v672 : BitVec 32 := Scalar.subi v605 v671
  let c3136_i32_380 : BitVec 32 := 3136#32
  let v673 : BitVec 32 := Scalar.muli v672 c3136_i32_380
  v673
def k0_mult121 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c12_i32_349 : BitVec 32 := 12#32
  let v605 : BitVec 32 := Scalar.addi v481 c12_i32_349
  let c0_i32_373 : BitVec 32 := 0#32
  let v655 : BitVec 1 := Scalar.cmpi .sgt v605 c0_i32_373
  let v656 : BitVec 32 := Scalar.extui v655
  let c0_i32_374 : BitVec 32 := 0#32
  let v657 : BitVec 1 := Scalar.cmpi .slt v605 c0_i32_374
  let v658 : BitVec 32 := Scalar.extui v657
  let v659 : BitVec 32 := Scalar.subi v656 v658
  let c24_i32_372 : BitVec 32 := 24#32
  let c0_i32_375 : BitVec 32 := 0#32
  let v660 : BitVec 1 := Scalar.cmpi .sgt c24_i32_372 c0_i32_375
  let v661 : BitVec 32 := Scalar.extui v660
  let c0_i32_376 : BitVec 32 := 0#32
  let v662 : BitVec 1 := Scalar.cmpi .slt c24_i32_372 c0_i32_376
  let v663 : BitVec 32 := Scalar.extui v662
  let v664 : BitVec 32 := Scalar.subi v661 v663
  let v665 : BitVec 1 := Scalar.cmpi .ne v659 v664
  let v666 : BitVec 32 := Scalar.remsi v605 c24_i32_372
  let c0_i32_377 : BitVec 32 := 0#32
  let v667 : BitVec 1 := Scalar.cmpi .ne v666 c0_i32_377
  let v668 : BitVec 1 := Scalar.andi v665 v667
  let v654 : BitVec 32 := Scalar.divsi v605 c24_i32_372
  let c1_i32_378 : BitVec 32 := 1#32
  let v669 : BitVec 32 := Scalar.subi v654 c1_i32_378
  let v670 : BitVec 32 := Scalar.select v668 v669 v654
  let c128_i32_381 : BitVec 32 := 128#32
  let v675 : BitVec 32 := Scalar.muli v670 c128_i32_381
  v675
def k0_off99 (i : grid0.Coords) (k0_t5 : Fin (k0_t5_loop i).trips) (k0_t8 : Fin (k0_t8_loop i).trips) : Fin 1 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c12_i32_349 : BitVec 32 := 12#32
  let v605 : BitVec 32 := Scalar.addi v481 c12_i32_349
  let c13_i32_351 : BitVec 32 := 13#32
  let v607 : BitVec 32 := Scalar.remsi v605 c13_i32_351
  ![v607.toNat]
def k0_off100 (i : grid0.Coords) (k0_t5 : Fin (k0_t5_loop i).trips) (k0_t8 : Fin (k0_t8_loop i).trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c12_i32_349 : BitVec 32 := 12#32
  let v605 : BitVec 32 := Scalar.addi v481 c12_i32_349
  let c37_i32_350 : BitVec 32 := 37#32
  let v606 : BitVec 32 := Scalar.remsi v605 c37_i32_350
  let c0_i32_382 : BitVec 32 := 0#32
  let c0_i32_383 : BitVec 32 := 0#32
  ![v606.toNat, 0, 0]
def k0_off101 (i : grid0.Coords) (k0_t5 : Fin (k0_t5_loop i).trips) (k0_t8 : Fin (k0_t8_loop i).trips) : Fin 2 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c12_i32_349 : BitVec 32 := 12#32
  let v605 : BitVec 32 := Scalar.addi v481 c12_i32_349
  let c0_i32_353 : BitVec 32 := 0#32
  let v609 : BitVec 1 := Scalar.cmpi .sgt v605 c0_i32_353
  let v610 : BitVec 32 := Scalar.extui v609
  let c0_i32_354 : BitVec 32 := 0#32
  let v611 : BitVec 1 := Scalar.cmpi .slt v605 c0_i32_354
  let v612 : BitVec 32 := Scalar.extui v611
  let v613 : BitVec 32 := Scalar.subi v610 v612
  let c24_i32_352 : BitVec 32 := 24#32
  let c0_i32_355 : BitVec 32 := 0#32
  let v614 : BitVec 1 := Scalar.cmpi .sgt c24_i32_352 c0_i32_355
  let v615 : BitVec 32 := Scalar.extui v614
  let c0_i32_356 : BitVec 32 := 0#32
  let v616 : BitVec 1 := Scalar.cmpi .slt c24_i32_352 c0_i32_356
  let v617 : BitVec 32 := Scalar.extui v616
  let v618 : BitVec 32 := Scalar.subi v615 v617
  let v619 : BitVec 1 := Scalar.cmpi .ne v613 v618
  let v620 : BitVec 32 := Scalar.remsi v605 c24_i32_352
  let c0_i32_357 : BitVec 32 := 0#32
  let v621 : BitVec 1 := Scalar.cmpi .ne v620 c0_i32_357
  let v622 : BitVec 1 := Scalar.andi v619 v621
  let v608 : BitVec 32 := Scalar.divsi v605 c24_i32_352
  let c1_i32_358 : BitVec 32 := 1#32
  let v623 : BitVec 32 := Scalar.subi v608 c1_i32_358
  let v624 : BitVec 32 := Scalar.select v622 v623 v608
  let c24_i32_359 : BitVec 32 := 24#32
  let v625 : BitVec 32 := Scalar.muli v624 c24_i32_359
  let v626 : BitVec 32 := Scalar.subi v605 v625
  let c3136_i32_360 : BitVec 32 := 3136#32
  let v627 : BitVec 32 := Scalar.muli v626 c3136_i32_360
  let v628 : BitVec 32 := v627
  let c128_i32_361 : BitVec 32 := 128#32
  let v629 : BitVec 32 := Scalar.muli v624 c128_i32_361
  let v630 : BitVec 32 := v629
  ![v628.toNat, v630.toNat]
def k0_off102 (i : grid0.Coords) (k0_t5 : Fin (k0_t5_loop i).trips) (k0_t8 : Fin (k0_t8_loop i).trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c12_i32_349 : BitVec 32 := 12#32
  let v605 : BitVec 32 := Scalar.addi v481 c12_i32_349
  let c13_i32_351 : BitVec 32 := 13#32
  let v607 : BitVec 32 := Scalar.remsi v605 c13_i32_351
  let c0_i32_384 : BitVec 32 := 0#32
  let c0_i32_385 : BitVec 32 := 0#32
  ![v607.toNat, 0, 0]
def k0_mult122 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c0_i32_282 : BitVec 32 := 0#32
  let v490 : BitVec 1 := Scalar.cmpi .sgt v481 c0_i32_282
  let v491 : BitVec 32 := Scalar.extui v490
  let c0_i32_283 : BitVec 32 := 0#32
  let v492 : BitVec 1 := Scalar.cmpi .slt v481 c0_i32_283
  let v493 : BitVec 32 := Scalar.extui v492
  let v494 : BitVec 32 := Scalar.subi v491 v493
  let c24_i32_281 : BitVec 32 := 24#32
  let c0_i32_284 : BitVec 32 := 0#32
  let v495 : BitVec 1 := Scalar.cmpi .sgt c24_i32_281 c0_i32_284
  let v496 : BitVec 32 := Scalar.extui v495
  let c0_i32_285 : BitVec 32 := 0#32
  let v497 : BitVec 1 := Scalar.cmpi .slt c24_i32_281 c0_i32_285
  let v498 : BitVec 32 := Scalar.extui v497
  let v499 : BitVec 32 := Scalar.subi v496 v498
  let v500 : BitVec 1 := Scalar.cmpi .ne v494 v499
  let v501 : BitVec 32 := Scalar.remsi v481 c24_i32_281
  let c0_i32_286 : BitVec 32 := 0#32
  let v502 : BitVec 1 := Scalar.cmpi .ne v501 c0_i32_286
  let v503 : BitVec 1 := Scalar.andi v500 v502
  let v489 : BitVec 32 := Scalar.divsi v481 c24_i32_281
  let c1_i32_287 : BitVec 32 := 1#32
  let v504 : BitVec 32 := Scalar.subi v489 c1_i32_287
  let v505 : BitVec 32 := Scalar.select v503 v504 v489
  let c24_i32_288 : BitVec 32 := 24#32
  let v506 : BitVec 32 := Scalar.muli v505 c24_i32_288
  let v507 : BitVec 32 := Scalar.subi v481 v506
  let c3136_i32_289 : BitVec 32 := 3136#32
  let v508 : BitVec 32 := Scalar.muli v507 c3136_i32_289
  v508
def k0_mult123 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c0_i32_282 : BitVec 32 := 0#32
  let v490 : BitVec 1 := Scalar.cmpi .sgt v481 c0_i32_282
  let v491 : BitVec 32 := Scalar.extui v490
  let c0_i32_283 : BitVec 32 := 0#32
  let v492 : BitVec 1 := Scalar.cmpi .slt v481 c0_i32_283
  let v493 : BitVec 32 := Scalar.extui v492
  let v494 : BitVec 32 := Scalar.subi v491 v493
  let c24_i32_281 : BitVec 32 := 24#32
  let c0_i32_284 : BitVec 32 := 0#32
  let v495 : BitVec 1 := Scalar.cmpi .sgt c24_i32_281 c0_i32_284
  let v496 : BitVec 32 := Scalar.extui v495
  let c0_i32_285 : BitVec 32 := 0#32
  let v497 : BitVec 1 := Scalar.cmpi .slt c24_i32_281 c0_i32_285
  let v498 : BitVec 32 := Scalar.extui v497
  let v499 : BitVec 32 := Scalar.subi v496 v498
  let v500 : BitVec 1 := Scalar.cmpi .ne v494 v499
  let v501 : BitVec 32 := Scalar.remsi v481 c24_i32_281
  let c0_i32_286 : BitVec 32 := 0#32
  let v502 : BitVec 1 := Scalar.cmpi .ne v501 c0_i32_286
  let v503 : BitVec 1 := Scalar.andi v500 v502
  let v489 : BitVec 32 := Scalar.divsi v481 c24_i32_281
  let c1_i32_287 : BitVec 32 := 1#32
  let v504 : BitVec 32 := Scalar.subi v489 c1_i32_287
  let v505 : BitVec 32 := Scalar.select v503 v504 v489
  let c128_i32 : BitVec 32 := 128#32
  let v510 : BitVec 32 := Scalar.muli v505 c128_i32
  v510
def k0_mult124 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c0_i32_291 : BitVec 32 := 0#32
  let v513 : BitVec 1 := Scalar.cmpi .sgt v481 c0_i32_291
  let v514 : BitVec 32 := Scalar.extui v513
  let c0_i32_292 : BitVec 32 := 0#32
  let v515 : BitVec 1 := Scalar.cmpi .slt v481 c0_i32_292
  let v516 : BitVec 32 := Scalar.extui v515
  let v517 : BitVec 32 := Scalar.subi v514 v516
  let c24_i32_290 : BitVec 32 := 24#32
  let c0_i32_293 : BitVec 32 := 0#32
  let v518 : BitVec 1 := Scalar.cmpi .sgt c24_i32_290 c0_i32_293
  let v519 : BitVec 32 := Scalar.extui v518
  let c0_i32_294 : BitVec 32 := 0#32
  let v520 : BitVec 1 := Scalar.cmpi .slt c24_i32_290 c0_i32_294
  let v521 : BitVec 32 := Scalar.extui v520
  let v522 : BitVec 32 := Scalar.subi v519 v521
  let v523 : BitVec 1 := Scalar.cmpi .ne v517 v522
  let v524 : BitVec 32 := Scalar.remsi v481 c24_i32_290
  let c0_i32_295 : BitVec 32 := 0#32
  let v525 : BitVec 1 := Scalar.cmpi .ne v524 c0_i32_295
  let v526 : BitVec 1 := Scalar.andi v523 v525
  let v512 : BitVec 32 := Scalar.divsi v481 c24_i32_290
  let c1_i32_296 : BitVec 32 := 1#32
  let v527 : BitVec 32 := Scalar.subi v512 c1_i32_296
  let v528 : BitVec 32 := Scalar.select v526 v527 v512
  let c24_i32_297 : BitVec 32 := 24#32
  let v529 : BitVec 32 := Scalar.muli v528 c24_i32_297
  let v530 : BitVec 32 := Scalar.subi v481 v529
  let c3136_i32_298 : BitVec 32 := 3136#32
  let v531 : BitVec 32 := Scalar.muli v530 c3136_i32_298
  v531
def k0_mult125 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c0_i32_291 : BitVec 32 := 0#32
  let v513 : BitVec 1 := Scalar.cmpi .sgt v481 c0_i32_291
  let v514 : BitVec 32 := Scalar.extui v513
  let c0_i32_292 : BitVec 32 := 0#32
  let v515 : BitVec 1 := Scalar.cmpi .slt v481 c0_i32_292
  let v516 : BitVec 32 := Scalar.extui v515
  let v517 : BitVec 32 := Scalar.subi v514 v516
  let c24_i32_290 : BitVec 32 := 24#32
  let c0_i32_293 : BitVec 32 := 0#32
  let v518 : BitVec 1 := Scalar.cmpi .sgt c24_i32_290 c0_i32_293
  let v519 : BitVec 32 := Scalar.extui v518
  let c0_i32_294 : BitVec 32 := 0#32
  let v520 : BitVec 1 := Scalar.cmpi .slt c24_i32_290 c0_i32_294
  let v521 : BitVec 32 := Scalar.extui v520
  let v522 : BitVec 32 := Scalar.subi v519 v521
  let v523 : BitVec 1 := Scalar.cmpi .ne v517 v522
  let v524 : BitVec 32 := Scalar.remsi v481 c24_i32_290
  let c0_i32_295 : BitVec 32 := 0#32
  let v525 : BitVec 1 := Scalar.cmpi .ne v524 c0_i32_295
  let v526 : BitVec 1 := Scalar.andi v523 v525
  let v512 : BitVec 32 := Scalar.divsi v481 c24_i32_290
  let c1_i32_296 : BitVec 32 := 1#32
  let v527 : BitVec 32 := Scalar.subi v512 c1_i32_296
  let v528 : BitVec 32 := Scalar.select v526 v527 v512
  let c128_i32_299 : BitVec 32 := 128#32
  let v533 : BitVec 32 := Scalar.muli v528 c128_i32_299
  v533
def k0_mult126 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c0_i32_301 : BitVec 32 := 0#32
  let v536 : BitVec 1 := Scalar.cmpi .sgt v481 c0_i32_301
  let v537 : BitVec 32 := Scalar.extui v536
  let c0_i32_302 : BitVec 32 := 0#32
  let v538 : BitVec 1 := Scalar.cmpi .slt v481 c0_i32_302
  let v539 : BitVec 32 := Scalar.extui v538
  let v540 : BitVec 32 := Scalar.subi v537 v539
  let c24_i32_300 : BitVec 32 := 24#32
  let c0_i32_303 : BitVec 32 := 0#32
  let v541 : BitVec 1 := Scalar.cmpi .sgt c24_i32_300 c0_i32_303
  let v542 : BitVec 32 := Scalar.extui v541
  let c0_i32_304 : BitVec 32 := 0#32
  let v543 : BitVec 1 := Scalar.cmpi .slt c24_i32_300 c0_i32_304
  let v544 : BitVec 32 := Scalar.extui v543
  let v545 : BitVec 32 := Scalar.subi v542 v544
  let v546 : BitVec 1 := Scalar.cmpi .ne v540 v545
  let v547 : BitVec 32 := Scalar.remsi v481 c24_i32_300
  let c0_i32_305 : BitVec 32 := 0#32
  let v548 : BitVec 1 := Scalar.cmpi .ne v547 c0_i32_305
  let v549 : BitVec 1 := Scalar.andi v546 v548
  let v535 : BitVec 32 := Scalar.divsi v481 c24_i32_300
  let c1_i32_306 : BitVec 32 := 1#32
  let v550 : BitVec 32 := Scalar.subi v535 c1_i32_306
  let v551 : BitVec 32 := Scalar.select v549 v550 v535
  let c24_i32_307 : BitVec 32 := 24#32
  let v552 : BitVec 32 := Scalar.muli v551 c24_i32_307
  let v553 : BitVec 32 := Scalar.subi v481 v552
  let c3136_i32_308 : BitVec 32 := 3136#32
  let v554 : BitVec 32 := Scalar.muli v553 c3136_i32_308
  v554
def k0_mult127 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c0_i32_301 : BitVec 32 := 0#32
  let v536 : BitVec 1 := Scalar.cmpi .sgt v481 c0_i32_301
  let v537 : BitVec 32 := Scalar.extui v536
  let c0_i32_302 : BitVec 32 := 0#32
  let v538 : BitVec 1 := Scalar.cmpi .slt v481 c0_i32_302
  let v539 : BitVec 32 := Scalar.extui v538
  let v540 : BitVec 32 := Scalar.subi v537 v539
  let c24_i32_300 : BitVec 32 := 24#32
  let c0_i32_303 : BitVec 32 := 0#32
  let v541 : BitVec 1 := Scalar.cmpi .sgt c24_i32_300 c0_i32_303
  let v542 : BitVec 32 := Scalar.extui v541
  let c0_i32_304 : BitVec 32 := 0#32
  let v543 : BitVec 1 := Scalar.cmpi .slt c24_i32_300 c0_i32_304
  let v544 : BitVec 32 := Scalar.extui v543
  let v545 : BitVec 32 := Scalar.subi v542 v544
  let v546 : BitVec 1 := Scalar.cmpi .ne v540 v545
  let v547 : BitVec 32 := Scalar.remsi v481 c24_i32_300
  let c0_i32_305 : BitVec 32 := 0#32
  let v548 : BitVec 1 := Scalar.cmpi .ne v547 c0_i32_305
  let v549 : BitVec 1 := Scalar.andi v546 v548
  let v535 : BitVec 32 := Scalar.divsi v481 c24_i32_300
  let c1_i32_306 : BitVec 32 := 1#32
  let v550 : BitVec 32 := Scalar.subi v535 c1_i32_306
  let v551 : BitVec 32 := Scalar.select v549 v550 v535
  let c128_i32_309 : BitVec 32 := 128#32
  let v556 : BitVec 32 := Scalar.muli v551 c128_i32_309
  v556
def k0_off103 (i : grid0.Coords) (k0_t5 : Fin (k0_t5_loop i).trips) (k0_t8 : Fin (k0_t8_loop i).trips) : Fin 1 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c13_i32_280 : BitVec 32 := 13#32
  let v488 : BitVec 32 := Scalar.remsi v481 c13_i32_280
  ![v488.toNat]
def k0_off104 (i : grid0.Coords) (k0_t5 : Fin (k0_t5_loop i).trips) (k0_t8 : Fin (k0_t8_loop i).trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_279 : BitVec 32 := 37#32
  let v487 : BitVec 32 := Scalar.remsi v481 c37_i32_279
  let c0_i32_310 : BitVec 32 := 0#32
  let c0_i32_311 : BitVec 32 := 0#32
  ![v487.toNat, 0, 0]
def k0_off105 (i : grid0.Coords) (k0_t5 : Fin (k0_t5_loop i).trips) (k0_t8 : Fin (k0_t8_loop i).trips) : Fin 2 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c0_i32_282 : BitVec 32 := 0#32
  let v490 : BitVec 1 := Scalar.cmpi .sgt v481 c0_i32_282
  let v491 : BitVec 32 := Scalar.extui v490
  let c0_i32_283 : BitVec 32 := 0#32
  let v492 : BitVec 1 := Scalar.cmpi .slt v481 c0_i32_283
  let v493 : BitVec 32 := Scalar.extui v492
  let v494 : BitVec 32 := Scalar.subi v491 v493
  let c24_i32_281 : BitVec 32 := 24#32
  let c0_i32_284 : BitVec 32 := 0#32
  let v495 : BitVec 1 := Scalar.cmpi .sgt c24_i32_281 c0_i32_284
  let v496 : BitVec 32 := Scalar.extui v495
  let c0_i32_285 : BitVec 32 := 0#32
  let v497 : BitVec 1 := Scalar.cmpi .slt c24_i32_281 c0_i32_285
  let v498 : BitVec 32 := Scalar.extui v497
  let v499 : BitVec 32 := Scalar.subi v496 v498
  let v500 : BitVec 1 := Scalar.cmpi .ne v494 v499
  let v501 : BitVec 32 := Scalar.remsi v481 c24_i32_281
  let c0_i32_286 : BitVec 32 := 0#32
  let v502 : BitVec 1 := Scalar.cmpi .ne v501 c0_i32_286
  let v503 : BitVec 1 := Scalar.andi v500 v502
  let v489 : BitVec 32 := Scalar.divsi v481 c24_i32_281
  let c1_i32_287 : BitVec 32 := 1#32
  let v504 : BitVec 32 := Scalar.subi v489 c1_i32_287
  let v505 : BitVec 32 := Scalar.select v503 v504 v489
  let c24_i32_288 : BitVec 32 := 24#32
  let v506 : BitVec 32 := Scalar.muli v505 c24_i32_288
  let v507 : BitVec 32 := Scalar.subi v481 v506
  let c3136_i32_289 : BitVec 32 := 3136#32
  let v508 : BitVec 32 := Scalar.muli v507 c3136_i32_289
  let v509 : BitVec 32 := v508
  let c128_i32 : BitVec 32 := 128#32
  let v510 : BitVec 32 := Scalar.muli v505 c128_i32
  let v511 : BitVec 32 := v510
  ![v509.toNat, v511.toNat]
def k0_off106 (i : grid0.Coords) (k0_t5 : Fin (k0_t5_loop i).trips) (k0_t8 : Fin (k0_t8_loop i).trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c13_i32_280 : BitVec 32 := 13#32
  let v488 : BitVec 32 := Scalar.remsi v481 c13_i32_280
  let c0_i32_312 : BitVec 32 := 0#32
  let c0_i32_313 : BitVec 32 := 0#32
  ![v488.toNat, 0, 0]
def k0_cond7 (i : grid0.Coords) (k0_t5 : Fin (k0_t5_loop i).trips) (k0_t8 : Fin (k0_t8_loop i).trips) : BitVec 1 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_316 : BitVec 32 := 6#32
  let v573 : BitVec 1 := Scalar.cmpi .sge v482 c6_i32_316
  let v574 : BitVec 32 := Scalar.extui v573
  let c0_i32_317 : BitVec 32 := 0#32
  let v575 : BitVec 1 := Scalar.cmpi .ne v574 c0_i32_317
  v575

def k0_mult128 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  v626
def k0_mult129 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c128_i32_360 : BitVec 32 := 128#32
  let v628 : BitVec 32 := Scalar.muli v623 c128_i32_360
  v628
def k0_off107 (i : grid0.Coords) (k0_t5 : Fin (k0_t5_loop i).trips) (k0_t8 : Fin (k0_t8_loop i).trips) : Fin 1 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c6_i32_350 : BitVec 32 := 6#32
  let v606 : BitVec 32 := Scalar.remsi v605 c6_i32_350
  ![v606.toNat]
def k0_off108 (i : grid0.Coords) (k0_t5 : Fin (k0_t5_loop i).trips) (k0_t8 : Fin (k0_t8_loop i).trips) : Fin 2 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  let v627 : BitVec 32 := v626
  let c128_i32_360 : BitVec 32 := 128#32
  let v628 : BitVec 32 := Scalar.muli v623 c128_i32_360
  let v629 : BitVec 32 := v628
  ![v627.toNat, v629.toNat]
def k0_off109 (i : grid0.Coords) (k0_t5 : Fin (k0_t5_loop i).trips) (k0_t8 : Fin (k0_t8_loop i).trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c6_i32_350 : BitVec 32 := 6#32
  let v606 : BitVec 32 := Scalar.remsi v605 c6_i32_350
  let c0_i32_361 : BitVec 32 := 0#32
  let c0_i32_362 : BitVec 32 := 0#32
  ![v606.toNat, 0, 0]
@[reducible] def k0_t9_loop : Scf.Loop 32 :=
  let c0_i32_331 : BitVec 32 := 0#32
  let c7_i32_332 : BitVec 32 := 7#32
  let v588 : BitVec 32 := Scalar.addi c0_i32_331 c7_i32_332
  let c1_i32_333 : BitVec 32 := 1#32
  ⟨c0_i32_331, v588, c1_i32_333⟩
def k0_mult130 (k0_t9 : Fin k0_t9_loop.trips) : BitVec 32 :=
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  v605
def k0_off110 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_349 : BitVec 32 := 0#32
  ![v576.toNat, v606.toNat, 0]
def k0_off111 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c13_i32_319 : BitVec 32 := 13#32
  let v577 : BitVec 32 := Scalar.remsi v481 c13_i32_319
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_355 : BitVec 32 := 0#32
  ![v577.toNat, v606.toNat, 0]
def k0_off112 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c37_i32_322 : BitVec 32 := 37#32
  let v582 : BitVec 32 := Scalar.remsi v482 c37_i32_322
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_358 : BitVec 32 := 0#32
  ![v582.toNat, v606.toNat, 0]
def k0_off113 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_394 : BitVec 32 := 0#32
  ![v576.toNat, v606.toNat, 0]
def k0_off114 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_397 : BitVec 32 := 0#32
  ![v583.toNat, v606.toNat, 0]
def k0_off115 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_397 : BitVec 32 := 0#32
  ![v583.toNat, v606.toNat, 0]
def k0_off116 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_417 : BitVec 32 := 0#32
  ![v576.toNat, Nat.add v606.toNat 32, 0]
def k0_off117 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_420 : BitVec 32 := 0#32
  ![v583.toNat, Nat.add v606.toNat 32, 0]
def k0_off118 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_440 : BitVec 32 := 0#32
  ![v576.toNat, Nat.add v606.toNat 64, 0]
def k0_off119 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_443 : BitVec 32 := 0#32
  ![v583.toNat, Nat.add v606.toNat 64, 0]
def k0_off120 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_463 : BitVec 32 := 0#32
  ![v576.toNat, Nat.add v606.toNat 96, 0]
def k0_off121 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_466 : BitVec 32 := 0#32
  ![v583.toNat, Nat.add v606.toNat 96, 0]
def k0_off122 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_486 : BitVec 32 := 0#32
  ![v576.toNat, Nat.add v606.toNat 128, 0]
def k0_off123 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_489 : BitVec 32 := 0#32
  ![v583.toNat, Nat.add v606.toNat 128, 0]
def k0_off124 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_509 : BitVec 32 := 0#32
  ![v576.toNat, Nat.add v606.toNat 160, 0]
def k0_off125 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_512 : BitVec 32 := 0#32
  ![v583.toNat, Nat.add v606.toNat 160, 0]
def k0_off126 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_532 : BitVec 32 := 0#32
  ![v576.toNat, Nat.add v606.toNat 192, 0]
def k0_off127 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_535 : BitVec 32 := 0#32
  ![v583.toNat, Nat.add v606.toNat 192, 0]
def k0_off128 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_555 : BitVec 32 := 0#32
  ![v576.toNat, Nat.add v606.toNat 224, 0]
def k0_off129 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_558 : BitVec 32 := 0#32
  ![v583.toNat, Nat.add v606.toNat 224, 0]
def k0_off130 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_578 : BitVec 32 := 0#32
  ![v576.toNat, Nat.add v606.toNat 256, 0]
def k0_off131 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_581 : BitVec 32 := 0#32
  ![v583.toNat, Nat.add v606.toNat 256, 0]
def k0_off132 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_601 : BitVec 32 := 0#32
  ![v576.toNat, Nat.add v606.toNat 288, 0]
def k0_off133 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_604 : BitVec 32 := 0#32
  ![v583.toNat, Nat.add v606.toNat 288, 0]
def k0_off134 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_624 : BitVec 32 := 0#32
  ![v576.toNat, Nat.add v606.toNat 320, 0]
def k0_off135 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_627 : BitVec 32 := 0#32
  ![v583.toNat, Nat.add v606.toNat 320, 0]
def k0_off136 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_647 : BitVec 32 := 0#32
  ![v576.toNat, Nat.add v606.toNat 352, 0]
def k0_off137 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_650 : BitVec 32 := 0#32
  ![v583.toNat, Nat.add v606.toNat 352, 0]
def k0_off138 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_656 : BitVec 32 := 0#32
  ![v576.toNat, Nat.add v606.toNat 384, 0]
def k0_off139 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_659 : BitVec 32 := 0#32
  ![v583.toNat, Nat.add v606.toNat 384, 0]
def k0_off140 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_665 : BitVec 32 := 0#32
  ![v576.toNat, Nat.add v606.toNat 416, 0]
def k0_off141 (i : grid0.Coords) (k0_t5 : Fin (k0_t5_loop i).trips) (k0_t8 : Fin (k0_t8_loop i).trips) (k0_t9 : Fin k0_t9_loop.trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t9
  let c448_i32 : BitVec 32 := 448#32
  let v605 : BitVec 32 := Scalar.muli arg23 c448_i32
  let v606 : BitVec 32 := v605
  let c0_i32_668 : BitVec 32 := 0#32
  ![v583.toNat, Nat.add v606.toNat 416, 0]
def k0_cond8 (i : grid0.Coords) (k0_t5 : Fin (k0_t5_loop i).trips) (k0_t8 : Fin (k0_t8_loop i).trips) : BitVec 1 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c1_i32_347 : BitVec 32 := 1#32
  let v602 : BitVec 1 := Scalar.cmpi .sge v482 c1_i32_347
  let v603 : BitVec 32 := Scalar.extui v602
  let c0_i32_348 : BitVec 32 := 0#32
  let v604 : BitVec 1 := Scalar.cmpi .ne v603 c0_i32_348
  v604

def k0_mult131 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  v626
def k0_mult132 (i : grid0.Coords) (k0_t5 : Fin (k0_t5_loop i).trips) (k0_t8 : Fin (k0_t8_loop i).trips) : BitVec 32 :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c128_i32_360 : BitVec 32 := 128#32
  let v628 : BitVec 32 := Scalar.muli v623 c128_i32_360
  v628
def k0_off142 (i : grid0.Coords) (k0_t5 : Fin (k0_t5_loop i).trips) (k0_t8 : Fin (k0_t8_loop i).trips) : Fin 1 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c6_i32_350 : BitVec 32 := 6#32
  let v606 : BitVec 32 := Scalar.remsi v605 c6_i32_350
  ![v606.toNat]
def k0_off143 (i : grid0.Coords) (k0_t5 : Fin (k0_t5_loop i).trips) (k0_t8 : Fin (k0_t8_loop i).trips) : Fin 2 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  let v627 : BitVec 32 := v626
  let c128_i32_360 : BitVec 32 := 128#32
  let v628 : BitVec 32 := Scalar.muli v623 c128_i32_360
  let v629 : BitVec 32 := v628
  ![v627.toNat, v629.toNat]
def k0_off144 (i : grid0.Coords) (k0_t5 : Fin (k0_t5_loop i).trips) (k0_t8 : Fin (k0_t8_loop i).trips) : Fin 3 → Nat :=
  let arg0 : BitVec 32 := BitVec.ofNat 32 (i 0).val
  let c1_i32_173 : BitVec 32 := 1#32
  let v286 : BitVec 32 := Scalar.addi arg0 c1_i32_173
  let c1_i32_177 : BitVec 32 := 1#32
  let arg21 : BitVec 32 := Scf.iv v286 c1_i32_177 k0_t5
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t8
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c6_i32_350 : BitVec 32 := 6#32
  let v606 : BitVec 32 := Scalar.remsi v605 c6_i32_350
  let c0_i32_361 : BitVec 32 := 0#32
  let c0_i32_362 : BitVec 32 := 0#32
  ![v606.toNat, 0, 0]
@[reducible] def k0_t10_loop (i : grid0.Coords) : Scf.Loop 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let v289 : BitVec 32 := Scalar.addi v286 v288
  let c1_i32_178 : BitVec 32 := 1#32
  ⟨v292, v289, c1_i32_178⟩
def k0_off145 (i : grid0.Coords) (k0_t10 : Fin (k0_t10_loop i).trips) : Fin 2 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c1_i32_242 : BitVec 32 := 1#32
  let v412 : BitVec 32 := Scalar.subi arg21 c1_i32_242
  let v415 : Index := Scalar.indexCast v412
  let c0_245 : Index := 0#32
  ![v415.toNat, 0]
@[reducible] def k0_t11_loop (i : grid0.Coords) : Scf.Loop 32 :=
  let arg0 : BitVec 32 := BitVec.ofNat 32 (i 0).val
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_273 : BitVec 32 := 1#32
  ⟨arg0, v479, c1_i32_273⟩
def k0_cond9 (i : grid0.Coords) (k0_t10 : Fin (k0_t10_loop i).trips) (k0_t11 : Fin (k0_t11_loop i).trips) : BitVec 1 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c12_i32 : BitVec 32 := 12#32
  let v483 : BitVec 32 := Scalar.addi v481 c12_i32
  let c96_i32_277 : BitVec 32 := 96#32
  let v484 : BitVec 1 := Scalar.cmpi .slt v483 c96_i32_277
  let v485 : BitVec 32 := Scalar.extui v484
  let c0_i32_278 : BitVec 32 := 0#32
  let v486 : BitVec 1 := Scalar.cmpi .ne v485 c0_i32_278
  v486

def k0_mult133 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c12_i32_349 : BitVec 32 := 12#32
  let v605 : BitVec 32 := Scalar.addi v481 c12_i32_349
  let c0_i32_353 : BitVec 32 := 0#32
  let v609 : BitVec 1 := Scalar.cmpi .sgt v605 c0_i32_353
  let v610 : BitVec 32 := Scalar.extui v609
  let c0_i32_354 : BitVec 32 := 0#32
  let v611 : BitVec 1 := Scalar.cmpi .slt v605 c0_i32_354
  let v612 : BitVec 32 := Scalar.extui v611
  let v613 : BitVec 32 := Scalar.subi v610 v612
  let c24_i32_352 : BitVec 32 := 24#32
  let c0_i32_355 : BitVec 32 := 0#32
  let v614 : BitVec 1 := Scalar.cmpi .sgt c24_i32_352 c0_i32_355
  let v615 : BitVec 32 := Scalar.extui v614
  let c0_i32_356 : BitVec 32 := 0#32
  let v616 : BitVec 1 := Scalar.cmpi .slt c24_i32_352 c0_i32_356
  let v617 : BitVec 32 := Scalar.extui v616
  let v618 : BitVec 32 := Scalar.subi v615 v617
  let v619 : BitVec 1 := Scalar.cmpi .ne v613 v618
  let v620 : BitVec 32 := Scalar.remsi v605 c24_i32_352
  let c0_i32_357 : BitVec 32 := 0#32
  let v621 : BitVec 1 := Scalar.cmpi .ne v620 c0_i32_357
  let v622 : BitVec 1 := Scalar.andi v619 v621
  let v608 : BitVec 32 := Scalar.divsi v605 c24_i32_352
  let c1_i32_358 : BitVec 32 := 1#32
  let v623 : BitVec 32 := Scalar.subi v608 c1_i32_358
  let v624 : BitVec 32 := Scalar.select v622 v623 v608
  let c24_i32_359 : BitVec 32 := 24#32
  let v625 : BitVec 32 := Scalar.muli v624 c24_i32_359
  let v626 : BitVec 32 := Scalar.subi v605 v625
  let c3136_i32_360 : BitVec 32 := 3136#32
  let v627 : BitVec 32 := Scalar.muli v626 c3136_i32_360
  v627
def k0_mult134 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c12_i32_349 : BitVec 32 := 12#32
  let v605 : BitVec 32 := Scalar.addi v481 c12_i32_349
  let c0_i32_353 : BitVec 32 := 0#32
  let v609 : BitVec 1 := Scalar.cmpi .sgt v605 c0_i32_353
  let v610 : BitVec 32 := Scalar.extui v609
  let c0_i32_354 : BitVec 32 := 0#32
  let v611 : BitVec 1 := Scalar.cmpi .slt v605 c0_i32_354
  let v612 : BitVec 32 := Scalar.extui v611
  let v613 : BitVec 32 := Scalar.subi v610 v612
  let c24_i32_352 : BitVec 32 := 24#32
  let c0_i32_355 : BitVec 32 := 0#32
  let v614 : BitVec 1 := Scalar.cmpi .sgt c24_i32_352 c0_i32_355
  let v615 : BitVec 32 := Scalar.extui v614
  let c0_i32_356 : BitVec 32 := 0#32
  let v616 : BitVec 1 := Scalar.cmpi .slt c24_i32_352 c0_i32_356
  let v617 : BitVec 32 := Scalar.extui v616
  let v618 : BitVec 32 := Scalar.subi v615 v617
  let v619 : BitVec 1 := Scalar.cmpi .ne v613 v618
  let v620 : BitVec 32 := Scalar.remsi v605 c24_i32_352
  let c0_i32_357 : BitVec 32 := 0#32
  let v621 : BitVec 1 := Scalar.cmpi .ne v620 c0_i32_357
  let v622 : BitVec 1 := Scalar.andi v619 v621
  let v608 : BitVec 32 := Scalar.divsi v605 c24_i32_352
  let c1_i32_358 : BitVec 32 := 1#32
  let v623 : BitVec 32 := Scalar.subi v608 c1_i32_358
  let v624 : BitVec 32 := Scalar.select v622 v623 v608
  let c128_i32_361 : BitVec 32 := 128#32
  let v629 : BitVec 32 := Scalar.muli v624 c128_i32_361
  v629
def k0_mult135 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c12_i32_349 : BitVec 32 := 12#32
  let v605 : BitVec 32 := Scalar.addi v481 c12_i32_349
  let c0_i32_363 : BitVec 32 := 0#32
  let v632 : BitVec 1 := Scalar.cmpi .sgt v605 c0_i32_363
  let v633 : BitVec 32 := Scalar.extui v632
  let c0_i32_364 : BitVec 32 := 0#32
  let v634 : BitVec 1 := Scalar.cmpi .slt v605 c0_i32_364
  let v635 : BitVec 32 := Scalar.extui v634
  let v636 : BitVec 32 := Scalar.subi v633 v635
  let c24_i32_362 : BitVec 32 := 24#32
  let c0_i32_365 : BitVec 32 := 0#32
  let v637 : BitVec 1 := Scalar.cmpi .sgt c24_i32_362 c0_i32_365
  let v638 : BitVec 32 := Scalar.extui v637
  let c0_i32_366 : BitVec 32 := 0#32
  let v639 : BitVec 1 := Scalar.cmpi .slt c24_i32_362 c0_i32_366
  let v640 : BitVec 32 := Scalar.extui v639
  let v641 : BitVec 32 := Scalar.subi v638 v640
  let v642 : BitVec 1 := Scalar.cmpi .ne v636 v641
  let v643 : BitVec 32 := Scalar.remsi v605 c24_i32_362
  let c0_i32_367 : BitVec 32 := 0#32
  let v644 : BitVec 1 := Scalar.cmpi .ne v643 c0_i32_367
  let v645 : BitVec 1 := Scalar.andi v642 v644
  let v631 : BitVec 32 := Scalar.divsi v605 c24_i32_362
  let c1_i32_368 : BitVec 32 := 1#32
  let v646 : BitVec 32 := Scalar.subi v631 c1_i32_368
  let v647 : BitVec 32 := Scalar.select v645 v646 v631
  let c24_i32_369 : BitVec 32 := 24#32
  let v648 : BitVec 32 := Scalar.muli v647 c24_i32_369
  let v649 : BitVec 32 := Scalar.subi v605 v648
  let c3136_i32_370 : BitVec 32 := 3136#32
  let v650 : BitVec 32 := Scalar.muli v649 c3136_i32_370
  v650
def k0_mult136 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c12_i32_349 : BitVec 32 := 12#32
  let v605 : BitVec 32 := Scalar.addi v481 c12_i32_349
  let c0_i32_363 : BitVec 32 := 0#32
  let v632 : BitVec 1 := Scalar.cmpi .sgt v605 c0_i32_363
  let v633 : BitVec 32 := Scalar.extui v632
  let c0_i32_364 : BitVec 32 := 0#32
  let v634 : BitVec 1 := Scalar.cmpi .slt v605 c0_i32_364
  let v635 : BitVec 32 := Scalar.extui v634
  let v636 : BitVec 32 := Scalar.subi v633 v635
  let c24_i32_362 : BitVec 32 := 24#32
  let c0_i32_365 : BitVec 32 := 0#32
  let v637 : BitVec 1 := Scalar.cmpi .sgt c24_i32_362 c0_i32_365
  let v638 : BitVec 32 := Scalar.extui v637
  let c0_i32_366 : BitVec 32 := 0#32
  let v639 : BitVec 1 := Scalar.cmpi .slt c24_i32_362 c0_i32_366
  let v640 : BitVec 32 := Scalar.extui v639
  let v641 : BitVec 32 := Scalar.subi v638 v640
  let v642 : BitVec 1 := Scalar.cmpi .ne v636 v641
  let v643 : BitVec 32 := Scalar.remsi v605 c24_i32_362
  let c0_i32_367 : BitVec 32 := 0#32
  let v644 : BitVec 1 := Scalar.cmpi .ne v643 c0_i32_367
  let v645 : BitVec 1 := Scalar.andi v642 v644
  let v631 : BitVec 32 := Scalar.divsi v605 c24_i32_362
  let c1_i32_368 : BitVec 32 := 1#32
  let v646 : BitVec 32 := Scalar.subi v631 c1_i32_368
  let v647 : BitVec 32 := Scalar.select v645 v646 v631
  let c128_i32_371 : BitVec 32 := 128#32
  let v652 : BitVec 32 := Scalar.muli v647 c128_i32_371
  v652
def k0_mult137 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c12_i32_349 : BitVec 32 := 12#32
  let v605 : BitVec 32 := Scalar.addi v481 c12_i32_349
  let c0_i32_373 : BitVec 32 := 0#32
  let v655 : BitVec 1 := Scalar.cmpi .sgt v605 c0_i32_373
  let v656 : BitVec 32 := Scalar.extui v655
  let c0_i32_374 : BitVec 32 := 0#32
  let v657 : BitVec 1 := Scalar.cmpi .slt v605 c0_i32_374
  let v658 : BitVec 32 := Scalar.extui v657
  let v659 : BitVec 32 := Scalar.subi v656 v658
  let c24_i32_372 : BitVec 32 := 24#32
  let c0_i32_375 : BitVec 32 := 0#32
  let v660 : BitVec 1 := Scalar.cmpi .sgt c24_i32_372 c0_i32_375
  let v661 : BitVec 32 := Scalar.extui v660
  let c0_i32_376 : BitVec 32 := 0#32
  let v662 : BitVec 1 := Scalar.cmpi .slt c24_i32_372 c0_i32_376
  let v663 : BitVec 32 := Scalar.extui v662
  let v664 : BitVec 32 := Scalar.subi v661 v663
  let v665 : BitVec 1 := Scalar.cmpi .ne v659 v664
  let v666 : BitVec 32 := Scalar.remsi v605 c24_i32_372
  let c0_i32_377 : BitVec 32 := 0#32
  let v667 : BitVec 1 := Scalar.cmpi .ne v666 c0_i32_377
  let v668 : BitVec 1 := Scalar.andi v665 v667
  let v654 : BitVec 32 := Scalar.divsi v605 c24_i32_372
  let c1_i32_378 : BitVec 32 := 1#32
  let v669 : BitVec 32 := Scalar.subi v654 c1_i32_378
  let v670 : BitVec 32 := Scalar.select v668 v669 v654
  let c24_i32_379 : BitVec 32 := 24#32
  let v671 : BitVec 32 := Scalar.muli v670 c24_i32_379
  let v672 : BitVec 32 := Scalar.subi v605 v671
  let c3136_i32_380 : BitVec 32 := 3136#32
  let v673 : BitVec 32 := Scalar.muli v672 c3136_i32_380
  v673
def k0_mult138 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c12_i32_349 : BitVec 32 := 12#32
  let v605 : BitVec 32 := Scalar.addi v481 c12_i32_349
  let c0_i32_373 : BitVec 32 := 0#32
  let v655 : BitVec 1 := Scalar.cmpi .sgt v605 c0_i32_373
  let v656 : BitVec 32 := Scalar.extui v655
  let c0_i32_374 : BitVec 32 := 0#32
  let v657 : BitVec 1 := Scalar.cmpi .slt v605 c0_i32_374
  let v658 : BitVec 32 := Scalar.extui v657
  let v659 : BitVec 32 := Scalar.subi v656 v658
  let c24_i32_372 : BitVec 32 := 24#32
  let c0_i32_375 : BitVec 32 := 0#32
  let v660 : BitVec 1 := Scalar.cmpi .sgt c24_i32_372 c0_i32_375
  let v661 : BitVec 32 := Scalar.extui v660
  let c0_i32_376 : BitVec 32 := 0#32
  let v662 : BitVec 1 := Scalar.cmpi .slt c24_i32_372 c0_i32_376
  let v663 : BitVec 32 := Scalar.extui v662
  let v664 : BitVec 32 := Scalar.subi v661 v663
  let v665 : BitVec 1 := Scalar.cmpi .ne v659 v664
  let v666 : BitVec 32 := Scalar.remsi v605 c24_i32_372
  let c0_i32_377 : BitVec 32 := 0#32
  let v667 : BitVec 1 := Scalar.cmpi .ne v666 c0_i32_377
  let v668 : BitVec 1 := Scalar.andi v665 v667
  let v654 : BitVec 32 := Scalar.divsi v605 c24_i32_372
  let c1_i32_378 : BitVec 32 := 1#32
  let v669 : BitVec 32 := Scalar.subi v654 c1_i32_378
  let v670 : BitVec 32 := Scalar.select v668 v669 v654
  let c128_i32_381 : BitVec 32 := 128#32
  let v675 : BitVec 32 := Scalar.muli v670 c128_i32_381
  v675
def k0_off146 (i : grid0.Coords) (k0_t10 : Fin (k0_t10_loop i).trips) (k0_t11 : Fin (k0_t11_loop i).trips) : Fin 1 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c12_i32_349 : BitVec 32 := 12#32
  let v605 : BitVec 32 := Scalar.addi v481 c12_i32_349
  let c13_i32_351 : BitVec 32 := 13#32
  let v607 : BitVec 32 := Scalar.remsi v605 c13_i32_351
  ![v607.toNat]
def k0_off147 (i : grid0.Coords) (k0_t10 : Fin (k0_t10_loop i).trips) (k0_t11 : Fin (k0_t11_loop i).trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c12_i32_349 : BitVec 32 := 12#32
  let v605 : BitVec 32 := Scalar.addi v481 c12_i32_349
  let c37_i32_350 : BitVec 32 := 37#32
  let v606 : BitVec 32 := Scalar.remsi v605 c37_i32_350
  let c0_i32_382 : BitVec 32 := 0#32
  let c0_i32_383 : BitVec 32 := 0#32
  ![v606.toNat, 0, 0]
def k0_off148 (i : grid0.Coords) (k0_t10 : Fin (k0_t10_loop i).trips) (k0_t11 : Fin (k0_t11_loop i).trips) : Fin 2 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c12_i32_349 : BitVec 32 := 12#32
  let v605 : BitVec 32 := Scalar.addi v481 c12_i32_349
  let c0_i32_353 : BitVec 32 := 0#32
  let v609 : BitVec 1 := Scalar.cmpi .sgt v605 c0_i32_353
  let v610 : BitVec 32 := Scalar.extui v609
  let c0_i32_354 : BitVec 32 := 0#32
  let v611 : BitVec 1 := Scalar.cmpi .slt v605 c0_i32_354
  let v612 : BitVec 32 := Scalar.extui v611
  let v613 : BitVec 32 := Scalar.subi v610 v612
  let c24_i32_352 : BitVec 32 := 24#32
  let c0_i32_355 : BitVec 32 := 0#32
  let v614 : BitVec 1 := Scalar.cmpi .sgt c24_i32_352 c0_i32_355
  let v615 : BitVec 32 := Scalar.extui v614
  let c0_i32_356 : BitVec 32 := 0#32
  let v616 : BitVec 1 := Scalar.cmpi .slt c24_i32_352 c0_i32_356
  let v617 : BitVec 32 := Scalar.extui v616
  let v618 : BitVec 32 := Scalar.subi v615 v617
  let v619 : BitVec 1 := Scalar.cmpi .ne v613 v618
  let v620 : BitVec 32 := Scalar.remsi v605 c24_i32_352
  let c0_i32_357 : BitVec 32 := 0#32
  let v621 : BitVec 1 := Scalar.cmpi .ne v620 c0_i32_357
  let v622 : BitVec 1 := Scalar.andi v619 v621
  let v608 : BitVec 32 := Scalar.divsi v605 c24_i32_352
  let c1_i32_358 : BitVec 32 := 1#32
  let v623 : BitVec 32 := Scalar.subi v608 c1_i32_358
  let v624 : BitVec 32 := Scalar.select v622 v623 v608
  let c24_i32_359 : BitVec 32 := 24#32
  let v625 : BitVec 32 := Scalar.muli v624 c24_i32_359
  let v626 : BitVec 32 := Scalar.subi v605 v625
  let c3136_i32_360 : BitVec 32 := 3136#32
  let v627 : BitVec 32 := Scalar.muli v626 c3136_i32_360
  let v628 : BitVec 32 := v627
  let c128_i32_361 : BitVec 32 := 128#32
  let v629 : BitVec 32 := Scalar.muli v624 c128_i32_361
  let v630 : BitVec 32 := v629
  ![v628.toNat, v630.toNat]
def k0_off149 (i : grid0.Coords) (k0_t10 : Fin (k0_t10_loop i).trips) (k0_t11 : Fin (k0_t11_loop i).trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c12_i32_349 : BitVec 32 := 12#32
  let v605 : BitVec 32 := Scalar.addi v481 c12_i32_349
  let c13_i32_351 : BitVec 32 := 13#32
  let v607 : BitVec 32 := Scalar.remsi v605 c13_i32_351
  let c0_i32_384 : BitVec 32 := 0#32
  let c0_i32_385 : BitVec 32 := 0#32
  ![v607.toNat, 0, 0]
def k0_mult139 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c0_i32_282 : BitVec 32 := 0#32
  let v490 : BitVec 1 := Scalar.cmpi .sgt v481 c0_i32_282
  let v491 : BitVec 32 := Scalar.extui v490
  let c0_i32_283 : BitVec 32 := 0#32
  let v492 : BitVec 1 := Scalar.cmpi .slt v481 c0_i32_283
  let v493 : BitVec 32 := Scalar.extui v492
  let v494 : BitVec 32 := Scalar.subi v491 v493
  let c24_i32_281 : BitVec 32 := 24#32
  let c0_i32_284 : BitVec 32 := 0#32
  let v495 : BitVec 1 := Scalar.cmpi .sgt c24_i32_281 c0_i32_284
  let v496 : BitVec 32 := Scalar.extui v495
  let c0_i32_285 : BitVec 32 := 0#32
  let v497 : BitVec 1 := Scalar.cmpi .slt c24_i32_281 c0_i32_285
  let v498 : BitVec 32 := Scalar.extui v497
  let v499 : BitVec 32 := Scalar.subi v496 v498
  let v500 : BitVec 1 := Scalar.cmpi .ne v494 v499
  let v501 : BitVec 32 := Scalar.remsi v481 c24_i32_281
  let c0_i32_286 : BitVec 32 := 0#32
  let v502 : BitVec 1 := Scalar.cmpi .ne v501 c0_i32_286
  let v503 : BitVec 1 := Scalar.andi v500 v502
  let v489 : BitVec 32 := Scalar.divsi v481 c24_i32_281
  let c1_i32_287 : BitVec 32 := 1#32
  let v504 : BitVec 32 := Scalar.subi v489 c1_i32_287
  let v505 : BitVec 32 := Scalar.select v503 v504 v489
  let c24_i32_288 : BitVec 32 := 24#32
  let v506 : BitVec 32 := Scalar.muli v505 c24_i32_288
  let v507 : BitVec 32 := Scalar.subi v481 v506
  let c3136_i32_289 : BitVec 32 := 3136#32
  let v508 : BitVec 32 := Scalar.muli v507 c3136_i32_289
  v508
def k0_mult140 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c0_i32_282 : BitVec 32 := 0#32
  let v490 : BitVec 1 := Scalar.cmpi .sgt v481 c0_i32_282
  let v491 : BitVec 32 := Scalar.extui v490
  let c0_i32_283 : BitVec 32 := 0#32
  let v492 : BitVec 1 := Scalar.cmpi .slt v481 c0_i32_283
  let v493 : BitVec 32 := Scalar.extui v492
  let v494 : BitVec 32 := Scalar.subi v491 v493
  let c24_i32_281 : BitVec 32 := 24#32
  let c0_i32_284 : BitVec 32 := 0#32
  let v495 : BitVec 1 := Scalar.cmpi .sgt c24_i32_281 c0_i32_284
  let v496 : BitVec 32 := Scalar.extui v495
  let c0_i32_285 : BitVec 32 := 0#32
  let v497 : BitVec 1 := Scalar.cmpi .slt c24_i32_281 c0_i32_285
  let v498 : BitVec 32 := Scalar.extui v497
  let v499 : BitVec 32 := Scalar.subi v496 v498
  let v500 : BitVec 1 := Scalar.cmpi .ne v494 v499
  let v501 : BitVec 32 := Scalar.remsi v481 c24_i32_281
  let c0_i32_286 : BitVec 32 := 0#32
  let v502 : BitVec 1 := Scalar.cmpi .ne v501 c0_i32_286
  let v503 : BitVec 1 := Scalar.andi v500 v502
  let v489 : BitVec 32 := Scalar.divsi v481 c24_i32_281
  let c1_i32_287 : BitVec 32 := 1#32
  let v504 : BitVec 32 := Scalar.subi v489 c1_i32_287
  let v505 : BitVec 32 := Scalar.select v503 v504 v489
  let c128_i32 : BitVec 32 := 128#32
  let v510 : BitVec 32 := Scalar.muli v505 c128_i32
  v510
def k0_mult141 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c0_i32_291 : BitVec 32 := 0#32
  let v513 : BitVec 1 := Scalar.cmpi .sgt v481 c0_i32_291
  let v514 : BitVec 32 := Scalar.extui v513
  let c0_i32_292 : BitVec 32 := 0#32
  let v515 : BitVec 1 := Scalar.cmpi .slt v481 c0_i32_292
  let v516 : BitVec 32 := Scalar.extui v515
  let v517 : BitVec 32 := Scalar.subi v514 v516
  let c24_i32_290 : BitVec 32 := 24#32
  let c0_i32_293 : BitVec 32 := 0#32
  let v518 : BitVec 1 := Scalar.cmpi .sgt c24_i32_290 c0_i32_293
  let v519 : BitVec 32 := Scalar.extui v518
  let c0_i32_294 : BitVec 32 := 0#32
  let v520 : BitVec 1 := Scalar.cmpi .slt c24_i32_290 c0_i32_294
  let v521 : BitVec 32 := Scalar.extui v520
  let v522 : BitVec 32 := Scalar.subi v519 v521
  let v523 : BitVec 1 := Scalar.cmpi .ne v517 v522
  let v524 : BitVec 32 := Scalar.remsi v481 c24_i32_290
  let c0_i32_295 : BitVec 32 := 0#32
  let v525 : BitVec 1 := Scalar.cmpi .ne v524 c0_i32_295
  let v526 : BitVec 1 := Scalar.andi v523 v525
  let v512 : BitVec 32 := Scalar.divsi v481 c24_i32_290
  let c1_i32_296 : BitVec 32 := 1#32
  let v527 : BitVec 32 := Scalar.subi v512 c1_i32_296
  let v528 : BitVec 32 := Scalar.select v526 v527 v512
  let c24_i32_297 : BitVec 32 := 24#32
  let v529 : BitVec 32 := Scalar.muli v528 c24_i32_297
  let v530 : BitVec 32 := Scalar.subi v481 v529
  let c3136_i32_298 : BitVec 32 := 3136#32
  let v531 : BitVec 32 := Scalar.muli v530 c3136_i32_298
  v531
def k0_mult142 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c0_i32_291 : BitVec 32 := 0#32
  let v513 : BitVec 1 := Scalar.cmpi .sgt v481 c0_i32_291
  let v514 : BitVec 32 := Scalar.extui v513
  let c0_i32_292 : BitVec 32 := 0#32
  let v515 : BitVec 1 := Scalar.cmpi .slt v481 c0_i32_292
  let v516 : BitVec 32 := Scalar.extui v515
  let v517 : BitVec 32 := Scalar.subi v514 v516
  let c24_i32_290 : BitVec 32 := 24#32
  let c0_i32_293 : BitVec 32 := 0#32
  let v518 : BitVec 1 := Scalar.cmpi .sgt c24_i32_290 c0_i32_293
  let v519 : BitVec 32 := Scalar.extui v518
  let c0_i32_294 : BitVec 32 := 0#32
  let v520 : BitVec 1 := Scalar.cmpi .slt c24_i32_290 c0_i32_294
  let v521 : BitVec 32 := Scalar.extui v520
  let v522 : BitVec 32 := Scalar.subi v519 v521
  let v523 : BitVec 1 := Scalar.cmpi .ne v517 v522
  let v524 : BitVec 32 := Scalar.remsi v481 c24_i32_290
  let c0_i32_295 : BitVec 32 := 0#32
  let v525 : BitVec 1 := Scalar.cmpi .ne v524 c0_i32_295
  let v526 : BitVec 1 := Scalar.andi v523 v525
  let v512 : BitVec 32 := Scalar.divsi v481 c24_i32_290
  let c1_i32_296 : BitVec 32 := 1#32
  let v527 : BitVec 32 := Scalar.subi v512 c1_i32_296
  let v528 : BitVec 32 := Scalar.select v526 v527 v512
  let c128_i32_299 : BitVec 32 := 128#32
  let v533 : BitVec 32 := Scalar.muli v528 c128_i32_299
  v533
def k0_mult143 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c0_i32_301 : BitVec 32 := 0#32
  let v536 : BitVec 1 := Scalar.cmpi .sgt v481 c0_i32_301
  let v537 : BitVec 32 := Scalar.extui v536
  let c0_i32_302 : BitVec 32 := 0#32
  let v538 : BitVec 1 := Scalar.cmpi .slt v481 c0_i32_302
  let v539 : BitVec 32 := Scalar.extui v538
  let v540 : BitVec 32 := Scalar.subi v537 v539
  let c24_i32_300 : BitVec 32 := 24#32
  let c0_i32_303 : BitVec 32 := 0#32
  let v541 : BitVec 1 := Scalar.cmpi .sgt c24_i32_300 c0_i32_303
  let v542 : BitVec 32 := Scalar.extui v541
  let c0_i32_304 : BitVec 32 := 0#32
  let v543 : BitVec 1 := Scalar.cmpi .slt c24_i32_300 c0_i32_304
  let v544 : BitVec 32 := Scalar.extui v543
  let v545 : BitVec 32 := Scalar.subi v542 v544
  let v546 : BitVec 1 := Scalar.cmpi .ne v540 v545
  let v547 : BitVec 32 := Scalar.remsi v481 c24_i32_300
  let c0_i32_305 : BitVec 32 := 0#32
  let v548 : BitVec 1 := Scalar.cmpi .ne v547 c0_i32_305
  let v549 : BitVec 1 := Scalar.andi v546 v548
  let v535 : BitVec 32 := Scalar.divsi v481 c24_i32_300
  let c1_i32_306 : BitVec 32 := 1#32
  let v550 : BitVec 32 := Scalar.subi v535 c1_i32_306
  let v551 : BitVec 32 := Scalar.select v549 v550 v535
  let c24_i32_307 : BitVec 32 := 24#32
  let v552 : BitVec 32 := Scalar.muli v551 c24_i32_307
  let v553 : BitVec 32 := Scalar.subi v481 v552
  let c3136_i32_308 : BitVec 32 := 3136#32
  let v554 : BitVec 32 := Scalar.muli v553 c3136_i32_308
  v554
def k0_mult144 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c0_i32_301 : BitVec 32 := 0#32
  let v536 : BitVec 1 := Scalar.cmpi .sgt v481 c0_i32_301
  let v537 : BitVec 32 := Scalar.extui v536
  let c0_i32_302 : BitVec 32 := 0#32
  let v538 : BitVec 1 := Scalar.cmpi .slt v481 c0_i32_302
  let v539 : BitVec 32 := Scalar.extui v538
  let v540 : BitVec 32 := Scalar.subi v537 v539
  let c24_i32_300 : BitVec 32 := 24#32
  let c0_i32_303 : BitVec 32 := 0#32
  let v541 : BitVec 1 := Scalar.cmpi .sgt c24_i32_300 c0_i32_303
  let v542 : BitVec 32 := Scalar.extui v541
  let c0_i32_304 : BitVec 32 := 0#32
  let v543 : BitVec 1 := Scalar.cmpi .slt c24_i32_300 c0_i32_304
  let v544 : BitVec 32 := Scalar.extui v543
  let v545 : BitVec 32 := Scalar.subi v542 v544
  let v546 : BitVec 1 := Scalar.cmpi .ne v540 v545
  let v547 : BitVec 32 := Scalar.remsi v481 c24_i32_300
  let c0_i32_305 : BitVec 32 := 0#32
  let v548 : BitVec 1 := Scalar.cmpi .ne v547 c0_i32_305
  let v549 : BitVec 1 := Scalar.andi v546 v548
  let v535 : BitVec 32 := Scalar.divsi v481 c24_i32_300
  let c1_i32_306 : BitVec 32 := 1#32
  let v550 : BitVec 32 := Scalar.subi v535 c1_i32_306
  let v551 : BitVec 32 := Scalar.select v549 v550 v535
  let c128_i32_309 : BitVec 32 := 128#32
  let v556 : BitVec 32 := Scalar.muli v551 c128_i32_309
  v556
def k0_off150 (i : grid0.Coords) (k0_t10 : Fin (k0_t10_loop i).trips) (k0_t11 : Fin (k0_t11_loop i).trips) : Fin 1 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c13_i32_280 : BitVec 32 := 13#32
  let v488 : BitVec 32 := Scalar.remsi v481 c13_i32_280
  ![v488.toNat]
def k0_off151 (i : grid0.Coords) (k0_t10 : Fin (k0_t10_loop i).trips) (k0_t11 : Fin (k0_t11_loop i).trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_279 : BitVec 32 := 37#32
  let v487 : BitVec 32 := Scalar.remsi v481 c37_i32_279
  let c0_i32_310 : BitVec 32 := 0#32
  let c0_i32_311 : BitVec 32 := 0#32
  ![v487.toNat, 0, 0]
def k0_off152 (i : grid0.Coords) (k0_t10 : Fin (k0_t10_loop i).trips) (k0_t11 : Fin (k0_t11_loop i).trips) : Fin 2 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c0_i32_282 : BitVec 32 := 0#32
  let v490 : BitVec 1 := Scalar.cmpi .sgt v481 c0_i32_282
  let v491 : BitVec 32 := Scalar.extui v490
  let c0_i32_283 : BitVec 32 := 0#32
  let v492 : BitVec 1 := Scalar.cmpi .slt v481 c0_i32_283
  let v493 : BitVec 32 := Scalar.extui v492
  let v494 : BitVec 32 := Scalar.subi v491 v493
  let c24_i32_281 : BitVec 32 := 24#32
  let c0_i32_284 : BitVec 32 := 0#32
  let v495 : BitVec 1 := Scalar.cmpi .sgt c24_i32_281 c0_i32_284
  let v496 : BitVec 32 := Scalar.extui v495
  let c0_i32_285 : BitVec 32 := 0#32
  let v497 : BitVec 1 := Scalar.cmpi .slt c24_i32_281 c0_i32_285
  let v498 : BitVec 32 := Scalar.extui v497
  let v499 : BitVec 32 := Scalar.subi v496 v498
  let v500 : BitVec 1 := Scalar.cmpi .ne v494 v499
  let v501 : BitVec 32 := Scalar.remsi v481 c24_i32_281
  let c0_i32_286 : BitVec 32 := 0#32
  let v502 : BitVec 1 := Scalar.cmpi .ne v501 c0_i32_286
  let v503 : BitVec 1 := Scalar.andi v500 v502
  let v489 : BitVec 32 := Scalar.divsi v481 c24_i32_281
  let c1_i32_287 : BitVec 32 := 1#32
  let v504 : BitVec 32 := Scalar.subi v489 c1_i32_287
  let v505 : BitVec 32 := Scalar.select v503 v504 v489
  let c24_i32_288 : BitVec 32 := 24#32
  let v506 : BitVec 32 := Scalar.muli v505 c24_i32_288
  let v507 : BitVec 32 := Scalar.subi v481 v506
  let c3136_i32_289 : BitVec 32 := 3136#32
  let v508 : BitVec 32 := Scalar.muli v507 c3136_i32_289
  let v509 : BitVec 32 := v508
  let c128_i32 : BitVec 32 := 128#32
  let v510 : BitVec 32 := Scalar.muli v505 c128_i32
  let v511 : BitVec 32 := v510
  ![v509.toNat, v511.toNat]
def k0_off153 (i : grid0.Coords) (k0_t10 : Fin (k0_t10_loop i).trips) (k0_t11 : Fin (k0_t11_loop i).trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c13_i32_280 : BitVec 32 := 13#32
  let v488 : BitVec 32 := Scalar.remsi v481 c13_i32_280
  let c0_i32_312 : BitVec 32 := 0#32
  let c0_i32_313 : BitVec 32 := 0#32
  ![v488.toNat, 0, 0]
def k0_cond10 (i : grid0.Coords) (k0_t10 : Fin (k0_t10_loop i).trips) (k0_t11 : Fin (k0_t11_loop i).trips) : BitVec 1 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_316 : BitVec 32 := 6#32
  let v573 : BitVec 1 := Scalar.cmpi .sge v482 c6_i32_316
  let v574 : BitVec 32 := Scalar.extui v573
  let c0_i32_317 : BitVec 32 := 0#32
  let v575 : BitVec 1 := Scalar.cmpi .ne v574 c0_i32_317
  v575

def k0_mult145 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  v626
def k0_mult146 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c128_i32_360 : BitVec 32 := 128#32
  let v628 : BitVec 32 := Scalar.muli v623 c128_i32_360
  v628
def k0_off154 (i : grid0.Coords) (k0_t10 : Fin (k0_t10_loop i).trips) (k0_t11 : Fin (k0_t11_loop i).trips) : Fin 1 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c6_i32_350 : BitVec 32 := 6#32
  let v606 : BitVec 32 := Scalar.remsi v605 c6_i32_350
  ![v606.toNat]
def k0_off155 (i : grid0.Coords) (k0_t10 : Fin (k0_t10_loop i).trips) (k0_t11 : Fin (k0_t11_loop i).trips) : Fin 2 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  let v627 : BitVec 32 := v626
  let c128_i32_360 : BitVec 32 := 128#32
  let v628 : BitVec 32 := Scalar.muli v623 c128_i32_360
  let v629 : BitVec 32 := v628
  ![v627.toNat, v629.toNat]
def k0_off156 (i : grid0.Coords) (k0_t10 : Fin (k0_t10_loop i).trips) (k0_t11 : Fin (k0_t11_loop i).trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c6_i32_350 : BitVec 32 := 6#32
  let v606 : BitVec 32 := Scalar.remsi v605 c6_i32_350
  let c0_i32_361 : BitVec 32 := 0#32
  let c0_i32_362 : BitVec 32 := 0#32
  ![v606.toNat, 0, 0]
@[reducible] def k0_t12_loop : Scf.Loop 32 :=
  let c0_i32_331 : BitVec 32 := 0#32
  let c7_i32_332 : BitVec 32 := 7#32
  let v588 : BitVec 32 := Scalar.addi c0_i32_331 c7_i32_332
  let c1_i32_333 : BitVec 32 := 1#32
  ⟨c0_i32_331, v588, c1_i32_333⟩
def k0_mult147 (k0_t12 : Fin k0_t12_loop.trips) : BitVec 32 :=
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  v605
def k0_off157 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_349 : BitVec 32 := 0#32
  ![v576.toNat, v606.toNat, 0]
def k0_off158 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c13_i32_319 : BitVec 32 := 13#32
  let v577 : BitVec 32 := Scalar.remsi v481 c13_i32_319
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_355 : BitVec 32 := 0#32
  ![v577.toNat, v606.toNat, 0]
def k0_off159 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c37_i32_322 : BitVec 32 := 37#32
  let v582 : BitVec 32 := Scalar.remsi v482 c37_i32_322
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_358 : BitVec 32 := 0#32
  ![v582.toNat, v606.toNat, 0]
def k0_off160 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_394 : BitVec 32 := 0#32
  ![v576.toNat, v606.toNat, 0]
def k0_off161 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_397 : BitVec 32 := 0#32
  ![v583.toNat, v606.toNat, 0]
def k0_off162 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_397 : BitVec 32 := 0#32
  ![v583.toNat, v606.toNat, 0]
def k0_off163 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_417 : BitVec 32 := 0#32
  ![v576.toNat, Nat.add v606.toNat 32, 0]
def k0_off164 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_420 : BitVec 32 := 0#32
  ![v583.toNat, Nat.add v606.toNat 32, 0]
def k0_off165 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_440 : BitVec 32 := 0#32
  ![v576.toNat, Nat.add v606.toNat 64, 0]
def k0_off166 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_443 : BitVec 32 := 0#32
  ![v583.toNat, Nat.add v606.toNat 64, 0]
def k0_off167 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_463 : BitVec 32 := 0#32
  ![v576.toNat, Nat.add v606.toNat 96, 0]
def k0_off168 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_466 : BitVec 32 := 0#32
  ![v583.toNat, Nat.add v606.toNat 96, 0]
def k0_off169 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_486 : BitVec 32 := 0#32
  ![v576.toNat, Nat.add v606.toNat 128, 0]
def k0_off170 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_489 : BitVec 32 := 0#32
  ![v583.toNat, Nat.add v606.toNat 128, 0]
def k0_off171 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_509 : BitVec 32 := 0#32
  ![v576.toNat, Nat.add v606.toNat 160, 0]
def k0_off172 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_512 : BitVec 32 := 0#32
  ![v583.toNat, Nat.add v606.toNat 160, 0]
def k0_off173 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_532 : BitVec 32 := 0#32
  ![v576.toNat, Nat.add v606.toNat 192, 0]
def k0_off174 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_535 : BitVec 32 := 0#32
  ![v583.toNat, Nat.add v606.toNat 192, 0]
def k0_off175 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_555 : BitVec 32 := 0#32
  ![v576.toNat, Nat.add v606.toNat 224, 0]
def k0_off176 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_558 : BitVec 32 := 0#32
  ![v583.toNat, Nat.add v606.toNat 224, 0]
def k0_off177 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_578 : BitVec 32 := 0#32
  ![v576.toNat, Nat.add v606.toNat 256, 0]
def k0_off178 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_581 : BitVec 32 := 0#32
  ![v583.toNat, Nat.add v606.toNat 256, 0]
def k0_off179 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_601 : BitVec 32 := 0#32
  ![v576.toNat, Nat.add v606.toNat 288, 0]
def k0_off180 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_604 : BitVec 32 := 0#32
  ![v583.toNat, Nat.add v606.toNat 288, 0]
def k0_off181 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_624 : BitVec 32 := 0#32
  ![v576.toNat, Nat.add v606.toNat 320, 0]
def k0_off182 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_627 : BitVec 32 := 0#32
  ![v583.toNat, Nat.add v606.toNat 320, 0]
def k0_off183 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_647 : BitVec 32 := 0#32
  ![v576.toNat, Nat.add v606.toNat 352, 0]
def k0_off184 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_650 : BitVec 32 := 0#32
  ![v583.toNat, Nat.add v606.toNat 352, 0]
def k0_off185 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_656 : BitVec 32 := 0#32
  ![v576.toNat, Nat.add v606.toNat 384, 0]
def k0_off186 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_659 : BitVec 32 := 0#32
  ![v583.toNat, Nat.add v606.toNat 384, 0]
def k0_off187 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_665 : BitVec 32 := 0#32
  ![v576.toNat, Nat.add v606.toNat 416, 0]
def k0_off188 (i : grid0.Coords) (k0_t10 : Fin (k0_t10_loop i).trips) (k0_t11 : Fin (k0_t11_loop i).trips) (k0_t12 : Fin k0_t12_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t12
  let c448_i32 : BitVec 32 := 448#32
  let v605 : BitVec 32 := Scalar.muli arg23 c448_i32
  let v606 : BitVec 32 := v605
  let c0_i32_668 : BitVec 32 := 0#32
  ![v583.toNat, Nat.add v606.toNat 416, 0]
def k0_cond11 (i : grid0.Coords) (k0_t10 : Fin (k0_t10_loop i).trips) (k0_t11 : Fin (k0_t11_loop i).trips) : BitVec 1 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c1_i32_347 : BitVec 32 := 1#32
  let v602 : BitVec 1 := Scalar.cmpi .sge v482 c1_i32_347
  let v603 : BitVec 32 := Scalar.extui v602
  let c0_i32_348 : BitVec 32 := 0#32
  let v604 : BitVec 1 := Scalar.cmpi .ne v603 c0_i32_348
  v604

def k0_mult148 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  v626
def k0_mult149 (i : grid0.Coords) (k0_t10 : Fin (k0_t10_loop i).trips) (k0_t11 : Fin (k0_t11_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c128_i32_360 : BitVec 32 := 128#32
  let v628 : BitVec 32 := Scalar.muli v623 c128_i32_360
  v628
def k0_off189 (i : grid0.Coords) (k0_t10 : Fin (k0_t10_loop i).trips) (k0_t11 : Fin (k0_t11_loop i).trips) : Fin 1 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c6_i32_350 : BitVec 32 := 6#32
  let v606 : BitVec 32 := Scalar.remsi v605 c6_i32_350
  ![v606.toNat]
def k0_off190 (i : grid0.Coords) (k0_t10 : Fin (k0_t10_loop i).trips) (k0_t11 : Fin (k0_t11_loop i).trips) : Fin 2 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  let v627 : BitVec 32 := v626
  let c128_i32_360 : BitVec 32 := 128#32
  let v628 : BitVec 32 := Scalar.muli v623 c128_i32_360
  let v629 : BitVec 32 := v628
  ![v627.toNat, v629.toNat]
def k0_off191 (i : grid0.Coords) (k0_t10 : Fin (k0_t10_loop i).trips) (k0_t11 : Fin (k0_t11_loop i).trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c1_i32_273 : BitVec 32 := 1#32
  let arg22 : BitVec 32 := Scf.iv arg0 c1_i32_273 k0_t11
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c6_i32_350 : BitVec 32 := 6#32
  let v606 : BitVec 32 := Scalar.remsi v605 c6_i32_350
  let c0_i32_361 : BitVec 32 := 0#32
  let c0_i32_362 : BitVec 32 := 0#32
  ![v606.toNat, 0, 0]
@[reducible] def k0_t13_loop (i : grid0.Coords) : Scf.Loop 32 :=
  let arg0 : BitVec 32 := BitVec.ofNat 32 (i 0).val
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let v476 : BitVec 32 := Scalar.addi arg0 v475
  let c1_i32_274 : BitVec 32 := 1#32
  ⟨v479, v476, c1_i32_274⟩
def k0_cond12 (i : grid0.Coords) (k0_t10 : Fin (k0_t10_loop i).trips) (k0_t13 : Fin (k0_t13_loop i).trips) : BitVec 1 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c12_i32 : BitVec 32 := 12#32
  let v483 : BitVec 32 := Scalar.addi v481 c12_i32
  let c96_i32_277 : BitVec 32 := 96#32
  let v484 : BitVec 1 := Scalar.cmpi .slt v483 c96_i32_277
  let v485 : BitVec 32 := Scalar.extui v484
  let c0_i32_278 : BitVec 32 := 0#32
  let v486 : BitVec 1 := Scalar.cmpi .ne v485 c0_i32_278
  v486

def k0_mult150 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c12_i32_349 : BitVec 32 := 12#32
  let v605 : BitVec 32 := Scalar.addi v481 c12_i32_349
  let c0_i32_353 : BitVec 32 := 0#32
  let v609 : BitVec 1 := Scalar.cmpi .sgt v605 c0_i32_353
  let v610 : BitVec 32 := Scalar.extui v609
  let c0_i32_354 : BitVec 32 := 0#32
  let v611 : BitVec 1 := Scalar.cmpi .slt v605 c0_i32_354
  let v612 : BitVec 32 := Scalar.extui v611
  let v613 : BitVec 32 := Scalar.subi v610 v612
  let c24_i32_352 : BitVec 32 := 24#32
  let c0_i32_355 : BitVec 32 := 0#32
  let v614 : BitVec 1 := Scalar.cmpi .sgt c24_i32_352 c0_i32_355
  let v615 : BitVec 32 := Scalar.extui v614
  let c0_i32_356 : BitVec 32 := 0#32
  let v616 : BitVec 1 := Scalar.cmpi .slt c24_i32_352 c0_i32_356
  let v617 : BitVec 32 := Scalar.extui v616
  let v618 : BitVec 32 := Scalar.subi v615 v617
  let v619 : BitVec 1 := Scalar.cmpi .ne v613 v618
  let v620 : BitVec 32 := Scalar.remsi v605 c24_i32_352
  let c0_i32_357 : BitVec 32 := 0#32
  let v621 : BitVec 1 := Scalar.cmpi .ne v620 c0_i32_357
  let v622 : BitVec 1 := Scalar.andi v619 v621
  let v608 : BitVec 32 := Scalar.divsi v605 c24_i32_352
  let c1_i32_358 : BitVec 32 := 1#32
  let v623 : BitVec 32 := Scalar.subi v608 c1_i32_358
  let v624 : BitVec 32 := Scalar.select v622 v623 v608
  let c24_i32_359 : BitVec 32 := 24#32
  let v625 : BitVec 32 := Scalar.muli v624 c24_i32_359
  let v626 : BitVec 32 := Scalar.subi v605 v625
  let c3136_i32_360 : BitVec 32 := 3136#32
  let v627 : BitVec 32 := Scalar.muli v626 c3136_i32_360
  v627
def k0_mult151 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c12_i32_349 : BitVec 32 := 12#32
  let v605 : BitVec 32 := Scalar.addi v481 c12_i32_349
  let c0_i32_353 : BitVec 32 := 0#32
  let v609 : BitVec 1 := Scalar.cmpi .sgt v605 c0_i32_353
  let v610 : BitVec 32 := Scalar.extui v609
  let c0_i32_354 : BitVec 32 := 0#32
  let v611 : BitVec 1 := Scalar.cmpi .slt v605 c0_i32_354
  let v612 : BitVec 32 := Scalar.extui v611
  let v613 : BitVec 32 := Scalar.subi v610 v612
  let c24_i32_352 : BitVec 32 := 24#32
  let c0_i32_355 : BitVec 32 := 0#32
  let v614 : BitVec 1 := Scalar.cmpi .sgt c24_i32_352 c0_i32_355
  let v615 : BitVec 32 := Scalar.extui v614
  let c0_i32_356 : BitVec 32 := 0#32
  let v616 : BitVec 1 := Scalar.cmpi .slt c24_i32_352 c0_i32_356
  let v617 : BitVec 32 := Scalar.extui v616
  let v618 : BitVec 32 := Scalar.subi v615 v617
  let v619 : BitVec 1 := Scalar.cmpi .ne v613 v618
  let v620 : BitVec 32 := Scalar.remsi v605 c24_i32_352
  let c0_i32_357 : BitVec 32 := 0#32
  let v621 : BitVec 1 := Scalar.cmpi .ne v620 c0_i32_357
  let v622 : BitVec 1 := Scalar.andi v619 v621
  let v608 : BitVec 32 := Scalar.divsi v605 c24_i32_352
  let c1_i32_358 : BitVec 32 := 1#32
  let v623 : BitVec 32 := Scalar.subi v608 c1_i32_358
  let v624 : BitVec 32 := Scalar.select v622 v623 v608
  let c128_i32_361 : BitVec 32 := 128#32
  let v629 : BitVec 32 := Scalar.muli v624 c128_i32_361
  v629
def k0_mult152 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c12_i32_349 : BitVec 32 := 12#32
  let v605 : BitVec 32 := Scalar.addi v481 c12_i32_349
  let c0_i32_363 : BitVec 32 := 0#32
  let v632 : BitVec 1 := Scalar.cmpi .sgt v605 c0_i32_363
  let v633 : BitVec 32 := Scalar.extui v632
  let c0_i32_364 : BitVec 32 := 0#32
  let v634 : BitVec 1 := Scalar.cmpi .slt v605 c0_i32_364
  let v635 : BitVec 32 := Scalar.extui v634
  let v636 : BitVec 32 := Scalar.subi v633 v635
  let c24_i32_362 : BitVec 32 := 24#32
  let c0_i32_365 : BitVec 32 := 0#32
  let v637 : BitVec 1 := Scalar.cmpi .sgt c24_i32_362 c0_i32_365
  let v638 : BitVec 32 := Scalar.extui v637
  let c0_i32_366 : BitVec 32 := 0#32
  let v639 : BitVec 1 := Scalar.cmpi .slt c24_i32_362 c0_i32_366
  let v640 : BitVec 32 := Scalar.extui v639
  let v641 : BitVec 32 := Scalar.subi v638 v640
  let v642 : BitVec 1 := Scalar.cmpi .ne v636 v641
  let v643 : BitVec 32 := Scalar.remsi v605 c24_i32_362
  let c0_i32_367 : BitVec 32 := 0#32
  let v644 : BitVec 1 := Scalar.cmpi .ne v643 c0_i32_367
  let v645 : BitVec 1 := Scalar.andi v642 v644
  let v631 : BitVec 32 := Scalar.divsi v605 c24_i32_362
  let c1_i32_368 : BitVec 32 := 1#32
  let v646 : BitVec 32 := Scalar.subi v631 c1_i32_368
  let v647 : BitVec 32 := Scalar.select v645 v646 v631
  let c24_i32_369 : BitVec 32 := 24#32
  let v648 : BitVec 32 := Scalar.muli v647 c24_i32_369
  let v649 : BitVec 32 := Scalar.subi v605 v648
  let c3136_i32_370 : BitVec 32 := 3136#32
  let v650 : BitVec 32 := Scalar.muli v649 c3136_i32_370
  v650
def k0_mult153 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c12_i32_349 : BitVec 32 := 12#32
  let v605 : BitVec 32 := Scalar.addi v481 c12_i32_349
  let c0_i32_363 : BitVec 32 := 0#32
  let v632 : BitVec 1 := Scalar.cmpi .sgt v605 c0_i32_363
  let v633 : BitVec 32 := Scalar.extui v632
  let c0_i32_364 : BitVec 32 := 0#32
  let v634 : BitVec 1 := Scalar.cmpi .slt v605 c0_i32_364
  let v635 : BitVec 32 := Scalar.extui v634
  let v636 : BitVec 32 := Scalar.subi v633 v635
  let c24_i32_362 : BitVec 32 := 24#32
  let c0_i32_365 : BitVec 32 := 0#32
  let v637 : BitVec 1 := Scalar.cmpi .sgt c24_i32_362 c0_i32_365
  let v638 : BitVec 32 := Scalar.extui v637
  let c0_i32_366 : BitVec 32 := 0#32
  let v639 : BitVec 1 := Scalar.cmpi .slt c24_i32_362 c0_i32_366
  let v640 : BitVec 32 := Scalar.extui v639
  let v641 : BitVec 32 := Scalar.subi v638 v640
  let v642 : BitVec 1 := Scalar.cmpi .ne v636 v641
  let v643 : BitVec 32 := Scalar.remsi v605 c24_i32_362
  let c0_i32_367 : BitVec 32 := 0#32
  let v644 : BitVec 1 := Scalar.cmpi .ne v643 c0_i32_367
  let v645 : BitVec 1 := Scalar.andi v642 v644
  let v631 : BitVec 32 := Scalar.divsi v605 c24_i32_362
  let c1_i32_368 : BitVec 32 := 1#32
  let v646 : BitVec 32 := Scalar.subi v631 c1_i32_368
  let v647 : BitVec 32 := Scalar.select v645 v646 v631
  let c128_i32_371 : BitVec 32 := 128#32
  let v652 : BitVec 32 := Scalar.muli v647 c128_i32_371
  v652
def k0_mult154 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c12_i32_349 : BitVec 32 := 12#32
  let v605 : BitVec 32 := Scalar.addi v481 c12_i32_349
  let c0_i32_373 : BitVec 32 := 0#32
  let v655 : BitVec 1 := Scalar.cmpi .sgt v605 c0_i32_373
  let v656 : BitVec 32 := Scalar.extui v655
  let c0_i32_374 : BitVec 32 := 0#32
  let v657 : BitVec 1 := Scalar.cmpi .slt v605 c0_i32_374
  let v658 : BitVec 32 := Scalar.extui v657
  let v659 : BitVec 32 := Scalar.subi v656 v658
  let c24_i32_372 : BitVec 32 := 24#32
  let c0_i32_375 : BitVec 32 := 0#32
  let v660 : BitVec 1 := Scalar.cmpi .sgt c24_i32_372 c0_i32_375
  let v661 : BitVec 32 := Scalar.extui v660
  let c0_i32_376 : BitVec 32 := 0#32
  let v662 : BitVec 1 := Scalar.cmpi .slt c24_i32_372 c0_i32_376
  let v663 : BitVec 32 := Scalar.extui v662
  let v664 : BitVec 32 := Scalar.subi v661 v663
  let v665 : BitVec 1 := Scalar.cmpi .ne v659 v664
  let v666 : BitVec 32 := Scalar.remsi v605 c24_i32_372
  let c0_i32_377 : BitVec 32 := 0#32
  let v667 : BitVec 1 := Scalar.cmpi .ne v666 c0_i32_377
  let v668 : BitVec 1 := Scalar.andi v665 v667
  let v654 : BitVec 32 := Scalar.divsi v605 c24_i32_372
  let c1_i32_378 : BitVec 32 := 1#32
  let v669 : BitVec 32 := Scalar.subi v654 c1_i32_378
  let v670 : BitVec 32 := Scalar.select v668 v669 v654
  let c24_i32_379 : BitVec 32 := 24#32
  let v671 : BitVec 32 := Scalar.muli v670 c24_i32_379
  let v672 : BitVec 32 := Scalar.subi v605 v671
  let c3136_i32_380 : BitVec 32 := 3136#32
  let v673 : BitVec 32 := Scalar.muli v672 c3136_i32_380
  v673
def k0_mult155 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c12_i32_349 : BitVec 32 := 12#32
  let v605 : BitVec 32 := Scalar.addi v481 c12_i32_349
  let c0_i32_373 : BitVec 32 := 0#32
  let v655 : BitVec 1 := Scalar.cmpi .sgt v605 c0_i32_373
  let v656 : BitVec 32 := Scalar.extui v655
  let c0_i32_374 : BitVec 32 := 0#32
  let v657 : BitVec 1 := Scalar.cmpi .slt v605 c0_i32_374
  let v658 : BitVec 32 := Scalar.extui v657
  let v659 : BitVec 32 := Scalar.subi v656 v658
  let c24_i32_372 : BitVec 32 := 24#32
  let c0_i32_375 : BitVec 32 := 0#32
  let v660 : BitVec 1 := Scalar.cmpi .sgt c24_i32_372 c0_i32_375
  let v661 : BitVec 32 := Scalar.extui v660
  let c0_i32_376 : BitVec 32 := 0#32
  let v662 : BitVec 1 := Scalar.cmpi .slt c24_i32_372 c0_i32_376
  let v663 : BitVec 32 := Scalar.extui v662
  let v664 : BitVec 32 := Scalar.subi v661 v663
  let v665 : BitVec 1 := Scalar.cmpi .ne v659 v664
  let v666 : BitVec 32 := Scalar.remsi v605 c24_i32_372
  let c0_i32_377 : BitVec 32 := 0#32
  let v667 : BitVec 1 := Scalar.cmpi .ne v666 c0_i32_377
  let v668 : BitVec 1 := Scalar.andi v665 v667
  let v654 : BitVec 32 := Scalar.divsi v605 c24_i32_372
  let c1_i32_378 : BitVec 32 := 1#32
  let v669 : BitVec 32 := Scalar.subi v654 c1_i32_378
  let v670 : BitVec 32 := Scalar.select v668 v669 v654
  let c128_i32_381 : BitVec 32 := 128#32
  let v675 : BitVec 32 := Scalar.muli v670 c128_i32_381
  v675
def k0_off192 (i : grid0.Coords) (k0_t10 : Fin (k0_t10_loop i).trips) (k0_t13 : Fin (k0_t13_loop i).trips) : Fin 1 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c12_i32_349 : BitVec 32 := 12#32
  let v605 : BitVec 32 := Scalar.addi v481 c12_i32_349
  let c13_i32_351 : BitVec 32 := 13#32
  let v607 : BitVec 32 := Scalar.remsi v605 c13_i32_351
  ![v607.toNat]
def k0_off193 (i : grid0.Coords) (k0_t10 : Fin (k0_t10_loop i).trips) (k0_t13 : Fin (k0_t13_loop i).trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c12_i32_349 : BitVec 32 := 12#32
  let v605 : BitVec 32 := Scalar.addi v481 c12_i32_349
  let c37_i32_350 : BitVec 32 := 37#32
  let v606 : BitVec 32 := Scalar.remsi v605 c37_i32_350
  let c0_i32_382 : BitVec 32 := 0#32
  let c0_i32_383 : BitVec 32 := 0#32
  ![v606.toNat, 0, 0]
def k0_off194 (i : grid0.Coords) (k0_t10 : Fin (k0_t10_loop i).trips) (k0_t13 : Fin (k0_t13_loop i).trips) : Fin 2 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c12_i32_349 : BitVec 32 := 12#32
  let v605 : BitVec 32 := Scalar.addi v481 c12_i32_349
  let c0_i32_353 : BitVec 32 := 0#32
  let v609 : BitVec 1 := Scalar.cmpi .sgt v605 c0_i32_353
  let v610 : BitVec 32 := Scalar.extui v609
  let c0_i32_354 : BitVec 32 := 0#32
  let v611 : BitVec 1 := Scalar.cmpi .slt v605 c0_i32_354
  let v612 : BitVec 32 := Scalar.extui v611
  let v613 : BitVec 32 := Scalar.subi v610 v612
  let c24_i32_352 : BitVec 32 := 24#32
  let c0_i32_355 : BitVec 32 := 0#32
  let v614 : BitVec 1 := Scalar.cmpi .sgt c24_i32_352 c0_i32_355
  let v615 : BitVec 32 := Scalar.extui v614
  let c0_i32_356 : BitVec 32 := 0#32
  let v616 : BitVec 1 := Scalar.cmpi .slt c24_i32_352 c0_i32_356
  let v617 : BitVec 32 := Scalar.extui v616
  let v618 : BitVec 32 := Scalar.subi v615 v617
  let v619 : BitVec 1 := Scalar.cmpi .ne v613 v618
  let v620 : BitVec 32 := Scalar.remsi v605 c24_i32_352
  let c0_i32_357 : BitVec 32 := 0#32
  let v621 : BitVec 1 := Scalar.cmpi .ne v620 c0_i32_357
  let v622 : BitVec 1 := Scalar.andi v619 v621
  let v608 : BitVec 32 := Scalar.divsi v605 c24_i32_352
  let c1_i32_358 : BitVec 32 := 1#32
  let v623 : BitVec 32 := Scalar.subi v608 c1_i32_358
  let v624 : BitVec 32 := Scalar.select v622 v623 v608
  let c24_i32_359 : BitVec 32 := 24#32
  let v625 : BitVec 32 := Scalar.muli v624 c24_i32_359
  let v626 : BitVec 32 := Scalar.subi v605 v625
  let c3136_i32_360 : BitVec 32 := 3136#32
  let v627 : BitVec 32 := Scalar.muli v626 c3136_i32_360
  let v628 : BitVec 32 := v627
  let c128_i32_361 : BitVec 32 := 128#32
  let v629 : BitVec 32 := Scalar.muli v624 c128_i32_361
  let v630 : BitVec 32 := v629
  ![v628.toNat, v630.toNat]
def k0_off195 (i : grid0.Coords) (k0_t10 : Fin (k0_t10_loop i).trips) (k0_t13 : Fin (k0_t13_loop i).trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c12_i32_349 : BitVec 32 := 12#32
  let v605 : BitVec 32 := Scalar.addi v481 c12_i32_349
  let c13_i32_351 : BitVec 32 := 13#32
  let v607 : BitVec 32 := Scalar.remsi v605 c13_i32_351
  let c0_i32_384 : BitVec 32 := 0#32
  let c0_i32_385 : BitVec 32 := 0#32
  ![v607.toNat, 0, 0]
def k0_mult156 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c0_i32_282 : BitVec 32 := 0#32
  let v490 : BitVec 1 := Scalar.cmpi .sgt v481 c0_i32_282
  let v491 : BitVec 32 := Scalar.extui v490
  let c0_i32_283 : BitVec 32 := 0#32
  let v492 : BitVec 1 := Scalar.cmpi .slt v481 c0_i32_283
  let v493 : BitVec 32 := Scalar.extui v492
  let v494 : BitVec 32 := Scalar.subi v491 v493
  let c24_i32_281 : BitVec 32 := 24#32
  let c0_i32_284 : BitVec 32 := 0#32
  let v495 : BitVec 1 := Scalar.cmpi .sgt c24_i32_281 c0_i32_284
  let v496 : BitVec 32 := Scalar.extui v495
  let c0_i32_285 : BitVec 32 := 0#32
  let v497 : BitVec 1 := Scalar.cmpi .slt c24_i32_281 c0_i32_285
  let v498 : BitVec 32 := Scalar.extui v497
  let v499 : BitVec 32 := Scalar.subi v496 v498
  let v500 : BitVec 1 := Scalar.cmpi .ne v494 v499
  let v501 : BitVec 32 := Scalar.remsi v481 c24_i32_281
  let c0_i32_286 : BitVec 32 := 0#32
  let v502 : BitVec 1 := Scalar.cmpi .ne v501 c0_i32_286
  let v503 : BitVec 1 := Scalar.andi v500 v502
  let v489 : BitVec 32 := Scalar.divsi v481 c24_i32_281
  let c1_i32_287 : BitVec 32 := 1#32
  let v504 : BitVec 32 := Scalar.subi v489 c1_i32_287
  let v505 : BitVec 32 := Scalar.select v503 v504 v489
  let c24_i32_288 : BitVec 32 := 24#32
  let v506 : BitVec 32 := Scalar.muli v505 c24_i32_288
  let v507 : BitVec 32 := Scalar.subi v481 v506
  let c3136_i32_289 : BitVec 32 := 3136#32
  let v508 : BitVec 32 := Scalar.muli v507 c3136_i32_289
  v508
def k0_mult157 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c0_i32_282 : BitVec 32 := 0#32
  let v490 : BitVec 1 := Scalar.cmpi .sgt v481 c0_i32_282
  let v491 : BitVec 32 := Scalar.extui v490
  let c0_i32_283 : BitVec 32 := 0#32
  let v492 : BitVec 1 := Scalar.cmpi .slt v481 c0_i32_283
  let v493 : BitVec 32 := Scalar.extui v492
  let v494 : BitVec 32 := Scalar.subi v491 v493
  let c24_i32_281 : BitVec 32 := 24#32
  let c0_i32_284 : BitVec 32 := 0#32
  let v495 : BitVec 1 := Scalar.cmpi .sgt c24_i32_281 c0_i32_284
  let v496 : BitVec 32 := Scalar.extui v495
  let c0_i32_285 : BitVec 32 := 0#32
  let v497 : BitVec 1 := Scalar.cmpi .slt c24_i32_281 c0_i32_285
  let v498 : BitVec 32 := Scalar.extui v497
  let v499 : BitVec 32 := Scalar.subi v496 v498
  let v500 : BitVec 1 := Scalar.cmpi .ne v494 v499
  let v501 : BitVec 32 := Scalar.remsi v481 c24_i32_281
  let c0_i32_286 : BitVec 32 := 0#32
  let v502 : BitVec 1 := Scalar.cmpi .ne v501 c0_i32_286
  let v503 : BitVec 1 := Scalar.andi v500 v502
  let v489 : BitVec 32 := Scalar.divsi v481 c24_i32_281
  let c1_i32_287 : BitVec 32 := 1#32
  let v504 : BitVec 32 := Scalar.subi v489 c1_i32_287
  let v505 : BitVec 32 := Scalar.select v503 v504 v489
  let c128_i32 : BitVec 32 := 128#32
  let v510 : BitVec 32 := Scalar.muli v505 c128_i32
  v510
def k0_mult158 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c0_i32_291 : BitVec 32 := 0#32
  let v513 : BitVec 1 := Scalar.cmpi .sgt v481 c0_i32_291
  let v514 : BitVec 32 := Scalar.extui v513
  let c0_i32_292 : BitVec 32 := 0#32
  let v515 : BitVec 1 := Scalar.cmpi .slt v481 c0_i32_292
  let v516 : BitVec 32 := Scalar.extui v515
  let v517 : BitVec 32 := Scalar.subi v514 v516
  let c24_i32_290 : BitVec 32 := 24#32
  let c0_i32_293 : BitVec 32 := 0#32
  let v518 : BitVec 1 := Scalar.cmpi .sgt c24_i32_290 c0_i32_293
  let v519 : BitVec 32 := Scalar.extui v518
  let c0_i32_294 : BitVec 32 := 0#32
  let v520 : BitVec 1 := Scalar.cmpi .slt c24_i32_290 c0_i32_294
  let v521 : BitVec 32 := Scalar.extui v520
  let v522 : BitVec 32 := Scalar.subi v519 v521
  let v523 : BitVec 1 := Scalar.cmpi .ne v517 v522
  let v524 : BitVec 32 := Scalar.remsi v481 c24_i32_290
  let c0_i32_295 : BitVec 32 := 0#32
  let v525 : BitVec 1 := Scalar.cmpi .ne v524 c0_i32_295
  let v526 : BitVec 1 := Scalar.andi v523 v525
  let v512 : BitVec 32 := Scalar.divsi v481 c24_i32_290
  let c1_i32_296 : BitVec 32 := 1#32
  let v527 : BitVec 32 := Scalar.subi v512 c1_i32_296
  let v528 : BitVec 32 := Scalar.select v526 v527 v512
  let c24_i32_297 : BitVec 32 := 24#32
  let v529 : BitVec 32 := Scalar.muli v528 c24_i32_297
  let v530 : BitVec 32 := Scalar.subi v481 v529
  let c3136_i32_298 : BitVec 32 := 3136#32
  let v531 : BitVec 32 := Scalar.muli v530 c3136_i32_298
  v531
def k0_mult159 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c0_i32_291 : BitVec 32 := 0#32
  let v513 : BitVec 1 := Scalar.cmpi .sgt v481 c0_i32_291
  let v514 : BitVec 32 := Scalar.extui v513
  let c0_i32_292 : BitVec 32 := 0#32
  let v515 : BitVec 1 := Scalar.cmpi .slt v481 c0_i32_292
  let v516 : BitVec 32 := Scalar.extui v515
  let v517 : BitVec 32 := Scalar.subi v514 v516
  let c24_i32_290 : BitVec 32 := 24#32
  let c0_i32_293 : BitVec 32 := 0#32
  let v518 : BitVec 1 := Scalar.cmpi .sgt c24_i32_290 c0_i32_293
  let v519 : BitVec 32 := Scalar.extui v518
  let c0_i32_294 : BitVec 32 := 0#32
  let v520 : BitVec 1 := Scalar.cmpi .slt c24_i32_290 c0_i32_294
  let v521 : BitVec 32 := Scalar.extui v520
  let v522 : BitVec 32 := Scalar.subi v519 v521
  let v523 : BitVec 1 := Scalar.cmpi .ne v517 v522
  let v524 : BitVec 32 := Scalar.remsi v481 c24_i32_290
  let c0_i32_295 : BitVec 32 := 0#32
  let v525 : BitVec 1 := Scalar.cmpi .ne v524 c0_i32_295
  let v526 : BitVec 1 := Scalar.andi v523 v525
  let v512 : BitVec 32 := Scalar.divsi v481 c24_i32_290
  let c1_i32_296 : BitVec 32 := 1#32
  let v527 : BitVec 32 := Scalar.subi v512 c1_i32_296
  let v528 : BitVec 32 := Scalar.select v526 v527 v512
  let c128_i32_299 : BitVec 32 := 128#32
  let v533 : BitVec 32 := Scalar.muli v528 c128_i32_299
  v533
def k0_mult160 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c0_i32_301 : BitVec 32 := 0#32
  let v536 : BitVec 1 := Scalar.cmpi .sgt v481 c0_i32_301
  let v537 : BitVec 32 := Scalar.extui v536
  let c0_i32_302 : BitVec 32 := 0#32
  let v538 : BitVec 1 := Scalar.cmpi .slt v481 c0_i32_302
  let v539 : BitVec 32 := Scalar.extui v538
  let v540 : BitVec 32 := Scalar.subi v537 v539
  let c24_i32_300 : BitVec 32 := 24#32
  let c0_i32_303 : BitVec 32 := 0#32
  let v541 : BitVec 1 := Scalar.cmpi .sgt c24_i32_300 c0_i32_303
  let v542 : BitVec 32 := Scalar.extui v541
  let c0_i32_304 : BitVec 32 := 0#32
  let v543 : BitVec 1 := Scalar.cmpi .slt c24_i32_300 c0_i32_304
  let v544 : BitVec 32 := Scalar.extui v543
  let v545 : BitVec 32 := Scalar.subi v542 v544
  let v546 : BitVec 1 := Scalar.cmpi .ne v540 v545
  let v547 : BitVec 32 := Scalar.remsi v481 c24_i32_300
  let c0_i32_305 : BitVec 32 := 0#32
  let v548 : BitVec 1 := Scalar.cmpi .ne v547 c0_i32_305
  let v549 : BitVec 1 := Scalar.andi v546 v548
  let v535 : BitVec 32 := Scalar.divsi v481 c24_i32_300
  let c1_i32_306 : BitVec 32 := 1#32
  let v550 : BitVec 32 := Scalar.subi v535 c1_i32_306
  let v551 : BitVec 32 := Scalar.select v549 v550 v535
  let c24_i32_307 : BitVec 32 := 24#32
  let v552 : BitVec 32 := Scalar.muli v551 c24_i32_307
  let v553 : BitVec 32 := Scalar.subi v481 v552
  let c3136_i32_308 : BitVec 32 := 3136#32
  let v554 : BitVec 32 := Scalar.muli v553 c3136_i32_308
  v554
def k0_mult161 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c0_i32_301 : BitVec 32 := 0#32
  let v536 : BitVec 1 := Scalar.cmpi .sgt v481 c0_i32_301
  let v537 : BitVec 32 := Scalar.extui v536
  let c0_i32_302 : BitVec 32 := 0#32
  let v538 : BitVec 1 := Scalar.cmpi .slt v481 c0_i32_302
  let v539 : BitVec 32 := Scalar.extui v538
  let v540 : BitVec 32 := Scalar.subi v537 v539
  let c24_i32_300 : BitVec 32 := 24#32
  let c0_i32_303 : BitVec 32 := 0#32
  let v541 : BitVec 1 := Scalar.cmpi .sgt c24_i32_300 c0_i32_303
  let v542 : BitVec 32 := Scalar.extui v541
  let c0_i32_304 : BitVec 32 := 0#32
  let v543 : BitVec 1 := Scalar.cmpi .slt c24_i32_300 c0_i32_304
  let v544 : BitVec 32 := Scalar.extui v543
  let v545 : BitVec 32 := Scalar.subi v542 v544
  let v546 : BitVec 1 := Scalar.cmpi .ne v540 v545
  let v547 : BitVec 32 := Scalar.remsi v481 c24_i32_300
  let c0_i32_305 : BitVec 32 := 0#32
  let v548 : BitVec 1 := Scalar.cmpi .ne v547 c0_i32_305
  let v549 : BitVec 1 := Scalar.andi v546 v548
  let v535 : BitVec 32 := Scalar.divsi v481 c24_i32_300
  let c1_i32_306 : BitVec 32 := 1#32
  let v550 : BitVec 32 := Scalar.subi v535 c1_i32_306
  let v551 : BitVec 32 := Scalar.select v549 v550 v535
  let c128_i32_309 : BitVec 32 := 128#32
  let v556 : BitVec 32 := Scalar.muli v551 c128_i32_309
  v556
def k0_off196 (i : grid0.Coords) (k0_t10 : Fin (k0_t10_loop i).trips) (k0_t13 : Fin (k0_t13_loop i).trips) : Fin 1 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c13_i32_280 : BitVec 32 := 13#32
  let v488 : BitVec 32 := Scalar.remsi v481 c13_i32_280
  ![v488.toNat]
def k0_off197 (i : grid0.Coords) (k0_t10 : Fin (k0_t10_loop i).trips) (k0_t13 : Fin (k0_t13_loop i).trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_279 : BitVec 32 := 37#32
  let v487 : BitVec 32 := Scalar.remsi v481 c37_i32_279
  let c0_i32_310 : BitVec 32 := 0#32
  let c0_i32_311 : BitVec 32 := 0#32
  ![v487.toNat, 0, 0]
def k0_off198 (i : grid0.Coords) (k0_t10 : Fin (k0_t10_loop i).trips) (k0_t13 : Fin (k0_t13_loop i).trips) : Fin 2 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c0_i32_282 : BitVec 32 := 0#32
  let v490 : BitVec 1 := Scalar.cmpi .sgt v481 c0_i32_282
  let v491 : BitVec 32 := Scalar.extui v490
  let c0_i32_283 : BitVec 32 := 0#32
  let v492 : BitVec 1 := Scalar.cmpi .slt v481 c0_i32_283
  let v493 : BitVec 32 := Scalar.extui v492
  let v494 : BitVec 32 := Scalar.subi v491 v493
  let c24_i32_281 : BitVec 32 := 24#32
  let c0_i32_284 : BitVec 32 := 0#32
  let v495 : BitVec 1 := Scalar.cmpi .sgt c24_i32_281 c0_i32_284
  let v496 : BitVec 32 := Scalar.extui v495
  let c0_i32_285 : BitVec 32 := 0#32
  let v497 : BitVec 1 := Scalar.cmpi .slt c24_i32_281 c0_i32_285
  let v498 : BitVec 32 := Scalar.extui v497
  let v499 : BitVec 32 := Scalar.subi v496 v498
  let v500 : BitVec 1 := Scalar.cmpi .ne v494 v499
  let v501 : BitVec 32 := Scalar.remsi v481 c24_i32_281
  let c0_i32_286 : BitVec 32 := 0#32
  let v502 : BitVec 1 := Scalar.cmpi .ne v501 c0_i32_286
  let v503 : BitVec 1 := Scalar.andi v500 v502
  let v489 : BitVec 32 := Scalar.divsi v481 c24_i32_281
  let c1_i32_287 : BitVec 32 := 1#32
  let v504 : BitVec 32 := Scalar.subi v489 c1_i32_287
  let v505 : BitVec 32 := Scalar.select v503 v504 v489
  let c24_i32_288 : BitVec 32 := 24#32
  let v506 : BitVec 32 := Scalar.muli v505 c24_i32_288
  let v507 : BitVec 32 := Scalar.subi v481 v506
  let c3136_i32_289 : BitVec 32 := 3136#32
  let v508 : BitVec 32 := Scalar.muli v507 c3136_i32_289
  let v509 : BitVec 32 := v508
  let c128_i32 : BitVec 32 := 128#32
  let v510 : BitVec 32 := Scalar.muli v505 c128_i32
  let v511 : BitVec 32 := v510
  ![v509.toNat, v511.toNat]
def k0_off199 (i : grid0.Coords) (k0_t10 : Fin (k0_t10_loop i).trips) (k0_t13 : Fin (k0_t13_loop i).trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c13_i32_280 : BitVec 32 := 13#32
  let v488 : BitVec 32 := Scalar.remsi v481 c13_i32_280
  let c0_i32_312 : BitVec 32 := 0#32
  let c0_i32_313 : BitVec 32 := 0#32
  ![v488.toNat, 0, 0]
def k0_cond13 (i : grid0.Coords) (k0_t10 : Fin (k0_t10_loop i).trips) (k0_t13 : Fin (k0_t13_loop i).trips) : BitVec 1 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_316 : BitVec 32 := 6#32
  let v573 : BitVec 1 := Scalar.cmpi .sge v482 c6_i32_316
  let v574 : BitVec 32 := Scalar.extui v573
  let c0_i32_317 : BitVec 32 := 0#32
  let v575 : BitVec 1 := Scalar.cmpi .ne v574 c0_i32_317
  v575

def k0_mult162 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  v626
def k0_mult163 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c128_i32_360 : BitVec 32 := 128#32
  let v628 : BitVec 32 := Scalar.muli v623 c128_i32_360
  v628
def k0_off200 (i : grid0.Coords) (k0_t10 : Fin (k0_t10_loop i).trips) (k0_t13 : Fin (k0_t13_loop i).trips) : Fin 1 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c6_i32_350 : BitVec 32 := 6#32
  let v606 : BitVec 32 := Scalar.remsi v605 c6_i32_350
  ![v606.toNat]
def k0_off201 (i : grid0.Coords) (k0_t10 : Fin (k0_t10_loop i).trips) (k0_t13 : Fin (k0_t13_loop i).trips) : Fin 2 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  let v627 : BitVec 32 := v626
  let c128_i32_360 : BitVec 32 := 128#32
  let v628 : BitVec 32 := Scalar.muli v623 c128_i32_360
  let v629 : BitVec 32 := v628
  ![v627.toNat, v629.toNat]
def k0_off202 (i : grid0.Coords) (k0_t10 : Fin (k0_t10_loop i).trips) (k0_t13 : Fin (k0_t13_loop i).trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_349 : BitVec 32 := 6#32
  let v605 : BitVec 32 := Scalar.subi v482 c6_i32_349
  let c6_i32_350 : BitVec 32 := 6#32
  let v606 : BitVec 32 := Scalar.remsi v605 c6_i32_350
  let c0_i32_361 : BitVec 32 := 0#32
  let c0_i32_362 : BitVec 32 := 0#32
  ![v606.toNat, 0, 0]
@[reducible] def k0_t14_loop : Scf.Loop 32 :=
  let c0_i32_331 : BitVec 32 := 0#32
  let c7_i32_332 : BitVec 32 := 7#32
  let v588 : BitVec 32 := Scalar.addi c0_i32_331 c7_i32_332
  let c1_i32_333 : BitVec 32 := 1#32
  ⟨c0_i32_331, v588, c1_i32_333⟩
def k0_mult164 (k0_t14 : Fin k0_t14_loop.trips) : BitVec 32 :=
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  v605
def k0_off203 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_349 : BitVec 32 := 0#32
  ![v576.toNat, v606.toNat, 0]
def k0_off204 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c13_i32_319 : BitVec 32 := 13#32
  let v577 : BitVec 32 := Scalar.remsi v481 c13_i32_319
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_355 : BitVec 32 := 0#32
  ![v577.toNat, v606.toNat, 0]
def k0_off205 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c37_i32_322 : BitVec 32 := 37#32
  let v582 : BitVec 32 := Scalar.remsi v482 c37_i32_322
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_358 : BitVec 32 := 0#32
  ![v582.toNat, v606.toNat, 0]
def k0_off206 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_394 : BitVec 32 := 0#32
  ![v576.toNat, v606.toNat, 0]
def k0_off207 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_397 : BitVec 32 := 0#32
  ![v583.toNat, v606.toNat, 0]
def k0_off208 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_397 : BitVec 32 := 0#32
  ![v583.toNat, v606.toNat, 0]
def k0_off209 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_417 : BitVec 32 := 0#32
  ![v576.toNat, Nat.add v606.toNat 32, 0]
def k0_off210 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_420 : BitVec 32 := 0#32
  ![v583.toNat, Nat.add v606.toNat 32, 0]
def k0_off211 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_440 : BitVec 32 := 0#32
  ![v576.toNat, Nat.add v606.toNat 64, 0]
def k0_off212 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_443 : BitVec 32 := 0#32
  ![v583.toNat, Nat.add v606.toNat 64, 0]
def k0_off213 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_463 : BitVec 32 := 0#32
  ![v576.toNat, Nat.add v606.toNat 96, 0]
def k0_off214 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_466 : BitVec 32 := 0#32
  ![v583.toNat, Nat.add v606.toNat 96, 0]
def k0_off215 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_486 : BitVec 32 := 0#32
  ![v576.toNat, Nat.add v606.toNat 128, 0]
def k0_off216 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_489 : BitVec 32 := 0#32
  ![v583.toNat, Nat.add v606.toNat 128, 0]
def k0_off217 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_509 : BitVec 32 := 0#32
  ![v576.toNat, Nat.add v606.toNat 160, 0]
def k0_off218 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_512 : BitVec 32 := 0#32
  ![v583.toNat, Nat.add v606.toNat 160, 0]
def k0_off219 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_532 : BitVec 32 := 0#32
  ![v576.toNat, Nat.add v606.toNat 192, 0]
def k0_off220 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_535 : BitVec 32 := 0#32
  ![v583.toNat, Nat.add v606.toNat 192, 0]
def k0_off221 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_555 : BitVec 32 := 0#32
  ![v576.toNat, Nat.add v606.toNat 224, 0]
def k0_off222 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_558 : BitVec 32 := 0#32
  ![v583.toNat, Nat.add v606.toNat 224, 0]
def k0_off223 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_578 : BitVec 32 := 0#32
  ![v576.toNat, Nat.add v606.toNat 256, 0]
def k0_off224 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_581 : BitVec 32 := 0#32
  ![v583.toNat, Nat.add v606.toNat 256, 0]
def k0_off225 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_601 : BitVec 32 := 0#32
  ![v576.toNat, Nat.add v606.toNat 288, 0]
def k0_off226 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_604 : BitVec 32 := 0#32
  ![v583.toNat, Nat.add v606.toNat 288, 0]
def k0_off227 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_624 : BitVec 32 := 0#32
  ![v576.toNat, Nat.add v606.toNat 320, 0]
def k0_off228 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_627 : BitVec 32 := 0#32
  ![v583.toNat, Nat.add v606.toNat 320, 0]
def k0_off229 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_647 : BitVec 32 := 0#32
  ![v576.toNat, Nat.add v606.toNat 352, 0]
def k0_off230 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_650 : BitVec 32 := 0#32
  ![v583.toNat, Nat.add v606.toNat 352, 0]
def k0_off231 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_656 : BitVec 32 := 0#32
  ![v576.toNat, Nat.add v606.toNat 384, 0]
def k0_off232 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_659 : BitVec 32 := 0#32
  ![v583.toNat, Nat.add v606.toNat 384, 0]
def k0_off233 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c37_i32_318 : BitVec 32 := 37#32
  let v576 : BitVec 32 := Scalar.remsi v481 c37_i32_318
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_665 : BitVec 32 := 0#32
  ![v576.toNat, Nat.add v606.toNat 416, 0]
def k0_off234 (i : grid0.Coords) (k0_t10 : Fin (k0_t10_loop i).trips) (k0_t13 : Fin (k0_t13_loop i).trips) (k0_t14 : Fin k0_t14_loop.trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c6_i32_323 : BitVec 32 := 6#32
  let v583 : BitVec 32 := Scalar.remsi v482 c6_i32_323
  let c0_i32_331 : BitVec 32 := 0#32
  let c1_i32_333 : BitVec 32 := 1#32
  let arg23 : BitVec 32 := Scf.iv c0_i32_331 c1_i32_333 k0_t14
  let c448_i32 : BitVec 32 := 448#32
  let v605 : BitVec 32 := Scalar.muli arg23 c448_i32
  let v606 : BitVec 32 := v605
  let c0_i32_668 : BitVec 32 := 0#32
  ![v583.toNat, Nat.add v606.toNat 416, 0]
def k0_cond14 (i : grid0.Coords) (k0_t10 : Fin (k0_t10_loop i).trips) (k0_t13 : Fin (k0_t13_loop i).trips) : BitVec 1 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c1_i32_347 : BitVec 32 := 1#32
  let v602 : BitVec 1 := Scalar.cmpi .sge v482 c1_i32_347
  let v603 : BitVec 32 := Scalar.extui v602
  let c0_i32_348 : BitVec 32 := 0#32
  let v604 : BitVec 1 := Scalar.cmpi .ne v603 c0_i32_348
  v604

def k0_mult165 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  v626
def k0_mult166 (i : grid0.Coords) (k0_t10 : Fin (k0_t10_loop i).trips) (k0_t13 : Fin (k0_t13_loop i).trips) : BitVec 32 :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c128_i32_360 : BitVec 32 := 128#32
  let v628 : BitVec 32 := Scalar.muli v623 c128_i32_360
  v628
def k0_off235 (i : grid0.Coords) (k0_t10 : Fin (k0_t10_loop i).trips) (k0_t13 : Fin (k0_t13_loop i).trips) : Fin 1 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c6_i32_350 : BitVec 32 := 6#32
  let v606 : BitVec 32 := Scalar.remsi v605 c6_i32_350
  ![v606.toNat]
def k0_off236 (i : grid0.Coords) (k0_t10 : Fin (k0_t10_loop i).trips) (k0_t13 : Fin (k0_t13_loop i).trips) : Fin 2 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c0_i32_352 : BitVec 32 := 0#32
  let v608 : BitVec 1 := Scalar.cmpi .sgt v605 c0_i32_352
  let v609 : BitVec 32 := Scalar.extui v608
  let c0_i32_353 : BitVec 32 := 0#32
  let v610 : BitVec 1 := Scalar.cmpi .slt v605 c0_i32_353
  let v611 : BitVec 32 := Scalar.extui v610
  let v612 : BitVec 32 := Scalar.subi v609 v611
  let c24_i32_351 : BitVec 32 := 24#32
  let c0_i32_354 : BitVec 32 := 0#32
  let v613 : BitVec 1 := Scalar.cmpi .sgt c24_i32_351 c0_i32_354
  let v614 : BitVec 32 := Scalar.extui v613
  let c0_i32_355 : BitVec 32 := 0#32
  let v615 : BitVec 1 := Scalar.cmpi .slt c24_i32_351 c0_i32_355
  let v616 : BitVec 32 := Scalar.extui v615
  let v617 : BitVec 32 := Scalar.subi v614 v616
  let v618 : BitVec 1 := Scalar.cmpi .ne v612 v617
  let v619 : BitVec 32 := Scalar.remsi v605 c24_i32_351
  let c0_i32_356 : BitVec 32 := 0#32
  let v620 : BitVec 1 := Scalar.cmpi .ne v619 c0_i32_356
  let v621 : BitVec 1 := Scalar.andi v618 v620
  let v607 : BitVec 32 := Scalar.divsi v605 c24_i32_351
  let c1_i32_357 : BitVec 32 := 1#32
  let v622 : BitVec 32 := Scalar.subi v607 c1_i32_357
  let v623 : BitVec 32 := Scalar.select v621 v622 v607
  let c24_i32_358 : BitVec 32 := 24#32
  let v624 : BitVec 32 := Scalar.muli v623 c24_i32_358
  let v625 : BitVec 32 := Scalar.subi v605 v624
  let c3136_i32_359 : BitVec 32 := 3136#32
  let v626 : BitVec 32 := Scalar.muli v625 c3136_i32_359
  let v627 : BitVec 32 := v626
  let c128_i32_360 : BitVec 32 := 128#32
  let v628 : BitVec 32 := Scalar.muli v623 c128_i32_360
  let v629 : BitVec 32 := v628
  ![v627.toNat, v629.toNat]
def k0_off237 (i : grid0.Coords) (k0_t10 : Fin (k0_t10_loop i).trips) (k0_t13 : Fin (k0_t13_loop i).trips) : Fin 3 → Nat :=
  let arg0 : BitVec 32 := BitVec.ofNat 32 (i 0).val
  let c1_i32_173 : BitVec 32 := 1#32
  let v286 : BitVec 32 := Scalar.addi arg0 c1_i32_173
  let c4_i32_174 : BitVec 32 := 4#32
  let v287 : BitVec 32 := Scalar.addi arg0 c4_i32_174
  let v288 : BitVec 32 := Scalar.subi v287 v286
  let c1_i32_176 : BitVec 32 := 1#32
  let v290 : BitVec 32 := Scalar.divsi v288 c1_i32_176
  let v291 : BitVec 32 := Scalar.muli v290 c1_i32_176
  let v292 : BitVec 32 := Scalar.addi v286 v291
  let c1_i32_178 : BitVec 32 := 1#32
  let arg21 : BitVec 32 := Scf.iv v292 c1_i32_178 k0_t10
  let c24_i32_275 : BitVec 32 := 24#32
  let v480 : BitVec 32 := Scalar.muli arg21 c24_i32_275
  let c24_i32_271 : BitVec 32 := 24#32
  let v474 : BitVec 32 := Scalar.addi arg0 c24_i32_271
  let v475 : BitVec 32 := Scalar.subi v474 arg0
  let c1_i32_272 : BitVec 32 := 1#32
  let v477 : BitVec 32 := Scalar.divsi v475 c1_i32_272
  let v478 : BitVec 32 := Scalar.muli v477 c1_i32_272
  let v479 : BitVec 32 := Scalar.addi arg0 v478
  let c1_i32_274 : BitVec 32 := 1#32
  let arg22 : BitVec 32 := Scf.iv v479 c1_i32_274 k0_t13
  let v481 : BitVec 32 := Scalar.addi v480 arg22
  let c24_i32_276 : BitVec 32 := 24#32
  let v482 : BitVec 32 := Scalar.subi v481 c24_i32_276
  let c1_i32_349 : BitVec 32 := 1#32
  let v605 : BitVec 32 := Scalar.subi v482 c1_i32_349
  let c6_i32_350 : BitVec 32 := 6#32
  let v606 : BitVec 32 := Scalar.remsi v605 c6_i32_350
  let c0_i32_361 : BitVec 32 := 0#32
  let c0_i32_362 : BitVec 32 := 0#32
  ![v606.toNat, 0, 0]
@[reducible] def k0_t15_loop (i : grid0.Coords) : Scf.Loop 32 :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_211 : BitVec 32 := 1#32
  ⟨v349, v355, c1_i32_211⟩
def k0_mult167 (i : grid0.Coords) (k0_t15 : Fin (k0_t15_loop i).trips) : BitVec 32 :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_242 : BitVec 32 := 6#32
  let v412 : BitVec 32 := Scalar.subi arg21 c6_i32_242
  let c0_i32_245 : BitVec 32 := 0#32
  let v415 : BitVec 1 := Scalar.cmpi .sgt v412 c0_i32_245
  let v416 : BitVec 32 := Scalar.extui v415
  let c0_i32_246 : BitVec 32 := 0#32
  let v417 : BitVec 1 := Scalar.cmpi .slt v412 c0_i32_246
  let v418 : BitVec 32 := Scalar.extui v417
  let v419 : BitVec 32 := Scalar.subi v416 v418
  let c24_i32_244 : BitVec 32 := 24#32
  let c0_i32_247 : BitVec 32 := 0#32
  let v420 : BitVec 1 := Scalar.cmpi .sgt c24_i32_244 c0_i32_247
  let v421 : BitVec 32 := Scalar.extui v420
  let c0_i32_248 : BitVec 32 := 0#32
  let v422 : BitVec 1 := Scalar.cmpi .slt c24_i32_244 c0_i32_248
  let v423 : BitVec 32 := Scalar.extui v422
  let v424 : BitVec 32 := Scalar.subi v421 v423
  let v425 : BitVec 1 := Scalar.cmpi .ne v419 v424
  let v426 : BitVec 32 := Scalar.remsi v412 c24_i32_244
  let c0_i32_249 : BitVec 32 := 0#32
  let v427 : BitVec 1 := Scalar.cmpi .ne v426 c0_i32_249
  let v428 : BitVec 1 := Scalar.andi v425 v427
  let v414 : BitVec 32 := Scalar.divsi v412 c24_i32_244
  let c1_i32_250 : BitVec 32 := 1#32
  let v429 : BitVec 32 := Scalar.subi v414 c1_i32_250
  let v430 : BitVec 32 := Scalar.select v428 v429 v414
  let c24_i32_251 : BitVec 32 := 24#32
  let v431 : BitVec 32 := Scalar.muli v430 c24_i32_251
  let v432 : BitVec 32 := Scalar.subi v412 v431
  let c3136_i32_252 : BitVec 32 := 3136#32
  let v433 : BitVec 32 := Scalar.muli v432 c3136_i32_252
  v433
def k0_mult168 (i : grid0.Coords) (k0_t15 : Fin (k0_t15_loop i).trips) : BitVec 32 :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_242 : BitVec 32 := 6#32
  let v412 : BitVec 32 := Scalar.subi arg21 c6_i32_242
  let c0_i32_245 : BitVec 32 := 0#32
  let v415 : BitVec 1 := Scalar.cmpi .sgt v412 c0_i32_245
  let v416 : BitVec 32 := Scalar.extui v415
  let c0_i32_246 : BitVec 32 := 0#32
  let v417 : BitVec 1 := Scalar.cmpi .slt v412 c0_i32_246
  let v418 : BitVec 32 := Scalar.extui v417
  let v419 : BitVec 32 := Scalar.subi v416 v418
  let c24_i32_244 : BitVec 32 := 24#32
  let c0_i32_247 : BitVec 32 := 0#32
  let v420 : BitVec 1 := Scalar.cmpi .sgt c24_i32_244 c0_i32_247
  let v421 : BitVec 32 := Scalar.extui v420
  let c0_i32_248 : BitVec 32 := 0#32
  let v422 : BitVec 1 := Scalar.cmpi .slt c24_i32_244 c0_i32_248
  let v423 : BitVec 32 := Scalar.extui v422
  let v424 : BitVec 32 := Scalar.subi v421 v423
  let v425 : BitVec 1 := Scalar.cmpi .ne v419 v424
  let v426 : BitVec 32 := Scalar.remsi v412 c24_i32_244
  let c0_i32_249 : BitVec 32 := 0#32
  let v427 : BitVec 1 := Scalar.cmpi .ne v426 c0_i32_249
  let v428 : BitVec 1 := Scalar.andi v425 v427
  let v414 : BitVec 32 := Scalar.divsi v412 c24_i32_244
  let c1_i32_250 : BitVec 32 := 1#32
  let v429 : BitVec 32 := Scalar.subi v414 c1_i32_250
  let v430 : BitVec 32 := Scalar.select v428 v429 v414
  let c128_i32 : BitVec 32 := 128#32
  let v435 : BitVec 32 := Scalar.muli v430 c128_i32
  v435
def k0_off238 (i : grid0.Coords) (k0_t15 : Fin (k0_t15_loop i).trips) (c6_i32_242 : BitVec 32) : Fin 1 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let v412 : BitVec 32 := Scalar.subi arg21 c6_i32_242
  let c6_i32_243 : BitVec 32 := 6#32
  let v413 : BitVec 32 := Scalar.remsi v412 c6_i32_243
  ![v413.toNat]
def k0_off239 (i : grid0.Coords) (k0_t15 : Fin (k0_t15_loop i).trips) (c6_i32_242 : BitVec 32) : Fin 2 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let v412 : BitVec 32 := Scalar.subi arg21 c6_i32_242
  let c0_i32_245 : BitVec 32 := 0#32
  let v415 : BitVec 1 := Scalar.cmpi .sgt v412 c0_i32_245
  let v416 : BitVec 32 := Scalar.extui v415
  let c0_i32_246 : BitVec 32 := 0#32
  let v417 : BitVec 1 := Scalar.cmpi .slt v412 c0_i32_246
  let v418 : BitVec 32 := Scalar.extui v417
  let v419 : BitVec 32 := Scalar.subi v416 v418
  let c24_i32_244 : BitVec 32 := 24#32
  let c0_i32_247 : BitVec 32 := 0#32
  let v420 : BitVec 1 := Scalar.cmpi .sgt c24_i32_244 c0_i32_247
  let v421 : BitVec 32 := Scalar.extui v420
  let c0_i32_248 : BitVec 32 := 0#32
  let v422 : BitVec 1 := Scalar.cmpi .slt c24_i32_244 c0_i32_248
  let v423 : BitVec 32 := Scalar.extui v422
  let v424 : BitVec 32 := Scalar.subi v421 v423
  let v425 : BitVec 1 := Scalar.cmpi .ne v419 v424
  let v426 : BitVec 32 := Scalar.remsi v412 c24_i32_244
  let c0_i32_249 : BitVec 32 := 0#32
  let v427 : BitVec 1 := Scalar.cmpi .ne v426 c0_i32_249
  let v428 : BitVec 1 := Scalar.andi v425 v427
  let v414 : BitVec 32 := Scalar.divsi v412 c24_i32_244
  let c1_i32_250 : BitVec 32 := 1#32
  let v429 : BitVec 32 := Scalar.subi v414 c1_i32_250
  let v430 : BitVec 32 := Scalar.select v428 v429 v414
  let c24_i32_251 : BitVec 32 := 24#32
  let v431 : BitVec 32 := Scalar.muli v430 c24_i32_251
  let v432 : BitVec 32 := Scalar.subi v412 v431
  let c3136_i32_252 : BitVec 32 := 3136#32
  let v433 : BitVec 32 := Scalar.muli v432 c3136_i32_252
  let v434 : BitVec 32 := v433
  let c128_i32 : BitVec 32 := 128#32
  let v435 : BitVec 32 := Scalar.muli v430 c128_i32
  let v436 : BitVec 32 := v435
  ![v434.toNat, v436.toNat]
def k0_off240 (i : grid0.Coords) (k0_t15 : Fin (k0_t15_loop i).trips) (c6_i32_242 : BitVec 32) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let v412 : BitVec 32 := Scalar.subi arg21 c6_i32_242
  let c6_i32_243 : BitVec 32 := 6#32
  let v413 : BitVec 32 := Scalar.remsi v412 c6_i32_243
  let c0_i32_253 : BitVec 32 := 0#32
  let c0_i32_254 : BitVec 32 := 0#32
  ![v413.toNat, 0, 0]
@[reducible] def k0_t16_loop : Scf.Loop 32 :=
  let c0_i32_264 : BitVec 32 := 0#32
  let c7_i32_265 : BitVec 32 := 7#32
  let v448 : BitVec 32 := Scalar.addi c0_i32_264 c7_i32_265
  let c1_i32_266 : BitVec 32 := 1#32
  ⟨c0_i32_264, v448, c1_i32_266⟩
def k0_mult169 (k0_t16 : Fin k0_t16_loop.trips) : BitVec 32 :=
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  v479
def k0_off241 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c37_i32_255 : BitVec 32 := 37#32
  let v442 : BitVec 32 := Scalar.remsi arg21 c37_i32_255
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_282 : BitVec 32 := 0#32
  ![v442.toNat, v480.toNat, 0]
def k0_off242 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_298 : BitVec 32 := 0#32
  ![v443.toNat, v480.toNat, 0]
def k0_off243 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_298 : BitVec 32 := 0#32
  ![v443.toNat, v480.toNat, 0]
def k0_off244 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_306 : BitVec 32 := 0#32
  ![v443.toNat, Nat.add v480.toNat 32, 0]
def k0_off245 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_314 : BitVec 32 := 0#32
  ![v443.toNat, Nat.add v480.toNat 64, 0]
def k0_off246 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_322 : BitVec 32 := 0#32
  ![v443.toNat, Nat.add v480.toNat 96, 0]
def k0_off247 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_330 : BitVec 32 := 0#32
  ![v443.toNat, Nat.add v480.toNat 128, 0]
def k0_off248 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_338 : BitVec 32 := 0#32
  ![v443.toNat, Nat.add v480.toNat 160, 0]
def k0_off249 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_346 : BitVec 32 := 0#32
  ![v443.toNat, Nat.add v480.toNat 192, 0]
def k0_off250 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_354 : BitVec 32 := 0#32
  ![v443.toNat, Nat.add v480.toNat 224, 0]
def k0_off251 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_362 : BitVec 32 := 0#32
  ![v443.toNat, Nat.add v480.toNat 256, 0]
def k0_off252 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_370 : BitVec 32 := 0#32
  ![v443.toNat, Nat.add v480.toNat 288, 0]
def k0_off253 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_378 : BitVec 32 := 0#32
  ![v443.toNat, Nat.add v480.toNat 320, 0]
def k0_off254 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_386 : BitVec 32 := 0#32
  ![v443.toNat, Nat.add v480.toNat 352, 0]
def k0_off255 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_389 : BitVec 32 := 0#32
  ![v443.toNat, Nat.add v480.toNat 384, 0]
def k0_off256 (i : grid0.Coords) (k0_t15 : Fin (k0_t15_loop i).trips) (k0_t16 : Fin k0_t16_loop.trips) : Fin 3 → Nat :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t16
  let c448_i32 : BitVec 32 := 448#32
  let v479 : BitVec 32 := Scalar.muli arg22 c448_i32
  let v480 : BitVec 32 := v479
  let c0_i32_392 : BitVec 32 := 0#32
  ![v443.toNat, Nat.add v480.toNat 416, 0]
def k0_mult170 (i : grid0.Coords) (k0_t15 : Fin (k0_t15_loop i).trips) : BitVec 32 :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c1_i32_268 : BitVec 32 := 1#32
  let v449 : BitVec 32 := Scalar.subi arg21 c1_i32_268
  let c0_i32_271 : BitVec 32 := 0#32
  let v452 : BitVec 1 := Scalar.cmpi .sgt v449 c0_i32_271
  let v453 : BitVec 32 := Scalar.extui v452
  let c0_i32_272 : BitVec 32 := 0#32
  let v454 : BitVec 1 := Scalar.cmpi .slt v449 c0_i32_272
  let v455 : BitVec 32 := Scalar.extui v454
  let v456 : BitVec 32 := Scalar.subi v453 v455
  let c24_i32_270 : BitVec 32 := 24#32
  let c0_i32_273 : BitVec 32 := 0#32
  let v457 : BitVec 1 := Scalar.cmpi .sgt c24_i32_270 c0_i32_273
  let v458 : BitVec 32 := Scalar.extui v457
  let c0_i32_274 : BitVec 32 := 0#32
  let v459 : BitVec 1 := Scalar.cmpi .slt c24_i32_270 c0_i32_274
  let v460 : BitVec 32 := Scalar.extui v459
  let v461 : BitVec 32 := Scalar.subi v458 v460
  let v462 : BitVec 1 := Scalar.cmpi .ne v456 v461
  let v463 : BitVec 32 := Scalar.remsi v449 c24_i32_270
  let c0_i32_275 : BitVec 32 := 0#32
  let v464 : BitVec 1 := Scalar.cmpi .ne v463 c0_i32_275
  let v465 : BitVec 1 := Scalar.andi v462 v464
  let v451 : BitVec 32 := Scalar.divsi v449 c24_i32_270
  let c1_i32_276 : BitVec 32 := 1#32
  let v466 : BitVec 32 := Scalar.subi v451 c1_i32_276
  let v467 : BitVec 32 := Scalar.select v465 v466 v451
  let c24_i32_277 : BitVec 32 := 24#32
  let v468 : BitVec 32 := Scalar.muli v467 c24_i32_277
  let v469 : BitVec 32 := Scalar.subi v449 v468
  let c3136_i32_278 : BitVec 32 := 3136#32
  let v470 : BitVec 32 := Scalar.muli v469 c3136_i32_278
  v470
def k0_mult171 (i : grid0.Coords) (k0_t15 : Fin (k0_t15_loop i).trips) : BitVec 32 :=
  let arg0 : BitVec 32 := BitVec.ofNat 32 (i 0).val
  let c72_i32 : BitVec 32 := 72#32
  let v349 : BitVec 32 := Scalar.addi arg0 c72_i32
  let c1_i32_211 : BitVec 32 := 1#32
  let arg21 : BitVec 32 := Scf.iv v349 c1_i32_211 k0_t15
  let c1_i32_268 : BitVec 32 := 1#32
  let v449 : BitVec 32 := Scalar.subi arg21 c1_i32_268
  let c0_i32_271 : BitVec 32 := 0#32
  let v452 : BitVec 1 := Scalar.cmpi .sgt v449 c0_i32_271
  let v453 : BitVec 32 := Scalar.extui v452
  let c0_i32_272 : BitVec 32 := 0#32
  let v454 : BitVec 1 := Scalar.cmpi .slt v449 c0_i32_272
  let v455 : BitVec 32 := Scalar.extui v454
  let v456 : BitVec 32 := Scalar.subi v453 v455
  let c24_i32_270 : BitVec 32 := 24#32
  let c0_i32_273 : BitVec 32 := 0#32
  let v457 : BitVec 1 := Scalar.cmpi .sgt c24_i32_270 c0_i32_273
  let v458 : BitVec 32 := Scalar.extui v457
  let c0_i32_274 : BitVec 32 := 0#32
  let v459 : BitVec 1 := Scalar.cmpi .slt c24_i32_270 c0_i32_274
  let v460 : BitVec 32 := Scalar.extui v459
  let v461 : BitVec 32 := Scalar.subi v458 v460
  let v462 : BitVec 1 := Scalar.cmpi .ne v456 v461
  let v463 : BitVec 32 := Scalar.remsi v449 c24_i32_270
  let c0_i32_275 : BitVec 32 := 0#32
  let v464 : BitVec 1 := Scalar.cmpi .ne v463 c0_i32_275
  let v465 : BitVec 1 := Scalar.andi v462 v464
  let v451 : BitVec 32 := Scalar.divsi v449 c24_i32_270
  let c1_i32_276 : BitVec 32 := 1#32
  let v466 : BitVec 32 := Scalar.subi v451 c1_i32_276
  let v467 : BitVec 32 := Scalar.select v465 v466 v451
  let c128_i32_279 : BitVec 32 := 128#32
  let v472 : BitVec 32 := Scalar.muli v467 c128_i32_279
  v472
@[reducible] def k0_t17_loop (i : grid0.Coords) : Scf.Loop 32 :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let v352 : BitVec 32 := Scalar.addi v349 v351
  let c1_i32_212 : BitVec 32 := 1#32
  ⟨v355, v352, c1_i32_212⟩
def k0_mult172 (i : grid0.Coords) (k0_t17 : Fin (k0_t17_loop i).trips) : BitVec 32 :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_242 : BitVec 32 := 6#32
  let v412 : BitVec 32 := Scalar.subi arg21 c6_i32_242
  let c0_i32_245 : BitVec 32 := 0#32
  let v415 : BitVec 1 := Scalar.cmpi .sgt v412 c0_i32_245
  let v416 : BitVec 32 := Scalar.extui v415
  let c0_i32_246 : BitVec 32 := 0#32
  let v417 : BitVec 1 := Scalar.cmpi .slt v412 c0_i32_246
  let v418 : BitVec 32 := Scalar.extui v417
  let v419 : BitVec 32 := Scalar.subi v416 v418
  let c24_i32_244 : BitVec 32 := 24#32
  let c0_i32_247 : BitVec 32 := 0#32
  let v420 : BitVec 1 := Scalar.cmpi .sgt c24_i32_244 c0_i32_247
  let v421 : BitVec 32 := Scalar.extui v420
  let c0_i32_248 : BitVec 32 := 0#32
  let v422 : BitVec 1 := Scalar.cmpi .slt c24_i32_244 c0_i32_248
  let v423 : BitVec 32 := Scalar.extui v422
  let v424 : BitVec 32 := Scalar.subi v421 v423
  let v425 : BitVec 1 := Scalar.cmpi .ne v419 v424
  let v426 : BitVec 32 := Scalar.remsi v412 c24_i32_244
  let c0_i32_249 : BitVec 32 := 0#32
  let v427 : BitVec 1 := Scalar.cmpi .ne v426 c0_i32_249
  let v428 : BitVec 1 := Scalar.andi v425 v427
  let v414 : BitVec 32 := Scalar.divsi v412 c24_i32_244
  let c1_i32_250 : BitVec 32 := 1#32
  let v429 : BitVec 32 := Scalar.subi v414 c1_i32_250
  let v430 : BitVec 32 := Scalar.select v428 v429 v414
  let c24_i32_251 : BitVec 32 := 24#32
  let v431 : BitVec 32 := Scalar.muli v430 c24_i32_251
  let v432 : BitVec 32 := Scalar.subi v412 v431
  let c3136_i32_252 : BitVec 32 := 3136#32
  let v433 : BitVec 32 := Scalar.muli v432 c3136_i32_252
  v433
def k0_mult173 (i : grid0.Coords) (k0_t17 : Fin (k0_t17_loop i).trips) : BitVec 32 :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_242 : BitVec 32 := 6#32
  let v412 : BitVec 32 := Scalar.subi arg21 c6_i32_242
  let c0_i32_245 : BitVec 32 := 0#32
  let v415 : BitVec 1 := Scalar.cmpi .sgt v412 c0_i32_245
  let v416 : BitVec 32 := Scalar.extui v415
  let c0_i32_246 : BitVec 32 := 0#32
  let v417 : BitVec 1 := Scalar.cmpi .slt v412 c0_i32_246
  let v418 : BitVec 32 := Scalar.extui v417
  let v419 : BitVec 32 := Scalar.subi v416 v418
  let c24_i32_244 : BitVec 32 := 24#32
  let c0_i32_247 : BitVec 32 := 0#32
  let v420 : BitVec 1 := Scalar.cmpi .sgt c24_i32_244 c0_i32_247
  let v421 : BitVec 32 := Scalar.extui v420
  let c0_i32_248 : BitVec 32 := 0#32
  let v422 : BitVec 1 := Scalar.cmpi .slt c24_i32_244 c0_i32_248
  let v423 : BitVec 32 := Scalar.extui v422
  let v424 : BitVec 32 := Scalar.subi v421 v423
  let v425 : BitVec 1 := Scalar.cmpi .ne v419 v424
  let v426 : BitVec 32 := Scalar.remsi v412 c24_i32_244
  let c0_i32_249 : BitVec 32 := 0#32
  let v427 : BitVec 1 := Scalar.cmpi .ne v426 c0_i32_249
  let v428 : BitVec 1 := Scalar.andi v425 v427
  let v414 : BitVec 32 := Scalar.divsi v412 c24_i32_244
  let c1_i32_250 : BitVec 32 := 1#32
  let v429 : BitVec 32 := Scalar.subi v414 c1_i32_250
  let v430 : BitVec 32 := Scalar.select v428 v429 v414
  let c128_i32 : BitVec 32 := 128#32
  let v435 : BitVec 32 := Scalar.muli v430 c128_i32
  v435
def k0_off257 (i : grid0.Coords) (k0_t17 : Fin (k0_t17_loop i).trips) (c6_i32_242 : BitVec 32) : Fin 1 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let v412 : BitVec 32 := Scalar.subi arg21 c6_i32_242
  let c6_i32_243 : BitVec 32 := 6#32
  let v413 : BitVec 32 := Scalar.remsi v412 c6_i32_243
  ![v413.toNat]
def k0_off258 (i : grid0.Coords) (k0_t17 : Fin (k0_t17_loop i).trips) (c6_i32_242 : BitVec 32) : Fin 2 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let v412 : BitVec 32 := Scalar.subi arg21 c6_i32_242
  let c0_i32_245 : BitVec 32 := 0#32
  let v415 : BitVec 1 := Scalar.cmpi .sgt v412 c0_i32_245
  let v416 : BitVec 32 := Scalar.extui v415
  let c0_i32_246 : BitVec 32 := 0#32
  let v417 : BitVec 1 := Scalar.cmpi .slt v412 c0_i32_246
  let v418 : BitVec 32 := Scalar.extui v417
  let v419 : BitVec 32 := Scalar.subi v416 v418
  let c24_i32_244 : BitVec 32 := 24#32
  let c0_i32_247 : BitVec 32 := 0#32
  let v420 : BitVec 1 := Scalar.cmpi .sgt c24_i32_244 c0_i32_247
  let v421 : BitVec 32 := Scalar.extui v420
  let c0_i32_248 : BitVec 32 := 0#32
  let v422 : BitVec 1 := Scalar.cmpi .slt c24_i32_244 c0_i32_248
  let v423 : BitVec 32 := Scalar.extui v422
  let v424 : BitVec 32 := Scalar.subi v421 v423
  let v425 : BitVec 1 := Scalar.cmpi .ne v419 v424
  let v426 : BitVec 32 := Scalar.remsi v412 c24_i32_244
  let c0_i32_249 : BitVec 32 := 0#32
  let v427 : BitVec 1 := Scalar.cmpi .ne v426 c0_i32_249
  let v428 : BitVec 1 := Scalar.andi v425 v427
  let v414 : BitVec 32 := Scalar.divsi v412 c24_i32_244
  let c1_i32_250 : BitVec 32 := 1#32
  let v429 : BitVec 32 := Scalar.subi v414 c1_i32_250
  let v430 : BitVec 32 := Scalar.select v428 v429 v414
  let c24_i32_251 : BitVec 32 := 24#32
  let v431 : BitVec 32 := Scalar.muli v430 c24_i32_251
  let v432 : BitVec 32 := Scalar.subi v412 v431
  let c3136_i32_252 : BitVec 32 := 3136#32
  let v433 : BitVec 32 := Scalar.muli v432 c3136_i32_252
  let v434 : BitVec 32 := v433
  let c128_i32 : BitVec 32 := 128#32
  let v435 : BitVec 32 := Scalar.muli v430 c128_i32
  let v436 : BitVec 32 := v435
  ![v434.toNat, v436.toNat]
def k0_off259 (i : grid0.Coords) (k0_t17 : Fin (k0_t17_loop i).trips) (c6_i32_242 : BitVec 32) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let v412 : BitVec 32 := Scalar.subi arg21 c6_i32_242
  let c6_i32_243 : BitVec 32 := 6#32
  let v413 : BitVec 32 := Scalar.remsi v412 c6_i32_243
  let c0_i32_253 : BitVec 32 := 0#32
  let c0_i32_254 : BitVec 32 := 0#32
  ![v413.toNat, 0, 0]
@[reducible] def k0_t18_loop : Scf.Loop 32 :=
  let c0_i32_264 : BitVec 32 := 0#32
  let c7_i32_265 : BitVec 32 := 7#32
  let v448 : BitVec 32 := Scalar.addi c0_i32_264 c7_i32_265
  let c1_i32_266 : BitVec 32 := 1#32
  ⟨c0_i32_264, v448, c1_i32_266⟩
def k0_mult174 (k0_t18 : Fin k0_t18_loop.trips) : BitVec 32 :=
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  v479
def k0_off260 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c37_i32_255 : BitVec 32 := 37#32
  let v442 : BitVec 32 := Scalar.remsi arg21 c37_i32_255
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_282 : BitVec 32 := 0#32
  ![v442.toNat, v480.toNat, 0]
def k0_off261 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_298 : BitVec 32 := 0#32
  ![v443.toNat, v480.toNat, 0]
def k0_off262 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_298 : BitVec 32 := 0#32
  ![v443.toNat, v480.toNat, 0]
def k0_off263 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_306 : BitVec 32 := 0#32
  ![v443.toNat, Nat.add v480.toNat 32, 0]
def k0_off264 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_314 : BitVec 32 := 0#32
  ![v443.toNat, Nat.add v480.toNat 64, 0]
def k0_off265 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_322 : BitVec 32 := 0#32
  ![v443.toNat, Nat.add v480.toNat 96, 0]
def k0_off266 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_330 : BitVec 32 := 0#32
  ![v443.toNat, Nat.add v480.toNat 128, 0]
def k0_off267 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_338 : BitVec 32 := 0#32
  ![v443.toNat, Nat.add v480.toNat 160, 0]
def k0_off268 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_346 : BitVec 32 := 0#32
  ![v443.toNat, Nat.add v480.toNat 192, 0]
def k0_off269 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_354 : BitVec 32 := 0#32
  ![v443.toNat, Nat.add v480.toNat 224, 0]
def k0_off270 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_362 : BitVec 32 := 0#32
  ![v443.toNat, Nat.add v480.toNat 256, 0]
def k0_off271 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_370 : BitVec 32 := 0#32
  ![v443.toNat, Nat.add v480.toNat 288, 0]
def k0_off272 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_378 : BitVec 32 := 0#32
  ![v443.toNat, Nat.add v480.toNat 320, 0]
def k0_off273 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_386 : BitVec 32 := 0#32
  ![v443.toNat, Nat.add v480.toNat 352, 0]
def k0_off274 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_389 : BitVec 32 := 0#32
  ![v443.toNat, Nat.add v480.toNat 384, 0]
def k0_off275 (i : grid0.Coords) (k0_t17 : Fin (k0_t17_loop i).trips) (k0_t18 : Fin k0_t18_loop.trips) : Fin 3 → Nat :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c6_i32_256 : BitVec 32 := 6#32
  let v443 : BitVec 32 := Scalar.remsi arg21 c6_i32_256
  let c0_i32_264 : BitVec 32 := 0#32
  let c1_i32_266 : BitVec 32 := 1#32
  let arg22 : BitVec 32 := Scf.iv c0_i32_264 c1_i32_266 k0_t18
  let c448_i32 : BitVec 32 := 448#32
  let v479 : BitVec 32 := Scalar.muli arg22 c448_i32
  let v480 : BitVec 32 := v479
  let c0_i32_392 : BitVec 32 := 0#32
  ![v443.toNat, Nat.add v480.toNat 416, 0]
def k0_mult175 (i : grid0.Coords) (k0_t17 : Fin (k0_t17_loop i).trips) : BitVec 32 :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c1_i32_268 : BitVec 32 := 1#32
  let v449 : BitVec 32 := Scalar.subi arg21 c1_i32_268
  let c0_i32_271 : BitVec 32 := 0#32
  let v452 : BitVec 1 := Scalar.cmpi .sgt v449 c0_i32_271
  let v453 : BitVec 32 := Scalar.extui v452
  let c0_i32_272 : BitVec 32 := 0#32
  let v454 : BitVec 1 := Scalar.cmpi .slt v449 c0_i32_272
  let v455 : BitVec 32 := Scalar.extui v454
  let v456 : BitVec 32 := Scalar.subi v453 v455
  let c24_i32_270 : BitVec 32 := 24#32
  let c0_i32_273 : BitVec 32 := 0#32
  let v457 : BitVec 1 := Scalar.cmpi .sgt c24_i32_270 c0_i32_273
  let v458 : BitVec 32 := Scalar.extui v457
  let c0_i32_274 : BitVec 32 := 0#32
  let v459 : BitVec 1 := Scalar.cmpi .slt c24_i32_270 c0_i32_274
  let v460 : BitVec 32 := Scalar.extui v459
  let v461 : BitVec 32 := Scalar.subi v458 v460
  let v462 : BitVec 1 := Scalar.cmpi .ne v456 v461
  let v463 : BitVec 32 := Scalar.remsi v449 c24_i32_270
  let c0_i32_275 : BitVec 32 := 0#32
  let v464 : BitVec 1 := Scalar.cmpi .ne v463 c0_i32_275
  let v465 : BitVec 1 := Scalar.andi v462 v464
  let v451 : BitVec 32 := Scalar.divsi v449 c24_i32_270
  let c1_i32_276 : BitVec 32 := 1#32
  let v466 : BitVec 32 := Scalar.subi v451 c1_i32_276
  let v467 : BitVec 32 := Scalar.select v465 v466 v451
  let c24_i32_277 : BitVec 32 := 24#32
  let v468 : BitVec 32 := Scalar.muli v467 c24_i32_277
  let v469 : BitVec 32 := Scalar.subi v449 v468
  let c3136_i32_278 : BitVec 32 := 3136#32
  let v470 : BitVec 32 := Scalar.muli v469 c3136_i32_278
  v470
def k0_mult176 (i : grid0.Coords) (k0_t17 : Fin (k0_t17_loop i).trips) : BitVec 32 :=
  let arg0 : BitVec 32 := BitVec.ofNat 32 (i 0).val
  let c72_i32 : BitVec 32 := 72#32
  let v349 : BitVec 32 := Scalar.addi arg0 c72_i32
  let c96_i32 : BitVec 32 := 96#32
  let v350 : BitVec 32 := Scalar.addi arg0 c96_i32
  let v351 : BitVec 32 := Scalar.subi v350 v349
  let c1_i32_210 : BitVec 32 := 1#32
  let v353 : BitVec 32 := Scalar.divsi v351 c1_i32_210
  let v354 : BitVec 32 := Scalar.muli v353 c1_i32_210
  let v355 : BitVec 32 := Scalar.addi v349 v354
  let c1_i32_212 : BitVec 32 := 1#32
  let arg21 : BitVec 32 := Scf.iv v355 c1_i32_212 k0_t17
  let c1_i32_268 : BitVec 32 := 1#32
  let v449 : BitVec 32 := Scalar.subi arg21 c1_i32_268
  let c0_i32_271 : BitVec 32 := 0#32
  let v452 : BitVec 1 := Scalar.cmpi .sgt v449 c0_i32_271
  let v453 : BitVec 32 := Scalar.extui v452
  let c0_i32_272 : BitVec 32 := 0#32
  let v454 : BitVec 1 := Scalar.cmpi .slt v449 c0_i32_272
  let v455 : BitVec 32 := Scalar.extui v454
  let v456 : BitVec 32 := Scalar.subi v453 v455
  let c24_i32_270 : BitVec 32 := 24#32
  let c0_i32_273 : BitVec 32 := 0#32
  let v457 : BitVec 1 := Scalar.cmpi .sgt c24_i32_270 c0_i32_273
  let v458 : BitVec 32 := Scalar.extui v457
  let c0_i32_274 : BitVec 32 := 0#32
  let v459 : BitVec 1 := Scalar.cmpi .slt c24_i32_270 c0_i32_274
  let v460 : BitVec 32 := Scalar.extui v459
  let v461 : BitVec 32 := Scalar.subi v458 v460
  let v462 : BitVec 1 := Scalar.cmpi .ne v456 v461
  let v463 : BitVec 32 := Scalar.remsi v449 c24_i32_270
  let c0_i32_275 : BitVec 32 := 0#32
  let v464 : BitVec 1 := Scalar.cmpi .ne v463 c0_i32_275
  let v465 : BitVec 1 := Scalar.andi v462 v464
  let v451 : BitVec 32 := Scalar.divsi v449 c24_i32_270
  let c1_i32_276 : BitVec 32 := 1#32
  let v466 : BitVec 32 := Scalar.subi v451 c1_i32_276
  let v467 : BitVec 32 := Scalar.select v465 v466 v451
  let c128_i32_279 : BitVec 32 := 128#32
  let v472 : BitVec 32 := Scalar.muli v467 c128_i32_279
  v472
def k0_mult177 : BitVec 32 :=
  let c72128_i32 : BitVec 32 := 72128#32
  c72128_i32
def k0_mult178 : BitVec 32 :=
  let c384_i32 : BitVec 32 := 384#32
  c384_i32
def k0_off276 (c95_i32 : BitVec 32) : Fin 1 → Nat :=
  let c6_i32_213 : BitVec 32 := 6#32
  let v356 : BitVec 32 := Scalar.remsi c95_i32 c6_i32_213
  ![v356.toNat]
def k0_off277 (c95_i32 : BitVec 32) : Fin 3 → Nat :=
  let c6_i32_213 : BitVec 32 := 6#32
  let v356 : BitVec 32 := Scalar.remsi c95_i32 c6_i32_213
  let c0_i32_214 : BitVec 32 := 0#32
  let c0_i32_215 : BitVec 32 := 0#32
  ![v356.toNat, 0, 0]
def k0_mult179 : BitVec 32 :=
  let c56448_i32 : BitVec 32 := 56448#32
  c56448_i32
def k0_mult180 : BitVec 32 :=
  let c384_i32_217 : BitVec 32 := 384#32
  c384_i32_217
def k0_mult181 : BitVec 32 :=
  let c59584_i32 : BitVec 32 := 59584#32
  c59584_i32
def k0_mult182 : BitVec 32 :=
  let c384_i32_221 : BitVec 32 := 384#32
  c384_i32_221
def k0_mult183 : BitVec 32 :=
  let c62720_i32 : BitVec 32 := 62720#32
  c62720_i32
def k0_mult184 : BitVec 32 :=
  let c384_i32_225 : BitVec 32 := 384#32
  c384_i32_225
def k0_mult185 : BitVec 32 :=
  let c65856_i32 : BitVec 32 := 65856#32
  c65856_i32
def k0_mult186 : BitVec 32 :=
  let c384_i32_229 : BitVec 32 := 384#32
  c384_i32_229
def k0_mult187 : BitVec 32 :=
  let c68992_i32 : BitVec 32 := 68992#32
  c68992_i32
def k0_mult188 : BitVec 32 :=
  let c384_i32_233 : BitVec 32 := 384#32
  c384_i32_233
def k0_mult189 : BitVec 32 :=
  let c72128_i32_238 : BitVec 32 := 72128#32
  c72128_i32_238
def k0_mult190 : BitVec 32 :=
  let c384_i32_239 : BitVec 32 := 384#32
  c384_i32_239
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S96x784x512 : Shape := ⟨3, ![96, 784, 512]⟩
abbrev S_ : Shape := ⟨0, ![]⟩
abbrev S512 : Shape := ⟨1, ![512]⟩
abbrev S1 : Shape := ⟨1, ![1]⟩
abbrev S1x1x1 : Shape := ⟨3, ![1, 1, 1]⟩
abbrev S1x1x512 : Shape := ⟨3, ![1, 1, 512]⟩

abbrev nBuf : Space → Nat
  | .hbm => 15
  | .vmem => 11
  | .smem => 0
  | _ => 0

abbrev bufTy : (tb : Table) → Fin (tcTables nBuf tb) → BufTy
  | .hbm, ⟨0, _⟩ => ⟨S96x784x512, .i8⟩
  | .hbm, ⟨1, _⟩ => ⟨S_, .f32⟩
  | .hbm, ⟨2, _⟩ => ⟨S96x784x512, .i8⟩
  | .hbm, ⟨3, _⟩ => ⟨S_, .f32⟩
  | .hbm, ⟨4, _⟩ => ⟨S96x784x512, .i8⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S96x784x512, .fp8e4m3⟩
  | .hbm, ⟨9, _⟩ => ⟨S96x784x512, .fp8e5m2⟩
  | .hbm, ⟨10, _⟩ => ⟨S1, .f32⟩
  | .hbm, ⟨11, _⟩ => ⟨S1, .f32⟩
  | .hbm, ⟨12, _⟩ => ⟨S96x784x512, .bf16⟩
  | .hbm, ⟨13, _⟩ => ⟨S512, .f32⟩
  | .hbm, ⟨14, _⟩ => ⟨S512, .f32⟩
  | .local _ .vmem, ⟨0, _⟩ => ⟨S96x784x512, .fp8e4m3⟩
  | .local _ .vmem, ⟨1, _⟩ => ⟨S1, .f32⟩
  | .local _ .vmem, ⟨2, _⟩ => ⟨S96x784x512, .fp8e5m2⟩
  | .local _ .vmem, ⟨3, _⟩ => ⟨S1, .f32⟩
  | .local _ .vmem, ⟨4, _⟩ => ⟨S96x784x512, .i8⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S96x784x512, .bf16⟩
  | .local _ .vmem, ⟨9, _⟩ => ⟨S512, .f32⟩
  | .local _ .vmem, ⟨10, _⟩ => ⟨S512, .f32⟩
  | _, _ => ⟨S96x784x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S96x784x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x784x512 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x784x512 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S96x784x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Offs.lean ====
/-
  The offsets, loop counts and conditions of the kernel's body in closed form.
-/
module

public import proofs.«01_k».proof.Proof.Gen.Kernel.Skeleton

@[expose] public section

set_option maxRecDepth 16384

noncomputable section

namespace Cert.Kernel.Hand

open Idealize.ShloMosaic Cert.Kernel

/-- The one point of the grid. -/
def i0 : grid0.Coords := fun k => ⟨0, by revert k; decide⟩

theorem coords_eq (i : grid0.Coords) : i = i0 := by
  funext k; have hk : k = 0 := Subsingleton.elim _ _; subst hk; exact Subsingleton.elim (α := Fin 1) _ _

theorem t1_trips (i : grid0.Coords) : (k0_t1_loop i).trips = 24 := by rw [coords_eq i]; decide +kernel
theorem t2_trips : k0_t2_loop.trips = 7 := by decide +kernel
theorem t3_trips (i : grid0.Coords) : (k0_t3_loop i).trips = 0 := by rw [coords_eq i]; decide +kernel
theorem t5_trips (i : grid0.Coords) : (k0_t5_loop i).trips = 3 := by rw [coords_eq i]; decide +kernel
theorem t6_trips (i : grid0.Coords) : (k0_t6_loop i).trips = 24 := by rw [coords_eq i]; decide +kernel
theorem t7_trips : k0_t7_loop.trips = 7 := by decide +kernel
theorem t8_trips (i : grid0.Coords) : (k0_t8_loop i).trips = 0 := by rw [coords_eq i]; decide +kernel
theorem t10_trips (i : grid0.Coords) : (k0_t10_loop i).trips = 0 := by rw [coords_eq i]; decide +kernel
theorem t15_trips (i : grid0.Coords) : (k0_t15_loop i).trips = 24 := by rw [coords_eq i]; decide +kernel
theorem t16_trips : k0_t16_loop.trips = 7 := by decide +kernel
theorem t17_trips (i : grid0.Coords) : (k0_t17_loop i).trips = 0 := by rw [coords_eq i]; decide +kernel

theorem off4_eq (i : grid0.Coords) : ∀ (a : Fin (k0_t1_loop i).trips), k0_off4 i a = ![((a : ℕ) + 12) % 13] := by
  rw [coords_eq i]; decide +kernel

theorem off5_eq (i : grid0.Coords) : ∀ (a : Fin (k0_t1_loop i).trips), k0_off5 i a = ![((a : ℕ) + 12) % 37, 0, 0] := by
  rw [coords_eq i]; decide +kernel

theorem off6_eq (i : grid0.Coords) : ∀ (a : Fin (k0_t1_loop i).trips), k0_off6 i a = ![3136 * (((a : ℕ) + 12) % 24), 128 * (((a : ℕ) + 12) / 24)] := by
  rw [coords_eq i]; decide +kernel

theorem off7_eq (i : grid0.Coords) : ∀ (a : Fin (k0_t1_loop i).trips), k0_off7 i a = ![((a : ℕ) + 12) % 13, 0, 0] := by
  rw [coords_eq i]; decide +kernel

theorem off8_eq (i : grid0.Coords) : ∀ (a : Fin (k0_t1_loop i).trips), k0_off8 i a = ![((a : ℕ)) % 13] := by
  rw [coords_eq i]; decide +kernel

theorem off9_eq (i : grid0.Coords) : ∀ (a : Fin (k0_t1_loop i).trips), k0_off9 i a = ![((a : ℕ)) % 37, 0, 0] := by
  rw [coords_eq i]; decide +kernel

theorem off10_eq (i : grid0.Coords) : ∀ (a : Fin (k0_t1_loop i).trips), k0_off10 i a = ![3136 * (((a : ℕ)) % 24), 128 * (((a : ℕ)) / 24)] := by
  rw [coords_eq i]; decide +kernel

theorem off11_eq (i : grid0.Coords) : ∀ (a : Fin (k0_t1_loop i).trips), k0_off11 i a = ![((a : ℕ)) % 13, 0, 0] := by
  rw [coords_eq i]; decide +kernel

theorem off12_eq (i : grid0.Coords) : ∀ (a : Fin (k0_t1_loop i).trips) (b : Fin k0_t2_loop.trips), k0_off12 i a b = ![(a : ℕ) % 37, 448 * (b : ℕ), 0] := by
  rw [coords_eq i]; decide +kernel

theorem off13_eq (i : grid0.Coords) : ∀ (a : Fin (k0_t1_loop i).trips) (b : Fin k0_t2_loop.trips), k0_off13 i a b = ![(a : ℕ) % 13, 448 * (b : ℕ), 0] := by
  rw [coords_eq i]; decide +kernel

theorem off14_eq (i : grid0.Coords) : ∀ (a : Fin (k0_t1_loop i).trips) (b : Fin k0_t2_loop.trips), k0_off14 i a b = ![(a : ℕ) % 37, 448 * (b : ℕ) + 0, 0] := by
  rw [coords_eq i]; decide +kernel

theorem off15_eq (i : grid0.Coords) : ∀ (a : Fin (k0_t1_loop i).trips) (b : Fin k0_t2_loop.trips), k0_off15 i a b = ![(a : ℕ) % 37, 448 * (b : ℕ) + 32, 0] := by
  rw [coords_eq i]; decide +kernel

theorem off16_eq (i : grid0.Coords) : ∀ (a : Fin (k0_t1_loop i).trips) (b : Fin k0_t2_loop.trips), k0_off16 i a b = ![(a : ℕ) % 37, 448 * (b : ℕ) + 64, 0] := by
  rw [coords_eq i]; decide +kernel

theorem off17_eq (i : grid0.Coords) : ∀ (a : Fin (k0_t1_loop i).trips) (b : Fin k0_t2_loop.trips), k0_off17 i a b = ![(a : ℕ) % 37, 448 * (b : ℕ) + 96, 0] := by
  rw [coords_eq i]; decide +kernel

theorem off18_eq (i : grid0.Coords) : ∀ (a : Fin (k0_t1_loop i).trips) (b : Fin k0_t2_loop.trips), k0_off18 i a b = ![(a : ℕ) % 37, 448 * (b : ℕ) + 128, 0] := by
  rw [coords_eq i]; decide +kernel

theorem off19_eq (i : grid0.Coords) : ∀ (a : Fin (k0_t1_loop i).trips) (b : Fin k0_t2_loop.trips), k0_off19 i a b = ![(a : ℕ) % 37, 448 * (b : ℕ) + 160, 0] := by
  rw [coords_eq i]; decide +kernel

theorem off20_eq (i : grid0.Coords) : ∀ (a : Fin (k0_t1_loop i).trips) (b : Fin k0_t2_loop.trips), k0_off20 i a b = ![(a : ℕ) % 37, 448 * (b : ℕ) + 192, 0] := by
  rw [coords_eq i]; decide +kernel

theorem off21_eq (i : grid0.Coords) : ∀ (a : Fin (k0_t1_loop i).trips) (b : Fin k0_t2_loop.trips), k0_off21 i a b = ![(a : ℕ) % 37, 448 * (b : ℕ) + 224, 0] := by
  rw [coords_eq i]; decide +kernel

theorem off22_eq (i : grid0.Coords) : ∀ (a : Fin (k0_t1_loop i).trips) (b : Fin k0_t2_loop.trips), k0_off22 i a b = ![(a : ℕ) % 37, 448 * (b : ℕ) + 256, 0] := by
  rw [coords_eq i]; decide +kernel

theorem off23_eq (i : grid0.Coords) : ∀ (a : Fin (k0_t1_loop i).trips) (b : Fin k0_t2_loop.trips), k0_off23 i a b = ![(a : ℕ) % 37, 448 * (b : ℕ) + 288, 0] := by
  rw [coords_eq i]; decide +kernel

theorem off24_eq (i : grid0.Coords) : ∀ (a : Fin (k0_t1_loop i).trips) (b : Fin k0_t2_loop.trips), k0_off24 i a b = ![(a : ℕ) % 37, 448 * (b : ℕ) + 320, 0] := by
  rw [coords_eq i]; decide +kernel

theorem off25_eq (i : grid0.Coords) : ∀ (a : Fin (k0_t1_loop i).trips) (b : Fin k0_t2_loop.trips), k0_off25 i a b = ![(a : ℕ) % 37, 448 * (b : ℕ) + 352, 0] := by
  rw [coords_eq i]; decide +kernel

theorem off26_eq (i : grid0.Coords) : ∀ (a : Fin (k0_t1_loop i).trips) (b : Fin k0_t2_loop.trips), k0_off26 i a b = ![(a : ℕ) % 37, 448 * (b : ℕ) + 384, 0] := by
  rw [coords_eq i]; decide +kernel

theorem off27_eq (i : grid0.Coords) : ∀ (a : Fin (k0_t1_loop i).trips) (b : Fin k0_t2_loop.trips), k0_off27 i a b = ![(a : ℕ) % 37, 448 * (b : ℕ) + 416, 0] := by
  rw [coords_eq i]; decide +kernel

theorem off52_eq (i : grid0.Coords) : ∀ (a : Fin (k0_t5_loop i).trips), k0_off52 i a = ![(a : ℕ), 0] := by
  rw [coords_eq i]; decide +kernel

theorem off53_eq (i : grid0.Coords) : ∀ (a : Fin (k0_t5_loop i).trips) (b : Fin (k0_t6_loop i).trips), k0_off53 i a b = ![(24 * ((a : ℕ) + 1) + (b : ℕ) + 12) % 13] := by
  rw [coords_eq i]; decide +kernel

theorem off54_eq (i : grid0.Coords) : ∀ (a : Fin (k0_t5_loop i).trips) (b : Fin (k0_t6_loop i).trips), k0_off54 i a b = ![(24 * ((a : ℕ) + 1) + (b : ℕ) + 12) % 37, 0, 0] := by
  rw [coords_eq i]; decide +kernel

theorem off55_eq (i : grid0.Coords) : ∀ (a : Fin (k0_t5_loop i).trips) (b : Fin (k0_t6_loop i).trips), k0_off55 i a b = ![3136 * ((24 * ((a : ℕ) + 1) + (b : ℕ) + 12) % 24), 128 * ((24 * ((a : ℕ) + 1) + (b : ℕ) + 12) / 24)] := by
  rw [coords_eq i]; decide +kernel

theorem off56_eq (i : grid0.Coords) : ∀ (a : Fin (k0_t5_loop i).trips) (b : Fin (k0_t6_loop i).trips), k0_off56 i a b = ![(24 * ((a : ℕ) + 1) + (b : ℕ) + 12) % 13, 0, 0] := by
  rw [coords_eq i]; decide +kernel

theorem off57_eq (i : grid0.Coords) : ∀ (a : Fin (k0_t5_loop i).trips) (b : Fin (k0_t6_loop i).trips), k0_off57 i a b = ![(24 * ((a : ℕ) + 1) + (b : ℕ)) % 13] := by
  rw [coords_eq i]; decide +kernel

theorem off58_eq (i : grid0.Coords) : ∀ (a : Fin (k0_t5_loop i).trips) (b : Fin (k0_t6_loop i).trips), k0_off58 i a b = ![(24 * ((a : ℕ) + 1) + (b : ℕ)) % 37, 0, 0] := by
  rw [coords_eq i]; decide +kernel

theorem off59_eq (i : grid0.Coords) : ∀ (a : Fin (k0_t5_loop i).trips) (b : Fin (k0_t6_loop i).trips), k0_off59 i a b = ![3136 * ((24 * ((a : ℕ) + 1) + (b : ℕ)) % 24), 128 * ((24 * ((a : ℕ) + 1) + (b : ℕ)) / 24)] := by
  rw [coords_eq i]; decide +kernel

theorem off60_eq (i : grid0.Coords) : ∀ (a : Fin (k0_t5_loop i).trips) (b : Fin (k0_t6_loop i).trips), k0_off60 i a b = ![(24 * ((a : ℕ) + 1) + (b : ℕ)) % 13, 0, 0] := by
  rw [coords_eq i]; decide +kernel

theorem off61_eq (i : grid0.Coords) : ∀ (a : Fin (k0_t5_loop i).trips) (b : Fin (k0_t6_loop i).trips), 6 ≤ 24 * (a : ℕ) + (b : ℕ) → k0_off61 i a b = ![(24 * (a : ℕ) + (b : ℕ) - 6) % 6] := by
  rw [coords_eq i]; decide +kernel

theorem off62_eq (i : grid0.Coords) : ∀ (a : Fin (k0_t5_loop i).trips) (b : Fin (k0_t6_loop i).trips), 6 ≤ 24 * (a : ℕ) + (b : ℕ) → k0_off62 i a b = ![3136 * ((24 * (a : ℕ) + (b : ℕ) - 6) % 24), 128 * ((24 * (a : ℕ) + (b : ℕ) - 6) / 24)] := by
  rw [coords_eq i]; decide +kernel

theorem off63_eq (i : grid0.Coords) : ∀ (a : Fin (k0_t5_loop i).trips) (b : Fin (k0_t6_loop i).trips), 6 ≤ 24 * (a : ℕ) + (b : ℕ) → k0_off63 i a b = ![(24 * (a : ℕ) + (b : ℕ) - 6) % 6, 0, 0] := by
  rw [coords_eq i]; decide +kernel

theorem off96_eq (i : grid0.Coords) : ∀ (a : Fin (k0_t5_loop i).trips) (b : Fin (k0_t6_loop i).trips), 1 ≤ 24 * (a : ℕ) + (b : ℕ) → k0_off96 i a b = ![(24 * (a : ℕ) + (b : ℕ) - 1) % 6] := by
  rw [coords_eq i]; decide +kernel

theorem off97_eq (i : grid0.Coords) : ∀ (a : Fin (k0_t5_loop i).trips) (b : Fin (k0_t6_loop i).trips), 1 ≤ 24 * (a : ℕ) + (b : ℕ) → k0_off97 i a b = ![3136 * ((24 * (a : ℕ) + (b : ℕ) - 1) % 24), 128 * ((24 * (a : ℕ) + (b : ℕ) - 1) / 24)] := by
  rw [coords_eq i]; decide +kernel

theorem off98_eq (i : grid0.Coords) : ∀ (a : Fin (k0_t5_loop i).trips) (b : Fin (k0_t6_loop i).trips), 1 ≤ 24 * (a : ℕ) + (b : ℕ) → k0_off98 i a b = ![(24 * (a : ℕ) + (b : ℕ) - 1) % 6, 0, 0] := by
  rw [coords_eq i]; decide +kernel

theorem off64_eq (i : grid0.Coords) : ∀ (a : Fin (k0_t5_loop i).trips) (b : Fin (k0_t6_loop i).trips) (d : Fin k0_t7_loop.trips), k0_off64 i a b d = ![(24 * ((a : ℕ) + 1) + (b : ℕ)) % 37, 448 * (d : ℕ), 0] := by
  rw [coords_eq i]; decide +kernel

theorem off65_eq (i : grid0.Coords) : ∀ (a : Fin (k0_t5_loop i).trips) (b : Fin (k0_t6_loop i).trips) (d : Fin k0_t7_loop.trips), k0_off65 i a b d = ![(24 * ((a : ℕ) + 1) + (b : ℕ)) % 13, 448 * (d : ℕ), 0] := by
  rw [coords_eq i]; decide +kernel

theorem off66_eq (i : grid0.Coords) : ∀ (a : Fin (k0_t5_loop i).trips) (b : Fin (k0_t6_loop i).trips) (d : Fin k0_t7_loop.trips), k0_off66 i a b d = ![(24 * (a : ℕ) + (b : ℕ)) % 37, 448 * (d : ℕ), 0] := by
  rw [coords_eq i]; decide +kernel

theorem off68_eq (i : grid0.Coords) : ∀ (a : Fin (k0_t5_loop i).trips) (b : Fin (k0_t6_loop i).trips) (d : Fin k0_t7_loop.trips), k0_off68 i a b d = ![(24 * (a : ℕ) + (b : ℕ)) % 6, 448 * (d : ℕ), 0] := by
  rw [coords_eq i]; decide +kernel

theorem off67_eq (i : grid0.Coords) : ∀ (a : Fin (k0_t5_loop i).trips) (b : Fin (k0_t6_loop i).trips) (d : Fin k0_t7_loop.trips), k0_off67 i a b d = ![(24 * ((a : ℕ) + 1) + (b : ℕ)) % 37, 448 * (d : ℕ) + 0, 0] := by
  rw [coords_eq i]; decide +kernel

theorem off69_eq (i : grid0.Coords) : ∀ (a : Fin (k0_t5_loop i).trips) (b : Fin (k0_t6_loop i).trips) (d : Fin k0_t7_loop.trips), k0_off69 i a b d = ![(24 * (a : ℕ) + (b : ℕ)) % 6, 448 * (d : ℕ) + 0, 0] := by
  rw [coords_eq i]; decide +kernel

theorem off70_eq (i : grid0.Coords) : ∀ (a : Fin (k0_t5_loop i).trips) (b : Fin (k0_t6_loop i).trips) (d : Fin k0_t7_loop.trips), k0_off70 i a b d = ![(24 * ((a : ℕ) + 1) + (b : ℕ)) % 37, 448 * (d : ℕ) + 32, 0] := by
  rw [coords_eq i]; decide +kernel

theorem off71_eq (i : grid0.Coords) : ∀ (a : Fin (k0_t5_loop i).trips) (b : Fin (k0_t6_loop i).trips) (d : Fin k0_t7_loop.trips), k0_off71 i a b d = ![(24 * (a : ℕ) + (b : ℕ)) % 6, 448 * (d : ℕ) + 32, 0] := by
  rw [coords_eq i]; decide +kernel

theorem off72_eq (i : grid0.Coords) : ∀ (a : Fin (k0_t5_loop i).trips) (b : Fin (k0_t6_loop i).trips) (d : Fin k0_t7_loop.trips), k0_off72 i a b d = ![(24 * ((a : ℕ) + 1) + (b : ℕ)) % 37, 448 * (d : ℕ) + 64, 0] := by
  rw [coords_eq i]; decide +kernel

theorem off73_eq (i : grid0.Coords) : ∀ (a : Fin (k0_t5_loop i).trips) (b : Fin (k0_t6_loop i).trips) (d : Fin k0_t7_loop.trips), k0_off73 i a b d = ![(24 * (a : ℕ) + (b : ℕ)) % 6, 448 * (d : ℕ) + 64, 0] := by
  rw [coords_eq i]; decide +kernel

theorem off74_eq (i : grid0.Coords) : ∀ (a : Fin (k0_t5_loop i).trips) (b : Fin (k0_t6_loop i).trips) (d : Fin k0_t7_loop.trips), k0_off74 i a b d = ![(24 * ((a : ℕ) + 1) + (b : ℕ)) % 37, 448 * (d : ℕ) + 96, 0] := by
  rw [coords_eq i]; decide +kernel

theorem off75_eq (i : grid0.Coords) : ∀ (a : Fin (k0_t5_loop i).trips) (b : Fin (k0_t6_loop i).trips) (d : Fin k0_t7_loop.trips), k0_off75 i a b d = ![(24 * (a : ℕ) + (b : ℕ)) % 6, 448 * (d : ℕ) + 96, 0] := by
  rw [coords_eq i]; decide +kernel

theorem off76_eq (i : grid0.Coords) : ∀ (a : Fin (k0_t5_loop i).trips) (b : Fin (k0_t6_loop i).trips) (d : Fin k0_t7_loop.trips), k0_off76 i a b d = ![(24 * ((a : ℕ) + 1) + (b : ℕ)) % 37, 448 * (d : ℕ) + 128, 0] := by
  rw [coords_eq i]; decide +kernel

theorem off77_eq (i : grid0.Coords) : ∀ (a : Fin (k0_t5_loop i).trips) (b : Fin (k0_t6_loop i).trips) (d : Fin k0_t7_loop.trips), k0_off77 i a b d = ![(24 * (a : ℕ) + (b : ℕ)) % 6, 448 * (d : ℕ) + 128, 0] := by
  rw [coords_eq i]; decide +kernel

theorem off78_eq (i : grid0.Coords) : ∀ (a : Fin (k0_t5_loop i).trips) (b : Fin (k0_t6_loop i).trips) (d : Fin k0_t7_loop.trips), k0_off78 i a b d = ![(24 * ((a : ℕ) + 1) + (b : ℕ)) % 37, 448 * (d : ℕ) + 160, 0] := by
  rw [coords_eq i]; decide +kernel

theorem off79_eq (i : grid0.Coords) : ∀ (a : Fin (k0_t5_loop i).trips) (b : Fin (k0_t6_loop i).trips) (d : Fin k0_t7_loop.trips), k0_off79 i a b d = ![(24 * (a : ℕ) + (b : ℕ)) % 6, 448 * (d : ℕ) + 160, 0] := by
  rw [coords_eq i]; decide +kernel

theorem off80_eq (i : grid0.Coords) : ∀ (a : Fin (k0_t5_loop i).trips) (b : Fin (k0_t6_loop i).trips) (d : Fin k0_t7_loop.trips), k0_off80 i a b d = ![(24 * ((a : ℕ) + 1) + (b : ℕ)) % 37, 448 * (d : ℕ) + 192, 0] := by
  rw [coords_eq i]; decide +kernel

theorem off81_eq (i : grid0.Coords) : ∀ (a : Fin (k0_t5_loop i).trips) (b : Fin (k0_t6_loop i).trips) (d : Fin k0_t7_loop.trips), k0_off81 i a b d = ![(24 * (a : ℕ) + (b : ℕ)) % 6, 448 * (d : ℕ) + 192, 0] := by
  rw [coords_eq i]; decide +kernel

theorem off82_eq (i : grid0.Coords) : ∀ (a : Fin (k0_t5_loop i).trips) (b : Fin (k0_t6_loop i).trips) (d : Fin k0_t7_loop.trips), k0_off82 i a b d = ![(24 * ((a : ℕ) + 1) + (b : ℕ)) % 37, 448 * (d : ℕ) + 224, 0] := by
  rw [coords_eq i]; decide +kernel

theorem off83_eq (i : grid0.Coords) : ∀ (a : Fin (k0_t5_loop i).trips) (b : Fin (k0_t6_loop i).trips) (d : Fin k0_t7_loop.trips), k0_off83 i a b d = ![(24 * (a : ℕ) + (b : ℕ)) % 6, 448 * (d : ℕ) + 224, 0] := by
  rw [coords_eq i]; decide +kernel

theorem off84_eq (i : grid0.Coords) : ∀ (a : Fin (k0_t5_loop i).trips) (b : Fin (k0_t6_loop i).trips) (d : Fin k0_t7_loop.trips), k0_off84 i a b d = ![(24 * ((a : ℕ) + 1) + (b : ℕ)) % 37, 448 * (d : ℕ) + 256, 0] := by
  rw [coords_eq i]; decide +kernel

theorem off85_eq (i : grid0.Coords) : ∀ (a : Fin (k0_t5_loop i).trips) (b : Fin (k0_t6_loop i).trips) (d : Fin k0_t7_loop.trips), k0_off85 i a b d = ![(24 * (a : ℕ) + (b : ℕ)) % 6, 448 * (d : ℕ) + 256, 0] := by
  rw [coords_eq i]; decide +kernel

theorem off86_eq (i : grid0.Coords) : ∀ (a : Fin (k0_t5_loop i).trips) (b : Fin (k0_t6_loop i).trips) (d : Fin k0_t7_loop.trips), k0_off86 i a b d = ![(24 * ((a : ℕ) + 1) + (b : ℕ)) % 37, 448 * (d : ℕ) + 288, 0] := by
  rw [coords_eq i]; decide +kernel

theorem off87_eq (i : grid0.Coords) : ∀ (a : Fin (k0_t5_loop i).trips) (b : Fin (k0_t6_loop i).trips) (d : Fin k0_t7_loop.trips), k0_off87 i a b d = ![(24 * (a : ℕ) + (b : ℕ)) % 6, 448 * (d : ℕ) + 288, 0] := by
  rw [coords_eq i]; decide +kernel

theorem off88_eq (i : grid0.Coords) : ∀ (a : Fin (k0_t5_loop i).trips) (b : Fin (k0_t6_loop i).trips) (d : Fin k0_t7_loop.trips), k0_off88 i a b d = ![(24 * ((a : ℕ) + 1) + (b : ℕ)) % 37, 448 * (d : ℕ) + 320, 0] := by
  rw [coords_eq i]; decide +kernel

theorem off89_eq (i : grid0.Coords) : ∀ (a : Fin (k0_t5_loop i).trips) (b : Fin (k0_t6_loop i).trips) (d : Fin k0_t7_loop.trips), k0_off89 i a b d = ![(24 * (a : ℕ) + (b : ℕ)) % 6, 448 * (d : ℕ) + 320, 0] := by
  rw [coords_eq i]; decide +kernel

theorem off90_eq (i : grid0.Coords) : ∀ (a : Fin (k0_t5_loop i).trips) (b : Fin (k0_t6_loop i).trips) (d : Fin k0_t7_loop.trips), k0_off90 i a b d = ![(24 * ((a : ℕ) + 1) + (b : ℕ)) % 37, 448 * (d : ℕ) + 352, 0] := by
  rw [coords_eq i]; decide +kernel

theorem off91_eq (i : grid0.Coords) : ∀ (a : Fin (k0_t5_loop i).trips) (b : Fin (k0_t6_loop i).trips) (d : Fin k0_t7_loop.trips), k0_off91 i a b d = ![(24 * (a : ℕ) + (b : ℕ)) % 6, 448 * (d : ℕ) + 352, 0] := by
  rw [coords_eq i]; decide +kernel

theorem off92_eq (i : grid0.Coords) : ∀ (a : Fin (k0_t5_loop i).trips) (b : Fin (k0_t6_loop i).trips) (d : Fin k0_t7_loop.trips), k0_off92 i a b d = ![(24 * ((a : ℕ) + 1) + (b : ℕ)) % 37, 448 * (d : ℕ) + 384, 0] := by
  rw [coords_eq i]; decide +kernel

theorem off93_eq (i : grid0.Coords) : ∀ (a : Fin (k0_t5_loop i).trips) (b : Fin (k0_t6_loop i).trips) (d : Fin k0_t7_loop.trips), k0_off93 i a b d = ![(24 * (a : ℕ) + (b : ℕ)) % 6, 448 * (d : ℕ) + 384, 0] := by
  rw [coords_eq i]; decide +kernel

theorem off94_eq (i : grid0.Coords) : ∀ (a : Fin (k0_t5_loop i).trips) (b : Fin (k0_t6_loop i).trips) (d : Fin k0_t7_loop.trips), k0_off94 i a b d = ![(24 * ((a : ℕ) + 1) + (b : ℕ)) % 37, 448 * (d : ℕ) + 416, 0] := by
  rw [coords_eq i]; decide +kernel

theorem off95_eq (i : grid0.Coords) : ∀ (a : Fin (k0_t5_loop i).trips) (b : Fin (k0_t6_loop i).trips) (d : Fin k0_t7_loop.trips), k0_off95 i a b d = ![(24 * (a : ℕ) + (b : ℕ)) % 6, 448 * (d : ℕ) + 416, 0] := by
  rw [coords_eq i]; decide +kernel

theorem off241_eq (i : grid0.Coords) : ∀ (a : Fin (k0_t15_loop i).trips) (d : Fin k0_t16_loop.trips), k0_off241 i a d = ![(72 + (a : ℕ)) % 37, 448 * (d : ℕ), 0] := by
  rw [coords_eq i]; decide +kernel

theorem off242_eq (i : grid0.Coords) : ∀ (a : Fin (k0_t15_loop i).trips) (d : Fin k0_t16_loop.trips), k0_off242 i a d = ![(72 + (a : ℕ)) % 6, 448 * (d : ℕ), 0] := by
  rw [coords_eq i]; decide +kernel

theorem off243_eq (i : grid0.Coords) : ∀ (a : Fin (k0_t15_loop i).trips) (d : Fin k0_t16_loop.trips), k0_off243 i a d = ![(72 + (a : ℕ)) % 6, 448 * (d : ℕ) + 0, 0] := by
  rw [coords_eq i]; decide +kernel

theorem off244_eq (i : grid0.Coords) : ∀ (a : Fin (k0_t15_loop i).trips) (d : Fin k0_t16_loop.trips), k0_off244 i a d = ![(72 + (a : ℕ)) % 6, 448 * (d : ℕ) + 32, 0] := by
  rw [coords_eq i]; decide +kernel

theorem off245_eq (i : grid0.Coords) : ∀ (a : Fin (k0_t15_loop i).trips) (d : Fin k0_t16_loop.trips), k0_off245 i a d = ![(72 + (a : ℕ)) % 6, 448 * (d : ℕ) + 64, 0] := by
  rw [coords_eq i]; decide +kernel

theorem off246_eq (i : grid0.Coords) : ∀ (a : Fin (k0_t15_loop i).trips) (d : Fin k0_t16_loop.trips), k0_off246 i a d = ![(72 + (a : ℕ)) % 6, 448 * (d : ℕ) + 96, 0] := by
  rw [coords_eq i]; decide +kernel

theorem off247_eq (i : grid0.Coords) : ∀ (a : Fin (k0_t15_loop i).trips) (d : Fin k0_t16_loop.trips), k0_off247 i a d = ![(72 + (a : ℕ)) % 6, 448 * (d : ℕ) + 128, 0] := by
  rw [coords_eq i]; decide +kernel

theorem off248_eq (i : grid0.Coords) : ∀ (a : Fin (k0_t15_loop i).trips) (d : Fin k0_t16_loop.trips), k0_off248 i a d = ![(72 + (a : ℕ)) % 6, 448 * (d : ℕ) + 160, 0] := by
  rw [coords_eq i]; decide +kernel

theorem off249_eq (i : grid0.Coords) : ∀ (a : Fin (k0_t15_loop i).trips) (d : Fin k0_t16_loop.trips), k0_off249 i a d = ![(72 + (a : ℕ)) % 6, 448 * (d : ℕ) + 192, 0] := by
  rw [coords_eq i]; decide +kernel

theorem off250_eq (i : grid0.Coords) : ∀ (a : Fin (k0_t15_loop i).trips) (d : Fin k0_t16_loop.trips), k0_off250 i a d = ![(72 + (a : ℕ)) % 6, 448 * (d : ℕ) + 224, 0] := by
  rw [coords_eq i]; decide +kernel

theorem off251_eq (i : grid0.Coords) : ∀ (a : Fin (k0_t15_loop i).trips) (d : Fin k0_t16_loop.trips), k0_off251 i a d = ![(72 + (a : ℕ)) % 6, 448 * (d : ℕ) + 256, 0] := by
  rw [coords_eq i]; decide +kernel

theorem off252_eq (i : grid0.Coords) : ∀ (a : Fin (k0_t15_loop i).trips) (d : Fin k0_t16_loop.trips), k0_off252 i a d = ![(72 + (a : ℕ)) % 6, 448 * (d : ℕ) + 288, 0] := by
  rw [coords_eq i]; decide +kernel

theorem off253_eq (i : grid0.Coords) : ∀ (a : Fin (k0_t15_loop i).trips) (d : Fin k0_t16_loop.trips), k0_off253 i a d = ![(72 + (a : ℕ)) % 6, 448 * (d : ℕ) + 320, 0] := by
  rw [coords_eq i]; decide +kernel

theorem off254_eq (i : grid0.Coords) : ∀ (a : Fin (k0_t15_loop i).trips) (d : Fin k0_t16_loop.trips), k0_off254 i a d = ![(72 + (a : ℕ)) % 6, 448 * (d : ℕ) + 352, 0] := by
  rw [coords_eq i]; decide +kernel

theorem off255_eq (i : grid0.Coords) : ∀ (a : Fin (k0_t15_loop i).trips) (d : Fin k0_t16_loop.trips), k0_off255 i a d = ![(72 + (a : ℕ)) % 6, 448 * (d : ℕ) + 384, 0] := by
  rw [coords_eq i]; decide +kernel

theorem off256_eq (i : grid0.Coords) : ∀ (a : Fin (k0_t15_loop i).trips) (d : Fin k0_t16_loop.trips), k0_off256 i a d = ![(72 + (a : ℕ)) % 6, 448 * (d : ℕ) + 416, 0] := by
  rw [coords_eq i]; decide +kernel

theorem off238_eq (i : grid0.Coords) : ∀ (a : Fin (k0_t15_loop i).trips), k0_off238 i a 6#32 = ![(72 + (a : ℕ) - 6) % 6] := by
  rw [coords_eq i]; decide +kernel

theorem off239_eq (i : grid0.Coords) : ∀ (a : Fin (k0_t15_loop i).trips), k0_off239 i a 6#32 = ![3136 * ((72 + (a : ℕ) - 6) % 24), 128 * ((72 + (a : ℕ) - 6) / 24)] := by
  rw [coords_eq i]; decide +kernel

theorem off240_eq (i : grid0.Coords) : ∀ (a : Fin (k0_t15_loop i).trips), k0_off240 i a 6#32 = ![(72 + (a : ℕ) - 6) % 6, 0, 0] := by
  rw [coords_eq i]; decide +kernel

theorem off238_eq1 (i : grid0.Coords) : ∀ (a : Fin (k0_t15_loop i).trips), k0_off238 i a 1#32 = ![(72 + (a : ℕ) - 1) % 6] := by
  rw [coords_eq i]; decide +kernel

theorem off239_eq1 (i : grid0.Coords) : ∀ (a : Fin (k0_t15_loop i).trips), k0_off239 i a 1#32 = ![3136 * ((72 + (a : ℕ) - 1) % 24), 128 * ((72 + (a : ℕ) - 1) / 24)] := by
  rw [coords_eq i]; decide +kernel

theorem off240_eq1 (i : grid0.Coords) : ∀ (a : Fin (k0_t15_loop i).trips), k0_off240 i a 1#32 = ![(72 + (a : ℕ) - 1) % 6, 0, 0] := by
  rw [coords_eq i]; decide +kernel

theorem cond1_eq (i : grid0.Coords) : ∀ (a : Fin (k0_t1_loop i).trips), k0_cond1 i a = 1#1 := by
  rw [coords_eq i]; decide +kernel

theorem cond3_eq (i : grid0.Coords) : ∀ (a : Fin (k0_t5_loop i).trips) (b : Fin (k0_t6_loop i).trips), k0_cond3 i a b = if 24 * ((a : ℕ) + 1) + (b : ℕ) + 12 < 96 then 1#1 else 0#1 := by
  rw [coords_eq i]; decide +kernel

theorem cond4_eq (i : grid0.Coords) : ∀ (a : Fin (k0_t5_loop i).trips) (b : Fin (k0_t6_loop i).trips), k0_cond4 i a b = if 6 ≤ 24 * (a : ℕ) + (b : ℕ) then 1#1 else 0#1 := by
  rw [coords_eq i]; decide +kernel

theorem cond5_eq (i : grid0.Coords) : ∀ (a : Fin (k0_t5_loop i).trips) (b : Fin (k0_t6_loop i).trips), k0_cond5 i a b = if 1 ≤ 24 * (a : ℕ) + (b : ℕ) then 1#1 else 0#1 := by
  rw [coords_eq i]; decide +kernel

end Cert.Kernel.Hand
-- ==== Proof.Own.lean ====
/-
  Ownership of part of a memref's elements, stated at the memref's own indices: a set of
  indices and what is read at them. The steps of a body (load, store, transfer) restated for it.
-/
module

public import Idealize.ShloMosaic.Lib.Batch
public import Idealize.ShloMosaic.Lib.ViewIndex

@[expose] public section

noncomputable section

namespace Cert.Own

open Idealize.ShloMosaic
open Idealize.SL Idealize.SL.RA Idealize.SL.Sem Idealize.SL.ProofMode
open Idealize.SL.BI (sProp Storable bigSep bigSep_insert bigSep_empty bigSep_singleton)
open scoped Idealize.SL.BI
open Idealize.SL.BI.BIBase Idealize.SL.BI.Laws
open Idealize.ShloMosaic.Transfers

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

section Basic

variable {c : Thread nD τ} {sp : Space} {s : Shape} {e : EltTy}

/-- The elements of `m` at the indices `S`, at share `q`, read as `g`. -/
def own (c : Thread nD τ) {sp : Space} {s : Shape} {e : EltTy} (m : Memref sig c.2.kind sp s e) (S : Finset s.Idx)
    (q : PosShare TreeShare) (g : s.Idx → Val e) : sProp 𝕄 :=
  iprop(∃ f : Buf Val (m.view.loc c), (m.view.loc c ↦[m.view.setOn S]{q} f) ∗ ⌜∀ i ∈ S, m.view.read Val f i = g i⌝)

variable {m : Memref sig c.2.kind sp s e} {S T : Finset s.Idx} {q : PosShare TreeShare} {g g' : s.Idx → Val e}

instance own_storable : Storable (upEmb : UEmb _ 𝕄) (own (U := U) (Lvl := Lvl) (Name := Name) (Ix := Ix) c m S q g) := by
  unfold own; infer_instance

/-- What is read matters on the owned indices only. -/
theorem own_congr (h : ∀ i ∈ S, g i = g' i) : own c m S q g ⊢ (own c m S q g' : sProp 𝕄) := by
  unfold own
  iintro ⟨%f, H, %hf⟩
  iexists f
  isplitl [H]; · iexact H
  ipureintro
  intro i hi; rw [hf i hi, h i hi]

/-- From the elements under the indices, read as they are. -/
theorem own_intro {f : Buf Val (m.view.loc c)} (h : ∀ i ∈ S, m.view.read Val f i = g i) :
    (m.view.loc c ↦[m.view.setOn S]{q} f) ⊢ (own c m S q g : sProp 𝕄) := by
  unfold own
  iintro H
  iexists f
  isplitl [H]; · iexact H
  ipureintro
  exact h

theorem disjoint_setOn (h : Disjoint S T) : Disjoint (m.view.setOn S) (m.view.setOn T) :=
  (Finset.disjoint_map m.view.emb).mpr h

/-- Disjoint index sets, split. -/
theorem own_union_split (h : Disjoint S T) : own c m (S ∪ T) q g ⊢ (iprop(own c m S q g ∗ own c m T q g) : sProp 𝕄) := by
  unfold own
  iintro ⟨%f, H, %hf⟩
  have e : m.view.setOn (S ∪ T) = m.view.setOn S ∪ m.view.setOn T := Finset.map_union _ _
  ihave H' := (show (m.view.loc c ↦[m.view.setOn (S ∪ T)]{q} f : sProp 𝕄) ⊢ iprop((m.view.loc c ↦[m.view.setOn S]{q} f) ∗ (m.view.loc c ↦[m.view.setOn T]{q} f))
    from by rw [e]; exact (pointsTo_union (disjoint_setOn h)).1) $$ H
  icases H' with ⟨H1, H2⟩
  isplitl [H1]
  · iexists f
    isplitl [H1]; · iexact H1
    ipureintro; exact fun i hi => hf i (Finset.mem_union_left _ hi)
  · iexists f
    isplitl [H2]; · iexact H2
    ipureintro; exact fun i hi => hf i (Finset.mem_union_right _ hi)

/-- Disjoint index sets, joined. -/
theorem own_union_join (h : Disjoint S T) : (iprop(own c m S q g ∗ own c m T q g) : sProp 𝕄) ⊢ own c m (S ∪ T) q g := by
  unfold own
  iintro ⟨⟨%f, H, %hf⟩, ⟨%f', H', %hf'⟩⟩
  iexists ((m.view.setOn T).piecewise f' f)
  have e : m.view.setOn (S ∪ T) = m.view.setOn S ∪ m.view.setOn T := Finset.map_union _ _
  isplitl [H H']
  · rw [e]
    iapply (pointsTo_join (disjoint_setOn h))
    isplitl [H]; · iexact H
    iexact H'
  · ipureintro
    intro i hi
    by_cases hT : i ∈ T
    · have h1 : m.view.emb i ∈ m.view.setOn T := m.view.mem_setOn.mpr hT
      rw [← hf' i hT, View.read_apply, View.read_apply, Finset.piecewise_eq_of_mem _ _ _ h1]
    · have h1 : m.view.emb i ∉ m.view.setOn T := fun h => hT (m.view.mem_setOn.mp h)
      rw [← hf i ((Finset.mem_union.mp hi).resolve_right hT), View.read_apply, View.read_apply, Finset.piecewise_eq_of_notMem _ _ _ h1]

theorem own_split {R : Finset s.Idx} (h : Disjoint S T) (hR : R = S ∪ T) :
    own c m R q g ⊢ (iprop(own c m S q g ∗ own c m T q g) : sProp 𝕄) := by subst hR; exact own_union_split h

theorem own_join {R : Finset s.Idx} {g₁ g₂ : s.Idx → Val e} (h : Disjoint S T) (hR : R = S ∪ T) (h1 : ∀ i ∈ S, g₁ i = g i) (h2 : ∀ i ∈ T, g₂ i = g i) :
    (iprop(own c m S q g₁ ∗ own c m T q g₂) : sProp 𝕄) ⊢ own c m R q g := by
  subst hR; exact (sep_mono (own_congr h1) (own_congr h2)).trans (own_union_join h)

/-- A slice's elements are the memref's under the rectangle. -/
theorem own_slice_of {r : Rect s} {hr : ∀ a, r.stride a = 1} {g' : r.shape.Idx → Val e} (hS : r.set = S) (h : ∀ x, g (r.emb x) = g' x) :
    own c m S q g ⊢ (own c (m.slice r hr) Finset.univ q g' : sProp 𝕄) := by
  subst hS
  unfold own
  iintro ⟨%f, H, %hf⟩
  iexists f
  isplitl [H]
  · have e : (m.slice r hr).view.setOn Finset.univ = m.view.setOn r.set := by
      exact (m.view.set_slice r)
    rw [e]; iexact H
  · ipureintro
    intro x _
    rw [← h x, ← hf (r.emb x) (r.idx_mem x)]; rfl

theorem own_of_slice {r : Rect s} {hr : ∀ a, r.stride a = 1} {g' : r.shape.Idx → Val e} (hS : r.set = S) (h : ∀ x, g (r.emb x) = g' x) :
    (own c (m.slice r hr) Finset.univ q g' : sProp 𝕄) ⊢ own c m S q g := by
  subst hS
  unfold own
  iintro ⟨%f, H, %hf⟩
  iexists f
  isplitl [H]
  · have e : (m.slice r hr).view.setOn Finset.univ = m.view.setOn r.set := by
      exact (m.view.set_slice r)
    rw [← e]; iexact H
  · ipureintro
    intro i hi
    obtain ⟨x, rfl⟩ := r.exists_idx_of_mem hi
    exact (hf x (Finset.mem_univ _)).trans (h x).symm

/-- A squeezed memref's elements are the memref's. -/
theorem own_squeeze_of {s' : Shape} {h : s.Squeezes s'} {g' : s'.Idx → Val e} (hg : ∀ x, g (Shape.reshapeEquiv h.numel_eq x) = g' x) :
    own c m Finset.univ q g ⊢ (own c (m.squeeze s' h) Finset.univ q g' : sProp 𝕄) := by
  unfold own
  iintro ⟨%f, H, %hf⟩
  iexists f
  isplitl [H]
  · have e : (m.squeeze s' h).view.setOn Finset.univ = m.view.setOn Finset.univ := by
      exact (m.view.set_reshape h.numel_eq)
    rw [e]; iexact H
  · ipureintro
    intro x _
    rw [← hg x, ← hf _ (Finset.mem_univ _)]; rfl

theorem own_of_squeeze {s' : Shape} {h : s.Squeezes s'} {g' : s'.Idx → Val e} (hg : ∀ x, g (Shape.reshapeEquiv h.numel_eq x) = g' x) :
    (own c (m.squeeze s' h) Finset.univ q g' : sProp 𝕄) ⊢ own c m Finset.univ q g := by
  unfold own
  iintro ⟨%f, H, %hf⟩
  iexists f
  isplitl [H]
  · have e : (m.squeeze s' h).view.setOn Finset.univ = m.view.setOn Finset.univ := by
      exact (m.view.set_reshape h.numel_eq)
    rw [← e]; iexact H
  · ipureintro
    intro i _
    obtain ⟨x, rfl⟩ := (Shape.reshapeEquiv h.numel_eq).surjective i
    exact (hf x (Finset.mem_univ _)).trans (hg x).symm

end Basic

section Steps

variable [Preorder Lvl] {Λ : Labels} {α : Type} {defs : Defs nD τ sig Val Λ} (𝒱 : Variants) {c : Thread nD τ}
  (bd : Option 𝒱.V) {Γ : PendingWaitsCtx sig Ix} (E : Set Name)
variable {sp sp' : Space} {s : Shape} {e : EltTy} {Q : α → sProp (MT nD τ sig Ix Val Name U Lvl)}

/-- A load of the memref at a rectangle. -/
theorem own_load {cs : CoreSpace} {m : Memref sig c.2.kind cs s e} {r : LoadRect s} {hl : m.view.LoadsAt r}
    {k : (r.shape.Idx → Val e) → Prog (TpuEff nD τ sig Val Λ c.2) α} {S : Finset s.Idx} {q : PosShare TreeShare} {g : s.Idx → Val e}
    (hS : ∀ x, r.idx x ∈ S) (v : r.shape.Idx → Val e) (hv : ∀ x, g (r.idx x) = v x) :
    (own c m S q g : sProp 𝕄) ⊢ iprop((own c m S q g -∗ wp frame (wpE' defs 𝒱 c bd Γ) E (k v) Q)
        -∗ wp frame (wpE' defs 𝒱 c bd Γ) E (.op (.load m r hl) k) Q) := by
  unfold own
  iintro ⟨%f, H, %hf⟩ Hk
  have hsub : m.view.setOn r.set ⊆ m.view.setOn S := Finset.map_subset_map.mpr fun i hi => by
    obtain ⟨x, rfl⟩ := r.exists_idx_of_mem hi; exact hS x
  have e : m.view.readAt Val r f = v := funext fun x => by rw [View.readAt_apply, hf _ (hS x), hv x]
  iapply (wp_load 𝒱 c bd E hsub) $$ H
  rw [e]
  iintro H
  iapply Hk
  iexists f
  isplitl [H]; · iexact H
  ipureintro; exact hf

/-- A load of a squeezed slice of the memref at a rectangle. -/
theorem own_load_sub {cs : CoreSpace} {m : Memref sig c.2.kind cs s e} {R : Rect s} {hr : ∀ a, R.stride a = 1} {s' : Shape} {hs : R.shape.Squeezes s'}
    {r : LoadRect s'} {hl : ((m.slice R hr).squeeze s' hs).view.LoadsAt r}
    {k : (r.shape.Idx → Val e) → Prog (TpuEff nD τ sig Val Λ c.2) α} {S : Finset s.Idx} {q : PosShare TreeShare} {g : s.Idx → Val e}
    (hS : ∀ x, R.emb (Shape.reshapeEquiv hs.numel_eq (r.idx x)) ∈ S) (v : r.shape.Idx → Val e)
    (hv : ∀ x, g (R.emb (Shape.reshapeEquiv hs.numel_eq (r.idx x))) = v x) :
    (own c m S q g : sProp 𝕄) ⊢ iprop((own c m S q g -∗ wp frame (wpE' defs 𝒱 c bd Γ) E (k v) Q)
        -∗ wp frame (wpE' defs 𝒱 c bd Γ) E (.op (.load ((m.slice R hr).squeeze s' hs) r hl) k) Q) := by
  unfold own
  iintro ⟨%f, H, %hf⟩ Hk
  have hsub : ((m.slice R hr).squeeze s' hs).view.setOn r.set ⊆ m.view.setOn S := by
    intro i hi
    obtain ⟨y, hy, rfl⟩ := Finset.mem_map.mp hi
    obtain ⟨x, rfl⟩ := r.exists_idx_of_mem hy
    exact m.view.mem_setOn.mpr (hS x)
  have e : ((m.slice R hr).squeeze s' hs).view.readAt Val r f = v := funext fun x => by rw [← hv x, ← hf _ (hS x)]; rfl
  iapply (wp_load (m := (m.slice R hr).squeeze s' hs) 𝒱 c bd E hsub) $$ H
  rw [e]
  iintro H
  iapply Hk
  iexists f
  isplitl [H]; · iexact H
  ipureintro; exact hf

/-- A store to the memref at a rectangle. -/
theorem own_store {cs : CoreSpace} {m : Memref sig c.2.kind cs s e} {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} {S : Finset s.Idx} {g : s.Idx → Val e}
    (hS : ∀ x, r.emb x ∈ S) (g' : s.Idx → Val e) (hin : ∀ x, g' (r.emb x) = w x) (hout : ∀ i ∈ S, i ∉ r.set → g' i = g i) :
    (own c m S fullShare g : sProp 𝕄) ⊢ iprop((own c m S fullShare g' -∗ wp frame (wpE' defs 𝒱 c bd Γ) E (k ⟨⟩) Q)
        -∗ wp frame (wpE' defs 𝒱 c bd Γ) E (.op (.store m r w Finset.univ hx hm) k) Q) := by
  unfold own
  iintro ⟨%f, H, %hf⟩ Hk
  have hsub : (m.access r).setOn Finset.univ ⊆ m.view.setOn S := by
    intro i hi
    obtain ⟨x, _, rfl⟩ := Finset.mem_map.mp hi
    exact m.view.mem_setOn.mpr (hS x)
  iapply (wp_store 𝒱 c bd E hsub) $$ H
  iintro H
  iapply Hk
  iexists ((m.access r).write Val f w Finset.univ)
  isplitl [H]; · iexact H
  ipureintro
  intro i hi
  by_cases h : i ∈ r.set
  · obtain ⟨x, rfl⟩ := r.exists_idx_of_mem h
    exact (View.read_write_of_mem (v := m.access r) f w (Finset.mem_univ x)).trans (hin x).symm
  · rw [hout i hi h, ← hf i hi, View.read_apply, View.read_apply, View.write_of_not_mem]
    intro h'
    obtain ⟨x, _, hx⟩ := Finset.mem_map.mp h'
    exact h ((m.view.emb.injective hx) ▸ r.idx_mem x)

variable (EC : UEmb Counters (MT nD τ sig Ix Val Name U Lvl))

/-- One more transfer of a batch is started: its end points are lent to it. -/
theorem own_dmaBatch [Infinite Name] [EC.LandsIn (upEmb : UEmb _ 𝕄)] {n : ℕ}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {gs gd : s.Idx → Val e}
    {D : Fin n → sProp 𝕄} {j u : ℕ}
    (ι : Ix) (N : ℕ) (hN : dst.view.amount sm = N) (hj : j < n) (hu : u ≤ j * N)
    (hD : iprop(own c dst Finset.univ fullShare gs ∗ own c src Finset.univ q gs) ⊢ D ⟨j, hj⟩) :
    iprop(own c src Finset.univ q gs ∗ own c dst Finset.univ fullShare gd ∗ Batch EC c sm ι N D j u)
      ⊢ iprop((Batch EC c sm ι N D (j + 1) u -∗ wp frame (wpE defs 𝒱 c bd) Set.univ (k ⟨⟩) Q)
          -∗ wp frame (wpE defs 𝒱 c bd) Set.univ (.op (.enqueueDma src (.here dst) sm hsrc hdst hsem) k) Q) := by
  unfold own at hD ⊢
  iintro ⟨⟨%fs, Hs, %hfs⟩, ⟨%fd, Hd, %hfd⟩, HB⟩ Hk
  have hD' : iprop((dst.view.loc c ↦[dst.view.setOn Finset.univ]{fullShare} (dst.view.write Val fd (src.view.read Val fs) Finset.univ))
              ∗ (src.view.loc c ↦[src.view.set]{q} fs)) ⊢ D ⟨j, hj⟩ := by
    refine Entails.trans ?_ hD
    exact sep_mono (own_intro fun i _ => by rw [View.read_write_univ]; exact hfs i (Finset.mem_univ _)) (own_intro hfs)
  have key := wp_dmaBatch (Q := Q) (defs := defs) (via := .same) (hsrc := hsrc) (hdst := hdst) (hsem := hsem) (k := k) (q := q) (fs := fs)
    (Sd := dst.view.setOn Finset.univ) (fd := fd) (D := D) (u := u) EC 𝒱 c bd ι N hN (subset_of_eq (View.setOn_univ _).symm) hj hu hD'
  iapply key $$ [Hs Hd HB]
  · isplitl [Hs]; · iexact Hs
    isplitl [Hd]; · iexact Hd
    iexact HB
  iexact Hk

/-- One transfer is started on a free cell. -/
theorem own_dmaLocal [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {gs gd : s.Idx → Val e} {D : sProp 𝕄}
    (ι : Ix) (N : ℕ) (hN : dst.view.amount sm = N) (hN0 : 0 < N)
    (hD : iprop(own c dst Finset.univ fullShare gs ∗ own c src Finset.univ q gs) ⊢ D) :
    iprop(own c src Finset.univ q gs ∗ own c dst Finset.univ fullShare gd ∗ semVal (c, sm) 0)
      ⊢ iprop((Flight EC c sm ι N D -∗ wp frame (wpE defs 𝒱 c bd) Set.univ (k ⟨⟩) Q)
          -∗ wp frame (wpE defs 𝒱 c bd) Set.univ (.op (.enqueueDma src (.here dst) sm hsrc hdst hsem) k) Q) := by
  unfold own at hD ⊢
  iintro ⟨⟨%fs, Hs, %hfs⟩, ⟨%fd, Hd, %hfd⟩, HB⟩ Hk
  have hD' : iprop((dst.view.loc c ↦[dst.view.setOn Finset.univ]{fullShare} (dst.view.write Val fd (src.view.read Val fs) Finset.univ))
              ∗ (src.view.loc c ↦[src.view.set]{q} fs)) ⊢ D := by
    refine Entails.trans ?_ hD
    exact sep_mono (own_intro fun i _ => by rw [View.read_write_univ]; exact hfs i (Finset.mem_univ _)) (own_intro hfs)
  iapply (wp_dmaLocal EC 𝒱 c bd ι N hN hN0 (subset_of_eq (View.setOn_univ _).symm)) $$ [Hs Hd HB]
  · isplitl [Hs]; · iexact Hs
    isplitl [Hd]; · iexact Hd
    iexact HB
  iintro HF
  iapply Hk
  iapply (Flight_mono EC c hD')
  iexact HF

end Steps

end Cert.Own
-- ==== Proof.Ring.lean ====
/-
  Loads and stores of a row block of one slot of a ring of `[3136, 128]` slots, over `own`.
-/
module

public import proofs.«01_k».proof.Proof.Own
public import Idealize.ShloMosaic.Lib.ValueLayout

@[expose] public section

noncomputable section

namespace Cert.Own

open Idealize.ShloMosaic Idealize.ShloMosaic.ValueIdx
open Idealize.SL Idealize.SL.RA Idealize.SL.Sem Idealize.SL.ProofMode
open Idealize.SL.BI (sProp Storable)
open scoped Idealize.SL.BI
open Idealize.SL.BI.BIBase Idealize.SL.BI.Laws

/-- The row block of 32 rows from row `r0` of a chunk read at row and lane. -/
def blk {V : Type} (f : ℕ → ℕ → V) (r0 : ℕ) : (⟨2, ![32, 128]⟩ : Shape).Idx → V := fun x => f (r0 + (x 0 : ℕ)) (x 1 : ℕ)

/-- A slot of a ring whose first `k` rows hold `f` and whose other elements are as before. -/
def gst {V : Type} {K : ℕ} (s : ℕ) (f : ℕ → ℕ → V) (g0 : (⟨3, ![K, 3136, 128]⟩ : Shape).Idx → V) (k : ℕ) :
    (⟨3, ![K, 3136, 128]⟩ : Shape).Idx → V :=
  fun i => if (i 0 : ℕ) = s ∧ (i 1 : ℕ) < k then f (i 1 : ℕ) (i 2 : ℕ) else g0 i

theorem gst_raw {V : Type} {K s k k' : ℕ} {f : ℕ → ℕ → V} {g0 : (⟨3, ![K, 3136, 128]⟩ : Shape).Idx → V} {d : ℕ → ℕ → V}
    (h0 : ∀ i, (i 0 : ℕ) = s → g0 i = d (i 1 : ℕ) (i 2 : ℕ)) (hk : k ≤ k') (i : (⟨3, ![K, 3136, 128]⟩ : Shape).Idx)
    (hi : (i 0 : ℕ) = s) (hi' : k' ≤ (i 1 : ℕ)) : gst s f g0 k i = d (i 1 : ℕ) (i 2 : ℕ) := by
  unfold gst; rw [if_neg (by rintro ⟨_, h⟩; omega)]; exact h0 i hi

theorem gst_zero {V : Type} {K s : ℕ} {f : ℕ → ℕ → V} {g0 : (⟨3, ![K, 3136, 128]⟩ : Shape).Idx → V} : gst s f g0 0 = g0 := by
  funext i; unfold gst; rw [if_neg (by rintro ⟨_, h⟩; omega)]

theorem gst_done {V : Type} {K s : ℕ} {f : ℕ → ℕ → V} {g0 : (⟨3, ![K, 3136, 128]⟩ : Shape).Idx → V} (i : (⟨3, ![K, 3136, 128]⟩ : Shape).Idx)
    (hi : (i 0 : ℕ) = s) : gst s f g0 3136 i = f (i 1 : ℕ) (i 2 : ℕ) := by
  have h := (i 1).isLt
  have h' : (i 1 : ℕ) < 3136 := h
  unfold gst; rw [if_pos ⟨hi, h'⟩]

theorem gst_other {V : Type} {K s k : ℕ} {f : ℕ → ℕ → V} {g0 : (⟨3, ![K, 3136, 128]⟩ : Shape).Idx → V} (i : (⟨3, ![K, 3136, 128]⟩ : Shape).Idx)
    (hi : (i 0 : ℕ) ≠ s) : gst s f g0 k i = g0 i := by
  unfold gst; rw [if_neg (by rintro ⟨h, _⟩; exact hi h)]

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ} (𝒱 : Variants) {c : Thread nD τ}
variable (bd : Option 𝒱.V) {Γ : PendingWaitsCtx sig Ix} (E : Set Name)
local notation "𝕄" => MT nD τ sig Ix Val Name U Lvl

variable {K : ℕ} {cs : CoreSpace} {e : EltTy} {m : Memref sig c.2.kind cs ⟨3, ![K, 3136, 128]⟩ e}
  {S : Finset (⟨3, ![K, 3136, 128]⟩ : Shape).Idx} {q : PosShare TreeShare} {g g0 : (⟨3, ![K, 3136, 128]⟩ : Shape).Idx → Val e}

omit [DecidableEq Ix] [DecidableEq Name] [URA U] [Preorder Lvl] in
/-- Where the block's element `x` lies in the ring. -/
theorem ring_pos {o : Fin 3 → ℕ} {s k r : ℕ} (ho : o = ![s, k, 0]) {h1 : ∀ a, o a + (⟨3, ![1, 448, 128]⟩ : Shape).size a ≤ (⟨3, ![K, 3136, 128]⟩ : Shape).size a}
    (hs : (⟨2, ![448, 128]⟩ : Shape).numel = (⟨3, ![1, 448, 128]⟩ : Shape).numel)
    {h2 : ∀ a, (![r, 0] : Fin 2 → ℕ) a + (⟨2, ![32, 128]⟩ : Shape).size a ≤ (⟨2, ![448, 128]⟩ : Shape).size a}
    (x : (⟨2, ![32, 128]⟩ : Shape).Idx) :
    let i := (Rect.unit (s := ⟨3, ![K, 3136, 128]⟩) o (⟨3, ![1, 448, 128]⟩ : Shape).size h1).emb
      (Shape.reshapeEquiv hs ((Rect.unit (s := ⟨2, ![448, 128]⟩) ![r, 0] (⟨2, ![32, 128]⟩ : Shape).size h2).toLoadRect.idx x))
    (i 0 : ℕ) = s ∧ (i 1 : ℕ) = k + r + (x 0 : ℕ) ∧ (i 2 : ℕ) = (x 1 : ℕ) := by
  subst ho
  have key : Shape.reshapeEquiv hs ((Rect.unit (s := ⟨2, ![448, 128]⟩) ![r, 0] (⟨2, ![32, 128]⟩ : Shape).size h2).toLoadRect.idx x)
      = ix3 (⟨0, Nat.one_pos⟩ : Fin 1) ⟨r + (x 0 : ℕ), by have := h2 0; have h := (x 0).isLt; simp at this h; omega⟩ ⟨(x 1 : ℕ), (x 1).isLt⟩ := by
    refine Eq.trans (congrArg (Shape.reshapeEquiv hs) ?_) (reshapeEquiv_ix2_1ab hs _ _)
    funext a; apply Fin.ext
    match a with
    | 0 => exact (by simp [ix2] : r + 1 * (x 0 : ℕ) = r + (x 0 : ℕ))
    | 1 => exact (by simp [ix2] : 0 + 1 * (x 1 : ℕ) = (x 1 : ℕ))
  intro i
  refine ⟨?_, ?_, ?_⟩
  · show s + 1 * (Shape.reshapeEquiv hs _ 0 : ℕ) = s
    rw [key]; simp [ix3]
  · show k + 1 * (Shape.reshapeEquiv hs _ 1 : ℕ) = _
    rw [key]; simp [ix3]; omega
  · show 0 + 1 * (Shape.reshapeEquiv hs _ 2 : ℕ) = _
    rw [key]; simp [ix3]

/-- A load of 32 rows of a slot, through the squeezed window of 448 rows that holds them. -/
theorem load_ring {o : Fin 3 → ℕ} {s k r : ℕ} (ho : o = ![s, k, 0])
    {h1 : ∀ a, o a + (⟨3, ![1, 448, 128]⟩ : Shape).size a ≤ (⟨3, ![K, 3136, 128]⟩ : Shape).size a}
    {hr : ∀ a, (Rect.unit (s := ⟨3, ![K, 3136, 128]⟩) o (⟨3, ![1, 448, 128]⟩ : Shape).size h1).stride a = 1}
    {hs : (Rect.unit (s := ⟨3, ![K, 3136, 128]⟩) o (⟨3, ![1, 448, 128]⟩ : Shape).size h1).shape.Squeezes ⟨2, ![448, 128]⟩}
    {h2 : ∀ a, (![r, 0] : Fin 2 → ℕ) a + (⟨2, ![32, 128]⟩ : Shape).size a ≤ (⟨2, ![448, 128]⟩ : Shape).size a}
    {hl : ((m.slice (Rect.unit (s := ⟨3, ![K, 3136, 128]⟩) o (⟨3, ![1, 448, 128]⟩ : Shape).size h1) hr).squeeze ⟨2, ![448, 128]⟩ hs).view.LoadsAt
      (Rect.unit (s := ⟨2, ![448, 128]⟩) ![r, 0] (⟨2, ![32, 128]⟩ : Shape).size h2).toLoadRect}
    {Q : ((⟨2, ![32, 128]⟩ : Shape).Idx → Val e) → sProp (MT nD τ sig Ix Val Name U Lvl)}
    (hS : ∀ i, (i 0 : ℕ) = s → i ∈ S) {f : ℕ → ℕ → Val e} (hf : ∀ i, (i 0 : ℕ) = s → k + r ≤ (i 1 : ℕ) → g i = f (i 1 : ℕ) (i 2 : ℕ)) :
    (own c m S q g : sProp 𝕄) ⊢ iprop((own c m S q g -∗ Q (blk f (k + r)))
        -∗ wp frame (wpE' defs 𝒱 c bd Γ) E (Prog.lift (.load ((m.slice (Rect.unit (s := ⟨3, ![K, 3136, 128]⟩) o (⟨3, ![1, 448, 128]⟩ : Shape).size h1) hr).squeeze ⟨2, ![448, 128]⟩ hs)
          (Rect.unit (s := ⟨2, ![448, 128]⟩) ![r, 0] (⟨2, ![32, 128]⟩ : Shape).size h2).toLoadRect hl)) Q) := by
  have hp := fun x => ring_pos ho hs.numel_eq (h1 := h1) (h2 := h2) x
  have key := own_load_sub (Name := Name) (U := U) (Lvl := Lvl) (Ix := Ix) (Q := Q) (defs := defs) (Γ := Γ) (c := c) 𝒱 bd E (m := m) (q := q) (g := g)
    (R := Rect.unit (s := ⟨3, ![K, 3136, 128]⟩) o (⟨3, ![1, 448, 128]⟩ : Shape).size h1) (hr := hr) (s' := ⟨2, ![448, 128]⟩) (hs := hs)
    (r := (Rect.unit (s := ⟨2, ![448, 128]⟩) ![r, 0] (⟨2, ![32, 128]⟩ : Shape).size h2).toLoadRect) (hl := hl) (k := Prog.ret) (S := S)
    (fun x => hS _ (hp x).1) (blk f (k + r)) (fun x => by
      obtain ⟨p0, p1, p2⟩ := hp x
      rw [hf _ p0 (by rw [p1]; omega), p1, p2]; rfl)
  iintro H Hk
  iapply key $$ H
  iintro H
  iapply (le_wp_ret frame (wpE' defs 𝒱 c bd Γ) E)
  iapply Hk
  iexact H

/-- The same load where what is read does not matter. -/
theorem load_ring_any {o : Fin 3 → ℕ} {s k r : ℕ} (ho : o = ![s, k, 0])
    {h1 : ∀ a, o a + (⟨3, ![1, 448, 128]⟩ : Shape).size a ≤ (⟨3, ![K, 3136, 128]⟩ : Shape).size a}
    {hr : ∀ a, (Rect.unit (s := ⟨3, ![K, 3136, 128]⟩) o (⟨3, ![1, 448, 128]⟩ : Shape).size h1).stride a = 1}
    {hs : (Rect.unit (s := ⟨3, ![K, 3136, 128]⟩) o (⟨3, ![1, 448, 128]⟩ : Shape).size h1).shape.Squeezes ⟨2, ![448, 128]⟩}
    {h2 : ∀ a, (![r, 0] : Fin 2 → ℕ) a + (⟨2, ![32, 128]⟩ : Shape).size a ≤ (⟨2, ![448, 128]⟩ : Shape).size a}
    {hl : ((m.slice (Rect.unit (s := ⟨3, ![K, 3136, 128]⟩) o (⟨3, ![1, 448, 128]⟩ : Shape).size h1) hr).squeeze ⟨2, ![448, 128]⟩ hs).view.LoadsAt
      (Rect.unit (s := ⟨2, ![448, 128]⟩) ![r, 0] (⟨2, ![32, 128]⟩ : Shape).size h2).toLoadRect}
    {Q : ((⟨2, ![32, 128]⟩ : Shape).Idx → Val e) → sProp (MT nD τ sig Ix Val Name U Lvl)}
    (hS : ∀ i, (i 0 : ℕ) = s → i ∈ S) :
    (own c m S q g : sProp 𝕄) ⊢ iprop((own c m S q g -∗ ∀ v, Q v)
        -∗ wp frame (wpE' defs 𝒱 c bd Γ) E (Prog.lift (.load ((m.slice (Rect.unit (s := ⟨3, ![K, 3136, 128]⟩) o (⟨3, ![1, 448, 128]⟩ : Shape).size h1) hr).squeeze ⟨2, ![448, 128]⟩ hs)
          (Rect.unit (s := ⟨2, ![448, 128]⟩) ![r, 0] (⟨2, ![32, 128]⟩ : Shape).size h2).toLoadRect hl)) Q) := by
  have hp := fun x => ring_pos ho hs.numel_eq (h1 := h1) (h2 := h2) x
  have key := own_load_sub (Name := Name) (U := U) (Lvl := Lvl) (Ix := Ix) (Q := Q) (defs := defs) (Γ := Γ) (c := c) 𝒱 bd E (m := m) (q := q) (g := g)
    (R := Rect.unit (s := ⟨3, ![K, 3136, 128]⟩) o (⟨3, ![1, 448, 128]⟩ : Shape).size h1) (hr := hr) (s' := ⟨2, ![448, 128]⟩) (hs := hs)
    (r := (Rect.unit (s := ⟨2, ![448, 128]⟩) ![r, 0] (⟨2, ![32, 128]⟩ : Shape).size h2).toLoadRect) (hl := hl) (k := Prog.ret) (S := S)
    (fun x => hS _ (hp x).1) _ (fun x => rfl)
  iintro H Hk
  iapply key $$ H
  iintro H
  iapply (le_wp_ret frame (wpE' defs 𝒱 c bd Γ) E)
  ispecialize Hk $$ H
  iapply Hk

/-- A store of 32 rows of a slot: one block more of the slot holds `f`. -/
theorem store_ring {m : Memref sig c.2.kind cs ⟨3, ![K, 3136, 128]⟩ e} {o : Fin 3 → ℕ} {s r r' : ℕ} (ho : o = ![s, r, 0]) (hr' : r' = r + 32)
    {h1 : ∀ a, o a + (⟨3, ![1, 32, 128]⟩ : Shape).size a ≤ (⟨3, ![K, 3136, 128]⟩ : Shape).size a}
    {w : (⟨3, ![1, 32, 128]⟩ : Shape).Idx → Val e}
    {hx : (m.access (Rect.unit (s := ⟨3, ![K, 3136, 128]⟩) o (⟨3, ![1, 32, 128]⟩ : Shape).size h1)).Stores Finset.univ}
    {hm : (Finset.univ : Finset (Rect.unit (s := ⟨3, ![K, 3136, 128]⟩) o (⟨3, ![1, 32, 128]⟩ : Shape).size h1).shape.Idx) = Finset.univ
      ∨ ∀ a, (Rect.unit (s := ⟨3, ![K, 3136, 128]⟩) o (⟨3, ![1, 32, 128]⟩ : Shape).size h1).stride a = 1}
    {Q : PUnit → sProp (MT nD τ sig Ix Val Name U Lvl)}
    (hS : ∀ i, (i 0 : ℕ) = s → i ∈ S) {f : ℕ → ℕ → Val e} (hw : ∀ x, w x = f (r + (x 1 : ℕ)) (x 2 : ℕ)) :
    (own c m S fullShare (gst s f g0 r) : sProp 𝕄) ⊢ iprop((own c m S fullShare (gst s f g0 r') -∗ Q ⟨⟩)
        -∗ wp frame (wpE' defs 𝒱 c bd Γ) E (Prog.lift (.store m (Rect.unit (s := ⟨3, ![K, 3136, 128]⟩) o (⟨3, ![1, 32, 128]⟩ : Shape).size h1) w Finset.univ hx hm)) Q) := by
  subst ho hr'
  have hp : ∀ x : (⟨3, ![1, 32, 128]⟩ : Shape).Idx, let i := (Rect.unit (s := ⟨3, ![K, 3136, 128]⟩) ![s, r, 0] (⟨3, ![1, 32, 128]⟩ : Shape).size h1).emb x
      (i 0 : ℕ) = s ∧ (i 1 : ℕ) = r + (x 1 : ℕ) ∧ (i 2 : ℕ) = (x 2 : ℕ) := by
    intro x i
    have h0 : (x 0 : ℕ) = 0 := by have := (x 0).isLt; simp at this; omega
    refine ⟨?_, ?_, ?_⟩
    · show s + 1 * (x 0 : ℕ) = s
      omega
    · show r + 1 * (x 1 : ℕ) = r + (x 1 : ℕ)
      omega
    · show 0 + 1 * (x 2 : ℕ) = (x 2 : ℕ)
      omega
  iintro H Hk
  iapply (own_store 𝒱 bd E (fun x => hS _ (hp x).1) (gst s f g0 (r + 32)) (fun x => by
    obtain ⟨p0, p1, p2⟩ := hp x
    have h := (x 1).isLt
    have h' : (x 1 : ℕ) < 32 := h
    unfold gst
    rw [if_pos ⟨p0, by rw [p1]; omega⟩, p1, p2, hw]) (fun i hi hn => by
    unfold gst
    by_cases c1 : (i 0 : ℕ) = s
    · by_cases c2 : (i 1 : ℕ) < r
      · rw [if_pos ⟨c1, by omega⟩, if_pos ⟨c1, c2⟩]
      · by_cases c3 : (i 1 : ℕ) < r + 32
        · exfalso; apply hn
          rw [Rect.mem_set_unit]
          intro a
          have h2 := (i 2).isLt
          have h2' : (i 2 : ℕ) < 128 := h2
          match a with
          | 0 => exact ⟨(by omega : s ≤ (i 0 : ℕ)), (by omega : (i 0 : ℕ) < s + 1)⟩
          | 1 => exact ⟨(by omega : r ≤ (i 1 : ℕ)), (by omega : (i 1 : ℕ) < r + 32)⟩
          | 2 => exact ⟨(by omega : 0 ≤ (i 2 : ℕ)), (by omega : (i 2 : ℕ) < 0 + 128)⟩
        · rw [if_neg (by rintro ⟨_, h⟩; omega), if_neg (by rintro ⟨_, h⟩; omega)]
    · rw [if_neg (by rintro ⟨h, _⟩; exact c1 h), if_neg (by rintro ⟨h, _⟩; exact c1 h)])) $$ H
  iintro H
  iapply (le_wp_ret frame (wpE' defs 𝒱 c bd Γ) E)
  iapply Hk
  iexact H

end Cert.Own
-- ==== Proof.Win.lean ====
/-
  The buffers of the transfers seen as windows of slots and of blocks: chunk `q` lies in slot `q % K` of a ring of `K`
  slots and in block `q` of an array of 24 × 4 blocks. What is owned while the chunks `lo … hi - 1` are in flight, and
  the steps that issue a transfer and wait for one.
-/
module

public import proofs.«01_k».proof.Proof.Ring

@[expose] public section

noncomputable section

namespace Cert.Own

open Idealize.ShloMosaic Idealize.ShloMosaic.ValueIdx
open Idealize.SL Idealize.SL.RA Idealize.SL.Sem Idealize.SL.ProofMode
open Idealize.SL.BI (sProp Storable bigSep)
open scoped Idealize.SL.BI
open Idealize.SL.BI.BIBase Idealize.SL.BI.Laws
open Idealize.ShloMosaic.Transfers

/-- The elements of a ring's slot `s`. -/
def slotS (K s : ℕ) : Finset (⟨3, ![K, 3136, 128]⟩ : Shape).Idx := Finset.univ.filter fun i => (i 0 : ℕ) = s

/-- The elements of the slots that hold none of the chunks `lo … hi - 1`. -/
def freeS (K lo hi : ℕ) : Finset (⟨3, ![K, 3136, 128]⟩ : Shape).Idx :=
  Finset.univ.filter fun i => ∀ q, lo ≤ q → q < hi → (i 0 : ℕ) ≠ q % K

/-- The block an element of the array lies in. -/
def chunkOf (i : (⟨2, ![75264, 512]⟩ : Shape).Idx) : ℕ := 24 * ((i 1 : ℕ) / 128) + (i 0 : ℕ) / 3136

/-- The elements of block `n`. -/
def blockS (n : ℕ) : Finset (⟨2, ![75264, 512]⟩ : Shape).Idx := Finset.univ.filter fun i => chunkOf i = n

/-- The elements of the blocks other than `lo … hi - 1`. -/
def restS (lo hi : ℕ) : Finset (⟨2, ![75264, 512]⟩ : Shape).Idx := Finset.univ.filter fun i => ¬ (lo ≤ chunkOf i ∧ chunkOf i < hi)

/-- Block `n` of an array, read at row and lane. -/
def chk {V : Type} (A : ℕ → ℕ → V) (n : ℕ) : ℕ → ℕ → V := fun r l => A (3136 * (n % 24) + r) (128 * (n / 24) + l)

theorem mod_ne {K q hi : ℕ} (h1 : q < hi) (h2 : hi < q + K) : q % K ≠ hi % K := by
  intro h
  have h3 : (hi - q) % K = 0 := Nat.sub_mod_eq_zero_of_mod_eq h.symm
  rw [Nat.mod_eq_of_lt (by omega)] at h3
  omega

theorem freeS_self (K lo : ℕ) : freeS K lo lo = Finset.univ := by
  ext i; simp only [freeS, Finset.mem_filter, Finset.mem_univ, true_and, iff_true]; intro q h1 h2; omega

theorem restS_self (lo : ℕ) : restS lo lo = Finset.univ := by
  ext i; simp only [restS, Finset.mem_filter, Finset.mem_univ, true_and, iff_true]; omega

theorem freeS_give {K lo hi : ℕ} (hl : lo ≤ hi) (h : hi < lo + K) : freeS K lo hi = slotS K (hi % K) ∪ freeS K lo (hi + 1) := by
  ext i
  simp only [freeS, slotS, Finset.mem_filter, Finset.mem_univ, true_and, Finset.mem_union]
  constructor
  · intro H
    by_cases h0 : (i 0 : ℕ) = hi % K
    · exact .inl h0
    · refine .inr fun q h1 h2 => ?_
      rcases Nat.lt_succ_iff_lt_or_eq.mp h2 with h3 | rfl
      · exact H q h1 h3
      · exact h0
  · rintro (h0 | H) q h1 h2
    · rw [h0]; exact (mod_ne h2 (by omega)).symm
    · exact H q h1 (by omega)

theorem freeS_disj {K lo hi : ℕ} (hl : lo ≤ hi) : Disjoint (slotS K (hi % K)) (freeS K lo (hi + 1)) := by
  rw [Finset.disjoint_left]
  intro i h1 h2
  simp only [freeS, slotS, Finset.mem_filter, Finset.mem_univ, true_and] at h1 h2
  exact h2 hi hl (by omega) h1

theorem freeS_take {K lo hi : ℕ} (hl : lo < hi) (h : hi ≤ lo + K) : freeS K (lo + 1) hi = slotS K (lo % K) ∪ freeS K lo hi := by
  ext i
  simp only [freeS, slotS, Finset.mem_filter, Finset.mem_univ, true_and, Finset.mem_union]
  constructor
  · intro H
    by_cases h0 : (i 0 : ℕ) = lo % K
    · exact .inl h0
    · refine .inr fun q h1 h2 => ?_
      rcases Nat.lt_or_ge lo q with h3 | h3
      · exact H q h3 h2
      · obtain rfl : q = lo := by omega
        exact h0
  · rintro (h0 | H) q h1 h2
    · rw [h0]; exact mod_ne (by omega) (by omega)
    · exact H q (by omega) h2

theorem freeS_disj' {K lo hi : ℕ} (hl : lo < hi) : Disjoint (slotS K (lo % K)) (freeS K lo hi) := by
  rw [Finset.disjoint_left]
  intro i h1 h2
  simp only [freeS, slotS, Finset.mem_filter, Finset.mem_univ, true_and] at h1 h2
  exact h2 lo (le_refl _) hl h1

theorem slot_mem {K q lo hi : ℕ} (h1 : q < lo) (h2 : hi ≤ q + K) (i : (⟨3, ![K, 3136, 128]⟩ : Shape).Idx) (h : (i 0 : ℕ) = q % K) :
    i ∈ freeS K lo hi := by
  simp only [freeS, Finset.mem_filter, Finset.mem_univ, true_and]
  intro q' h3 h4
  rw [h]; exact mod_ne (by omega) (by omega)

theorem restS_give {lo hi : ℕ} (hl : lo ≤ hi) : restS lo hi = blockS hi ∪ restS lo (hi + 1) := by
  ext i; simp only [restS, blockS, Finset.mem_filter, Finset.mem_univ, true_and, Finset.mem_union]; omega

theorem restS_disj {lo hi : ℕ} (hl : lo ≤ hi) : Disjoint (blockS hi) (restS lo (hi + 1)) := by
  rw [Finset.disjoint_left]; intro i h1 h2
  simp only [restS, blockS, Finset.mem_filter, Finset.mem_univ, true_and] at h1 h2; omega

theorem restS_take {lo hi : ℕ} (hl : lo < hi) : restS (lo + 1) hi = blockS lo ∪ restS lo hi := by
  ext i; simp only [restS, blockS, Finset.mem_filter, Finset.mem_univ, true_and, Finset.mem_union]; omega

theorem restS_disj' {lo hi : ℕ} (hl : lo < hi) : Disjoint (blockS lo) (restS lo hi) := by
  rw [Finset.disjoint_left]; intro i h1 h2
  simp only [restS, blockS, Finset.mem_filter, Finset.mem_univ, true_and] at h1 h2; omega

variable {nD : Nat} {τ : Topo} {sig : RefSig} {Ix : Type} [DecidableEq Ix] {Val : EltTy → Type} {Name : Type} [DecidableEq Name]
variable {U : Type} [URA U] {Lvl : Type}
local notation "𝕄" => MT nD τ sig Ix Val Name U Lvl

/-- The cell of chunk `n` in an array of `K` cells. -/
def cellOf {K : ℕ} [NeZero K] (a : DmaSems sig ⟨1, ![K]⟩) (n : ℕ) : DmaSem sig :=
  a.ix fun j => ⟨n % K, by have h := Nat.mod_lt n (Nat.pos_of_ne_zero (NeZero.ne K)); revert j; intro (j : Fin 1); obtain rfl : j = 0 := Subsingleton.elim _ _; exact h⟩

theorem cell_eq {K : ℕ} [NeZero K] (a : DmaSems sig ⟨1, ![K]⟩) {n : ℕ} {o : Fin 1 → ℕ} (ho : o = ![n % K])
    {h : ∀ j, o j + (⟨1, ![1]⟩ : Shape).size j ≤ (⟨1, ![K]⟩ : Shape).size j}
    {hs : (Rect.unit (s := ⟨1, ![K]⟩) o (⟨1, ![1]⟩ : Shape).size h).shape.Squeezes ⟨0, ![]⟩} :
    ((a.slice (Rect.unit (s := ⟨1, ![K]⟩) o (⟨1, ![1]⟩ : Shape).size h)).squeeze ⟨0, ![]⟩ hs).sem = cellOf a n := by
  subst ho
  unfold cellOf
  show a.ix _ = a.ix _
  congr 1
  funext (j : Fin 1)
  obtain rfl : j = 0 := Subsingleton.elim _ _
  apply Fin.ext
  have hy : ∀ y : (⟨1, ![1]⟩ : Shape).Idx, (y 0 : ℕ) = 0 := fun y => by
    have h' : (y 0 : ℕ) < 1 := (y 0).isLt
    omega
  exact (congrArg (fun t => n % K + 1 * t) (hy _)).trans (show n % K + 1 * 0 = n % K by omega)

section Conv

variable {c : Thread nD τ} {sp : Space} {e : EltTy} {q : PosShare TreeShare} {K : ℕ}

/-- The slot a squeezed window of one slot names, element by element. -/
theorem slot_pos {o : Fin 3 → ℕ} {s : ℕ} (ho : o = ![s, 0, 0])
    {h1 : ∀ a, o a + (⟨3, ![1, 3136, 128]⟩ : Shape).size a ≤ (⟨3, ![K, 3136, 128]⟩ : Shape).size a}
    (hs : (⟨2, ![3136, 128]⟩ : Shape).numel = (⟨3, ![1, 3136, 128]⟩ : Shape).numel) (x : (⟨2, ![3136, 128]⟩ : Shape).Idx) :
    let i := (Rect.unit (s := ⟨3, ![K, 3136, 128]⟩) o (⟨3, ![1, 3136, 128]⟩ : Shape).size h1).emb (Shape.reshapeEquiv hs x)
    (i 0 : ℕ) = s ∧ (i 1 : ℕ) = (x 0 : ℕ) ∧ (i 2 : ℕ) = (x 1 : ℕ) := by
  subst ho
  have key : Shape.reshapeEquiv hs x = ix3 (⟨0, Nat.one_pos⟩ : Fin 1) ⟨(x 0 : ℕ), (x 0).isLt⟩ ⟨(x 1 : ℕ), (x 1).isLt⟩ := by
    refine Eq.trans (congrArg (Shape.reshapeEquiv hs) ?_) (reshapeEquiv_ix2_1ab hs _ _)
    funext a; apply Fin.ext
    match a with
    | 0 => rfl
    | 1 => rfl
  intro i
  refine ⟨?_, ?_, ?_⟩
  · show s + 1 * (Shape.reshapeEquiv hs _ 0 : ℕ) = s
    rw [key]; simp [ix3]
  · show 0 + 1 * (Shape.reshapeEquiv hs _ 1 : ℕ) = _
    rw [key]; simp [ix3]
  · show 0 + 1 * (Shape.reshapeEquiv hs _ 2 : ℕ) = _
    rw [key]; simp [ix3]

theorem slot_set {o : Fin 3 → ℕ} {s : ℕ} (ho : o = ![s, 0, 0])
    {h1 : ∀ a, o a + (⟨3, ![1, 3136, 128]⟩ : Shape).size a ≤ (⟨3, ![K, 3136, 128]⟩ : Shape).size a} :
    (Rect.unit (s := ⟨3, ![K, 3136, 128]⟩) o (⟨3, ![1, 3136, 128]⟩ : Shape).size h1).set = slotS K s := by
  subst ho
  ext i
  rw [Rect.mem_set_unit]
  simp only [slotS, Finset.mem_filter, Finset.mem_univ, true_and]
  have b1 : (i 1 : ℕ) < 3136 := (i 1).isLt
  have b2 : (i 2 : ℕ) < 128 := (i 2).isLt
  constructor
  · intro h
    have := h (0 : Fin 3)
    have h' : s ≤ (i 0 : ℕ) ∧ (i 0 : ℕ) < s + 1 := this
    omega
  · intro h (a : Fin 3)
    match a with
    | 0 => exact (show s ≤ (i 0 : ℕ) ∧ (i 0 : ℕ) < s + 1 by omega)
    | 1 => exact (show 0 ≤ (i 1 : ℕ) ∧ (i 1 : ℕ) < 0 + 3136 by omega)
    | 2 => exact (show 0 ≤ (i 2 : ℕ) ∧ (i 2 : ℕ) < 0 + 128 by omega)

variable {m : Memref sig c.2.kind sp ⟨3, ![K, 3136, 128]⟩ e} {g : (⟨3, ![K, 3136, 128]⟩ : Shape).Idx → Val e}

theorem slot_of {o : Fin 3 → ℕ} {s : ℕ} (ho : o = ![s, 0, 0])
    {h1 : ∀ a, o a + (⟨3, ![1, 3136, 128]⟩ : Shape).size a ≤ (⟨3, ![K, 3136, 128]⟩ : Shape).size a}
    {hr : ∀ a, (Rect.unit (s := ⟨3, ![K, 3136, 128]⟩) o (⟨3, ![1, 3136, 128]⟩ : Shape).size h1).stride a = 1}
    {hs : (Rect.unit (s := ⟨3, ![K, 3136, 128]⟩) o (⟨3, ![1, 3136, 128]⟩ : Shape).size h1).shape.Squeezes ⟨2, ![3136, 128]⟩} :
    own c m (slotS K s) q g ⊢ (own c ((m.slice (Rect.unit (s := ⟨3, ![K, 3136, 128]⟩) o (⟨3, ![1, 3136, 128]⟩ : Shape).size h1) hr).squeeze ⟨2, ![3136, 128]⟩ hs)
      Finset.univ q (fun x => g ((Rect.unit (s := ⟨3, ![K, 3136, 128]⟩) o (⟨3, ![1, 3136, 128]⟩ : Shape).size h1).emb (Shape.reshapeEquiv hs.numel_eq x))) : sProp 𝕄) :=
  (own_slice_of (slot_set ho) (g' := fun y => g ((Rect.unit (s := ⟨3, ![K, 3136, 128]⟩) o (⟨3, ![1, 3136, 128]⟩ : Shape).size h1).emb y)) (fun _ => rfl)).trans
    (own_squeeze_of fun _ => rfl)

theorem of_slot {o : Fin 3 → ℕ} {s : ℕ} (ho : o = ![s, 0, 0])
    {h1 : ∀ a, o a + (⟨3, ![1, 3136, 128]⟩ : Shape).size a ≤ (⟨3, ![K, 3136, 128]⟩ : Shape).size a}
    {hr : ∀ a, (Rect.unit (s := ⟨3, ![K, 3136, 128]⟩) o (⟨3, ![1, 3136, 128]⟩ : Shape).size h1).stride a = 1}
    {hs : (Rect.unit (s := ⟨3, ![K, 3136, 128]⟩) o (⟨3, ![1, 3136, 128]⟩ : Shape).size h1).shape.Squeezes ⟨2, ![3136, 128]⟩}
    {f : ℕ → ℕ → Val e} :
    (own c ((m.slice (Rect.unit (s := ⟨3, ![K, 3136, 128]⟩) o (⟨3, ![1, 3136, 128]⟩ : Shape).size h1) hr).squeeze ⟨2, ![3136, 128]⟩ hs)
      Finset.univ q (fun x => f (x 0 : ℕ) (x 1 : ℕ)) : sProp 𝕄) ⊢ own c m (slotS K s) q (fun i => f (i 1 : ℕ) (i 2 : ℕ)) :=
  (own_of_squeeze (g := fun y => f ((Rect.unit (s := ⟨3, ![K, 3136, 128]⟩) o (⟨3, ![1, 3136, 128]⟩ : Shape).size h1).emb y 1 : ℕ)
      ((Rect.unit (s := ⟨3, ![K, 3136, 128]⟩) o (⟨3, ![1, 3136, 128]⟩ : Shape).size h1).emb y 2 : ℕ)) fun x => by
    obtain ⟨_, p1, p2⟩ := slot_pos (K := K) ho (h1 := h1) hs.numel_eq x
    exact congrArg₂ f p1 p2).trans (own_of_slice (slot_set ho) (fun _ => rfl))

end Conv

section Block

variable {c : Thread nD τ} {sp : Space} {e : EltTy} {q : PosShare TreeShare}
variable {m : Memref sig c.2.kind sp ⟨2, ![75264, 512]⟩ e}

theorem chunkOf_iff {n : ℕ} (hn : n < 96) (i : (⟨2, ![75264, 512]⟩ : Shape).Idx) :
    chunkOf i = n ↔ (3136 * (n % 24) ≤ (i 0 : ℕ) ∧ (i 0 : ℕ) < 3136 * (n % 24) + 3136) ∧ (128 * (n / 24) ≤ (i 1 : ℕ) ∧ (i 1 : ℕ) < 128 * (n / 24) + 128) := by
  unfold chunkOf
  have b0 : (i 0 : ℕ) < 75264 := (i 0).isLt
  have b1 : (i 1 : ℕ) < 512 := (i 1).isLt
  omega

theorem block_set {o : Fin 2 → ℕ} {n : ℕ} (hn : n < 96) (ho : o = ![3136 * (n % 24), 128 * (n / 24)])
    {h1 : ∀ a, o a + (⟨2, ![3136, 128]⟩ : Shape).size a ≤ (⟨2, ![75264, 512]⟩ : Shape).size a} :
    (Rect.unit (s := ⟨2, ![75264, 512]⟩) o (⟨2, ![3136, 128]⟩ : Shape).size h1).set = blockS n := by
  subst ho
  ext i
  rw [Rect.mem_set_unit]
  simp only [blockS, Finset.mem_filter, Finset.mem_univ, true_and]
  rw [chunkOf_iff hn]
  constructor
  · intro h
    exact ⟨h (0 : Fin 2), h (1 : Fin 2)⟩
  · intro h (a : Fin 2)
    match a with
    | 0 => exact h.1
    | 1 => exact h.2

theorem block_of {A : ℕ → ℕ → Val e} {o : Fin 2 → ℕ} {n : ℕ} (hn : n < 96) (ho : o = ![3136 * (n % 24), 128 * (n / 24)])
    {h1 : ∀ a, o a + (⟨2, ![3136, 128]⟩ : Shape).size a ≤ (⟨2, ![75264, 512]⟩ : Shape).size a}
    {hr : ∀ a, (Rect.unit (s := ⟨2, ![75264, 512]⟩) o (⟨2, ![3136, 128]⟩ : Shape).size h1).stride a = 1} :
    own c m (blockS n) q (fun i => A (i 0 : ℕ) (i 1 : ℕ)) ⊢ (own c (m.slice (Rect.unit (s := ⟨2, ![75264, 512]⟩) o (⟨2, ![3136, 128]⟩ : Shape).size h1) hr)
      Finset.univ q (fun x => chk A n (x 0 : ℕ) (x 1 : ℕ)) : sProp 𝕄) := by
  subst ho
  refine own_slice_of (block_set hn rfl) fun x => ?_
  unfold chk
  exact congrArg₂ A (show 3136 * (n % 24) + 1 * (x 0 : ℕ) = _ by omega) (show 128 * (n / 24) + 1 * (x 1 : ℕ) = _ by omega)

theorem of_block {A : ℕ → ℕ → Val e} {o : Fin 2 → ℕ} {n : ℕ} (hn : n < 96) (ho : o = ![3136 * (n % 24), 128 * (n / 24)])
    {h1 : ∀ a, o a + (⟨2, ![3136, 128]⟩ : Shape).size a ≤ (⟨2, ![75264, 512]⟩ : Shape).size a}
    {hr : ∀ a, (Rect.unit (s := ⟨2, ![75264, 512]⟩) o (⟨2, ![3136, 128]⟩ : Shape).size h1).stride a = 1} :
    (own c (m.slice (Rect.unit (s := ⟨2, ![75264, 512]⟩) o (⟨2, ![3136, 128]⟩ : Shape).size h1) hr)
      Finset.univ q (fun x => chk A n (x 0 : ℕ) (x 1 : ℕ)) : sProp 𝕄) ⊢ own c m (blockS n) q (fun i => A (i 0 : ℕ) (i 1 : ℕ)) := by
  subst ho
  refine own_of_slice (block_set hn rfl) fun x => ?_
  unfold chk
  exact congrArg₂ A (show 3136 * (n % 24) + 1 * (x 0 : ℕ) = _ by omega) (show 128 * (n / 24) + 1 * (x 1 : ℕ) = _ by omega)

theorem block_any {g : (⟨2, ![75264, 512]⟩ : Shape).Idx → Val e} {o : Fin 2 → ℕ} {n : ℕ} (hn : n < 96) (ho : o = ![3136 * (n % 24), 128 * (n / 24)])
    {h1 : ∀ a, o a + (⟨2, ![3136, 128]⟩ : Shape).size a ≤ (⟨2, ![75264, 512]⟩ : Shape).size a}
    {hr : ∀ a, (Rect.unit (s := ⟨2, ![75264, 512]⟩) o (⟨2, ![3136, 128]⟩ : Shape).size h1).stride a = 1} :
    own c m (blockS n) q g ⊢ (own c (m.slice (Rect.unit (s := ⟨2, ![75264, 512]⟩) o (⟨2, ![3136, 128]⟩ : Shape).size h1) hr)
      Finset.univ q (fun x => g ((Rect.unit (s := ⟨2, ![75264, 512]⟩) o (⟨2, ![3136, 128]⟩ : Shape).size h1).emb x)) : sProp 𝕄) :=
  own_slice_of (block_set hn ho) fun _ => rfl

end Block

section Windows

variable {c : Thread nD τ} {sp : Space} {e : EltTy} {K : ℕ}

/-- A ring while the chunks `lo … hi - 1` are in flight: the other slots, of which the last `K` chunks' read as `C`. -/
def RX (c : Thread nD τ) {sp : Space} {e : EltTy} {K : ℕ} (m : Memref sig c.2.kind sp ⟨3, ![K, 3136, 128]⟩ e) (C : ℕ → ℕ → ℕ → Val e) (lo hi : ℕ) : sProp 𝕄 :=
  iprop(∃ g : (⟨3, ![K, 3136, 128]⟩ : Shape).Idx → Val e, own c m (freeS K lo hi) fullShare g
    ∗ ⌜∀ q, q < lo → hi ≤ q + K → ∀ i : (⟨3, ![K, 3136, 128]⟩ : Shape).Idx, (i 0 : ℕ) = q % K → g i = C q (i 1 : ℕ) (i 2 : ℕ)⌝)

variable {m : Memref sig c.2.kind sp ⟨3, ![K, 3136, 128]⟩ e} {C C' : ℕ → ℕ → ℕ → Val e} {lo hi : ℕ}

theorem RX_congr (h : ∀ q, q < lo → C q = C' q) : RX c m C lo hi ⊢ (RX c m C' lo hi : sProp 𝕄) := by
  unfold RX
  iintro ⟨%g, H, %hg⟩
  iexists g
  isplitl [H]; · iexact H
  ipureintro
  intro q h1 h2 i h3
  rw [← h q h1]; exact hg q h1 h2 i h3

theorem RX_give (hl : lo ≤ hi) (h : hi < lo + K) :
    RX c m C lo hi ⊢ (iprop((∃ g, own c m (slotS K (hi % K)) fullShare g) ∗ RX c m C lo (hi + 1)) : sProp 𝕄) := by
  unfold RX
  iintro ⟨%g, H, %hg⟩
  ihave H' := (own_split (freeS_disj hl) (freeS_give hl h)) $$ H
  icases H' with ⟨H1, H2⟩
  isplitl [H1]; · iexists g; iexact H1
  iexists g
  isplitl [H2]; · iexact H2
  ipureintro
  intro q h1 h2; exact hg q h1 (by omega)

theorem RX_take (hl : lo < hi) (h : hi ≤ lo + K) :
    (iprop(own c m (slotS K (lo % K)) fullShare (fun i => C lo (i 1 : ℕ) (i 2 : ℕ)) ∗ RX c m C lo hi) : sProp 𝕄) ⊢ RX c m C (lo + 1) hi := by
  unfold RX
  iintro ⟨H1, %g, H2, %hg⟩
  iexists (fun i => if (i 0 : ℕ) = lo % K then C lo (i 1 : ℕ) (i 2 : ℕ) else g i)
  isplitl [H1 H2]
  · iapply (own_join (g₁ := fun i => C lo (i 1 : ℕ) (i 2 : ℕ)) (g₂ := g) (freeS_disj' hl) (freeS_take hl h) (fun i hi' => by
      simp only [slotS, Finset.mem_filter, Finset.mem_univ, true_and] at hi'
      exact (if_pos hi').symm) (fun i hi' => by
      have : (i 0 : ℕ) ≠ lo % K := fun h0 => Finset.disjoint_left.mp (freeS_disj' (K := K) hl)
        (by simp only [slotS, Finset.mem_filter, Finset.mem_univ, true_and]; exact h0) hi'
      exact (if_neg this).symm))
    isplitl [H1]; · iexact H1
    iexact H2
  · ipureintro
    intro q h1 h2 i h3
    rcases Nat.lt_succ_iff_lt_or_eq.mp h1 with h4 | rfl
    · show (if (i 0 : ℕ) = lo % K then _ else _) = _
      rw [if_neg (by rw [h3]; exact mod_ne h4 (by omega))]
      exact hg q h4 h2 i h3
    · exact if_pos h3

end Windows

section Steps

variable [Preorder Lvl] {Λ : Labels} {defs : Defs nD τ sig Val Λ} (𝒱 : Variants) {c : Thread nD τ} (bd : Option 𝒱.V)
variable (EC : UEmb Counters (MT nD τ sig Ix Val Name U Lvl)) [Infinite Name] [EC.LandsIn (upEmb : UEmb _ (MT nD τ sig Ix Val Name U Lvl))]
variable {sp sp' : Space} {e : EltTy} {K : ℕ}

/-- A transfer of block `hi` of an array into its slot is started. -/
theorem issue_ring {m : Memref sig c.2.kind sp' ⟨3, ![K, 3136, 128]⟩ e} {h : Memref sig c.2.kind sp ⟨2, ![75264, 512]⟩ e}
    {C : ℕ → ℕ → ℕ → Val e} {A : ℕ → ℕ → Val e} {q : PosShare TreeShare} {lo hi : ℕ} (hl : lo ≤ hi) (hlt : hi < lo + K) (hn : hi < 96)
    {o : Fin 3 → ℕ} (ho : o = ![hi % K, 0, 0])
    {h1 : ∀ a, o a + (⟨3, ![1, 3136, 128]⟩ : Shape).size a ≤ (⟨3, ![K, 3136, 128]⟩ : Shape).size a}
    {hr : ∀ a, (Rect.unit (s := ⟨3, ![K, 3136, 128]⟩) o (⟨3, ![1, 3136, 128]⟩ : Shape).size h1).stride a = 1}
    {hs : (Rect.unit (s := ⟨3, ![K, 3136, 128]⟩) o (⟨3, ![1, 3136, 128]⟩ : Shape).size h1).shape.Squeezes ⟨2, ![3136, 128]⟩}
    {o' : Fin 2 → ℕ} (ho' : o' = ![3136 * (hi % 24), 128 * (hi / 24)])
    {h1' : ∀ a, o' a + (⟨2, ![3136, 128]⟩ : Shape).size a ≤ (⟨2, ![75264, 512]⟩ : Shape).size a}
    {hr' : ∀ a, (Rect.unit (s := ⟨2, ![75264, 512]⟩) o' (⟨2, ![3136, 128]⟩ : Shape).size h1').stride a = 1}
    {sm : SemLoc sig} {cl : DmaSem sig} (hsm : sm = .dma cl) {hsrc hdst hsem} {n j : ℕ} {D : Fin n → sProp (MT nD τ sig Ix Val Name U Lvl)} (hj : j < n)
    (ι : Ix) (N : ℕ) (hN : sig.dmaCredit c.2.kind (c.2.kind.table sp') m.view.buf ⟨2, ![3136, 128]⟩ e = N)
    (hD : iprop(own c m (slotS K (hi % K)) fullShare (fun i => chk A hi (i 1 : ℕ) (i 2 : ℕ)) ∗ own c h (blockS hi) q (fun i => A (i 0 : ℕ) (i 1 : ℕ))) ⊢ D ⟨j, hj⟩)
    {Q : PUnit → sProp (MT nD τ sig Ix Val Name U Lvl)} :
    (iprop(RX c m C lo hi ∗ own c h (restS lo hi) q (fun i => A (i 0 : ℕ) (i 1 : ℕ)) ∗ Batch EC c (.dma cl) ι N D j 0) : sProp 𝕄)
      ⊢ iprop((iprop(RX c m C lo (hi + 1) ∗ own c h (restS lo (hi + 1)) q (fun i => A (i 0 : ℕ) (i 1 : ℕ)) ∗ Batch EC c (.dma cl) ι N D (j + 1) 0) -∗ Q ⟨⟩)
        -∗ wp frame (wpE defs 𝒱 c bd) Set.univ (Prog.lift (.enqueueDma
          (h.slice (Rect.unit (s := ⟨2, ![75264, 512]⟩) o' (⟨2, ![3136, 128]⟩ : Shape).size h1') hr')
          (.here ((m.slice (Rect.unit (s := ⟨3, ![K, 3136, 128]⟩) o (⟨3, ![1, 3136, 128]⟩ : Shape).size h1) hr).squeeze ⟨2, ![3136, 128]⟩ hs))
          sm hsrc hdst hsem)) Q) := by
  subst hsm
  iintro ⟨HR, Hh, HB⟩ Hk
  ihave HR' := (RX_give hl hlt) $$ HR
  icases HR' with ⟨⟨%g, Hs⟩, HR⟩
  ihave Hh' := (own_split (restS_disj hl) (restS_give hl)) $$ Hh
  icases Hh' with ⟨Hb, Hh⟩
  ihave Hs := (slot_of ho (h1 := h1) (hr := hr) (hs := hs)) $$ Hs
  ihave Hb := (block_of hn ho' (h1 := h1') (hr := hr')) $$ Hb
  have key := own_dmaBatch (Λ := Λ) (defs := defs) 𝒱 bd EC (Q := Q) (k := Prog.ret) (hsrc := hsrc) (hdst := hdst) (hsem := hsem)
    (gs := fun x : (⟨2, ![3136, 128]⟩ : Shape).Idx => chk A hi (x 0 : ℕ) (x 1 : ℕ)) (q := q) (u := 0) (D := D) (j := j) (n := n)
    (gd := (fun x => g ((Rect.unit (s := ⟨3, ![K, 3136, 128]⟩) o (⟨3, ![1, 3136, 128]⟩ : Shape).size h1).emb (Shape.reshapeEquiv hs.numel_eq x))))
    ι N hN hj (Nat.zero_le _) (Entails.trans (sep_mono (of_slot ho (h1 := h1) (hr := hr) (hs := hs)) (of_block hn ho' (h1 := h1') (hr := hr'))) hD)
  iapply key $$ [Hs Hb HB]
  · isplitl [Hb]; · iexact Hb
    isplitl [Hs]; · iexact Hs
    iexact HB
  iintro HB
  iapply (le_wp_ret frame (wpE defs 𝒱 c bd) Set.univ)
  iapply Hk
  isplitl [HR]; · iexact HR
  isplitl [Hh]; · iexact Hh
  iexact HB

/-- A wait for one of a batch's transfers, not the last. -/
theorem wait_mid {s s' : Shape} {e e' : EltTy} {κ' : Kind} {sem cl : DmaSem sig} (hsm : sem = cl)
    {srcw : Memref sig c.2.kind sp' s' e'} {dstw : Memref sig κ' sp s e} {hsrc : srcw.view.WordExact} {hdst : dstw.view.WordExact}
    (ι : Ix) {N : ℕ} (hN : dstw.view.dmaCredit = N) {n : ℕ} {D : Fin n → sProp (MT nD τ sig Ix Val Name U Lvl)} {u : ℕ} (hu : u + N < N * n) {W : Waits sig Ix}
    {Q : PUnit → sProp (MT nD τ sig Ix Val Name U Lvl)} :
    (iprop(Batch EC c (.dma cl) ι N D n u ∗ owes c 0 W) : sProp 𝕄)
      ⊢ iprop((iprop(Batch EC c (.dma cl) ι N D n (u + N) ∗ owes c 0 (insert (SemLoc.dma cl, ι) W)) -∗ Q ⟨⟩)
          -∗ wp frame (wpE defs 𝒱 c bd) Set.univ (Prog.lift (.waitDma2 sem srcw dstw hsrc hdst)) Q) := by
  subst hsm
  iintro H Hk
  have key := wp_waitBatch (defs := defs) EC 𝒱 c bd (srcw := srcw) (dstw := dstw) (hsrc := hsrc) (hdst := hdst) (k := Prog.ret) (Q := Q) ι hN (D := D) hu (W := W) (sem := sem)
  iapply key $$ H
  iintro H
  iapply (le_wp_ret frame (wpE defs 𝒱 c bd) Set.univ)
  iapply Hk
  iexact H

/-- The last wait of a batch of three: everything it carried is back. -/
theorem wait_last {s s' : Shape} {e e' : EltTy} {κ' : Kind} {sem cl : DmaSem sig} (hsm : sem = cl)
    {srcw : Memref sig c.2.kind sp' s' e'} {dstw : Memref sig κ' sp s e} {hsrc : srcw.view.WordExact} {hdst : dstw.view.WordExact}
    (ι : Ix) {N : ℕ} (hN : dstw.view.dmaCredit = N) (hN0 : 0 < N) {D : Fin 3 → sProp (MT nD τ sig Ix Val Name U Lvl)} {W : Waits sig Ix}
    {Q : PUnit → sProp (MT nD τ sig Ix Val Name U Lvl)} :
    (iprop(Batch EC c (.dma cl) ι N D 3 (0 + N + N) ∗ owes c 0 W) : sProp 𝕄)
      ⊢ iprop((iprop(D 0 ∗ D 1 ∗ D 2 ∗ semVal (c, .dma cl) 0 ∗ owes c 0 (insert (SemLoc.dma cl, ι) W)) -∗ Q ⟨⟩)
          -∗ wp frame (wpE defs 𝒱 c bd) Set.univ (Prog.lift (.waitDma2 sem srcw dstw hsrc hdst)) Q) := by
  subst hsm
  iintro H Hk
  have key := wp_waitBatchLast (defs := defs) EC 𝒱 c bd (srcw := srcw) (dstw := dstw) (hsrc := hsrc) (hdst := hdst) (k := Prog.ret) (Q := Q) ι hN hN0 (D := D)
    (u := 0 + N + N) (by omega) (W := W) (sem := sem)
  iapply key $$ H
  iintro ⟨HD, Hs, Ho⟩
  iapply (le_wp_ret frame (wpE defs 𝒱 c bd) Set.univ)
  iapply Hk
  have e : bigSep Finset.univ D = iprop(D 0 ∗ D 1 ∗ D 2) := by
    rw [bigSep_pending_zero, bigSep_pending_step D 0 (by decide), bigSep_pending_step D 1 (by decide), bigSep_pending_last D 2 (by decide) rfl]; rfl
  ihave HD := (Entails.of_eq e) $$ HD
  icases HD with ⟨H0, H1, H2⟩
  isplitl [H0]; · iexact H0
  isplitl [H1]; · iexact H1
  isplitl [H2]; · iexact H2
  isplitl [Hs]; · iexact Hs
  iexact Ho

/-- A transfer of a result slot to its block is started. -/
theorem issue_out {m : Memref sig c.2.kind sp ⟨3, ![K, 3136, 128]⟩ e} {h : Memref sig c.2.kind sp' ⟨2, ![75264, 512]⟩ e}
    {C : ℕ → ℕ → ℕ → Val e} {A : ℕ → ℕ → Val e} {g : (⟨2, ![75264, 512]⟩ : Shape).Idx → Val e} {lo hi : ℕ} (hl : lo ≤ hi) (hlt : hi < lo + K) (hn : hi < 96)
    {gm : (⟨3, ![K, 3136, 128]⟩ : Shape).Idx → Val e} (hgm : ∀ i, (i 0 : ℕ) = hi % K → gm i = chk A hi (i 1 : ℕ) (i 2 : ℕ))
    {o : Fin 3 → ℕ} (ho : o = ![hi % K, 0, 0])
    {h1 : ∀ a, o a + (⟨3, ![1, 3136, 128]⟩ : Shape).size a ≤ (⟨3, ![K, 3136, 128]⟩ : Shape).size a}
    {hr : ∀ a, (Rect.unit (s := ⟨3, ![K, 3136, 128]⟩) o (⟨3, ![1, 3136, 128]⟩ : Shape).size h1).stride a = 1}
    {hs : (Rect.unit (s := ⟨3, ![K, 3136, 128]⟩) o (⟨3, ![1, 3136, 128]⟩ : Shape).size h1).shape.Squeezes ⟨2, ![3136, 128]⟩}
    {o' : Fin 2 → ℕ} (ho' : o' = ![3136 * (hi % 24), 128 * (hi / 24)])
    {h1' : ∀ a, o' a + (⟨2, ![3136, 128]⟩ : Shape).size a ≤ (⟨2, ![75264, 512]⟩ : Shape).size a}
    {hr' : ∀ a, (Rect.unit (s := ⟨2, ![75264, 512]⟩) o' (⟨2, ![3136, 128]⟩ : Shape).size h1').stride a = 1}
    {sm : SemLoc sig} {cl : DmaSem sig} (hsm : sm = .dma cl) {hsrc hdst hsem}
    (ι : Ix) (N : ℕ) (hN : sig.dmaCredit c.2.kind (c.2.kind.table sp') h.view.buf ⟨2, ![3136, 128]⟩ e = N) (hN0 : 0 < N)
    {Q : PUnit → sProp (MT nD τ sig Ix Val Name U Lvl)} :
    (iprop(own c m (freeS K lo hi) fullShare gm ∗ own c h (restS lo hi) fullShare g ∗ semVal (c, .dma cl) 0) : sProp 𝕄)
      ⊢ iprop((iprop(own c m (freeS K lo (hi + 1)) fullShare gm ∗ own c h (restS lo (hi + 1)) fullShare g
            ∗ Flight EC c (.dma cl) ι N iprop(own c h (blockS hi) fullShare (fun i => A (i 0 : ℕ) (i 1 : ℕ)) ∗ own c m (slotS K (hi % K)) fullShare (fun i => chk A hi (i 1 : ℕ) (i 2 : ℕ)))) -∗ Q ⟨⟩)
        -∗ wp frame (wpE defs 𝒱 c bd) Set.univ (Prog.lift (.enqueueDma
          ((m.slice (Rect.unit (s := ⟨3, ![K, 3136, 128]⟩) o (⟨3, ![1, 3136, 128]⟩ : Shape).size h1) hr).squeeze ⟨2, ![3136, 128]⟩ hs)
          (.here (h.slice (Rect.unit (s := ⟨2, ![75264, 512]⟩) o' (⟨2, ![3136, 128]⟩ : Shape).size h1') hr'))
          sm hsrc hdst hsem)) Q) := by
  subst hsm
  iintro ⟨HR, Hh, HB⟩ Hk
  ihave HR' := (own_split (freeS_disj hl) (freeS_give hl hlt)) $$ HR
  icases HR' with ⟨Hs, HR⟩
  ihave Hh' := (own_split (restS_disj hl) (restS_give hl)) $$ Hh
  icases Hh' with ⟨Hb, Hh⟩
  ihave Hs := (slot_of ho (h1 := h1) (hr := hr) (hs := hs)) $$ Hs
  ihave Hs := (own_congr (g' := fun x : (⟨2, ![3136, 128]⟩ : Shape).Idx => chk A hi (x 0 : ℕ) (x 1 : ℕ)) (fun x _ => by
    obtain ⟨p0, p1, p2⟩ := slot_pos (K := K) ho (h1 := h1) hs.numel_eq x
    exact (hgm _ p0).trans (congrArg₂ _ p1 p2))) $$ Hs
  ihave Hb := (block_any hn ho' (h1 := h1') (hr := hr')) $$ Hb
  have key := own_dmaLocal (Λ := Λ) (defs := defs) 𝒱 bd EC (Q := Q) (k := Prog.ret) (hsrc := hsrc) (hdst := hdst) (hsem := hsem)
    (gs := fun x : (⟨2, ![3136, 128]⟩ : Shape).Idx => chk A hi (x 0 : ℕ) (x 1 : ℕ)) (q := fullShare)
    (gd := (fun x => g ((Rect.unit (s := ⟨2, ![75264, 512]⟩) o' (⟨2, ![3136, 128]⟩ : Shape).size h1').emb x)))
    (D := iprop(own c h (blockS hi) fullShare (fun i => A (i 0 : ℕ) (i 1 : ℕ)) ∗ own c m (slotS K (hi % K)) fullShare (fun i => chk A hi (i 1 : ℕ) (i 2 : ℕ))))
    ι N hN hN0 (sep_mono (of_block hn ho' (h1 := h1') (hr := hr')) (of_slot ho (h1 := h1) (hr := hr) (hs := hs)))
  iapply key $$ [Hs Hb HB]
  · isplitl [Hs]; · iexact Hs
    isplitl [Hb]; · iexact Hb
    iexact HB
  iintro HB
  iapply (le_wp_ret frame (wpE defs 𝒱 c bd) Set.univ)
  iapply Hk
  isplitl [HR]; · iexact HR
  isplitl [Hh]; · iexact Hh
  iexact HB

/-- A wait for a transfer alone on its cell. -/
theorem wait_one {s s' : Shape} {e e' : EltTy} {κ' : Kind} {sem cl : DmaSem sig} (hsm : sem = cl)
    {srcw : Memref sig c.2.kind sp' s' e'} {dstw : Memref sig κ' sp s e} {hsrc : srcw.view.WordExact} {hdst : dstw.view.WordExact}
    (ι : Ix) {N : ℕ} (hN : dstw.view.dmaCredit = N) {D : sProp (MT nD τ sig Ix Val Name U Lvl)} {W : Waits sig Ix}
    {Q : PUnit → sProp (MT nD τ sig Ix Val Name U Lvl)} :
    (iprop(Flight EC c (.dma cl) ι N D ∗ owes c 0 W) : sProp 𝕄)
      ⊢ iprop((iprop(D ∗ semVal (c, .dma cl) 0 ∗ owes c 0 (insert (SemLoc.dma cl, ι) W)) -∗ Q ⟨⟩)
          -∗ wp frame (wpE defs 𝒱 c bd) Set.univ (Prog.lift (.waitDma2 sem srcw dstw hsrc hdst)) Q) := by
  subst hsm
  iintro H Hk
  have key := wp_waitLocal (defs := defs) EC 𝒱 c bd (srcw := srcw) (dstw := dstw) (hsrc := hsrc) (hdst := hdst) (k := Prog.ret) (Q := Q) ι hN (D := D) (W := W) (sem := sem)
  iapply key $$ H
  iintro H
  iapply (le_wp_ret frame (wpE defs 𝒱 c bd) Set.univ)
  iapply Hk
  iexact H

end Steps

end Cert.Own
-- ==== Proof.T2.lean ====
/-
  One trip of the first column's loop over a chunk: fourteen row blocks masked in place, the two
  running sums of the chunk.
-/
module

public import proofs.«01_k».proof.Proof.Offs
public import proofs.«01_k».proof.Proof.Ring
public import proofs.«01_k».proof.Proof.Gen.Kernel.Skeleton
public import Idealize.ShloMosaic.Lib.Pipeline.FrameBody

@[expose] public section

set_option maxRecDepth 16384

noncomputable section

namespace Cert.Kernel.Hand

open Cert.Kernel Cert.Kernel.Gen Cert.Own
open Idealize.ShloMosaic Idealize.ShloMosaic.TcCoe Idealize.ShloMosaic.ValueIdx
open Idealize.SL Idealize.SL.RA
open Idealize.SL.BI (sProp Storable)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The masked block: `d` where the mask's byte `m` is set, zero elsewhere. -/
def mskB (d : Vec F S32x128 .fp8e5m2) (m : Vec F S32x128 .i8) : Vec F S1x32x128 .fp8e5m2 := k0_pay3 d (k0_pay1 m) 8#32

/-- The masked chunk. -/
def msk (dc : ℕ → ℕ → Elt F .fp8e5m2) (mc : ℕ → ℕ → Elt F .i8) (r l : ℕ) : Elt F .fp8e5m2 :=
  mskB (blk dc (32 * (r / 32))) (blk mc (32 * (r / 32))) (ix3 (0 : Fin 1) ⟨r % 32, Nat.mod_lt _ (by decide)⟩ ⟨l % 128, Nat.mod_lt _ (by decide)⟩)

theorem msk_blk (dc : ℕ → ℕ → Elt F .fp8e5m2) (mc : ℕ → ℕ → Elt F .i8) {r0 : ℕ} (h : 32 ∣ r0) (x : S1x32x128.Idx) :
    mskB (blk dc r0) (blk mc r0) x = msk dc mc (r0 + (x 1 : ℕ)) (x 2 : ℕ) := by
  obtain ⟨q, rfl⟩ := h
  have h1 := (x 1).isLt; have h1' : (x 1 : ℕ) < 32 := h1
  have h2 := (x 2).isLt; have h2' : (x 2 : ℕ) < 128 := h2
  have h0 := (x 0).isLt; have h0' : (x 0 : ℕ) < 1 := h0
  have e : 32 * ((32 * q + (x 1 : ℕ)) / 32) = 32 * q := by omega
  unfold msk
  rw [e]
  congr 1
  funext a; apply Fin.ext
  match a with
  | 0 => exact (by omega : (x 0 : ℕ) = 0)
  | 1 => exact (by omega : (x 1 : ℕ) = (32 * q + (x 1 : ℕ)) % 32)
  | 2 => exact (by omega : (x 2 : ℕ) = (x 2 : ℕ) % 128)

/-- The two running sums after a trip over the rows from `k`, from those before it. -/
def t2out (xc : ℕ → ℕ → Elt F .fp8e4m3) (dc : ℕ → ℕ → Elt F .fp8e5m2) (mc : ℕ → ℕ → Elt F .i8) (k : ℕ) (v504 : Vec F S16x128 .f32)
    (acc : FVec F S16x128 .f32 × FVec F S16x128 .f32) : FVec F S16x128 .f32 × FVec F S16x128 .f32 :=
  let arg23 := acc.1
  let arg24 := acc.2
  let c0_i32_286 := 0#32
  let c1_i32_288 := 1#32
  let v527 := blk xc (k + 0)
  let v530 := blk dc (k + 0)
  let v533 := blk mc (k + 0)
  let v536 := blk xc (k + 32)
  let v539 := blk dc (k + 32)
  let v542 := blk mc (k + 32)
  let v545 := blk xc (k + 64)
  let v548 := blk dc (k + 64)
  let v551 := blk mc (k + 64)
  let v552 := k0_pay1 v533
  let c8_i32_327 := 8#32
  let v507 := (k0_pay99 v504)
  let v563 := blk dc (k + 0)
  let v584 := blk xc (k + 96)
  let v587 := blk dc (k + 96)
  let v590 := blk mc (k + 96)
  let v579 := k0_pay7 v507 v530 v552 c8_i32_327
  let v581 := k0_pay8 v527 v530 v552 c8_i32_327
  let v595 := k0_pay9 v542
  let v507 := (k0_pay99 v504)
  let v602 := blk dc (k + 32)
  let v625 := blk xc (k + 128)
  let v628 := blk dc (k + 128)
  let v631 := blk mc (k + 128)
  let v620 := k0_pay15 v507 v539 v579 v595
  let v622 := k0_pay16 v536 v539 v581 v595
  let v636 := k0_pay17 v551
  let v637 := k0_pay18
  let v507 := (k0_pay99 v504)
  let v643 := blk dc (k + 64)
  let v666 := blk xc (k + 160)
  let v669 := blk dc (k + 160)
  let v672 := blk mc (k + 160)
  let cst_370 := Scalar.ofBits .fp8e5m2 0x00#8
  let v661 := k0_pay24 v507 v548 v620 v636 v637
  let v663 := k0_pay25 v545 v548 v622 v636 v637
  let v679 := k0_pay26 v590
  let v507 := (k0_pay99 v504)
  let v684 := blk dc (k + 96)
  let v707 := blk xc (k + 192)
  let v710 := blk dc (k + 192)
  let v713 := blk mc (k + 192)
  let v702 := k0_pay32 v507 v587 v661 v679 cst_370
  let v704 := k0_pay33 v584 v587 v663 v679 cst_370
  let v722 := k0_pay34 v628 v631
  let v507 := (k0_pay99 v504)
  let v725 := blk dc (k + 128)
  let v748 := blk xc (k + 224)
  let v751 := blk dc (k + 224)
  let v754 := blk mc (k + 224)
  let v743 := k0_pay39 v507 v702 v722
  let v745 := k0_pay40 v625 v704 v722
  let v763 := k0_pay41 v669 v672
  let v507 := (k0_pay99 v504)
  let v766 := blk dc (k + 160)
  let v789 := blk xc (k + 256)
  let v792 := blk dc (k + 256)
  let v795 := blk mc (k + 256)
  let v784 := k0_pay46 v507 v743 v763
  let v786 := k0_pay47 v666 v745 v763
  let v804 := k0_pay48 v710 v713
  let v507 := (k0_pay99 v504)
  let v807 := blk dc (k + 192)
  let v830 := blk xc (k + 288)
  let v833 := blk dc (k + 288)
  let v836 := blk mc (k + 288)
  let v848 := blk dc (k + 224)
  let v825 := k0_pay53 v507 v784 v804
  let v827 := k0_pay54 v707 v786 v804
  let v845 := k0_pay55 v751 v754
  let v507 := (k0_pay99 v504)
  let v871 := blk xc (k + 320)
  let v874 := blk dc (k + 320)
  let v877 := blk mc (k + 320)
  let v889 := blk dc (k + 256)
  let v866 := k0_pay60 v507 v825 v845
  let v868 := k0_pay61 v748 v827 v845
  let v886 := k0_pay62 v792 v795
  let v891 := k0_pay63 v792 v795
  let v507 := (k0_pay99 v504)
  let v912 := blk xc (k + 352)
  let v915 := blk dc (k + 352)
  let v918 := blk mc (k + 352)
  let v930 := blk dc (k + 288)
  let v907 := k0_pay68 v507 v866 v886
  let v909 := k0_pay69 v789 v868 v886
  let v927 := k0_pay70 v833 v836
  let v507 := (k0_pay99 v504)
  let v953 := blk xc (k + 384)
  let v956 := blk dc (k + 384)
  let v959 := blk mc (k + 384)
  let v971 := blk dc (k + 320)
  let v948 := k0_pay75 v507 v907 v927
  let v950 := k0_pay76 v830 v909 v927
  let v974 := k0_pay79 v871
  let v975 := k0_pay80 v874 v877
  let v507 := (k0_pay99 v504)
  let v994 := blk xc (k + 416)
  let v997 := blk dc (k + 416)
  let v1000 := blk mc (k + 416)
  let v1012 := blk dc (k + 352)
  let v989 := k0_pay83 v507 v948 v975
  let v991 := k0_pay84 v950 v974 v975
  let v1015 := k0_pay87 v912
  let v1016 := k0_pay88 v915 v918
  let v1018 := k0_pay89 v915 v918
  let v507 := (k0_pay99 v504)
  let v1044 := blk dc (k + 384)
  let v1062 := k0_pay96 v507 v956 v959 v989 v1016 v1018
  let v1064 := k0_pay97 v953 v956 v959 v991 v1015 v1016 v1018
  let v1069 := k0_pay98 v1000
  let v1076 := blk dc (k + 416)
  (k0_pay106 v504 arg23 v997 v1062 v1069, k0_pay107 arg24 v994 v997 v1064 v1069)

section
variable (c : Dev nD) (i : grid0.Coords) (arg1 : Memref sig .tc .smem S1 .f32) (harg1 : arg1.IsWhole) (arg2 : Memref sig .tc .smem S1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4x128 .f32) (harg5 : arg5.IsWhole) (arg6 : Memref sig .tc .vmem S16x128 .f32) (harg6 : arg6.IsWhole) (arg7 : Memref sig .tc .hbm S75264x512 .fp8e4m3) (harg7 : arg7.IsWhole) (arg8 : Memref sig .tc .hbm S75264x512 .fp8e5m2) (harg8 : arg8.IsWhole) (arg9 : Memref sig .tc .hbm S75264x512 .i8) (harg9 : arg9.IsWhole) (arg10 : Memref sig .tc .hbm S75264x512 .bf16) (harg10 : arg10.IsWhole) (arg11 : Memref sig .tc .vmem S4x128 .f32) (harg11 : arg11.IsWhole) (arg12 : Memref sig .tc .vmem S4x128 .f32) (harg12 : arg12.IsWhole) (arg13 : Memref sig .tc .vmem S37x3136x128 .fp8e4m3) (harg13 : arg13.IsWhole) (arg14 : Memref sig .tc .vmem S37x3136x128 .fp8e5m2) (harg14 : arg14.IsWhole) (arg15 : Memref sig .tc .vmem S13x3136x128 .i8) (harg15 : arg15.IsWhole) (arg16 : Memref sig .tc .vmem S6x3136x128 .bf16) (harg16 : arg16.IsWhole) (arg17 : Memref sig .tc .vmem S2x16x128 .f32) (harg17 : arg17.IsWhole) (arg18 : Memref sig .tc .vmem S8x128 .f32) (harg18 : arg18.IsWhole) (arg19 : DmaSems sig S13) (arg20 : DmaSems sig S6)
variable (a : Fin (k0_t1_loop i).trips) (b : Fin k0_t2_loop.trips) (arg21 : BitVec 32) (ones : Vec F S16x128 .f32)
variable {Sx Sg : Finset S37x3136x128.Idx} {Sm : Finset S13x3136x128.Idx} {qx qm : PosShare TreeShare}
  {gx : S37x3136x128.Idx → Elt F .fp8e4m3} {g0 : S37x3136x128.Idx → Elt F .fp8e5m2} {gm : S13x3136x128.Idx → Elt F .i8}
  {xc : ℕ → ℕ → Elt F .fp8e4m3} {dc : ℕ → ℕ → Elt F .fp8e5m2} {mc : ℕ → ℕ → Elt F .i8}

set_option maxHeartbeats 4000000 in
/-- The trip masks its 448 rows of the slot and carries the sums on. -/
theorem t2_trip (acc : FVec F S16x128 .f32 × FVec F S16x128 .f32)
    {Q : FVec F S16x128 .f32 × FVec F S16x128 .f32 → sProp (MT nD τ sig Unit (Elt F) ℕ (Pipeline.UD sig nD τ) ℕ)}
    (hSx : ∀ i : S37x3136x128.Idx, (i 0 : ℕ) = (a : ℕ) % 37 → i ∈ Sx) (hSg : ∀ i : S37x3136x128.Idx, (i 0 : ℕ) = (a : ℕ) % 37 → i ∈ Sg)
    (hSm : ∀ i : S13x3136x128.Idx, (i 0 : ℕ) = (a : ℕ) % 13 → i ∈ Sm)
    (hx : ∀ i : S37x3136x128.Idx, (i 0 : ℕ) = (a : ℕ) % 37 → gx i = xc (i 1 : ℕ) (i 2 : ℕ))
    (hg : ∀ i : S37x3136x128.Idx, (i 0 : ℕ) = (a : ℕ) % 37 → g0 i = dc (i 1 : ℕ) (i 2 : ℕ))
    (hm : ∀ i : S13x3136x128.Idx, (i 0 : ℕ) = (a : ℕ) % 13 → gm i = mc (i 1 : ℕ) (i 2 : ℕ)) :
    iprop(own (c : Thread nD τ) arg13 Sx qx gx ∗ own (c : Thread nD τ) arg14 Sg fullShare (gst ((a : ℕ) % 37) (msk dc mc) g0 (448 * (b : ℕ)))
      ∗ own (c : Thread nD τ) arg15 Sm qm gm
      ∗ (iprop(own (c : Thread nD τ) arg13 Sx qx gx ∗ own (c : Thread nD τ) arg14 Sg fullShare (gst ((a : ℕ) % 37) (msk dc mc) g0 (448 * (b : ℕ) + 448))
        ∗ own (c : Thread nD τ) arg15 Sm qm gm) -∗ Q (t2out xc dc mc (448 * (b : ℕ)) ones acc)) : sProp 𝕄)
    ⊢ wp frame (wpE (defs₀ (F := F)) Variants.none c none) Set.univ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 a arg21 ones b acc) Q := by
  unfold k0_t2_body
  simp only [wp_bind]
  iintro ⟨Hx, Hg, Hm, Hk⟩
  rw [k0_part3_eq_skeleton]; unfold k0_part3_skel
  simp only [wp_bind]
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (le_wp_ret frame (wpE (defs₀ (F := F)) Variants.none c none) Set.univ)
  dsimp only
  rw [k0_part4_eq_skeleton]; unfold k0_part4_skel
  simp only [wp_bind]
  iapply (load_ring Variants.none none Set.univ (off12_eq i a b) hSg (gst_raw hg (by omega))) $$ Hg
  iintro Hg
  iapply (store_ring Variants.none none Set.univ (r' := 448 * (b : ℕ) + 32) (off14_eq i a b) (by omega) hSg (msk_blk dc mc (by omega))) $$ Hg
  iintro Hg
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (le_wp_ret frame (wpE (defs₀ (F := F)) Variants.none c none) Set.univ)
  dsimp only
  rw [k0_part5_eq_skeleton]; unfold k0_part5_skel
  simp only [wp_bind]
  iapply (load_ring Variants.none none Set.univ (off12_eq i a b) hSg (gst_raw hg (by omega))) $$ Hg
  iintro Hg
  iapply (store_ring Variants.none none Set.univ (r' := 448 * (b : ℕ) + 64) (off15_eq i a b) (by omega) hSg (msk_blk dc mc (by omega))) $$ Hg
  iintro Hg
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (le_wp_ret frame (wpE (defs₀ (F := F)) Variants.none c none) Set.univ)
  dsimp only
  rw [k0_part6_eq_skeleton]; unfold k0_part6_skel
  simp only [wp_bind]
  iapply (load_ring Variants.none none Set.univ (off12_eq i a b) hSg (gst_raw hg (by omega))) $$ Hg
  iintro Hg
  iapply (store_ring Variants.none none Set.univ (r' := 448 * (b : ℕ) + 96) (off16_eq i a b) (by omega) hSg (msk_blk dc mc (by omega))) $$ Hg
  iintro Hg
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (le_wp_ret frame (wpE (defs₀ (F := F)) Variants.none c none) Set.univ)
  dsimp only
  rw [k0_part7_eq_skeleton]; unfold k0_part7_skel
  simp only [wp_bind]
  iapply (load_ring Variants.none none Set.univ (off12_eq i a b) hSg (gst_raw hg (by omega))) $$ Hg
  iintro Hg
  iapply (store_ring Variants.none none Set.univ (r' := 448 * (b : ℕ) + 128) (off17_eq i a b) (by omega) hSg (msk_blk dc mc (by omega))) $$ Hg
  iintro Hg
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (le_wp_ret frame (wpE (defs₀ (F := F)) Variants.none c none) Set.univ)
  dsimp only
  rw [k0_part8_eq_skeleton]; unfold k0_part8_skel
  simp only [wp_bind]
  iapply (load_ring Variants.none none Set.univ (off12_eq i a b) hSg (gst_raw hg (by omega))) $$ Hg
  iintro Hg
  iapply (store_ring Variants.none none Set.univ (r' := 448 * (b : ℕ) + 160) (off18_eq i a b) (by omega) hSg (msk_blk dc mc (by omega))) $$ Hg
  iintro Hg
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (le_wp_ret frame (wpE (defs₀ (F := F)) Variants.none c none) Set.univ)
  dsimp only
  rw [k0_part9_eq_skeleton]; unfold k0_part9_skel
  simp only [wp_bind]
  iapply (load_ring Variants.none none Set.univ (off12_eq i a b) hSg (gst_raw hg (by omega))) $$ Hg
  iintro Hg
  iapply (store_ring Variants.none none Set.univ (r' := 448 * (b : ℕ) + 192) (off19_eq i a b) (by omega) hSg (msk_blk dc mc (by omega))) $$ Hg
  iintro Hg
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (le_wp_ret frame (wpE (defs₀ (F := F)) Variants.none c none) Set.univ)
  dsimp only
  rw [k0_part10_eq_skeleton]; unfold k0_part10_skel
  simp only [wp_bind]
  iapply (load_ring Variants.none none Set.univ (off12_eq i a b) hSg (gst_raw hg (by omega))) $$ Hg
  iintro Hg
  iapply (store_ring Variants.none none Set.univ (r' := 448 * (b : ℕ) + 224) (off20_eq i a b) (by omega) hSg (msk_blk dc mc (by omega))) $$ Hg
  iintro Hg
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (load_ring Variants.none none Set.univ (off12_eq i a b) hSg (gst_raw hg (by omega))) $$ Hg
  iintro Hg
  iapply (le_wp_ret frame (wpE (defs₀ (F := F)) Variants.none c none) Set.univ)
  dsimp only
  rw [k0_part11_eq_skeleton]; unfold k0_part11_skel
  simp only [wp_bind]
  iapply (store_ring Variants.none none Set.univ (r' := 448 * (b : ℕ) + 256) (off21_eq i a b) (by omega) hSg (msk_blk dc mc (by omega))) $$ Hg
  iintro Hg
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (load_ring Variants.none none Set.univ (off12_eq i a b) hSg (gst_raw hg (by omega))) $$ Hg
  iintro Hg
  iapply (le_wp_ret frame (wpE (defs₀ (F := F)) Variants.none c none) Set.univ)
  dsimp only
  rw [k0_part12_eq_skeleton]; unfold k0_part12_skel
  simp only [wp_bind]
  iapply (store_ring Variants.none none Set.univ (r' := 448 * (b : ℕ) + 288) (off22_eq i a b) (by omega) hSg (msk_blk dc mc (by omega))) $$ Hg
  iintro Hg
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (load_ring Variants.none none Set.univ (off12_eq i a b) hSg (gst_raw hg (by omega))) $$ Hg
  iintro Hg
  iapply (store_ring Variants.none none Set.univ (r' := 448 * (b : ℕ) + 320) (off23_eq i a b) (by omega) hSg (msk_blk dc mc (by omega))) $$ Hg
  iintro Hg
  iapply (le_wp_ret frame (wpE (defs₀ (F := F)) Variants.none c none) Set.univ)
  dsimp only
  rw [k0_part13_eq_skeleton]; unfold k0_part13_skel
  simp only [wp_bind]
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (load_ring Variants.none none Set.univ (off12_eq i a b) hSg (gst_raw hg (by omega))) $$ Hg
  iintro Hg
  iapply (store_ring Variants.none none Set.univ (r' := 448 * (b : ℕ) + 352) (off24_eq i a b) (by omega) hSg (msk_blk dc mc (by omega))) $$ Hg
  iintro Hg
  iapply (le_wp_ret frame (wpE (defs₀ (F := F)) Variants.none c none) Set.univ)
  dsimp only
  rw [k0_part14_eq_skeleton]; unfold k0_part14_skel
  simp only [wp_bind]
  iapply (load_ring Variants.none none Set.univ (off12_eq i a b) hSx (fun i h _ => hx i h)) $$ Hx
  iintro Hx
  iapply (load_ring Variants.none none Set.univ (off12_eq i a b) hSg (gst_raw hg (by omega))) $$ Hg
  iintro Hg
  iapply (load_ring Variants.none none Set.univ (off13_eq i a b) hSm (fun i h _ => hm i h)) $$ Hm
  iintro Hm
  iapply (load_ring Variants.none none Set.univ (off12_eq i a b) hSg (gst_raw hg (by omega))) $$ Hg
  iintro Hg
  iapply (store_ring Variants.none none Set.univ (r' := 448 * (b : ℕ) + 384) (off25_eq i a b) (by omega) hSg (msk_blk dc mc (by omega))) $$ Hg
  iintro Hg
  iapply (le_wp_ret frame (wpE (defs₀ (F := F)) Variants.none c none) Set.univ)
  dsimp only
  rw [k0_part15_eq_skeleton]; unfold k0_part15_skel
  simp only [wp_bind]
  iapply (load_ring Variants.none none Set.univ (off12_eq i a b) hSg (gst_raw hg (by omega))) $$ Hg
  iintro Hg
  iapply (store_ring Variants.none none Set.univ (r' := 448 * (b : ℕ) + 416) (off26_eq i a b) (by omega) hSg (msk_blk dc mc (by omega))) $$ Hg
  iintro Hg
  iapply (le_wp_ret frame (wpE (defs₀ (F := F)) Variants.none c none) Set.univ)
  dsimp only
  iapply (load_ring Variants.none none Set.univ (off12_eq i a b) hSg (gst_raw hg (by omega))) $$ Hg
  iintro Hg
  iapply (store_ring Variants.none none Set.univ (r' := 448 * (b : ℕ) + 448) (off27_eq i a b) (by omega) hSg (msk_blk dc mc (by omega))) $$ Hg
  iintro Hg
  iapply (le_wp_ret frame (wpE (defs₀ (F := F)) Variants.none c none) Set.univ)
  unfold t2out
  dsimp only
  iapply Hk
  isplitl [Hx]; · iexact Hx
  isplitl [Hg]; · iexact Hg
  iexact Hm
end

end Cert.Kernel.Hand
-- ==== Proof.Body1.lean ====
/-
  The first loop: chunks of the first column are waited for, masked and summed, and later chunks are asked for.
-/
module

public import proofs.«01_k».proof.Proof.Offs
public import proofs.«01_k».proof.Proof.Win
public import proofs.«01_k».proof.Proof.T2
public import proofs.«01_k».proof.Proof.Gen.Kernel.Skeleton
public import Idealize.ShloMosaic.Lib.Pipeline.FrameBody
public import Idealize.SL.BI.BigOpNat

@[expose] public section

set_option maxRecDepth 16384

noncomputable section

namespace Cert.Kernel.Hand

open Cert.Kernel Cert.Kernel.Gen Cert.Own
open Idealize.ShloMosaic Idealize.ShloMosaic.TcCoe Idealize.ShloMosaic.ValueIdx Idealize.ShloMosaic.Transfers
open Idealize.SL Idealize.SL.RA
open Idealize.SL.BI (sProp Storable bigSep bigSep_Ico_succ_bot bigSep_Ico_succ_top)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The embedding of the counters the transfers use. -/
abbrev EC : UEmb Counters (MT nD τ sig Unit (Elt F) ℕ (Pipeline.UD sig nD τ) ℕ) := countersEmb (U := Pipeline.UD sig nD τ)

section Loops
variable {c : Thread nD τ} {w : ℕ} {σ : Type}

/-- A counted loop, by an invariant. -/
theorem loop_rule (L : Scf.Loop w) (hok : L.OK) (init : σ) (body : Fin L.trips → σ → Prog (TpuEff nD τ sig (Elt F) Λ₀ c.2) σ)
    (I : ℕ → σ → sProp (MT nD τ sig Unit (Elt F) ℕ (Pipeline.UD sig nD τ) ℕ)) (n : ℕ) (hn : L.trips = n)
    (hbody : ∀ (k : Fin L.trips) (acc : σ), I k acc ⊢ wp frame (wpE (defs₀ (F := F)) Variants.none c none) Set.univ (body k acc) (I ((k : ℕ) + 1)))
    {Q : σ → sProp (MT nD τ sig Unit (Elt F) ℕ (Pipeline.UD sig nD τ) ℕ)} :
    (I 0 init : sProp 𝕄) ⊢ iprop((∀ acc, I n acc -∗ Q acc) -∗ wp frame (wpE (defs₀ (F := F)) Variants.none c none) Set.univ (Scf.Loop.for L hok init body) Q) := by
  subst hn
  iintro HI HK
  iapply (Scf.wp_for frame (wpE (defs₀ (F := F)) Variants.none c none) Set.univ L.lb L.ub L.st hok init body I hbody)
  isplitl [HI]; · iexact HI
  iexact HK

/-- A load of a memref owned whole. -/
theorem load_u {cs : CoreSpace} {s : Shape} {e : EltTy} {m : Memref sig c.2.kind cs s e} {r : LoadRect s} {hl : m.view.LoadsAt r}
    {q : PosShare TreeShare} {g : s.Idx → Elt F e} {v : r.shape.Idx → Elt F e} (hv : ∀ x, g (r.idx x) = v x)
    {Q : (r.shape.Idx → Elt F e) → sProp (MT nD τ sig Unit (Elt F) ℕ (Pipeline.UD sig nD τ) ℕ)} :
    (own c m Finset.univ q g : sProp 𝕄) ⊢ iprop((own c m Finset.univ q g -∗ Q v)
        -∗ wp frame (wpE (defs₀ (F := F)) Variants.none c none) Set.univ (Prog.lift (.load m r hl)) Q) := by
  iintro H Hk
  have key := own_load (Λ := Λ₀) (defs := defs₀ (F := F)) (Γ := .empty) (Q := Q) (k := Prog.ret) (hl := hl) (q := q) (g := g) Variants.none none Set.univ (m := m) (fun x => Finset.mem_univ _) v hv
  iapply key $$ H
  iintro H
  iapply (le_wp_ret frame (wpE (defs₀ (F := F)) Variants.none c none) Set.univ)
  iapply Hk
  iexact H

/-- A store to a memref owned whole. -/
theorem store_u {cs : CoreSpace} {s : Shape} {e : EltTy} {m : Memref sig c.2.kind cs s e} {r : Rect s} {w : r.shape.Idx → Elt F e}
    {hx : (m.access r).Stores Finset.univ} {hm : (Finset.univ : Finset r.shape.Idx) = Finset.univ ∨ ∀ a, r.stride a = 1}
    {g : s.Idx → Elt F e} (g' : s.Idx → Elt F e) (hin : ∀ x, g' (r.emb x) = w x) (hout : ∀ i, i ∉ r.set → g' i = g i)
    {Q : PUnit → sProp (MT nD τ sig Unit (Elt F) ℕ (Pipeline.UD sig nD τ) ℕ)} :
    (own c m Finset.univ fullShare g : sProp 𝕄) ⊢ iprop((own c m Finset.univ fullShare g' -∗ Q ⟨⟩)
        -∗ wp frame (wpE (defs₀ (F := F)) Variants.none c none) Set.univ (Prog.lift (.store m r w Finset.univ hx hm)) Q) := by
  iintro H Hk
  have key := own_store (Λ := Λ₀) (defs := defs₀ (F := F)) (Γ := .empty) (Q := Q) (k := Prog.ret) (hx := hx) (hm := hm) (g := g) Variants.none none Set.univ (m := m)
    (fun x => Finset.mem_univ _) g' hin (fun i _ h => hout i h)
  iapply key $$ H
  iintro H
  iapply (le_wp_ret frame (wpE (defs₀ (F := F)) Variants.none c none) Set.univ)
  iapply Hk
  iexact H

end Loops

/-- The two sums as the scratch memref holds them. -/
def acc2 (u0 u1 : Vec F S16x128 .f32) : S2x16x128.Idx → Elt F .f32 :=
  fun i => if (i 0 : ℕ) = 0 then u0 (ix2 (i 1) (i 2)) else u1 (ix2 (i 1) (i 2))

/-- A sum as a row of the scratch memref. -/
def up3 (u : Vec F S16x128 .f32) : Vec F S1x16x128 .f32 := fun x => u (ix2 (x 1) (x 2))

/-- A row of the scratch memref as a sum. -/
def dn3 (u : Vec F S1x16x128 .f32) : Vec F S16x128 .f32 := fun x => u (ix3 (0 : Fin 1) (x 0) (x 1))

theorem acc2_load0 (u0 u1 : Vec F S16x128 .f32) (x) :
    acc2 u0 u1 ((Rect.unit (s := S2x16x128) ![0, 0, 0] S1x16x128.size inb_S2x16x128_S1x16x128_0_0_0).toLoadRect.idx x) = up3 u0 x := by
  have h0 : (x 0 : ℕ) = 0 := by have h : (x 0 : ℕ) < 1 := (x 0).isLt; omega
  unfold acc2 up3
  refine (if_pos (show 0 + 1 * (x 0 : ℕ) = 0 by omega)).trans (congrArg u0 ?_)
  funext (a : Fin 2); apply Fin.ext
  match a with
  | 0 => exact (show 0 + 1 * (x 1 : ℕ) = (x 1 : ℕ) by omega)
  | 1 => exact (show 0 + 1 * (x 2 : ℕ) = (x 2 : ℕ) by omega)

theorem acc2_load1 (u0 u1 : Vec F S16x128 .f32) (x) :
    acc2 u0 u1 ((Rect.unit (s := S2x16x128) ![1, 0, 0] S1x16x128.size inb_S2x16x128_S1x16x128_1_0_0).toLoadRect.idx x) = up3 u1 x := by
  unfold acc2 up3
  refine (if_neg (show ¬ 1 + 1 * (x 0 : ℕ) = 0 by omega)).trans (congrArg u1 ?_)
  funext (a : Fin 2); apply Fin.ext
  match a with
  | 0 => exact (show 0 + 1 * (x 1 : ℕ) = (x 1 : ℕ) by omega)
  | 1 => exact (show 0 + 1 * (x 2 : ℕ) = (x 2 : ℕ) by omega)

theorem acc2_mem (o : Fin 3 → ℕ) (k : ℕ) (ho : o = ![k, 0, 0]) (h : ∀ a, o a + S1x16x128.size a ≤ S2x16x128.size a) (i : S2x16x128.Idx) :
    i ∈ (Rect.unit (s := S2x16x128) o S1x16x128.size h).set ↔ (i 0 : ℕ) = k := by
  subst ho
  rw [Rect.mem_set_unit]
  have b1 : (i 1 : ℕ) < 16 := (i 1).isLt
  have b2 : (i 2 : ℕ) < 128 := (i 2).isLt
  constructor
  · intro h
    have h' : k ≤ (i 0 : ℕ) ∧ (i 0 : ℕ) < k + 1 := h (0 : Fin 3)
    omega
  · intro h (a : Fin 3)
    match a with
    | 0 => exact (show k ≤ (i 0 : ℕ) ∧ (i 0 : ℕ) < k + 1 by omega)
    | 1 => exact (show 0 ≤ (i 1 : ℕ) ∧ (i 1 : ℕ) < 0 + 16 by omega)
    | 2 => exact (show 0 ≤ (i 2 : ℕ) ∧ (i 2 : ℕ) < 0 + 128 by omega)

theorem up_dn (w : Vec F S1x16x128 .f32) : up3 (dn3 w) = w := by
  funext x
  unfold up3 dn3
  congr 1; funext (a : Fin 3); apply Fin.ext
  have h0 : (x 0 : ℕ) = 0 := by have h : (x 0 : ℕ) < 1 := (x 0).isLt; omega
  match a with
  | 0 => exact (show 0 = (x 0 : ℕ) by omega)
  | 1 => rfl
  | 2 => rfl

section Acc
variable {c : Thread nD τ} {m : Memref sig c.2.kind CoreSpace.vmem S2x16x128 .f32} {u0 u1 : Vec F S16x128 .f32}

theorem store_acc0 {w : Vec F S1x16x128 .f32} {hx} {hm} {Q : PUnit → sProp (MT nD τ sig Unit (Elt F) ℕ (Pipeline.UD sig nD τ) ℕ)} :
    (own c m Finset.univ fullShare (acc2 u0 u1) : sProp 𝕄) ⊢ iprop((own c m Finset.univ fullShare (acc2 (dn3 w) u1) -∗ Q ⟨⟩)
        -∗ wp frame (wpE (defs₀ (F := F)) Variants.none c none) Set.univ
          (Prog.lift (.store m (Rect.unit (s := S2x16x128) ![0, 0, 0] S1x16x128.size inb_S2x16x128_S1x16x128_0_0_0) w Finset.univ hx hm)) Q) :=
  store_u _ (fun x => (acc2_load0 _ _ x).trans (congrFun (up_dn w) x)) fun i hi => by
    have : ¬ (i 0 : ℕ) = 0 := fun h => hi ((acc2_mem _ 0 rfl _ i).mpr h)
    unfold acc2; rw [if_neg this, if_neg this]

theorem store_acc1 {w : Vec F S1x16x128 .f32} {hx} {hm} {Q : PUnit → sProp (MT nD τ sig Unit (Elt F) ℕ (Pipeline.UD sig nD τ) ℕ)} :
    (own c m Finset.univ fullShare (acc2 u0 u1) : sProp 𝕄) ⊢ iprop((own c m Finset.univ fullShare (acc2 u0 (dn3 w)) -∗ Q ⟨⟩)
        -∗ wp frame (wpE (defs₀ (F := F)) Variants.none c none) Set.univ
          (Prog.lift (.store m (Rect.unit (s := S2x16x128) ![1, 0, 0] S1x16x128.size inb_S2x16x128_S1x16x128_1_0_0) w Finset.univ hx hm)) Q) :=
  store_u _ (fun x => (acc2_load1 _ _ x).trans (congrFun (up_dn w) x)) fun i hi => by
    have h2 : (i 0 : ℕ) < 2 := (i 0).isLt
    have : (i 0 : ℕ) = 0 := by
      by_contra h
      exact hi ((acc2_mem _ 1 rfl _ i).mpr (by omega))
    unfold acc2; rw [if_pos this, if_pos this]

end Acc

section
variable (c : Dev nD) (i : grid0.Coords) (arg1 : Memref sig .tc .smem S1 .f32) (harg1 : arg1.IsWhole) (arg2 : Memref sig .tc .smem S1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4x128 .f32) (harg5 : arg5.IsWhole) (arg6 : Memref sig .tc .vmem S16x128 .f32) (harg6 : arg6.IsWhole) (arg7 : Memref sig .tc .hbm S75264x512 .fp8e4m3) (harg7 : arg7.IsWhole) (arg8 : Memref sig .tc .hbm S75264x512 .fp8e5m2) (harg8 : arg8.IsWhole) (arg9 : Memref sig .tc .hbm S75264x512 .i8) (harg9 : arg9.IsWhole) (arg10 : Memref sig .tc .hbm S75264x512 .bf16) (harg10 : arg10.IsWhole) (arg11 : Memref sig .tc .vmem S4x128 .f32) (harg11 : arg11.IsWhole) (arg12 : Memref sig .tc .vmem S4x128 .f32) (harg12 : arg12.IsWhole) (arg13 : Memref sig .tc .vmem S37x3136x128 .fp8e4m3) (harg13 : arg13.IsWhole) (arg14 : Memref sig .tc .vmem S37x3136x128 .fp8e5m2) (harg14 : arg14.IsWhole) (arg15 : Memref sig .tc .vmem S13x3136x128 .i8) (harg15 : arg15.IsWhole) (arg16 : Memref sig .tc .vmem S6x3136x128 .bf16) (harg16 : arg16.IsWhole) (arg17 : Memref sig .tc .vmem S2x16x128 .f32) (harg17 : arg17.IsWhole) (arg18 : Memref sig .tc .vmem S8x128 .f32) (harg18 : arg18.IsWhole) (arg19 : DmaSems sig S13) (arg20 : DmaSems sig S6)
variable (Ax : ℕ → ℕ → Elt F .fp8e4m3) (Ad : ℕ → ℕ → Elt F .fp8e5m2) (Am : ℕ → ℕ → Elt F .i8) (N : ℕ) (qx qd qm : PosShare TreeShare)

/-- What chunk `q`'s three transfers carry: each its slot, filled, and its block. -/
def DD (q : ℕ) : Fin 3 → sProp (MT nD τ sig Unit (Elt F) ℕ (Pipeline.UD sig nD τ) ℕ) :=
  ![iprop(own (c : Thread nD τ) arg14 (slotS 37 (q % 37)) fullShare (fun i => chk Ad q (i 1 : ℕ) (i 2 : ℕ)) ∗ own (c : Thread nD τ) arg8 (blockS q) qd (fun i => Ad (i 0 : ℕ) (i 1 : ℕ))),
    iprop(own (c : Thread nD τ) arg15 (slotS 13 (q % 13)) fullShare (fun i => chk Am q (i 1 : ℕ) (i 2 : ℕ)) ∗ own (c : Thread nD τ) arg9 (blockS q) qm (fun i => Am (i 0 : ℕ) (i 1 : ℕ))),
    iprop(own (c : Thread nD τ) arg13 (slotS 37 (q % 37)) fullShare (fun i => chk Ax q (i 1 : ℕ) (i 2 : ℕ)) ∗ own (c : Thread nD τ) arg7 (blockS q) qx (fun i => Ax (i 0 : ℕ) (i 1 : ℕ)))]

instance DD_storable (q : ℕ) (t : Fin 3) : Storable (upEmb : UEmb _ (MT nD τ sig Unit (Elt F) ℕ (Pipeline.UD sig nD τ) ℕ)) (DD (F := F) c arg7 arg8 arg9 arg13 arg14 arg15 Ax Ad Am qx qd qm q t) := by
  match t with
  | 0 => exact (inferInstance : Storable (upEmb : UEmb _ (MT nD τ sig Unit (Elt F) ℕ (Pipeline.UD sig nD τ) ℕ)) iprop(own (c : Thread nD τ) arg14 (slotS 37 (q % 37)) fullShare (fun i => chk Ad q (i 1 : ℕ) (i 2 : ℕ)) ∗ own (c : Thread nD τ) arg8 (blockS q) qd (fun i => Ad (i 0 : ℕ) (i 1 : ℕ))))
  | 1 => exact (inferInstance : Storable (upEmb : UEmb _ (MT nD τ sig Unit (Elt F) ℕ (Pipeline.UD sig nD τ) ℕ)) iprop(own (c : Thread nD τ) arg15 (slotS 13 (q % 13)) fullShare (fun i => chk Am q (i 1 : ℕ) (i 2 : ℕ)) ∗ own (c : Thread nD τ) arg9 (blockS q) qm (fun i => Am (i 0 : ℕ) (i 1 : ℕ))))
  | 2 => exact (inferInstance : Storable (upEmb : UEmb _ (MT nD τ sig Unit (Elt F) ℕ (Pipeline.UD sig nD τ) ℕ)) iprop(own (c : Thread nD τ) arg13 (slotS 37 (q % 37)) fullShare (fun i => chk Ax q (i 1 : ℕ) (i 2 : ℕ)) ∗ own (c : Thread nD τ) arg7 (blockS q) qx (fun i => Ax (i 0 : ℕ) (i 1 : ℕ))))

/-- Chunk `q` in flight. -/
def Fly (q : ℕ) : sProp (MT nD τ sig Unit (Elt F) ℕ (Pipeline.UD sig nD τ) ℕ) :=
  Batch EC (c : Thread nD τ) (.dma (cellOf (K := 13) arg19 q)) () N (DD (F := F) c arg7 arg8 arg9 arg13 arg14 arg15 Ax Ad Am qx qd qm q) 3 0

/-- Chunk `q`'s cell, free. -/
def Cell (q : ℕ) : sProp (MT nD τ sig Unit (Elt F) ℕ (Pipeline.UD sig nD τ) ℕ) := semVal ((c : Thread nD τ), .dma (cellOf (K := 13) arg19 q)) 0

/-- The three rings and the three arrays while the chunks `lo … hi - 1` are in flight. -/
def BUF (G : ℕ → ℕ → ℕ → Elt F .fp8e5m2) (lo hi h2 h3 : ℕ) : sProp (MT nD τ sig Unit (Elt F) ℕ (Pipeline.UD sig nD τ) ℕ) :=
  iprop((RX (c : Thread nD τ) arg14 G lo hi ∗ own (c : Thread nD τ) arg8 (restS lo hi) qd (fun i => Ad (i 0 : ℕ) (i 1 : ℕ)))
    ∗ (RX (c : Thread nD τ) arg15 (chk Am) lo h2 ∗ own (c : Thread nD τ) arg9 (restS lo h2) qm (fun i => Am (i 0 : ℕ) (i 1 : ℕ)))
    ∗ (RX (c : Thread nD τ) arg13 (chk Ax) lo h3 ∗ own (c : Thread nD τ) arg7 (restS lo h3) qx (fun i => Ax (i 0 : ℕ) (i 1 : ℕ))))

/-- The input side while the chunks `lo … hi - 1` are in flight. -/
def IN (G : ℕ → ℕ → ℕ → Elt F .fp8e5m2) (lo hi : ℕ) : sProp (MT nD τ sig Unit (Elt F) ℕ (Pipeline.UD sig nD τ) ℕ) :=
  iprop(BUF c arg7 arg8 arg9 arg13 arg14 arg15 Ax Ad Am qx qd qm G lo hi hi hi
    ∗ bigSep (Finset.Ico lo hi) (Fly (F := F) c arg7 arg8 arg9 arg13 arg14 arg15 arg19 Ax Ad Am N qx qd qm)
    ∗ bigSep (Finset.Ico hi (lo + 13)) (Cell (F := F) c arg19))

local notation "ℚ" => sProp (MT nD τ sig Unit (Elt F) ℕ (Pipeline.UD sig nD τ) ℕ)

theorem cellOf_add (q : ℕ) : cellOf (K := 13) arg19 (q + 13) = cellOf arg19 q := by
  unfold cellOf; congr 1; funext j; apply Fin.ext; exact Nat.add_mod_right q 13

/-- A chunk more in flight: its buffers, and its cell. -/
theorem IN_open {G : ℕ → ℕ → ℕ → Elt F .fp8e5m2} {lo hi : ℕ} (h : hi < lo + 13) :
    IN (F := F) c arg7 arg8 arg9 arg13 arg14 arg15 arg19 Ax Ad Am N qx qd qm G lo hi
      ⊢ (iprop(BUF c arg7 arg8 arg9 arg13 arg14 arg15 Ax Ad Am qx qd qm G lo hi hi hi
        ∗ bigSep (Finset.Ico lo hi) (Fly (F := F) c arg7 arg8 arg9 arg13 arg14 arg15 arg19 Ax Ad Am N qx qd qm)
        ∗ bigSep (Finset.Ico (hi + 1) (lo + 13)) (Cell (F := F) c arg19)
        ∗ semVal ((c : Thread nD τ), .dma (cellOf (K := 13) arg19 hi)) 0) : sProp 𝕄) := by
  unfold IN
  rw [bigSep_Ico_succ_bot h]
  unfold Cell
  iintro ⟨H1, H2, H3, H4⟩
  isplitl [H1]; · iexact H1
  isplitl [H2]; · iexact H2
  isplitl [H4]; · iexact H4
  iexact H3

theorem IN_close {G : ℕ → ℕ → ℕ → Elt F .fp8e5m2} {lo hi : ℕ} (h : lo ≤ hi) :
    (iprop(BUF c arg7 arg8 arg9 arg13 arg14 arg15 Ax Ad Am qx qd qm G lo (hi + 1) (hi + 1) (hi + 1)
        ∗ bigSep (Finset.Ico lo hi) (Fly (F := F) c arg7 arg8 arg9 arg13 arg14 arg15 arg19 Ax Ad Am N qx qd qm)
        ∗ bigSep (Finset.Ico (hi + 1) (lo + 13)) (Cell (F := F) c arg19)
        ∗ Batch EC (c : Thread nD τ) (.dma (cellOf (K := 13) arg19 hi)) () N (DD (F := F) c arg7 arg8 arg9 arg13 arg14 arg15 Ax Ad Am qx qd qm hi) 3 0) : sProp 𝕄)
    ⊢ IN (F := F) c arg7 arg8 arg9 arg13 arg14 arg15 arg19 Ax Ad Am N qx qd qm G lo (hi + 1) := by
  unfold IN
  rw [bigSep_Ico_succ_top h]
  iintro ⟨H1, H2, H3, H4⟩
  isplitl [H1]; · iexact H1
  isplitl [H2 H4]
  · isplitl [H4]; · unfold Fly; iexact H4
    iexact H2
  iexact H3

theorem IN_wait {G : ℕ → ℕ → ℕ → Elt F .fp8e5m2} {lo hi : ℕ} (h : lo < hi) :
    IN (F := F) c arg7 arg8 arg9 arg13 arg14 arg15 arg19 Ax Ad Am N qx qd qm G lo hi
    ⊢ (iprop(BUF c arg7 arg8 arg9 arg13 arg14 arg15 Ax Ad Am qx qd qm G lo hi hi hi
        ∗ bigSep (Finset.Ico (lo + 1) hi) (Fly (F := F) c arg7 arg8 arg9 arg13 arg14 arg15 arg19 Ax Ad Am N qx qd qm)
        ∗ bigSep (Finset.Ico hi (lo + 13)) (Cell (F := F) c arg19)
        ∗ Batch EC (c : Thread nD τ) (.dma (cellOf (K := 13) arg19 lo)) () N (DD (F := F) c arg7 arg8 arg9 arg13 arg14 arg15 Ax Ad Am qx qd qm lo) 3 0) : sProp 𝕄) := by
  unfold IN
  rw [bigSep_Ico_succ_bot h]
  iintro ⟨H1, ⟨H2, H3⟩, H4⟩
  isplitl [H1]; · iexact H1
  isplitl [H3]; · iexact H3
  isplitl [H4]; · iexact H4
  unfold Fly; iexact H2

/-- The chunk waited for is in the rings, its derivative chunk as it came. -/
theorem IN_waited {G : ℕ → ℕ → ℕ → Elt F .fp8e5m2} {lo hi : ℕ} (h : lo < hi) (h' : hi ≤ lo + 13) :
    (iprop(BUF c arg7 arg8 arg9 arg13 arg14 arg15 Ax Ad Am qx qd qm G lo hi hi hi
        ∗ bigSep (Finset.Ico (lo + 1) hi) (Fly (F := F) c arg7 arg8 arg9 arg13 arg14 arg15 arg19 Ax Ad Am N qx qd qm)
        ∗ bigSep (Finset.Ico hi (lo + 13)) (Cell (F := F) c arg19)
        ∗ (DD (F := F) c arg7 arg8 arg9 arg13 arg14 arg15 Ax Ad Am qx qd qm lo 0) ∗ (DD (F := F) c arg7 arg8 arg9 arg13 arg14 arg15 Ax Ad Am qx qd qm lo 1)
        ∗ (DD (F := F) c arg7 arg8 arg9 arg13 arg14 arg15 Ax Ad Am qx qd qm lo 2)
        ∗ semVal ((c : Thread nD τ), .dma (cellOf (K := 13) arg19 lo)) 0) : sProp 𝕄)
    ⊢ IN (F := F) c arg7 arg8 arg9 arg13 arg14 arg15 arg19 Ax Ad Am N qx qd qm (Function.update G lo (chk Ad lo)) (lo + 1) hi := by
  unfold IN BUF
  rw [show lo + 1 + 13 = lo + 13 + 1 by omega, bigSep_Ico_succ_top h']
  have e0 : DD (F := F) c arg7 arg8 arg9 arg13 arg14 arg15 Ax Ad Am qx qd qm lo 0 = iprop(own (c : Thread nD τ) arg14 (slotS 37 (lo % 37)) fullShare (fun i => chk Ad lo (i 1 : ℕ) (i 2 : ℕ)) ∗ own (c : Thread nD τ) arg8 (blockS lo) qd (fun i => Ad (i 0 : ℕ) (i 1 : ℕ))) := rfl
  have e1 : DD (F := F) c arg7 arg8 arg9 arg13 arg14 arg15 Ax Ad Am qx qd qm lo 1 = iprop(own (c : Thread nD τ) arg15 (slotS 13 (lo % 13)) fullShare (fun i => chk Am lo (i 1 : ℕ) (i 2 : ℕ)) ∗ own (c : Thread nD τ) arg9 (blockS lo) qm (fun i => Am (i 0 : ℕ) (i 1 : ℕ))) := rfl
  have e2 : DD (F := F) c arg7 arg8 arg9 arg13 arg14 arg15 Ax Ad Am qx qd qm lo 2 = iprop(own (c : Thread nD τ) arg13 (slotS 37 (lo % 37)) fullShare (fun i => chk Ax lo (i 1 : ℕ) (i 2 : ℕ)) ∗ own (c : Thread nD τ) arg7 (blockS lo) qx (fun i => Ax (i 0 : ℕ) (i 1 : ℕ))) := rfl
  rw [e0, e1, e2]
  iintro ⟨⟨⟨Ga, Gb⟩, ⟨Ma, Mb⟩, ⟨Xa, Xb⟩⟩, HF, HC, ⟨D0a, D0b⟩, ⟨D1a, D1b⟩, ⟨D2a, D2b⟩, Hs⟩
  isplitr [HF HC Hs]
  · isplitl [Ga Gb D0a D0b]
    · isplitl [Ga D0a]
      · iapply (RX_take h (by omega))
        isplitl [D0a]
        · rw [Function.update_self]; iexact D0a
        · iapply (RX_congr (C := G) (fun q hq => (Function.update_of_ne (by omega) _ _).symm)) $$ Ga
      · iapply (own_join (restS_disj' h) (restS_take h) (fun _ _ => rfl) (fun _ _ => rfl))
        isplitl [D0b]; · iexact D0b
        iexact Gb
    isplitl [Ma Mb D1a D1b]
    · isplitl [Ma D1a]
      · iapply (RX_take h (by omega))
        isplitl [D1a]; · iexact D1a
        iexact Ma
      · iapply (own_join (restS_disj' h) (restS_take h) (fun _ _ => rfl) (fun _ _ => rfl))
        isplitl [D1b]; · iexact D1b
        iexact Mb
    · isplitl [Xa D2a]
      · iapply (RX_take h (by omega))
        isplitl [D2a]; · iexact D2a
        iexact Xa
      · iapply (own_join (restS_disj' h) (restS_take h) (fun _ _ => rfl) (fun _ _ => rfl))
        isplitl [D2b]; · iexact D2b
        iexact Xb
  · isplitl [HF]; · iexact HF
    isplitl [Hs]
    · unfold Cell; rw [cellOf_add]; iexact Hs
    · iexact HC

/-- The masked chunks. -/
def MG (q : ℕ) : ℕ → ℕ → Elt F .fp8e5m2 := msk (chk Ad q) (chk Am q)

/-- The sums over the first `k` trips of a chunk. -/
def t2sum (xc : ℕ → ℕ → Elt F .fp8e4m3) (dc : ℕ → ℕ → Elt F .fp8e5m2) (mc : ℕ → ℕ → Elt F .i8) (ones : Vec F S16x128 .f32) :
    ℕ → FVec F S16x128 .f32 × FVec F S16x128 .f32
  | 0 => (k0_pay100, k0_pay100)
  | k + 1 => t2out xc dc mc (448 * k) ones (t2sum xc dc mc ones k)

/-- The sums after the first `k` chunks of a column, in the order the program adds them. -/
def accs (n0 : ℕ) (ones : Vec F S16x128 .f32) (u : Vec F S16x128 .f32 × Vec F S16x128 .f32) : ℕ → Vec F S16x128 .f32 × Vec F S16x128 .f32
  | 0 => u
  | k + 1 => (dn3 (k0_pay108 (t2sum (chk Ax (n0 + k)) (chk Ad (n0 + k)) (chk Am (n0 + k)) ones 7).1 (up3 (accs n0 ones u k).1)),
      dn3 (k0_pay109 (t2sum (chk Ax (n0 + k)) (chk Ad (n0 + k)) (chk Am (n0 + k)) ones 7).2 (up3 (accs n0 ones u k).2)))

variable (a : Fin (k0_t1_loop i).trips) (arg21 : BitVec 32) (ones : Vec F S16x128 .f32)

/-- The loop over a chunk just arrived: the derivative chunk is masked and the sums are taken. -/
theorem t2_loop {lo hi : ℕ} (hlo : lo = (a : ℕ)) (h' : hi ≤ lo + 13) (h'' : lo + 1 ≤ hi)
    {Q : FVec F S16x128 .f32 × FVec F S16x128 .f32 → sProp (MT nD τ sig Unit (Elt F) ℕ (Pipeline.UD sig nD τ) ℕ)} :
    (IN (F := F) c arg7 arg8 arg9 arg13 arg14 arg15 arg19 Ax Ad Am N qx qd qm (Function.update (MG Ad Am) lo (chk Ad lo)) (lo + 1) hi : sProp 𝕄)
    ⊢ iprop((IN (F := F) c arg7 arg8 arg9 arg13 arg14 arg15 arg19 Ax Ad Am N qx qd qm (MG Ad Am) (lo + 1) hi
        -∗ Q (t2sum (chk Ax lo) (chk Ad lo) (chk Am lo) ones 7))
      -∗ wp frame (wpE (defs₀ (F := F)) Variants.none c none) Set.univ
        (Scf.Loop.for k0_t2_loop k0_t2_ok (k0_pay100 (F := F), k0_pay100 (F := F)) (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 a arg21 ones)) Q) := by
  subst hlo
  unfold IN BUF
  conv_lhs => unfold RX
  iintro ⟨⟨⟨⟨%gg, Ga, %hgg⟩, Gb⟩, ⟨⟨%gm, Ma, %hgm⟩, Mb⟩, ⟨⟨%gx, Xa, %hgx⟩, Xb⟩⟩, HF, HC⟩ Hk
  have hx : ∀ i : S37x3136x128.Idx, (i 0 : ℕ) = (a : ℕ) % 37 → gx i = chk Ax (a : ℕ) (i 1 : ℕ) (i 2 : ℕ) := hgx a (by omega) (by omega)
  have hm : ∀ i : S13x3136x128.Idx, (i 0 : ℕ) = (a : ℕ) % 13 → gm i = chk Am (a : ℕ) (i 1 : ℕ) (i 2 : ℕ) := hgm a (by omega) (by omega)
  have hg : ∀ i : S37x3136x128.Idx, (i 0 : ℕ) = (a : ℕ) % 37 → gg i = chk Ad (a : ℕ) (i 1 : ℕ) (i 2 : ℕ) := fun i h => by
    have := hgg a (by omega) (by omega) i h
    rw [Function.update_self] at this; exact this
  have key := loop_rule (F := F) (c := (c : Thread nD τ)) k0_t2_loop k0_t2_ok (k0_pay100 (F := F), k0_pay100 (F := F)) (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 a arg21 ones)
    (fun k acc => iprop(own (c : Thread nD τ) arg13 (freeS 37 ((a : ℕ) + 1) hi) fullShare gx
      ∗ own (c : Thread nD τ) arg14 (freeS 37 ((a : ℕ) + 1) hi) fullShare (gst ((a : ℕ) % 37) (msk (chk Ad a) (chk Am a)) gg (448 * k))
      ∗ own (c : Thread nD τ) arg15 (freeS 13 ((a : ℕ) + 1) hi) fullShare gm ∗ ⌜acc = t2sum (chk Ax a) (chk Ad a) (chk Am a) ones k⌝)) 7 t2_trips
    (fun k acc => by
      iintro ⟨H1, H2, H3, %hacc⟩
      subst hacc
      iapply (t2_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 a k arg21 ones (Sx := freeS 37 ((a : ℕ) + 1) hi) (Sg := freeS 37 ((a : ℕ) + 1) hi) (Sm := freeS 13 ((a : ℕ) + 1) hi) (qx := fullShare) (qm := fullShare)
        (gx := gx) (g0 := gg) (gm := gm) (xc := chk Ax a) (dc := chk Ad a) (mc := chk Am a) _ (slot_mem (by omega) (by omega)) (slot_mem (by omega) (by omega)) (slot_mem (by omega) (by omega)) hx hg hm)
      isplitl [H1]; · iexact H1
      isplitl [H2]; · iexact H2
      isplitl [H3]; · iexact H3
      iintro ⟨H1, H2, H3⟩
      isplitl [H1]; · iexact H1
      isplitl [H2]; · iexact H2
      isplitl [H3]; · iexact H3
      ipureintro; rfl) (Q := Q)
  iapply key $$ [Ga Ma Xa]
  · isplitl [Xa]; · iexact Xa
    isplitl [Ga]; · rw [Nat.mul_zero, gst_zero]; iexact Ga
    isplitl [Ma]; · iexact Ma
    ipureintro; rfl
  iintro %acc ⟨Xa, Ga, Ma, %hacc⟩
  subst hacc
  iapply Hk
  isplitr [HF HC]
  · isplitl [Ga Gb]
    · isplitl [Ga]
      · unfold RX
        iexists _
        isplitl [Ga]; · iexact Ga
        ipureintro
        intro q h1 h2 i h3
        rcases Nat.lt_succ_iff_lt_or_eq.mp h1 with h4 | h4
        · rw [gst_other i (by rw [h3]; exact mod_ne h4 (by omega))]
          refine (hgg q h1 h2 i h3).trans ?_
          rw [Function.update_of_ne (Nat.ne_of_lt h4)]
        · subst h4
          exact gst_done i h3
      · iexact Gb
    isplitl [Ma Mb]
    · isplitl [Ma]
      · unfold RX
        iexists gm
        isplitl [Ma]; · iexact Ma
        ipureintro; exact hgm
      · iexact Mb
    · isplitl [Xa]
      · unfold RX
        iexists gx
        isplitl [Xa]; · iexact Xa
        ipureintro; exact hgx
      · iexact Xb
  · isplitl [HF]; · iexact HF
    iexact HC

end

end Cert.Kernel.Hand
-- ==== Proof.Body2.lean ====
/-
  A trip of the first loop: a later chunk is asked for, the next one is waited for, masked and summed.
-/
module

public import proofs.«01_k».proof.Proof.Offs
public import proofs.«01_k».proof.Proof.Win
public import proofs.«01_k».proof.Proof.Body1
public import proofs.«01_k».proof.Proof.Gen.Kernel.Skeleton
public import Idealize.ShloMosaic.Lib.Pipeline.FrameBody
public import Idealize.SL.BI.BigOpNat

@[expose] public section

set_option maxRecDepth 16384

noncomputable section

namespace Cert.Kernel.Hand

open Cert.Kernel Cert.Kernel.Gen Cert.Own
open Idealize.ShloMosaic Idealize.ShloMosaic.TcCoe Idealize.ShloMosaic.ValueIdx Idealize.ShloMosaic.Transfers
open Idealize.SL Idealize.SL.RA
open Idealize.SL.BI (sProp Storable bigSep bigSep_Ico_succ_bot bigSep_Ico_succ_top)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem ones_idx (x : S16x128.Idx) : (Rect.unit (s := S16x128) ![0, 0] S16x128.size inb_S16x128_S16x128_0_0).toLoadRect.idx x = x := by
  funext (a : Fin 2); apply Fin.ext
  match a with
  | 0 => exact (show 0 + 1 * (x 0 : ℕ) = (x 0 : ℕ) by omega)
  | 1 => exact (show 0 + 1 * (x 1 : ℕ) = (x 1 : ℕ) by omega)

section
variable (c : Dev nD) (i : grid0.Coords) (arg1 : Memref sig .tc .smem S1 .f32) (harg1 : arg1.IsWhole) (arg2 : Memref sig .tc .smem S1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4x128 .f32) (harg5 : arg5.IsWhole) (arg6 : Memref sig .tc .vmem S16x128 .f32) (harg6 : arg6.IsWhole) (arg7 : Memref sig .tc .hbm S75264x512 .fp8e4m3) (harg7 : arg7.IsWhole) (arg8 : Memref sig .tc .hbm S75264x512 .fp8e5m2) (harg8 : arg8.IsWhole) (arg9 : Memref sig .tc .hbm S75264x512 .i8) (harg9 : arg9.IsWhole) (arg10 : Memref sig .tc .hbm S75264x512 .bf16) (harg10 : arg10.IsWhole) (arg11 : Memref sig .tc .vmem S4x128 .f32) (harg11 : arg11.IsWhole) (arg12 : Memref sig .tc .vmem S4x128 .f32) (harg12 : arg12.IsWhole) (arg13 : Memref sig .tc .vmem S37x3136x128 .fp8e4m3) (harg13 : arg13.IsWhole) (arg14 : Memref sig .tc .vmem S37x3136x128 .fp8e5m2) (harg14 : arg14.IsWhole) (arg15 : Memref sig .tc .vmem S13x3136x128 .i8) (harg15 : arg15.IsWhole) (arg16 : Memref sig .tc .vmem S6x3136x128 .bf16) (harg16 : arg16.IsWhole) (arg17 : Memref sig .tc .vmem S2x16x128 .f32) (harg17 : arg17.IsWhole) (arg18 : Memref sig .tc .vmem S8x128 .f32) (harg18 : arg18.IsWhole) (arg19 : DmaSems sig S13) (arg20 : DmaSems sig S6)
variable (Ax : ℕ → ℕ → Elt F .fp8e4m3) (Ad : ℕ → ℕ → Elt F .fp8e5m2) (Am : ℕ → ℕ → Elt F .i8) (N : ℕ) (qx qd qm : PosShare TreeShare)
variable (arg0 : BitVec 32) (a : Fin (k0_t1_loop i).trips)
variable (h13 : sig.dmaCredit .tc (Kind.tc.table .vmem) arg13.view.buf ⟨2, ![3136, 128]⟩ .fp8e4m3 = N)
  (h14 : sig.dmaCredit .tc (Kind.tc.table .vmem) arg14.view.buf ⟨2, ![3136, 128]⟩ .fp8e5m2 = N)
  (h15 : sig.dmaCredit .tc (Kind.tc.table .vmem) arg15.view.buf ⟨2, ![3136, 128]⟩ .i8 = N) (hN0 : 0 < N)

include h13 h14 h15 hN0

set_option maxHeartbeats 4000000 in
/-- A trip of the first loop. -/
theorem t1_trip {u : Vec F S16x128 .f32 × Vec F S16x128 .f32} {q6 : PosShare TreeShare} {g6 : S16x128.Idx → Elt F .f32} {W : Waits sig Unit}
    {Q : Unit → sProp (MT nD τ sig Unit (Elt F) ℕ (Pipeline.UD sig nD τ) ℕ)} :
    iprop(IN (F := F) c arg7 arg8 arg9 arg13 arg14 arg15 arg19 Ax Ad Am N qx qd qm (MG Ad Am) (a : ℕ) ((a : ℕ) + 12)
      ∗ own (c : Thread nD τ) arg6 Finset.univ q6 g6
      ∗ own (c : Thread nD τ) arg17 Finset.univ fullShare (acc2 (accs Ax Ad Am 0 g6 u a).1 (accs Ax Ad Am 0 g6 u a).2)
      ∗ owes (c : Thread nD τ) 0 W
      ∗ (iprop(IN (F := F) c arg7 arg8 arg9 arg13 arg14 arg15 arg19 Ax Ad Am N qx qd qm (MG Ad Am) ((a : ℕ) + 1) ((a : ℕ) + 1 + 12)
        ∗ own (c : Thread nD τ) arg6 Finset.univ q6 g6
        ∗ own (c : Thread nD τ) arg17 Finset.univ fullShare (acc2 (accs Ax Ad Am 0 g6 u ((a : ℕ) + 1)).1 (accs Ax Ad Am 0 g6 u ((a : ℕ) + 1)).2)
        ∗ (∃ W', owes (c : Thread nD τ) 0 W')) -∗ Q ⟨⟩) : sProp 𝕄)
    ⊢ wp frame (wpE (defs₀ (F := F)) Variants.none c none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 a ⟨⟩) Q := by
  have ha : (a : ℕ) < 24 := lt_of_lt_of_eq a.isLt (t1_trips i)
  unfold k0_t1_body
  simp only [wp_bind]
  iintro ⟨HI, H6, HA, HO, Hk⟩
  rw [k0_part16_eq_skeleton]; unfold k0_part16_skel
  rw [dif_pos (cond1_eq i a)]
  rw [k0_part1_eq_skeleton]; unfold k0_part1_skel
  simp only [wp_bind]
  iapply (le_wp_ret frame (wpE (defs₀ (F := F)) Variants.none c none) Set.univ)
  dsimp only
  rw [k0_part2_eq_skeleton]; unfold k0_part2_skel
  simp only [wp_bind]
  ihave HI := (IN_open c arg7 arg8 arg9 arg13 arg14 arg15 arg19 Ax Ad Am N qx qd qm (by omega)) $$ HI
  unfold BUF
  icases HI with ⟨⟨⟨Ga, Gb⟩, ⟨Ma, Mb⟩, ⟨Xa, Xb⟩⟩, HF, HC, Hs⟩
  imod (batch_alloc' EC (c := (c : Thread nD τ)) () N (DD (F := F) c arg7 arg8 arg9 arg13 arg14 arg15 Ax Ad Am qx qd qm ((a : ℕ) + 12)) (E := Set.univ)) $$ Hs with HB
  iapply (issue_ring (defs := defs₀ (F := F)) Variants.none none EC (c := (c : Thread nD τ)) (m := arg14) (h := arg8) (lo := (a : ℕ)) (hi := (a : ℕ) + 12) (j := 0) (n := 3) (D := DD (F := F) c arg7 arg8 arg9 arg13 arg14 arg15 Ax Ad Am qx qd qm ((a : ℕ) + 12)) (by omega) (by omega) (by omega) (off5_eq i a) (off6_eq i a)
    (congrArg SemLoc.dma (cell_eq arg19 (off4_eq i a))) (by decide) () N h14 (Entails.of_eq rfl)) $$ [Ga Gb HB]
  · isplitl [Ga]; · iexact Ga
    isplitl [Gb]; · iexact Gb
    iexact HB
  iintro ⟨Ga, Gb, HB⟩
  iapply (le_wp_ret frame (wpE (defs₀ (F := F)) Variants.none c none) Set.univ)
  dsimp only
  iapply (issue_ring (defs := defs₀ (F := F)) Variants.none none EC (c := (c : Thread nD τ)) (m := arg15) (h := arg9) (lo := (a : ℕ)) (hi := (a : ℕ) + 12) (j := 1) (n := 3) (D := DD (F := F) c arg7 arg8 arg9 arg13 arg14 arg15 Ax Ad Am qx qd qm ((a : ℕ) + 12)) (by omega) (by omega) (by omega) (off7_eq i a) (off6_eq i a)
    (congrArg SemLoc.dma (cell_eq arg19 (off4_eq i a))) (by decide) () N h15 (Entails.of_eq rfl)) $$ [Ma Mb HB]
  · isplitl [Ma]; · iexact Ma
    isplitl [Mb]; · iexact Mb
    iexact HB
  iintro ⟨Ma, Mb, HB⟩
  iapply (issue_ring (defs := defs₀ (F := F)) Variants.none none EC (c := (c : Thread nD τ)) (m := arg13) (h := arg7) (lo := (a : ℕ)) (hi := (a : ℕ) + 12) (j := 2) (n := 3) (D := DD (F := F) c arg7 arg8 arg9 arg13 arg14 arg15 Ax Ad Am qx qd qm ((a : ℕ) + 12)) (by omega) (by omega) (by omega) (off5_eq i a) (off6_eq i a)
    (congrArg SemLoc.dma (cell_eq arg19 (off4_eq i a))) (by decide) () N h13 (Entails.of_eq rfl)) $$ [Xa Xb HB]
  · isplitl [Xa]; · iexact Xa
    isplitl [Xb]; · iexact Xb
    iexact HB
  iintro ⟨Xa, Xb, HB⟩
  ihave HI := (IN_close c arg7 arg8 arg9 arg13 arg14 arg15 arg19 Ax Ad Am N qx qd qm (G := MG Ad Am) (lo := (a : ℕ)) (hi := (a : ℕ) + 12) (by omega)) $$ [Ga Gb Ma Mb Xa Xb HF HC HB]
  · isplitl [Ga Gb Ma Mb Xa Xb]
    · unfold BUF
      isplitl [Ga Gb]
      · isplitl [Ga]; · iexact Ga
        iexact Gb
      isplitl [Ma Mb]
      · isplitl [Ma]; · iexact Ma
        iexact Mb
      · isplitl [Xa]; · iexact Xa
        iexact Xb
    isplitl [HF]; · iexact HF
    isplitl [HC]; · iexact HC
    iexact HB
  iapply (le_wp_ret frame (wpE (defs₀ (F := F)) Variants.none c none) Set.univ)
  dsimp only
  rw [k0_part17_eq_skeleton]; unfold k0_part17_skel
  simp only [wp_bind]
  ihave HI := (IN_wait c arg7 arg8 arg9 arg13 arg14 arg15 arg19 Ax Ad Am N qx qd qm (by omega)) $$ HI
  icases HI with ⟨HB1, HF, HC, HB⟩
  iapply (wait_mid (defs := defs₀ (F := F)) Variants.none none EC (c := (c : Thread nD τ)) (n := 3) (D := DD (F := F) c arg7 arg8 arg9 arg13 arg14 arg15 Ax Ad Am qx qd qm (a : ℕ)) (u := 0) (cell_eq arg19 (off8_eq i a)) () (N := N) h14 (by omega)) $$ [HB HO]
  · isplitl [HB]; · iexact HB
    iexact HO
  iintro ⟨HB, HO⟩
  iapply (le_wp_ret frame (wpE (defs₀ (F := F)) Variants.none c none) Set.univ)
  rw [k0_part18_eq_skeleton]; unfold k0_part18_skel
  simp only [wp_bind]
  iapply (wait_mid (defs := defs₀ (F := F)) Variants.none none EC (c := (c : Thread nD τ)) (n := 3) (D := DD (F := F) c arg7 arg8 arg9 arg13 arg14 arg15 Ax Ad Am qx qd qm (a : ℕ)) (u := 0 + N) (cell_eq arg19 (off8_eq i a)) () (N := N) h15 (by omega)) $$ [HB HO]
  · isplitl [HB]; · iexact HB
    iexact HO
  iintro ⟨HB, HO⟩
  iapply (wait_last (defs := defs₀ (F := F)) Variants.none none EC (c := (c : Thread nD τ)) (D := DD (F := F) c arg7 arg8 arg9 arg13 arg14 arg15 Ax Ad Am qx qd qm (a : ℕ)) (cell_eq arg19 (off8_eq i a)) () (N := N) h13 hN0) $$ [HB HO]
  · isplitl [HB]; · iexact HB
    iexact HO
  iintro ⟨D0, D1, D2, Hs, HO⟩
  ihave HI := (IN_waited c arg7 arg8 arg9 arg13 arg14 arg15 arg19 Ax Ad Am N qx qd qm (G := MG Ad Am) (lo := (a : ℕ)) (hi := (a : ℕ) + 12 + 1) (by omega) (by omega)) $$ [HB1 HF HC D0 D1 D2 Hs]
  · isplitl [HB1]; · iexact HB1
    isplitl [HF]; · iexact HF
    isplitl [HC]; · iexact HC
    isplitl [D0]; · iexact D0
    isplitl [D1]; · iexact D1
    isplitl [D2]; · iexact D2
    iexact Hs
  iapply (load_u (v := g6) (fun x => congrArg g6 (ones_idx x))) $$ H6
  iintro H6
  iapply (t2_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm a _ g6 rfl (by omega) (by omega)) $$ HI
  iintro HI
  iapply (load_u (acc2_load0 _ _)) $$ HA
  iintro HA
  iapply (load_u (acc2_load0 _ _)) $$ HA
  iintro HA
  iapply (store_acc0) $$ HA
  iintro HA
  iapply (load_u (acc2_load1 _ _)) $$ HA
  iintro HA
  iapply (load_u (acc2_load1 _ _)) $$ HA
  iintro HA
  iapply (store_acc1) $$ HA
  iintro HA
  iapply (le_wp_ret frame (wpE (defs₀ (F := F)) Variants.none c none) Set.univ)
  iapply (le_wp_ret frame (wpE (defs₀ (F := F)) Variants.none c none) Set.univ)
  iapply Hk
  isplitl [HI]; · iexact HI
  isplitl [H6]; · iexact H6
  isplitl [HA]
  · rw [show accs Ax Ad Am 0 g6 u ((a : ℕ) + 1) = _ from rfl]
    dsimp only [accs]
    rw [Nat.zero_add]
    iexact HA
  iexists _
  iexact HO

end

end Cert.Kernel.Hand
-- ==== Proof.T7.lean ====
/-
  One trip of the steady loop over a pair of chunks: fourteen row blocks masked and summed in the
  newer chunk, fourteen row blocks of the result from the older one.
-/
module

public import proofs.«01_k».proof.Proof.Offs
public import proofs.«01_k».proof.Proof.Ring
public import proofs.«01_k».proof.Proof.T2
public import proofs.«01_k».proof.Proof.Gen.Kernel.Skeleton
public import Idealize.ShloMosaic.Lib.Pipeline.FrameBody

@[expose] public section

set_option maxRecDepth 16384

noncomputable section

namespace Cert.Kernel.Hand

open Cert.Kernel Cert.Kernel.Gen Cert.Own
open Idealize.ShloMosaic Idealize.ShloMosaic.TcCoe Idealize.ShloMosaic.ValueIdx
open Idealize.SL Idealize.SL.RA
open Idealize.SL.BI (sProp Storable)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A block of the result from the coefficient rows and the blocks of `x` and of the masked gradient. -/
def dxB (ra rb rc : Vec F S1x128 .f32) (x : Vec F S32x128 .fp8e4m3) (g : Vec F S32x128 .fp8e5m2) : Vec F S1x32x128 .bf16 := k0_pay771 ra rb rc x g

/-- A chunk of the result. -/
def dxc (ra rb rc : Vec F S1x128 .f32) (xc : ℕ → ℕ → Elt F .fp8e4m3) (gc : ℕ → ℕ → Elt F .fp8e5m2) (r l : ℕ) : Elt F .bf16 :=
  dxB ra rb rc (blk xc (32 * (r / 32))) (blk gc (32 * (r / 32))) (ix3 (0 : Fin 1) ⟨r % 32, Nat.mod_lt _ (by decide)⟩ ⟨l % 128, Nat.mod_lt _ (by decide)⟩)

theorem dxc_blk (ra rb rc : Vec F S1x128 .f32) (xc : ℕ → ℕ → Elt F .fp8e4m3) (gc : ℕ → ℕ → Elt F .fp8e5m2) {r0 : ℕ} (h : 32 ∣ r0) (x : S1x32x128.Idx) :
    dxB ra rb rc (blk xc r0) (blk gc r0) x = dxc ra rb rc xc gc (r0 + (x 1 : ℕ)) (x 2 : ℕ) := by
  obtain ⟨q, rfl⟩ := h
  have h1 := (x 1).isLt; have h1' : (x 1 : ℕ) < 32 := h1
  have h2 := (x 2).isLt; have h2' : (x 2 : ℕ) < 128 := h2
  have h0 := (x 0).isLt; have h0' : (x 0 : ℕ) < 1 := h0
  have e : 32 * ((32 * q + (x 1 : ℕ)) / 32) = 32 * q := by omega
  unfold dxc
  rw [e]
  congr 1
  funext a; apply Fin.ext
  match a with
  | 0 => exact (by omega : (x 0 : ℕ) = 0)
  | 1 => exact (by omega : (x 1 : ℕ) = (32 * q + (x 1 : ℕ)) % 32)
  | 2 => exact (by omega : (x 2 : ℕ) = (x 2 : ℕ) % 128)

/-- The two running sums after a trip over the rows from `k`, from those before it. -/
def t7out (xc : ℕ → ℕ → Elt F .fp8e4m3) (dc : ℕ → ℕ → Elt F .fp8e5m2) (mc : ℕ → ℕ → Elt F .i8) (k : ℕ) (v578 : Vec F S16x128 .f32)
    (acc : FVec F S16x128 .f32 × FVec F S16x128 .f32) : FVec F S16x128 .f32 × FVec F S16x128 .f32 :=
  let arg24 := acc.1
  let arg25 := acc.2
  let v609 := blk xc (k + 0)
  let v612 := blk dc (k + 0)
  let v615 := blk mc (k + 0)
  let v624 := blk xc (k + 32)
  let v627 := blk dc (k + 32)
  let v630 := blk mc (k + 32)
  let v639 := blk xc (k + 64)
  let v642 := blk dc (k + 64)
  let v645 := blk mc (k + 64)
  let v666 := k0_pay221 v609
  let v667 := k0_pay222 v612 v615
  let v669 := k0_pay223 v612 v615
  let v581 := (k0_pay349 v578)
  let v699 := blk xc (k + 96)
  let v702 := blk dc (k + 96)
  let v705 := blk mc (k + 96)
  let v679 := k0_pay225 v581 v667 v669
  let v681 := k0_pay226 v666 v667 v669
  let v581 := (k0_pay349 v578)
  let v741 := k0_pay233 v581 v627 v630 v679
  let v743 := k0_pay234 v624 v627 v630 v681
  let v761 := blk xc (k + 128)
  let v764 := blk dc (k + 128)
  let v767 := blk mc (k + 128)
  let v788 := k0_pay239 v639
  let v789 := k0_pay240 v642 v645
  let v791 := k0_pay241 v642 v645
  let v793 := k0_pay242 v639
  let v581 := (k0_pay349 v578)
  let v823 := blk xc (k + 160)
  let v826 := blk dc (k + 160)
  let v829 := blk mc (k + 160)
  let v803 := k0_pay244 v581 v741 v789 v791
  let v805 := k0_pay245 v743 v788 v789 v791 v793
  let v581 := (k0_pay349 v578)
  let v865 := k0_pay252 v581 v702 v705 v803
  let v867 := k0_pay253 v699 v702 v705 v805
  let v885 := blk xc (k + 192)
  let v888 := blk dc (k + 192)
  let v891 := blk mc (k + 192)
  let v912 := k0_pay258 v761
  let v913 := k0_pay259 v764 v767
  let v915 := k0_pay260 v764 v767
  let v917 := k0_pay261 v761
  let v581 := (k0_pay349 v578)
  let v947 := blk xc (k + 224)
  let v950 := blk dc (k + 224)
  let v953 := blk mc (k + 224)
  let v927 := k0_pay263 v581 v865 v913 v915
  let v929 := k0_pay264 v867 v912 v913 v915 v917
  let v581 := (k0_pay349 v578)
  let v989 := k0_pay271 v581 v826 v829 v927
  let v991 := k0_pay272 v823 v826 v829 v929
  let v1009 := blk xc (k + 256)
  let v1012 := blk dc (k + 256)
  let v1015 := blk mc (k + 256)
  let v1036 := k0_pay277 v885
  let v1037 := k0_pay278 v888 v891
  let v1039 := k0_pay279 v888 v891
  let v1041 := k0_pay280 v885
  let v581 := (k0_pay349 v578)
  let v1071 := blk xc (k + 288)
  let v1074 := blk dc (k + 288)
  let v1077 := blk mc (k + 288)
  let v1051 := k0_pay282 v581 v989 v1037 v1039
  let v1053 := k0_pay283 v991 v1036 v1037 v1039 v1041
  let v581 := (k0_pay349 v578)
  let v1113 := k0_pay290 v581 v950 v953 v1051
  let v1115 := k0_pay291 v947 v950 v953 v1053
  let v1133 := blk xc (k + 320)
  let v1136 := blk dc (k + 320)
  let v1139 := blk mc (k + 320)
  let v1160 := k0_pay296 v1009
  let v1161 := k0_pay297 v1012 v1015
  let v1163 := k0_pay298 v1012 v1015
  let v1165 := k0_pay299 v1009
  let v581 := (k0_pay349 v578)
  let v1195 := blk xc (k + 352)
  let v1198 := blk dc (k + 352)
  let v1201 := blk mc (k + 352)
  let v1175 := k0_pay301 v581 v1113 v1161 v1163
  let v1177 := k0_pay302 v1115 v1160 v1161 v1163 v1165
  let v581 := (k0_pay349 v578)
  let v1237 := k0_pay309 v581 v1074 v1077 v1175
  let v1239 := k0_pay310 v1071 v1074 v1077 v1177
  let v1257 := blk xc (k + 384)
  let v1260 := blk dc (k + 384)
  let v1263 := blk mc (k + 384)
  let v1284 := k0_pay315 v1133
  let v1285 := k0_pay316 v1136 v1139
  let v1287 := k0_pay317 v1136 v1139
  let v1289 := k0_pay318 v1133
  let v581 := (k0_pay349 v578)
  let v1319 := blk xc (k + 416)
  let v1322 := blk dc (k + 416)
  let v1325 := blk mc (k + 416)
  let v1299 := k0_pay320 v581 v1237 v1285 v1287
  let v1301 := k0_pay321 v1239 v1284 v1285 v1287 v1289
  let v581 := (k0_pay349 v578)
  let v1361 := k0_pay328 v581 v1198 v1201 v1299
  let v1363 := k0_pay329 v1195 v1198 v1201 v1301
  let v581 := (k0_pay349 v578)
  let v1408 := k0_pay337 v581 v1260 v1263 v1361
  let v1410 := k0_pay338 v1257 v1260 v1263 v1363
  let v581 := (k0_pay349 v578)
  let v1455 := k0_pay346 v581 v1322 v1325 v1408
  let v1457 := k0_pay347 v1319 v1322 v1325 v1410
  (k0_pay352 arg24 v1455, k0_pay353 arg25 v1457)

section
variable (c : Dev nD) (i : grid0.Coords) (arg1 : Memref sig .tc .smem S1 .f32) (harg1 : arg1.IsWhole) (arg2 : Memref sig .tc .smem S1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4x128 .f32) (harg5 : arg5.IsWhole) (arg6 : Memref sig .tc .vmem S16x128 .f32) (harg6 : arg6.IsWhole) (arg7 : Memref sig .tc .hbm S75264x512 .fp8e4m3) (harg7 : arg7.IsWhole) (arg8 : Memref sig .tc .hbm S75264x512 .fp8e5m2) (harg8 : arg8.IsWhole) (arg9 : Memref sig .tc .hbm S75264x512 .i8) (harg9 : arg9.IsWhole) (arg10 : Memref sig .tc .hbm S75264x512 .bf16) (harg10 : arg10.IsWhole) (arg11 : Memref sig .tc .vmem S4x128 .f32) (harg11 : arg11.IsWhole) (arg12 : Memref sig .tc .vmem S4x128 .f32) (harg12 : arg12.IsWhole) (arg13 : Memref sig .tc .vmem S37x3136x128 .fp8e4m3) (harg13 : arg13.IsWhole) (arg14 : Memref sig .tc .vmem S37x3136x128 .fp8e5m2) (harg14 : arg14.IsWhole) (arg15 : Memref sig .tc .vmem S13x3136x128 .i8) (harg15 : arg15.IsWhole) (arg16 : Memref sig .tc .vmem S6x3136x128 .bf16) (harg16 : arg16.IsWhole) (arg17 : Memref sig .tc .vmem S2x16x128 .f32) (harg17 : arg17.IsWhole) (arg18 : Memref sig .tc .vmem S8x128 .f32) (harg18 : arg18.IsWhole) (arg19 : DmaSems sig S13) (arg20 : DmaSems sig S6)
variable (a : Fin (k0_t5_loop i).trips) (b : Fin (k0_t6_loop i).trips) (d : Fin k0_t7_loop.trips) (v481 v482 : BitVec 32) (ones : Vec F S16x128 .f32)
  (ra rb rc : Vec F S1x128 .f32)
variable {Sx Sg : Finset S37x3136x128.Idx} {Sm : Finset S13x3136x128.Idx} {So : Finset S6x3136x128.Idx} {qx qm : PosShare TreeShare}
  {gx : S37x3136x128.Idx → Elt F .fp8e4m3} {g0 : S37x3136x128.Idx → Elt F .fp8e5m2} {gm : S13x3136x128.Idx → Elt F .i8} {go : S6x3136x128.Idx → Elt F .bf16}
  {xc xp : ℕ → ℕ → Elt F .fp8e4m3} {dc gp : ℕ → ℕ → Elt F .fp8e5m2} {mc : ℕ → ℕ → Elt F .i8}

set_option maxHeartbeats 8000000 in
/-- The trip masks 448 rows of the newer slot, writes 448 rows of the result's slot, and carries the sums on. -/
theorem t7_trip (acc : FVec F S16x128 .f32 × FVec F S16x128 .f32)
    {Q : FVec F S16x128 .f32 × FVec F S16x128 .f32 → sProp (MT nD τ sig Unit (Elt F) ℕ (Pipeline.UD sig nD τ) ℕ)}
    (hSxn : ∀ i : S37x3136x128.Idx, (i 0 : ℕ) = (24 * ((a : ℕ) + 1) + (b : ℕ)) % 37 → i ∈ Sx) (hSxp : ∀ i : S37x3136x128.Idx, (i 0 : ℕ) = (24 * (a : ℕ) + (b : ℕ)) % 37 → i ∈ Sx)
    (hSgn : ∀ i : S37x3136x128.Idx, (i 0 : ℕ) = (24 * ((a : ℕ) + 1) + (b : ℕ)) % 37 → i ∈ Sg) (hSgp : ∀ i : S37x3136x128.Idx, (i 0 : ℕ) = (24 * (a : ℕ) + (b : ℕ)) % 37 → i ∈ Sg)
    (hSm : ∀ i : S13x3136x128.Idx, (i 0 : ℕ) = (24 * ((a : ℕ) + 1) + (b : ℕ)) % 13 → i ∈ Sm) (hSo : ∀ i : S6x3136x128.Idx, (i 0 : ℕ) = (24 * (a : ℕ) + (b : ℕ)) % 6 → i ∈ So)
    (hxn : ∀ i : S37x3136x128.Idx, (i 0 : ℕ) = (24 * ((a : ℕ) + 1) + (b : ℕ)) % 37 → gx i = xc (i 1 : ℕ) (i 2 : ℕ))
    (hxp : ∀ i : S37x3136x128.Idx, (i 0 : ℕ) = (24 * (a : ℕ) + (b : ℕ)) % 37 → gx i = xp (i 1 : ℕ) (i 2 : ℕ))
    (hgn : ∀ i : S37x3136x128.Idx, (i 0 : ℕ) = (24 * ((a : ℕ) + 1) + (b : ℕ)) % 37 → g0 i = dc (i 1 : ℕ) (i 2 : ℕ))
    (hgp : ∀ i : S37x3136x128.Idx, (i 0 : ℕ) = (24 * (a : ℕ) + (b : ℕ)) % 37 → g0 i = gp (i 1 : ℕ) (i 2 : ℕ))
    (hm : ∀ i : S13x3136x128.Idx, (i 0 : ℕ) = (24 * ((a : ℕ) + 1) + (b : ℕ)) % 13 → gm i = mc (i 1 : ℕ) (i 2 : ℕ)) :
    iprop(own (c : Thread nD τ) arg13 Sx qx gx ∗ own (c : Thread nD τ) arg14 Sg fullShare (gst ((24 * ((a : ℕ) + 1) + (b : ℕ)) % 37) (msk dc mc) g0 (448 * (d : ℕ)))
      ∗ own (c : Thread nD τ) arg15 Sm qm gm ∗ own (c : Thread nD τ) arg16 So fullShare (gst ((24 * (a : ℕ) + (b : ℕ)) % 6) (dxc ra rb rc xp gp) go (448 * (d : ℕ)))
      ∗ (iprop(own (c : Thread nD τ) arg13 Sx qx gx ∗ own (c : Thread nD τ) arg14 Sg fullShare (gst ((24 * ((a : ℕ) + 1) + (b : ℕ)) % 37) (msk dc mc) g0 (448 * (d : ℕ) + 448))
      ∗ own (c : Thread nD τ) arg15 Sm qm gm ∗ own (c : Thread nD τ) arg16 So fullShare (gst ((24 * (a : ℕ) + (b : ℕ)) % 6) (dxc ra rb rc xp gp) go (448 * (d : ℕ) + 448))) -∗ Q (t7out xc dc mc (448 * (d : ℕ)) ones acc)) : sProp 𝕄)
    ⊢ wp frame (wpE (defs₀ (F := F)) Variants.none c none) Set.univ (k0_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 a b v481 v482 ones ra rb rc d acc) Q := by
  unfold k0_t7_body
  simp only [wp_bind]
  iintro ⟨Hx, Hg, Hm, Ho, Hk⟩
  rw [k0_part39_eq_skeleton]; unfold k0_part39_skel
  simp only [wp_bind]
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (load_ring Variants.none none Set.univ (off66_eq i a b d) hSgp (fun i h _ => (gst_other i (by rw [h]; omega)).trans (hgp i h))) $$ Hg
  iintro Hg
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (le_wp_ret frame (wpE (defs₀ (F := F)) Variants.none c none) Set.univ)
  dsimp only
  rw [k0_part40_eq_skeleton]; unfold k0_part40_skel
  simp only [wp_bind]
  iapply (load_ring Variants.none none Set.univ (off66_eq i a b d) hSgp (fun i h _ => (gst_other i (by rw [h]; omega)).trans (hgp i h))) $$ Hg
  iintro Hg
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (load_ring Variants.none none Set.univ (off66_eq i a b d) hSgp (fun i h _ => (gst_other i (by rw [h]; omega)).trans (hgp i h))) $$ Hg
  iintro Hg
  iapply (load_ring Variants.none none Set.univ (off64_eq i a b d) hSgn (gst_raw hgn (by omega))) $$ Hg
  iintro Hg
  iapply (store_ring Variants.none none Set.univ (r' := 448 * (d : ℕ) + 32) (off67_eq i a b d) (by omega) hSgn (msk_blk dc mc (by omega))) $$ Hg
  iintro Hg
  iapply (le_wp_ret frame (wpE (defs₀ (F := F)) Variants.none c none) Set.univ)
  dsimp only
  rw [k0_part41_eq_skeleton]; unfold k0_part41_skel
  simp only [wp_bind]
  iapply (load_ring_any Variants.none none Set.univ (off68_eq i a b d) hSo) $$ Ho
  iintro Ho %_
  iapply (store_ring Variants.none none Set.univ (r' := 448 * (d : ℕ) + 32) (off69_eq i a b d) (by omega) hSo (dxc_blk ra rb rc xp gp (by omega))) $$ Ho
  iintro Ho
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (le_wp_ret frame (wpE (defs₀ (F := F)) Variants.none c none) Set.univ)
  dsimp only
  rw [k0_part42_eq_skeleton]; unfold k0_part42_skel
  simp only [wp_bind]
  iapply (load_ring Variants.none none Set.univ (off66_eq i a b d) hSgp (fun i h _ => (gst_other i (by rw [h]; omega)).trans (hgp i h))) $$ Hg
  iintro Hg
  iapply (load_ring Variants.none none Set.univ (off64_eq i a b d) hSgn (gst_raw hgn (by omega))) $$ Hg
  iintro Hg
  iapply (store_ring Variants.none none Set.univ (r' := 448 * (d : ℕ) + 64) (off70_eq i a b d) (by omega) hSgn (msk_blk dc mc (by omega))) $$ Hg
  iintro Hg
  iapply (load_ring_any Variants.none none Set.univ (off68_eq i a b d) hSo) $$ Ho
  iintro Ho %_
  iapply (le_wp_ret frame (wpE (defs₀ (F := F)) Variants.none c none) Set.univ)
  dsimp only
  rw [k0_part43_eq_skeleton]; unfold k0_part43_skel
  simp only [wp_bind]
  iapply (store_ring Variants.none none Set.univ (r' := 448 * (d : ℕ) + 64) (off71_eq i a b d) (by omega) hSo (dxc_blk ra rb rc xp gp (by omega))) $$ Ho
  iintro Ho
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (load_ring Variants.none none Set.univ (off66_eq i a b d) hSgp (fun i h _ => (gst_other i (by rw [h]; omega)).trans (hgp i h))) $$ Hg
  iintro Hg
  iapply (load_ring Variants.none none Set.univ (off64_eq i a b d) hSgn (gst_raw hgn (by omega))) $$ Hg
  iintro Hg
  iapply (store_ring Variants.none none Set.univ (r' := 448 * (d : ℕ) + 96) (off72_eq i a b d) (by omega) hSgn (msk_blk dc mc (by omega))) $$ Hg
  iintro Hg
  iapply (le_wp_ret frame (wpE (defs₀ (F := F)) Variants.none c none) Set.univ)
  dsimp only
  rw [k0_part44_eq_skeleton]; unfold k0_part44_skel
  simp only [wp_bind]
  iapply (load_ring_any Variants.none none Set.univ (off68_eq i a b d) hSo) $$ Ho
  iintro Ho %_
  iapply (store_ring Variants.none none Set.univ (r' := 448 * (d : ℕ) + 96) (off73_eq i a b d) (by omega) hSo (dxc_blk ra rb rc xp gp (by omega))) $$ Ho
  iintro Ho
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (le_wp_ret frame (wpE (defs₀ (F := F)) Variants.none c none) Set.univ)
  dsimp only
  rw [k0_part45_eq_skeleton]; unfold k0_part45_skel
  simp only [wp_bind]
  iapply (load_ring Variants.none none Set.univ (off66_eq i a b d) hSgp (fun i h _ => (gst_other i (by rw [h]; omega)).trans (hgp i h))) $$ Hg
  iintro Hg
  iapply (load_ring Variants.none none Set.univ (off64_eq i a b d) hSgn (gst_raw hgn (by omega))) $$ Hg
  iintro Hg
  iapply (store_ring Variants.none none Set.univ (r' := 448 * (d : ℕ) + 128) (off74_eq i a b d) (by omega) hSgn (msk_blk dc mc (by omega))) $$ Hg
  iintro Hg
  iapply (load_ring_any Variants.none none Set.univ (off68_eq i a b d) hSo) $$ Ho
  iintro Ho %_
  iapply (le_wp_ret frame (wpE (defs₀ (F := F)) Variants.none c none) Set.univ)
  dsimp only
  rw [k0_part46_eq_skeleton]; unfold k0_part46_skel
  simp only [wp_bind]
  iapply (store_ring Variants.none none Set.univ (r' := 448 * (d : ℕ) + 128) (off75_eq i a b d) (by omega) hSo (dxc_blk ra rb rc xp gp (by omega))) $$ Ho
  iintro Ho
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (load_ring Variants.none none Set.univ (off66_eq i a b d) hSgp (fun i h _ => (gst_other i (by rw [h]; omega)).trans (hgp i h))) $$ Hg
  iintro Hg
  iapply (load_ring Variants.none none Set.univ (off64_eq i a b d) hSgn (gst_raw hgn (by omega))) $$ Hg
  iintro Hg
  iapply (store_ring Variants.none none Set.univ (r' := 448 * (d : ℕ) + 160) (off76_eq i a b d) (by omega) hSgn (msk_blk dc mc (by omega))) $$ Hg
  iintro Hg
  iapply (le_wp_ret frame (wpE (defs₀ (F := F)) Variants.none c none) Set.univ)
  dsimp only
  rw [k0_part47_eq_skeleton]; unfold k0_part47_skel
  simp only [wp_bind]
  iapply (load_ring_any Variants.none none Set.univ (off68_eq i a b d) hSo) $$ Ho
  iintro Ho %_
  iapply (store_ring Variants.none none Set.univ (r' := 448 * (d : ℕ) + 160) (off77_eq i a b d) (by omega) hSo (dxc_blk ra rb rc xp gp (by omega))) $$ Ho
  iintro Ho
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (le_wp_ret frame (wpE (defs₀ (F := F)) Variants.none c none) Set.univ)
  dsimp only
  rw [k0_part48_eq_skeleton]; unfold k0_part48_skel
  simp only [wp_bind]
  iapply (load_ring Variants.none none Set.univ (off66_eq i a b d) hSgp (fun i h _ => (gst_other i (by rw [h]; omega)).trans (hgp i h))) $$ Hg
  iintro Hg
  iapply (load_ring Variants.none none Set.univ (off64_eq i a b d) hSgn (gst_raw hgn (by omega))) $$ Hg
  iintro Hg
  iapply (store_ring Variants.none none Set.univ (r' := 448 * (d : ℕ) + 192) (off78_eq i a b d) (by omega) hSgn (msk_blk dc mc (by omega))) $$ Hg
  iintro Hg
  iapply (load_ring_any Variants.none none Set.univ (off68_eq i a b d) hSo) $$ Ho
  iintro Ho %_
  iapply (le_wp_ret frame (wpE (defs₀ (F := F)) Variants.none c none) Set.univ)
  dsimp only
  rw [k0_part49_eq_skeleton]; unfold k0_part49_skel
  simp only [wp_bind]
  iapply (store_ring Variants.none none Set.univ (r' := 448 * (d : ℕ) + 192) (off79_eq i a b d) (by omega) hSo (dxc_blk ra rb rc xp gp (by omega))) $$ Ho
  iintro Ho
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (load_ring Variants.none none Set.univ (off66_eq i a b d) hSgp (fun i h _ => (gst_other i (by rw [h]; omega)).trans (hgp i h))) $$ Hg
  iintro Hg
  iapply (load_ring Variants.none none Set.univ (off64_eq i a b d) hSgn (gst_raw hgn (by omega))) $$ Hg
  iintro Hg
  iapply (store_ring Variants.none none Set.univ (r' := 448 * (d : ℕ) + 224) (off80_eq i a b d) (by omega) hSgn (msk_blk dc mc (by omega))) $$ Hg
  iintro Hg
  iapply (le_wp_ret frame (wpE (defs₀ (F := F)) Variants.none c none) Set.univ)
  dsimp only
  rw [k0_part50_eq_skeleton]; unfold k0_part50_skel
  simp only [wp_bind]
  iapply (load_ring_any Variants.none none Set.univ (off68_eq i a b d) hSo) $$ Ho
  iintro Ho %_
  iapply (store_ring Variants.none none Set.univ (r' := 448 * (d : ℕ) + 224) (off81_eq i a b d) (by omega) hSo (dxc_blk ra rb rc xp gp (by omega))) $$ Ho
  iintro Ho
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (le_wp_ret frame (wpE (defs₀ (F := F)) Variants.none c none) Set.univ)
  dsimp only
  rw [k0_part51_eq_skeleton]; unfold k0_part51_skel
  simp only [wp_bind]
  iapply (load_ring Variants.none none Set.univ (off66_eq i a b d) hSgp (fun i h _ => (gst_other i (by rw [h]; omega)).trans (hgp i h))) $$ Hg
  iintro Hg
  iapply (load_ring Variants.none none Set.univ (off64_eq i a b d) hSgn (gst_raw hgn (by omega))) $$ Hg
  iintro Hg
  iapply (store_ring Variants.none none Set.univ (r' := 448 * (d : ℕ) + 256) (off82_eq i a b d) (by omega) hSgn (msk_blk dc mc (by omega))) $$ Hg
  iintro Hg
  iapply (load_ring_any Variants.none none Set.univ (off68_eq i a b d) hSo) $$ Ho
  iintro Ho %_
  iapply (le_wp_ret frame (wpE (defs₀ (F := F)) Variants.none c none) Set.univ)
  dsimp only
  rw [k0_part52_eq_skeleton]; unfold k0_part52_skel
  simp only [wp_bind]
  iapply (store_ring Variants.none none Set.univ (r' := 448 * (d : ℕ) + 256) (off83_eq i a b d) (by omega) hSo (dxc_blk ra rb rc xp gp (by omega))) $$ Ho
  iintro Ho
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (load_ring Variants.none none Set.univ (off66_eq i a b d) hSgp (fun i h _ => (gst_other i (by rw [h]; omega)).trans (hgp i h))) $$ Hg
  iintro Hg
  iapply (load_ring Variants.none none Set.univ (off64_eq i a b d) hSgn (gst_raw hgn (by omega))) $$ Hg
  iintro Hg
  iapply (store_ring Variants.none none Set.univ (r' := 448 * (d : ℕ) + 288) (off84_eq i a b d) (by omega) hSgn (msk_blk dc mc (by omega))) $$ Hg
  iintro Hg
  iapply (le_wp_ret frame (wpE (defs₀ (F := F)) Variants.none c none) Set.univ)
  dsimp only
  rw [k0_part53_eq_skeleton]; unfold k0_part53_skel
  simp only [wp_bind]
  iapply (load_ring_any Variants.none none Set.univ (off68_eq i a b d) hSo) $$ Ho
  iintro Ho %_
  iapply (store_ring Variants.none none Set.univ (r' := 448 * (d : ℕ) + 288) (off85_eq i a b d) (by omega) hSo (dxc_blk ra rb rc xp gp (by omega))) $$ Ho
  iintro Ho
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (le_wp_ret frame (wpE (defs₀ (F := F)) Variants.none c none) Set.univ)
  dsimp only
  rw [k0_part54_eq_skeleton]; unfold k0_part54_skel
  simp only [wp_bind]
  iapply (load_ring Variants.none none Set.univ (off66_eq i a b d) hSgp (fun i h _ => (gst_other i (by rw [h]; omega)).trans (hgp i h))) $$ Hg
  iintro Hg
  iapply (load_ring Variants.none none Set.univ (off64_eq i a b d) hSgn (gst_raw hgn (by omega))) $$ Hg
  iintro Hg
  iapply (store_ring Variants.none none Set.univ (r' := 448 * (d : ℕ) + 320) (off86_eq i a b d) (by omega) hSgn (msk_blk dc mc (by omega))) $$ Hg
  iintro Hg
  iapply (load_ring_any Variants.none none Set.univ (off68_eq i a b d) hSo) $$ Ho
  iintro Ho %_
  iapply (le_wp_ret frame (wpE (defs₀ (F := F)) Variants.none c none) Set.univ)
  dsimp only
  rw [k0_part55_eq_skeleton]; unfold k0_part55_skel
  simp only [wp_bind]
  iapply (store_ring Variants.none none Set.univ (r' := 448 * (d : ℕ) + 320) (off87_eq i a b d) (by omega) hSo (dxc_blk ra rb rc xp gp (by omega))) $$ Ho
  iintro Ho
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (load_ring Variants.none none Set.univ (off66_eq i a b d) hSgp (fun i h _ => (gst_other i (by rw [h]; omega)).trans (hgp i h))) $$ Hg
  iintro Hg
  iapply (load_ring Variants.none none Set.univ (off64_eq i a b d) hSgn (gst_raw hgn (by omega))) $$ Hg
  iintro Hg
  iapply (store_ring Variants.none none Set.univ (r' := 448 * (d : ℕ) + 352) (off88_eq i a b d) (by omega) hSgn (msk_blk dc mc (by omega))) $$ Hg
  iintro Hg
  iapply (le_wp_ret frame (wpE (defs₀ (F := F)) Variants.none c none) Set.univ)
  dsimp only
  rw [k0_part56_eq_skeleton]; unfold k0_part56_skel
  simp only [wp_bind]
  iapply (load_ring_any Variants.none none Set.univ (off68_eq i a b d) hSo) $$ Ho
  iintro Ho %_
  iapply (store_ring Variants.none none Set.univ (r' := 448 * (d : ℕ) + 352) (off89_eq i a b d) (by omega) hSo (dxc_blk ra rb rc xp gp (by omega))) $$ Ho
  iintro Ho
  iapply (load_ring Variants.none none Set.univ (off64_eq i a b d) hSxn (fun i h _ => hxn i h)) $$ Hx
  iintro Hx
  iapply (load_ring Variants.none none Set.univ (off64_eq i a b d) hSgn (gst_raw hgn (by omega))) $$ Hg
  iintro Hg
  iapply (load_ring Variants.none none Set.univ (off65_eq i a b d) hSm (fun i h _ => hm i h)) $$ Hm
  iintro Hm
  iapply (load_ring Variants.none none Set.univ (off66_eq i a b d) hSxp (fun i h _ => hxp i h)) $$ Hx
  iintro Hx
  iapply (le_wp_ret frame (wpE (defs₀ (F := F)) Variants.none c none) Set.univ)
  dsimp only
  rw [k0_part57_eq_skeleton]; unfold k0_part57_skel
  simp only [wp_bind]
  iapply (load_ring Variants.none none Set.univ (off66_eq i a b d) hSgp (fun i h _ => (gst_other i (by rw [h]; omega)).trans (hgp i h))) $$ Hg
  iintro Hg
  iapply (load_ring Variants.none none Set.univ (off64_eq i a b d) hSgn (gst_raw hgn (by omega))) $$ Hg
  iintro Hg
  iapply (store_ring Variants.none none Set.univ (r' := 448 * (d : ℕ) + 384) (off90_eq i a b d) (by omega) hSgn (msk_blk dc mc (by omega))) $$ Hg
  iintro Hg
  iapply (load_ring_any Variants.none none Set.univ (off68_eq i a b d) hSo) $$ Ho
  iintro Ho %_
  iapply (le_wp_ret frame (wpE (defs₀ (F := F)) Variants.none c none) Set.univ)
  dsimp only
  rw [k0_part58_eq_skeleton]; unfold k0_part58_skel
  simp only [wp_bind]
  iapply (store_ring Variants.none none Set.univ (r' := 448 * (d : ℕ) + 384) (off91_eq i a b d) (by omega) hSo (dxc_blk ra rb rc xp gp (by omega))) $$ Ho
  iintro Ho
  iapply (load_ring Variants.none none Set.univ (off64_eq i a b d) hSgn (gst_raw hgn (by omega))) $$ Hg
  iintro Hg
  iapply (store_ring Variants.none none Set.univ (r' := 448 * (d : ℕ) + 416) (off92_eq i a b d) (by omega) hSgn (msk_blk dc mc (by omega))) $$ Hg
  iintro Hg
  iapply (load_ring_any Variants.none none Set.univ (off68_eq i a b d) hSo) $$ Ho
  iintro Ho %_
  iapply (le_wp_ret frame (wpE (defs₀ (F := F)) Variants.none c none) Set.univ)
  dsimp only
  rw [k0_part59_eq_skeleton]; unfold k0_part59_skel
  simp only [wp_bind]
  iapply (store_ring Variants.none none Set.univ (r' := 448 * (d : ℕ) + 416) (off93_eq i a b d) (by omega) hSo (dxc_blk ra rb rc xp gp (by omega))) $$ Ho
  iintro Ho
  iapply (load_ring Variants.none none Set.univ (off64_eq i a b d) hSgn (gst_raw hgn (by omega))) $$ Hg
  iintro Hg
  iapply (store_ring Variants.none none Set.univ (r' := 448 * (d : ℕ) + 448) (off94_eq i a b d) (by omega) hSgn (msk_blk dc mc (by omega))) $$ Hg
  iintro Hg
  iapply (load_ring_any Variants.none none Set.univ (off68_eq i a b d) hSo) $$ Ho
  iintro Ho %_
  iapply (le_wp_ret frame (wpE (defs₀ (F := F)) Variants.none c none) Set.univ)
  dsimp only
  iapply (store_ring Variants.none none Set.univ (r' := 448 * (d : ℕ) + 448) (off95_eq i a b d) (by omega) hSo (dxc_blk ra rb rc xp gp (by omega))) $$ Ho
  iintro Ho
  iapply (le_wp_ret frame (wpE (defs₀ (F := F)) Variants.none c none) Set.univ)
  unfold t7out
  dsimp only
  iapply Hk
  isplitl [Hx]; · iexact Hx
  isplitl [Hg]; · iexact Hg
  isplitl [Hm]; · iexact Hm
  iexact Ho
end

end Cert.Kernel.Hand
-- ==== Proof.Body3.lean ====
/-
  The result side: the ring of result chunks, their transfers, and the rows of the small arrays.
-/
module

public import proofs.«01_k».proof.Proof.Offs
public import proofs.«01_k».proof.Proof.Win
public import proofs.«01_k».proof.Proof.Body1
public import proofs.«01_k».proof.Proof.Body2
public import proofs.«01_k».proof.Proof.T7
public import proofs.«01_k».proof.Proof.Gen.Kernel.Skeleton
public import Idealize.ShloMosaic.Lib.Pipeline.FrameBody
public import Idealize.SL.BI.BigOpNat

@[expose] public section

set_option maxRecDepth 16384

noncomputable section

namespace Cert.Kernel.Hand

open Cert.Kernel Cert.Kernel.Gen Cert.Own
open Idealize.ShloMosaic Idealize.ShloMosaic.TcCoe Idealize.ShloMosaic.ValueIdx Idealize.ShloMosaic.Transfers
open Idealize.SL Idealize.SL.RA
open Idealize.SL.BI (sProp Storable bigSep bigSep_Ico_succ_bot bigSep_Ico_succ_top)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Row `k` of an array of rows of 128. -/
def rowV (g : ℕ → ℕ → Elt F .f32) (k : ℕ) : Vec F S1x128 .f32 := fun x => g k (x 1 : ℕ)

/-- An array of rows of 128, row `k` replaced. -/
def setR (k : ℕ) (w : Vec F S1x128 .f32) (g : ℕ → ℕ → Elt F .f32) : ℕ → ℕ → Elt F .f32 :=
  fun r l => if r = k then w (ix2 (0 : Fin 1) ⟨l % 128, Nat.mod_lt _ (by decide)⟩) else g r l

theorem row_set (k : ℕ) (w : Vec F S1x128 .f32) (g : ℕ → ℕ → Elt F .f32) : rowV (setR k w g) k = w := by
  funext x
  refine (if_pos rfl).trans (congrArg w ?_)
  have h0 : (x 0 : ℕ) < 1 := (x 0).isLt
  have h1 : (x 1 : ℕ) < 128 := (x 1).isLt
  funext (a : Fin 2); apply Fin.ext
  match a with
  | 0 => exact (show 0 = (x 0 : ℕ) by omega)
  | 1 => exact Nat.mod_eq_of_lt h1

theorem row_set_ne {k k' : ℕ} (h : k' ≠ k) (w : Vec F S1x128 .f32) (g : ℕ → ℕ → Elt F .f32) : rowV (setR k w g) k' = rowV g k' := by
  funext x
  exact if_neg h

/-- An array's contents by row and lane. -/
def natF {R C : ℕ} [NeZero R] [NeZero C] {V : Type} (g : (⟨2, ![R, C]⟩ : Shape).Idx → V) (r l : ℕ) : V :=
  g (ix2 (⟨r % R, Nat.mod_lt _ (Nat.pos_of_ne_zero (NeZero.ne R))⟩ : Fin R) (⟨l % C, Nat.mod_lt _ (Nat.pos_of_ne_zero (NeZero.ne C))⟩ : Fin C))

theorem natF_eq {R C : ℕ} [NeZero R] [NeZero C] {V : Type} (g : (⟨2, ![R, C]⟩ : Shape).Idx → V) (i : (⟨2, ![R, C]⟩ : Shape).Idx) :
    natF g (i 0 : ℕ) (i 1 : ℕ) = g i := by
  unfold natF
  congr 1
  have h0 : (i 0 : ℕ) < R := (i 0).isLt
  have h1 : (i 1 : ℕ) < C := (i 1).isLt
  funext (a : Fin 2); apply Fin.ext
  match a with
  | 0 => exact Nat.mod_eq_of_lt h0
  | 1 => exact Nat.mod_eq_of_lt h1

section Rows
variable {c : Thread nD τ} {R : ℕ} {m : Memref sig c.2.kind CoreSpace.vmem ⟨2, ![R, 128]⟩ .f32} {g : ℕ → ℕ → Elt F .f32} {q : PosShare TreeShare}

theorem load_row {k : ℕ} {o : Fin 2 → ℕ} (ho : o = ![k, 0]) {h : ∀ a, o a + S1x128.size a ≤ (⟨2, ![R, 128]⟩ : Shape).size a} {hl : m.view.LoadsAt (Rect.unit (s := ⟨2, ![R, 128]⟩) o S1x128.size h).toLoadRect}
    {Q : Vec F S1x128 .f32 → sProp (MT nD τ sig Unit (Elt F) ℕ (Pipeline.UD sig nD τ) ℕ)} :
    (own c m Finset.univ q (fun i => g (i 0 : ℕ) (i 1 : ℕ)) : sProp 𝕄) ⊢ iprop((own c m Finset.univ q (fun i => g (i 0 : ℕ) (i 1 : ℕ)) -∗ Q (rowV g k))
        -∗ wp frame (wpE (defs₀ (F := F)) Variants.none c none) Set.univ (Prog.lift (.load m (Rect.unit (s := ⟨2, ![R, 128]⟩) o S1x128.size h).toLoadRect hl)) Q) := by
  subst ho
  refine load_u (r := (Rect.unit (s := ⟨2, ![R, 128]⟩) ![k, 0] S1x128.size h).toLoadRect) (v := rowV g k) fun x => ?_
  · have h0 : (x 0 : ℕ) < 1 := (x 0).isLt
    exact congrArg₂ g (show k + 1 * (x 0 : ℕ) = k by omega) (show 0 + 1 * (x 1 : ℕ) = (x 1 : ℕ) by omega)

theorem store_row {k : ℕ} {w : Vec F S1x128 .f32} {o : Fin 2 → ℕ} (ho : o = ![k, 0]) {h : ∀ a, o a + S1x128.size a ≤ (⟨2, ![R, 128]⟩ : Shape).size a} {hx} {hm}
    {Q : PUnit → sProp (MT nD τ sig Unit (Elt F) ℕ (Pipeline.UD sig nD τ) ℕ)} :
    (own c m Finset.univ fullShare (fun i => g (i 0 : ℕ) (i 1 : ℕ)) : sProp 𝕄) ⊢ iprop((own c m Finset.univ fullShare (fun i => setR k w g (i 0 : ℕ) (i 1 : ℕ)) -∗ Q ⟨⟩)
        -∗ wp frame (wpE (defs₀ (F := F)) Variants.none c none) Set.univ (Prog.lift (.store m (Rect.unit (s := ⟨2, ![R, 128]⟩) o S1x128.size h) w Finset.univ hx hm)) Q) := by
  subst ho
  refine store_u _ (fun x => ?_) fun i hi => ?_
  · have h0 : (x 0 : ℕ) < 1 := (x 0).isLt
    have h1 : (x 1 : ℕ) < 128 := (x 1).isLt
    refine (if_pos (show k + 1 * (x 0 : ℕ) = k by omega)).trans (congrArg w ?_)
    funext (a : Fin 2); apply Fin.ext
    match a with
    | 0 => exact (show 0 = (x 0 : ℕ) by omega)
    | 1 => exact (show (0 + 1 * (x 1 : ℕ)) % 128 = (x 1 : ℕ) by omega)
  · refine if_neg fun h0 => hi ?_
    rw [Rect.mem_set_unit]
    have b1 : (i 1 : ℕ) < 128 := (i 1).isLt
    intro (a : Fin 2)
    match a with
    | 0 => exact (show k ≤ (i 0 : ℕ) ∧ (i 0 : ℕ) < k + 1 by omega)
    | 1 => exact (show 0 ≤ (i 1 : ℕ) ∧ (i 1 : ℕ) < 0 + 128 by omega)

end Rows

section Out
variable (c : Thread nD τ) (m : Memref sig c.2.kind .vmem S6x3136x128 .bf16) (h : Memref sig c.2.kind .hbm S75264x512 .bf16) (sems : DmaSems sig S6)
variable (A : ℕ → ℕ → Elt F .bf16) (M : ℕ)

/-- A chunk of the result on its way. -/
def OFly (q : ℕ) : sProp (MT nD τ sig Unit (Elt F) ℕ (Pipeline.UD sig nD τ) ℕ) :=
  Flight EC c (.dma (cellOf (K := 6) sems q)) () M iprop(own c h (blockS q) fullShare (fun i => A (i 0 : ℕ) (i 1 : ℕ)) ∗ own c m (slotS 6 (q % 6)) fullShare (fun i => chk A q (i 1 : ℕ) (i 2 : ℕ)))

/-- A cell of the result's transfers, free. -/
def OCell (q : ℕ) : sProp (MT nD τ sig Unit (Elt F) ℕ (Pipeline.UD sig nD τ) ℕ) := semVal (c, .dma (cellOf (K := 6) sems q)) 0

/-- The result's side while the chunks `lo … hi - 1` are on their way, the chunks before `lo` being there, and the chunks of `P` in the ring. -/
def OUTB (lo hi : ℕ) (P : ℕ → Prop) : sProp (MT nD τ sig Unit (Elt F) ℕ (Pipeline.UD sig nD τ) ℕ) :=
  iprop((∃ g, own c m (freeS 6 lo hi) fullShare g ∗ ⌜∀ q, P q → ∀ i : S6x3136x128.Idx, (i 0 : ℕ) = q % 6 → g i = chk A q (i 1 : ℕ) (i 2 : ℕ)⌝)
    ∗ (∃ g, own c h (restS lo hi) fullShare g ∗ ⌜∀ i : S75264x512.Idx, chunkOf i < lo → g i = A (i 0 : ℕ) (i 1 : ℕ)⌝)
    ∗ bigSep (Finset.Ico lo hi) (OFly (F := F) c m h sems A M) ∗ bigSep (Finset.Ico hi (lo + 6)) (OCell (F := F) c sems))

theorem ocell_add (q : ℕ) : cellOf (K := 6) sems (q + 6) = cellOf sems q := by
  unfold cellOf; congr 1; funext j; apply Fin.ext; exact Nat.add_mod_right q 6

variable {c m h sems A M}

theorem OUTB_mono {lo hi : ℕ} {P P' : ℕ → Prop} (hP : ∀ q, P' q → P q) : OUTB (F := F) c m h sems A M lo hi P ⊢ (OUTB (F := F) c m h sems A M lo hi P' : sProp 𝕄) := by
  unfold OUTB
  iintro ⟨⟨%g, H, %hg⟩, H2⟩
  isplitl [H]
  · iexists g
    isplitl [H]; · iexact H
    ipureintro; exact fun q hq => hg q (hP q hq)
  iexact H2

/-- A wait for the oldest chunk on its way. -/
theorem out_wait {lo hi : ℕ} {P : ℕ → Prop} (hl : lo < hi) (hh : hi ≤ lo + 6) (hP : ∀ q, P q → q % 6 ≠ lo % 6)
    {s s' : Shape} {e e' : EltTy} {κ' : Kind} {sp sp' : Space} {sem : DmaSem sig} (hsm : sem = cellOf (K := 6) sems lo)
    {srcw : Memref sig c.2.kind sp' s' e'} {dstw : Memref sig κ' sp s e} {hsrc : srcw.view.WordExact} {hdst : dstw.view.WordExact}
    (hN : dstw.view.dmaCredit = M) {W : Waits sig Unit} {Q : PUnit → sProp (MT nD τ sig Unit (Elt F) ℕ (Pipeline.UD sig nD τ) ℕ)} :
    (iprop(OUTB (F := F) c m h sems A M lo hi P ∗ owes c 0 W) : sProp 𝕄)
      ⊢ iprop((iprop(OUTB (F := F) c m h sems A M (lo + 1) hi P ∗ (∃ W', owes c 0 W')) -∗ Q ⟨⟩)
          -∗ wp frame (wpE (defs₀ (F := F)) Variants.none c none) Set.univ (Prog.lift (.waitDma2 sem srcw dstw hsrc hdst)) Q) := by
  unfold OUTB
  rw [bigSep_Ico_succ_bot hl, show lo + 1 + 6 = lo + 6 + 1 by omega, bigSep_Ico_succ_top hh]
  iintro ⟨⟨⟨%g, Hm, %hg⟩, ⟨%g', Hh, %hg'⟩, ⟨HF, HFs⟩, HC⟩, HO⟩ Hk
  unfold OFly
  iapply (wait_one (defs := defs₀ (F := F)) Variants.none none EC (c := c) hsm () (N := M) hN) $$ [HF HO]
  · isplitl [HF]; · iexact HF
    iexact HO
  iintro ⟨⟨Db, Ds⟩, Hs, HO⟩
  iapply Hk
  isplitr [HO]
  · isplitl [Ds Hm]
    · iexists (fun i : S6x3136x128.Idx => if (i 0 : ℕ) = lo % 6 then chk A lo (i 1 : ℕ) (i 2 : ℕ) else g i)
      isplitl [Ds Hm]
      · iapply (own_join (g₁ := fun i : S6x3136x128.Idx => chk A lo (i 1 : ℕ) (i 2 : ℕ)) (g₂ := g) (freeS_disj' hl) (freeS_take hl hh) (fun i hi' => by
          simp only [slotS, Finset.mem_filter, Finset.mem_univ, true_and] at hi'
          exact (if_pos hi').symm) (fun i hi' => by
          have : (i 0 : ℕ) ≠ lo % 6 := fun h0 => Finset.disjoint_left.mp (freeS_disj' (K := 6) hl)
            (by simp only [slotS, Finset.mem_filter, Finset.mem_univ, true_and]; exact h0) hi'
          exact (if_neg this).symm))
        isplitl [Ds]; · iexact Ds
        iexact Hm
      · ipureintro
        intro q hq i hi'
        show (if (i 0 : ℕ) = lo % 6 then _ else _) = _
        rw [if_neg (by rw [hi']; exact hP q hq)]
        exact hg q hq i hi'
    isplitl [Db Hh]
    · iexists (fun i : S75264x512.Idx => if chunkOf i = lo then A (i 0 : ℕ) (i 1 : ℕ) else g' i)
      isplitl [Db Hh]
      · iapply (own_join (g₁ := fun i : S75264x512.Idx => A (i 0 : ℕ) (i 1 : ℕ)) (g₂ := g') (restS_disj' hl) (restS_take hl) (fun i hi' => by
          simp only [blockS, Finset.mem_filter, Finset.mem_univ, true_and] at hi'
          exact (if_pos hi').symm) (fun i hi' => by
          have : chunkOf i ≠ lo := fun h0 => Finset.disjoint_left.mp (restS_disj' hl)
            (by simp only [blockS, Finset.mem_filter, Finset.mem_univ, true_and]; exact h0) hi'
          exact (if_neg this).symm))
        isplitl [Db]; · iexact Db
        iexact Hh
      · ipureintro
        intro i hi'
        show (if chunkOf i = lo then _ else _) = _
        by_cases h0 : chunkOf i = lo
        · rw [if_pos h0]
        · rw [if_neg h0]; exact hg' i (by omega)
    isplitl [HFs]; · iexact HFs
    isplitl [Hs]
    · unfold OCell; rw [ocell_add]; iexact Hs
    iexact HC
  iexists _; iexact HO

/-- The next chunk is sent on its way. -/
theorem out_issue {lo hi : ℕ} {P : ℕ → Prop} (hl : lo ≤ hi) (hlt : hi < lo + 6) (hn : hi < 96) (hP : P hi)
    {o : Fin 3 → ℕ} (ho : o = ![hi % 6, 0, 0])
    {h1 : ∀ a, o a + S1x3136x128.size a ≤ S6x3136x128.size a}
    {hr : ∀ a, (Rect.unit (s := S6x3136x128) o S1x3136x128.size h1).stride a = 1}
    {hs : (Rect.unit (s := S6x3136x128) o S1x3136x128.size h1).shape.Squeezes S3136x128}
    {o' : Fin 2 → ℕ} (ho' : o' = ![3136 * (hi % 24), 128 * (hi / 24)])
    {h1' : ∀ a, o' a + S3136x128.size a ≤ S75264x512.size a}
    {hr' : ∀ a, (Rect.unit (s := S75264x512) o' S3136x128.size h1').stride a = 1}
    {sem : DmaSem sig} (hsm : sem = cellOf (K := 6) sems hi) {hsrc hdst hsem}
    (hN : sig.dmaCredit c.2.kind (c.2.kind.table .hbm) h.view.buf ⟨2, ![3136, 128]⟩ .bf16 = M) (hN0 : 0 < M)
    {Q : PUnit → sProp (MT nD τ sig Unit (Elt F) ℕ (Pipeline.UD sig nD τ) ℕ)} :
    (OUTB (F := F) c m h sems A M lo hi P : sProp 𝕄)
      ⊢ iprop((OUTB (F := F) c m h sems A M lo (hi + 1) P -∗ Q ⟨⟩)
        -∗ wp frame (wpE (defs₀ (F := F)) Variants.none c none) Set.univ (Prog.lift (.enqueueDma
          ((m.slice (Rect.unit (s := S6x3136x128) o S1x3136x128.size h1) hr).squeeze S3136x128 hs)
          (.here (h.slice (Rect.unit (s := S75264x512) o' S3136x128.size h1') hr'))
          (.dma sem) hsrc hdst hsem)) Q) := by
  unfold OUTB
  rw [bigSep_Ico_succ_bot hlt, bigSep_Ico_succ_top hl]
  iintro ⟨⟨%g, Hm, %hg⟩, ⟨%g', Hh, %hg'⟩, HF, ⟨HC, HCs⟩⟩ Hk
  unfold OCell
  have key := issue_out (defs := defs₀ (F := F)) Variants.none none (EC (F := F)) (c := c) (C := fun _ => A) (m := m) (h := h) (A := A) (g := g') (lo := lo) (hi := hi) hl hlt hn (gm := g) (hg hi hP) ho (h1 := h1) (hr := hr) (hs := hs) ho' (h1' := h1') (hr' := hr') (sm := .dma sem) (cl := cellOf (K := 6) sems hi) (congrArg SemLoc.dma hsm) (hsrc := hsrc) (hdst := hdst) (hsem := hsem) () M hN hN0 (Q := Q)
  iapply key $$ [Hm Hh HC]
  · isplitl [Hm]; · iexact Hm
    isplitl [Hh]; · iexact Hh
    iexact HC
  iintro ⟨Hm, Hh, HN⟩
  iapply Hk
  isplitl [Hm]
  · iexists g
    isplitl [Hm]; · iexact Hm
    ipureintro; exact hg
  isplitl [Hh]
  · iexists g'
    isplitl [Hh]; · iexact Hh
    ipureintro; exact hg'
  isplitl [HN HF]
  · isplitl [HN]; · unfold OFly; iexact HN
    iexact HF
  iexact HCs

end Out

theorem slot_mem' {K q lo hi : ℕ} (h1 : hi ≤ q) (h2 : q < lo + K) (i : (⟨3, ![K, 3136, 128]⟩ : Shape).Idx) (h : (i 0 : ℕ) = q % K) :
    i ∈ freeS K lo hi := by
  simp only [freeS, Finset.mem_filter, Finset.mem_univ, true_and]
  intro q' h3 h4
  rw [h]; exact (mod_ne (by omega) (by omega)).symm

theorem pay_eq : (k0_pay817 (F := F)) = k0_pay108 := rfl
theorem pay_eq' : (k0_pay818 (F := F)) = k0_pay109 := rfl
theorem pay_eq0 : (k0_pay350 (F := F)) = k0_pay100 := rfl
theorem t7_eq_t2 (xc : ℕ → ℕ → Elt F .fp8e4m3) (dc : ℕ → ℕ → Elt F .fp8e5m2) (mc : ℕ → ℕ → Elt F .i8) (k : ℕ) (ones : Vec F S16x128 .f32)
    (acc : FVec F S16x128 .f32 × FVec F S16x128 .f32) : t7out xc dc mc k ones acc = t2out xc dc mc k ones acc := rfl

end Cert.Kernel.Hand
-- ==== Proof.Body4.lean ====
/-
  A trip of the middle loop: a chunk of the next column is taken in while a chunk of this column is written out.
-/
module

public import proofs.«01_k».proof.Proof.Offs
public import proofs.«01_k».proof.Proof.Win
public import proofs.«01_k».proof.Proof.Body1
public import proofs.«01_k».proof.Proof.Body2
public import proofs.«01_k».proof.Proof.T7
public import proofs.«01_k».proof.Proof.Body3
public import proofs.«01_k».proof.Proof.Gen.Kernel.Skeleton
public import Idealize.ShloMosaic.Lib.Pipeline.FrameBody
public import Idealize.SL.BI.BigOpNat

@[expose] public section

set_option maxRecDepth 16384

noncomputable section

namespace Cert.Kernel.Hand

open Cert.Kernel Cert.Kernel.Gen Cert.Own
open Idealize.ShloMosaic Idealize.ShloMosaic.TcCoe Idealize.ShloMosaic.ValueIdx Idealize.ShloMosaic.Transfers
open Idealize.SL Idealize.SL.RA
open Idealize.SL.BI (sProp Storable bigSep bigSep_Ico_succ_bot bigSep_Ico_succ_top)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (i : grid0.Coords) (arg1 : Memref sig .tc .smem S1 .f32) (harg1 : arg1.IsWhole) (arg2 : Memref sig .tc .smem S1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4x128 .f32) (harg5 : arg5.IsWhole) (arg6 : Memref sig .tc .vmem S16x128 .f32) (harg6 : arg6.IsWhole) (arg7 : Memref sig .tc .hbm S75264x512 .fp8e4m3) (harg7 : arg7.IsWhole) (arg8 : Memref sig .tc .hbm S75264x512 .fp8e5m2) (harg8 : arg8.IsWhole) (arg9 : Memref sig .tc .hbm S75264x512 .i8) (harg9 : arg9.IsWhole) (arg10 : Memref sig .tc .hbm S75264x512 .bf16) (harg10 : arg10.IsWhole) (arg11 : Memref sig .tc .vmem S4x128 .f32) (harg11 : arg11.IsWhole) (arg12 : Memref sig .tc .vmem S4x128 .f32) (harg12 : arg12.IsWhole) (arg13 : Memref sig .tc .vmem S37x3136x128 .fp8e4m3) (harg13 : arg13.IsWhole) (arg14 : Memref sig .tc .vmem S37x3136x128 .fp8e5m2) (harg14 : arg14.IsWhole) (arg15 : Memref sig .tc .vmem S13x3136x128 .i8) (harg15 : arg15.IsWhole) (arg16 : Memref sig .tc .vmem S6x3136x128 .bf16) (harg16 : arg16.IsWhole) (arg17 : Memref sig .tc .vmem S2x16x128 .f32) (harg17 : arg17.IsWhole) (arg18 : Memref sig .tc .vmem S8x128 .f32) (harg18 : arg18.IsWhole) (arg19 : DmaSems sig S13) (arg20 : DmaSems sig S6)
variable (Ax : ℕ → ℕ → Elt F .fp8e4m3) (Ad : ℕ → ℕ → Elt F .fp8e5m2) (Am : ℕ → ℕ → Elt F .i8) (N : ℕ) (qx qd qm : PosShare TreeShare)
variable (arg0 arg21 : BitVec 32) (a : Fin (k0_t5_loop i).trips) (b : Fin (k0_t6_loop i).trips)
variable (h13 : sig.dmaCredit .tc (Kind.tc.table .vmem) arg13.view.buf ⟨2, ![3136, 128]⟩ .fp8e4m3 = N)
  (h14 : sig.dmaCredit .tc (Kind.tc.table .vmem) arg14.view.buf ⟨2, ![3136, 128]⟩ .fp8e5m2 = N)
  (h15 : sig.dmaCredit .tc (Kind.tc.table .vmem) arg15.view.buf ⟨2, ![3136, 128]⟩ .i8 = N) (hN0 : 0 < N)

local notation "ℚ" => sProp (MT nD τ sig Unit (Elt F) ℕ (Pipeline.UD sig nD τ) ℕ)

section
include h13 h14 h15 hN0

set_option maxHeartbeats 4000000 in
/-- The chunk twelve ahead is asked for, if there is one. -/
theorem t6_pre {Q : (Σ' (v481 : BitVec 32) (v482 : BitVec 32) (c24_i32_290 : BitVec 32) (v512 : BitVec 32), BitVec 32) → sProp (MT nD τ sig Unit (Elt F) ℕ (Pipeline.UD sig nD τ) ℕ)} :
    (IN (F := F) c arg7 arg8 arg9 arg13 arg14 arg15 arg19 Ax Ad Am N qx qd qm (MG Ad Am) (24 * ((a : ℕ) + 1) + (b : ℕ)) (min ((24 * ((a : ℕ) + 1) + (b : ℕ)) + 12) 96) : sProp 𝕄)
    ⊢ iprop((IN (F := F) c arg7 arg8 arg9 arg13 arg14 arg15 arg19 Ax Ad Am N qx qd qm (MG Ad Am) (24 * ((a : ℕ) + 1) + (b : ℕ)) (min ((24 * ((a : ℕ) + 1) + (b : ℕ)) + 12 + 1) 96) -∗ ∀ r, Q r)
      -∗ wp frame (wpE (defs₀ (F := F)) Variants.none c none) Set.univ (k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 a arg21 1#32 b) Q) := by
  have ha : (a : ℕ) < 3 := lt_of_lt_of_eq a.isLt (t5_trips i)
  have hb : (b : ℕ) < 24 := lt_of_lt_of_eq b.isLt (t6_trips i)
  rw [k0_part60_eq_skeleton]; unfold k0_part60_skel
  dsimp only
  by_cases h : (24 * ((a : ℕ) + 1) + (b : ℕ)) + 12 < 96
  · rw [dif_pos ((cond3_eq i a b).trans (if_pos h)), Nat.min_eq_left (by omega), Nat.min_eq_left (by omega)]
    simp only [wp_bind]
    iintro HI Hk
    rw [k0_part37_eq_skeleton]; unfold k0_part37_skel
    iapply (le_wp_ret frame (wpE (defs₀ (F := F)) Variants.none c none) Set.univ)
    dsimp only
    rw [k0_part38_eq_skeleton]; unfold k0_part38_skel
    simp only [wp_bind]
    ihave HI := (IN_open c arg7 arg8 arg9 arg13 arg14 arg15 arg19 Ax Ad Am N qx qd qm (by omega)) $$ HI
    unfold BUF
    icases HI with ⟨⟨⟨Ga, Gb⟩, ⟨Ma, Mb⟩, ⟨Xa, Xb⟩⟩, HF, HC, Hs⟩
    imod (batch_alloc' EC (c := (c : Thread nD τ)) () N (DD (F := F) c arg7 arg8 arg9 arg13 arg14 arg15 Ax Ad Am qx qd qm ((24 * ((a : ℕ) + 1) + (b : ℕ)) + 12)) (E := Set.univ)) $$ Hs with HB
    iapply (issue_ring (defs := defs₀ (F := F)) Variants.none none EC (c := (c : Thread nD τ)) (m := arg14) (h := arg8) (lo := (24 * ((a : ℕ) + 1) + (b : ℕ))) (hi := (24 * ((a : ℕ) + 1) + (b : ℕ)) + 12) (j := 0) (n := 3) (D := DD (F := F) c arg7 arg8 arg9 arg13 arg14 arg15 Ax Ad Am qx qd qm ((24 * ((a : ℕ) + 1) + (b : ℕ)) + 12)) (by omega) (by omega) (by omega) (off54_eq i a b) (off55_eq i a b)
      (congrArg SemLoc.dma (cell_eq arg19 (off53_eq i a b))) (by decide) () N h14 (Entails.of_eq rfl)) $$ [Ga Gb HB]
    · isplitl [Ga]; · iexact Ga
      isplitl [Gb]; · iexact Gb
      iexact HB
    iintro ⟨Ga, Gb, HB⟩
    iapply (le_wp_ret frame (wpE (defs₀ (F := F)) Variants.none c none) Set.univ)
    dsimp only
    iapply (issue_ring (defs := defs₀ (F := F)) Variants.none none EC (c := (c : Thread nD τ)) (m := arg15) (h := arg9) (lo := (24 * ((a : ℕ) + 1) + (b : ℕ))) (hi := (24 * ((a : ℕ) + 1) + (b : ℕ)) + 12) (j := 1) (n := 3) (D := DD (F := F) c arg7 arg8 arg9 arg13 arg14 arg15 Ax Ad Am qx qd qm ((24 * ((a : ℕ) + 1) + (b : ℕ)) + 12)) (by omega) (by omega) (by omega) (off56_eq i a b) (off55_eq i a b)
      (congrArg SemLoc.dma (cell_eq arg19 (off53_eq i a b))) (by decide) () N h15 (Entails.of_eq rfl)) $$ [Ma Mb HB]
    · isplitl [Ma]; · iexact Ma
      isplitl [Mb]; · iexact Mb
      iexact HB
    iintro ⟨Ma, Mb, HB⟩
    iapply (issue_ring (defs := defs₀ (F := F)) Variants.none none EC (c := (c : Thread nD τ)) (m := arg13) (h := arg7) (lo := (24 * ((a : ℕ) + 1) + (b : ℕ))) (hi := (24 * ((a : ℕ) + 1) + (b : ℕ)) + 12) (j := 2) (n := 3) (D := DD (F := F) c arg7 arg8 arg9 arg13 arg14 arg15 Ax Ad Am qx qd qm ((24 * ((a : ℕ) + 1) + (b : ℕ)) + 12)) (by omega) (by omega) (by omega) (off54_eq i a b) (off55_eq i a b)
      (congrArg SemLoc.dma (cell_eq arg19 (off53_eq i a b))) (by decide) () N h13 (Entails.of_eq rfl)) $$ [Xa Xb HB]
    · isplitl [Xa]; · iexact Xa
      isplitl [Xb]; · iexact Xb
      iexact HB
    iintro ⟨Xa, Xb, HB⟩
    ihave HI := (IN_close c arg7 arg8 arg9 arg13 arg14 arg15 arg19 Ax Ad Am N qx qd qm (G := MG Ad Am) (lo := (24 * ((a : ℕ) + 1) + (b : ℕ))) (hi := (24 * ((a : ℕ) + 1) + (b : ℕ)) + 12) (by omega)) $$ [Ga Gb Ma Mb Xa Xb HF HC HB]
    · isplitl [Ga Gb Ma Mb Xa Xb]
      · unfold BUF
        isplitl [Ga Gb]
        · isplitl [Ga]; · iexact Ga
          iexact Gb
        isplitl [Ma Mb]
        · isplitl [Ma]; · iexact Ma
          iexact Mb
        · isplitl [Xa]; · iexact Xa
          iexact Xb
      isplitl [HF]; · iexact HF
      isplitl [HC]; · iexact HC
      iexact HB
    iapply (le_wp_ret frame (wpE (defs₀ (F := F)) Variants.none c none) Set.univ)
    ispecialize Hk $$ HI
    iapply Hk
  · rw [dif_neg (by rw [cond3_eq i a b, if_neg h]; decide), Nat.min_eq_right (by omega), Nat.min_eq_right (by omega)]
    try simp only [wp_bind]
    iintro HI Hk
    iapply (le_wp_ret frame (wpE (defs₀ (F := F)) Variants.none c none) Set.univ)
    ispecialize Hk $$ HI
    iapply Hk

end

variable (Adx : ℕ → ℕ → Elt F .bf16) (M : ℕ) (v481 v482 : BitVec 32) (ones : Vec F S16x128 .f32) (ra rb rc : Vec F S1x128 .f32)

set_option maxHeartbeats 4000000 in
/-- The loop over a chunk just arrived and a chunk of the column before: the one is masked and summed, the other's result is written. -/
theorem t7_loop {n p hi : ℕ} {P : ℕ → Prop} (hn : n = (24 * ((a : ℕ) + 1) + (b : ℕ))) (hp : p = (24 * (a : ℕ) + (b : ℕ))) (h' : hi ≤ n + 13) (h'' : n + 1 ≤ hi)
    (hdx : ∀ r l, r < 3136 → l < 128 → chk Adx p r l = dxc ra rb rc (chk Ax p) (MG Ad Am p) r l)
    (hP : ∀ q, P q → q % 6 ≠ p % 6)
    {Q : FVec F S16x128 .f32 × FVec F S16x128 .f32 → sProp (MT nD τ sig Unit (Elt F) ℕ (Pipeline.UD sig nD τ) ℕ)} :
    (iprop(IN (F := F) c arg7 arg8 arg9 arg13 arg14 arg15 arg19 Ax Ad Am N qx qd qm (Function.update (MG Ad Am) n (chk Ad n)) (n + 1) hi
      ∗ OUTB (F := F) (c : Thread nD τ) arg16 arg10 arg20 Adx M (p - 5) (p - 1) P) : sProp 𝕄)
    ⊢ iprop((iprop(IN (F := F) c arg7 arg8 arg9 arg13 arg14 arg15 arg19 Ax Ad Am N qx qd qm (MG Ad Am) (n + 1) hi ∗ OUTB (F := F) (c : Thread nD τ) arg16 arg10 arg20 Adx M (p - 5) (p - 1) (fun q => P q ∨ q = p))
        -∗ Q (t2sum (chk Ax n) (chk Ad n) (chk Am n) ones 7))
      -∗ wp frame (wpE (defs₀ (F := F)) Variants.none c none) Set.univ
        (Scf.Loop.for k0_t7_loop k0_t7_ok (k0_pay350 (F := F), k0_pay350 (F := F)) (k0_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 a b v481 v482 ones ra rb rc)) Q) := by
  have ha : (a : ℕ) < 3 := lt_of_lt_of_eq a.isLt (t5_trips i)
  have hb : (b : ℕ) < 24 := lt_of_lt_of_eq b.isLt (t6_trips i)
  have hnp : n = p + 24 := by omega
  unfold IN BUF OUTB
  conv_lhs => unfold RX
  iintro ⟨⟨⟨⟨⟨%gg, Ga, %hgg⟩, Gb⟩, ⟨⟨%gm, Ma, %hgm⟩, Mb⟩, ⟨⟨%gx, Xa, %hgx⟩, Xb⟩⟩, HF, HC⟩, ⟨%go, Oa, %hgo⟩, Ob⟩ Hk
  have hx : ∀ i : S37x3136x128.Idx, (i 0 : ℕ) = n % 37 → gx i = chk Ax n (i 1 : ℕ) (i 2 : ℕ) := hgx n (by omega) (by omega)
  have hm : ∀ i : S13x3136x128.Idx, (i 0 : ℕ) = n % 13 → gm i = chk Am n (i 1 : ℕ) (i 2 : ℕ) := hgm n (by omega) (by omega)
  have hg : ∀ i : S37x3136x128.Idx, (i 0 : ℕ) = n % 37 → gg i = chk Ad n (i 1 : ℕ) (i 2 : ℕ) := fun i h => by
    have := hgg n (by omega) (by omega) i h
    rw [Function.update_self] at this; exact this
  have hxp : ∀ i : S37x3136x128.Idx, (i 0 : ℕ) = p % 37 → gx i = chk Ax p (i 1 : ℕ) (i 2 : ℕ) := hgx p (by omega) (by omega)
  have hgp : ∀ i : S37x3136x128.Idx, (i 0 : ℕ) = p % 37 → gg i = MG Ad Am p (i 1 : ℕ) (i 2 : ℕ) := fun i h => by
    have := hgg p (by omega) (by omega) i h
    rw [Function.update_of_ne (by omega)] at this; exact this
  have key := loop_rule (F := F) (c := (c : Thread nD τ)) k0_t7_loop k0_t7_ok (k0_pay350 (F := F), k0_pay350 (F := F)) (k0_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 a b v481 v482 ones ra rb rc)
    (fun k acc => iprop(own (c : Thread nD τ) arg13 (freeS 37 (n + 1) hi) fullShare gx
      ∗ own (c : Thread nD τ) arg14 (freeS 37 (n + 1) hi) fullShare (gst (n % 37) (msk (chk Ad n) (chk Am n)) gg (448 * k))
      ∗ own (c : Thread nD τ) arg15 (freeS 13 (n + 1) hi) fullShare gm
      ∗ own (c : Thread nD τ) arg16 (freeS 6 (p - 5) (p - 1)) fullShare (gst (p % 6) (dxc ra rb rc (chk Ax p) (MG Ad Am p)) go (448 * k))
      ∗ ⌜acc = t2sum (chk Ax n) (chk Ad n) (chk Am n) ones k⌝)) 7 t7_trips
    (fun k acc => by
      iintro ⟨H1, H2, H3, H4, %hacc⟩
      subst hacc hn hp
      iapply (t7_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 a b k v481 v482 ones ra rb rc (Sx := freeS 37 ((24 * ((a : ℕ) + 1) + (b : ℕ)) + 1) hi) (Sg := freeS 37 ((24 * ((a : ℕ) + 1) + (b : ℕ)) + 1) hi) (Sm := freeS 13 ((24 * ((a : ℕ) + 1) + (b : ℕ)) + 1) hi)
        (So := freeS 6 ((24 * (a : ℕ) + (b : ℕ)) - 5) ((24 * (a : ℕ) + (b : ℕ)) - 1)) (qx := fullShare) (qm := fullShare)
        (gx := gx) (g0 := gg) (gm := gm) (go := go) (xc := chk Ax (24 * ((a : ℕ) + 1) + (b : ℕ))) (dc := chk Ad (24 * ((a : ℕ) + 1) + (b : ℕ))) (mc := chk Am (24 * ((a : ℕ) + 1) + (b : ℕ))) (xp := chk Ax (24 * (a : ℕ) + (b : ℕ))) (gp := MG Ad Am (24 * (a : ℕ) + (b : ℕ))) _
        (slot_mem (by omega) (by omega)) (slot_mem (by omega) (by omega)) (slot_mem (by omega) (by omega)) (slot_mem (by omega) (by omega)) (slot_mem (by omega) (by omega))
        (slot_mem' (by omega) (by omega)) hx hxp hg hgp hm)
      isplitl [H1]; · iexact H1
      isplitl [H2]; · iexact H2
      isplitl [H3]; · iexact H3
      isplitl [H4]; · iexact H4
      iintro ⟨H1, H2, H3, H4⟩
      isplitl [H1]; · iexact H1
      isplitl [H2]; · iexact H2
      isplitl [H3]; · iexact H3
      isplitl [H4]; · iexact H4
      ipureintro; rfl) (Q := Q)
  iapply key $$ [Ga Ma Xa Oa]
  · isplitl [Xa]; · iexact Xa
    isplitl [Ga]; · rw [Nat.mul_zero, gst_zero]; iexact Ga
    isplitl [Ma]; · iexact Ma
    isplitl [Oa]; · rw [Nat.mul_zero, gst_zero]; iexact Oa
    ipureintro; rfl
  iintro %acc ⟨Xa, Ga, Ma, Oa, %hacc⟩
  subst hacc
  iapply Hk
  isplitr [Oa Ob]
  · isplitr [HF HC]
    · isplitl [Ga Gb]
      · isplitl [Ga]
        · unfold RX
          iexists _
          isplitl [Ga]; · iexact Ga
          ipureintro
          intro q h1 h2 i h3
          rcases Nat.lt_succ_iff_lt_or_eq.mp h1 with h4 | h4
          · rw [gst_other i (by rw [h3]; exact mod_ne h4 (by omega))]
            refine (hgg q h1 h2 i h3).trans ?_
            rw [Function.update_of_ne (Nat.ne_of_lt h4)]
          · subst h4
            exact gst_done i h3
        · iexact Gb
      isplitl [Ma Mb]
      · isplitl [Ma]
        · unfold RX
          iexists gm
          isplitl [Ma]; · iexact Ma
          ipureintro; exact hgm
        · iexact Mb
      · isplitl [Xa]
        · unfold RX
          iexists gx
          isplitl [Xa]; · iexact Xa
          ipureintro; exact hgx
        · iexact Xb
    · isplitl [HF]; · iexact HF
      iexact HC
  · isplitl [Oa]
    · iexists _
      isplitl [Oa]; · iexact Oa
      ipureintro
      intro q hq i h3
      rcases hq with hq | hq
      · rw [gst_other i (by rw [h3]; exact hP q hq)]
        exact hgo q hq i h3
      · subst hq
        refine (gst_done i h3).trans (hdx _ _ ?_ ?_).symm
        · exact (i 1).isLt
        · exact (i 2).isLt
    · iexact Ob

end

end Cert.Kernel.Hand
-- ==== Proof.Body5.lean ====
/-
  A trip of the middle loop: a chunk of the next column is taken in while a chunk of this column is written out.
-/
module

public import proofs.«01_k».proof.Proof.Offs
public import proofs.«01_k».proof.Proof.Win
public import proofs.«01_k».proof.Proof.Body1
public import proofs.«01_k».proof.Proof.Body2
public import proofs.«01_k».proof.Proof.T7
public import proofs.«01_k».proof.Proof.Body3
public import proofs.«01_k».proof.Proof.Body4
public import proofs.«01_k».proof.Proof.Gen.Kernel.Skeleton
public import Idealize.ShloMosaic.Lib.Pipeline.FrameBody
public import Idealize.SL.BI.BigOpNat

@[expose] public section

set_option maxRecDepth 16384

noncomputable section

namespace Cert.Kernel.Hand

open Cert.Kernel Cert.Kernel.Gen Cert.Own
open Idealize.ShloMosaic Idealize.ShloMosaic.TcCoe Idealize.ShloMosaic.ValueIdx Idealize.ShloMosaic.Transfers
open Idealize.SL Idealize.SL.RA
open Idealize.SL.BI (sProp Storable bigSep bigSep_Ico_succ_bot bigSep_Ico_succ_top)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (i : grid0.Coords) (arg1 : Memref sig .tc .smem S1 .f32) (harg1 : arg1.IsWhole) (arg2 : Memref sig .tc .smem S1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4x128 .f32) (harg5 : arg5.IsWhole) (arg6 : Memref sig .tc .vmem S16x128 .f32) (harg6 : arg6.IsWhole) (arg7 : Memref sig .tc .hbm S75264x512 .fp8e4m3) (harg7 : arg7.IsWhole) (arg8 : Memref sig .tc .hbm S75264x512 .fp8e5m2) (harg8 : arg8.IsWhole) (arg9 : Memref sig .tc .hbm S75264x512 .i8) (harg9 : arg9.IsWhole) (arg10 : Memref sig .tc .hbm S75264x512 .bf16) (harg10 : arg10.IsWhole) (arg11 : Memref sig .tc .vmem S4x128 .f32) (harg11 : arg11.IsWhole) (arg12 : Memref sig .tc .vmem S4x128 .f32) (harg12 : arg12.IsWhole) (arg13 : Memref sig .tc .vmem S37x3136x128 .fp8e4m3) (harg13 : arg13.IsWhole) (arg14 : Memref sig .tc .vmem S37x3136x128 .fp8e5m2) (harg14 : arg14.IsWhole) (arg15 : Memref sig .tc .vmem S13x3136x128 .i8) (harg15 : arg15.IsWhole) (arg16 : Memref sig .tc .vmem S6x3136x128 .bf16) (harg16 : arg16.IsWhole) (arg17 : Memref sig .tc .vmem S2x16x128 .f32) (harg17 : arg17.IsWhole) (arg18 : Memref sig .tc .vmem S8x128 .f32) (harg18 : arg18.IsWhole) (arg19 : DmaSems sig S13) (arg20 : DmaSems sig S6)
variable (Ax : ℕ → ℕ → Elt F .fp8e4m3) (Ad : ℕ → ℕ → Elt F .fp8e5m2) (Am : ℕ → ℕ → Elt F .i8) (N : ℕ) (qx qd qm : PosShare TreeShare)
variable (arg0 arg21 : BitVec 32) (a : Fin (k0_t5_loop i).trips) (b : Fin (k0_t6_loop i).trips)
variable (h13 : sig.dmaCredit .tc (Kind.tc.table .vmem) arg13.view.buf ⟨2, ![3136, 128]⟩ .fp8e4m3 = N)
  (h14 : sig.dmaCredit .tc (Kind.tc.table .vmem) arg14.view.buf ⟨2, ![3136, 128]⟩ .fp8e5m2 = N)
  (h15 : sig.dmaCredit .tc (Kind.tc.table .vmem) arg15.view.buf ⟨2, ![3136, 128]⟩ .i8 = N) (hN0 : 0 < N)
variable {M : ℕ} (h10 : sig.dmaCredit .tc (Kind.tc.table .hbm) arg10.view.buf ⟨2, ![3136, 128]⟩ .bf16 = M) (hM0 : 0 < M)

include h13 h14 h15 hN0 h10 hM0

set_option maxHeartbeats 4000000 in
/-- A trip of the middle loop. -/
theorem t6_trip {u : Vec F S16x128 .f32 × Vec F S16x128 .f32} {q6 : PosShare TreeShare} {g6 : S16x128.Idx → Elt F .f32} {gc : ℕ → ℕ → Elt F .f32} {ra rb rc : Vec F S1x128 .f32}
    {Adx : ℕ → ℕ → Elt F .bf16} (h0 : rowV gc 0 = ra) (h1 : rowV gc 1 = rb) (h2 : rowV gc 2 = rc)
    (hdx : ∀ r l, r < 3136 → l < 128 → chk Adx (24 * (a : ℕ) + (b : ℕ)) r l = dxc ra rb rc (chk Ax (24 * (a : ℕ) + (b : ℕ))) (MG Ad Am (24 * (a : ℕ) + (b : ℕ))) r l) {W : Waits sig Unit}
    {Q : Unit → sProp (MT nD τ sig Unit (Elt F) ℕ (Pipeline.UD sig nD τ) ℕ)} :
    (iprop(IN (F := F) c arg7 arg8 arg9 arg13 arg14 arg15 arg19 Ax Ad Am N qx qd qm (MG Ad Am) (24 * ((a : ℕ) + 1) + (b : ℕ)) (min ((24 * ((a : ℕ) + 1) + (b : ℕ)) + 12) 96)
      ∗ own (c : Thread nD τ) arg6 Finset.univ q6 g6
      ∗ own (c : Thread nD τ) arg17 Finset.univ fullShare (acc2 (accs Ax Ad Am (24 * ((a : ℕ) + 1)) g6 u b).1 (accs Ax Ad Am (24 * ((a : ℕ) + 1)) g6 u b).2)
      ∗ own (c : Thread nD τ) arg18 Finset.univ fullShare (fun i => gc (i 0 : ℕ) (i 1 : ℕ))
      ∗ OUTB (F := F) (c : Thread nD τ) arg16 arg10 arg20 Adx M ((24 * (a : ℕ) + (b : ℕ)) - 6) ((24 * (a : ℕ) + (b : ℕ)) - 1) (fun q => q + 1 = (24 * (a : ℕ) + (b : ℕ)))
      ∗ owes (c : Thread nD τ) 0 W) : sProp 𝕄)
    ⊢ iprop((iprop(IN (F := F) c arg7 arg8 arg9 arg13 arg14 arg15 arg19 Ax Ad Am N qx qd qm (MG Ad Am) ((24 * ((a : ℕ) + 1) + (b : ℕ)) + 1) (min ((24 * ((a : ℕ) + 1) + (b : ℕ)) + 1 + 12) 96)
        ∗ own (c : Thread nD τ) arg6 Finset.univ q6 g6
        ∗ own (c : Thread nD τ) arg17 Finset.univ fullShare (acc2 (accs Ax Ad Am (24 * ((a : ℕ) + 1)) g6 u ((b : ℕ) + 1)).1 (accs Ax Ad Am (24 * ((a : ℕ) + 1)) g6 u ((b : ℕ) + 1)).2)
        ∗ own (c : Thread nD τ) arg18 Finset.univ fullShare (fun i => gc (i 0 : ℕ) (i 1 : ℕ))
        ∗ OUTB (F := F) (c : Thread nD τ) arg16 arg10 arg20 Adx M ((24 * (a : ℕ) + (b : ℕ)) + 1 - 6) ((24 * (a : ℕ) + (b : ℕ)) + 1 - 1) (fun q => q + 1 = (24 * (a : ℕ) + (b : ℕ)) + 1)
        ∗ (∃ W', owes (c : Thread nD τ) 0 W')) -∗ Q ⟨⟩)
      -∗ wp frame (wpE (defs₀ (F := F)) Variants.none c none) Set.univ (k0_t6_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 a arg21 b ⟨⟩) Q) := by
  have ha : (a : ℕ) < 3 := lt_of_lt_of_eq a.isLt (t5_trips i)
  have hb : (b : ℕ) < 24 := lt_of_lt_of_eq b.isLt (t6_trips i)
  unfold k0_t6_body
  simp only [wp_bind]
  iintro ⟨HI, H6, HA, H8, HOut, HO⟩ Hk
  iapply (t6_pre c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm arg0 arg21 a b h13 h14 h15 hN0) $$ HI
  iintro HI %r
  obtain ⟨r1, r2, r3, r4, r5⟩ := r
  dsimp only
  rw [k0_part61_eq_skeleton]; unfold k0_part61_skel
  iapply (le_wp_ret frame (wpE (defs₀ (F := F)) Variants.none c none) Set.univ)
  rw [k0_part62_eq_skeleton]; unfold k0_part62_skel
  simp only [wp_bind]
  ihave HI := (IN_wait c arg7 arg8 arg9 arg13 arg14 arg15 arg19 Ax Ad Am N qx qd qm (by omega)) $$ HI
  icases HI with ⟨HB1, HF, HC, HB⟩
  iapply (wait_mid (defs := defs₀ (F := F)) Variants.none none EC (c := (c : Thread nD τ)) (n := 3) (D := DD (F := F) c arg7 arg8 arg9 arg13 arg14 arg15 Ax Ad Am qx qd qm (24 * ((a : ℕ) + 1) + (b : ℕ))) (u := 0) (cell_eq arg19 (off57_eq i a b)) () (N := N) h14 (by omega)) $$ [HB HO]
  · isplitl [HB]; · iexact HB
    iexact HO
  iintro ⟨HB, HO⟩
  iapply (wait_mid (defs := defs₀ (F := F)) Variants.none none EC (c := (c : Thread nD τ)) (n := 3) (D := DD (F := F) c arg7 arg8 arg9 arg13 arg14 arg15 Ax Ad Am qx qd qm (24 * ((a : ℕ) + 1) + (b : ℕ))) (u := 0 + N) (cell_eq arg19 (off57_eq i a b)) () (N := N) h15 (by omega)) $$ [HB HO]
  · isplitl [HB]; · iexact HB
    iexact HO
  iintro ⟨HB, HO⟩
  iapply (wait_last (defs := defs₀ (F := F)) Variants.none none EC (c := (c : Thread nD τ)) (D := DD (F := F) c arg7 arg8 arg9 arg13 arg14 arg15 Ax Ad Am qx qd qm (24 * ((a : ℕ) + 1) + (b : ℕ))) (cell_eq arg19 (off57_eq i a b)) () (N := N) h13 hN0) $$ [HB HO]
  · isplitl [HB]; · iexact HB
    iexact HO
  iintro ⟨D0, D1, D2, Hs, HO⟩
  ihave HI := (IN_waited c arg7 arg8 arg9 arg13 arg14 arg15 arg19 Ax Ad Am N qx qd qm (G := MG Ad Am) (lo := (24 * ((a : ℕ) + 1) + (b : ℕ))) (hi := min ((24 * ((a : ℕ) + 1) + (b : ℕ)) + 12 + 1) 96) (by omega) (by omega)) $$ [HB1 HF HC D0 D1 D2 Hs]
  · isplitl [HB1]; · iexact HB1
    isplitl [HF]; · iexact HF
    isplitl [HC]; · iexact HC
    isplitl [D0]; · iexact D0
    isplitl [D1]; · iexact D1
    isplitl [D2]; · iexact D2
    iexact Hs
  by_cases h6 : 6 ≤ (24 * (a : ℕ) + (b : ℕ))
  · rw [dif_pos ((cond4_eq i a b).trans (if_pos h6))]
    simp only [wp_bind]
    iapply (out_wait (c := (c : Thread nD τ)) (m := arg16) (h := arg10) (A := Adx) (P := fun q => q + 1 = (24 * (a : ℕ) + (b : ℕ))) (lo := (24 * (a : ℕ) + (b : ℕ)) - 6) (hi := (24 * (a : ℕ) + (b : ℕ)) - 1) (by omega) (by omega) (fun q hq => (mod_ne (by omega) (by omega)).symm) (cell_eq arg20 (off61_eq i a b h6)) (M := M) h10) $$ [HOut HO]
    · isplitl [HOut]; · iexact HOut
      iexact HO
    iintro ⟨HOut, %W', HO⟩
    rw [show (24 * (a : ℕ) + (b : ℕ)) - 6 + 1 = (24 * (a : ℕ) + (b : ℕ)) - 5 by omega]
    iapply (load_u (v := g6) (fun x => congrArg g6 (ones_idx x))) $$ H6
    iintro H6
    iapply (load_row rfl) $$ H8
    iintro H8
    iapply (load_row rfl) $$ H8
    iintro H8
    iapply (load_row rfl) $$ H8
    iintro H8
    rw [h0, h1, h2]
    iapply (t7_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm a b Adx M _ _ g6 ra rb rc (n := (24 * ((a : ℕ) + 1) + (b : ℕ))) (p := (24 * (a : ℕ) + (b : ℕ))) (hi := min ((24 * ((a : ℕ) + 1) + (b : ℕ)) + 12 + 1) 96) (P := fun q => q + 1 = (24 * (a : ℕ) + (b : ℕ))) rfl rfl (by omega) (by omega) hdx
      (fun q hq => by rw [← hq]; exact mod_ne (by omega) (by omega))) $$ [HI HOut]
    · isplitl [HI]; · iexact HI
      iexact HOut
    iintro ⟨HI, HOut⟩
    iapply (le_wp_ret frame (wpE (defs₀ (F := F)) Variants.none c none) Set.univ)
    dsimp only
    iapply (load_u (acc2_load0 _ _)) $$ HA
    iintro HA
    iapply (load_u (acc2_load0 _ _)) $$ HA
    iintro HA
    iapply (store_acc0) $$ HA
    iintro HA
    iapply (load_u (acc2_load1 _ _)) $$ HA
    iintro HA
    iapply (load_u (acc2_load1 _ _)) $$ HA
    iintro HA
    iapply (store_acc1) $$ HA
    iintro HA
    have h1p : 1 ≤ (24 * (a : ℕ) + (b : ℕ)) := by omega
    rw [dif_pos ((cond5_eq i a b).trans (if_pos h1p))]
    simp only [wp_bind]
    iapply (out_issue (c := (c : Thread nD τ)) (m := arg16) (h := arg10) (lo := (24 * (a : ℕ) + (b : ℕ)) - 5) (hi := (24 * (a : ℕ) + (b : ℕ)) - 1) (by omega) (by omega) (by omega) (Or.inl (by omega)) (off98_eq i a b h1p) (off97_eq i a b h1p) (cell_eq arg20 (off96_eq i a b h1p)) (M := M) h10 hM0) $$ HOut
    iintro HOut
    iapply (le_wp_ret frame (wpE (defs₀ (F := F)) Variants.none c none) Set.univ)
    iapply Hk
    isplitl [HI]; · rw [show (24 * ((a : ℕ) + 1) + (b : ℕ)) + 1 + 12 = (24 * ((a : ℕ) + 1) + (b : ℕ)) + 12 + 1 by omega]; iexact HI
    isplitl [H6]; · iexact H6
    isplitl [HA]
    · rw [pay_eq, pay_eq']
      dsimp only [accs]
      iexact HA
    isplitl [H8]; · iexact H8
    isplitl [HOut]
    · rw [show (24 * (a : ℕ) + (b : ℕ)) - 1 + 1 = (24 * (a : ℕ) + (b : ℕ)) + 1 - 1 by omega, show (24 * (a : ℕ) + (b : ℕ)) + 1 - 6 = (24 * (a : ℕ) + (b : ℕ)) - 5 by omega]
      iapply (OUTB_mono (fun q hq => Or.inr (by omega))) $$ HOut
    iexists _
    iexact HO
  · rw [dif_neg (by rw [cond4_eq i a b, if_neg h6]; decide)]
    simp only [wp_bind]
    rw [show (24 * (a : ℕ) + (b : ℕ)) - 6 = (24 * (a : ℕ) + (b : ℕ)) - 5 by omega]
    iapply (load_u (v := g6) (fun x => congrArg g6 (ones_idx x))) $$ H6
    iintro H6
    iapply (load_row rfl) $$ H8
    iintro H8
    iapply (load_row rfl) $$ H8
    iintro H8
    iapply (load_row rfl) $$ H8
    iintro H8
    rw [h0, h1, h2]
    iapply (t7_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm a b Adx M _ _ g6 ra rb rc (n := (24 * ((a : ℕ) + 1) + (b : ℕ))) (p := (24 * (a : ℕ) + (b : ℕ))) (hi := min ((24 * ((a : ℕ) + 1) + (b : ℕ)) + 12 + 1) 96) (P := fun q => q + 1 = (24 * (a : ℕ) + (b : ℕ))) rfl rfl (by omega) (by omega) hdx
      (fun q hq => by rw [← hq]; exact mod_ne (by omega) (by omega))) $$ [HI HOut]
    · isplitl [HI]; · iexact HI
      iexact HOut
    iintro ⟨HI, HOut⟩
    iapply (le_wp_ret frame (wpE (defs₀ (F := F)) Variants.none c none) Set.univ)
    dsimp only
    iapply (load_u (acc2_load0 _ _)) $$ HA
    iintro HA
    iapply (load_u (acc2_load0 _ _)) $$ HA
    iintro HA
    iapply (store_acc0) $$ HA
    iintro HA
    iapply (load_u (acc2_load1 _ _)) $$ HA
    iintro HA
    iapply (load_u (acc2_load1 _ _)) $$ HA
    iintro HA
    iapply (store_acc1) $$ HA
    iintro HA
    by_cases h1p : 1 ≤ (24 * (a : ℕ) + (b : ℕ))
    · rw [dif_pos ((cond5_eq i a b).trans (if_pos h1p))]
      simp only [wp_bind]
      iapply (out_issue (c := (c : Thread nD τ)) (m := arg16) (h := arg10) (lo := (24 * (a : ℕ) + (b : ℕ)) - 5) (hi := (24 * (a : ℕ) + (b : ℕ)) - 1) (by omega) (by omega) (by omega) (Or.inl (by omega)) (off98_eq i a b h1p) (off97_eq i a b h1p) (cell_eq arg20 (off96_eq i a b h1p)) (M := M) h10 hM0) $$ HOut
      iintro HOut
      iapply (le_wp_ret frame (wpE (defs₀ (F := F)) Variants.none c none) Set.univ)
      iapply Hk
      isplitl [HI]; · rw [show (24 * ((a : ℕ) + 1) + (b : ℕ)) + 1 + 12 = (24 * ((a : ℕ) + 1) + (b : ℕ)) + 12 + 1 by omega]; iexact HI
      isplitl [H6]; · iexact H6
      isplitl [HA]
      · rw [pay_eq, pay_eq']
        dsimp only [accs]
        iexact HA
      isplitl [H8]; · iexact H8
      isplitl [HOut]
      · rw [show (24 * (a : ℕ) + (b : ℕ)) - 1 + 1 = (24 * (a : ℕ) + (b : ℕ)) + 1 - 1 by omega, show (24 * (a : ℕ) + (b : ℕ)) + 1 - 6 = (24 * (a : ℕ) + (b : ℕ)) - 5 by omega]
        iapply (OUTB_mono (fun q hq => Or.inr (by omega))) $$ HOut
      iexists _
      iexact HO
    · rw [dif_neg (by rw [cond5_eq i a b, if_neg h1p]; decide)]
      try simp only [wp_bind]
      iapply (le_wp_ret frame (wpE (defs₀ (F := F)) Variants.none c none) Set.univ)
      iapply Hk
      isplitl [HI]; · rw [show (24 * ((a : ℕ) + 1) + (b : ℕ)) + 1 + 12 = (24 * ((a : ℕ) + 1) + (b : ℕ)) + 12 + 1 by omega]; iexact HI
      isplitl [H6]; · iexact H6
      isplitl [HA]
      · rw [pay_eq, pay_eq']
        dsimp only [accs]
        iexact HA
      isplitl [H8]; · iexact H8
      isplitl [HOut]
      · rw [show (24 * (a : ℕ) + (b : ℕ)) + 1 - 1 = (24 * (a : ℕ) + (b : ℕ)) - 1 by omega, show (24 * (a : ℕ) + (b : ℕ)) + 1 - 6 = (24 * (a : ℕ) + (b : ℕ)) - 5 by omega]
        iapply (OUTB_mono (fun q hq => Or.inr (by omega))) $$ HOut
      iexists _
      iexact HO
end

end Cert.Kernel.Hand
-- ==== Proof.T16.lean ====
/-
  One trip of the last loop: fourteen row blocks of the result.
-/
module

public import proofs.«01_k».proof.Proof.Offs
public import proofs.«01_k».proof.Proof.Ring
public import proofs.«01_k».proof.Proof.T7
public import proofs.«01_k».proof.Proof.Gen.Kernel.Skeleton
public import Idealize.ShloMosaic.Lib.Pipeline.FrameBody

@[expose] public section

set_option maxRecDepth 16384

noncomputable section

namespace Cert.Kernel.Hand

open Cert.Kernel Cert.Kernel.Gen Cert.Own
open Idealize.ShloMosaic Idealize.ShloMosaic.TcCoe Idealize.ShloMosaic.ValueIdx
open Idealize.SL Idealize.SL.RA
open Idealize.SL.BI (sProp Storable)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (i : grid0.Coords) (arg1 : Memref sig .tc .smem S1 .f32) (harg1 : arg1.IsWhole) (arg2 : Memref sig .tc .smem S1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4x128 .f32) (harg5 : arg5.IsWhole) (arg6 : Memref sig .tc .vmem S16x128 .f32) (harg6 : arg6.IsWhole) (arg7 : Memref sig .tc .hbm S75264x512 .fp8e4m3) (harg7 : arg7.IsWhole) (arg8 : Memref sig .tc .hbm S75264x512 .fp8e5m2) (harg8 : arg8.IsWhole) (arg9 : Memref sig .tc .hbm S75264x512 .i8) (harg9 : arg9.IsWhole) (arg10 : Memref sig .tc .hbm S75264x512 .bf16) (harg10 : arg10.IsWhole) (arg11 : Memref sig .tc .vmem S4x128 .f32) (harg11 : arg11.IsWhole) (arg12 : Memref sig .tc .vmem S4x128 .f32) (harg12 : arg12.IsWhole) (arg13 : Memref sig .tc .vmem S37x3136x128 .fp8e4m3) (harg13 : arg13.IsWhole) (arg14 : Memref sig .tc .vmem S37x3136x128 .fp8e5m2) (harg14 : arg14.IsWhole) (arg15 : Memref sig .tc .vmem S13x3136x128 .i8) (harg15 : arg15.IsWhole) (arg16 : Memref sig .tc .vmem S6x3136x128 .bf16) (harg16 : arg16.IsWhole) (arg17 : Memref sig .tc .vmem S2x16x128 .f32) (harg17 : arg17.IsWhole) (arg18 : Memref sig .tc .vmem S8x128 .f32) (harg18 : arg18.IsWhole) (arg19 : DmaSems sig S13) (arg20 : DmaSems sig S6)
variable (arg0 : BitVec 32) (v293 : Elt F .f32) (v294 : Elt F .f32) (v296 : FVec F S1x128 .f32) (v298 : FVec F S1x128 .f32) (v300 : FVec F S1x128 .f32) (v314 : FVec F S1x128 .f32) (v321 : FVec F S1x128 .f32)
  (a : Fin (k0_t15_loop i).trips) (d : Fin k0_t16_loop.trips) (ra rb rc : Vec F S1x128 .f32)
variable {Sx Sg : Finset S37x3136x128.Idx} {So : Finset S6x3136x128.Idx} {qx qg : PosShare TreeShare}
  {gx : S37x3136x128.Idx → Elt F .fp8e4m3} {g0 : S37x3136x128.Idx → Elt F .fp8e5m2} {go : S6x3136x128.Idx → Elt F .bf16}
  {xp : ℕ → ℕ → Elt F .fp8e4m3} {gp : ℕ → ℕ → Elt F .fp8e5m2}

set_option maxHeartbeats 8000000 in
/-- The trip writes 448 rows of the result's slot. -/
theorem t16_trip {Q : Unit → sProp (MT nD τ sig Unit (Elt F) ℕ (Pipeline.UD sig nD τ) ℕ)}
    (hSx : ∀ i : S37x3136x128.Idx, (i 0 : ℕ) = (72 + (a : ℕ)) % 37 → i ∈ Sx) (hSg : ∀ i : S37x3136x128.Idx, (i 0 : ℕ) = (72 + (a : ℕ)) % 37 → i ∈ Sg)
    (hSo : ∀ i : S6x3136x128.Idx, (i 0 : ℕ) = (72 + (a : ℕ)) % 6 → i ∈ So)
    (hx : ∀ i : S37x3136x128.Idx, (i 0 : ℕ) = (72 + (a : ℕ)) % 37 → gx i = xp (i 1 : ℕ) (i 2 : ℕ))
    (hg : ∀ i : S37x3136x128.Idx, (i 0 : ℕ) = (72 + (a : ℕ)) % 37 → g0 i = gp (i 1 : ℕ) (i 2 : ℕ)) :
    iprop(own (c : Thread nD τ) arg13 Sx qx gx ∗ own (c : Thread nD τ) arg14 Sg qg g0
      ∗ own (c : Thread nD τ) arg16 So fullShare (gst ((72 + (a : ℕ)) % 6) (dxc ra rb rc xp gp) go (448 * (d : ℕ)))
      ∗ (iprop(own (c : Thread nD τ) arg13 Sx qx gx ∗ own (c : Thread nD τ) arg14 Sg qg g0
      ∗ own (c : Thread nD τ) arg16 So fullShare (gst ((72 + (a : ℕ)) % 6) (dxc ra rb rc xp gp) go (448 * (d : ℕ) + 448))) -∗ Q ⟨⟩) : sProp 𝕄)
    ⊢ wp frame (wpE (defs₀ (F := F)) Variants.none c none) Set.univ (k0_t16_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 v293 v294 v296 v298 v300 v314 v321 a ra rb rc d ⟨⟩) Q := by
  unfold k0_t16_body
  simp only [wp_bind]
  iintro ⟨Hx, Hg, Ho, Hk⟩
  rw [k0_part143_eq_skeleton]; unfold k0_part143_skel
  simp only [wp_bind]
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (load_ring_any Variants.none none Set.univ (off242_eq i a d) hSo) $$ Ho
  iintro Ho %_
  iapply (store_ring Variants.none none Set.univ (r' := 448 * (d : ℕ) + 32) (off243_eq i a d) (by omega) hSo (dxc_blk ra rb rc xp gp (by omega))) $$ Ho
  iintro Ho
  iapply (le_wp_ret frame (wpE (defs₀ (F := F)) Variants.none c none) Set.univ)
  dsimp only
  rw [k0_part144_eq_skeleton]; unfold k0_part144_skel
  simp only [wp_bind]
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (load_ring_any Variants.none none Set.univ (off242_eq i a d) hSo) $$ Ho
  iintro Ho %_
  iapply (store_ring Variants.none none Set.univ (r' := 448 * (d : ℕ) + 64) (off244_eq i a d) (by omega) hSo (dxc_blk ra rb rc xp gp (by omega))) $$ Ho
  iintro Ho
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (load_ring_any Variants.none none Set.univ (off242_eq i a d) hSo) $$ Ho
  iintro Ho %_
  iapply (le_wp_ret frame (wpE (defs₀ (F := F)) Variants.none c none) Set.univ)
  dsimp only
  rw [k0_part145_eq_skeleton]; unfold k0_part145_skel
  simp only [wp_bind]
  iapply (store_ring Variants.none none Set.univ (r' := 448 * (d : ℕ) + 96) (off245_eq i a d) (by omega) hSo (dxc_blk ra rb rc xp gp (by omega))) $$ Ho
  iintro Ho
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (load_ring_any Variants.none none Set.univ (off242_eq i a d) hSo) $$ Ho
  iintro Ho %_
  iapply (store_ring Variants.none none Set.univ (r' := 448 * (d : ℕ) + 128) (off246_eq i a d) (by omega) hSo (dxc_blk ra rb rc xp gp (by omega))) $$ Ho
  iintro Ho
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (le_wp_ret frame (wpE (defs₀ (F := F)) Variants.none c none) Set.univ)
  dsimp only
  rw [k0_part146_eq_skeleton]; unfold k0_part146_skel
  simp only [wp_bind]
  iapply (load_ring_any Variants.none none Set.univ (off242_eq i a d) hSo) $$ Ho
  iintro Ho %_
  iapply (store_ring Variants.none none Set.univ (r' := 448 * (d : ℕ) + 160) (off247_eq i a d) (by omega) hSo (dxc_blk ra rb rc xp gp (by omega))) $$ Ho
  iintro Ho
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (load_ring_any Variants.none none Set.univ (off242_eq i a d) hSo) $$ Ho
  iintro Ho %_
  iapply (store_ring Variants.none none Set.univ (r' := 448 * (d : ℕ) + 192) (off248_eq i a d) (by omega) hSo (dxc_blk ra rb rc xp gp (by omega))) $$ Ho
  iintro Ho
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (le_wp_ret frame (wpE (defs₀ (F := F)) Variants.none c none) Set.univ)
  dsimp only
  rw [k0_part147_eq_skeleton]; unfold k0_part147_skel
  simp only [wp_bind]
  iapply (load_ring_any Variants.none none Set.univ (off242_eq i a d) hSo) $$ Ho
  iintro Ho %_
  iapply (store_ring Variants.none none Set.univ (r' := 448 * (d : ℕ) + 224) (off249_eq i a d) (by omega) hSo (dxc_blk ra rb rc xp gp (by omega))) $$ Ho
  iintro Ho
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (load_ring_any Variants.none none Set.univ (off242_eq i a d) hSo) $$ Ho
  iintro Ho %_
  iapply (store_ring Variants.none none Set.univ (r' := 448 * (d : ℕ) + 256) (off250_eq i a d) (by omega) hSo (dxc_blk ra rb rc xp gp (by omega))) $$ Ho
  iintro Ho
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (le_wp_ret frame (wpE (defs₀ (F := F)) Variants.none c none) Set.univ)
  dsimp only
  rw [k0_part148_eq_skeleton]; unfold k0_part148_skel
  simp only [wp_bind]
  iapply (load_ring_any Variants.none none Set.univ (off242_eq i a d) hSo) $$ Ho
  iintro Ho %_
  iapply (store_ring Variants.none none Set.univ (r' := 448 * (d : ℕ) + 288) (off251_eq i a d) (by omega) hSo (dxc_blk ra rb rc xp gp (by omega))) $$ Ho
  iintro Ho
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (load_ring_any Variants.none none Set.univ (off242_eq i a d) hSo) $$ Ho
  iintro Ho %_
  iapply (store_ring Variants.none none Set.univ (r' := 448 * (d : ℕ) + 320) (off252_eq i a d) (by omega) hSo (dxc_blk ra rb rc xp gp (by omega))) $$ Ho
  iintro Ho
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (le_wp_ret frame (wpE (defs₀ (F := F)) Variants.none c none) Set.univ)
  dsimp only
  rw [k0_part149_eq_skeleton]; unfold k0_part149_skel
  simp only [wp_bind]
  iapply (load_ring_any Variants.none none Set.univ (off242_eq i a d) hSo) $$ Ho
  iintro Ho %_
  iapply (store_ring Variants.none none Set.univ (r' := 448 * (d : ℕ) + 352) (off253_eq i a d) (by omega) hSo (dxc_blk ra rb rc xp gp (by omega))) $$ Ho
  iintro Ho
  iapply (load_ring Variants.none none Set.univ (off241_eq i a d) hSx (fun i h _ => hx i h)) $$ Hx
  iintro Hx
  iapply (load_ring Variants.none none Set.univ (off241_eq i a d) hSg (fun i h _ => hg i h)) $$ Hg
  iintro Hg
  iapply (load_ring_any Variants.none none Set.univ (off242_eq i a d) hSo) $$ Ho
  iintro Ho %_
  iapply (store_ring Variants.none none Set.univ (r' := 448 * (d : ℕ) + 384) (off254_eq i a d) (by omega) hSo (dxc_blk ra rb rc xp gp (by omega))) $$ Ho
  iintro Ho
  iapply (le_wp_ret frame (wpE (defs₀ (F := F)) Variants.none c none) Set.univ)
  dsimp only
  iapply (load_ring_any Variants.none none Set.univ (off242_eq i a d) hSo) $$ Ho
  iintro Ho %_
  iapply (store_ring Variants.none none Set.univ (r' := 448 * (d : ℕ) + 416) (off255_eq i a d) (by omega) hSo (dxc_blk ra rb rc xp gp (by omega))) $$ Ho
  iintro Ho
  iapply (load_ring_any Variants.none none Set.univ (off242_eq i a d) hSo) $$ Ho
  iintro Ho %_
  iapply (store_ring Variants.none none Set.univ (r' := 448 * (d : ℕ) + 448) (off256_eq i a d) (by omega) hSo (dxc_blk ra rb rc xp gp (by omega))) $$ Ho
  iintro Ho
  iapply (le_wp_ret frame (wpE (defs₀ (F := F)) Variants.none c none) Set.univ)
  iapply Hk
  isplitl [Hx]; · iexact Hx
  isplitl [Hg]; · iexact Hg
  iexact Ho
end

end Cert.Kernel.Hand
-- ==== Proof.Body6.lean ====
/-
  A trip of the last loop: a chunk of the last column is written out.
-/
module

public import proofs.«01_k».proof.Proof.Offs
public import proofs.«01_k».proof.Proof.Win
public import proofs.«01_k».proof.Proof.Body1
public import proofs.«01_k».proof.Proof.Body2
public import proofs.«01_k».proof.Proof.T7
public import proofs.«01_k».proof.Proof.T16
public import proofs.«01_k».proof.Proof.Body3
public import proofs.«01_k».proof.Proof.Gen.Kernel.Skeleton
public import Idealize.ShloMosaic.Lib.Pipeline.FrameBody
public import Idealize.SL.BI.BigOpNat

@[expose] public section

set_option maxRecDepth 16384

noncomputable section

namespace Cert.Kernel.Hand

open Cert.Kernel Cert.Kernel.Gen Cert.Own
open Idealize.ShloMosaic Idealize.ShloMosaic.TcCoe Idealize.ShloMosaic.ValueIdx Idealize.ShloMosaic.Transfers
open Idealize.SL Idealize.SL.RA
open Idealize.SL.BI (sProp Storable bigSep bigSep_Ico_succ_bot bigSep_Ico_succ_top)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (i : grid0.Coords) (arg1 : Memref sig .tc .smem S1 .f32) (harg1 : arg1.IsWhole) (arg2 : Memref sig .tc .smem S1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4x128 .f32) (harg5 : arg5.IsWhole) (arg6 : Memref sig .tc .vmem S16x128 .f32) (harg6 : arg6.IsWhole) (arg7 : Memref sig .tc .hbm S75264x512 .fp8e4m3) (harg7 : arg7.IsWhole) (arg8 : Memref sig .tc .hbm S75264x512 .fp8e5m2) (harg8 : arg8.IsWhole) (arg9 : Memref sig .tc .hbm S75264x512 .i8) (harg9 : arg9.IsWhole) (arg10 : Memref sig .tc .hbm S75264x512 .bf16) (harg10 : arg10.IsWhole) (arg11 : Memref sig .tc .vmem S4x128 .f32) (harg11 : arg11.IsWhole) (arg12 : Memref sig .tc .vmem S4x128 .f32) (harg12 : arg12.IsWhole) (arg13 : Memref sig .tc .vmem S37x3136x128 .fp8e4m3) (harg13 : arg13.IsWhole) (arg14 : Memref sig .tc .vmem S37x3136x128 .fp8e5m2) (harg14 : arg14.IsWhole) (arg15 : Memref sig .tc .vmem S13x3136x128 .i8) (harg15 : arg15.IsWhole) (arg16 : Memref sig .tc .vmem S6x3136x128 .bf16) (harg16 : arg16.IsWhole) (arg17 : Memref sig .tc .vmem S2x16x128 .f32) (harg17 : arg17.IsWhole) (arg18 : Memref sig .tc .vmem S8x128 .f32) (harg18 : arg18.IsWhole) (arg19 : DmaSems sig S13) (arg20 : DmaSems sig S6)
variable (Ax : ℕ → ℕ → Elt F .fp8e4m3) (Gm : ℕ → ℕ → ℕ → Elt F .fp8e5m2)
variable (arg0 : BitVec 32) (v293 : Elt F .f32) (v294 : Elt F .f32) (v296 : FVec F S1x128 .f32) (v298 : FVec F S1x128 .f32) (v300 : FVec F S1x128 .f32) (v314 : FVec F S1x128 .f32) (v321 : FVec F S1x128 .f32) (v349 : BitVec 32)
  (a : Fin (k0_t15_loop i).trips)
variable (Adx : ℕ → ℕ → Elt F .bf16) (M : ℕ) (ra rb rc : Vec F S1x128 .f32)
variable {gx : S37x3136x128.Idx → Elt F .fp8e4m3} {gg : S37x3136x128.Idx → Elt F .fp8e5m2}

set_option maxHeartbeats 4000000 in
/-- The loop over a chunk of the last column. -/
theorem t16_loop {p : ℕ} {P : ℕ → Prop} (hp : p = (72 + (a : ℕ)))
    (hx : ∀ i : S37x3136x128.Idx, (i 0 : ℕ) = p % 37 → gx i = chk Ax p (i 1 : ℕ) (i 2 : ℕ))
    (hg : ∀ i : S37x3136x128.Idx, (i 0 : ℕ) = p % 37 → gg i = Gm p (i 1 : ℕ) (i 2 : ℕ))
    (hdx : ∀ r l, r < 3136 → l < 128 → chk Adx p r l = dxc ra rb rc (chk Ax p) (Gm p) r l)
    (hP : ∀ q, P q → q % 6 ≠ p % 6)
    {Q : Unit → sProp (MT nD τ sig Unit (Elt F) ℕ (Pipeline.UD sig nD τ) ℕ)} :
    (iprop(own (c : Thread nD τ) arg13 Finset.univ fullShare gx ∗ own (c : Thread nD τ) arg14 Finset.univ fullShare gg
      ∗ OUTB (F := F) (c : Thread nD τ) arg16 arg10 arg20 Adx M (p - 5) (p - 1) P) : sProp 𝕄)
    ⊢ iprop((iprop(own (c : Thread nD τ) arg13 Finset.univ fullShare gx ∗ own (c : Thread nD τ) arg14 Finset.univ fullShare gg
          ∗ OUTB (F := F) (c : Thread nD τ) arg16 arg10 arg20 Adx M (p - 5) (p - 1) (fun q => P q ∨ q = p))
        -∗ Q ⟨⟩)
      -∗ wp frame (wpE (defs₀ (F := F)) Variants.none c none) Set.univ
        (Scf.Loop.for k0_t16_loop k0_t16_ok ⟨⟩ (k0_t16_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 v293 v294 v296 v298 v300 v314 v321 a ra rb rc)) Q) := by
  have ha : (a : ℕ) < 24 := lt_of_lt_of_eq a.isLt (t15_trips i)
  unfold OUTB
  iintro ⟨Xa, Ga, ⟨%go, Oa, %hgo⟩, Ob⟩ Hk
  have key := loop_rule (F := F) (c := (c : Thread nD τ)) k0_t16_loop k0_t16_ok ⟨⟩ (k0_t16_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 v293 v294 v296 v298 v300 v314 v321 a ra rb rc)
    (fun k _ => iprop(own (c : Thread nD τ) arg13 Finset.univ fullShare gx
      ∗ own (c : Thread nD τ) arg14 Finset.univ fullShare gg
      ∗ own (c : Thread nD τ) arg16 (freeS 6 (p - 5) (p - 1)) fullShare (gst (p % 6) (dxc ra rb rc (chk Ax p) (Gm p)) go (448 * k)))) 7 t16_trips
    (fun k acc => by
      iintro ⟨H1, H2, H4⟩
      subst hp
      iapply (t16_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 v293 v294 v296 v298 v300 v314 v321 a k ra rb rc (Sx := Finset.univ) (Sg := Finset.univ)
        (So := freeS 6 ((72 + (a : ℕ)) - 5) ((72 + (a : ℕ)) - 1)) (qx := fullShare) (qg := fullShare)
        (gx := gx) (g0 := gg) (go := go) (xp := chk Ax (72 + (a : ℕ))) (gp := Gm (72 + (a : ℕ)))
        (fun _ _ => Finset.mem_univ _) (fun _ _ => Finset.mem_univ _) (slot_mem' (by omega) (by omega)) hx hg)
      isplitl [H1]; · iexact H1
      isplitl [H2]; · iexact H2
      isplitl [H4]; · iexact H4
      iintro ⟨H1, H2, H4⟩
      isplitl [H1]; · iexact H1
      isplitl [H2]; · iexact H2
      iexact H4) (Q := Q)
  iapply key $$ [Ga Xa Oa]
  · isplitl [Xa]; · iexact Xa
    isplitl [Ga]; · iexact Ga
    rw [Nat.mul_zero, gst_zero]; iexact Oa
  iintro %acc ⟨Xa, Ga, Oa⟩
  iapply Hk
  isplitl [Xa]; · iexact Xa
  isplitl [Ga]; · iexact Ga
  isplitl [Oa]
  · iexists _
    isplitl [Oa]; · iexact Oa
    ipureintro
    intro q hq i h3
    rcases hq with hq | hq
    · rw [gst_other i (by rw [h3]; exact hP q hq)]
      exact hgo q hq i h3
    · subst hq
      refine (gst_done i h3).trans (hdx _ _ ?_ ?_).symm
      · exact (i 1).isLt
      · exact (i 2).isLt
  · iexact Ob

variable {M} (h10 : sig.dmaCredit .tc (Kind.tc.table .hbm) arg10.view.buf ⟨2, ![3136, 128]⟩ .bf16 = M) (hM0 : 0 < M)
include h10 hM0

variable {Ax Gm Adx ra rb rc}
set_option maxHeartbeats 4000000 in
/-- A trip of the last loop. -/
theorem t15_trip {gc : ℕ → ℕ → Elt F .f32} (h0 : rowV gc 0 = ra) (h1 : rowV gc 1 = rb) (h2 : rowV gc 2 = rc)
    (hx : ∀ i : S37x3136x128.Idx, (i 0 : ℕ) = (72 + (a : ℕ)) % 37 → gx i = chk Ax (72 + (a : ℕ)) (i 1 : ℕ) (i 2 : ℕ))
    (hg : ∀ i : S37x3136x128.Idx, (i 0 : ℕ) = (72 + (a : ℕ)) % 37 → gg i = Gm (72 + (a : ℕ)) (i 1 : ℕ) (i 2 : ℕ))
    (hdx : ∀ r l, r < 3136 → l < 128 → chk Adx (72 + (a : ℕ)) r l = dxc ra rb rc (chk Ax (72 + (a : ℕ))) (Gm (72 + (a : ℕ))) r l)
    {W : Waits sig Unit} {Q : Unit → sProp (MT nD τ sig Unit (Elt F) ℕ (Pipeline.UD sig nD τ) ℕ)} :
    (iprop(own (c : Thread nD τ) arg13 Finset.univ fullShare gx ∗ own (c : Thread nD τ) arg14 Finset.univ fullShare gg
      ∗ own (c : Thread nD τ) arg18 Finset.univ fullShare (fun i => gc (i 0 : ℕ) (i 1 : ℕ))
      ∗ OUTB (F := F) (c : Thread nD τ) arg16 arg10 arg20 Adx M ((72 + (a : ℕ)) - 6) ((72 + (a : ℕ)) - 1) (fun q => q + 1 = (72 + (a : ℕ)))
      ∗ owes (c : Thread nD τ) 0 W) : sProp 𝕄)
    ⊢ iprop((iprop(own (c : Thread nD τ) arg13 Finset.univ fullShare gx ∗ own (c : Thread nD τ) arg14 Finset.univ fullShare gg
        ∗ own (c : Thread nD τ) arg18 Finset.univ fullShare (fun i => gc (i 0 : ℕ) (i 1 : ℕ))
        ∗ OUTB (F := F) (c : Thread nD τ) arg16 arg10 arg20 Adx M ((72 + (a : ℕ)) + 1 - 6) ((72 + (a : ℕ)) + 1 - 1) (fun q => q + 1 = (72 + (a : ℕ)) + 1)
        ∗ (∃ W', owes (c : Thread nD τ) 0 W')) -∗ Q ⟨⟩)
      -∗ wp frame (wpE (defs₀ (F := F)) Variants.none c none) Set.univ (k0_t15_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 v293 v294 v296 v298 v300 v314 v321 v349 a ⟨⟩) Q) := by
  have ha : (a : ℕ) < 24 := lt_of_lt_of_eq a.isLt (t15_trips i)
  unfold k0_t15_body
  simp only [wp_bind]
  iintro ⟨HX, HG, H8, HOut, HO⟩ Hk
  rw [k0_part150_eq_skeleton]; unfold k0_part150_skel
  simp only [wp_bind]
  iapply (out_wait (c := (c : Thread nD τ)) (m := arg16) (h := arg10) (A := Adx) (P := fun q => q + 1 = (72 + (a : ℕ))) (lo := (72 + (a : ℕ)) - 6) (hi := (72 + (a : ℕ)) - 1) (by omega) (by omega) (fun q hq => (mod_ne (by omega) (by omega)).symm) (cell_eq arg20 (off238_eq i a)) (M := M) h10) $$ [HOut HO]
  · isplitl [HOut]; · iexact HOut
    iexact HO
  iintro ⟨HOut, %W', HO⟩
  rw [show (72 + (a : ℕ)) - 6 + 1 = (72 + (a : ℕ)) - 5 by omega]
  iapply (load_row rfl) $$ H8
  iintro H8
  iapply (load_row rfl) $$ H8
  iintro H8
  iapply (load_row rfl) $$ H8
  iintro H8
  rw [h0, h1, h2]
  iapply (le_wp_ret frame (wpE (defs₀ (F := F)) Variants.none c none) Set.univ)
  dsimp only
  iapply (t16_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Gm arg0 v293 v294 v296 v298 v300 v314 v321 a Adx M ra rb rc (p := (72 + (a : ℕ))) (P := fun q => q + 1 = (72 + (a : ℕ))) rfl hx hg hdx
    (fun q hq => by rw [← hq]; exact mod_ne (by omega) (by omega))) $$ [HX HG HOut]
  · isplitl [HX]; · iexact HX
    isplitl [HG]; · iexact HG
    iexact HOut
  iintro ⟨HX, HG, HOut⟩
  iapply (out_issue (c := (c : Thread nD τ)) (m := arg16) (h := arg10) (lo := (72 + (a : ℕ)) - 5) (hi := (72 + (a : ℕ)) - 1) (by omega) (by omega) (by omega) (Or.inl (by omega)) (off240_eq1 i a) (off239_eq1 i a) (cell_eq arg20 (off238_eq1 i a)) (M := M) h10 hM0) $$ HOut
  iintro HOut
  iapply (le_wp_ret frame (wpE (defs₀ (F := F)) Variants.none c none) Set.univ)
  iapply Hk
  isplitl [HX]; · iexact HX
  isplitl [HG]; · iexact HG
  isplitl [H8]; · iexact H8
  isplitl [HOut]
  · rw [show (72 + (a : ℕ)) - 1 + 1 = (72 + (a : ℕ)) + 1 - 1 by omega, show (72 + (a : ℕ)) + 1 - 6 = (72 + (a : ℕ)) - 5 by omega]
    iapply (OUTB_mono (fun q hq => Or.inr (by omega))) $$ HOut
  iexists _
  iexact HO

end

end Cert.Kernel.Hand
-- ==== Proof.Body7.lean ====
/-
  The first chunks are asked for, before the first loop.
-/
module

public import proofs.«01_k».proof.Proof.Offs
public import proofs.«01_k».proof.Proof.Win
public import proofs.«01_k».proof.Proof.Body1
public import proofs.«01_k».proof.Proof.Body2
public import proofs.«01_k».proof.Proof.T7
public import proofs.«01_k».proof.Proof.Body3
public import proofs.«01_k».proof.Proof.Gen.Kernel.Skeleton
public import Idealize.ShloMosaic.Lib.Pipeline.FrameBody
public import Idealize.SL.BI.BigOpNat

@[expose] public section

set_option maxRecDepth 16384

noncomputable section

namespace Cert.Kernel.Hand

open Cert.Kernel Cert.Kernel.Gen Cert.Own
open Idealize.ShloMosaic Idealize.ShloMosaic.TcCoe Idealize.ShloMosaic.ValueIdx Idealize.ShloMosaic.Transfers
open Idealize.SL Idealize.SL.RA
open Idealize.SL.BI (sProp Storable bigSep bigSep_Ico_succ_bot bigSep_Ico_succ_top)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (i : grid0.Coords) (arg1 : Memref sig .tc .smem S1 .f32) (harg1 : arg1.IsWhole) (arg2 : Memref sig .tc .smem S1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4x128 .f32) (harg5 : arg5.IsWhole) (arg6 : Memref sig .tc .vmem S16x128 .f32) (harg6 : arg6.IsWhole) (arg7 : Memref sig .tc .hbm S75264x512 .fp8e4m3) (harg7 : arg7.IsWhole) (arg8 : Memref sig .tc .hbm S75264x512 .fp8e5m2) (harg8 : arg8.IsWhole) (arg9 : Memref sig .tc .hbm S75264x512 .i8) (harg9 : arg9.IsWhole) (arg10 : Memref sig .tc .hbm S75264x512 .bf16) (harg10 : arg10.IsWhole) (arg11 : Memref sig .tc .vmem S4x128 .f32) (harg11 : arg11.IsWhole) (arg12 : Memref sig .tc .vmem S4x128 .f32) (harg12 : arg12.IsWhole) (arg13 : Memref sig .tc .vmem S37x3136x128 .fp8e4m3) (harg13 : arg13.IsWhole) (arg14 : Memref sig .tc .vmem S37x3136x128 .fp8e5m2) (harg14 : arg14.IsWhole) (arg15 : Memref sig .tc .vmem S13x3136x128 .i8) (harg15 : arg15.IsWhole) (arg16 : Memref sig .tc .vmem S6x3136x128 .bf16) (harg16 : arg16.IsWhole) (arg17 : Memref sig .tc .vmem S2x16x128 .f32) (harg17 : arg17.IsWhole) (arg18 : Memref sig .tc .vmem S8x128 .f32) (harg18 : arg18.IsWhole) (arg19 : DmaSems sig S13) (arg20 : DmaSems sig S6)
variable (Ax : ℕ → ℕ → Elt F .fp8e4m3) (Ad : ℕ → ℕ → Elt F .fp8e5m2) (Am : ℕ → ℕ → Elt F .i8) (N : ℕ) (qx qd qm : PosShare TreeShare)

/-- Chunk `hi` asked for in part: the first `k` of its three transfers are started. -/
def MID (G : ℕ → ℕ → ℕ → Elt F .fp8e5m2) (hi k h2 : ℕ) : sProp (MT nD τ sig Unit (Elt F) ℕ (Pipeline.UD sig nD τ) ℕ) :=
  iprop(BUF c arg7 arg8 arg9 arg13 arg14 arg15 Ax Ad Am qx qd qm G 0 (hi + 1) h2 hi
    ∗ bigSep (Finset.Ico 0 hi) (Fly (F := F) c arg7 arg8 arg9 arg13 arg14 arg15 arg19 Ax Ad Am N qx qd qm)
    ∗ bigSep (Finset.Ico (hi + 1) (0 + 13)) (Cell (F := F) c arg19)
    ∗ Batch EC (c : Thread nD τ) (.dma (cellOf (K := 13) arg19 hi)) () N (DD (F := F) c arg7 arg8 arg9 arg13 arg14 arg15 Ax Ad Am qx qd qm hi) k 0)

variable (h13 : sig.dmaCredit .tc (Kind.tc.table .vmem) arg13.view.buf ⟨2, ![3136, 128]⟩ .fp8e4m3 = N)
  (h14 : sig.dmaCredit .tc (Kind.tc.table .vmem) arg14.view.buf ⟨2, ![3136, 128]⟩ .fp8e5m2 = N)
  (h15 : sig.dmaCredit .tc (Kind.tc.table .vmem) arg15.view.buf ⟨2, ![3136, 128]⟩ .i8 = N)

include h14 in
/-- The first of a chunk's three transfers. -/
theorem pro_dy {hi : ℕ} (hh : hi < 12) {G : ℕ → ℕ → ℕ → Elt F .fp8e5m2}
    {o : Fin 3 → ℕ} (ho : o = ![hi % 37, 0, 0])
    {h1 : ∀ a, o a + (⟨3, ![1, 3136, 128]⟩ : Shape).size a ≤ (⟨3, ![37, 3136, 128]⟩ : Shape).size a}
    {hr : ∀ a, (Rect.unit (s := ⟨3, ![37, 3136, 128]⟩) o (⟨3, ![1, 3136, 128]⟩ : Shape).size h1).stride a = 1}
    {hs : (Rect.unit (s := ⟨3, ![37, 3136, 128]⟩) o (⟨3, ![1, 3136, 128]⟩ : Shape).size h1).shape.Squeezes ⟨2, ![3136, 128]⟩}
    {o' : Fin 2 → ℕ} (ho' : o' = ![3136 * (hi % 24), 128 * (hi / 24)])
    {h1' : ∀ a, o' a + (⟨2, ![3136, 128]⟩ : Shape).size a ≤ (⟨2, ![75264, 512]⟩ : Shape).size a}
    {hr' : ∀ a, (Rect.unit (s := ⟨2, ![75264, 512]⟩) o' (⟨2, ![3136, 128]⟩ : Shape).size h1').stride a = 1}
    {sm : SemLoc sig} (hsm : sm = .dma (cellOf (K := 13) arg19 hi)) {hsrc hdst hsem}
    {Q : PUnit → sProp (MT nD τ sig Unit (Elt F) ℕ (Pipeline.UD sig nD τ) ℕ)} :
    (IN (F := F) c arg7 arg8 arg9 arg13 arg14 arg15 arg19 Ax Ad Am N qx qd qm G 0 hi : sProp 𝕄)
      ⊢ iprop((MID (F := F) c arg7 arg8 arg9 arg13 arg14 arg15 arg19 Ax Ad Am N qx qd qm G hi 1 hi -∗ Q ⟨⟩)
        -∗ wp frame (wpE (defs₀ (F := F)) Variants.none c none) Set.univ (Prog.lift (.enqueueDma
          (arg8.slice (Rect.unit (s := ⟨2, ![75264, 512]⟩) o' (⟨2, ![3136, 128]⟩ : Shape).size h1') hr')
          (.here ((arg14.slice (Rect.unit (s := ⟨3, ![37, 3136, 128]⟩) o (⟨3, ![1, 3136, 128]⟩ : Shape).size h1) hr).squeeze ⟨2, ![3136, 128]⟩ hs))
          sm hsrc hdst hsem)) Q) := by
  iintro HI Hk
  ihave HI := (IN_open c arg7 arg8 arg9 arg13 arg14 arg15 arg19 Ax Ad Am N qx qd qm (lo := 0) (hi := hi) (by omega)) $$ HI
  unfold BUF
  icases HI with ⟨⟨⟨Ga, Gb⟩, ⟨Ma, Mb⟩, ⟨Xa, Xb⟩⟩, HF, HC, Hs⟩
  imod (batch_alloc' EC (c := (c : Thread nD τ)) () N (DD (F := F) c arg7 arg8 arg9 arg13 arg14 arg15 Ax Ad Am qx qd qm hi) (E := Set.univ)) $$ Hs with HB
  iapply (issue_ring (defs := defs₀ (F := F)) Variants.none none EC (c := (c : Thread nD τ)) (m := arg14) (h := arg8) (lo := 0) (hi := hi) (j := 0) (n := 3) (D := DD (F := F) c arg7 arg8 arg9 arg13 arg14 arg15 Ax Ad Am qx qd qm hi) (by omega) (by omega) (by omega) ho ho'
    hsm (by decide) () N h14 (Entails.of_eq rfl)) $$ [Ga Gb HB]
  · isplitl [Ga]; · iexact Ga
    isplitl [Gb]; · iexact Gb
    iexact HB
  iintro ⟨Ga, Gb, HB⟩
  iapply Hk
  try unfold MID BUF
  isplitl [Ga Gb Ma Mb Xa Xb]
  · isplitl [Ga Gb]
    · isplitl [Ga]; · iexact Ga
      iexact Gb
    isplitl [Ma Mb]
    · isplitl [Ma]; · iexact Ma
      iexact Mb
    · isplitl [Xa]; · iexact Xa
      iexact Xb
  isplitl [HF]; · iexact HF
  isplitl [HC]; · iexact HC
  iexact HB

include h15 in
/-- The second of a chunk's three transfers. -/
theorem pro_mask {hi : ℕ} (hh : hi < 12) {G : ℕ → ℕ → ℕ → Elt F .fp8e5m2}
    {o : Fin 3 → ℕ} (ho : o = ![hi % 13, 0, 0])
    {h1 : ∀ a, o a + (⟨3, ![1, 3136, 128]⟩ : Shape).size a ≤ (⟨3, ![13, 3136, 128]⟩ : Shape).size a}
    {hr : ∀ a, (Rect.unit (s := ⟨3, ![13, 3136, 128]⟩) o (⟨3, ![1, 3136, 128]⟩ : Shape).size h1).stride a = 1}
    {hs : (Rect.unit (s := ⟨3, ![13, 3136, 128]⟩) o (⟨3, ![1, 3136, 128]⟩ : Shape).size h1).shape.Squeezes ⟨2, ![3136, 128]⟩}
    {o' : Fin 2 → ℕ} (ho' : o' = ![3136 * (hi % 24), 128 * (hi / 24)])
    {h1' : ∀ a, o' a + (⟨2, ![3136, 128]⟩ : Shape).size a ≤ (⟨2, ![75264, 512]⟩ : Shape).size a}
    {hr' : ∀ a, (Rect.unit (s := ⟨2, ![75264, 512]⟩) o' (⟨2, ![3136, 128]⟩ : Shape).size h1').stride a = 1}
    {sm : SemLoc sig} (hsm : sm = .dma (cellOf (K := 13) arg19 hi)) {hsrc hdst hsem}
    {Q : PUnit → sProp (MT nD τ sig Unit (Elt F) ℕ (Pipeline.UD sig nD τ) ℕ)} :
    (MID (F := F) c arg7 arg8 arg9 arg13 arg14 arg15 arg19 Ax Ad Am N qx qd qm G hi 1 hi : sProp 𝕄)
      ⊢ iprop((MID (F := F) c arg7 arg8 arg9 arg13 arg14 arg15 arg19 Ax Ad Am N qx qd qm G hi 2 (hi + 1) -∗ Q ⟨⟩)
        -∗ wp frame (wpE (defs₀ (F := F)) Variants.none c none) Set.univ (Prog.lift (.enqueueDma
          (arg9.slice (Rect.unit (s := ⟨2, ![75264, 512]⟩) o' (⟨2, ![3136, 128]⟩ : Shape).size h1') hr')
          (.here ((arg15.slice (Rect.unit (s := ⟨3, ![13, 3136, 128]⟩) o (⟨3, ![1, 3136, 128]⟩ : Shape).size h1) hr).squeeze ⟨2, ![3136, 128]⟩ hs))
          sm hsrc hdst hsem)) Q) := by
  iintro HI Hk
  unfold MID BUF
  icases HI with ⟨⟨⟨Ga, Gb⟩, ⟨Ma, Mb⟩, ⟨Xa, Xb⟩⟩, HF, HC, HB⟩
  iapply (issue_ring (defs := defs₀ (F := F)) Variants.none none EC (c := (c : Thread nD τ)) (m := arg15) (h := arg9) (lo := 0) (hi := hi) (j := 1) (n := 3) (D := DD (F := F) c arg7 arg8 arg9 arg13 arg14 arg15 Ax Ad Am qx qd qm hi) (by omega) (by omega) (by omega) ho ho'
    hsm (by decide) () N h15 (Entails.of_eq rfl)) $$ [Ma Mb HB]
  · isplitl [Ma]; · iexact Ma
    isplitl [Mb]; · iexact Mb
    iexact HB
  iintro ⟨Ma, Mb, HB⟩
  iapply Hk
  try unfold MID BUF
  isplitl [Ga Gb Ma Mb Xa Xb]
  · isplitl [Ga Gb]
    · isplitl [Ga]; · iexact Ga
      iexact Gb
    isplitl [Ma Mb]
    · isplitl [Ma]; · iexact Ma
      iexact Mb
    · isplitl [Xa]; · iexact Xa
      iexact Xb
  isplitl [HF]; · iexact HF
  isplitl [HC]; · iexact HC
  iexact HB

include h13 in
/-- The third of a chunk's three transfers. -/
theorem pro_x {hi : ℕ} (hh : hi < 12) {G : ℕ → ℕ → ℕ → Elt F .fp8e5m2}
    {o : Fin 3 → ℕ} (ho : o = ![hi % 37, 0, 0])
    {h1 : ∀ a, o a + (⟨3, ![1, 3136, 128]⟩ : Shape).size a ≤ (⟨3, ![37, 3136, 128]⟩ : Shape).size a}
    {hr : ∀ a, (Rect.unit (s := ⟨3, ![37, 3136, 128]⟩) o (⟨3, ![1, 3136, 128]⟩ : Shape).size h1).stride a = 1}
    {hs : (Rect.unit (s := ⟨3, ![37, 3136, 128]⟩) o (⟨3, ![1, 3136, 128]⟩ : Shape).size h1).shape.Squeezes ⟨2, ![3136, 128]⟩}
    {o' : Fin 2 → ℕ} (ho' : o' = ![3136 * (hi % 24), 128 * (hi / 24)])
    {h1' : ∀ a, o' a + (⟨2, ![3136, 128]⟩ : Shape).size a ≤ (⟨2, ![75264, 512]⟩ : Shape).size a}
    {hr' : ∀ a, (Rect.unit (s := ⟨2, ![75264, 512]⟩) o' (⟨2, ![3136, 128]⟩ : Shape).size h1').stride a = 1}
    {sm : SemLoc sig} (hsm : sm = .dma (cellOf (K := 13) arg19 hi)) {hsrc hdst hsem}
    {Q : PUnit → sProp (MT nD τ sig Unit (Elt F) ℕ (Pipeline.UD sig nD τ) ℕ)} :
    (MID (F := F) c arg7 arg8 arg9 arg13 arg14 arg15 arg19 Ax Ad Am N qx qd qm G hi 2 (hi + 1) : sProp 𝕄)
      ⊢ iprop((IN (F := F) c arg7 arg8 arg9 arg13 arg14 arg15 arg19 Ax Ad Am N qx qd qm G 0 (hi + 1) -∗ Q ⟨⟩)
        -∗ wp frame (wpE (defs₀ (F := F)) Variants.none c none) Set.univ (Prog.lift (.enqueueDma
          (arg7.slice (Rect.unit (s := ⟨2, ![75264, 512]⟩) o' (⟨2, ![3136, 128]⟩ : Shape).size h1') hr')
          (.here ((arg13.slice (Rect.unit (s := ⟨3, ![37, 3136, 128]⟩) o (⟨3, ![1, 3136, 128]⟩ : Shape).size h1) hr).squeeze ⟨2, ![3136, 128]⟩ hs))
          sm hsrc hdst hsem)) Q) := by
  iintro HI Hk
  unfold MID BUF
  icases HI with ⟨⟨⟨Ga, Gb⟩, ⟨Ma, Mb⟩, ⟨Xa, Xb⟩⟩, HF, HC, HB⟩
  iapply (issue_ring (defs := defs₀ (F := F)) Variants.none none EC (c := (c : Thread nD τ)) (m := arg13) (h := arg7) (lo := 0) (hi := hi) (j := 2) (n := 3) (D := DD (F := F) c arg7 arg8 arg9 arg13 arg14 arg15 Ax Ad Am qx qd qm hi) (by omega) (by omega) (by omega) ho ho'
    hsm (by decide) () N h13 (Entails.of_eq rfl)) $$ [Xa Xb HB]
  · isplitl [Xa]; · iexact Xa
    isplitl [Xb]; · iexact Xb
    iexact HB
  iintro ⟨Xa, Xb, HB⟩
  iapply Hk
  iapply (IN_close c arg7 arg8 arg9 arg13 arg14 arg15 arg19 Ax Ad Am N qx qd qm (G := G) (lo := 0) (hi := hi) (by omega))
  isplitl [Ga Gb Ma Mb Xa Xb]
  · unfold BUF
    isplitl [Ga Gb]
    · isplitl [Ga]; · iexact Ga
      iexact Gb
    isplitl [Ma Mb]
    · isplitl [Ma]; · iexact Ma
      iexact Mb
    · isplitl [Xa]; · iexact Xa
      iexact Xb
  isplitl [HF]; · iexact HF
  isplitl [HC]; · iexact HC
  iexact HB

/-- A load of the two sums whole. -/
theorem acc2_loadw (u0 u1 : Vec F S16x128 .f32) (x) :
    acc2 u0 u1 ((Rect.unit (s := S2x16x128) ![0, 0, 0] S2x16x128.size inb_S2x16x128_S2x16x128_0_0_0).toLoadRect.idx x) = acc2 u0 u1 x := by
  congr 1; funext (a : Fin 3); apply Fin.ext
  match a with
  | 0 => exact (show 0 + 1 * (x 0 : ℕ) = (x 0 : ℕ) by omega)
  | 1 => exact (show 0 + 1 * (x 1 : ℕ) = (x 1 : ℕ) by omega)
  | 2 => exact (show 0 + 1 * (x 2 : ℕ) = (x 2 : ℕ) by omega)

theorem whole3_emb (x : S2x16x128.Idx) :
    (Rect.unit (s := S2x16x128) ![0, 0, 0] S2x16x128.size inb_S2x16x128_S2x16x128_0_0_0).emb x = x := by
  funext (a : Fin 3); apply Fin.ext
  match a with
  | 0 => exact (show 0 + 1 * (x 0 : ℕ) = (x 0 : ℕ) by omega)
  | 1 => exact (show 0 + 1 * (x 1 : ℕ) = (x 1 : ℕ) by omega)
  | 2 => exact (show 0 + 1 * (x 2 : ℕ) = (x 2 : ℕ) by omega)

/-- The sums before a column begins. -/
def zz : Vec F S16x128 .f32 × Vec F S16x128 .f32 := (fun x => k0_pay492 (F := F) (ix3 (0 : Fin 2) (x 0) (x 1)), fun x => k0_pay492 (F := F) (ix3 (1 : Fin 2) (x 0) (x 1)))

theorem zz_eq (w : S2x16x128.Idx) : acc2 (F := F) zz.1 zz.2 w = k0_pay492 (F := F) w := by
  have h2 : (w 0 : ℕ) < 2 := (w 0).isLt
  unfold acc2 zz
  by_cases h : (w 0 : ℕ) = 0
  · rw [if_pos h]
    refine congrArg (a₁ := ix3 (0 : Fin 2) (w 1) (w 2)) (k0_pay492 (F := F)) ?_
    funext (a : Fin 3); apply Fin.ext
    match a with
    | 0 => exact h.symm
    | 1 => rfl
    | 2 => rfl
  · rw [if_neg h]
    refine congrArg (a₁ := ix3 (1 : Fin 2) (w 1) (w 2)) (k0_pay492 (F := F)) ?_
    funext (a : Fin 3); apply Fin.ext
    match a with
    | 0 => exact (show 1 = (w 0 : ℕ) by omega)
    | 1 => rfl
    | 2 => rfl

/-- The two sums are set to zero. -/
theorem store_zero {cs : CoreSpace} {m : Memref sig .tc cs S2x16x128 .f32} {w : Vec F S2x16x128 .f32} (hw : w = k0_pay492 (F := F)) {g : S2x16x128.Idx → Elt F .f32} {hx} {hm}
    {Q : PUnit → sProp (MT nD τ sig Unit (Elt F) ℕ (Pipeline.UD sig nD τ) ℕ)} :
    (own (c : Thread nD τ) m Finset.univ fullShare g : sProp 𝕄) ⊢ iprop((own (c : Thread nD τ) m Finset.univ fullShare (acc2 zz.1 zz.2) -∗ Q ⟨⟩)
        -∗ wp frame (wpE (defs₀ (F := F)) Variants.none c none) Set.univ
          (Prog.lift (.store m (Rect.unit (s := S2x16x128) ![0, 0, 0] S2x16x128.size inb_S2x16x128_S2x16x128_0_0_0) w Finset.univ hx hm)) Q) :=
  store_u (c := (c : Thread nD τ)) _ (fun x => by rw [whole3_emb]; subst hw; exact zz_eq x) fun i hi => by
    exact absurd ((congrArg (· ∈ (Rect.unit (s := S2x16x128) ![0, 0, 0] S2x16x128.size inb_S2x16x128_S2x16x128_0_0_0).set) (whole3_emb i)).mp ((Rect.unit (s := S2x16x128) ![0, 0, 0] S2x16x128.size inb_S2x16x128_S2x16x128_0_0_0).idx_mem i)) hi

/-- A load of a memref owned whole, whatever is read. -/
theorem load_any {cs : CoreSpace} {s : Shape} {e : EltTy} {m : Memref sig .tc cs s e} {r : LoadRect s} {hl : m.view.LoadsAt r}
    {q : PosShare TreeShare} {g : s.Idx → Elt F e}
    {Q : (r.shape.Idx → Elt F e) → sProp (MT nD τ sig Unit (Elt F) ℕ (Pipeline.UD sig nD τ) ℕ)} :
    (own (c : Thread nD τ) m Finset.univ q g : sProp 𝕄) ⊢ iprop((own (c : Thread nD τ) m Finset.univ q g -∗ Q (fun x => g (r.idx x)))
        -∗ wp frame (wpE (defs₀ (F := F)) Variants.none c none) Set.univ (Prog.lift (.load m r hl)) Q) :=
  load_u (c := (c : Thread nD τ)) fun _ => rfl

/-- The index of a scalar. -/
def one1 : S1.Idx := fun (a : Fin 1) => ⟨0, by match a with | 0 => exact Nat.one_pos⟩

theorem one1_eq (x : S1.Idx) : x = one1 := by
  funext (a : Fin 1); apply Fin.ext
  match a with
  | 0 => exact Nat.lt_one_iff.mp (show (x 0 : ℕ) < 1 from (x 0).isLt)

/-- A load of a scalar. -/
theorem load_smem {m : Memref sig .tc .smem S1 .f32} {h1} {hp} {q : PosShare TreeShare} {g : S1.Idx → Elt F .f32}
    {Q : Elt F .f32 → sProp (MT nD τ sig Unit (Elt F) ℕ (Pipeline.UD sig nD τ) ℕ)} :
    (own (c : Thread nD τ) m Finset.univ q g : sProp 𝕄) ⊢ iprop((own (c : Thread nD τ) m Finset.univ q g -∗ Q (g one1))
        -∗ wp frame (wpE (defs₀ (F := F)) Variants.none c none) Set.univ (smemLoad m (Rect.unit (s := S1) ![0] S1.size inb_S1_S1_0) h1 hp) Q) := by
  unfold smemLoad smemLoadElt
  iintro H Hk
  have key := own_load (Λ := Λ₀) (defs := defs₀ (F := F)) (Γ := .empty) (Q := Q) (q := q) (g := g) (c := (c : Thread nD τ)) (m := m) (S := Finset.univ)
    (r := (Rect.unit (s := S1) ![0] S1.size inb_S1_S1_0).toLoadRect) (hl := View.loadsAt_rect (View.loads_smem_one hp h1))
    (k := fun f => Prog.ret (f (Shape.Idx.first (h1.symm ▸ Nat.one_pos)))) Variants.none none Set.univ (fun x => Finset.mem_univ _) (fun _ => g one1) (fun x => congrArg g (one1_eq _))
  iapply key $$ H
  iintro H
  iapply (le_wp_ret frame (wpE (defs₀ (F := F)) Variants.none c none) Set.univ)
  ihave Hk := Hk $$ H
  iexact Hk

include h13 h14 h15 in
set_option maxHeartbeats 2000000 in
theorem pro159 {G : ℕ → ℕ → ℕ → Elt F .fp8e5m2} {g17 : S2x16x128.Idx → Elt F .f32} {Q : BitVec 32 → sProp (MT nD τ sig Unit (Elt F) ℕ (Pipeline.UD sig nD τ) ℕ)} :
    (iprop(IN (F := F) c arg7 arg8 arg9 arg13 arg14 arg15 arg19 Ax Ad Am N qx qd qm G 0 0 ∗ own (c : Thread nD τ) arg17 Finset.univ fullShare g17
      ∗ (iprop(IN (F := F) c arg7 arg8 arg9 arg13 arg14 arg15 arg19 Ax Ad Am N qx qd qm G 0 1 ∗ own (c : Thread nD τ) arg17 Finset.univ fullShare (acc2 zz.1 zz.2)) -∗ Q (BitVec.ofNat 32 (i 0).val))) : sProp 𝕄)
    ⊢ wp frame (wpE (defs₀ (F := F)) Variants.none c none) Set.univ (k0_part159 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20) Q := by
  iintro ⟨HI, HA, Hk⟩
  rw [k0_part159_eq_skeleton]; unfold k0_part159_skel
  simp only [wp_bind]
  iapply (load_any c) $$ HA
  iintro HA
  iapply (store_zero c (w := k0_pay811 (F := F)) rfl) $$ HA
  iintro HA
  iapply (pro_dy c arg7 arg8 arg9 arg13 arg14 arg15 arg19 Ax Ad Am N qx qd qm h14 (hi := 0) (G := G) (by decide)
      (by decide +kernel : k0_off2 0#32 = ![0 % 37, 0, 0]) (by decide +kernel : (![0, 0] : Fin 2 → ℕ) = ![3136 * (0 % 24), 128 * (0 / 24)])
      (congrArg SemLoc.dma (cell_eq arg19 (by decide +kernel : k0_off1 0#32 = ![0 % 13])))) $$ HI
  iintro HI
  iapply (pro_mask c arg7 arg8 arg9 arg13 arg14 arg15 arg19 Ax Ad Am N qx qd qm h15 (hi := 0) (G := G) (by decide)
      (by decide +kernel : k0_off3 0#32 = ![0 % 13, 0, 0]) (by decide +kernel : (![0, 0] : Fin 2 → ℕ) = ![3136 * (0 % 24), 128 * (0 / 24)])
      (congrArg SemLoc.dma (cell_eq arg19 (by decide +kernel : k0_off1 0#32 = ![0 % 13])))) $$ HI
  iintro HI
  iapply (pro_x c arg7 arg8 arg9 arg13 arg14 arg15 arg19 Ax Ad Am N qx qd qm h13 (hi := 0) (G := G) (by decide)
      (by decide +kernel : k0_off2 0#32 = ![0 % 37, 0, 0]) (by decide +kernel : (![0, 0] : Fin 2 → ℕ) = ![3136 * (0 % 24), 128 * (0 / 24)])
      (congrArg SemLoc.dma (cell_eq arg19 (by decide +kernel : k0_off1 0#32 = ![0 % 13])))) $$ HI
  iintro HI
  iapply (le_wp_ret frame (wpE (defs₀ (F := F)) Variants.none c none) Set.univ)
  iapply Hk
  isplitl [HI]; · iexact HI
  iexact HA

include h13 h14 h15 in
set_option maxHeartbeats 2000000 in
theorem pro160 {G : ℕ → ℕ → ℕ → Elt F .fp8e5m2} {Q : PUnit → sProp (MT nD τ sig Unit (Elt F) ℕ (Pipeline.UD sig nD τ) ℕ)} :
    (iprop(IN (F := F) c arg7 arg8 arg9 arg13 arg14 arg15 arg19 Ax Ad Am N qx qd qm G 0 1
      ∗ (MID (F := F) c arg7 arg8 arg9 arg13 arg14 arg15 arg19 Ax Ad Am N qx qd qm G 2 1 2 -∗ Q ⟨⟩)) : sProp 𝕄)
    ⊢ wp frame (wpE (defs₀ (F := F)) Variants.none c none) Set.univ (k0_part160 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20) Q := by
  iintro ⟨HI, Hk⟩
  rw [k0_part160_eq_skeleton]; unfold k0_part160_skel
  simp only [wp_bind]
  iapply (pro_dy c arg7 arg8 arg9 arg13 arg14 arg15 arg19 Ax Ad Am N qx qd qm h14 (hi := 1) (G := G) (by decide)
      (by decide +kernel : k0_off2 1#32 = ![1 % 37, 0, 0]) (by decide +kernel : (![3136, 0] : Fin 2 → ℕ) = ![3136 * (1 % 24), 128 * (1 / 24)])
      (congrArg SemLoc.dma (cell_eq arg19 (by decide +kernel : k0_off1 1#32 = ![1 % 13])))) $$ HI
  iintro HI
  iapply (pro_mask c arg7 arg8 arg9 arg13 arg14 arg15 arg19 Ax Ad Am N qx qd qm h15 (hi := 1) (G := G) (by decide)
      (by decide +kernel : k0_off3 1#32 = ![1 % 13, 0, 0]) (by decide +kernel : (![3136, 0] : Fin 2 → ℕ) = ![3136 * (1 % 24), 128 * (1 / 24)])
      (congrArg SemLoc.dma (cell_eq arg19 (by decide +kernel : k0_off1 1#32 = ![1 % 13])))) $$ HI
  iintro HI
  iapply (pro_x c arg7 arg8 arg9 arg13 arg14 arg15 arg19 Ax Ad Am N qx qd qm h13 (hi := 1) (G := G) (by decide)
      (by decide +kernel : k0_off2 1#32 = ![1 % 37, 0, 0]) (by decide +kernel : (![3136, 0] : Fin 2 → ℕ) = ![3136 * (1 % 24), 128 * (1 / 24)])
      (congrArg SemLoc.dma (cell_eq arg19 (by decide +kernel : k0_off1 1#32 = ![1 % 13])))) $$ HI
  iintro HI
  iapply (pro_dy c arg7 arg8 arg9 arg13 arg14 arg15 arg19 Ax Ad Am N qx qd qm h14 (hi := 2) (G := G) (by decide)
      (by decide +kernel : k0_off2 2#32 = ![2 % 37, 0, 0]) (by decide +kernel : (![6272, 0] : Fin 2 → ℕ) = ![3136 * (2 % 24), 128 * (2 / 24)])
      (congrArg SemLoc.dma (cell_eq arg19 (by decide +kernel : k0_off1 2#32 = ![2 % 13])))) $$ HI
  iintro HI
  iapply (le_wp_ret frame (wpE (defs₀ (F := F)) Variants.none c none) Set.univ)
  iapply Hk
  iexact HI

include h13 h14 h15 in
set_option maxHeartbeats 2000000 in
theorem pro161 {G : ℕ → ℕ → ℕ → Elt F .fp8e5m2} {Q : (Σ' (_ : BitVec 32), BitVec 32) → sProp (MT nD τ sig Unit (Elt F) ℕ (Pipeline.UD sig nD τ) ℕ)} :
    (iprop(MID (F := F) c arg7 arg8 arg9 arg13 arg14 arg15 arg19 Ax Ad Am N qx qd qm G 2 1 2
      ∗ (IN (F := F) c arg7 arg8 arg9 arg13 arg14 arg15 arg19 Ax Ad Am N qx qd qm G 0 4 -∗ Q ⟨4#32, 37#32⟩)) : sProp 𝕄)
    ⊢ wp frame (wpE (defs₀ (F := F)) Variants.none c none) Set.univ (k0_part161 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20) Q := by
  iintro ⟨HI, Hk⟩
  rw [k0_part161_eq_skeleton]; unfold k0_part161_skel
  simp only [wp_bind]
  iapply (pro_mask c arg7 arg8 arg9 arg13 arg14 arg15 arg19 Ax Ad Am N qx qd qm h15 (hi := 2) (G := G) (by decide)
      (by decide +kernel : k0_off3 2#32 = ![2 % 13, 0, 0]) (by decide +kernel : (![6272, 0] : Fin 2 → ℕ) = ![3136 * (2 % 24), 128 * (2 / 24)])
      (congrArg SemLoc.dma (cell_eq arg19 (by decide +kernel : k0_off1 2#32 = ![2 % 13])))) $$ HI
  iintro HI
  iapply (pro_x c arg7 arg8 arg9 arg13 arg14 arg15 arg19 Ax Ad Am N qx qd qm h13 (hi := 2) (G := G) (by decide)
      (by decide +kernel : k0_off2 2#32 = ![2 % 37, 0, 0]) (by decide +kernel : (![6272, 0] : Fin 2 → ℕ) = ![3136 * (2 % 24), 128 * (2 / 24)])
      (congrArg SemLoc.dma (cell_eq arg19 (by decide +kernel : k0_off1 2#32 = ![2 % 13])))) $$ HI
  iintro HI
  iapply (pro_dy c arg7 arg8 arg9 arg13 arg14 arg15 arg19 Ax Ad Am N qx qd qm h14 (hi := 3) (G := G) (by decide)
      (by decide +kernel : k0_off2 3#32 = ![3 % 37, 0, 0]) (by decide +kernel : (![9408, 0] : Fin 2 → ℕ) = ![3136 * (3 % 24), 128 * (3 / 24)])
      (congrArg SemLoc.dma (cell_eq arg19 (by decide +kernel : k0_off1 3#32 = ![3 % 13])))) $$ HI
  iintro HI
  iapply (pro_mask c arg7 arg8 arg9 arg13 arg14 arg15 arg19 Ax Ad Am N qx qd qm h15 (hi := 3) (G := G) (by decide)
      (by decide +kernel : k0_off3 3#32 = ![3 % 13, 0, 0]) (by decide +kernel : (![9408, 0] : Fin 2 → ℕ) = ![3136 * (3 % 24), 128 * (3 / 24)])
      (congrArg SemLoc.dma (cell_eq arg19 (by decide +kernel : k0_off1 3#32 = ![3 % 13])))) $$ HI
  iintro HI
  iapply (pro_x c arg7 arg8 arg9 arg13 arg14 arg15 arg19 Ax Ad Am N qx qd qm h13 (hi := 3) (G := G) (by decide)
      (by decide +kernel : k0_off2 3#32 = ![3 % 37, 0, 0]) (by decide +kernel : (![9408, 0] : Fin 2 → ℕ) = ![3136 * (3 % 24), 128 * (3 / 24)])
      (congrArg SemLoc.dma (cell_eq arg19 (by decide +kernel : k0_off1 3#32 = ![3 % 13])))) $$ HI
  iintro HI
  iapply (le_wp_ret frame (wpE (defs₀ (F := F)) Variants.none c none) Set.univ)
  iapply Hk
  iexact HI

include h13 h14 h15 in
set_option maxHeartbeats 2000000 in
theorem pro162 {G : ℕ → ℕ → ℕ → Elt F .fp8e5m2} (c4 c37 : BitVec 32) {Q : PUnit → sProp (MT nD τ sig Unit (Elt F) ℕ (Pipeline.UD sig nD τ) ℕ)} :
    (iprop(IN (F := F) c arg7 arg8 arg9 arg13 arg14 arg15 arg19 Ax Ad Am N qx qd qm G 0 4
      ∗ (IN (F := F) c arg7 arg8 arg9 arg13 arg14 arg15 arg19 Ax Ad Am N qx qd qm G 0 5 -∗ Q ⟨⟩)) : sProp 𝕄)
    ⊢ wp frame (wpE (defs₀ (F := F)) Variants.none c none) Set.univ (k0_part162 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 c4 c37) Q := by
  iintro ⟨HI, Hk⟩
  rw [k0_part162_eq_skeleton]; unfold k0_part162_skel
  simp only [wp_bind]
  iapply (pro_dy c arg7 arg8 arg9 arg13 arg14 arg15 arg19 Ax Ad Am N qx qd qm h14 (hi := 4) (G := G) (by decide)
      (by decide +kernel : k0_off2 4#32 = ![4 % 37, 0, 0]) (by decide +kernel : (![12544, 0] : Fin 2 → ℕ) = ![3136 * (4 % 24), 128 * (4 / 24)])
      (congrArg SemLoc.dma (cell_eq arg19 (by decide +kernel : k0_off1 4#32 = ![4 % 13])))) $$ HI
  iintro HI
  iapply (pro_mask c arg7 arg8 arg9 arg13 arg14 arg15 arg19 Ax Ad Am N qx qd qm h15 (hi := 4) (G := G) (by decide)
      (by decide +kernel : k0_off3 4#32 = ![4 % 13, 0, 0]) (by decide +kernel : (![12544, 0] : Fin 2 → ℕ) = ![3136 * (4 % 24), 128 * (4 / 24)])
      (congrArg SemLoc.dma (cell_eq arg19 (by decide +kernel : k0_off1 4#32 = ![4 % 13])))) $$ HI
  iintro HI
  iapply (pro_x c arg7 arg8 arg9 arg13 arg14 arg15 arg19 Ax Ad Am N qx qd qm h13 (hi := 4) (G := G) (by decide)
      (by decide +kernel : k0_off2 4#32 = ![4 % 37, 0, 0]) (by decide +kernel : (![12544, 0] : Fin 2 → ℕ) = ![3136 * (4 % 24), 128 * (4 / 24)])
      (congrArg SemLoc.dma (cell_eq arg19 (by decide +kernel : k0_off1 4#32 = ![4 % 13])))) $$ HI
  iintro HI
  iapply (le_wp_ret frame (wpE (defs₀ (F := F)) Variants.none c none) Set.univ)
  iapply Hk
  iexact HI

include h13 h14 h15 in
set_option maxHeartbeats 2000000 in
theorem pro163 {G : ℕ → ℕ → ℕ → Elt F .fp8e5m2} {Q : PUnit → sProp (MT nD τ sig Unit (Elt F) ℕ (Pipeline.UD sig nD τ) ℕ)} :
    (iprop(IN (F := F) c arg7 arg8 arg9 arg13 arg14 arg15 arg19 Ax Ad Am N qx qd qm G 0 5
      ∗ (MID (F := F) c arg7 arg8 arg9 arg13 arg14 arg15 arg19 Ax Ad Am N qx qd qm G 6 2 7 -∗ Q ⟨⟩)) : sProp 𝕄)
    ⊢ wp frame (wpE (defs₀ (F := F)) Variants.none c none) Set.univ (k0_part163 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20) Q := by
  iintro ⟨HI, Hk⟩
  rw [k0_part163_eq_skeleton]; unfold k0_part163_skel
  simp only [wp_bind]
  iapply (pro_dy c arg7 arg8 arg9 arg13 arg14 arg15 arg19 Ax Ad Am N qx qd qm h14 (hi := 5) (G := G) (by decide)
      (by decide +kernel : k0_off2 5#32 = ![5 % 37, 0, 0]) (by decide +kernel : (![15680, 0] : Fin 2 → ℕ) = ![3136 * (5 % 24), 128 * (5 / 24)])
      (congrArg SemLoc.dma (cell_eq arg19 (by decide +kernel : k0_off1 5#32 = ![5 % 13])))) $$ HI
  iintro HI
  iapply (pro_mask c arg7 arg8 arg9 arg13 arg14 arg15 arg19 Ax Ad Am N qx qd qm h15 (hi := 5) (G := G) (by decide)
      (by decide +kernel : k0_off3 5#32 = ![5 % 13, 0, 0]) (by decide +kernel : (![15680, 0] : Fin 2 → ℕ) = ![3136 * (5 % 24), 128 * (5 / 24)])
      (congrArg SemLoc.dma (cell_eq arg19 (by decide +kernel : k0_off1 5#32 = ![5 % 13])))) $$ HI
  iintro HI
  iapply (pro_x c arg7 arg8 arg9 arg13 arg14 arg15 arg19 Ax Ad Am N qx qd qm h13 (hi := 5) (G := G) (by decide)
      (by decide +kernel : k0_off2 5#32 = ![5 % 37, 0, 0]) (by decide +kernel : (![15680, 0] : Fin 2 → ℕ) = ![3136 * (5 % 24), 128 * (5 / 24)])
      (congrArg SemLoc.dma (cell_eq arg19 (by decide +kernel : k0_off1 5#32 = ![5 % 13])))) $$ HI
  iintro HI
  iapply (pro_dy c arg7 arg8 arg9 arg13 arg14 arg15 arg19 Ax Ad Am N qx qd qm h14 (hi := 6) (G := G) (by decide)
      (by decide +kernel : k0_off2 6#32 = ![6 % 37, 0, 0]) (by decide +kernel : (![18816, 0] : Fin 2 → ℕ) = ![3136 * (6 % 24), 128 * (6 / 24)])
      (congrArg SemLoc.dma (cell_eq arg19 (by decide +kernel : k0_off1 6#32 = ![6 % 13])))) $$ HI
  iintro HI
  iapply (pro_mask c arg7 arg8 arg9 arg13 arg14 arg15 arg19 Ax Ad Am N qx qd qm h15 (hi := 6) (G := G) (by decide)
      (by decide +kernel : k0_off3 6#32 = ![6 % 13, 0, 0]) (by decide +kernel : (![18816, 0] : Fin 2 → ℕ) = ![3136 * (6 % 24), 128 * (6 / 24)])
      (congrArg SemLoc.dma (cell_eq arg19 (by decide +kernel : k0_off1 6#32 = ![6 % 13])))) $$ HI
  iintro HI
  iapply (le_wp_ret frame (wpE (defs₀ (F := F)) Variants.none c none) Set.univ)
  iapply Hk
  iexact HI

include h13 h14 h15 in
set_option maxHeartbeats 2000000 in
theorem pro164 {G : ℕ → ℕ → ℕ → Elt F .fp8e5m2} {Q : PUnit → sProp (MT nD τ sig Unit (Elt F) ℕ (Pipeline.UD sig nD τ) ℕ)} :
    (iprop(MID (F := F) c arg7 arg8 arg9 arg13 arg14 arg15 arg19 Ax Ad Am N qx qd qm G 6 2 7
      ∗ (IN (F := F) c arg7 arg8 arg9 arg13 arg14 arg15 arg19 Ax Ad Am N qx qd qm G 0 8 -∗ Q ⟨⟩)) : sProp 𝕄)
    ⊢ wp frame (wpE (defs₀ (F := F)) Variants.none c none) Set.univ (k0_part164 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20) Q := by
  iintro ⟨HI, Hk⟩
  rw [k0_part164_eq_skeleton]; unfold k0_part164_skel
  simp only [wp_bind]
  iapply (pro_x c arg7 arg8 arg9 arg13 arg14 arg15 arg19 Ax Ad Am N qx qd qm h13 (hi := 6) (G := G) (by decide)
      (by decide +kernel : k0_off2 6#32 = ![6 % 37, 0, 0]) (by decide +kernel : (![18816, 0] : Fin 2 → ℕ) = ![3136 * (6 % 24), 128 * (6 / 24)])
      (congrArg SemLoc.dma (cell_eq arg19 (by decide +kernel : k0_off1 6#32 = ![6 % 13])))) $$ HI
  iintro HI
  iapply (pro_dy c arg7 arg8 arg9 arg13 arg14 arg15 arg19 Ax Ad Am N qx qd qm h14 (hi := 7) (G := G) (by decide)
      (by decide +kernel : k0_off2 7#32 = ![7 % 37, 0, 0]) (by decide +kernel : (![21952, 0] : Fin 2 → ℕ) = ![3136 * (7 % 24), 128 * (7 / 24)])
      (congrArg SemLoc.dma (cell_eq arg19 (by decide +kernel : k0_off1 7#32 = ![7 % 13])))) $$ HI
  iintro HI
  iapply (pro_mask c arg7 arg8 arg9 arg13 arg14 arg15 arg19 Ax Ad Am N qx qd qm h15 (hi := 7) (G := G) (by decide)
      (by decide +kernel : k0_off3 7#32 = ![7 % 13, 0, 0]) (by decide +kernel : (![21952, 0] : Fin 2 → ℕ) = ![3136 * (7 % 24), 128 * (7 / 24)])
      (congrArg SemLoc.dma (cell_eq arg19 (by decide +kernel : k0_off1 7#32 = ![7 % 13])))) $$ HI
  iintro HI
  iapply (pro_x c arg7 arg8 arg9 arg13 arg14 arg15 arg19 Ax Ad Am N qx qd qm h13 (hi := 7) (G := G) (by decide)
      (by decide +kernel : k0_off2 7#32 = ![7 % 37, 0, 0]) (by decide +kernel : (![21952, 0] : Fin 2 → ℕ) = ![3136 * (7 % 24), 128 * (7 / 24)])
      (congrArg SemLoc.dma (cell_eq arg19 (by decide +kernel : k0_off1 7#32 = ![7 % 13])))) $$ HI
  iintro HI
  iapply (le_wp_ret frame (wpE (defs₀ (F := F)) Variants.none c none) Set.univ)
  iapply Hk
  iexact HI

include h13 h14 h15 in
set_option maxHeartbeats 2000000 in
theorem pro165 {G : ℕ → ℕ → ℕ → Elt F .fp8e5m2} {Q : PUnit → sProp (MT nD τ sig Unit (Elt F) ℕ (Pipeline.UD sig nD τ) ℕ)} :
    (iprop(IN (F := F) c arg7 arg8 arg9 arg13 arg14 arg15 arg19 Ax Ad Am N qx qd qm G 0 8
      ∗ (MID (F := F) c arg7 arg8 arg9 arg13 arg14 arg15 arg19 Ax Ad Am N qx qd qm G 9 1 9 -∗ Q ⟨⟩)) : sProp 𝕄)
    ⊢ wp frame (wpE (defs₀ (F := F)) Variants.none c none) Set.univ (k0_part165 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20) Q := by
  iintro ⟨HI, Hk⟩
  rw [k0_part165_eq_skeleton]; unfold k0_part165_skel
  simp only [wp_bind]
  iapply (pro_dy c arg7 arg8 arg9 arg13 arg14 arg15 arg19 Ax Ad Am N qx qd qm h14 (hi := 8) (G := G) (by decide)
      (by decide +kernel : k0_off2 8#32 = ![8 % 37, 0, 0]) (by decide +kernel : (![25088, 0] : Fin 2 → ℕ) = ![3136 * (8 % 24), 128 * (8 / 24)])
      (congrArg SemLoc.dma (cell_eq arg19 (by decide +kernel : k0_off1 8#32 = ![8 % 13])))) $$ HI
  iintro HI
  iapply (pro_mask c arg7 arg8 arg9 arg13 arg14 arg15 arg19 Ax Ad Am N qx qd qm h15 (hi := 8) (G := G) (by decide)
      (by decide +kernel : k0_off3 8#32 = ![8 % 13, 0, 0]) (by decide +kernel : (![25088, 0] : Fin 2 → ℕ) = ![3136 * (8 % 24), 128 * (8 / 24)])
      (congrArg SemLoc.dma (cell_eq arg19 (by decide +kernel : k0_off1 8#32 = ![8 % 13])))) $$ HI
  iintro HI
  iapply (pro_x c arg7 arg8 arg9 arg13 arg14 arg15 arg19 Ax Ad Am N qx qd qm h13 (hi := 8) (G := G) (by decide)
      (by decide +kernel : k0_off2 8#32 = ![8 % 37, 0, 0]) (by decide +kernel : (![25088, 0] : Fin 2 → ℕ) = ![3136 * (8 % 24), 128 * (8 / 24)])
      (congrArg SemLoc.dma (cell_eq arg19 (by decide +kernel : k0_off1 8#32 = ![8 % 13])))) $$ HI
  iintro HI
  iapply (pro_dy c arg7 arg8 arg9 arg13 arg14 arg15 arg19 Ax Ad Am N qx qd qm h14 (hi := 9) (G := G) (by decide)
      (by decide +kernel : k0_off2 9#32 = ![9 % 37, 0, 0]) (by decide +kernel : (![28224, 0] : Fin 2 → ℕ) = ![3136 * (9 % 24), 128 * (9 / 24)])
      (congrArg SemLoc.dma (cell_eq arg19 (by decide +kernel : k0_off1 9#32 = ![9 % 13])))) $$ HI
  iintro HI
  iapply (le_wp_ret frame (wpE (defs₀ (F := F)) Variants.none c none) Set.univ)
  iapply Hk
  iexact HI

include h13 h14 h15 in
set_option maxHeartbeats 2000000 in
theorem pro166 {G : ℕ → ℕ → ℕ → Elt F .fp8e5m2} {Q : PUnit → sProp (MT nD τ sig Unit (Elt F) ℕ (Pipeline.UD sig nD τ) ℕ)} :
    (iprop(MID (F := F) c arg7 arg8 arg9 arg13 arg14 arg15 arg19 Ax Ad Am N qx qd qm G 9 1 9
      ∗ (IN (F := F) c arg7 arg8 arg9 arg13 arg14 arg15 arg19 Ax Ad Am N qx qd qm G 0 11 -∗ Q ⟨⟩)) : sProp 𝕄)
    ⊢ wp frame (wpE (defs₀ (F := F)) Variants.none c none) Set.univ (k0_part166 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20) Q := by
  iintro ⟨HI, Hk⟩
  rw [k0_part166_eq_skeleton]; unfold k0_part166_skel
  simp only [wp_bind]
  iapply (pro_mask c arg7 arg8 arg9 arg13 arg14 arg15 arg19 Ax Ad Am N qx qd qm h15 (hi := 9) (G := G) (by decide)
      (by decide +kernel : k0_off3 9#32 = ![9 % 13, 0, 0]) (by decide +kernel : (![28224, 0] : Fin 2 → ℕ) = ![3136 * (9 % 24), 128 * (9 / 24)])
      (congrArg SemLoc.dma (cell_eq arg19 (by decide +kernel : k0_off1 9#32 = ![9 % 13])))) $$ HI
  iintro HI
  iapply (pro_x c arg7 arg8 arg9 arg13 arg14 arg15 arg19 Ax Ad Am N qx qd qm h13 (hi := 9) (G := G) (by decide)
      (by decide +kernel : k0_off2 9#32 = ![9 % 37, 0, 0]) (by decide +kernel : (![28224, 0] : Fin 2 → ℕ) = ![3136 * (9 % 24), 128 * (9 / 24)])
      (congrArg SemLoc.dma (cell_eq arg19 (by decide +kernel : k0_off1 9#32 = ![9 % 13])))) $$ HI
  iintro HI
  iapply (pro_dy c arg7 arg8 arg9 arg13 arg14 arg15 arg19 Ax Ad Am N qx qd qm h14 (hi := 10) (G := G) (by decide)
      (by decide +kernel : k0_off2 10#32 = ![10 % 37, 0, 0]) (by decide +kernel : (![31360, 0] : Fin 2 → ℕ) = ![3136 * (10 % 24), 128 * (10 / 24)])
      (congrArg SemLoc.dma (cell_eq arg19 (by decide +kernel : k0_off1 10#32 = ![10 % 13])))) $$ HI
  iintro HI
  iapply (pro_mask c arg7 arg8 arg9 arg13 arg14 arg15 arg19 Ax Ad Am N qx qd qm h15 (hi := 10) (G := G) (by decide)
      (by decide +kernel : k0_off3 10#32 = ![10 % 13, 0, 0]) (by decide +kernel : (![31360, 0] : Fin 2 → ℕ) = ![3136 * (10 % 24), 128 * (10 / 24)])
      (congrArg SemLoc.dma (cell_eq arg19 (by decide +kernel : k0_off1 10#32 = ![10 % 13])))) $$ HI
  iintro HI
  iapply (pro_x c arg7 arg8 arg9 arg13 arg14 arg15 arg19 Ax Ad Am N qx qd qm h13 (hi := 10) (G := G) (by decide)
      (by decide +kernel : k0_off2 10#32 = ![10 % 37, 0, 0]) (by decide +kernel : (![31360, 0] : Fin 2 → ℕ) = ![3136 * (10 % 24), 128 * (10 / 24)])
      (congrArg SemLoc.dma (cell_eq arg19 (by decide +kernel : k0_off1 10#32 = ![10 % 13])))) $$ HI
  iintro HI
  iapply (le_wp_ret frame (wpE (defs₀ (F := F)) Variants.none c none) Set.univ)
  iapply Hk
  iexact HI

end

end Cert.Kernel.Hand
-- ==== Proof.Body8.lean ====
/-
  A trip of the middle loop: a column is finished, its results are formed, and the next column is summed.
-/
module

public import proofs.«01_k».proof.Proof.Offs
public import proofs.«01_k».proof.Proof.Win
public import proofs.«01_k».proof.Proof.Body1
public import proofs.«01_k».proof.Proof.Body2
public import proofs.«01_k».proof.Proof.T7
public import proofs.«01_k».proof.Proof.Body3
public import proofs.«01_k».proof.Proof.Body5
public import proofs.«01_k».proof.Proof.Body6
public import proofs.«01_k».proof.Proof.Body7
public import proofs.«01_k».proof.Proof.Gen.Kernel.Skeleton
public import Idealize.ShloMosaic.Lib.Pipeline.FrameBody
public import Idealize.SL.BI.BigOpNat

@[expose] public section

set_option maxRecDepth 16384

noncomputable section

namespace Cert.Kernel.Hand

open Cert.Kernel Cert.Kernel.Gen Cert.Own
open Idealize.ShloMosaic Idealize.ShloMosaic.TcCoe Idealize.ShloMosaic.ValueIdx Idealize.ShloMosaic.Transfers
open Idealize.SL Idealize.SL.RA
open Idealize.SL.BI (sProp Storable bigSep bigSep_Ico_succ_bot bigSep_Ico_succ_top)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A loop of no trips. -/
theorem loop0 {c : Thread nD τ} {w : ℕ} {σ : Type} (L : Scf.Loop w) (hok : L.OK) (init : σ) (body : Fin L.trips → σ → Prog (TpuEff nD τ sig (Elt F) Λ₀ c.2) σ)
    (hn : L.trips = 0) {Q : σ → sProp (MT nD τ sig Unit (Elt F) ℕ (Pipeline.UD sig nD τ) ℕ)} :
    (Q init : sProp 𝕄) ⊢ wp frame (wpE (defs₀ (F := F)) Variants.none c none) Set.univ (Scf.Loop.for L hok init body) Q := by
  iintro H
  have key := loop_rule (F := F) L hok init body (fun _ acc => Q acc) 0 hn (fun k acc => absurd k.isLt (by omega)) (Q := Q)
  iapply key $$ H
  iintro %acc H
  iexact H

/-- An array of rows, its first `k` rows replaced. -/
def rowsUp (v : ℕ → Vec F S1x128 .f32) (g : ℕ → ℕ → Elt F .f32) : ℕ → ℕ → ℕ → Elt F .f32
  | 0 => g
  | k + 1 => setR k (v k) (rowsUp v g k)

section Cols
variable (Ax : ℕ → ℕ → Elt F .fp8e4m3) (Ad : ℕ → ℕ → Elt F .fp8e5m2) (Am : ℕ → ℕ → Elt F .i8) (ones : Vec F S16x128 .f32)
  (s1 s2 : Elt F .f32) (Mn Rs Gm : ℕ → ℕ → Elt F .f32)

/-- The two sums of column block `j`. -/
def su (j : ℕ) : Vec F S16x128 .f32 × Vec F S16x128 .f32 := accs Ax Ad Am (24 * j) ones zz 24

/-- The sum of the derivatives, of column block `j`. -/
def dbv (j : ℕ) : Vec F S1x128 .f32 := k0_pay493 s2 (up3 (su Ax Ad Am ones j).1)

/-- The scale's derivative, of column block `j`. -/
def dgv (j : ℕ) : Vec F S1x128 .f32 := k0_pay494 s1 s2 (rowV Mn j) (rowV Rs j) (up3 (su Ax Ad Am ones j).1) (up3 (su Ax Ad Am ones j).2)

/-- The coefficients of the last pass, of column block `j`. -/
def cra (j : ℕ) : Vec F S1x128 .f32 := k0_pay814 s2 (k0_pay490 (rowV Rs j)) (k0_pay491 (rowV Gm j))
def crb (j : ℕ) : Vec F S1x128 .f32 := k0_pay815 s1 (k0_pay490 (rowV Rs j)) (k0_pay491 (rowV Gm j)) (dgv Ax Ad Am ones s1 s2 Mn Rs j)
def crc (j : ℕ) : Vec F S1x128 .f32 :=
  k0_pay816 (k0_pay489 (rowV Mn j)) (k0_pay490 (rowV Rs j)) (k0_pay491 (rowV Gm j)) (dbv Ax Ad Am ones s2 j) (dgv Ax Ad Am ones s1 s2 Mn Rs j)

/-- The result array. -/
def dxA (r l : ℕ) : Elt F .bf16 :=
  dxc (cra s2 Rs Gm (l / 128)) (crb Ax Ad Am ones s1 s2 Mn Rs Gm (l / 128)) (crc Ax Ad Am ones s1 s2 Mn Rs Gm (l / 128))
    (chk Ax (24 * (l / 128) + r / 3136)) (MG Ad Am (24 * (l / 128) + r / 3136)) (r % 3136) (l % 128)

theorem dxA_chk (j b : ℕ) (hb : b < 24) (r l : ℕ) (hr : r < 3136) (hl : l < 128) :
    chk (dxA Ax Ad Am ones s1 s2 Mn Rs Gm) (24 * j + b) r l
      = dxc (cra s2 Rs Gm j) (crb Ax Ad Am ones s1 s2 Mn Rs Gm j) (crc Ax Ad Am ones s1 s2 Mn Rs Gm j) (chk Ax (24 * j + b)) (MG Ad Am (24 * j + b)) r l := by
  unfold chk dxA
  have e1 : (24 * j + b) / 24 = j := by omega
  have e2 : (24 * j + b) % 24 = b := by omega
  rw [e1, e2]
  have e3 : (128 * j + l) / 128 = j := by omega
  have e4 : (128 * j + l) % 128 = l := by omega
  have e5 : (3136 * b + r) / 3136 = b := by omega
  have e6 : (3136 * b + r) % 3136 = r := by omega
  rw [e3, e4, e5, e6]
  unfold chk
  rw [e1, e2]

end Cols

section
variable (c : Dev nD) (i : grid0.Coords) (arg1 : Memref sig .tc .smem S1 .f32) (harg1 : arg1.IsWhole) (arg2 : Memref sig .tc .smem S1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4x128 .f32) (harg5 : arg5.IsWhole) (arg6 : Memref sig .tc .vmem S16x128 .f32) (harg6 : arg6.IsWhole) (arg7 : Memref sig .tc .hbm S75264x512 .fp8e4m3) (harg7 : arg7.IsWhole) (arg8 : Memref sig .tc .hbm S75264x512 .fp8e5m2) (harg8 : arg8.IsWhole) (arg9 : Memref sig .tc .hbm S75264x512 .i8) (harg9 : arg9.IsWhole) (arg10 : Memref sig .tc .hbm S75264x512 .bf16) (harg10 : arg10.IsWhole) (arg11 : Memref sig .tc .vmem S4x128 .f32) (harg11 : arg11.IsWhole) (arg12 : Memref sig .tc .vmem S4x128 .f32) (harg12 : arg12.IsWhole) (arg13 : Memref sig .tc .vmem S37x3136x128 .fp8e4m3) (harg13 : arg13.IsWhole) (arg14 : Memref sig .tc .vmem S37x3136x128 .fp8e5m2) (harg14 : arg14.IsWhole) (arg15 : Memref sig .tc .vmem S13x3136x128 .i8) (harg15 : arg15.IsWhole) (arg16 : Memref sig .tc .vmem S6x3136x128 .bf16) (harg16 : arg16.IsWhole) (arg17 : Memref sig .tc .vmem S2x16x128 .f32) (harg17 : arg17.IsWhole) (arg18 : Memref sig .tc .vmem S8x128 .f32) (harg18 : arg18.IsWhole) (arg19 : DmaSems sig S13) (arg20 : DmaSems sig S6)
variable (Ax : ℕ → ℕ → Elt F .fp8e4m3) (Ad : ℕ → ℕ → Elt F .fp8e5m2) (Am : ℕ → ℕ → Elt F .i8) (N : ℕ) (qx qd qm : PosShare TreeShare)
variable (arg0 v286 : BitVec 32) (a : Fin (k0_t5_loop i).trips)
variable (h13 : sig.dmaCredit .tc (Kind.tc.table .vmem) arg13.view.buf ⟨2, ![3136, 128]⟩ .fp8e4m3 = N)
  (h14 : sig.dmaCredit .tc (Kind.tc.table .vmem) arg14.view.buf ⟨2, ![3136, 128]⟩ .fp8e5m2 = N)
  (h15 : sig.dmaCredit .tc (Kind.tc.table .vmem) arg15.view.buf ⟨2, ![3136, 128]⟩ .i8 = N) (hN0 : 0 < N)
variable {M : ℕ} (h10 : sig.dmaCredit .tc (Kind.tc.table .hbm) arg10.view.buf ⟨2, ![3136, 128]⟩ .bf16 = M) (hM0 : 0 < M)
variable {q1 q2 q3 q4 q5 q6 : PosShare TreeShare} {g1 g2 : S1.Idx → Elt F .f32} {g6 : S16x128.Idx → Elt F .f32} {Mn Rs Gm g11 g12 : ℕ → ℕ → Elt F .f32}

/-- What is held at the start of trip `k` of the middle loop. -/
def I5 (M : ℕ) (q1 q2 q3 q4 q5 q6 : PosShare TreeShare) (g1 g2 : S1.Idx → Elt F .f32) (g6 : S16x128.Idx → Elt F .f32) (Mn Rs Gm g11 g12 : ℕ → ℕ → Elt F .f32) (k : ℕ) :
    sProp (MT nD τ sig Unit (Elt F) ℕ (Pipeline.UD sig nD τ) ℕ) :=
  iprop(IN (F := F) c arg7 arg8 arg9 arg13 arg14 arg15 arg19 Ax Ad Am N qx qd qm (MG Ad Am) (24 * (k + 1)) (min (24 * (k + 1) + 12) 96)
    ∗ own (c : Thread nD τ) arg1 Finset.univ q1 g1 ∗ own (c : Thread nD τ) arg2 Finset.univ q2 g2
    ∗ own (c : Thread nD τ) arg3 Finset.univ q3 (fun i => Mn (i 0 : ℕ) (i 1 : ℕ)) ∗ own (c : Thread nD τ) arg4 Finset.univ q4 (fun i => Rs (i 0 : ℕ) (i 1 : ℕ))
    ∗ own (c : Thread nD τ) arg5 Finset.univ q5 (fun i => Gm (i 0 : ℕ) (i 1 : ℕ)) ∗ own (c : Thread nD τ) arg6 Finset.univ q6 g6
    ∗ own (c : Thread nD τ) arg11 Finset.univ fullShare (fun i => rowsUp (dgv Ax Ad Am g6 (g1 one1) (g2 one1) Mn Rs) g11 k (i 0 : ℕ) (i 1 : ℕ))
    ∗ own (c : Thread nD τ) arg12 Finset.univ fullShare (fun i => rowsUp (dbv Ax Ad Am g6 (g2 one1)) g12 k (i 0 : ℕ) (i 1 : ℕ))
    ∗ own (c : Thread nD τ) arg17 Finset.univ fullShare (acc2 (su Ax Ad Am g6 k).1 (su Ax Ad Am g6 k).2)
    ∗ (∃ gc : ℕ → ℕ → Elt F .f32, own (c : Thread nD τ) arg18 Finset.univ fullShare (fun i => gc (i 0 : ℕ) (i 1 : ℕ)))
    ∗ OUTB (F := F) (c : Thread nD τ) arg16 arg10 arg20 (dxA Ax Ad Am g6 (g1 one1) (g2 one1) Mn Rs Gm) M (24 * k - 6) (24 * k - 1) (fun q => q + 1 = 24 * k)
    ∗ (∃ W', owes (c : Thread nD τ) 0 W'))

include h13 h14 h15 hN0 h10 hM0

set_option maxHeartbeats 4000000 in
/-- The loop over a column's chunks inside a trip of the middle loop. -/
theorem t6_all (arg21 : BitVec 32) {gc : ℕ → ℕ → Elt F .f32} (h0 : rowV gc 0 = cra (g2 one1) Rs Gm a) (h1 : rowV gc 1 = crb Ax Ad Am g6 (g1 one1) (g2 one1) Mn Rs Gm a)
    (h2 : rowV gc 2 = crc Ax Ad Am g6 (g1 one1) (g2 one1) Mn Rs Gm a) {Q : Unit → sProp (MT nD τ sig Unit (Elt F) ℕ (Pipeline.UD sig nD τ) ℕ)} :
    (iprop(IN (F := F) c arg7 arg8 arg9 arg13 arg14 arg15 arg19 Ax Ad Am N qx qd qm (MG Ad Am) (24 * ((a : ℕ) + 1) + 0) (min ((24 * ((a : ℕ) + 1) + 0) + 12) 96)
      ∗ own (c : Thread nD τ) arg6 Finset.univ q6 g6
      ∗ own (c : Thread nD τ) arg17 Finset.univ fullShare (acc2 (accs Ax Ad Am (24 * ((a : ℕ) + 1)) g6 zz 0).1 (accs Ax Ad Am (24 * ((a : ℕ) + 1)) g6 zz 0).2)
      ∗ own (c : Thread nD τ) arg18 Finset.univ fullShare (fun i => gc (i 0 : ℕ) (i 1 : ℕ))
      ∗ OUTB (F := F) (c : Thread nD τ) arg16 arg10 arg20 (dxA Ax Ad Am g6 (g1 one1) (g2 one1) Mn Rs Gm) M ((24 * (a : ℕ) + 0) - 6) ((24 * (a : ℕ) + 0) - 1) (fun q => q + 1 = (24 * (a : ℕ) + 0))
      ∗ (∃ W', owes (c : Thread nD τ) 0 W')) : sProp 𝕄)
    ⊢ iprop((iprop(IN (F := F) c arg7 arg8 arg9 arg13 arg14 arg15 arg19 Ax Ad Am N qx qd qm (MG Ad Am) (24 * ((a : ℕ) + 1) + 24) (min ((24 * ((a : ℕ) + 1) + 24) + 12) 96)
      ∗ own (c : Thread nD τ) arg6 Finset.univ q6 g6
      ∗ own (c : Thread nD τ) arg17 Finset.univ fullShare (acc2 (accs Ax Ad Am (24 * ((a : ℕ) + 1)) g6 zz 24).1 (accs Ax Ad Am (24 * ((a : ℕ) + 1)) g6 zz 24).2)
      ∗ own (c : Thread nD τ) arg18 Finset.univ fullShare (fun i => gc (i 0 : ℕ) (i 1 : ℕ))
      ∗ OUTB (F := F) (c : Thread nD τ) arg16 arg10 arg20 (dxA Ax Ad Am g6 (g1 one1) (g2 one1) Mn Rs Gm) M ((24 * (a : ℕ) + 24) - 6) ((24 * (a : ℕ) + 24) - 1) (fun q => q + 1 = (24 * (a : ℕ) + 24))
      ∗ (∃ W', owes (c : Thread nD τ) 0 W')) -∗ Q ⟨⟩)
      -∗ wp frame (wpE (defs₀ (F := F)) Variants.none c none) Set.univ (Scf.Loop.for (k0_t6_loop i) (k0_t6_ok i) ⟨⟩ (k0_t6_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 a arg21)) Q) := by
  have ha : (a : ℕ) < 3 := lt_of_lt_of_eq a.isLt (t5_trips i)
  have key := loop_rule (F := F) (c := (c : Thread nD τ)) (k0_t6_loop i) (k0_t6_ok i) () (k0_t6_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 a arg21)
    (fun b _ => iprop(IN (F := F) c arg7 arg8 arg9 arg13 arg14 arg15 arg19 Ax Ad Am N qx qd qm (MG Ad Am) (24 * ((a : ℕ) + 1) + b) (min ((24 * ((a : ℕ) + 1) + b) + 12) 96)
      ∗ own (c : Thread nD τ) arg6 Finset.univ q6 g6
      ∗ own (c : Thread nD τ) arg17 Finset.univ fullShare (acc2 (accs Ax Ad Am (24 * ((a : ℕ) + 1)) g6 zz b).1 (accs Ax Ad Am (24 * ((a : ℕ) + 1)) g6 zz b).2)
      ∗ own (c : Thread nD τ) arg18 Finset.univ fullShare (fun i => gc (i 0 : ℕ) (i 1 : ℕ))
      ∗ OUTB (F := F) (c : Thread nD τ) arg16 arg10 arg20 (dxA Ax Ad Am g6 (g1 one1) (g2 one1) Mn Rs Gm) M ((24 * (a : ℕ) + b) - 6) ((24 * (a : ℕ) + b) - 1) (fun q => q + 1 = (24 * (a : ℕ) + b))
      ∗ (∃ W', owes (c : Thread nD τ) 0 W'))) 24 (t6_trips i)
    (fun b acc => by
      iintro ⟨HI, H6, HA, H8, HOut, %W, HO⟩
      iapply (t6_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm arg0 arg21 a b h13 h14 h15 hN0 h10 hM0 (ra := cra (g2 one1) Rs Gm a) (rb := crb Ax Ad Am g6 (g1 one1) (g2 one1) Mn Rs Gm a) (rc := crc Ax Ad Am g6 (g1 one1) (g2 one1) Mn Rs Gm a)
        h0 h1 h2
        (fun r l hr hl => dxA_chk Ax Ad Am g6 (g1 one1) (g2 one1) Mn Rs Gm a b (lt_of_lt_of_eq b.isLt (t6_trips i)) r l hr hl)) $$ [HI H6 HA H8 HOut HO]
      · isplitl [HI]; · iexact HI
        isplitl [H6]; · iexact H6
        isplitl [HA]; · iexact HA
        isplitl [H8]; · iexact H8
        isplitl [HOut]; · iexact HOut
        iexact HO
      iintro ⟨HI, H6, HA, H8, HOut, HO⟩
      isplitl [HI]; · iexact HI
      isplitl [H6]; · iexact H6
      isplitl [HA]; · iexact HA
      isplitl [H8]; · iexact H8
      isplitl [HOut]; · iexact HOut
      iexact HO) (Q := Q)
  iintro H Hk
  iapply key $$ H
  iintro %acc H
  iapply Hk
  iexact H

set_option maxHeartbeats 4000000 in
/-- A trip of the middle loop. -/
theorem t5_trip :
    I5 (F := F) c arg1 arg2 arg3 arg4 arg5 arg6 arg7 arg8 arg9 arg10 arg11 arg12 arg13 arg14 arg15 arg16 arg17 arg18 arg19 arg20 Ax Ad Am N qx qd qm M q1 q2 q3 q4 q5 q6 g1 g2 g6 Mn Rs Gm g11 g12 (a : ℕ)
    ⊢ (wp frame (wpE (defs₀ (F := F)) Variants.none c none) Set.univ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 v286 a ⟨⟩)
        (fun _ => I5 (F := F) c arg1 arg2 arg3 arg4 arg5 arg6 arg7 arg8 arg9 arg10 arg11 arg12 arg13 arg14 arg15 arg16 arg17 arg18 arg19 arg20 Ax Ad Am N qx qd qm M q1 q2 q3 q4 q5 q6 g1 g2 g6 Mn Rs Gm g11 g12 ((a : ℕ) + 1)) : sProp 𝕄) := by
  have ha : (a : ℕ) < 3 := lt_of_lt_of_eq a.isLt (t5_trips i)
  unfold k0_t5_body
  simp only [wp_bind]
  conv_lhs => unfold I5
  iintro ⟨HI, H1, H2, H3, H4, H5, H6, H11, H12, HA, ⟨%gc, H8⟩, HOut, %W, HO⟩
  rw [k0_part89_eq_skeleton]; unfold k0_part89_skel
  simp only [wp_bind]
  iapply (load_smem c) $$ H1
  iintro H1
  iapply (load_smem c) $$ H2
  iintro H2
  iapply (load_row (off52_eq i a)) $$ H3
  iintro H3
  iapply (load_row (off52_eq i a)) $$ H4
  iintro H4
  iapply (load_row (off52_eq i a)) $$ H5
  iintro H5
  iapply (load_u (acc2_load0 _ _)) $$ HA
  iintro HA
  iapply (load_u (acc2_load1 _ _)) $$ HA
  iintro HA
  iapply (load_any c) $$ HA
  iintro HA
  iapply (store_zero c rfl) $$ HA
  iintro HA
  iapply (load_row (off52_eq i a)) $$ H12
  iintro H12
  iapply (store_row (off52_eq i a)) $$ H12
  iintro H12
  iapply (load_row (off52_eq i a)) $$ H11
  iintro H11
  iapply (le_wp_ret frame (wpE (defs₀ (F := F)) Variants.none c none) Set.univ)
  dsimp only
  iapply (store_row (off52_eq i a)) $$ H11
  iintro H11
  iapply (load_row (k := 0) rfl) $$ H8
  iintro H8
  iapply (store_row (k := 0) rfl) $$ H8
  iintro H8
  iapply (load_row (k := 1) rfl) $$ H8
  iintro H8
  iapply (store_row (k := 1) rfl) $$ H8
  iintro H8
  iapply (load_row (k := 2) rfl) $$ H8
  iintro H8
  iapply (store_row (k := 2) rfl) $$ H8
  iintro H8
  iapply (t6_all c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm arg0 a h13 h14 h15 hN0 h10 hM0 (Scf.iv v286 1#32 a)
        ((row_set_ne (by decide) _ _).trans ((row_set_ne (by decide) _ _).trans (row_set _ _ _))) ((row_set_ne (by decide) _ _).trans (row_set _ _ _)) (row_set _ _ _)) $$ [HI H6 HA H8 HOut HO]
  · isplitl [HI]; · iexact HI
    isplitl [H6]; · iexact H6
    isplitl [HA]; · iexact HA
    isplitl [H8]; · iexact H8
    isplitl [HOut]; · iexact HOut
    iexists W; iexact HO
  iintro ⟨HI, H6, HA, H8, HOut, HO⟩
  iapply (loop0 _ _ _ _ (t8_trips i))
  iapply (le_wp_ret frame (wpE (defs₀ (F := F)) Variants.none c none) Set.univ)
  unfold I5
  isplitl [HI]; · iexact HI
  isplitl [H1]; · iexact H1
  isplitl [H2]; · iexact H2
  isplitl [H3]; · iexact H3
  isplitl [H4]; · iexact H4
  isplitl [H5]; · iexact H5
  isplitl [H6]; · iexact H6
  isplitl [H11]; · iexact H11
  isplitl [H12]; · iexact H12
  isplitl [HA]; · iexact HA
  isplitl [H8]; · iexists _; iexact H8
  isplitl [HOut]; · iexact HOut
  iexact HO

end

end Cert.Kernel.Hand
-- ==== Proof.Body9.lean ====
/-
  The whole region body: what it is given, and what it leaves.
-/
module

public import proofs.«01_k».proof.Proof.Offs
public import proofs.«01_k».proof.Proof.Win
public import proofs.«01_k».proof.Proof.Body1
public import proofs.«01_k».proof.Proof.Body2
public import proofs.«01_k».proof.Proof.T7
public import proofs.«01_k».proof.Proof.Body3
public import proofs.«01_k».proof.Proof.Body8
public import proofs.«01_k».proof.Proof.Gen.Kernel.Skeleton
public import Idealize.ShloMosaic.Lib.Pipeline.FrameBody
public import Idealize.SL.BI.BigOpNat

@[expose] public section

set_option maxRecDepth 16384

noncomputable section

namespace Cert.Kernel.Hand

open Cert.Kernel Cert.Kernel.Gen Cert.Own
open Idealize.ShloMosaic Idealize.ShloMosaic.TcCoe Idealize.ShloMosaic.ValueIdx Idealize.ShloMosaic.Transfers
open Idealize.SL Idealize.SL.RA
open Idealize.SL.BI (sProp Storable bigSep bigSep_Ico_succ_bot bigSep_Ico_succ_top)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (i : grid0.Coords) (arg1 : Memref sig .tc .smem S1 .f32) (harg1 : arg1.IsWhole) (arg2 : Memref sig .tc .smem S1 .f32) (harg2 : arg2.IsWhole) (arg3 : Memref sig .tc .vmem S4x128 .f32) (harg3 : arg3.IsWhole) (arg4 : Memref sig .tc .vmem S4x128 .f32) (harg4 : arg4.IsWhole) (arg5 : Memref sig .tc .vmem S4x128 .f32) (harg5 : arg5.IsWhole) (arg6 : Memref sig .tc .vmem S16x128 .f32) (harg6 : arg6.IsWhole) (arg7 : Memref sig .tc .hbm S75264x512 .fp8e4m3) (harg7 : arg7.IsWhole) (arg8 : Memref sig .tc .hbm S75264x512 .fp8e5m2) (harg8 : arg8.IsWhole) (arg9 : Memref sig .tc .hbm S75264x512 .i8) (harg9 : arg9.IsWhole) (arg10 : Memref sig .tc .hbm S75264x512 .bf16) (harg10 : arg10.IsWhole) (arg11 : Memref sig .tc .vmem S4x128 .f32) (harg11 : arg11.IsWhole) (arg12 : Memref sig .tc .vmem S4x128 .f32) (harg12 : arg12.IsWhole) (arg13 : Memref sig .tc .vmem S37x3136x128 .fp8e4m3) (harg13 : arg13.IsWhole) (arg14 : Memref sig .tc .vmem S37x3136x128 .fp8e5m2) (harg14 : arg14.IsWhole) (arg15 : Memref sig .tc .vmem S13x3136x128 .i8) (harg15 : arg15.IsWhole) (arg16 : Memref sig .tc .vmem S6x3136x128 .bf16) (harg16 : arg16.IsWhole) (arg17 : Memref sig .tc .vmem S2x16x128 .f32) (harg17 : arg17.IsWhole) (arg18 : Memref sig .tc .vmem S8x128 .f32) (harg18 : arg18.IsWhole) (arg19 : DmaSems sig S13) (arg20 : DmaSems sig S6)
variable (Ax : ℕ → ℕ → Elt F .fp8e4m3) (Ad : ℕ → ℕ → Elt F .fp8e5m2) (Am : ℕ → ℕ → Elt F .i8) (N : ℕ) (qx qd qm : PosShare TreeShare)

/-- Before any chunk is asked for. -/
theorem IN_start {G : ℕ → ℕ → ℕ → Elt F .fp8e5m2} {g13 : S37x3136x128.Idx → Elt F .fp8e4m3} {g14 : S37x3136x128.Idx → Elt F .fp8e5m2} {g15 : S13x3136x128.Idx → Elt F .i8} :
    (iprop(own (c : Thread nD τ) arg13 Finset.univ fullShare g13 ∗ own (c : Thread nD τ) arg14 Finset.univ fullShare g14 ∗ own (c : Thread nD τ) arg15 Finset.univ fullShare g15
      ∗ own (c : Thread nD τ) arg7 Finset.univ qx (fun i => Ax (i 0 : ℕ) (i 1 : ℕ)) ∗ own (c : Thread nD τ) arg8 Finset.univ qd (fun i => Ad (i 0 : ℕ) (i 1 : ℕ))
      ∗ own (c : Thread nD τ) arg9 Finset.univ qm (fun i => Am (i 0 : ℕ) (i 1 : ℕ)) ∗ bigSep (Finset.Ico 0 13) (Cell (F := F) c arg19)) : sProp 𝕄)
    ⊢ IN (F := F) c arg7 arg8 arg9 arg13 arg14 arg15 arg19 Ax Ad Am N qx qd qm G 0 0 := by
  unfold IN BUF RX
  rw [freeS_self, freeS_self, restS_self, Finset.Ico_self, BI.bigSep_empty]
  iintro ⟨HX, HG, HM, H7, H8, H9, HC⟩
  isplitl [HX HG HM H7 H8 H9]
  · isplitl [HG H8]
    · isplitl [HG]
      · iexists g14
        isplitl [HG]; · iexact HG
        ipureintro; exact fun q h => absurd h (Nat.not_lt_zero q)
      · iexact H8
    isplitl [HM H9]
    · isplitl [HM]
      · iexists g15
        isplitl [HM]; · iexact HM
        ipureintro; exact fun q h => absurd h (Nat.not_lt_zero q)
      · iexact H9
    · isplitl [HX]
      · iexists g13
        isplitl [HX]; · iexact HX
        ipureintro; exact fun q h => absurd h (Nat.not_lt_zero q)
      · iexact H7
  isplitr
  · iempintro
  iexact HC

/-- After every chunk has arrived. -/
theorem IN_end {G : ℕ → ℕ → ℕ → Elt F .fp8e5m2} :
    IN (F := F) c arg7 arg8 arg9 arg13 arg14 arg15 arg19 Ax Ad Am N qx qd qm G 96 96
    ⊢ (iprop((∃ gx, own (c : Thread nD τ) arg13 Finset.univ fullShare gx ∗ ⌜∀ q, q < 96 → 96 ≤ q + 37 → ∀ i : S37x3136x128.Idx, (i 0 : ℕ) = q % 37 → gx i = chk Ax q (i 1 : ℕ) (i 2 : ℕ)⌝)
      ∗ (∃ gg, own (c : Thread nD τ) arg14 Finset.univ fullShare gg ∗ ⌜∀ q, q < 96 → 96 ≤ q + 37 → ∀ i : S37x3136x128.Idx, (i 0 : ℕ) = q % 37 → gg i = G q (i 1 : ℕ) (i 2 : ℕ)⌝)
      ∗ (∃ g15, own (c : Thread nD τ) arg15 Finset.univ fullShare g15)
      ∗ own (c : Thread nD τ) arg7 Finset.univ qx (fun i => Ax (i 0 : ℕ) (i 1 : ℕ)) ∗ own (c : Thread nD τ) arg8 Finset.univ qd (fun i => Ad (i 0 : ℕ) (i 1 : ℕ))
      ∗ own (c : Thread nD τ) arg9 Finset.univ qm (fun i => Am (i 0 : ℕ) (i 1 : ℕ)) ∗ bigSep (Finset.Ico 96 109) (Cell (F := F) c arg19)) : sProp 𝕄) := by
  unfold IN BUF RX
  rw [freeS_self, freeS_self, restS_self]
  iintro ⟨⟨⟨⟨%gg, HG, %hg⟩, H8⟩, ⟨⟨%gm, HM, %hm⟩, H9⟩, ⟨⟨%gx, HX, %hx⟩, H7⟩⟩, HF, HC⟩
  isplitl [HX]
  · iexists gx
    isplitl [HX]; · iexact HX
    ipureintro; exact hx
  isplitl [HG]
  · iexists gg
    isplitl [HG]; · iexact HG
    ipureintro; exact hg
  isplitl [HM]; · iexists gm; iexact HM
  isplitl [H7]; · iexact H7
  isplitl [H8]; · iexact H8
  isplitl [H9]; · iexact H9
  iexact HC

/-- Before any result chunk. -/
theorem OUT_start {A : ℕ → ℕ → Elt F .bf16} {M : ℕ} {P : ℕ → Prop} (hP : ∀ q, ¬ P q) {g16 : S6x3136x128.Idx → Elt F .bf16} {g10 : S75264x512.Idx → Elt F .bf16} :
    (iprop(own (c : Thread nD τ) arg16 Finset.univ fullShare g16 ∗ own (c : Thread nD τ) arg10 Finset.univ fullShare g10 ∗ bigSep (Finset.Ico 0 6) (OCell (F := F) (c : Thread nD τ) arg20)) : sProp 𝕄)
    ⊢ OUTB (F := F) (c : Thread nD τ) arg16 arg10 arg20 A M 0 0 P := by
  unfold OUTB
  rw [freeS_self, restS_self, Finset.Ico_self, BI.bigSep_empty]
  iintro ⟨H16, H10, HC⟩
  isplitl [H16]
  · iexists g16
    isplitl [H16]; · iexact H16
    ipureintro; exact fun q h => absurd h (hP q)
  isplitl [H10]
  · iexists g10
    isplitl [H10]; · iexact H10
    ipureintro; exact fun i h => absurd h (Nat.not_lt_zero _)
  isplitr
  · iempintro
  iexact HC

theorem chunkOf_lt (i : S75264x512.Idx) : chunkOf i < 96 := by
  have h0 : (i 0 : ℕ) < 75264 := (i 0).isLt
  have h1 : (i 1 : ℕ) < 512 := (i 1).isLt
  unfold chunkOf; omega

/-- After every result chunk. -/
theorem OUT_end {A : ℕ → ℕ → Elt F .bf16} {M : ℕ} {P : ℕ → Prop} :
    OUTB (F := F) (c : Thread nD τ) arg16 arg10 arg20 A M 96 96 P
    ⊢ (iprop((∃ g16, own (c : Thread nD τ) arg16 Finset.univ fullShare g16) ∗ own (c : Thread nD τ) arg10 Finset.univ fullShare (fun i => A (i 0 : ℕ) (i 1 : ℕ))
      ∗ bigSep (Finset.Ico 96 102) (OCell (F := F) (c : Thread nD τ) arg20)) : sProp 𝕄) := by
  unfold OUTB
  rw [freeS_self, restS_self]
  iintro ⟨⟨%g16, H16, %h16⟩, ⟨%g10, H10, %h10⟩, HF, HC⟩
  isplitl [H16]; · iexists g16; iexact H16
  isplitl [H10]
  · iapply (own_congr (fun i _ => h10 i (chunkOf_lt i))) $$ H10
  iexact HC

variable (h13 : sig.dmaCredit .tc (Kind.tc.table .vmem) arg13.view.buf ⟨2, ![3136, 128]⟩ .fp8e4m3 = N)
  (h14 : sig.dmaCredit .tc (Kind.tc.table .vmem) arg14.view.buf ⟨2, ![3136, 128]⟩ .fp8e5m2 = N)
  (h15 : sig.dmaCredit .tc (Kind.tc.table .vmem) arg15.view.buf ⟨2, ![3136, 128]⟩ .i8 = N) (hN0 : 0 < N)
variable {M : ℕ} (h10 : sig.dmaCredit .tc (Kind.tc.table .hbm) arg10.view.buf ⟨2, ![3136, 128]⟩ .bf16 = M) (hM0 : 0 < M)
variable {q1 q2 q3 q4 q5 q6 : PosShare TreeShare} {g1 g2 : S1.Idx → Elt F .f32} {g6 : S16x128.Idx → Elt F .f32} {Mn Rs Gm g11 g12 : ℕ → ℕ → Elt F .f32}

include h13 h14 h15 hN0 in
set_option maxHeartbeats 2000000 in
/-- The first loop. -/
theorem t1_all (arg0 : BitVec 32) {Q : Unit → sProp (MT nD τ sig Unit (Elt F) ℕ (Pipeline.UD sig nD τ) ℕ)} :
    (iprop(IN (F := F) c arg7 arg8 arg9 arg13 arg14 arg15 arg19 Ax Ad Am N qx qd qm (MG Ad Am) 0 12
      ∗ own (c : Thread nD τ) arg6 Finset.univ q6 g6
      ∗ own (c : Thread nD τ) arg17 Finset.univ fullShare (acc2 zz.1 zz.2)
      ∗ (∃ W', owes (c : Thread nD τ) 0 W')) : sProp 𝕄)
    ⊢ iprop((iprop(IN (F := F) c arg7 arg8 arg9 arg13 arg14 arg15 arg19 Ax Ad Am N qx qd qm (MG Ad Am) 24 36
      ∗ own (c : Thread nD τ) arg6 Finset.univ q6 g6
      ∗ own (c : Thread nD τ) arg17 Finset.univ fullShare (acc2 (su Ax Ad Am g6 0).1 (su Ax Ad Am g6 0).2)
      ∗ (∃ W', owes (c : Thread nD τ) 0 W')) -∗ Q ⟨⟩)
      -∗ wp frame (wpE (defs₀ (F := F)) Variants.none c none) Set.univ (Scf.Loop.for (k0_t1_loop i) (k0_t1_ok i) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0)) Q) := by
  have key := loop_rule (F := F) (c := (c : Thread nD τ)) (k0_t1_loop i) (k0_t1_ok i) () (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0)
    (fun b _ => iprop(IN (F := F) c arg7 arg8 arg9 arg13 arg14 arg15 arg19 Ax Ad Am N qx qd qm (MG Ad Am) b (b + 12)
      ∗ own (c : Thread nD τ) arg6 Finset.univ q6 g6
      ∗ own (c : Thread nD τ) arg17 Finset.univ fullShare (acc2 (accs Ax Ad Am 0 g6 zz b).1 (accs Ax Ad Am 0 g6 zz b).2)
      ∗ (∃ W', owes (c : Thread nD τ) 0 W'))) 24 (t1_trips i)
    (fun b acc => by
      iintro ⟨HI, H6, HA, %W, HO⟩
      iapply (t1_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm arg0 b h13 h14 h15 hN0 (u := zz))
      isplitl [HI]; · iexact HI
      isplitl [H6]; · iexact H6
      isplitl [HA]; · iexact HA
      isplitl [HO]; · iexact HO
      iintro H
      iexact H) (Q := Q)
  iintro H Hk
  iapply key $$ [H]
  · iexact H
  iintro %acc H
  iapply Hk
  iexact H

include h13 h14 h15 hN0 h10 hM0 in
set_option maxHeartbeats 2000000 in
/-- The middle loop. -/
theorem t5_all (arg0 v286 : BitVec 32) {Q : Unit → sProp (MT nD τ sig Unit (Elt F) ℕ (Pipeline.UD sig nD τ) ℕ)} :
    (I5 (F := F) c arg1 arg2 arg3 arg4 arg5 arg6 arg7 arg8 arg9 arg10 arg11 arg12 arg13 arg14 arg15 arg16 arg17 arg18 arg19 arg20 Ax Ad Am N qx qd qm M q1 q2 q3 q4 q5 q6 g1 g2 g6 Mn Rs Gm g11 g12 0 : sProp 𝕄)
    ⊢ iprop((I5 (F := F) c arg1 arg2 arg3 arg4 arg5 arg6 arg7 arg8 arg9 arg10 arg11 arg12 arg13 arg14 arg15 arg16 arg17 arg18 arg19 arg20 Ax Ad Am N qx qd qm M q1 q2 q3 q4 q5 q6 g1 g2 g6 Mn Rs Gm g11 g12 3 -∗ Q ⟨⟩)
      -∗ wp frame (wpE (defs₀ (F := F)) Variants.none c none) Set.univ (Scf.Loop.for (k0_t5_loop i) (k0_t5_ok i) ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 v286)) Q) := by
  have key := loop_rule (F := F) (c := (c : Thread nD τ)) (k0_t5_loop i) (k0_t5_ok i) () (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 v286)
    (fun b _ => I5 (F := F) c arg1 arg2 arg3 arg4 arg5 arg6 arg7 arg8 arg9 arg10 arg11 arg12 arg13 arg14 arg15 arg16 arg17 arg18 arg19 arg20 Ax Ad Am N qx qd qm M q1 q2 q3 q4 q5 q6 g1 g2 g6 Mn Rs Gm g11 g12 b) 3 (t5_trips i)
    (fun b acc => t5_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm arg0 v286 b h13 h14 h15 hN0 h10 hM0) (Q := Q)
  iintro H Hk
  iapply key $$ [H]
  · iexact H
  iintro %acc H
  iapply Hk
  iexact H

include h10 hM0 in
set_option maxHeartbeats 2000000 in
/-- The last loop. -/
theorem t15_all (arg0 : BitVec 32) (v293 v294 : Elt F .f32) (v296 v298 v300 v314 v321 : FVec F S1x128 .f32) (v349 : BitVec 32)
    {gx : S37x3136x128.Idx → Elt F .fp8e4m3} {gg : S37x3136x128.Idx → Elt F .fp8e5m2}
    (hx : ∀ q, q < 96 → 96 ≤ q + 37 → ∀ i : S37x3136x128.Idx, (i 0 : ℕ) = q % 37 → gx i = chk Ax q (i 1 : ℕ) (i 2 : ℕ))
    (hg : ∀ q, q < 96 → 96 ≤ q + 37 → ∀ i : S37x3136x128.Idx, (i 0 : ℕ) = q % 37 → gg i = MG Ad Am q (i 1 : ℕ) (i 2 : ℕ))
    {gc : ℕ → ℕ → Elt F .f32} (h0 : rowV gc 0 = cra (g2 one1) Rs Gm 3) (h1 : rowV gc 1 = crb Ax Ad Am g6 (g1 one1) (g2 one1) Mn Rs Gm 3)
    (h2 : rowV gc 2 = crc Ax Ad Am g6 (g1 one1) (g2 one1) Mn Rs Gm 3) {Q : Unit → sProp (MT nD τ sig Unit (Elt F) ℕ (Pipeline.UD sig nD τ) ℕ)} :
    (iprop(own (c : Thread nD τ) arg13 Finset.univ fullShare gx ∗ own (c : Thread nD τ) arg14 Finset.univ fullShare gg
      ∗ own (c : Thread nD τ) arg18 Finset.univ fullShare (fun i => gc (i 0 : ℕ) (i 1 : ℕ))
      ∗ OUTB (F := F) (c : Thread nD τ) arg16 arg10 arg20 (dxA Ax Ad Am g6 (g1 one1) (g2 one1) Mn Rs Gm) M 66 71 (fun q => q + 1 = 72)
      ∗ (∃ W', owes (c : Thread nD τ) 0 W')) : sProp 𝕄)
    ⊢ iprop((iprop(own (c : Thread nD τ) arg13 Finset.univ fullShare gx ∗ own (c : Thread nD τ) arg14 Finset.univ fullShare gg
      ∗ own (c : Thread nD τ) arg18 Finset.univ fullShare (fun i => gc (i 0 : ℕ) (i 1 : ℕ))
      ∗ OUTB (F := F) (c : Thread nD τ) arg16 arg10 arg20 (dxA Ax Ad Am g6 (g1 one1) (g2 one1) Mn Rs Gm) M 90 95 (fun q => q + 1 = 96)
      ∗ (∃ W', owes (c : Thread nD τ) 0 W')) -∗ Q ⟨⟩)
      -∗ wp frame (wpE (defs₀ (F := F)) Variants.none c none) Set.univ (Scf.Loop.for (k0_t15_loop i) (k0_t15_ok i) ⟨⟩ (k0_t15_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 v293 v294 v296 v298 v300 v314 v321 v349)) Q) := by
  have key := loop_rule (F := F) (c := (c : Thread nD τ)) (k0_t15_loop i) (k0_t15_ok i) () (k0_t15_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 v293 v294 v296 v298 v300 v314 v321 v349)
    (fun b _ => iprop(own (c : Thread nD τ) arg13 Finset.univ fullShare gx ∗ own (c : Thread nD τ) arg14 Finset.univ fullShare gg
      ∗ own (c : Thread nD τ) arg18 Finset.univ fullShare (fun i => gc (i 0 : ℕ) (i 1 : ℕ))
      ∗ OUTB (F := F) (c : Thread nD τ) arg16 arg10 arg20 (dxA Ax Ad Am g6 (g1 one1) (g2 one1) Mn Rs Gm) M ((72 + b) - 6) ((72 + b) - 1) (fun q => q + 1 = 72 + b)
      ∗ (∃ W', owes (c : Thread nD τ) 0 W'))) 24 (t15_trips i)
    (fun b acc => by
      have hb : (b : ℕ) < 24 := lt_of_lt_of_eq b.isLt (t15_trips i)
      iintro ⟨HX, HG, H8, HOut, %W, HO⟩
      iapply (t15_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0 v293 v294 v296 v298 v300 v314 v321 v349 b h10 hM0 (Gm := MG Ad Am) (Ax := Ax) h0 h1 h2 (hx (72 + (b : ℕ)) (by omega) (by omega)) (hg (72 + (b : ℕ)) (by omega) (by omega))
        (fun r l hr hl => dxA_chk Ax Ad Am g6 (g1 one1) (g2 one1) Mn Rs Gm 3 b hb r l hr hl)) $$ [HX HG H8 HOut HO]
      · isplitl [HX]; · iexact HX
        isplitl [HG]; · iexact HG
        isplitl [H8]; · iexact H8
        isplitl [HOut]; · iexact HOut
        iexact HO
      iintro H
      iexact H) (Q := Q)
  iintro H Hk
  iapply key $$ [H]
  · iexact H
  iintro %acc H
  iapply Hk
  iexact H

/-- What the body is given. -/
def PRE (q1 q2 q3 q4 q5 q6 : PosShare TreeShare) (g1 g2 : S1.Idx → Elt F .f32) (g6 : S16x128.Idx → Elt F .f32) (Mn Rs Gm g11 g12 : ℕ → ℕ → Elt F .f32) :
    sProp (MT nD τ sig Unit (Elt F) ℕ (Pipeline.UD sig nD τ) ℕ) :=
  iprop(own (c : Thread nD τ) arg1 Finset.univ q1 g1 ∗ own (c : Thread nD τ) arg2 Finset.univ q2 g2
    ∗ own (c : Thread nD τ) arg3 Finset.univ q3 (fun i => Mn (i 0 : ℕ) (i 1 : ℕ)) ∗ own (c : Thread nD τ) arg4 Finset.univ q4 (fun i => Rs (i 0 : ℕ) (i 1 : ℕ))
    ∗ own (c : Thread nD τ) arg5 Finset.univ q5 (fun i => Gm (i 0 : ℕ) (i 1 : ℕ)) ∗ own (c : Thread nD τ) arg6 Finset.univ q6 g6
    ∗ own (c : Thread nD τ) arg7 Finset.univ qx (fun i => Ax (i 0 : ℕ) (i 1 : ℕ)) ∗ own (c : Thread nD τ) arg8 Finset.univ qd (fun i => Ad (i 0 : ℕ) (i 1 : ℕ))
    ∗ own (c : Thread nD τ) arg9 Finset.univ qm (fun i => Am (i 0 : ℕ) (i 1 : ℕ))
    ∗ (∃ g, own (c : Thread nD τ) arg10 Finset.univ fullShare g)
    ∗ own (c : Thread nD τ) arg11 Finset.univ fullShare (fun i => g11 (i 0 : ℕ) (i 1 : ℕ)) ∗ own (c : Thread nD τ) arg12 Finset.univ fullShare (fun i => g12 (i 0 : ℕ) (i 1 : ℕ))
    ∗ (∃ g, own (c : Thread nD τ) arg13 Finset.univ fullShare g) ∗ (∃ g, own (c : Thread nD τ) arg14 Finset.univ fullShare g) ∗ (∃ g, own (c : Thread nD τ) arg15 Finset.univ fullShare g)
    ∗ (∃ g, own (c : Thread nD τ) arg16 Finset.univ fullShare g) ∗ (∃ g, own (c : Thread nD τ) arg17 Finset.univ fullShare g)
    ∗ (∃ g : ℕ → ℕ → Elt F .f32, own (c : Thread nD τ) arg18 Finset.univ fullShare (fun i => g (i 0 : ℕ) (i 1 : ℕ)))
    ∗ bigSep (Finset.Ico 0 13) (Cell (F := F) c arg19) ∗ bigSep (Finset.Ico 0 6) (OCell (F := F) (c : Thread nD τ) arg20)
    ∗ (∃ W', owes (c : Thread nD τ) 0 W'))

/-- What the body leaves. -/
def POST (q1 q2 q3 q4 q5 q6 : PosShare TreeShare) (g1 g2 : S1.Idx → Elt F .f32) (g6 : S16x128.Idx → Elt F .f32) (Mn Rs Gm g11 g12 : ℕ → ℕ → Elt F .f32) :
    sProp (MT nD τ sig Unit (Elt F) ℕ (Pipeline.UD sig nD τ) ℕ) :=
  iprop(own (c : Thread nD τ) arg1 Finset.univ q1 g1 ∗ own (c : Thread nD τ) arg2 Finset.univ q2 g2
    ∗ own (c : Thread nD τ) arg3 Finset.univ q3 (fun i => Mn (i 0 : ℕ) (i 1 : ℕ)) ∗ own (c : Thread nD τ) arg4 Finset.univ q4 (fun i => Rs (i 0 : ℕ) (i 1 : ℕ))
    ∗ own (c : Thread nD τ) arg5 Finset.univ q5 (fun i => Gm (i 0 : ℕ) (i 1 : ℕ)) ∗ own (c : Thread nD τ) arg6 Finset.univ q6 g6
    ∗ own (c : Thread nD τ) arg7 Finset.univ qx (fun i => Ax (i 0 : ℕ) (i 1 : ℕ)) ∗ own (c : Thread nD τ) arg8 Finset.univ qd (fun i => Ad (i 0 : ℕ) (i 1 : ℕ))
    ∗ own (c : Thread nD τ) arg9 Finset.univ qm (fun i => Am (i 0 : ℕ) (i 1 : ℕ))
    ∗ own (c : Thread nD τ) arg10 Finset.univ fullShare (fun i => dxA Ax Ad Am g6 (g1 one1) (g2 one1) Mn Rs Gm (i 0 : ℕ) (i 1 : ℕ))
    ∗ own (c : Thread nD τ) arg11 Finset.univ fullShare (fun i => rowsUp (dgv Ax Ad Am g6 (g1 one1) (g2 one1) Mn Rs) g11 4 (i 0 : ℕ) (i 1 : ℕ))
    ∗ own (c : Thread nD τ) arg12 Finset.univ fullShare (fun i => rowsUp (dbv Ax Ad Am g6 (g2 one1)) g12 4 (i 0 : ℕ) (i 1 : ℕ))
    ∗ (∃ g, own (c : Thread nD τ) arg13 Finset.univ fullShare g) ∗ (∃ g, own (c : Thread nD τ) arg14 Finset.univ fullShare g) ∗ (∃ g, own (c : Thread nD τ) arg15 Finset.univ fullShare g)
    ∗ (∃ g, own (c : Thread nD τ) arg16 Finset.univ fullShare g) ∗ (∃ g, own (c : Thread nD τ) arg17 Finset.univ fullShare g)
    ∗ (∃ g : ℕ → ℕ → Elt F .f32, own (c : Thread nD τ) arg18 Finset.univ fullShare (fun i => g (i 0 : ℕ) (i 1 : ℕ)))
    ∗ bigSep (Finset.Ico 96 109) (Cell (F := F) c arg19) ∗ bigSep (Finset.Ico 96 102) (OCell (F := F) (c : Thread nD τ) arg20)
    ∗ (∃ W', owes (c : Thread nD τ) 0 W'))

include h13 h14 h15 hN0 h10 hM0 in
set_option maxHeartbeats 4000000 in
/-- The last chunk's request, the three loops over the first three columns' sums. -/
theorem pro167 (arg0 : BitVec 32) {Q : BitVec 32 → sProp (MT nD τ sig Unit (Elt F) ℕ (Pipeline.UD sig nD τ) ℕ)} :
    (iprop(IN (F := F) c arg7 arg8 arg9 arg13 arg14 arg15 arg19 Ax Ad Am N qx qd qm (MG Ad Am) 0 11
      ∗ own (c : Thread nD τ) arg1 Finset.univ q1 g1 ∗ own (c : Thread nD τ) arg2 Finset.univ q2 g2
      ∗ own (c : Thread nD τ) arg3 Finset.univ q3 (fun i => Mn (i 0 : ℕ) (i 1 : ℕ)) ∗ own (c : Thread nD τ) arg4 Finset.univ q4 (fun i => Rs (i 0 : ℕ) (i 1 : ℕ))
      ∗ own (c : Thread nD τ) arg5 Finset.univ q5 (fun i => Gm (i 0 : ℕ) (i 1 : ℕ)) ∗ own (c : Thread nD τ) arg6 Finset.univ q6 g6
      ∗ own (c : Thread nD τ) arg11 Finset.univ fullShare (fun i => g11 (i 0 : ℕ) (i 1 : ℕ)) ∗ own (c : Thread nD τ) arg12 Finset.univ fullShare (fun i => g12 (i 0 : ℕ) (i 1 : ℕ))
      ∗ own (c : Thread nD τ) arg17 Finset.univ fullShare (acc2 zz.1 zz.2)
      ∗ (∃ g : ℕ → ℕ → Elt F .f32, own (c : Thread nD τ) arg18 Finset.univ fullShare (fun i => g (i 0 : ℕ) (i 1 : ℕ)))
      ∗ OUTB (F := F) (c : Thread nD τ) arg16 arg10 arg20 (dxA Ax Ad Am g6 (g1 one1) (g2 one1) Mn Rs Gm) M 0 0 (fun q => q + 1 = 24 * 0)
      ∗ (∃ W', owes (c : Thread nD τ) 0 W')
      ∗ (∀ v, I5 (F := F) c arg1 arg2 arg3 arg4 arg5 arg6 arg7 arg8 arg9 arg10 arg11 arg12 arg13 arg14 arg15 arg16 arg17 arg18 arg19 arg20 Ax Ad Am N qx qd qm M q1 q2 q3 q4 q5 q6 g1 g2 g6 Mn Rs Gm g11 g12 3 -∗ Q v)) : sProp 𝕄)
    ⊢ wp frame (wpE (defs₀ (F := F)) Variants.none c none) Set.univ (k0_part167 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg0) Q := by
  iintro ⟨HI, H1, H2, H3, H4, H5, H6, H11, H12, HA, H8, HOut, HO, Hk⟩
  rw [k0_part167_eq_skeleton]; unfold k0_part167_skel
  simp only [wp_bind]
  iapply (pro_dy c arg7 arg8 arg9 arg13 arg14 arg15 arg19 Ax Ad Am N qx qd qm h14 (hi := 11) (G := MG Ad Am) (by decide)
      (by decide +kernel : k0_off2 11#32 = ![11 % 37, 0, 0]) (by decide +kernel : (![34496, 0] : Fin 2 → ℕ) = ![3136 * (11 % 24), 128 * (11 / 24)])
      (congrArg SemLoc.dma (cell_eq arg19 (by decide +kernel : k0_off1 11#32 = ![11 % 13])))) $$ HI
  iintro HI
  iapply (pro_mask c arg7 arg8 arg9 arg13 arg14 arg15 arg19 Ax Ad Am N qx qd qm h15 (hi := 11) (G := MG Ad Am) (by decide)
      (by decide +kernel : k0_off3 11#32 = ![11 % 13, 0, 0]) (by decide +kernel : (![34496, 0] : Fin 2 → ℕ) = ![3136 * (11 % 24), 128 * (11 / 24)])
      (congrArg SemLoc.dma (cell_eq arg19 (by decide +kernel : k0_off1 11#32 = ![11 % 13])))) $$ HI
  iintro HI
  iapply (pro_x c arg7 arg8 arg9 arg13 arg14 arg15 arg19 Ax Ad Am N qx qd qm h13 (hi := 11) (G := MG Ad Am) (by decide)
      (by decide +kernel : k0_off2 11#32 = ![11 % 37, 0, 0]) (by decide +kernel : (![34496, 0] : Fin 2 → ℕ) = ![3136 * (11 % 24), 128 * (11 / 24)])
      (congrArg SemLoc.dma (cell_eq arg19 (by decide +kernel : k0_off1 11#32 = ![11 % 13])))) $$ HI
  iintro HI
  iapply (t1_all c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm h13 h14 h15 hN0 arg0) $$ [HI H6 HA HO]
  · isplitl [HI]; · iexact HI
    isplitl [H6]; · iexact H6
    isplitl [HA]; · iexact HA
    iexact HO
  iintro ⟨HI, H6, HA, HO⟩
  iapply (loop0 _ _ _ _ (t3_trips i))
  iapply (t5_all c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm h13 h14 h15 hN0 h10 hM0 (q1 := q1) (q2 := q2) (q3 := q3) (q4 := q4) (q5 := q5) (q6 := q6) (g1 := g1) (g2 := g2) (g6 := g6) (Mn := Mn) (Rs := Rs) (Gm := Gm) (g11 := g11) (g12 := g12) arg0) $$ [HI H1 H2 H3 H4 H5 H6 H11 H12 HA H8 HOut HO]
  · unfold I5
    isplitl [HI]; · iexact HI
    isplitl [H1]; · iexact H1
    isplitl [H2]; · iexact H2
    isplitl [H3]; · iexact H3
    isplitl [H4]; · iexact H4
    isplitl [H5]; · iexact H5
    isplitl [H6]; · iexact H6
    isplitl [H11]; · iexact H11
    isplitl [H12]; · iexact H12
    isplitl [HA]; · iexact HA
    isplitl [H8]; · iexact H8
    isplitl [HOut]; · iexact HOut
    iexact HO
  iintro H
  iapply (le_wp_ret frame (wpE (defs₀ (F := F)) Variants.none c none) Set.univ)
  ispecialize Hk $$ %_ H
  iexact Hk

include h13 h14 h15 hN0 h10 hM0 in
set_option maxHeartbeats 4000000 in
/-- The whole body. -/
theorem body_ok {Q : PUnit → sProp (MT nD τ sig Unit (Elt F) ℕ (Pipeline.UD sig nD τ) ℕ)} :
    (iprop(PRE (F := F) c arg1 arg2 arg3 arg4 arg5 arg6 arg7 arg8 arg9 arg10 arg11 arg12 arg13 arg14 arg15 arg16 arg17 arg18 arg19 arg20 Ax Ad Am qx qd qm q1 q2 q3 q4 q5 q6 g1 g2 g6 Mn Rs Gm g11 g12 ∗ (POST (F := F) c arg1 arg2 arg3 arg4 arg5 arg6 arg7 arg8 arg9 arg10 arg11 arg12 arg13 arg14 arg15 arg16 arg17 arg18 arg19 arg20 Ax Ad Am qx qd qm q1 q2 q3 q4 q5 q6 g1 g2 g6 Mn Rs Gm g11 g12 -∗ Q ⟨⟩)) : sProp 𝕄)
    ⊢ wp frame (wpE (defs₀ (F := F)) Variants.none c none) Set.univ (cc0_bn_relu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20) Q := by
  unfold PRE
  iintro ⟨⟨H1, H2, H3, H4, H5, H6, Hx, Hd, Hm, ⟨%g10, H10⟩, H11, H12, ⟨%g13, H13⟩, ⟨%g14, H14⟩, ⟨%g15, H15⟩, ⟨%g16, H16⟩, ⟨%g17, HA⟩, H8, HC, HOC, HO⟩, Hk⟩
  ihave HI := (IN_start c arg7 arg8 arg9 arg13 arg14 arg15 arg19 Ax Ad Am N qx qd qm (G := MG Ad Am)) $$ [H13 H14 H15 Hx Hd Hm HC]
  · isplitl [H13]; · iexact H13
    isplitl [H14]; · iexact H14
    isplitl [H15]; · iexact H15
    isplitl [Hx]; · iexact Hx
    isplitl [Hd]; · iexact Hd
    isplitl [Hm]; · iexact Hm
    iexact HC
  ihave HOut := (OUT_start c arg10 arg16 arg20 (A := dxA Ax Ad Am g6 (g1 one1) (g2 one1) Mn Rs Gm) (M := M) (P := fun q => q + 1 = 24 * 0) (fun q => by omega)) $$ [H16 H10 HOC]
  · isplitl [H16]; · iexact H16
    isplitl [H10]; · iexact H10
    iexact HOC
  rw [cc0_bn_relu_bwd_eq_skeleton]; unfold cc0_bn_relu_bwd_skel
  simp only [wp_bind]
  iapply (pro159 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm h13 h14 h15)
  isplitl [HI]; · iexact HI
  isplitl [HA]; · iexact HA
  iintro ⟨HI, HA⟩
  iapply (pro160 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm h13 h14 h15)
  isplitl [HI]; · iexact HI
  iintro HI
  iapply (pro161 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm h13 h14 h15)
  isplitl [HI]; · iexact HI
  iintro HI
  iapply (pro162 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm h13 h14 h15)
  isplitl [HI]; · iexact HI
  iintro HI
  iapply (pro163 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm h13 h14 h15)
  isplitl [HI]; · iexact HI
  iintro HI
  iapply (pro164 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm h13 h14 h15)
  isplitl [HI]; · iexact HI
  iintro HI
  iapply (pro165 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm h13 h14 h15)
  isplitl [HI]; · iexact HI
  iintro HI
  iapply (pro166 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm h13 h14 h15)
  isplitl [HI]; · iexact HI
  iintro HI
  iapply (pro167 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am N qx qd qm h13 h14 h15 hN0 h10 hM0 (q1 := q1) (q2 := q2) (q3 := q3) (q4 := q4) (q5 := q5) (q6 := q6) (g1 := g1) (g2 := g2) (g6 := g6) (Mn := Mn) (Rs := Rs) (Gm := Gm) (g11 := g11) (g12 := g12))
  isplitl [HI]; · iexact HI
  isplitl [H1]; · iexact H1
  isplitl [H2]; · iexact H2
  isplitl [H3]; · iexact H3
  isplitl [H4]; · iexact H4
  isplitl [H5]; · iexact H5
  isplitl [H6]; · iexact H6
  isplitl [H11]; · iexact H11
  isplitl [H12]; · iexact H12
  isplitl [HA]; · iexact HA
  isplitl [H8]; · iexact H8
  isplitl [HOut]; · iexact HOut
  isplitl [HO]; · iexact HO
  iintro %v HI5
  unfold I5
  icases HI5 with ⟨HI, H1, H2, H3, H4, H5, H6, H11, H12, HA, ⟨%gc, H8⟩, HOut, HO⟩
  ihave HI := (IN_end c arg7 arg8 arg9 arg13 arg14 arg15 arg19 Ax Ad Am N qx qd qm (G := MG Ad Am)) $$ [HI]
  · iexact HI
  icases HI with ⟨⟨%gx, HX, %hx⟩, ⟨%gg, HG, %hg⟩, H15, Hx, Hd, Hm, HC⟩
  rw [k0_part168_eq_skeleton]; unfold k0_part168_skel
  simp only [wp_bind]
  iapply (loop0 _ _ _ _ (t10_trips i))
  iapply (load_smem c) $$ H1
  iintro H1
  iapply (load_smem c) $$ H2
  iintro H2
  iapply (load_row (k := 3) rfl) $$ H3
  iintro H3
  iapply (load_row (k := 3) rfl) $$ H4
  iintro H4
  iapply (load_row (k := 3) rfl) $$ H5
  iintro H5
  iapply (load_u (acc2_load0 _ _)) $$ HA
  iintro HA
  iapply (load_u (acc2_load1 _ _)) $$ HA
  iintro HA
  iapply (load_any c) $$ HA
  iintro HA
  iapply (store_zero c (w := k0_pay833 (F := F)) rfl) $$ HA
  iintro HA
  iapply (load_row (k := 3) rfl) $$ H12
  iintro H12
  iapply (store_row (k := 3) rfl) $$ H12
  iintro H12
  iapply (load_row (k := 3) rfl) $$ H11
  iintro H11
  iapply (store_row (k := 3) rfl) $$ H11
  iintro H11
  iapply (le_wp_ret frame (wpE (defs₀ (F := F)) Variants.none c none) Set.univ)
  dsimp only
  rw [k0_part169_eq_skeleton]; unfold k0_part169_skel
  simp only [wp_bind]
  iapply (load_row (k := 0) rfl) $$ H8
  iintro H8
  iapply (store_row (k := 0) rfl) $$ H8
  iintro H8
  iapply (load_row (k := 1) rfl) $$ H8
  iintro H8
  iapply (store_row (k := 1) rfl) $$ H8
  iintro H8
  iapply (load_row (k := 2) rfl) $$ H8
  iintro H8
  iapply (store_row (k := 2) rfl) $$ H8
  iintro H8
  iapply (t15_all c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 Ax Ad Am h10 hM0 (g1 := g1) (g2 := g2) (g6 := g6) (Mn := Mn) (Rs := Rs) (Gm := Gm) _ _ _ _ _ _ _ _ _ hx hg
        ((row_set_ne (by decide) _ _).trans ((row_set_ne (by decide) _ _).trans (row_set _ _ _))) ((row_set_ne (by decide) _ _).trans (row_set _ _ _)) (row_set _ _ _)) $$ [HX HG H8 HOut HO]
  · isplitl [HX]; · iexact HX
    isplitl [HG]; · iexact HG
    isplitl [H8]; · iexact H8
    isplitl [HOut]; · iexact HOut
    iexact HO
  iintro ⟨HX, HG, H8, HOut, %W, HO⟩
  iapply (loop0 _ _ _ _ (t17_trips i))
  iapply (le_wp_ret frame (wpE (defs₀ (F := F)) Variants.none c none) Set.univ)
  rw [k0_part170_eq_skeleton]; unfold k0_part170_skel
  simp only [wp_bind]
  iapply (out_issue (c := (c : Thread nD τ)) (m := arg16) (h := arg10) (lo := 90) (hi := 95) (by decide) (by decide) (by decide) (by decide)
    (by decide +kernel : k0_off277 95#32 = ![95 % 6, 0, 0]) (by decide +kernel : (![72128, 384] : Fin 2 → ℕ) = ![3136 * (95 % 24), 128 * (95 / 24)])
    (cell_eq arg20 (by decide +kernel : k0_off276 95#32 = ![95 % 6])) h10 hM0) $$ HOut
  iintro HOut
  ihave HOut := (OUTB_mono (P' := fun _ => False) (fun q h => h.elim)) $$ HOut
  iapply (out_wait (c := (c : Thread nD τ)) (m := arg16) (h := arg10) (A := dxA Ax Ad Am g6 (g1 one1) (g2 one1) Mn Rs Gm) (P := fun _ => False) (lo := 90) (hi := 96) (by decide) (by decide) (fun q h => h.elim)
    (cell_eq arg20 (by decide +kernel : k0_off276 90#32 = ![90 % 6])) (M := M) h10) $$ [HOut HO]
  · isplitl [HOut]; · iexact HOut
    iexact HO
  iintro ⟨HOut, %W90, HO⟩
  iapply (out_wait (c := (c : Thread nD τ)) (m := arg16) (h := arg10) (A := dxA Ax Ad Am g6 (g1 one1) (g2 one1) Mn Rs Gm) (P := fun _ => False) (lo := 91) (hi := 96) (by decide) (by decide) (fun q h => h.elim)
    (cell_eq arg20 (by decide +kernel : k0_off276 91#32 = ![91 % 6])) (M := M) h10) $$ [HOut HO]
  · isplitl [HOut]; · iexact HOut
    iexact HO
  iintro ⟨HOut, %W91, HO⟩
  iapply (out_wait (c := (c : Thread nD τ)) (m := arg16) (h := arg10) (A := dxA Ax Ad Am g6 (g1 one1) (g2 one1) Mn Rs Gm) (P := fun _ => False) (lo := 92) (hi := 96) (by decide) (by decide) (fun q h => h.elim)
    (cell_eq arg20 (by decide +kernel : k0_off276 92#32 = ![92 % 6])) (M := M) h10) $$ [HOut HO]
  · isplitl [HOut]; · iexact HOut
    iexact HO
  iintro ⟨HOut, %W92, HO⟩
  iapply (le_wp_ret frame (wpE (defs₀ (F := F)) Variants.none c none) Set.univ)
  iapply (out_wait (c := (c : Thread nD τ)) (m := arg16) (h := arg10) (A := dxA Ax Ad Am g6 (g1 one1) (g2 one1) Mn Rs Gm) (P := fun _ => False) (lo := 93) (hi := 96) (by decide) (by decide) (fun q h => h.elim)
    (cell_eq arg20 (by decide +kernel : k0_off276 93#32 = ![93 % 6])) (M := M) h10) $$ [HOut HO]
  · isplitl [HOut]; · iexact HOut
    iexact HO
  iintro ⟨HOut, %W93, HO⟩
  iapply (out_wait (c := (c : Thread nD τ)) (m := arg16) (h := arg10) (A := dxA Ax Ad Am g6 (g1 one1) (g2 one1) Mn Rs Gm) (P := fun _ => False) (lo := 94) (hi := 96) (by decide) (by decide) (fun q h => h.elim)
    (cell_eq arg20 (by decide +kernel : k0_off276 94#32 = ![94 % 6])) (M := M) h10) $$ [HOut HO]
  · isplitl [HOut]; · iexact HOut
    iexact HO
  iintro ⟨HOut, %W94, HO⟩
  iapply (out_wait (c := (c : Thread nD τ)) (m := arg16) (h := arg10) (A := dxA Ax Ad Am g6 (g1 one1) (g2 one1) Mn Rs Gm) (P := fun _ => False) (lo := 95) (hi := 96) (by decide) (by decide) (fun q h => h.elim)
    (cell_eq arg20 (by decide +kernel : k0_off276 95#32 = ![95 % 6])) (M := M) h10) $$ [HOut HO]
  · isplitl [HOut]; · iexact HOut
    iexact HO
  iintro ⟨HOut, %W95, HO⟩
  iapply (le_wp_ret frame (wpE (defs₀ (F := F)) Variants.none c none) Set.univ)
  ihave HOut := (OUT_end c arg10 arg16 arg20) $$ HOut
  icases HOut with ⟨H16, H10, HOC⟩
  iapply Hk
  unfold POST
  isplitl [H1]; · iexact H1
  isplitl [H2]; · iexact H2
  isplitl [H3]; · iexact H3
  isplitl [H4]; · iexact H4
  isplitl [H5]; · iexact H5
  isplitl [H6]; · iexact H6
  isplitl [Hx]; · iexact Hx
  isplitl [Hd]; · iexact Hd
  isplitl [Hm]; · iexact Hm
  isplitl [H10]; · iexact H10
  isplitl [H11]; · iexact H11
  isplitl [H12]; · iexact H12
  isplitl [HX]; · iexists gx; iexact HX
  isplitl [HG]; · iexists gg; iexact HG
  isplitl [H15]; · iexact H15
  isplitl [H16]; · iexact H16
  isplitl [HA]; · iexists _; iexact HA
  isplitl [H8]; · iexists _; iexact H8
  isplitl [HC]; · iexact HC
  isplitl [HOC]; · iexact HOC
  iexists _; iexact HO

end

end Cert.Kernel.Hand
-- ==== Proof.Run.lean ====
/-
  The program's run: the region's body at its one grid point, and the host operations around it.
  Every semaphore ends at zero, and the three results are named.
-/
module

public import proofs.«01_k».proof.Proof.Body9
public import proofs.«01_k».proof.Proof.Gen.Kernel.Frame
public import Idealize.ShloMosaic.Lib.Pipeline.FrameSuffixV

@[expose] public section

set_option maxRecDepth 16384

noncomputable section

namespace Cert.Kernel.Hand

open Cert.Kernel Cert.Kernel.Gen Cert.Own
open Idealize.ShloMosaic Idealize.ShloMosaic.TcCoe Idealize.ShloMosaic.ValueIdx Idealize.ShloMosaic.Transfers
open Idealize.SL Idealize.SL.RA
open Idealize.SL.BI (sProp Storable bigSep bigSepL)
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

section Conv
variable {c : Dev nD} {sp : Space} {e : EltTy} {q : PosShare TreeShare}

theorem own_of_owns {s : Shape} {m : Memref sig .tc sp s e} {X : s.Idx → Elt F e} :
    (owns (c : Thread nD τ) m q X : sProp 𝕄) ⊢ own (c : Thread nD τ) m Finset.univ q X := by
  unfold owns own
  iintro ⟨%f, %h, H⟩
  iexists f
  isplitl [H]; · iexact H
  ipureintro
  intro i _; rw [h]

theorem owns_of_own {s : Shape} {m : Memref sig .tc sp s e} {X Y : s.Idx → Elt F e} (h : ∀ i, X i = Y i) :
    (own (c : Thread nD τ) m Finset.univ q X : sProp 𝕄) ⊢ owns (c : Thread nD τ) m q Y := by
  unfold owns own
  iintro ⟨%f, H, %hf⟩
  iexists f
  isplitr
  · ipureintro; funext i; rw [hf i (Finset.mem_univ i), h]
  iexact H

theorem own_nat_of_owns {R C : ℕ} [NeZero R] [NeZero C] {m : Memref sig .tc sp ⟨2, ![R, C]⟩ e} {X : (⟨2, ![R, C]⟩ : Shape).Idx → Elt F e} :
    (owns (c : Thread nD τ) m q X : sProp 𝕄) ⊢ own (c : Thread nD τ) m Finset.univ q (fun i => natF X (i 0 : ℕ) (i 1 : ℕ)) :=
  own_of_owns.trans (own_congr fun i _ => (natF_eq X i).symm)

theorem own_of_whole {b : Ref sig .tc} {f : Buf (Elt F) ((c : Thread nD τ).loc b)} :
    (((c : Thread nD τ).loc b) ↦{q} f : sProp 𝕄) ⊢ own (c : Thread nD τ) (Memref.whole b) Finset.univ q f := by
  rw [← owns_whole]; exact own_of_owns

theorem whole_of_own {b : Ref sig .tc} {f g : b.ty.shape.Idx → Elt F b.ty.elt} (h : ∀ i, g i = f i) :
    (own (c : Thread nD τ) (Memref.whole b) Finset.univ q g : sProp 𝕄) ⊢ (((c : Thread nD τ).loc b) ↦{q} (f : Buf (Elt F) ((c : Thread nD τ).loc b))) := by
  rw [← owns_whole (c : Thread nD τ) b q f]; exact owns_of_own h
end Conv

theorem rowsUp_ge (v : ℕ → Vec F S1x128 .f32) (g g' : ℕ → ℕ → Elt F .f32) : ∀ (n r l : ℕ), r < n → rowsUp v g n r l = rowsUp v g' n r l := by
  intro n
  induction n with
  | zero => intro r l h; exact absurd h (Nat.not_lt_zero r)
  | succ n ih =>
    intro r l h
    show setR n (v n) (rowsUp v g n) r l = setR n (v n) (rowsUp v g' n) r l
    unfold setR
    by_cases e : r = n
    · rw [if_pos e, if_pos e]
    · rw [if_neg e, if_neg e]; exact ih r l (by omega)

variable (m : (ℓ : Loc nD τ sig) → Buf (Elt F) ℓ) (ρ : Dev nD → PrngReg)

/-! ## The contents the region works on -/

section Vals
variable (c : Dev nD)
/-- The arrays left in HBM. -/
abbrev X7 : S75264x512.Idx → Elt F .fp8e4m3 := V m c main_v8
abbrev X8 : S75264x512.Idx → Elt F .fp8e5m2 := V m c main_v9
abbrev X9 : S75264x512.Idx → Elt F .i8 := V m c main_v10
/-- The windows' blocks. -/
abbrev B0 : S1.Idx → Elt F .f32 := iblk m c 0 t0_0
abbrev B1 : S1.Idx → Elt F .f32 := iblk m c 1 t0_0
abbrev B2 : S4x128.Idx → Elt F .f32 := iblk m c 2 t0_0
abbrev B3 : S4x128.Idx → Elt F .f32 := iblk m c 3 t0_0
abbrev B4 : S4x128.Idx → Elt F .f32 := iblk m c 4 t0_0
abbrev B5 : S16x128.Idx → Elt F .f32 := iblk m c 5 t0_0

/-- The results as the region leaves them. -/
def DX : S75264x512.Idx → Elt F .bf16 := fun i =>
  dxA (natF (X7 m c)) (natF (X8 m c)) (natF (X9 m c)) (B5 m c) (B0 m c one1) (B1 m c one1) (natF (B2 m c)) (natF (B3 m c)) (natF (B4 m c)) (i 0 : ℕ) (i 1 : ℕ)
def DG : S4x128.Idx → Elt F .f32 := fun i =>
  rowsUp (dgv (natF (X7 m c)) (natF (X8 m c)) (natF (X9 m c)) (B5 m c) (B0 m c one1) (B1 m c one1) (natF (B2 m c)) (natF (B3 m c))) (natF (B2 m c)) 4 (i 0 : ℕ) (i 1 : ℕ)
def DB : S4x128.Idx → Elt F .f32 := fun i =>
  rowsUp (dbv (natF (X7 m c)) (natF (X8 m c)) (natF (X9 m c)) (B5 m c) (B1 m c one1)) (natF (B2 m c)) 4 (i 0 : ℕ) (i 1 : ℕ)
end Vals

/-! ## The region's own buffers and cells -/

def H0 : Finset (Ref sig .tc) := {main_v8, main_v9, main_v10}
def R0 : Finset (Ref sig .tc) := {main_v11_0}
theorem H0_sub : H0 ⊆ Pipeline.restRefs sig spec0 := by decide
theorem R0_sub : R0 ⊆ Pipeline.restRefs sig spec0 \ H0 := by decide

abbrev osem0 : Fin 19 → SemLoc sig := fun j => SemLoc.dma ⟨8 + (j : ℕ), by have := j.isLt; show _ < 27; omega⟩
theorem ownSemFacts0 : Pipeline.OwnSemFacts spec0 osem0 := by decide

/-- What the buffers the region writes hold when it ends. -/
def G (c : Dev nD) : (b : Ref sig .tc) → Buf (Elt F) ((c : Thread nD τ).loc b) :=
  Function.update (V m c) main_v11_0 (DX m c)

theorem sems_eq (c : Dev nD) :
    (Pipeline.ownSems0 (Ix := Unit) (Name := ℕ) (U := Pipeline.UD sig nD τ) (Lvl := ℕ) (Val := Elt F) (τ := τ) osem0 c : sProp 𝕄)
      = bigSepL [0, 1, 2, 3, 4, 5, 6, 7, 8, 9, 10, 11, 12, 13, 14, 15, 16, 17, 18] fun k => semVal ((c : Thread nD τ), osem0 k) 0 :=
  Pipeline.ownSems0_eq_of_list c osem0 _ (by decide) (by decide)

theorem inCells (c : Dev nD) : (bigSep (Finset.Ico 0 13) (Cell (F := F) c cc0_scratch6) : sProp 𝕄)
    = bigSepL [0, 1, 2, 3, 4, 5, 6, 7, 8, 9, 10, 11, 12] fun k => semVal ((c : Thread nD τ), osem0 k) 0 := by
  rw [BI.bigSep_eq_bigSepL_of_eq [0, 1, 2, 3, 4, 5, 6, 7, 8, 9, 10, 11, 12] (by decide) (by decide)]; rfl
theorem outCells (c : Dev nD) : (bigSep (Finset.Ico 0 6) (OCell (F := F) (c : Thread nD τ) cc0_scratch7) : sProp 𝕄)
    = bigSepL [13, 14, 15, 16, 17, 18] fun k => semVal ((c : Thread nD τ), osem0 k) 0 := by
  rw [BI.bigSep_eq_bigSepL_of_eq [0, 1, 2, 3, 4, 5] (by decide) (by decide)]; rfl
theorem inCells' (c : Dev nD) : (bigSep (Finset.Ico 96 109) (Cell (F := F) c cc0_scratch6) : sProp 𝕄)
    = bigSepL [5, 6, 7, 8, 9, 10, 11, 12, 0, 1, 2, 3, 4] fun k => semVal ((c : Thread nD τ), osem0 k) 0 := by
  rw [BI.bigSep_eq_bigSepL_of_eq [96, 97, 98, 99, 100, 101, 102, 103, 104, 105, 106, 107, 108] (by decide) (by decide)]; rfl
theorem outCells' (c : Dev nD) : (bigSep (Finset.Ico 96 102) (OCell (F := F) (c : Thread nD τ) cc0_scratch7) : sProp 𝕄)
    = bigSepL [13, 14, 15, 16, 17, 18] fun k => semVal ((c : Thread nD τ), osem0 k) 0 := by
  rw [BI.bigSep_eq_bigSepL_of_eq [96, 97, 98, 99, 100, 101] (by decide) (by decide)]; rfl

theorem sems_split (c : Dev nD) :
    (Pipeline.ownSems0 (Ix := Unit) (Name := ℕ) (U := Pipeline.UD sig nD τ) (Lvl := ℕ) (Val := Elt F) (τ := τ) osem0 c : sProp 𝕄)
      ⊢ iprop(bigSep (Finset.Ico 0 13) (Cell (F := F) c cc0_scratch6) ∗ bigSep (Finset.Ico 0 6) (OCell (F := F) (c : Thread nD τ) cc0_scratch7)) := by
  rw [sems_eq, inCells, outCells]
  show (iprop(semVal ((c : Thread nD τ), osem0 0) 0 ∗ semVal ((c : Thread nD τ), osem0 1) 0 ∗ semVal ((c : Thread nD τ), osem0 2) 0 ∗ semVal ((c : Thread nD τ), osem0 3) 0 ∗ semVal ((c : Thread nD τ), osem0 4) 0 ∗ semVal ((c : Thread nD τ), osem0 5) 0 ∗ semVal ((c : Thread nD τ), osem0 6) 0 ∗ semVal ((c : Thread nD τ), osem0 7) 0 ∗ semVal ((c : Thread nD τ), osem0 8) 0 ∗ semVal ((c : Thread nD τ), osem0 9) 0 ∗ semVal ((c : Thread nD τ), osem0 10) 0 ∗ semVal ((c : Thread nD τ), osem0 11) 0 ∗ semVal ((c : Thread nD τ), osem0 12) 0 ∗ (bigSepL [13, 14, 15, 16, 17, 18] fun k => semVal ((c : Thread nD τ), osem0 k) 0)) : sProp 𝕄) ⊢ iprop(iprop(semVal ((c : Thread nD τ), osem0 0) 0 ∗ semVal ((c : Thread nD τ), osem0 1) 0 ∗ semVal ((c : Thread nD τ), osem0 2) 0 ∗ semVal ((c : Thread nD τ), osem0 3) 0 ∗ semVal ((c : Thread nD τ), osem0 4) 0 ∗ semVal ((c : Thread nD τ), osem0 5) 0 ∗ semVal ((c : Thread nD τ), osem0 6) 0 ∗ semVal ((c : Thread nD τ), osem0 7) 0 ∗ semVal ((c : Thread nD τ), osem0 8) 0 ∗ semVal ((c : Thread nD τ), osem0 9) 0 ∗ semVal ((c : Thread nD τ), osem0 10) 0 ∗ semVal ((c : Thread nD τ), osem0 11) 0 ∗ semVal ((c : Thread nD τ), osem0 12) 0) ∗ (bigSepL [13, 14, 15, 16, 17, 18] fun k => semVal ((c : Thread nD τ), osem0 k) 0))
  iintro ⟨H0, H1, H2, H3, H4, H5, H6, H7, H8, H9, H10, H11, H12, H13⟩
  isplitr [H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact H13

theorem sems_join (c : Dev nD) :
    (iprop(bigSep (Finset.Ico 96 109) (Cell (F := F) c cc0_scratch6) ∗ bigSep (Finset.Ico 96 102) (OCell (F := F) (c : Thread nD τ) cc0_scratch7)) : sProp 𝕄)
      ⊢ Pipeline.ownSems0 (Ix := Unit) (Name := ℕ) (U := Pipeline.UD sig nD τ) (Lvl := ℕ) (Val := Elt F) (τ := τ) osem0 c := by
  rw [sems_eq, inCells', outCells']
  show (iprop(iprop(semVal ((c : Thread nD τ), osem0 5) 0 ∗ semVal ((c : Thread nD τ), osem0 6) 0 ∗ semVal ((c : Thread nD τ), osem0 7) 0 ∗ semVal ((c : Thread nD τ), osem0 8) 0 ∗ semVal ((c : Thread nD τ), osem0 9) 0 ∗ semVal ((c : Thread nD τ), osem0 10) 0 ∗ semVal ((c : Thread nD τ), osem0 11) 0 ∗ semVal ((c : Thread nD τ), osem0 12) 0 ∗ semVal ((c : Thread nD τ), osem0 0) 0 ∗ semVal ((c : Thread nD τ), osem0 1) 0 ∗ semVal ((c : Thread nD τ), osem0 2) 0 ∗ semVal ((c : Thread nD τ), osem0 3) 0 ∗ semVal ((c : Thread nD τ), osem0 4) 0) ∗ (bigSepL [13, 14, 15, 16, 17, 18] fun k => semVal ((c : Thread nD τ), osem0 k) 0)) : sProp 𝕄) ⊢ iprop(semVal ((c : Thread nD τ), osem0 0) 0 ∗ semVal ((c : Thread nD τ), osem0 1) 0 ∗ semVal ((c : Thread nD τ), osem0 2) 0 ∗ semVal ((c : Thread nD τ), osem0 3) 0 ∗ semVal ((c : Thread nD τ), osem0 4) 0 ∗ semVal ((c : Thread nD τ), osem0 5) 0 ∗ semVal ((c : Thread nD τ), osem0 6) 0 ∗ semVal ((c : Thread nD τ), osem0 7) 0 ∗ semVal ((c : Thread nD τ), osem0 8) 0 ∗ semVal ((c : Thread nD τ), osem0 9) 0 ∗ semVal ((c : Thread nD τ), osem0 10) 0 ∗ semVal ((c : Thread nD τ), osem0 11) 0 ∗ semVal ((c : Thread nD τ), osem0 12) 0 ∗ (bigSepL [13, 14, 15, 16, 17, 18] fun k => semVal ((c : Thread nD τ), osem0 k) 0))
  iintro ⟨⟨H5, H6, H7, H8, H9, H10, H11, H12, H0, H1, H2, H3, H4⟩, H13⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- What the invariant holds, buffer by buffer. -/
theorem Phi_eq (c : Dev nD) (G' : (c : Dev nD) → (b : Ref sig .tc) → Buf (Elt F) ((c : Thread nD τ).loc b)) :
    (Pipeline.ΦDRV osem0 spec0 H0 R0 (V m) G' c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))
        ∗ Pipeline.ownSems0 (Ix := Unit) (Name := ℕ) (U := Pipeline.UD sig nD τ) (Lvl := ℕ) (Val := Elt F) (τ := τ) osem0 c
        ∗ ((((c : Thread nD τ).loc main_v8) ↦{fullShare} V m c main_v8) ∗ (((c : Thread nD τ).loc main_v9) ↦{fullShare} V m c main_v9) ∗ (((c : Thread nD τ).loc main_v10) ↦{fullShare} V m c main_v10))
        ∗ (((c : Thread nD τ).loc main_v11_0) ↦{fullShare} G' c main_v11_0)) := by
  unfold Pipeline.ΦDRV
  rw [scopedRest0_eq, BI.bigSep_eq_bigSepL_of_eq (S := H0) [main_v8, main_v9, main_v10] (by decide) (by decide),
    BI.bigSep_eq_bigSepL_of_eq (S := R0) [main_v11_0] (by decide) (by decide)]
  rfl

/-! ## The proof data -/

/-- The invariant before the point, and after it. -/
def PhiN (c : Dev nD) : ℕ → sProp 𝕄
  | 0 => Pipeline.ΦDRV osem0 spec0 H0 R0 (V m) (V m) c
  | _ + 1 => Pipeline.ΦDRV osem0 spec0 H0 R0 (V m) (G m) c

def dats (_ : Fin 1) (c : Dev nD) : Dat τ (Elt F) Unit ℕ (Pipeline.UD sig nD τ) ℕ cfg0 c where
  A w := V m c (Pipeline.arrRef spec0 w)
  after w t := match w with
    | ⟨0, _⟩ => B0 m c
    | ⟨1, _⟩ => B1 m c
    | ⟨2, _⟩ => B2 m c
    | ⟨3, _⟩ => B3 m c
    | ⟨4, _⟩ => B4 m c
    | ⟨5, _⟩ => B5 m c
    | ⟨6, _⟩ => DG m c
    | ⟨7, _⟩ => DB m c
  Φ n := PhiN m c n
  q _ := fullShare
  owed _ := 0

theorem A_eq (c : Dev nD) (w : Fin cfg0.W) : (dats m 0 c).A w = V m c (Pipeline.arrRef spec0 w) := by
  dsimp only [dats]

theorem credit14 : sig.dmaCredit .tc (Kind.tc.table .vmem) (Memref.whole cc0_scratch1 : Memref sig .tc .vmem S37x3136x128 .fp8e5m2).view.buf ⟨2, ![3136, 128]⟩ .fp8e5m2
    = sig.dmaCredit .tc (Kind.tc.table .vmem) (Memref.whole cc0_scratch0 : Memref sig .tc .vmem S37x3136x128 .fp8e4m3).view.buf ⟨2, ![3136, 128]⟩ .fp8e4m3 := by decide +kernel
theorem credit15 : sig.dmaCredit .tc (Kind.tc.table .vmem) (Memref.whole cc0_scratch2 : Memref sig .tc .vmem S13x3136x128 .i8).view.buf ⟨2, ![3136, 128]⟩ .i8
    = sig.dmaCredit .tc (Kind.tc.table .vmem) (Memref.whole cc0_scratch0 : Memref sig .tc .vmem S37x3136x128 .fp8e4m3).view.buf ⟨2, ![3136, 128]⟩ .fp8e4m3 := by decide +kernel
theorem credit_pos : 0 < sig.dmaCredit .tc (Kind.tc.table .vmem) (Memref.whole cc0_scratch0 : Memref sig .tc .vmem S37x3136x128 .fp8e4m3).view.buf ⟨2, ![3136, 128]⟩ .fp8e4m3 := by decide +kernel
theorem credit10_pos : 0 < sig.dmaCredit .tc (Kind.tc.table .hbm) (Memref.whole main_v11_0 : Memref sig .tc .hbm S75264x512 .bf16).view.buf ⟨2, ![3136, 128]⟩ .bf16 := by decide +kernel

theorem before_in (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t)
    ∧ (∀ d, (dats m 0 c).before 3 t d = iblk m c 3 t) ∧ (∀ d, (dats m 0 c).before 4 t d = iblk m c 4 t) ∧ (∀ d, (dats m 0 c).before 5 t d = iblk m c 5 t) := by
  obtain rfl := fin_N0 t
  refine ⟨fun d => ?_, fun d => ?_, fun d => ?_, fun d => ?_, fun d => ?_, fun d => ?_⟩
  · exact ((dats m 0 c).before_in_eq_fetched 0 rfl (fun _ => rfl) (fun _ _ _ => rfl) (fun t => by obtain rfl := fin_N0 t; unfold Dat.blockOf; rfl) t0_0 d).trans (by unfold Dat.fetched Dat.blockOf; rfl)
  · exact ((dats m 0 c).before_in_eq_fetched 1 rfl (fun _ => rfl) (fun _ _ _ => rfl) (fun t => by obtain rfl := fin_N0 t; unfold Dat.blockOf; rfl) t0_0 d).trans (by unfold Dat.fetched Dat.blockOf; rfl)
  · exact ((dats m 0 c).before_in_eq_fetched 2 rfl (fun _ => rfl) (fun _ _ _ => rfl) (fun t => by obtain rfl := fin_N0 t; unfold Dat.blockOf; rfl) t0_0 d).trans (by unfold Dat.fetched Dat.blockOf; rfl)
  · exact ((dats m 0 c).before_in_eq_fetched 3 rfl (fun _ => rfl) (fun _ _ _ => rfl) (fun t => by obtain rfl := fin_N0 t; unfold Dat.blockOf; rfl) t0_0 d).trans (by unfold Dat.fetched Dat.blockOf; rfl)
  · exact ((dats m 0 c).before_in_eq_fetched 4 rfl (fun _ => rfl) (fun _ _ _ => rfl) (fun t => by obtain rfl := fin_N0 t; unfold Dat.blockOf; rfl) t0_0 d).trans (by unfold Dat.fetched Dat.blockOf; rfl)
  · exact ((dats m 0 c).before_in_eq_fetched 5 rfl (fun _ => rfl) (fun _ _ _ => rfl) (fun t => by obtain rfl := fin_N0 t; unfold Dat.blockOf; rfl) t0_0 d).trans (by unfold Dat.fetched Dat.blockOf; rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem Phi_start (c : Dev nD) : (dats m 0 c).Φ (t0_0).castSucc = Pipeline.ΦDRV osem0 spec0 H0 R0 (V m) (V m) c := rfl
theorem Phi_end (c : Dev nD) : (dats m 0 c).Φ (t0_0).succ = Pipeline.ΦDRV osem0 spec0 H0 R0 (V m) (G m) c := rfl

set_option maxHeartbeats 4000000 in
theorem sound_body (c : Dev nD) :
    bodyPre m c t0_0 ⊢ wp frame (wpE (defs₀ (F := F)) Variants.none c none) Set.univ (bodyAt0 t0_0) (fun _ => bodyPost m c t0_0) := by
  unfold bodyPre bodyPost bodyAt0
  obtain ⟨hb0, hb1, hb2, hb3, hb4, hb5⟩ := before_in m c t0_0
  simp only [hb0, hb1, hb2, hb3, hb4, hb5]
  rw [Phi_start, Phi_end, Phi_eq, Phi_eq]
  unfold Dat.owesAt Pipeline.owesWithin
  rw [show (dats m 0 c).owed t0_0.castSucc = 0 from rfl, show (dats m 0 c).owed t0_0.succ = 0 from rfl]
  iintro ⟨⟨⟨⟨%s0, S0⟩, ⟨%s1, S1⟩, ⟨%s2, S2⟩, ⟨%s3, S3⟩, ⟨%s4, S4⟩, ⟨%s5, S5⟩⟩, Hq, ⟨H7, H8, H9⟩, H10⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩⟩
  ihave Hq := (sems_split c) $$ Hq
  icases Hq with ⟨HC, HOC⟩
  iapply (body_ok c (grid0.coords t0_0) _ (hstage0_0 ((cfg0.slots t0_0 0).cast nbuf0_0)) _ (hstage0_1 ((cfg0.slots t0_0 1).cast nbuf0_1)) _ (hstage0_2 ((cfg0.slots t0_0 2).cast nbuf0_2)) _ (hstage0_3 ((cfg0.slots t0_0 3).cast nbuf0_3)) _ (hstage0_4 ((cfg0.slots t0_0 4).cast nbuf0_4)) _ (hstage0_5 ((cfg0.slots t0_0 5).cast nbuf0_5))
    (Memref.whole main_v8) (Memref.isWhole_whole _) (Memref.whole main_v9) (Memref.isWhole_whole _) (Memref.whole main_v10) (Memref.isWhole_whole _) (Memref.whole main_v11_0) (Memref.isWhole_whole _)
    _ (hstage0_6 ((cfg0.slots t0_0 6).cast nbuf0_6)) _ (hstage0_7 ((cfg0.slots t0_0 7).cast nbuf0_7))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7
    (natF (X7 m c)) (natF (X8 m c)) (natF (X9 m c)) _ fullShare fullShare fullShare rfl credit14 credit15 credit_pos (M := _) rfl credit10_pos
    (q1 := fullShare) (q2 := fullShare) (q3 := fullShare) (q4 := fullShare) (q5 := fullShare) (q6 := fullShare)
    (g1 := B0 m c) (g2 := B1 m c) (g6 := B5 m c) (Mn := natF (B2 m c)) (Rs := natF (B3 m c)) (Gm := natF (B4 m c)) (g11 := natF ((dats m 0 c).before 6 t0_0 d6)) (g12 := natF ((dats m 0 c).before 7 t0_0 d7)))
  unfold PRE POST
  isplitr []
  · isplitl [W0]; · iapply own_of_owns; iexact W0
    isplitl [W1]; · iapply own_of_owns; iexact W1
    isplitl [W2]; · iapply own_nat_of_owns; iexact W2
    isplitl [W3]; · iapply own_nat_of_owns; iexact W3
    isplitl [W4]; · iapply own_nat_of_owns; iexact W4
    isplitl [W5]; · iapply own_of_owns; iexact W5
    isplitl [H7]; · iapply (own_nat_of_owns (m := Memref.whole main_v8)); rw [owns_whole]; iexact H7
    isplitl [H8]; · iapply (own_nat_of_owns (m := Memref.whole main_v9)); rw [owns_whole]; iexact H8
    isplitl [H9]; · iapply (own_nat_of_owns (m := Memref.whole main_v10)); rw [owns_whole]; iexact H9
    isplitl [H10]; · iexists _; iapply own_of_whole; iexact H10
    isplitl [W6]; · iapply own_nat_of_owns; iexact W6
    isplitl [W7]; · iapply own_nat_of_owns; iexact W7
    isplitl [S0]; · iexists _; iapply own_of_whole; iexact S0
    isplitl [S1]; · iexists _; iapply own_of_whole; iexact S1
    isplitl [S2]; · iexists _; iapply own_of_whole; iexact S2
    isplitl [S3]; · iexists _; iapply own_of_whole; iexact S3
    isplitl [S4]; · iexists _; iapply own_of_whole; iexact S4
    isplitl [S5]; · iexists _; iapply (own_nat_of_owns (m := Memref.whole cc0_scratch5) (X := s5)); rw [owns_whole]; iexact S5
    isplitl [HC]; · iexact HC
    isplitl [HOC]; · iexact HOC
    iexists W; iexact HW
  iintro ⟨W0, W1, W2, W3, W4, W5, H7, H8, H9, H10, W6, W7, ⟨%z0, S0⟩, ⟨%z1, S1⟩, ⟨%z2, S2⟩, ⟨%z3, S3⟩, ⟨%z4, S4⟩, ⟨%z5, S5⟩, HC, HOC, ⟨%W', HW⟩⟩
  isplitl [S0 S1 S2 S3 S4 S5 HC HOC H7 H8 H9 H10]
  · isplitl [S0 S1 S2 S3 S4 S5]
    · isplitl [S0]; · iexists z0; iapply (whole_of_own fun _ => rfl); iexact S0
      isplitl [S1]; · iexists z1; iapply (whole_of_own fun _ => rfl); iexact S1
      isplitl [S2]; · iexists z2; iapply (whole_of_own fun _ => rfl); iexact S2
      isplitl [S3]; · iexists z3; iapply (whole_of_own fun _ => rfl); iexact S3
      isplitl [S4]; · iexists z4; iapply (whole_of_own fun _ => rfl); iexact S4
      iexists (fun i : S8x128.Idx => z5 (i 0 : ℕ) (i 1 : ℕ)); iapply (whole_of_own fun _ => rfl); iexact S5
    isplitl [HC HOC]
    · iapply (sems_join c); isplitl [HC]; · iexact HC
      iexact HOC
    isplitl [H7 H8 H9]
    · isplitl [H7]; · iapply (whole_of_own (b := main_v8) (f := X7 m c) (natF_eq (X7 m c))); iexact H7
      isplitl [H8]; · iapply (whole_of_own (b := main_v9) (f := X8 m c) (natF_eq (X8 m c))); iexact H8
      iapply (whole_of_own (b := main_v10) (f := X9 m c) (natF_eq (X9 m c))); iexact H9
    rw [show G m c main_v11_0 = DX m c from Function.update_self _ _ _]
    iapply (whole_of_own (b := main_v11_0) (f := DX m c) fun _ => rfl); iexact H10
  isplitl [HW]
  · iexists W'; isplitr; · ipureintro; exact fun _ _ => Or.inl trivial
    iexact HW
  isplitl [W0]; · iapply (owns_of_own fun _ => rfl); iexact W0
  isplitl [W1]; · iapply (owns_of_own fun _ => rfl); iexact W1
  isplitl [W2]; · iapply (owns_of_own (natF_eq (B2 m c))); iexact W2
  isplitl [W3]; · iapply (owns_of_own (natF_eq (B3 m c))); iexact W3
  isplitl [W4]; · iapply (owns_of_own (natF_eq (B4 m c))); iexact W4
  isplitl [W5]; · iapply (owns_of_own fun _ => rfl); iexact W5
  isplitl [W6]; · iapply (owns_of_own (Y := DG m c) fun i => rowsUp_ge _ _ _ 4 _ _ (i 0).isLt); iexact W6
  iapply (owns_of_own (Y := DB m c) fun i => rowsUp_ge _ _ _ 4 _ _ (i 0).isLt); iexact W7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  obtain rfl := fin_N0 t
  rw [bigSep_W0, bigSep_W0, defs₀_row]
  exact triple_restated (sound_body m c) rfl .rfl fun _ => .rfl

/-! ## The run -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The valuation in which the host operations after the region start. -/
abbrev Vend (c : Dev nD) : Valuation τ sig (Elt F) :=
  Pipeline.withArrays spec0 c (Pipeline.withR (V0 m c) R0 c (G m c)) fun w => (dats m 0 c).arrAt w cfg0.N

set_option backward.isDefEq.respectTransparency.types false in
theorem run_main : θ_run defs (onTc (τ := τ) (main (F := F))) (s₀ m ρ) (fun r =>
    (∀ c : Dev nD, ∀ b ∈ Pipeline.restRefs sig spec0, r.2.mem ((c.tc : Thread nD τ).loc b) = StableHlo.after (List.flatten [hostOps1]) (Vend m c) (Proc.devRef .tc b))
    ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m Variants.none) (hA := A_eq m)
    (hin := fun _ => .rfl) (hout := fun _ => .rfl) (hQ' := fun r h => ⟨fun c => (h.1 c).2, h.2⟩)

/-- A buffer nothing writes ends as it was when the region was entered. -/
theorem keeps (c : Dev nD) (b : Ref sig .tc) (h1 : ∀ op ∈ (hostOps1 : List (HloOp τ sig (Elt F))), Proc.devRef .tc b ∉ op.writes)
    (hne : ∀ w, Pipeline.arrRef spec0 w ≠ b) (hR : b ∉ R0) :
    StableHlo.after (List.flatten [hostOps1]) (Vend m c) (Proc.devRef .tc b) = V m c b := by
  rw [StableHlo.after_of_forall_not_mem (b := Proc.devRef .tc b) _ _ (by simpa using h1)]
  unfold Vend
  rw [Pipeline.withArrays_of_ne _ c _ _ b hne,
    Pipeline.withR_of_not_mem _ _ _ _ b hR]

theorem not_written (b : Ref sig .tc) (h10 : b ≠ main_v12) (h11 : b ≠ main_v13) (h12 : b ≠ main_v14) :
    ∀ op ∈ (hostOps1 : List (HloOp τ sig (Elt F))), Proc.devRef .tc b ∉ op.writes := by
  intro op hop
  simp only [hostOps1, List.mem_cons, List.mem_nil_iff, or_false] at hop
  rcases hop with rfl | rfl | rfl
  all_goals simp only [StableHlo.reshape_writes, Finset.mem_singleton]; exact StableHlo.devRef_ne_of_ne (by assumption)

/-- The program runs, its arguments end unchanged, every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨
    (h.1 c main_arg0 (Pipeline.mem_restRefs_of main_arg0 (by decide) (by decide))).trans ((keeps m c main_arg0 (not_written _ (by decide) (by decide) (by decide)) (by exact (by decide : ∀ w, Pipeline.arrRef spec0 w ≠ main_arg0)) (by decide)).trans (V_main_arg0 m c)),
    (h.1 c main_arg1 (Pipeline.mem_restRefs_of main_arg1 (by decide) (by decide))).trans ((keeps m c main_arg1 (not_written _ (by decide) (by decide) (by decide)) (by exact (by decide : ∀ w, Pipeline.arrRef spec0 w ≠ main_arg1)) (by decide)).trans (V_main_arg1 m c)),
    (h.1 c main_arg2 (Pipeline.mem_restRefs_of main_arg2 (by decide) (by decide))).trans ((keeps m c main_arg2 (not_written _ (by decide) (by decide) (by decide)) (by exact (by decide : ∀ w, Pipeline.arrRef spec0 w ≠ main_arg2)) (by decide)).trans (V_main_arg2 m c)),
    (h.1 c main_arg3 (Pipeline.mem_restRefs_of main_arg3 (by decide) (by decide))).trans ((keeps m c main_arg3 (not_written _ (by decide) (by decide) (by decide)) (by exact (by decide : ∀ w, Pipeline.arrRef spec0 w ≠ main_arg3)) (by decide)).trans (V_main_arg3 m c)),
    (h.1 c main_arg4 (Pipeline.mem_restRefs_of main_arg4 (by decide) (by decide))).trans ((keeps m c main_arg4 (not_written _ (by decide) (by decide) (by decide)) (by exact (by decide : ∀ w, Pipeline.arrRef spec0 w ≠ main_arg4)) (by decide)).trans (V_main_arg4 m c)),
    (h.1 c main_arg5 (Pipeline.mem_restRefs_of main_arg5 (by decide) (by decide))).trans ((keeps m c main_arg5 (not_written _ (by decide) (by decide) (by decide)) (by exact (by decide : ∀ w, Pipeline.arrRef spec0 w ≠ main_arg5)) (by decide)).trans (V_main_arg5 m c)),
    (h.1 c main_arg6 (Pipeline.mem_restRefs_of main_arg6 (by decide) (by decide))).trans ((keeps m c main_arg6 (not_written _ (by decide) (by decide) (by decide)) (by exact (by decide : ∀ w, Pipeline.arrRef spec0 w ≠ main_arg6)) (by decide)).trans (V_main_arg6 m c)),
    (h.1 c main_arg7 (Pipeline.mem_restRefs_of main_arg7 (by decide) (by decide))).trans ((keeps m c main_arg7 (not_written _ (by decide) (by decide) (by decide)) (by exact (by decide : ∀ w, Pipeline.arrRef spec0 w ≠ main_arg7)) (by decide)).trans (V_main_arg7 m c))⟩, h.2⟩) (run_main m ρ)

end Cert.Kernel.Hand

end
-- ==== Proof.Same.lean ====
/-
  The kernel's two printed programs — as written, and at the ideal instance — are the same program:
  a statement about one is the statement about the other.
-/
module

public import proofs.«01_k».proof.Defs
public import proofs.«01_k».proof.Proof.Run
public import proofs.«01_k».proof.Proof.Gen.KernelIdeal
public import Idealize.ShloMosaic.Lib.Pipeline.Regions

@[expose] public section

noncomputable section

namespace Cert.Proof

open Idealize.ShloMosaic Idealize.SL.Sem

/-- The program runs, its arguments end unchanged, every semaphore ends at zero. -/
def quietK (F : FTy → Type) [FloatOps F] : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

/-- The program runs, its arguments end unchanged, every semaphore ends at zero. -/
def quietI (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

theorem quiet_same (F : FTy → Type) [FloatOps F] : quietI F = quietK F := by
  chain_rfl

theorem quietK_holds (F : FTy → Type) [FloatOps F] : quietK F := fun m g => Cert.Kernel.Hand.frame m g

theorem quietI_holds (F : FTy → Type) [FloatOps F] : quietI F := (quiet_same F).symm ▸ quietK_holds F

end Cert.Proof

end
-- ==== Proof.KerBuf.lean ====
/-
  What the region reads of the arguments, and what the run leaves in the three results.
-/
module

public import proofs.«01_k».proof.Proof.Run

@[expose] public section

set_option maxRecDepth 16384

noncomputable section

namespace Cert.Kernel.Hand

open Cert.Kernel Cert.Kernel.Gen Cert.Own
open Idealize.ShloMosaic Idealize.ShloMosaic.TcCoe Idealize.SL.Sem

variable {F : FTy → Type} [FloatOps F] (m : (ℓ : Loc nD τ sig) → Buf (Elt F) ℓ) (c : Dev nD)

abbrev a0 : S96x784x512.Idx → Elt F .i8 := m ((c : Thread nD τ).loc main_arg0)
abbrev a1 : S_.Idx → Elt F .f32 := m ((c : Thread nD τ).loc main_arg1)
abbrev a2 : S96x784x512.Idx → Elt F .i8 := m ((c : Thread nD τ).loc main_arg2)
abbrev a3 : S_.Idx → Elt F .f32 := m ((c : Thread nD τ).loc main_arg3)
abbrev a4 : S96x784x512.Idx → Elt F .i8 := m ((c : Thread nD τ).loc main_arg4)
abbrev a5 : S512.Idx → Elt F .f32 := m ((c : Thread nD τ).loc main_arg5)
abbrev a6 : S512.Idx → Elt F .f32 := m ((c : Thread nD τ).loc main_arg6)
abbrev a7 : S512.Idx → Elt F .f32 := m ((c : Thread nD τ).loc main_arg7)

theorem V_v8 : V m c main_v8 = shapeCast S75264x512 (bitcastToFloat .fp8e4m3 (a0 m c) : S96x784x512.Idx → Elt F .fp8e4m3) shapeCasts_S96x784x512_S75264x512 := by
  show StableHlo.after (List.flatten [hostOps0]) _ _ = _
  unfold hostOps0
  simp only [List.flatten_cons, List.flatten_nil, List.append_nil]
  after_results
  rfl
theorem V_v9 : V m c main_v9 = shapeCast S75264x512 (bitcastToFloat .fp8e5m2 (a2 m c) : S96x784x512.Idx → Elt F .fp8e5m2) shapeCasts_S96x784x512_S75264x512 := by
  show StableHlo.after (List.flatten [hostOps0]) _ _ = _
  unfold hostOps0
  simp only [List.flatten_cons, List.flatten_nil, List.append_nil]
  after_results
  rfl
theorem V_v10 : V m c main_v10 = shapeCast S75264x512 (a4 m c) shapeCasts_S96x784x512_S75264x512 := by
  show StableHlo.after (List.flatten [hostOps0]) _ _ = _
  unfold hostOps0
  simp only [List.flatten_cons, List.flatten_nil, List.append_nil]
  after_results
  rfl
theorem V_v2 : V m c main_v2 = shapeCast S1 (a1 m c) shapeCasts_S_S1 := by
  show StableHlo.after (List.flatten [hostOps0]) _ _ = _
  unfold hostOps0
  simp only [List.flatten_cons, List.flatten_nil, List.append_nil]
  after_results
  rfl
theorem V_v3 : V m c main_v3 = shapeCast S1 (a3 m c) shapeCasts_S_S1 := by
  show StableHlo.after (List.flatten [hostOps0]) _ _ = _
  unfold hostOps0
  simp only [List.flatten_cons, List.flatten_nil, List.append_nil]
  after_results
  rfl
theorem V_v4 : V m c main_v4 = shapeCast S4x128 (a5 m c) shapeCasts_S512_S4x128 := by
  show StableHlo.after (List.flatten [hostOps0]) _ _ = _
  unfold hostOps0
  simp only [List.flatten_cons, List.flatten_nil, List.append_nil]
  after_results
  rfl
theorem V_v5 : V m c main_v5 = shapeCast S4x128 (a6 m c) shapeCasts_S512_S4x128 := by
  show StableHlo.after (List.flatten [hostOps0]) _ _ = _
  unfold hostOps0
  simp only [List.flatten_cons, List.flatten_nil, List.append_nil]
  after_results
  rfl
theorem V_v6 : V m c main_v6 = shapeCast S4x128 (a7 m c) shapeCasts_S512_S4x128 := by
  show StableHlo.after (List.flatten [hostOps0]) _ _ = _
  unfold hostOps0
  simp only [List.flatten_cons, List.flatten_nil, List.append_nil]
  after_results
  rfl
theorem V_v7 : V m c main_v7 = (fun _ => Scalar.ofBits .f32 0x3F800000#32 : S16x128.Idx → Elt F .f32) := by
  show StableHlo.after (List.flatten [hostOps0]) _ _ = _
  unfold hostOps0
  simp only [List.flatten_cons, List.flatten_nil, List.append_nil]
  after_results
  rfl

/-! ## The blocks: each window is its whole array -/

theorem B0_eq : B0 m c = V m c main_v2 := by
  funext y; exact congrArg (V m c main_v2) (funext fun a => Fin.ext (Pipeline.Window.rect_emb_val_of_index_zero win0_0 t0_0 a ((by decide : ∀ a, win0_0.index t0_0 a = 0) a) y))
theorem B1_eq : B1 m c = V m c main_v3 := by
  funext y; exact congrArg (V m c main_v3) (funext fun a => Fin.ext (Pipeline.Window.rect_emb_val_of_index_zero win0_1 t0_0 a ((by decide : ∀ a, win0_1.index t0_0 a = 0) a) y))
theorem B2_eq : B2 m c = V m c main_v4 := by
  funext y; exact congrArg (V m c main_v4) (funext fun a => Fin.ext (Pipeline.Window.rect_emb_val_of_index_zero win0_2 t0_0 a ((by decide : ∀ a, win0_2.index t0_0 a = 0) a) y))
theorem B3_eq : B3 m c = V m c main_v5 := by
  funext y; exact congrArg (V m c main_v5) (funext fun a => Fin.ext (Pipeline.Window.rect_emb_val_of_index_zero win0_3 t0_0 a ((by decide : ∀ a, win0_3.index t0_0 a = 0) a) y))
theorem B4_eq : B4 m c = V m c main_v6 := by
  funext y; exact congrArg (V m c main_v6) (funext fun a => Fin.ext (Pipeline.Window.rect_emb_val_of_index_zero win0_4 t0_0 a ((by decide : ∀ a, win0_4.index t0_0 a = 0) a) y))
theorem B5_eq : B5 m c = V m c main_v7 := by
  funext y; exact congrArg (V m c main_v7) (funext fun a => Fin.ext (Pipeline.Window.rect_emb_val_of_index_zero win0_5 t0_0 a ((by decide : ∀ a, win0_5.index t0_0 a = 0) a) y))

/-! ## The results -/

theorem one_point (t t' : Fin cfg0.N) : t = t' := by
  have h : cfg0.N = 1 := N_0
  have := t.isLt; have := t'.isLt
  exact Fin.ext (by omega)

theorem arr6 : (dats m 0 c).arrAt 6 cfg0.N = (DG m c : S4x128.Idx → Elt F .f32) := by
  have h := (dats m 0 c).read_blk_arrAt_eq_flushed 6 (fun t t' _ _ hne => absurd (one_point t t') hne) cfg0.N t0_0 t0_0.isLt (by decide)
  funext y
  refine Eq.trans (congrArg ((dats m 0 c).arrAt 6 cfg0.N) (funext fun a => Fin.ext ?_)) (congrFun h y)
  exact (Pipeline.Window.rect_emb_val_of_index_zero win0_6 t0_0 a ((by decide : ∀ a, win0_6.index t0_0 a = 0) a) y).symm

theorem arr7 : (dats m 0 c).arrAt 7 cfg0.N = (DB m c : S4x128.Idx → Elt F .f32) := by
  have h := (dats m 0 c).read_blk_arrAt_eq_flushed 7 (fun t t' _ _ hne => absurd (one_point t t') hne) cfg0.N t0_0 t0_0.isLt (by decide)
  funext y
  refine Eq.trans (congrArg ((dats m 0 c).arrAt 7 cfg0.N) (funext fun a => Fin.ext ?_)) (congrFun h y)
  exact (Pipeline.Window.rect_emb_val_of_index_zero win0_7 t0_0 a ((by decide : ∀ a, win0_7.index t0_0 a = 0) a) y).symm

theorem Vend_v11_0 : Vend m c (Proc.devRef .tc main_v11_0) = DX m c := by
  unfold Vend
  rw [Pipeline.withArrays_of_ne _ c _ _ main_v11_0 (by exact (by decide : ∀ w, Pipeline.arrRef spec0 w ≠ main_v11_0)), Pipeline.withR_of_mem _ _ _ _ _ (by decide)]
  unfold G
  exact Function.update_self _ _ _
theorem Vend_v11_1 : Vend m c (Proc.devRef .tc main_v11_1) = DG m c := by
  unfold Vend
  exact (Pipeline.withArrays_arr spec0 (by decide) c _ _ 6).trans (arr6 m c)
theorem Vend_v11_2 : Vend m c (Proc.devRef .tc main_v11_2) = DB m c := by
  unfold Vend
  exact (Pipeline.withArrays_arr spec0 (by decide) c _ _ 7).trans (arr7 m c)

theorem end_v12 : StableHlo.after (List.flatten [hostOps1]) (Vend m c) (Proc.devRef .tc main_v12) = shapeCast S96x784x512 (DX m c) shapeCasts_S75264x512_S96x784x512 := by
  rw [← Vend_v11_0]
  generalize Vend m c = W
  unfold hostOps1
  simp only [List.flatten_cons, List.flatten_nil, List.append_nil]
  after_results
  rfl

theorem end_v13 : StableHlo.after (List.flatten [hostOps1]) (Vend m c) (Proc.devRef .tc main_v13) = shapeCast S512 (DG m c) shapeCasts_S4x128_S512 := by
  rw [← Vend_v11_1]
  generalize Vend m c = W
  unfold hostOps1
  simp only [List.flatten_cons, List.flatten_nil, List.append_nil]
  after_results
  rfl

theorem end_v14 : StableHlo.after (List.flatten [hostOps1]) (Vend m c) (Proc.devRef .tc main_v14) = shapeCast S512 (DB m c) shapeCasts_S4x128_S512 := by
  rw [← Vend_v11_2]
  generalize Vend m c = W
  unfold hostOps1
  simp only [List.flatten_cons, List.flatten_nil, List.append_nil]
  after_results
  rfl

end Cert.Kernel.Hand
-- ==== Proof.Mask.lean ====
/-
  At real arithmetic the masked tiles are the incoming gradient where the mask byte is not zero and zero elsewhere;
  and sums over rows, taken in blocks.
-/
module

public import proofs.«01_k».proof.Proof.Gen.Kernel.Skeleton
public import Idealize.ShloMosaic.Lib.BitcastFour
public import Idealize.ShloMosaic.PureOps.Ideal

@[expose] public section

set_option maxRecDepth 16384

noncomputable section

namespace Cert.Kernel.Hand

open Cert.Kernel Cert.Kernel.Gen
open Idealize.ShloMosaic Idealize.ShloMosaic.TcCoe Idealize.ShloMosaic.ValueIdx

/-! ## Sums over rows, taken in blocks -/

/-- A sum over `a * b` rows, block by block. -/
theorem sum_blocks {M : Type} [AddCommMonoid M] (a b : ℕ) (f : ℕ → M) :
    ∑ r ∈ Finset.range (a * b), f r = ∑ n ∈ Finset.range a, ∑ s ∈ Finset.range b, f (b * n + s) := by
  induction a with
  | zero => simp
  | succ a ih => rw [Nat.succ_mul, Finset.sum_range_add, ih, Finset.sum_range_succ, Nat.mul_comm b a]

/-- The sums over every sixteenth row of each chunk, chunk by chunk, are one sum over all rows. -/
theorem sum_lanes {M : Type} [AddCommMonoid M] (f : ℕ → M) :
    ∑ s ∈ Finset.range 16, ∑ q ∈ Finset.range 24, ∑ n ∈ Finset.range 196, f (3136 * q + (16 * n + s))
      = ∑ r ∈ Finset.range 75264, f r := by
  rw [show (75264 : ℕ) = 24 * 3136 from rfl, sum_blocks, Finset.sum_comm]
  refine Finset.sum_congr rfl fun q _ => ?_
  rw [show (3136 : ℕ) = 196 * 16 from rfl, sum_blocks, Finset.sum_comm]

/-! ## The mask -/

theorem byte_cases (b : BitVec 8) (h : b.toNat ≤ 1) : b = 0#8 ∨ b = 1#8 := by
  rcases Nat.le_one_iff_eq_zero_or_eq_one.mp h with h | h
  · exact .inl (BitVec.eq_of_toNat_eq h)
  · exact .inr (BitVec.eq_of_toNat_eq h)

theorem word_byte (b0 b1 b2 b3 : BitVec 8) (h0 : b0 = 0#8 ∨ b0 = 1#8) (h1 : b1 = 0#8 ∨ b1 = 1#8) (h2 : b2 = 0#8 ∨ b2 = 1#8)
    (h3 : b3 = 0#8 ∨ b3 = 1#8) (k : Fin 4) :
    (((((b3 ++ b2 ++ b1 ++ b0 : BitVec 32) <<< 8) - (b3 ++ b2 ++ b1 ++ b0 : BitVec 32)).extractLsb' (8 * k.val) 8 = 0#8)
      ↔ (![b0, b1, b2, b3] k) = 0#8) := by
  revert k
  rcases h0 with rfl | rfl <;> rcases h1 with rfl | rfl <;> rcases h2 with rfl | rfl <;> rcases h3 with rfl | rfl <;> decide

theorem word_bit (b3 b2 b1 b0 : BitVec 8) (q : ℕ) :
    (b3 ++ b2 ++ b1 ++ b0).getLsbD q = if q < 8 then b0.getLsbD q else if q - 8 < 8 then b1.getLsbD (q - 8)
      else if q - 8 - 8 < 8 then b2.getLsbD (q - 8 - 8) else b3.getLsbD (q - 8 - 8 - 8) := by
  rw [BitVec.getLsbD_append, BitVec.getLsbD_append, BitVec.getLsbD_append]

theorem bitcast_word (m : Vec Ideal S32x128 .i8) (a : Fin 8) (l : Fin 128) :
    k0_pay1 (F := Ideal) m (ix2 a l)
      = (m (ix2 (⟨4 * a.val + 3, by omega⟩ : Fin 32) l) : BitVec 8) ++ (m (ix2 (⟨4 * a.val + 2, by omega⟩ : Fin 32) l) : BitVec 8)
        ++ (m (ix2 (⟨4 * a.val + 1, by omega⟩ : Fin 32) l) : BitVec 8) ++ (m (ix2 (⟨4 * a.val, by omega⟩ : Fin 32) l) : BitVec 8) := by
  apply BitVec.eq_of_getLsbD_eq
  intro q hq
  have hc : q / 8 = 0 ∨ q / 8 = 1 ∨ q / 8 = 2 ∨ q / 8 = 3 := by omega
  refine Eq.trans ?_ (word_bit _ _ _ _ q).symm
  unfold k0_pay1
  rcases hc with h | h | h | h
  · refine (bitcast_8_32_getLsbD_ix2 (R := 32) (r := 8) (n := 128) m bitcasts_S32x128_w8_S8x128_w32 a l q hq ⟨4 * a.val, by omega⟩ (by rw [h]; rfl)).trans ?_
    rw [if_pos (by omega), show q % 8 = q by omega]
  · refine (bitcast_8_32_getLsbD_ix2 (R := 32) (r := 8) (n := 128) m bitcasts_S32x128_w8_S8x128_w32 a l q hq ⟨4 * a.val + 1, by omega⟩ (by rw [h])).trans ?_
    rw [if_neg (by omega), if_pos (by omega), show q % 8 = q - 8 by omega]
  · refine (bitcast_8_32_getLsbD_ix2 (R := 32) (r := 8) (n := 128) m bitcasts_S32x128_w8_S8x128_w32 a l q hq ⟨4 * a.val + 2, by omega⟩ (by rw [h])).trans ?_
    rw [if_neg (by omega), if_neg (by omega), if_pos (by omega), show q % 8 = q - 8 - 8 by omega]
  · refine (bitcast_8_32_getLsbD_ix2 (R := 32) (r := 8) (n := 128) m bitcasts_S32x128_w8_S8x128_w32 a l q hq ⟨4 * a.val + 3, by omega⟩ (by rw [h])).trans ?_
    rw [if_neg (by omega), if_neg (by omega), if_neg (by omega), show q % 8 = q - 8 - 8 - 8 by omega]

theorem bitcast_bytes (w : IVec S8x128 32) (r : Fin 32) (l : Fin 128) :
    bitcast S32x128 8 w bitcasts_S8x128_w32_S32x128_w8 (ix2 r l)
      = (w (ix2 (⟨r.val / 4, by omega⟩ : Fin 8) l)).extractLsb' (8 * (r.val % 4)) 8 := by
  apply BitVec.eq_of_getLsbD_eq
  intro q hq
  rw [bitcast_getLsbD w bitcasts_S8x128_w32_S32x128_w8 (ix2 r l) q hq (by decide), BitVec.getLsbD_extractLsb']
  have hrow : S32x128.row (ix2 r l) = r.val := rfl
  have ep : (S32x128.row (ix2 r l) * 8 + q) / 32 = r.val / 4 := by rw [hrow]; omega
  have eq : (S32x128.row (ix2 r l) * 8 + q) % 32 = 8 * (r.val % 4) + q := by rw [hrow]; omega
  rw [eq]
  simp only [hq, decide_true, Bool.true_and]
  refine congrArg (fun z => (w z).getLsbD (8 * (r.val % 4) + q)) ?_
  funext (a : Fin 2); apply Fin.ext
  match a with
  | 0 => exact (Shape.Bitcasts.srcIdx_row _ _ _ _ _ rfl).trans ep
  | 1 => exact Shape.Bitcasts.srcIdx_other _ _ _ _ _ (by decide)

/-- A masked tile: the gradient where the mask byte is not zero, zero elsewhere. -/
theorem mask_tile (d : Vec Ideal S32x128 .fp8e5m2) (m : Vec Ideal S32x128 .i8) (hm : ∀ i, (m i : BitVec 8).toNat ≤ 1) (r : Fin 32) (l : Fin 128) :
    k0_pay2 d (k0_pay1 m) 8#32 (ix2 r l) = if (m (ix2 r l) : BitVec 8) = 0#8 then (0 : EReal) else d (ix2 r l) := by
  have key := word_byte _ _ _ _ (byte_cases _ (hm (ix2 (⟨4 * (r.val / 4), by omega⟩ : Fin 32) l)))
    (byte_cases _ (hm (ix2 (⟨4 * (r.val / 4) + 1, by omega⟩ : Fin 32) l))) (byte_cases _ (hm (ix2 (⟨4 * (r.val / 4) + 2, by omega⟩ : Fin 32) l)))
    (byte_cases _ (hm (ix2 (⟨4 * (r.val / 4) + 3, by omega⟩ : Fin 32) l))) ⟨r.val % 4, Nat.mod_lt _ (by decide)⟩
  have hb : (![(m (ix2 (⟨4 * (r.val / 4), by omega⟩ : Fin 32) l) : BitVec 8), m (ix2 (⟨4 * (r.val / 4) + 1, by omega⟩ : Fin 32) l),
      m (ix2 (⟨4 * (r.val / 4) + 2, by omega⟩ : Fin 32) l), m (ix2 (⟨4 * (r.val / 4) + 3, by omega⟩ : Fin 32) l)]
        ⟨r.val % 4, Nat.mod_lt _ (by decide)⟩) = m (ix2 r l) := by
    have hc : r.val % 4 = 0 ∨ r.val % 4 = 1 ∨ r.val % 4 = 2 ∨ r.val % 4 = 3 := by omega
    have hv (k : Fin 4) (z : Fin 32) (hz : z.val = 4 * (r.val / 4) + k.val) (hk : r.val % 4 = k.val) : z = r := Fin.ext (by omega)
    rcases hc with h | h | h | h
    · rw [show (⟨r.val % 4, Nat.mod_lt _ (by decide)⟩ : Fin 4) = 0 from Fin.ext h]
      exact congrArg (fun z => m (ix2 z l)) (hv 0 ⟨_, by omega⟩ rfl h)
    · rw [show (⟨r.val % 4, Nat.mod_lt _ (by decide)⟩ : Fin 4) = 1 from Fin.ext h]
      exact congrArg (fun z => m (ix2 z l)) (hv 1 ⟨_, by omega⟩ rfl h)
    · rw [show (⟨r.val % 4, Nat.mod_lt _ (by decide)⟩ : Fin 4) = 2 from Fin.ext h]
      exact congrArg (fun z => m (ix2 z l)) (hv 2 ⟨_, by omega⟩ rfl h)
    · rw [show (⟨r.val % 4, Nat.mod_lt _ (by decide)⟩ : Fin 4) = 3 from Fin.ext h]
      exact congrArg (fun z => m (ix2 z l)) (hv 3 ⟨_, by omega⟩ rfl h)
  rw [hb] at key
  have hw : bitcast S32x128 8 (subi (shli (k0_pay1 m) (broadcast S8x128 8#32)) (k0_pay1 m)) bitcasts_S8x128_w32_S32x128_w8 (ix2 r l)
      = ((k0_pay1 m (ix2 (⟨r.val / 4, by omega⟩ : Fin 8) l) <<< 8) - k0_pay1 m (ix2 (⟨r.val / 4, by omega⟩ : Fin 8) l)).extractLsb' (8 * (r.val % 4)) 8 := by
    rw [bitcast_bytes]
    rfl
  rw [bitcast_word] at hw
  have hz : (Scalar.ofBits .fp8e5m2 0x00#8 : Ideal .fp8e5m2) = (0 : EReal) := by
    show Ideal.ofBits .fp8e5m2 0x00#8 = (0 : EReal)
    simp [Ideal.ofBits, Ideal.ieee]
  unfold k0_pay2
  show (if (BitVec.ofBool (bitcast S32x128 8 (subi (shli (k0_pay1 m) (broadcast S8x128 8#32)) (k0_pay1 m)) bitcasts_S8x128_w32_S32x128_w8 (ix2 r l) != 0#8)) = 1#1
    then d (ix2 r l) else (Scalar.ofBits .fp8e5m2 0x00#8 : Ideal .fp8e5m2)) = _
  rw [hz, hw]
  by_cases h : (m (ix2 r l) : BitVec 8) = 0#8
  · rw [key.mpr h, if_pos h]; rfl
  · rw [if_neg h, if_pos]
    have := mt key.mp h
    simp only [bne, beq_eq_false_iff_ne.mpr this]; rfl

end Cert.Kernel.Hand
-- ==== Proof.Tile.lean ====
/-
  At real arithmetic the running sums of the kernel are plain sums, over the rows they have passed, of the masked
  gradient and of its product with the input.
-/
module

public import proofs.«01_k».proof.Proof.Body1
public import proofs.«01_k».proof.Proof.Mask
public import Idealize.ShloMosaic.PureOps.Ideal.Laws

@[expose] public section

set_option maxRecDepth 16384

noncomputable section

namespace Cert.Kernel.Hand

open Cert.Kernel Cert.Kernel.Gen Cert.Own
open Idealize.ShloMosaic Idealize.ShloMosaic.TcCoe Idealize.ShloMosaic.ValueIdx

section
variable {F : FTy → Type} [FloatOps F]

/-- The two halves of a tile of the input, as the sums read them. -/
def xlo (v : Vec F S32x128 .fp8e4m3) : FVec F S16x128 .f32 :=
  extf .f32 (extractStridedSlice S16x128 ![0, 0] (extf .bf16 v bitsLt_fp8e4m3_bf16) slices_S32x128_o0_0_S16x128) bitsLt_bf16_f32
def xhi (v : Vec F S32x128 .fp8e4m3) : FVec F S16x128 .f32 :=
  extf .f32 (extractStridedSlice S16x128 ![16, 0] (extf .bf16 v bitsLt_fp8e4m3_bf16) slices_S32x128_o16_0_S16x128) bitsLt_bf16_f32
/-- The two halves of a masked tile. -/
def glo (dc : ℕ → ℕ → Elt F .fp8e5m2) (mc : ℕ → ℕ → Elt F .i8) (k : ℕ) : FVec F S16x128 .f32 := k0_pay5 (blk dc k) (k0_pay1 (blk mc k)) 8#32
def ghi (dc : ℕ → ℕ → Elt F .fp8e5m2) (mc : ℕ → ℕ → Elt F .i8) (k : ℕ) : FVec F S16x128 .f32 := k0_pay6 (blk dc k) (k0_pay1 (blk mc k)) 8#32

variable (xc : ℕ → ℕ → Elt F .fp8e4m3) (dc : ℕ → ℕ → Elt F .fp8e5m2) (mc : ℕ → ℕ → Elt F .i8)

/-- The sum of a trip's tiles, tile by tile, each half times `o`. -/
def chA (o : FVec F S16x128 .f32) (k : ℕ) : ℕ → FVec F S16x128 .f32
  | 0 => addf (mulf (glo dc mc k) o) (mulf (ghi dc mc k) o)
  | j + 1 => addf (addf (chA o k j) (mulf (glo dc mc (k + 32 * (j + 1))) o)) (mulf (ghi dc mc (k + 32 * (j + 1))) o)

/-- The sum of a trip's tiles, each half times the input's. -/
def chX (k : ℕ) : ℕ → FVec F S16x128 .f32
  | 0 => addf (mulf (glo dc mc k) (xlo (blk xc k))) (mulf (ghi dc mc k) (xhi (blk xc k)))
  | j + 1 => addf (addf (chX k j) (mulf (glo dc mc (k + 32 * (j + 1))) (xlo (blk xc (k + 32 * (j + 1))))))
      (mulf (ghi dc mc (k + 32 * (j + 1))) (xhi (blk xc (k + 32 * (j + 1)))))

theorem t2out_fst (k : ℕ) (ones : Vec F S16x128 .f32) (acc : FVec F S16x128 .f32 × FVec F S16x128 .f32) :
    (t2out xc dc mc k ones acc).1 = addf acc.1 (chA dc mc (k0_pay99 ones) k 13) := rfl

theorem t2out_snd (k : ℕ) (ones : Vec F S16x128 .f32) (acc : FVec F S16x128 .f32 × FVec F S16x128 .f32) :
    (t2out xc dc mc k ones acc).2 = addf acc.2 (chX xc dc mc k 13) := rfl
end

section
variable (xc : ℕ → ℕ → Elt Ideal .fp8e4m3) (dc : ℕ → ℕ → Elt Ideal .fp8e5m2) (mc : ℕ → ℕ → Elt Ideal .i8)

/-- The gradient where the mask byte is not zero, zero elsewhere. -/
def mv (r l : ℕ) : EReal := if (mc r l : BitVec 8) = 0#8 then 0 else (dc r l : EReal)

variable (hm : ∀ r l, (mc r l : BitVec 8).toNat ≤ 1)
include hm

theorem tile_val (k : ℕ) (r : Fin 32) (l : Fin 128) : k0_pay2 (blk dc k) (k0_pay1 (blk mc k)) 8#32 (ix2 r l) = mv dc mc (k + r.val) l.val :=
  mask_tile (blk dc k) (blk mc k) (fun i => hm _ _) r l

theorem msk_val (r l : ℕ) (hl : l < 128) : msk dc mc r l = mv dc mc r l := by
  have h := tile_val dc mc hm (32 * (r / 32)) ⟨r % 32, Nat.mod_lt _ (by decide)⟩ ⟨l % 128, Nat.mod_lt _ (by decide)⟩
  rw [show 32 * (r / 32) + ((⟨r % 32, Nat.mod_lt _ (by decide)⟩ : Fin 32) : ℕ) = r from Nat.div_add_mod r 32,
    show ((⟨l % 128, Nat.mod_lt _ (by decide)⟩ : Fin 128) : ℕ) = l from Nat.mod_eq_of_lt hl] at h
  refine Eq.trans ?_ h
  unfold msk mskB k0_pay3
  refine (shapeCast_apply _ _ _ (ix2 (⟨r % 32, Nat.mod_lt _ (by decide)⟩ : Fin 32) (⟨l % 128, Nat.mod_lt _ (by decide)⟩ : Fin 128))
    (by rw [Shape.rowMajor_val_two, Shape.rowMajor_val_three]; show r % 32 * 128 + l % 128 = (0 * 32 + r % 32) * 128 + l % 128; omega)).trans ?_
  exact shapeCast_apply _ _ _ _ rfl

theorem glo_val (k : ℕ) (s : Fin 16) (l : Fin 128) : (glo dc mc k (ix2 s l) : EReal) = mv dc mc (k + s.val) l.val := by
  have h := tile_val dc mc hm k ⟨s.val, by omega⟩ l
  refine Eq.trans ?_ h
  refine congrArg (k0_pay2 (blk dc k) (k0_pay1 (blk mc k)) 8#32) ?_
  funext (a : Fin 2); apply Fin.ext
  match a with
  | 0 => exact Nat.zero_add _
  | 1 => exact Nat.zero_add _

theorem ghi_val (k : ℕ) (s : Fin 16) (l : Fin 128) : (ghi dc mc k (ix2 s l) : EReal) = mv dc mc (k + (16 + s.val)) l.val := by
  have h := tile_val dc mc hm k ⟨16 + s.val, by omega⟩ l
  refine Eq.trans ?_ h
  refine congrArg (k0_pay2 (blk dc k) (k0_pay1 (blk mc k)) 8#32) ?_
  funext (a : Fin 2); apply Fin.ext
  match a with
  | 0 => rfl
  | 1 => exact Nat.zero_add _

omit hm in
theorem xlo_val (k : ℕ) (s : Fin 16) (l : Fin 128) : (xlo (blk xc k) (ix2 s l) : EReal) = xc (k + s.val) l.val := by
  show (xc (k + (0 + s.val)) (0 + l.val) : EReal) = _
  rw [Nat.zero_add, Nat.zero_add]

omit hm in
theorem xhi_val (k : ℕ) (s : Fin 16) (l : Fin 128) : (xhi (blk xc k) (ix2 s l) : EReal) = xc (k + (16 + s.val)) l.val := by
  show (xc (k + (16 + s.val)) (0 + l.val) : EReal) = _
  rw [Nat.zero_add]

theorem chA_val (o : FVec Ideal S16x128 .f32) (ho : ∀ i, (o i : EReal) = 1) (k j : ℕ) (s : Fin 16) (l : Fin 128) :
    (chA dc mc o k j (ix2 s l) : EReal) = ∑ n ∈ Finset.range (2 * (j + 1)), mv dc mc (k + (16 * n + s.val)) l.val := by
  induction j with
  | zero =>
    show (glo dc mc k (ix2 s l) : EReal) * (o (ix2 s l) : EReal) + (ghi dc mc k (ix2 s l) : EReal) * (o (ix2 s l) : EReal) = _
    rw [ho, mul_one, mul_one, glo_val dc mc hm, ghi_val dc mc hm]
    simp [Finset.sum_range_succ]
  | succ j ih =>
    show (chA dc mc o k j (ix2 s l) : EReal) + (glo dc mc (k + 32 * (j + 1)) (ix2 s l) : EReal) * (o (ix2 s l) : EReal)
      + (ghi dc mc (k + 32 * (j + 1)) (ix2 s l) : EReal) * (o (ix2 s l) : EReal) = _
    rw [ih, ho, mul_one, mul_one, glo_val dc mc hm, ghi_val dc mc hm, show 2 * (j + 1 + 1) = 2 * (j + 1) + 1 + 1 by ring, Finset.sum_range_succ,
      Finset.sum_range_succ, show k + 32 * (j + 1) + s.val = k + (16 * (2 * (j + 1)) + s.val) by omega,
      show k + 32 * (j + 1) + (16 + s.val) = k + (16 * (2 * (j + 1) + 1) + s.val) by omega]

theorem chX_val (k j : ℕ) (s : Fin 16) (l : Fin 128) :
    (chX xc dc mc k j (ix2 s l) : EReal)
      = ∑ n ∈ Finset.range (2 * (j + 1)), mv dc mc (k + (16 * n + s.val)) l.val * (xc (k + (16 * n + s.val)) l.val : EReal) := by
  induction j with
  | zero =>
    show (glo dc mc k (ix2 s l) : EReal) * (xlo (blk xc k) (ix2 s l) : EReal) + (ghi dc mc k (ix2 s l) : EReal) * (xhi (blk xc k) (ix2 s l) : EReal) = _
    rw [glo_val dc mc hm, ghi_val dc mc hm, xlo_val, xhi_val]
    simp [Finset.sum_range_succ]
  | succ j ih =>
    show (chX xc dc mc k j (ix2 s l) : EReal) + (glo dc mc (k + 32 * (j + 1)) (ix2 s l) : EReal) * (xlo (blk xc (k + 32 * (j + 1))) (ix2 s l) : EReal)
      + (ghi dc mc (k + 32 * (j + 1)) (ix2 s l) : EReal) * (xhi (blk xc (k + 32 * (j + 1))) (ix2 s l) : EReal) = _
    rw [ih, glo_val dc mc hm, ghi_val dc mc hm, xlo_val, xhi_val, show 2 * (j + 1 + 1) = 2 * (j + 1) + 1 + 1 by ring, Finset.sum_range_succ,
      Finset.sum_range_succ, show k + 32 * (j + 1) + s.val = k + (16 * (2 * (j + 1)) + s.val) by omega,
      show k + 32 * (j + 1) + (16 + s.val) = k + (16 * (2 * (j + 1) + 1) + s.val) by omega]

variable (ones : Vec Ideal S16x128 .f32) (ho : ∀ i, (ones i : EReal) = 1)
include ho

omit hm in
theorem ones_val (i : S16x128.Idx) : (k0_pay99 ones i : EReal) = 1 := by
  have h : (k0_pay99 ones i : EReal) = shapeCast S16x128 ones shapeCasts_S16x128_S16x128 i := rfl
  rw [h, shapeCast_apply ones _ i i rfl, ho]

/-- The sums over the first `k` trips of a chunk. -/
theorem t2sum_val (k : ℕ) (s : Fin 16) (l : Fin 128) :
    ((t2sum xc dc mc ones k).1 (ix2 s l) : EReal) = ∑ n ∈ Finset.range (28 * k), mv dc mc (16 * n + s.val) l.val
    ∧ ((t2sum xc dc mc ones k).2 (ix2 s l) : EReal)
      = ∑ n ∈ Finset.range (28 * k), mv dc mc (16 * n + s.val) l.val * (xc (16 * n + s.val) l.val : EReal) := by
  induction k with
  | zero =>
    have h : (k0_pay100 (F := Ideal) (ix2 s l) : EReal) = 0 := Ideal.ofBits_zero_f32
    exact ⟨h.trans (by simp), h.trans (by simp)⟩
  | succ k ih =>
    have e (n : ℕ) : 448 * k + (16 * n + s.val) = 16 * (28 * k + n) + s.val := by ring
    constructor
    · have h : ((t2sum xc dc mc ones (k + 1)).1 (ix2 s l) : EReal)
          = ((t2sum xc dc mc ones k).1 (ix2 s l) : EReal) + (chA dc mc (k0_pay99 ones) (448 * k) 13 (ix2 s l) : EReal) :=
        congrFun (t2out_fst xc dc mc (448 * k) ones (t2sum xc dc mc ones k)) (ix2 s l)
      rw [h, ih.1, chA_val dc mc hm _ (ones_val ones ho), show 28 * (k + 1) = 28 * k + 2 * (13 + 1) by ring, Finset.sum_range_add]
      simp only [e]
    · have h : ((t2sum xc dc mc ones (k + 1)).2 (ix2 s l) : EReal)
          = ((t2sum xc dc mc ones k).2 (ix2 s l) : EReal) + (chX xc dc mc (448 * k) 13 (ix2 s l) : EReal) :=
        congrFun (t2out_snd xc dc mc (448 * k) ones (t2sum xc dc mc ones k)) (ix2 s l)
      rw [h, ih.2, chX_val xc dc mc hm, show 28 * (k + 1) = 28 * k + 2 * (13 + 1) by ring, Finset.sum_range_add]
      simp only [e]

end

section
variable (Ax : ℕ → ℕ → Elt Ideal .fp8e4m3) (Ad : ℕ → ℕ → Elt Ideal .fp8e5m2) (Am : ℕ → ℕ → Elt Ideal .i8)

theorem dn_val (t u : FVec Ideal S16x128 .f32) (s : Fin 16) (l : Fin 128) :
    (dn3 (k0_pay108 t (up3 u)) (ix2 s l) : EReal) = (u (ix2 s l) : EReal) + (t (ix2 s l) : EReal) := by
  have h : (dn3 (k0_pay108 t (up3 u)) (ix2 s l) : EReal) = shapeCast S1x16x128 (addf (shapeCast S16x128 (up3 u) shapeCasts_S1x16x128_S16x128) t)
      shapeCasts_S16x128_S1x16x128 (ix3 (0 : Fin 1) s l) := rfl
  rw [h, shapeCast_apply _ _ _ (ix2 s l) (by rw [Shape.rowMajor_val_two, Shape.rowMajor_val_three]; show s.val * 128 + l.val = (0 * 16 + s.val) * 128 + l.val; omega)]
  have h2 : shapeCast S16x128 (up3 (F := Ideal) u) shapeCasts_S1x16x128_S16x128 (ix2 s l) = u (ix2 s l) :=
    shapeCast_apply _ _ _ (ix3 (0 : Fin 1) s l) (by rw [Shape.rowMajor_val_two, Shape.rowMajor_val_three]; show (0 * 16 + s.val) * 128 + l.val = s.val * 128 + l.val; omega)
  exact congrArg (fun z : EReal => z + (t (ix2 s l) : EReal)) h2

theorem dn_val' (t u : FVec Ideal S16x128 .f32) (s : Fin 16) (l : Fin 128) :
    (dn3 (k0_pay109 t (up3 u)) (ix2 s l) : EReal) = (u (ix2 s l) : EReal) + (t (ix2 s l) : EReal) := dn_val t u s l

variable (hm : ∀ r l, (Am r l : BitVec 8).toNat ≤ 1) (ones : Vec Ideal S16x128 .f32) (ho : ∀ i, (ones i : EReal) = 1)
include hm ho

/-- The sums over the first `k` chunks of a column. -/
theorem accs_val (n0 : ℕ) (u : Vec Ideal S16x128 .f32 × Vec Ideal S16x128 .f32) (hu : ∀ i, (u.1 i : EReal) = 0 ∧ (u.2 i : EReal) = 0) (k : ℕ) (s : Fin 16) (l : Fin 128) :
    ((accs Ax Ad Am n0 ones u k).1 (ix2 s l) : EReal)
      = ∑ q ∈ Finset.range k, ∑ n ∈ Finset.range 196, mv (chk Ad (n0 + q)) (chk Am (n0 + q)) (16 * n + s.val) l.val
    ∧ ((accs Ax Ad Am n0 ones u k).2 (ix2 s l) : EReal)
      = ∑ q ∈ Finset.range k, ∑ n ∈ Finset.range 196, mv (chk Ad (n0 + q)) (chk Am (n0 + q)) (16 * n + s.val) l.val
          * (chk Ax (n0 + q) (16 * n + s.val) l.val : EReal) := by
  induction k with
  | zero => exact ⟨((hu _).1).trans (by simp), ((hu _).2).trans (by simp)⟩
  | succ k ih =>
    have ht := t2sum_val (chk Ax (n0 + k)) (chk Ad (n0 + k)) (chk Am (n0 + k)) (fun r l => hm _ _) ones ho 7 s l
    rw [Finset.sum_range_succ _ k, Finset.sum_range_succ _ k, ← ih.1, ← ih.2]
    refine ⟨(dn_val _ _ s l).trans (congrArg (fun z : EReal => _ + z) ht.1), (dn_val' _ _ s l).trans (congrArg (fun z : EReal => _ + z) ht.2)⟩

end
end Cert.Kernel.Hand
-- ==== Proof.Cols.lean ====
/-
  At real arithmetic: what the kernel computes for a column block, and for an element of the result.
-/
module

public import proofs.«01_k».proof.Proof.Body8
public import proofs.«01_k».proof.Proof.Tile
public import Idealize.ShloMosaic.Lib.Pointwise.Reduce

@[expose] public section

set_option maxRecDepth 16384

noncomputable section

namespace Cert.Kernel.Hand

open Cert.Kernel Cert.Kernel.Gen Cert.Own
open Idealize.ShloMosaic hiding ix1 ix2 ix3
open Idealize.ShloMosaic.TcCoe Idealize.ShloMosaic.ValueIdx

/-- The constant the sums are scaled by. -/
def cK : EReal := (Scalar.ofBits .f32 0x375EE95C#32 : Ideal .f32)

section
variable (Ax : ℕ → ℕ → Elt Ideal .fp8e4m3) (Ad : ℕ → ℕ → Elt Ideal .fp8e5m2) (Am : ℕ → ℕ → Elt Ideal .i8)
  (ones : Vec Ideal S16x128 .f32) (s1 s2 : Elt Ideal .f32) (Mn Rs Gm : ℕ → ℕ → Elt Ideal .f32)

/-- The sums down a channel. -/
def sB (L : ℕ) : EReal := ∑ r ∈ Finset.range 75264, mv Ad Am r L
def sX (L : ℕ) : EReal := ∑ r ∈ Finset.range 75264, mv Ad Am r L * (Ax r L : EReal)

/-- The two gradients of a channel. -/
def vB (L : ℕ) : EReal := sB Ad Am L * (s2 : EReal)
def vD (L : ℕ) : EReal :=
  (Rs (L / 128) (L % 128) : EReal) * ((sX Ax Ad Am L * (s1 : EReal)) * (s2 : EReal) - (Mn (L / 128) (L % 128) : EReal) * vB Ad Am s2 L)
/-- The last pass's coefficient. -/
def vK (L : ℕ) : EReal :=
  (((Rs (L / 128) (L % 128) : EReal) * (Gm (L / 128) (L % 128) : EReal)) * (Rs (L / 128) (L % 128) : EReal)) * (vD Ax Ad Am s1 s2 Mn Rs L * cK)
/-- The gradient with respect to the input. -/
def vO (r L : ℕ) : EReal :=
  mv Ad Am r L * (((Rs (L / 128) (L % 128) : EReal) * (Gm (L / 128) (L % 128) : EReal)) * (s2 : EReal))
    + ((Ax r L : EReal) * ((0 - vK Ax Ad Am s1 s2 Mn Rs Gm L) * (s1 : EReal))
      + (vK Ax Ad Am s1 s2 Mn Rs Gm L * (Mn (L / 128) (L % 128) : EReal)
        - ((Rs (L / 128) (L % 128) : EReal) * (Gm (L / 128) (L % 128) : EReal)) * (vB Ad Am s2 L * cK)))

variable (hm : ∀ r l, (Am r l : BitVec 8).toNat ≤ 1) (ho : ∀ i, (ones i : EReal) = 1)

theorem zz_val (i : S16x128.Idx) : ((zz (F := Ideal)).1 i : EReal) = 0 ∧ ((zz (F := Ideal)).2 i : EReal) = 0 := by
  have h (k : S2x16x128.Idx) : (k0_pay492 (F := Ideal) k : EReal) = 0 := Ideal.ofBits_zero_f32
  exact ⟨h (ix3 (0 : Fin 2) (i 0) (i 1)), h (ix3 (1 : Fin 2) (i 0) (i 1))⟩

include hm ho in
theorem su_val (j : ℕ) (s : Fin 16) (l : Fin 128) :
    ((su Ax Ad Am ones j).1 (ix2 s l) : EReal)
      = ∑ q ∈ Finset.range 24, ∑ n ∈ Finset.range 196, mv Ad Am (3136 * q + (16 * n + s.val)) (128 * j + l.val)
    ∧ ((su Ax Ad Am ones j).2 (ix2 s l) : EReal)
      = ∑ q ∈ Finset.range 24, ∑ n ∈ Finset.range 196, mv Ad Am (3136 * q + (16 * n + s.val)) (128 * j + l.val)
          * (Ax (3136 * q + (16 * n + s.val)) (128 * j + l.val) : EReal) := by
  have h := accs_val Ax Ad Am hm ones ho (24 * j) zz zz_val 24 s l
  have e (q : ℕ) (hq : q ∈ Finset.range 24) (r : ℕ) : mv (chk Ad (24 * j + q)) (chk Am (24 * j + q)) r l.val = mv Ad Am (3136 * q + r) (128 * j + l.val)
      ∧ chk Ax (24 * j + q) r l.val = Ax (3136 * q + r) (128 * j + l.val) := by
    have hq := Finset.mem_range.mp hq
    unfold mv chk
    rw [show (24 * j + q) % 24 = q by omega, show (24 * j + q) / 24 = j by omega]
    exact ⟨rfl, rfl⟩
  constructor
  · refine h.1.trans (Finset.sum_congr rfl fun q hq => Finset.sum_congr rfl fun n _ => (e q hq _).1)
  · refine h.2.trans (Finset.sum_congr rfl fun q hq => Finset.sum_congr rfl fun n _ => ?_)
    rw [(e q hq _).1, (e q hq _).2]

theorem red_val (u : Vec Ideal S16x128 .f32) (l : Fin 128) :
    (shapeCast S1x128 (multiReduction .add [0] S128 (shapeCast S16x128 (up3 (F := Ideal) u) shapeCasts_S1x16x128_S16x128 : FVec Ideal S16x128 .f32) 0x00000000#32 reduces_S16x128_S128 (.inl rfl) rfl : FVec Ideal S128 .f32)
      shapeCasts_S128_S1x128 (ix2 (0 : Fin 1) l) : EReal) = ∑ s ∈ Finset.range 16, if h : s < 16 then (u (ix2 (⟨s, h⟩ : Fin 16) l) : EReal) else 0 := by
  rw [shapeCast_apply _ _ _ (ix1 l : S128.Idx) (by rw [Shape.rowMajor_val_one, Shape.rowMajor_val_two]; show l.val = 0 * 128 + l.val; omega)]
  refine (Ideal.reduceAdd_r2_a0 reduces_S16x128_S128 _ _).trans ?_
  rw [Finset.sum_range]
  refine Finset.sum_congr rfl fun s _ => ?_
  rw [dif_pos s.isLt]
  refine (shapeCast_apply _ _ _ (ix3 (0 : Fin 1) s l) (by rw [Shape.rowMajor_val_two, Shape.rowMajor_val_three]; show (0 * 16 + s.val) * 128 + l.val = s.val * 128 + l.val; omega)).trans ?_
  rfl

include hm ho in
theorem redS_val (j : ℕ) (l : Fin 128) :
    (∑ s ∈ Finset.range 16, if h : s < 16 then ((su Ax Ad Am ones j).1 (ix2 (⟨s, h⟩ : Fin 16) l) : EReal) else 0) = sB Ad Am (128 * j + l.val) := by
  unfold sB
  rw [← sum_lanes]
  refine Finset.sum_congr rfl fun s hs => ?_
  rw [dif_pos (Finset.mem_range.mp hs)]
  exact (su_val Ax Ad Am ones hm ho j _ l).1

include hm ho in
theorem redX_val (j : ℕ) (l : Fin 128) :
    (∑ s ∈ Finset.range 16, if h : s < 16 then ((su Ax Ad Am ones j).2 (ix2 (⟨s, h⟩ : Fin 16) l) : EReal) else 0) = sX Ax Ad Am (128 * j + l.val) := by
  unfold sX
  rw [← sum_lanes]
  refine Finset.sum_congr rfl fun s hs => ?_
  rw [dif_pos (Finset.mem_range.mp hs)]
  exact (su_val Ax Ad Am ones hm ho j _ l).2

theorem colq (j : ℕ) (l : Fin 128) : (128 * j + l.val) / 128 = j := by omega
theorem colr (j : ℕ) (l : Fin 128) : (128 * j + l.val) % 128 = l.val := by omega

include hm ho in
theorem dbv_val (j : ℕ) (l : Fin 128) : (dbv Ax Ad Am ones s2 j (ix2 (0 : Fin 1) l) : EReal) = vB Ad Am s2 (128 * j + l.val) := by
  unfold vB
  rw [← redS_val Ax Ad Am ones hm ho j l, ← red_val]
  rfl

theorem row_val (g : ℕ → ℕ → Elt Ideal .f32) (j : ℕ) (l : Fin 128) :
    shapeCast S1x128 (rowV g j : Vec Ideal S1x128 .f32) shapeCasts_S1x128_S1x128 (ix2 (0 : Fin 1) l) = g j l.val :=
  shapeCast_apply _ _ _ (ix2 (0 : Fin 1) l) rfl

include hm ho in
theorem dgv_val (j : ℕ) (l : Fin 128) :
    (dgv Ax Ad Am ones s1 s2 Mn Rs j (ix2 (0 : Fin 1) l) : EReal) = vD Ax Ad Am s1 s2 Mn Rs (128 * j + l.val) := by
  unfold vD
  rw [← dbv_val Ax Ad Am ones s2 hm ho, ← redX_val Ax Ad Am ones hm ho j l, ← red_val, colq, colr, ← row_val Rs j l, ← row_val Mn j l]
  rfl

theorem cra_val (j : ℕ) (l : Fin 128) : (cra s2 Rs Gm j (ix2 (0 : Fin 1) l) : EReal) = ((Rs j l.val : EReal) * (Gm j l.val : EReal)) * (s2 : EReal) := by
  have h : (cra s2 Rs Gm j (ix2 (0 : Fin 1) l) : EReal)
      = shapeCast S1x128 (mulf (mulf (shapeCast S1x128 (rowV Rs j : Vec Ideal S1x128 .f32) shapeCasts_S1x128_S1x128 : FVec Ideal S1x128 .f32) (shapeCast S1x128 (rowV Gm j : Vec Ideal S1x128 .f32) shapeCasts_S1x128_S1x128)) (broadcast S1x128 s2) : FVec Ideal S1x128 .f32)
        shapeCasts_S1x128_S1x128 (ix2 (0 : Fin 1) l) := rfl
  rw [h, shapeCast_apply _ _ _ (ix2 (0 : Fin 1) l) rfl, ← row_val Rs j l, ← row_val Gm j l]
  rfl

include hm ho in
theorem k813_val (j : ℕ) (l : Fin 128) :
    (k0_pay813 (k0_pay490 (rowV Rs j)) (k0_pay491 (rowV Gm j)) (dgv Ax Ad Am ones s1 s2 Mn Rs j) (ix2 (0 : Fin 1) l) : EReal)
      = vK Ax Ad Am s1 s2 Mn Rs Gm (128 * j + l.val) := by
  unfold vK
  rw [← dgv_val Ax Ad Am ones s1 s2 Mn Rs hm ho, colq, colr, ← row_val Rs j l, ← row_val Gm j l]
  rfl

include hm ho in
theorem crb_val (j : ℕ) (l : Fin 128) :
    (crb Ax Ad Am ones s1 s2 Mn Rs Gm j (ix2 (0 : Fin 1) l) : EReal) = (0 - vK Ax Ad Am s1 s2 Mn Rs Gm (128 * j + l.val)) * (s1 : EReal) := by
  rw [← k813_val Ax Ad Am ones s1 s2 Mn Rs Gm hm ho, ← Ideal.ofBits_zero_f32]
  exact shapeCast_apply (mulf (subf (broadcast S1x128 (Scalar.ofBits .f32 0x00000000#32 : Ideal .f32))
    (k0_pay813 (k0_pay490 (rowV Rs j)) (k0_pay491 (rowV Gm j)) (dgv Ax Ad Am ones s1 s2 Mn Rs j))) (broadcast S1x128 s1) : FVec Ideal S1x128 .f32)
    shapeCasts_S1x128_S1x128 (ix2 (0 : Fin 1) l) (ix2 (0 : Fin 1) l) rfl

include hm ho in
theorem crc_val (j : ℕ) (l : Fin 128) :
    (crc Ax Ad Am ones s1 s2 Mn Rs Gm j (ix2 (0 : Fin 1) l) : EReal)
      = vK Ax Ad Am s1 s2 Mn Rs Gm (128 * j + l.val) * (Mn j l.val : EReal)
        - ((Rs j l.val : EReal) * (Gm j l.val : EReal)) * (vB Ad Am s2 (128 * j + l.val) * cK) := by
  rw [← k813_val Ax Ad Am ones s1 s2 Mn Rs Gm hm ho, ← dbv_val Ax Ad Am ones s2 hm ho, ← row_val Rs j l, ← row_val Gm j l, ← row_val Mn j l]
  exact shapeCast_apply (subf (mulf (k0_pay813 (k0_pay490 (rowV Rs j)) (k0_pay491 (rowV Gm j)) (dgv Ax Ad Am ones s1 s2 Mn Rs j)) (k0_pay489 (rowV Mn j)))
    (mulf (k0_pay812 (k0_pay490 (rowV Rs j)) (k0_pay491 (rowV Gm j))) (mulf (dbv Ax Ad Am ones s2 j) (broadcast S1x128 (Scalar.ofBits .f32 0x375EE95C#32 : Ideal .f32)))) : FVec Ideal S1x128 .f32)
    shapeCasts_S1x128_S1x128 (ix2 (0 : Fin 1) l) (ix2 (0 : Fin 1) l) rfl

theorem brow_val (v : Vec Ideal S1x128 .f32) (r : Fin 32) (l : Fin 128) :
    broadcastTo S32x128 v broadcasts_S1x128_S32x128 (ix2 r l) = v (ix2 (0 : Fin 1) l) := by
  refine broadcastTo_apply _ _ _ _ (fun a => ?_)
  match a with
  | ⟨0, _⟩ => exact (if_pos rfl).symm
  | ⟨1, _⟩ => exact (if_neg (show ¬(128 = 1) by decide)).symm

theorem dxc_val (ra rb rc : Vec Ideal S1x128 .f32) (xc : ℕ → ℕ → Elt Ideal .fp8e4m3) (gc : ℕ → ℕ → Elt Ideal .fp8e5m2) (r : ℕ) (l : Fin 128) :
    (dxc ra rb rc xc gc r l.val : EReal) = (gc r l.val : EReal) * (ra (ix2 (0 : Fin 1) l) : EReal)
      + ((xc r l.val : EReal) * (rb (ix2 (0 : Fin 1) l) : EReal) + (rc (ix2 (0 : Fin 1) l) : EReal)) := by
  have hl : (⟨l.val % 128, Nat.mod_lt _ (by decide)⟩ : Fin 128) = l := Fin.ext (Nat.mod_eq_of_lt l.isLt)
  have hr : 32 * (r / 32) + r % 32 = r := Nat.div_add_mod r 32
  have key : (dxc ra rb rc xc gc r l.val : EReal)
      = shapeCast S1x32x128 (shapeCast S32x128 (addf (mulf (extf .f32 (blk gc (32 * (r / 32)) : FVec Ideal S32x128 .fp8e5m2) bitsLt_fp8e5m2_f32) (broadcastTo S32x128 ra broadcasts_S1x128_S32x128))
          (addf (mulf (extf .f32 (blk xc (32 * (r / 32)) : FVec Ideal S32x128 .fp8e4m3) bitsLt_fp8e4m3_f32) (broadcastTo S32x128 rb broadcasts_S1x128_S32x128)) (broadcastTo S32x128 rc broadcasts_S1x128_S32x128)) : FVec Ideal S32x128 .f32)
        shapeCasts_S32x128_S32x128) shapeCasts_S32x128_S1x32x128 (ix3 (0 : Fin 1) (⟨r % 32, Nat.mod_lt _ (by decide)⟩ : Fin 32) (⟨l.val % 128, Nat.mod_lt _ (by decide)⟩ : Fin 128)) := rfl
  rw [key, hl, shapeCast_apply _ _ _ (ix2 (⟨r % 32, Nat.mod_lt _ (by decide)⟩ : Fin 32) l)
    (by rw [Shape.rowMajor_val_two, Shape.rowMajor_val_three]; show r % 32 * 128 + l.val = (0 * 32 + r % 32) * 128 + l.val; omega), shapeCast_apply _ _ _ (ix2 (⟨r % 32, Nat.mod_lt _ (by decide)⟩ : Fin 32) l) rfl]
  have h2 : (addf (mulf (extf .f32 (blk gc (32 * (r / 32)) : FVec Ideal S32x128 .fp8e5m2) bitsLt_fp8e5m2_f32) (broadcastTo S32x128 ra broadcasts_S1x128_S32x128))
          (addf (mulf (extf .f32 (blk xc (32 * (r / 32)) : FVec Ideal S32x128 .fp8e4m3) bitsLt_fp8e4m3_f32) (broadcastTo S32x128 rb broadcasts_S1x128_S32x128)) (broadcastTo S32x128 rc broadcasts_S1x128_S32x128)) : FVec Ideal S32x128 .f32)
        (ix2 (⟨r % 32, Nat.mod_lt _ (by decide)⟩ : Fin 32) l)
      = (gc (32 * (r / 32) + r % 32) l.val : EReal) * (broadcastTo S32x128 ra broadcasts_S1x128_S32x128 (ix2 (⟨r % 32, Nat.mod_lt _ (by decide)⟩ : Fin 32) l) : EReal)
        + ((xc (32 * (r / 32) + r % 32) l.val : EReal) * (broadcastTo S32x128 rb broadcasts_S1x128_S32x128 (ix2 (⟨r % 32, Nat.mod_lt _ (by decide)⟩ : Fin 32) l) : EReal)
          + (broadcastTo S32x128 rc broadcasts_S1x128_S32x128 (ix2 (⟨r % 32, Nat.mod_lt _ (by decide)⟩ : Fin 32) l) : EReal)) := rfl
  rw [h2, hr, brow_val, brow_val, brow_val]

include hm ho in
theorem dxA_val (r L : ℕ) (hr : r < 75264) (hL : L < 512) : (dxA Ax Ad Am ones s1 s2 Mn Rs Gm r L : EReal) = vO Ax Ad Am s1 s2 Mn Rs Gm r L := by
  have hl : L % 128 < 128 := Nat.mod_lt _ (by decide)
  have e := dxc_val (cra s2 Rs Gm (L / 128)) (crb Ax Ad Am ones s1 s2 Mn Rs Gm (L / 128)) (crc Ax Ad Am ones s1 s2 Mn Rs Gm (L / 128))
    (chk Ax (24 * (L / 128) + r / 3136)) (MG Ad Am (24 * (L / 128) + r / 3136)) (r % 3136) ⟨L % 128, hl⟩
  have hq : (24 * (L / 128) + r / 3136) % 24 = r / 3136 := by omega
  have hq' : (24 * (L / 128) + r / 3136) / 24 = L / 128 := by omega
  have hR : 3136 * (r / 3136) + r % 3136 = r := Nat.div_add_mod r 3136
  have hC : 128 * (L / 128) + L % 128 = L := Nat.div_add_mod L 128
  have hx : chk Ax (24 * (L / 128) + r / 3136) (r % 3136) (L % 128) = Ax r L := by
    unfold chk; rw [hq, hq', hR, hC]
  have hg : (MG Ad Am (24 * (L / 128) + r / 3136) (r % 3136) (L % 128) : EReal) = mv Ad Am r L := by
    refine (msk_val (chk Ad (24 * (L / 128) + r / 3136)) (chk Am (24 * (L / 128) + r / 3136)) (fun _ _ => hm _ _) (r % 3136) (L % 128) hl).trans ?_
    unfold mv chk; rw [hq, hq', hR, hC]
  have hb := crb_val Ax Ad Am ones s1 s2 Mn Rs Gm hm ho (L / 128) ⟨L % 128, hl⟩
  have hc := crc_val Ax Ad Am ones s1 s2 Mn Rs Gm hm ho (L / 128) ⟨L % 128, hl⟩
  have ha := cra_val s2 Rs Gm (L / 128) ⟨L % 128, hl⟩
  dsimp only at e ha hb hc
  rw [hC] at hb hc
  rw [ha, hb, hc, hx, hg] at e
  exact e

end
end Cert.Kernel.Hand
-- ==== Proof.KerVal.lean ====
/-
  The kernel's three results at real arithmetic, element by element, over its arguments' contents.
-/
module

public import proofs.«01_k».proof.Proof.KerBuf
public import proofs.«01_k».proof.Proof.Cols

@[expose] public section

set_option maxRecDepth 16384

noncomputable section

namespace Cert.Kernel.Hand

open Cert.Kernel Cert.Kernel.Gen Cert.Own
open Idealize.ShloMosaic hiding ix1 ix2 ix3
open Idealize.ShloMosaic.TcCoe Idealize.ShloMosaic.ValueIdx

/-! ## Re-laid arrays -/

theorem row_lt (a : Fin 96) (b : Fin 784) : 784 * a.val + b.val < 75264 := by omega

section
variable {α : Type} (f : S96x784x512.Idx → α) (g : S512.Idx → α)

theorem natR (a : Fin 96) (b : Fin 784) (l : Fin 512) :
    natF (shapeCast S75264x512 f shapeCasts_S96x784x512_S75264x512) (784 * a.val + b.val) l.val = f (ix3 a b l) := by
  refine (natF_eq (shapeCast S75264x512 f shapeCasts_S96x784x512_S75264x512) (ix2 (⟨784 * a.val + b.val, row_lt a b⟩ : Fin 75264) l)).trans ?_
  refine shapeCast_apply _ _ _ _ ?_
  rw [Shape.rowMajor_val_two, Shape.rowMajor_val_three]
  show (a.val * 784 + b.val) * 512 + l.val = (784 * a.val + b.val) * 512 + l.val
  omega

theorem natC (l : Fin 512) :
    natF (shapeCast S4x128 g shapeCasts_S512_S4x128) (l.val / 128) (l.val % 128) = g (ix1 l) := by
  refine (natF_eq (shapeCast S4x128 g shapeCasts_S512_S4x128) (ix2 (⟨l.val / 128, by omega⟩ : Fin 4) (⟨l.val % 128, by omega⟩ : Fin 128))).trans ?_
  refine shapeCast_apply _ _ _ _ ?_
  rw [Shape.rowMajor_val_two, Shape.rowMajor_val_one]
  show l.val = l.val / 128 * 128 + l.val % 128
  omega
end

theorem rowsUp_val {F : FTy → Type} [FloatOps F] (v : ℕ → Vec F S1x128 .f32) (g : ℕ → ℕ → Elt F .f32) :
    ∀ (k r l : ℕ), r < k → rowsUp v g k r l = v r (ix2 (0 : Fin 1) (⟨l % 128, Nat.mod_lt _ (by decide)⟩ : Fin 128))
  | k + 1, r, l, h => by
    show setR k (v k) (rowsUp v g k) r l = _
    unfold setR
    by_cases e : r = k
    · rw [if_pos e, e]
    · rw [if_neg e]; exact rowsUp_val v g k r l (by omega)

variable (m : (ℓ : Loc nD τ sig) → Buf (Elt Ideal) ℓ) (c : Dev nD)

/-- The masked gradient, the input and the statistics, by plain row and column. -/
abbrev kx : ℕ → ℕ → Elt Ideal .fp8e4m3 := natF (X7 m c)
abbrev kd : ℕ → ℕ → Elt Ideal .fp8e5m2 := natF (X8 m c)
abbrev km : ℕ → ℕ → Elt Ideal .i8 := natF (X9 m c)
abbrev ks1 : Elt Ideal .f32 := B0 m c one1
abbrev ks2 : Elt Ideal .f32 := B1 m c one1
abbrev kmn : ℕ → ℕ → Elt Ideal .f32 := natF (B2 m c)
abbrev krs : ℕ → ℕ → Elt Ideal .f32 := natF (B3 m c)
abbrev kgm : ℕ → ℕ → Elt Ideal .f32 := natF (B4 m c)

theorem kx_val (a : Fin 96) (b : Fin 784) (l : Fin 512) : (kx m c (784 * a.val + b.val) l.val : EReal) = Ideal.ofBits .fp8e4m3 (a0 m c (ix3 a b l)) := by
  unfold kx X7; rw [V_v8, natR]; rfl
theorem kd_val (a : Fin 96) (b : Fin 784) (l : Fin 512) : (kd m c (784 * a.val + b.val) l.val : EReal) = Ideal.ofBits .fp8e5m2 (a2 m c (ix3 a b l)) := by
  unfold kd X8; rw [V_v9, natR]; rfl
theorem km_val (a : Fin 96) (b : Fin 784) (l : Fin 512) : km m c (784 * a.val + b.val) l.val = a4 m c (ix3 a b l) := by
  unfold km X9; rw [V_v10, natR]
theorem ks1_val : ks1 m c = shapeCast S1 (a1 m c) shapeCasts_S_S1 one1 := by
  unfold ks1; rw [B0_eq, V_v2]
theorem ks2_val : ks2 m c = shapeCast S1 (a3 m c) shapeCasts_S_S1 one1 := by
  unfold ks2; rw [B1_eq, V_v3]
theorem kmn_val (l : Fin 512) : kmn m c (l.val / 128) (l.val % 128) = a5 m c (ix1 l) := by
  unfold kmn; rw [B2_eq, V_v4, natC]
theorem krs_val (l : Fin 512) : krs m c (l.val / 128) (l.val % 128) = a6 m c (ix1 l) := by
  unfold krs; rw [B3_eq, V_v5, natC]
theorem kgm_val (l : Fin 512) : kgm m c (l.val / 128) (l.val % 128) = a7 m c (ix1 l) := by
  unfold kgm; rw [B4_eq, V_v6, natC]

theorem B5_val (i : S16x128.Idx) : (B5 m c i : EReal) = 1 := by
  rw [B5_eq, V_v7]
  show Ideal.ofBits .f32 0x3F800000#32 = 1
  simp [Ideal.ofBits, Ideal.ieee]
  rw [← EReal.coe_mul]
  norm_num

variable (h4 : ∀ i, (a4 m c i : BitVec 8).toNat ≤ 1)

include h4 in
theorem km_le (r l : ℕ) : (km m c r l : BitVec 8).toNat ≤ 1 := by
  unfold km X9; rw [V_v10]; exact h4 _

include h4 in
theorem DX_val (a : Fin 96) (b : Fin 784) (l : Fin 512) :
    (shapeCast S96x784x512 (DX m c) shapeCasts_S75264x512_S96x784x512 (ix3 a b l) : EReal)
      = vO (kx m c) (kd m c) (km m c) (ks1 m c) (ks2 m c) (kmn m c) (krs m c) (kgm m c) (784 * a.val + b.val) l.val := by
  refine (shapeCast_apply _ _ _ (ix2 (⟨784 * a.val + b.val, row_lt a b⟩ : Fin 75264) l) ?_).trans ?_
  · rw [Shape.rowMajor_val_two, Shape.rowMajor_val_three]
    show (784 * a.val + b.val) * 512 + l.val = (a.val * 784 + b.val) * 512 + l.val
    omega
  · exact dxA_val _ _ _ (B5 m c) _ _ _ _ _ (km_le m c h4) (B5_val m c) _ _ (row_lt a b) l.isLt

theorem up_val (v : ℕ → Vec Ideal S1x128 .f32) (g : ℕ → ℕ → Elt Ideal .f32) (w : S4x128.Idx → Elt Ideal .f32)
    (hw : ∀ i, w i = rowsUp v g 4 (i 0 : ℕ) (i 1 : ℕ)) (l : Fin 512) :
    shapeCast S512 w shapeCasts_S4x128_S512 (ix1 l) = v (l.val / 128) (ix2 (0 : Fin 1) (⟨l.val % 128, Nat.mod_lt _ (by decide)⟩ : Fin 128)) := by
  refine (shapeCast_apply _ _ _ (ix2 (⟨l.val / 128, by omega⟩ : Fin 4) (⟨l.val % 128, by omega⟩ : Fin 128)) ?_).trans ?_
  · rw [Shape.rowMajor_val_two, Shape.rowMajor_val_one]
    show l.val / 128 * 128 + l.val % 128 = l.val
    omega
  · rw [hw]
    refine (rowsUp_val v g 4 (l.val / 128) (l.val % 128) (by omega)).trans ?_
    exact congrArg (fun t => v (l.val / 128) (ix2 (0 : Fin 1) t)) (Fin.ext (Nat.mod_mod _ _))

include h4 in
theorem DG_val (l : Fin 512) :
    (shapeCast S512 (DG m c) shapeCasts_S4x128_S512 (ix1 l) : EReal) = vD (kx m c) (kd m c) (km m c) (ks1 m c) (ks2 m c) (kmn m c) (krs m c) l.val := by
  refine (up_val _ _ (DG m c) (fun _ => rfl) l).trans ?_
  refine (dgv_val _ _ _ (B5 m c) _ _ _ _ (km_le m c h4) (B5_val m c) (l.val / 128) ⟨l.val % 128, Nat.mod_lt _ (by decide)⟩).trans ?_
  exact congrArg _ (Nat.div_add_mod l.val 128)

include h4 in
theorem DB_val (l : Fin 512) :
    (shapeCast S512 (DB m c) shapeCasts_S4x128_S512 (ix1 l) : EReal) = vB (kd m c) (km m c) (ks2 m c) l.val := by
  refine (up_val _ _ (DB m c) (fun _ => rfl) l).trans ?_
  refine (dbv_val _ _ _ (B5 m c) _ (km_le m c h4) (B5_val m c) (l.val / 128) ⟨l.val % 128, Nat.mod_lt _ (by decide)⟩).trans ?_
  exact congrArg _ (Nat.div_add_mod l.val 128)

end Cert.Kernel.Hand
-- ==== Proof.RefV.lean ====
/-
  What the reference leaves in its three results, at real arithmetic, element by element.
-/
module

public import proofs.«01_k».proof.Proof.Gen.ReferenceIdeal.Value
public import Idealize.ShloMosaic.Lib.Pointwise.Reduce
public import Idealize.ShloMosaic.PureOps.Ideal

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- An index of the images by its three coordinates. -/
abbrev j3 (a : Fin 96) (b : Fin 784) (l : Fin 512) : S96x784x512.Idx := fun d => match d with | ⟨0, _⟩ => a | ⟨1, _⟩ => b | ⟨2, _⟩ => l
/-- An index of a vector over the channels. -/
abbrev j1 (l : Fin 512) : S512.Idx := fun d => match d with | ⟨0, _⟩ => l
/-- The only index of a scalar. -/
abbrev o1 : S1.Idx := fun d => match d with | ⟨0, _⟩ => (0 : Fin 1)

theorem j1_eta (j : S512.Idx) : j1 (j 0) = j := by funext d; match d with | ⟨0, _⟩ => rfl

/-- The image count and the positions add up over both leading axes. -/
theorem sum_images (h : S96x784x512.Reduces [0, 1] S512) (v : S96x784x512.Idx → EReal) (j : S512.Idx) :
    Ideal.reduceAdd h v j = ∑ a : Fin 96, ∑ b : Fin 784, v (j3 a b (j 0)) := by
  have hf : ∀ i : S96x784x512.Idx, h.drop i = j ↔ ∃ k : Fin 96 × Fin 784, j3 k.1 k.2 (j 0) = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, by decide⟩)).symm
    · rintro ⟨k, rfl⟩
      funext b
      apply Fin.ext
      match b with
      | ⟨0, _⟩ => rfl
  refine (Finset.sum_filter_eq_sum_of_fiber _ (fun k : Fin 96 × Fin 784 => j3 k.1 k.2 (j 0))
    (fun _ _ e => Prod.ext (congrFun e 0) (congrFun e 1)) hf v).trans ?_
  simp only [Fintype.sum_prod_type]

section
variable (x : Vec Ideal S96x784x512 .fp8e4m3) (xs : Vec Ideal S1 .f32) (dy : Vec Ideal S96x784x512 .fp8e5m2) (dys : Vec Ideal S1 .f32)
  (mk : Vec Ideal S96x784x512 .i8) (mn rs gm : Vec Ideal S512 .f32)

/-- The constant both programs scale sums by. -/
def cN : EReal := (Scalar.ofBits .f32 0x375EE95C#32 : Ideal .f32)

/-- The gradient that passes. -/
def rG (i : S96x784x512.Idx) : EReal := if (mk i : BitVec 8) = 0#8 then 0 else (dy i : EReal) * (dys o1 : EReal)
/-- The normalised input. -/
def rX (i : S96x784x512.Idx) : EReal := ((x i : EReal) * (xs o1 : EReal) - (mn (j1 (i 2)) : EReal)) * (rs (j1 (i 2)) : EReal)
/-- The sums over images and positions. -/
def rB (l : Fin 512) : EReal := ∑ a : Fin 96, ∑ b : Fin 784, rG dy dys mk (j3 a b l)
def rD (l : Fin 512) : EReal := ∑ a : Fin 96, ∑ b : Fin 784, rG dy dys mk (j3 a b l) * rX x xs mn rs (j3 a b l)
/-- The gradient with respect to the input. -/
def rO (i : S96x784x512.Idx) : EReal :=
  ((rs (j1 (i 2)) : EReal) * (gm (j1 (i 2)) : EReal)) * ((rG dy dys mk i - rB dy dys mk (i 2) * cN) - rX x xs mn rs i * (rD x xs dy dys mk mn rs (i 2) * cN))

theorem chan_apply (v : FVec Ideal S512 .f32) (i : S96x784x512.Idx) :
    broadcastTo S96x784x512 (shapeCast S1x1x512 v shapeCasts_S512_S1x1x512) broadcasts_S1x1x512_S96x784x512 i = v (j1 (i 2)) := by
  have h2 : (i 2).val < 512 := (i 2).isLt
  refine (broadcastTo_apply _ _ i (fun a => match a with | ⟨0, _⟩ => ⟨0, by show 0 < 1; omega⟩ | ⟨1, _⟩ => ⟨0, by show 0 < 1; omega⟩ | ⟨2, _⟩ => ⟨(i 2).val, by show (i 2).val < 512; omega⟩ : S1x1x512.Idx)
    (fun a => match a with | ⟨0, _⟩ => by show 0 = (if (1 : Nat) = 1 then 0 else (i 0).val); rw [if_pos rfl] | ⟨1, _⟩ => by show 0 = (if (1 : Nat) = 1 then 0 else (i 1).val); rw [if_pos rfl] | ⟨2, _⟩ => by show (i 2).val = (if (512 : Nat) = 1 then 0 else (i 2).val); rw [if_neg (by decide)])).trans ?_
  exact shapeCast_apply _ _ _ (j1 (i 2)) (by rw [Shape.rowMajor_val_one, Shape.rowMajor_val_three]; show (i 2).val = (0 * 1 + 0) * 512 + (i 2).val; omega)

theorem scal_apply (v : FVec Ideal S1 .f32) (i : S96x784x512.Idx) :
    broadcastTo S96x784x512 (shapeCast S1x1x1 (shapeCast S1 v shapeCasts_S1_S1) shapeCasts_S1_S1x1x1) broadcasts_S1x1x1_S96x784x512 i = v o1 := by
  refine (broadcastTo_apply _ _ i (fun a => match a with | ⟨0, _⟩ => ⟨0, by show 0 < 1; omega⟩ | ⟨1, _⟩ => ⟨0, by show 0 < 1; omega⟩ | ⟨2, _⟩ => ⟨0, by show 0 < 1; omega⟩ : S1x1x1.Idx)
    (fun a => match a with | ⟨0, _⟩ => by show 0 = (if (1 : Nat) = 1 then 0 else (i 0).val); rw [if_pos rfl] | ⟨1, _⟩ => by show 0 = (if (1 : Nat) = 1 then 0 else (i 1).val); rw [if_pos rfl] | ⟨2, _⟩ => by show 0 = (if (1 : Nat) = 1 then 0 else (i 2).val); rw [if_pos rfl])).trans ?_
  refine (shapeCast_apply _ _ _ o1 (by rw [Shape.rowMajor_val_one, Shape.rowMajor_val_three]; show 0 = (0 * 1 + 0) * 1 + 0; omega)).trans ?_
  exact shapeCast_apply _ _ _ o1 rfl

theorem pay3_apply (i : S96x784x512.Idx) : k0_pay3 dy mk dys i = rG dy dys mk i := by
  have h : k0_pay3 dy mk dys i = (if BitVec.ofBool ((mk i : BitVec 8) != 0#8) = 1#1 then
      (shapeCast S96x784x512 dy shapeCasts_S96x784x512_S96x784x512 i : EReal)
        * (broadcastTo S96x784x512 (shapeCast S1x1x1 (shapeCast S1 dys shapeCasts_S1_S1) shapeCasts_S1_S1x1x1) broadcasts_S1x1x1_S96x784x512 i : EReal)
      else (Ideal.ofBits .f32 0x00000000#32 : EReal)) := rfl
  rw [h, scal_apply, shapeCast_apply dy _ i i rfl, Ideal.ofBits_zero_f32]
  unfold rG
  by_cases hm : (mk i : BitVec 8) = 0#8
  · rw [if_pos hm, hm]; rfl
  · rw [if_neg hm, if_pos (by simp only [bne, beq_eq_false_iff_ne.mpr hm]; rfl)]

theorem pay2_apply (i : S96x784x512.Idx) : k0_pay2 x xs mn rs i = rX x xs mn rs i := by
  have h : k0_pay2 x xs mn rs i = ((shapeCast S96x784x512 x shapeCasts_S96x784x512_S96x784x512 i : EReal)
        * (broadcastTo S96x784x512 (shapeCast S1x1x1 (shapeCast S1 xs shapeCasts_S1_S1) shapeCasts_S1_S1x1x1) broadcasts_S1x1x1_S96x784x512 i : EReal)
        - (broadcastTo S96x784x512 (shapeCast S1x1x512 mn shapeCasts_S512_S1x1x512) broadcasts_S1x1x512_S96x784x512 i : EReal))
        * (broadcastTo S96x784x512 (shapeCast S1x1x512 rs shapeCasts_S512_S1x1x512) broadcasts_S1x1x512_S96x784x512 i : EReal) := rfl
  rw [h, scal_apply, chan_apply, chan_apply, shapeCast_apply x _ i i rfl]
  rfl

theorem pay4_apply (j : S512.Idx) : k0_pay4 dy mk dys j = rB dy dys mk (j 0) := by
  refine (sum_images reduces_S96x784x512_S512 (k0_pay3 dy mk dys) j).trans ?_
  exact Finset.sum_congr rfl fun a _ => Finset.sum_congr rfl fun b _ => pay3_apply dy dys mk _

theorem pay5_apply (j : S512.Idx) : k0_pay5 x dy mk xs dys mn rs j = rD x xs dy dys mk mn rs (j 0) := by
  refine (sum_images reduces_S96x784x512_S512 (mulf (k0_pay3 dy mk dys) (k0_pay2 x xs mn rs)) j).trans ?_
  refine Finset.sum_congr rfl fun a _ => Finset.sum_congr rfl fun b _ => ?_
  exact congrArg₂ (fun (u v : EReal) => u * v) (pay3_apply dy dys mk _) (pay2_apply x xs mn rs _)

theorem pay1_apply (i : S96x784x512.Idx) :
    k0_pay1 (k0_pay2 x xs mn rs) (k0_pay5 x dy mk xs dys mn rs) (k0_pay6 rs gm) (k0_pay7 dy mk dys) (k0_pay8 (F := Ideal)) i = rO x xs dy dys mk mn rs gm i := by
  have h : k0_pay1 (k0_pay2 x xs mn rs) (k0_pay5 x dy mk xs dys mn rs) (k0_pay6 rs gm) (k0_pay7 dy mk dys) (k0_pay8 (F := Ideal)) i
      = (broadcastTo S96x784x512 (shapeCast S1x1x512 (k0_pay6 rs gm) shapeCasts_S512_S1x1x512) broadcasts_S1x1x512_S96x784x512 i : EReal)
        * (((k0_pay3 dy mk dys i : EReal) - (broadcastTo S96x784x512 (shapeCast S1x1x512 (mulf (k0_pay4 dy mk dys) (broadcast S512 (Scalar.ofBits .f32 0x375EE95C#32))) shapeCasts_S512_S1x1x512) broadcasts_S1x1x512_S96x784x512 i : EReal))
          - (k0_pay2 x xs mn rs i : EReal) * (broadcastTo S96x784x512 (shapeCast S1x1x512 (mulf (k0_pay5 x dy mk xs dys mn rs) k0_pay8) shapeCasts_S512_S1x1x512) broadcasts_S1x1x512_S96x784x512 i : EReal)) := rfl
  rw [h, chan_apply, chan_apply, chan_apply, pay3_apply, pay2_apply]
  have h5 : (mulf (k0_pay5 x dy mk xs dys mn rs) k0_pay8 (j1 (i 2)) : EReal) = (k0_pay5 x dy mk xs dys mn rs (j1 (i 2)) : EReal) * cN := rfl
  have h4 : (mulf (k0_pay4 dy mk dys) (broadcast S512 (Scalar.ofBits .f32 0x375EE95C#32)) (j1 (i 2)) : EReal) = (k0_pay4 dy mk dys (j1 (i 2)) : EReal) * cN := rfl
  have h6 : (k0_pay6 rs gm (j1 (i 2)) : EReal) = (rs (j1 (i 2)) : EReal) * (gm (j1 (i 2)) : EReal) := rfl
  rw [h5, h4, h6, pay5_apply, pay4_apply]
  rfl

end
end Cert.ReferenceIdeal.Hand
-- ==== Proof.RefBuf.lean ====
/-
  What the reference's run leaves in its three result arrays, from its arguments.
-/
module

public import proofs.«01_k».proof.Proof.RefV

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (ρ : Dev nD → PrngReg) (c : Dev nD)

/-! ## The arguments as the body reads them -/

abbrev a0 : S96x784x512.Idx → Elt Ideal .i8 := m ((c : Thread nD τ).loc main_arg0)
abbrev a1 : S_.Idx → Elt Ideal .f32 := m ((c : Thread nD τ).loc main_arg1)
abbrev a2 : S96x784x512.Idx → Elt Ideal .i8 := m ((c : Thread nD τ).loc main_arg2)
abbrev a3 : S_.Idx → Elt Ideal .f32 := m ((c : Thread nD τ).loc main_arg3)
abbrev a4 : S96x784x512.Idx → Elt Ideal .i8 := m ((c : Thread nD τ).loc main_arg4)
abbrev a5 : S512.Idx → Elt Ideal .f32 := m ((c : Thread nD τ).loc main_arg5)
abbrev a6 : S512.Idx → Elt Ideal .f32 := m ((c : Thread nD τ).loc main_arg6)
abbrev a7 : S512.Idx → Elt Ideal .f32 := m ((c : Thread nD τ).loc main_arg7)

theorem V_v0 : V m c main_v0 = (bitcastToFloat .fp8e4m3 (a0 m c) : FVec Ideal S96x784x512 .fp8e4m3) := by
  show StableHlo.after hostOps0 _ _ = _
  unfold hostOps0
  after_results

theorem V_v1 : V m c main_v1 = (bitcastToFloat .fp8e5m2 (a2 m c) : FVec Ideal S96x784x512 .fp8e5m2) := by
  show StableHlo.after hostOps0 _ _ = _
  unfold hostOps0
  after_results

theorem V_v2 : V m c main_v2 = shapeCast S1 (a1 m c) shapeCasts_S_S1 := by
  show StableHlo.after hostOps0 _ _ = _
  unfold hostOps0
  after_results
  rfl

theorem V_v3 : V m c main_v3 = shapeCast S1 (a3 m c) shapeCasts_S_S1 := by
  show StableHlo.after hostOps0 _ _ = _
  unfold hostOps0
  after_results
  rfl

/-! ## The blocks: each window is its whole array -/

theorem iblk0 : iblk m c 0 t0_0 = V m c main_v0 := by
  funext y; exact congrArg (V m c main_v0) (funext fun a => Fin.ext (Pipeline.Window.rect_emb_val_of_index_zero win0_0 t0_0 a rfl y))
theorem iblk1 : iblk m c 1 t0_0 = V m c main_v2 := by
  funext y; exact congrArg (V m c main_v2) (funext fun a => Fin.ext (Pipeline.Window.rect_emb_val_of_index_zero win0_1 t0_0 a rfl y))
theorem iblk2 : iblk m c 2 t0_0 = V m c main_v1 := by
  funext y; exact congrArg (V m c main_v1) (funext fun a => Fin.ext (Pipeline.Window.rect_emb_val_of_index_zero win0_2 t0_0 a rfl y))
theorem iblk3 : iblk m c 3 t0_0 = V m c main_v3 := by
  funext y; exact congrArg (V m c main_v3) (funext fun a => Fin.ext (Pipeline.Window.rect_emb_val_of_index_zero win0_3 t0_0 a rfl y))
theorem iblk4 : iblk m c 4 t0_0 = V m c main_arg4 := by
  funext y; exact congrArg (V m c main_arg4) (funext fun a => Fin.ext (Pipeline.Window.rect_emb_val_of_index_zero win0_4 t0_0 a rfl y))
theorem iblk5 : iblk m c 5 t0_0 = V m c main_arg5 := by
  funext y; exact congrArg (V m c main_arg5) (funext fun a => Fin.ext (Pipeline.Window.rect_emb_val_of_index_zero win0_5 t0_0 a rfl y))
theorem iblk6 : iblk m c 6 t0_0 = V m c main_arg6 := by
  funext y; exact congrArg (V m c main_arg6) (funext fun a => Fin.ext (Pipeline.Window.rect_emb_val_of_index_zero win0_6 t0_0 a rfl y))
theorem iblk7 : iblk m c 7 t0_0 = V m c main_arg7 := by
  funext y; exact congrArg (V m c main_arg7) (funext fun a => Fin.ext (Pipeline.Window.rect_emb_val_of_index_zero win0_7 t0_0 a rfl y))

/-! ## The results -/

/-- The decoded arguments. -/
abbrev x0 : FVec Ideal S96x784x512 .fp8e4m3 := bitcastToFloat .fp8e4m3 (a0 m c)
abbrev x1 : FVec Ideal S1 .f32 := shapeCast S1 (a1 m c) shapeCasts_S_S1
abbrev x2 : FVec Ideal S96x784x512 .fp8e5m2 := bitcastToFloat .fp8e5m2 (a2 m c)
abbrev x3 : FVec Ideal S1 .f32 := shapeCast S1 (a3 m c) shapeCasts_S_S1

theorem z3 : (![0, 0, 0] : Fin 3 → ℕ) = fun _ => 0 := by funext a; match a with | ⟨0, _⟩ => rfl | ⟨1, _⟩ => rfl | ⟨2, _⟩ => rfl
theorem z1 : (![0] : Fin 1 → ℕ) = fun _ => 0 := by funext a; match a with | ⟨0, _⟩ => rfl

theorem ld3 {e : EltTy} (x : Vec Ideal S96x784x512 e) : View.ld x r0_0 = x := View.ld_unit_zero z3 _ x
theorem ldS {e : EltTy} (x : Vec Ideal S1 e) : View.ld x r0_1 = x := View.ld_unit_zero z1 _ x
theorem ldC {e : EltTy} (x : Vec Ideal S512 e) : View.ld x r0_2 = x := View.ld_unit_zero z1 _ x

theorem out8 : out0_8 (iblk m c 0 t0_0) (iblk m c 1 t0_0) (iblk m c 2 t0_0) (iblk m c 3 t0_0) (iblk m c 4 t0_0) (iblk m c 5 t0_0) (iblk m c 6 t0_0) (iblk m c 7 t0_0)
    = fun i => rO (x0 m c) (x1 m c) (x2 m c) (x3 m c) (a4 m c) (a5 m c) (a6 m c) (a7 m c) i := by
  rw [iblk0, iblk1, iblk2, iblk3, iblk4, iblk5, iblk6, iblk7, V_v0, V_v1, V_v2, V_v3, V_main_arg4, V_main_arg5, V_main_arg6, V_main_arg7]
  unfold out0_8 k0_pay9
  rw [View.canon_unit_zero z3, ld3, ld3, ld3, ldS, ldS, ldC, ldC, ldC]
  funext i
  exact pay1_apply _ _ _ _ _ _ _ _ i

theorem out9 : out0_9 (iblk m c 0 t0_0) (iblk m c 1 t0_0) (iblk m c 2 t0_0) (iblk m c 3 t0_0) (iblk m c 4 t0_0) (iblk m c 5 t0_0) (iblk m c 6 t0_0) (iblk m c 7 t0_0)
    = fun j => rD (x0 m c) (x1 m c) (x2 m c) (x3 m c) (a4 m c) (a5 m c) (a6 m c) (j 0) := by
  rw [iblk0, iblk1, iblk2, iblk3, iblk4, iblk5, iblk6, iblk7, V_v0, V_v1, V_v2, V_v3, V_main_arg4, V_main_arg5, V_main_arg6, V_main_arg7]
  unfold out0_9 k0_pay9
  rw [View.canon_unit_zero z1, ld3, ld3, ld3, ldS, ldS, ldC, ldC]
  funext i
  exact pay5_apply _ _ _ _ _ _ _ i

theorem out10 : out0_10 (iblk m c 0 t0_0) (iblk m c 1 t0_0) (iblk m c 2 t0_0) (iblk m c 3 t0_0) (iblk m c 4 t0_0) (iblk m c 5 t0_0) (iblk m c 6 t0_0) (iblk m c 7 t0_0)
    = fun j => rB (x2 m c) (x3 m c) (a4 m c) (j 0) := by
  rw [iblk2, iblk3, iblk4, V_v1, V_v3, V_main_arg4]
  unfold out0_10
  rw [View.canon_unit_zero z1, ld3, ld3, ldS]
  funext i
  exact pay4_apply _ _ _ i

theorem arr8 : (dats m 0 c).arrAt 8 cfg0.N = (fun i => rO (x0 m c) (x1 m c) (x2 m c) (x3 m c) (a4 m c) (a5 m c) (a6 m c) (a7 m c) i : S96x784x512.Idx → EReal) := by
  have h := (blocks8 m c t0_0 (by decide)).trans ((flushed8 m c t0_0).trans (congrArg _ (out8 m c)))
  funext y
  refine Eq.trans (congrArg ((dats m 0 c).arrAt 8 cfg0.N) (funext fun a => Fin.ext ?_)) (congrFun h y)
  exact (Pipeline.Window.rect_emb_val_of_index_zero win0_8 t0_0 a rfl y).symm

theorem arr9 : (dats m 0 c).arrAt 9 cfg0.N = (fun j => rD (x0 m c) (x1 m c) (x2 m c) (x3 m c) (a4 m c) (a5 m c) (a6 m c) (j 0) : S512.Idx → EReal) := by
  have h := (blocks9 m c t0_0 (by decide)).trans ((flushed9 m c t0_0).trans (congrArg _ (out9 m c)))
  funext y
  refine Eq.trans (congrArg ((dats m 0 c).arrAt 9 cfg0.N) (funext fun a => Fin.ext ?_)) (congrFun h y)
  exact (Pipeline.Window.rect_emb_val_of_index_zero win0_9 t0_0 a rfl y).symm

theorem arr10 : (dats m 0 c).arrAt 10 cfg0.N = (fun j => rB (x2 m c) (x3 m c) (a4 m c) (j 0) : S512.Idx → EReal) := by
  have h := (blocks10 m c t0_0 (by decide)).trans ((flushed10 m c t0_0).trans (congrArg _ (out10 m c)))
  funext y
  refine Eq.trans (congrArg ((dats m 0 c).arrAt 10 cfg0.N) (funext fun a => Fin.ext ?_)) (congrFun h y)
  exact (Pipeline.Window.rect_emb_val_of_index_zero win0_10 t0_0 a rfl y).symm

end Cert.ReferenceIdeal.Hand
-- ==== Proof.Pre.lean ====
/-
  What the precondition says of the arguments: every code is that of a finite number, every mask byte is 0 or 1, and
  every scale and every channel's statistics are finite.
-/
module

public import proofs.«01_k».proof.Pre_admissible
public import Idealize.ShloMosaic.Lib.ReduceAll
public import Idealize.ShloMosaic.PureOps.Ideal
public import Idealize.ShloMosaic.PureOps.Ideal.Laws

@[expose] public section

set_option maxRecDepth 16384

noncomputable section

namespace Cert.Pre_admissible.Hand

open Cert.Pre_admissible Idealize.ShloMosaic

theorem facts : Cert.Pre_admissible.Facts := by
  constructor <;> decide

/-- A value that is a real number. -/
def IsReal (v : EReal) : Prop := ∃ r : ℝ, v = (r : EReal)

theorem isReal_of_lt {v : EReal} (h0 : ⊥ < v) (h1 : v < ⊤) : IsReal v :=
  ⟨v.toReal, (EReal.coe_toReal h1.ne h0.ne').symm⟩

theorem and_one {a b : BitVec 1} (h : IntOp.andi a b = 1#1) : a = 1#1 ∧ b = 1#1 := by
  revert a b; decide

theorem or_one {a b : BitVec 1} (h : IntOp.ori a b = 1#1) : a = 1#1 ∨ b = 1#1 := by
  revert a b; decide

theorem ofBool_one {p : Bool} (h : BitVec.ofBool p = 1#1) : p = true := by revert p; decide

theorem inf_bot : Ideal.ofBits .f32 0xFF800000#32 = ⊥ := by simp [Ideal.ofBits, Ideal.ieee]
theorem inf_top : Ideal.ofBits .f32 0x7F800000#32 = ⊤ := by simp [Ideal.ofBits, Ideal.ieee]

theorem between {v : EReal} (h : IntOp.andi (Ideal.cmp .ogt v (Ideal.ofBits .f32 0xFF800000#32)) (Ideal.cmp .olt v (Ideal.ofBits .f32 0x7F800000#32)) = 1#1) :
    IsReal v := by
  obtain ⟨h0, h1⟩ := and_one h
  rw [inf_bot] at h0; rw [inf_top] at h1
  exact isReal_of_lt (of_decide_eq_true (ofBool_one h0)) (of_decide_eq_true (ofBool_one h1))

/-- A code of the four-bit exponent format that is not one of the two that are no number. -/
theorem real_e4 (b : BitVec 8) (h0 : b ≠ 127#8) (h1 : b ≠ 255#8) : IsReal (Ideal.ofBits .fp8e4m3 b) := by
  have hn : ∀ b : BitVec 8, b ≠ 127#8 → b ≠ 255#8 → ¬ ((b.extractLsb' 3 4).toNat = 15 ∧ (b.extractLsb' 0 3).toNat = 7) := by decide
  show IsReal (Ideal.e4m3fn b)
  unfold Ideal.e4m3fn
  dsimp only
  have := hn b h0 h1
  split_ifs <;> first | exact ⟨_, rfl⟩ | (exfalso; simp_all)

/-- A code of the five-bit exponent format whose exponent is not the largest. -/
theorem real_e5 (b : BitVec 8) (h : (b.extractLsb' 2 5).toNat ≠ 31) : IsReal (Ideal.ofBits .fp8e5m2 b) := by
  show IsReal (Ideal.ieee 5 2 b)
  unfold Ideal.ieee
  dsimp only
  rw [if_neg (show ¬ (b.extractLsb' 2 5).toNat = 2 ^ 5 - 1 from h)]
  split_ifs <;> exact ⟨_, rfl⟩

theorem e5_code : ∀ b : BitVec 8, (BitVec.ult b 124#8 = true ∨ (BitVec.ule 128#8 b = true ∧ BitVec.ult b 252#8 = true)) → (b.extractLsb' 2 5).toNat ≠ 31 := by
  decide

theorem mask_code : ∀ b : BitVec 8, BitVec.ule b 1#8 = true → b.toNat ≤ 1 := by decide

instance : Subsingleton S_.Idx := ⟨fun a b => funext fun d => d.elim0⟩

section
attribute [local instance] facts

theorem unpack (a0 : IVec S96x784x512 8) (a1 : FVec Ideal S_ .f32) (a2 : IVec S96x784x512 8) (a3 : FVec Ideal S_ .f32) (a4 : IVec S96x784x512 8)
    (a5 a6 a7 : FVec Ideal S512 .f32) (j : S_.Idx) (h : fn (F := Ideal) a0 a1 a2 a3 a4 a5 a6 a7 j = 1#1) :
    (∀ i, IsReal (Ideal.ofBits .fp8e4m3 (a0 i))) ∧ (∀ i, IsReal (a1 i)) ∧ (∀ i, IsReal (Ideal.ofBits .fp8e5m2 (a2 i))) ∧ (∀ i, IsReal (a3 i))
      ∧ (∀ i, (a4 i).toNat ≤ 1) ∧ (∀ i, IsReal (a5 i)) ∧ (∀ i, IsReal (a6 i)) ∧ (∀ i, IsReal (a7 i)) := by
  unfold fn fn_part1 fn_part2 fn_part3 at h
  dsimp only at h
  obtain ⟨h, h7⟩ := and_one h
  obtain ⟨h, h6⟩ := and_one h
  obtain ⟨h, h5⟩ := and_one h
  obtain ⟨h, h3⟩ := and_one h
  obtain ⟨h, h1⟩ := and_one h
  obtain ⟨h, h4⟩ := and_one h
  obtain ⟨h0, h2⟩ := and_one h
  refine ⟨fun i => ?_, fun i => ?_, fun i => ?_, fun i => ?_, fun i => ?_, fun i => ?_, fun i => ?_, fun i => ?_⟩
  · obtain ⟨p, q⟩ := and_one (Host.reduce_andi_all _ _ _ _ j h0 i)
    exact real_e4 _ (bne_iff_ne.mp (ofBool_one p)) (bne_iff_ne.mp (ofBool_one q))
  · exact between (Host.reduce_andi_all _ _ _ _ j h1 i)
  · refine real_e5 _ (e5_code _ ?_)
    rcases or_one (Host.reduce_andi_all _ _ _ _ j h2 i) with p | p
    · exact .inl (ofBool_one p)
    · obtain ⟨p, q⟩ := and_one p
      exact .inr ⟨ofBool_one p, ofBool_one q⟩
  · exact between (Host.reduce_andi_all _ _ _ _ j h3 i)
  · exact mask_code _ (ofBool_one (Host.reduce_andi_all _ _ _ _ j h4 i))
  · exact between (Host.reduce_andi_all _ _ _ _ j h5 i)
  · exact between (Host.reduce_andi_all _ _ _ _ j h6 i)
  · exact between (Host.reduce_andi_all _ _ _ _ j h7 i)

end
end Cert.Pre_admissible.Hand
-- ==== Proof.Alg.lean ====
/-
  The kernel's formulas and the reference's agree over the reals, channel by channel.
-/
module

public import proofs.«01_k».proof.Proof.KerVal
public import proofs.«01_k».proof.Proof.RefBuf
public import proofs.«01_k».proof.Proof.Pre

@[expose] public section

set_option maxRecDepth 16384

noncomputable section

namespace Cert.Proof

open Cert.Pre_admissible.Hand (IsReal)
open Cert.Kernel.Hand Cert.ReferenceIdeal.Hand
open Idealize.ShloMosaic hiding ix1 ix2 ix3

theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem sum2 (f : Fin 96 → Fin 784 → ℝ) : ∑ a : Fin 96, ∑ b : Fin 784, (f a b : EReal) = ((∑ a : Fin 96, ∑ b : Fin 784, f a b : ℝ) : EReal) := by
  rw [← coe_sum]
  exact Finset.sum_congr rfl fun a _ => coe_sum _ _

theorem sum_rows (f : ℕ → EReal) : ∑ r ∈ Finset.range 75264, f r = ∑ a : Fin 96, ∑ b : Fin 784, f (784 * a.val + b.val) := by
  rw [show (75264 : ℕ) = 96 * 784 from rfl, sum_blocks, Finset.sum_range]
  exact Finset.sum_congr rfl fun a _ => Finset.sum_range _

theorem cK_real : IsReal cK := by
  show IsReal (Ideal.ieee 8 23 0x375EE95C#32)
  unfold Ideal.ieee
  dsimp only
  rw [if_neg (by decide)]
  split_ifs <;> exact ⟨_, rfl⟩

section
variable (g x : Fin 96 → Fin 784 → ℝ) (s1 s2 mn rs gm k : ℝ)

/-- The second sum with the scales and the mean taken out. -/
theorem sum_norm : rs * (((∑ a, ∑ b, g a b * x a b) * s1) * s2 - mn * ((∑ a, ∑ b, g a b) * s2))
    = ∑ a, ∑ b, (g a b * s2) * ((x a b * s1 - mn) * rs) := by
  have h : ∀ a b, (g a b * s2) * ((x a b * s1 - mn) * rs) = rs * (s1 * s2) * (g a b * x a b) - rs * mn * s2 * g a b := fun a b => by ring
  simp only [h, Finset.sum_sub_distrib, ← Finset.mul_sum]
  ring
end

section
variable (Ax : ℕ → ℕ → Elt Ideal .fp8e4m3) (Ad : ℕ → ℕ → Elt Ideal .fp8e5m2) (Am : ℕ → ℕ → Elt Ideal .i8)
  (t1 t2 : Elt Ideal .f32) (Mn Rs Gm : ℕ → ℕ → Elt Ideal .f32) (L : Fin 512)
  (g x : Fin 96 → Fin 784 → ℝ) (s1 s2 mn rs gm : ℝ)
  (hg : ∀ a b, mv Ad Am (784 * a.val + b.val) L.val = (g a b : EReal)) (hx : ∀ a b, (Ax (784 * a.val + b.val) L.val : EReal) = (x a b : EReal))
  (h1 : (t1 : EReal) = (s1 : EReal)) (h2 : (t2 : EReal) = (s2 : EReal)) (hmn : (Mn (L.val / 128) (L.val % 128) : EReal) = (mn : EReal))
  (hrs : (Rs (L.val / 128) (L.val % 128) : EReal) = (rs : EReal)) (hgm : (Gm (L.val / 128) (L.val % 128) : EReal) = (gm : EReal))

include hg h2 in
theorem vB_real : vB Ad Am t2 L.val = (((∑ a, ∑ b, g a b) * s2 : ℝ) : EReal) := by
  unfold vB sB
  rw [sum_rows, h2]
  simp only [hg]
  rw [sum2, ← EReal.coe_mul]

include hg hx h1 h2 hmn hrs in
theorem vD_real : vD Ax Ad Am t1 t2 Mn Rs L.val = ((∑ a, ∑ b, (g a b * s2) * ((x a b * s1 - mn) * rs) : ℝ) : EReal) := by
  unfold vD sX
  rw [vB_real Ad Am t2 L g s2 hg h2, sum_rows, h1, h2, hmn, hrs]
  simp only [hg, hx, ← EReal.coe_mul]
  rw [sum2]
  simp only [← EReal.coe_mul, ← EReal.coe_sub]
  rw [sum_norm]

include hg hx h1 h2 hmn hrs hgm in
theorem vO_real (k : ℝ) (hk : cK = (k : EReal)) (a : Fin 96) (b : Fin 784) : vO Ax Ad Am t1 t2 Mn Rs Gm (784 * a.val + b.val) L.val
    = (((rs * gm) * ((g a b * s2 - (∑ a, ∑ b, g a b * s2) * k) - ((x a b * s1 - mn) * rs) * ((∑ a, ∑ b, (g a b * s2) * ((x a b * s1 - mn) * rs)) * k)) : ℝ) : EReal) := by
  unfold vO vK
  rw [vD_real Ax Ad Am t1 t2 Mn Rs L g x s1 s2 mn rs hg hx h1 h2 hmn hrs, vB_real Ad Am t2 L g s2 hg h2, hg, hx, h1, h2, hmn, hrs, hgm, hk, ← EReal.coe_zero]
  simp only [← EReal.coe_mul, ← EReal.coe_sub, ← EReal.coe_add]
  congr 1
  generalize ∑ a, ∑ b, (g a b * s2) * ((x a b * s1 - mn) * rs) = D
  simp only [← Finset.sum_mul]
  ring

end

section
variable (x : Vec Ideal Cert.ReferenceIdeal.S96x784x512 .fp8e4m3) (xs : Vec Ideal Cert.ReferenceIdeal.S1 .f32) (dy : Vec Ideal Cert.ReferenceIdeal.S96x784x512 .fp8e5m2) (dys : Vec Ideal Cert.ReferenceIdeal.S1 .f32)
  (mk : Vec Ideal Cert.ReferenceIdeal.S96x784x512 .i8) (mnv rsv gmv : Vec Ideal Cert.ReferenceIdeal.S512 .f32) (L : Fin 512)
  (g xr : Fin 96 → Fin 784 → ℝ) (s1 s2 mn rs gm : ℝ)
  (hg : ∀ a b, (if (mk (j3 a b L) : BitVec 8) = 0#8 then 0 else (dy (j3 a b L) : EReal)) = (g a b : EReal)) (hx : ∀ a b, (x (j3 a b L) : EReal) = (xr a b : EReal))
  (h1 : (xs o1 : EReal) = (s1 : EReal)) (h2 : (dys o1 : EReal) = (s2 : EReal)) (hmn : (mnv (j1 L) : EReal) = (mn : EReal))
  (hrs : (rsv (j1 L) : EReal) = (rs : EReal)) (hgm : (gmv (j1 L) : EReal) = (gm : EReal))

include hg h2 in
theorem rG_real (a : Fin 96) (b : Fin 784) : rG dy dys mk (j3 a b L) = ((g a b * s2 : ℝ) : EReal) := by
  rw [EReal.coe_mul, ← hg, ← h2]
  unfold rG
  split_ifs
  · rw [zero_mul]
  · rfl

include hx h1 hmn hrs in
theorem rX_real (a : Fin 96) (b : Fin 784) : rX x xs mnv rsv (j3 a b L) = (((xr a b * s1 - mn) * rs : ℝ) : EReal) := by
  rw [EReal.coe_mul, EReal.coe_sub, EReal.coe_mul, ← hx, ← h1, ← hmn, ← hrs]
  rfl

include hg h2 in
theorem rB_real : rB dy dys mk L = ((∑ a, ∑ b, g a b * s2 : ℝ) : EReal) := by
  unfold rB
  simp only [rG_real dy dys mk L g s2 hg h2]
  rw [sum2]

include hg hx h1 h2 hmn hrs in
theorem rD_real : rD x xs dy dys mk mnv rsv L = ((∑ a, ∑ b, (g a b * s2) * ((xr a b * s1 - mn) * rs) : ℝ) : EReal) := by
  unfold rD
  simp only [rG_real dy dys mk L g s2 hg h2, rX_real x xs mnv rsv L xr s1 mn rs hx h1 hmn hrs, ← EReal.coe_mul]
  rw [sum2]

include hg hx h1 h2 hmn hrs hgm in
theorem rO_real (k : ℝ) (hk : cN = (k : EReal)) (a : Fin 96) (b : Fin 784) : rO x xs dy dys mk mnv rsv gmv (j3 a b L)
    = (((rs * gm) * ((g a b * s2 - (∑ a, ∑ b, g a b * s2) * k) - ((xr a b * s1 - mn) * rs) * ((∑ a, ∑ b, (g a b * s2) * ((xr a b * s1 - mn) * rs)) * k)) : ℝ) : EReal) := by
  unfold rO
  rw [show (j3 a b L) 2 = L from rfl, rG_real dy dys mk L g s2 hg h2, rX_real x xs mnv rsv L xr s1 mn rs hx h1 hmn hrs, rB_real dy dys mk L g s2 hg h2,
    rD_real x xs dy dys mk mnv rsv L g xr s1 s2 mn rs hg hx h1 h2 hmn hrs, hrs, hgm, hk]
  simp only [← EReal.coe_mul, ← EReal.coe_sub]
end

end Cert.Proof
-- ==== Proof.Agree.lean ====
/-
  From arguments that agree and are admissible, the two programs leave equal results.
-/
module

public import proofs.«01_k».proof.Proof.Alg

@[expose] public section

set_option maxRecDepth 16384

noncomputable section

namespace Cert.Proof

open Cert.Pre_admissible.Hand (IsReal)
open Cert.Kernel.Hand Cert.ReferenceIdeal.Hand
open Idealize.ShloMosaic hiding ix1 ix2 ix3
open Idealize.ShloMosaic.TcCoe Idealize.ShloMosaic.ValueIdx

section
variable (m : (ℓ : Loc Cert.Kernel.nD Cert.Kernel.τ Cert.Kernel.sig) → Buf (Elt Ideal) ℓ)
  (m' : (ℓ : Loc Cert.ReferenceIdeal.nD Cert.ReferenceIdeal.τ Cert.ReferenceIdeal.sig) → Buf (Elt Ideal) ℓ) (c : Dev Cert.Kernel.nD)

/-- The two programs' arguments agree. -/
structure Agree : Prop where
  e0 : Cert.ReferenceIdeal.Hand.a0 m' c = Cert.Kernel.Hand.a0 m c
  e1 : Cert.ReferenceIdeal.Hand.a1 m' c = Cert.Kernel.Hand.a1 m c
  e2 : Cert.ReferenceIdeal.Hand.a2 m' c = Cert.Kernel.Hand.a2 m c
  e3 : Cert.ReferenceIdeal.Hand.a3 m' c = Cert.Kernel.Hand.a3 m c
  e4 : Cert.ReferenceIdeal.Hand.a4 m' c = Cert.Kernel.Hand.a4 m c
  e5 : Cert.ReferenceIdeal.Hand.a5 m' c = Cert.Kernel.Hand.a5 m c
  e6 : Cert.ReferenceIdeal.Hand.a6 m' c = Cert.Kernel.Hand.a6 m c
  e7 : Cert.ReferenceIdeal.Hand.a7 m' c = Cert.Kernel.Hand.a7 m c

/-- Every argument is finite and the mask is 0 or 1. -/
structure Finite : Prop where
  r0 : ∀ i, IsReal (Ideal.ofBits .fp8e4m3 (Cert.Kernel.Hand.a0 m c i))
  r1 : ∀ i, IsReal (Cert.Kernel.Hand.a1 m c i)
  r2 : ∀ i, IsReal (Ideal.ofBits .fp8e5m2 (Cert.Kernel.Hand.a2 m c i))
  r3 : ∀ i, IsReal (Cert.Kernel.Hand.a3 m c i)
  r4 : ∀ i, (Cert.Kernel.Hand.a4 m c i : BitVec 8).toNat ≤ 1
  r5 : ∀ i, IsReal (Cert.Kernel.Hand.a5 m c i)
  r6 : ∀ i, IsReal (Cert.Kernel.Hand.a6 m c i)
  r7 : ∀ i, IsReal (Cert.Kernel.Hand.a7 m c i)

variable {m m' c} (A : Agree m m' c) (R : Finite m c)

/-- What channel `L` holds, as reals. -/
structure Chan (L : Fin 512) (g x : Fin 96 → Fin 784 → ℝ) (s1 s2 mn rs gm k : ℝ) : Prop where
  g1 : ∀ a b, mv (kd m c) (km m c) (784 * a.val + b.val) L.val = (g a b : EReal)
  x1 : ∀ a b, (kx m c (784 * a.val + b.val) L.val : EReal) = (x a b : EReal)
  p1 : (ks1 m c : EReal) = (s1 : EReal)
  q1 : (ks2 m c : EReal) = (s2 : EReal)
  mn1 : (kmn m c (L.val / 128) (L.val % 128) : EReal) = (mn : EReal)
  rs1 : (krs m c (L.val / 128) (L.val % 128) : EReal) = (rs : EReal)
  gm1 : (kgm m c (L.val / 128) (L.val % 128) : EReal) = (gm : EReal)
  g2 : ∀ a b, (if (Cert.ReferenceIdeal.Hand.a4 m' c (j3 a b L) : BitVec 8) = 0#8 then 0 else (x2 m' c (j3 a b L) : EReal)) = (g a b : EReal)
  x2 : ∀ a b, (x0 m' c (j3 a b L) : EReal) = (x a b : EReal)
  p2 : (Cert.ReferenceIdeal.Hand.x1 m' c o1 : EReal) = (s1 : EReal)
  q2 : (x3 m' c o1 : EReal) = (s2 : EReal)
  mn2 : (Cert.ReferenceIdeal.Hand.a5 m' c (j1 L) : EReal) = (mn : EReal)
  rs2 : (Cert.ReferenceIdeal.Hand.a6 m' c (j1 L) : EReal) = (rs : EReal)
  gm2 : (Cert.ReferenceIdeal.Hand.a7 m' c (j1 L) : EReal) = (gm : EReal)
  k1 : cK = (k : EReal)

theorem j3_eq (a : Fin 96) (b : Fin 784) (l : Fin 512) : (j3 a b l : Cert.Kernel.S96x784x512.Idx) = ix3 a b l := by
  funext d; match d with | ⟨0, _⟩ => rfl | ⟨1, _⟩ => rfl | ⟨2, _⟩ => rfl
theorem j1_eq (l : Fin 512) : (j1 l : Cert.Kernel.S512.Idx) = ix1 l := by
  funext d; match d with | ⟨0, _⟩ => rfl

include A R in
/-- Admissible arguments that agree give every channel such reals. -/
theorem chan (L : Fin 512) : ∃ (g x : Fin 96 → Fin 784 → ℝ) (s1 s2 mn rs gm k : ℝ), Chan (m := m) (m' := m') (c := c) L g x s1 s2 mn rs gm k := by
  choose x hx using R.r0
  choose d hd using R.r2
  choose s1 hs1 using R.r1
  choose s2 hs2 using R.r3
  choose mn hmn using R.r5
  choose rs hrs using R.r6
  choose gm hgm using R.r7
  obtain ⟨k, hk⟩ := cK_real
  refine ⟨fun a b => if (Cert.Kernel.Hand.a4 m c (ix3 a b L) : BitVec 8) = 0#8 then 0 else d (ix3 a b L), fun a b => x (ix3 a b L),
    s1 (fun e => e.elim0), s2 (fun e => e.elim0), mn (ix1 L), rs (ix1 L), gm (ix1 L), k, ?_⟩
  have hS (i : Cert.Kernel.S_.Idx) : i = fun e => e.elim0 := funext fun e => e.elim0
  constructor
  · intro a b
    unfold mv
    rw [km_val, kd_val]
    split_ifs
    · exact EReal.coe_zero.symm
    · exact hd _
  · intro a b; rw [kx_val]; exact hx _
  · rw [ks1_val]; refine (hs1 _).trans ?_; exact congrArg (fun i => (s1 i : EReal)) (hS _)
  · rw [ks2_val]; refine (hs2 _).trans ?_; exact congrArg (fun i => (s2 i : EReal)) (hS _)
  · rw [kmn_val]; exact hmn _
  · rw [krs_val]; exact hrs _
  · rw [kgm_val]; exact hgm _
  · intro a b
    unfold x2
    rw [A.e4, A.e2, j3_eq]
    split_ifs
    · exact EReal.coe_zero.symm
    · exact hd _
  · intro a b; unfold x0; rw [A.e0, j3_eq]; exact hx _
  · unfold Cert.ReferenceIdeal.Hand.x1; rw [A.e1]; refine (hs1 _).trans ?_; exact congrArg (fun i => (s1 i : EReal)) (hS _)
  · unfold x3; rw [A.e3]; refine (hs2 _).trans ?_; exact congrArg (fun i => (s2 i : EReal)) (hS _)
  · rw [A.e5, j1_eq]; exact hmn _
  · rw [A.e6, j1_eq]; exact hrs _
  · rw [A.e7, j1_eq]; exact hgm _
  · exact hk

include A R in
/-- The kernel's `dx` is the reference's. -/
theorem same0 : (shapeCast Cert.Kernel.S96x784x512 (DX m c) Cert.Kernel.Facts₀.shapeCasts_S75264x512_S96x784x512 : Cert.Kernel.S96x784x512.Idx → EReal)
    = fun i => rO (x0 m' c) (Cert.ReferenceIdeal.Hand.x1 m' c) (x2 m' c) (x3 m' c) (Cert.ReferenceIdeal.Hand.a4 m' c) (Cert.ReferenceIdeal.Hand.a5 m' c) (Cert.ReferenceIdeal.Hand.a6 m' c) (Cert.ReferenceIdeal.Hand.a7 m' c) i := by
  funext i
  obtain ⟨g, x, s1, s2, mn, rs, gm, k, C⟩ := chan A R (i 2)
  have hi : i = ix3 (i 0) (i 1) (i 2) := by
    funext d; match d with | ⟨0, _⟩ => rfl | ⟨1, _⟩ => rfl | ⟨2, _⟩ => rfl
  have hj : i = j3 (i 0) (i 1) (i 2) := hi.trans (j3_eq _ _ _).symm
  refine (congrArg _ hi).trans ?_
  refine (DX_val m c R.r4 (i 0) (i 1) (i 2)).trans ?_
  rw [vO_real _ _ _ _ _ _ _ _ (i 2) g x s1 s2 mn rs gm C.g1 C.x1 C.p1 C.q1 C.mn1 C.rs1 C.gm1 k C.k1 (i 0) (i 1)]
  refine Eq.trans ?_ (congrArg _ hj).symm
  exact (rO_real _ _ _ _ _ _ _ _ (i 2) g x s1 s2 mn rs gm C.g2 C.x2 C.p2 C.q2 C.mn2 C.rs2 C.gm2 k C.k1 (i 0) (i 1)).symm

include A R in
/-- The kernel's `dgamma` is the reference's. -/
theorem same1 : (shapeCast Cert.Kernel.S512 (DG m c) Cert.Kernel.Facts₀.shapeCasts_S4x128_S512 : Cert.Kernel.S512.Idx → EReal)
    = fun j => rD (x0 m' c) (Cert.ReferenceIdeal.Hand.x1 m' c) (x2 m' c) (x3 m' c) (Cert.ReferenceIdeal.Hand.a4 m' c) (Cert.ReferenceIdeal.Hand.a5 m' c) (Cert.ReferenceIdeal.Hand.a6 m' c) (j 0) := by
  funext i
  obtain ⟨g, x, s1, s2, mn, rs, gm, k, C⟩ := chan A R (i 0)
  have hi : i = ix1 (i 0) := by
    funext d; match d with | ⟨0, _⟩ => rfl
  rw [hi]
  refine (DG_val m c R.r4 (i 0)).trans ?_
  rw [vD_real _ _ _ _ _ _ _ (i 0) g x s1 s2 mn rs C.g1 C.x1 C.p1 C.q1 C.mn1 C.rs1]
  exact (rD_real _ _ _ _ _ _ _ (i 0) g x s1 s2 mn rs C.g2 C.x2 C.p2 C.q2 C.mn2 C.rs2).symm

include A R in
/-- The kernel's `dbeta` is the reference's. -/
theorem same2 : (shapeCast Cert.Kernel.S512 (DB m c) Cert.Kernel.Facts₀.shapeCasts_S4x128_S512 : Cert.Kernel.S512.Idx → EReal)
    = fun j => rB (x2 m' c) (x3 m' c) (Cert.ReferenceIdeal.Hand.a4 m' c) (j 0) := by
  funext i
  obtain ⟨g, x, s1, s2, mn, rs, gm, k, C⟩ := chan A R (i 0)
  have hi : i = ix1 (i 0) := by
    funext d; match d with | ⟨0, _⟩ => rfl
  rw [hi]
  refine (DB_val m c R.r4 (i 0)).trans ?_
  rw [vB_real _ _ _ (i 0) g s2 C.g1 C.q1]
  refine Eq.trans ?_ (rB_real _ _ _ (i 0) g s2 C.g2 C.q2).symm
  simp only [← Finset.sum_mul]

end
end Cert.Proof
-- ==== Proof.Value.lean ====
/-
  The kernel's results are the reference's, at the ideal instance, from arguments that agree and are admissible.
-/
module

public import proofs.«01_k».proof.Defs
public import proofs.«01_k».proof.Proof.Agree
public import proofs.«01_k».proof.Proof.Gen.KernelIdeal
public import Idealize.ShloMosaic.Lib.Pipeline.Regions

@[expose] public section

set_option maxRecDepth 16384

noncomputable section

namespace Cert.Kernel.Hand

open Idealize.ShloMosaic Idealize.SL.Sem
open Cert.Kernel.Gen
open Idealize.ShloMosaic.TcCoe

section
variable (m : (ℓ : Loc nD τ sig) → Buf (Elt Ideal) ℓ) (ρ : Dev nD → PrngReg)

/-- The kernel's run with its three results named and its arguments unchanged. -/
theorem run_all : θ_run (defs (F := Ideal)) (onTc (τ := τ) (main (F := Ideal))) ⟨m, fun _ => 0, ρ⟩ (fun r => (∀ c : Dev nD,
      r.2.mem ((c.tc : Thread nD τ).loc main_v12) = shapeCast S96x784x512 (DX m c) shapeCasts_S75264x512_S96x784x512
      ∧ r.2.mem ((c.tc : Thread nD τ).loc main_v13) = shapeCast S512 (DG m c) shapeCasts_S4x128_S512
      ∧ r.2.mem ((c.tc : Thread nD τ).loc main_v14) = shapeCast S512 (DB m c) shapeCasts_S4x128_S512)
    ∧ ∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))) :=
  (θ_run defs _ _).mono (fun r h => ⟨fun c => ⟨
      (h.1 c main_v12 (Pipeline.mem_restRefs_of main_v12 (by decide) (by decide))).trans (end_v12 m c),
      (h.1 c main_v13 (Pipeline.mem_restRefs_of main_v13 (by decide) (by decide))).trans (end_v13 m c),
      (h.1 c main_v14 (Pipeline.mem_restRefs_of main_v14 (by decide) (by decide))).trans (end_v14 m c)⟩, fun c => ⟨
      (h.1 c main_arg0 (Pipeline.mem_restRefs_of main_arg0 (by decide) (by decide))).trans ((keeps m c main_arg0 (not_written _ (by decide) (by decide) (by decide)) (by exact (by decide : ∀ w, Pipeline.arrRef spec0 w ≠ main_arg0)) (by decide)).trans (V_main_arg0 m c)),
      (h.1 c main_arg1 (Pipeline.mem_restRefs_of main_arg1 (by decide) (by decide))).trans ((keeps m c main_arg1 (not_written _ (by decide) (by decide) (by decide)) (by exact (by decide : ∀ w, Pipeline.arrRef spec0 w ≠ main_arg1)) (by decide)).trans (V_main_arg1 m c)),
      (h.1 c main_arg2 (Pipeline.mem_restRefs_of main_arg2 (by decide) (by decide))).trans ((keeps m c main_arg2 (not_written _ (by decide) (by decide) (by decide)) (by exact (by decide : ∀ w, Pipeline.arrRef spec0 w ≠ main_arg2)) (by decide)).trans (V_main_arg2 m c)),
      (h.1 c main_arg3 (Pipeline.mem_restRefs_of main_arg3 (by decide) (by decide))).trans ((keeps m c main_arg3 (not_written _ (by decide) (by decide) (by decide)) (by exact (by decide : ∀ w, Pipeline.arrRef spec0 w ≠ main_arg3)) (by decide)).trans (V_main_arg3 m c)),
      (h.1 c main_arg4 (Pipeline.mem_restRefs_of main_arg4 (by decide) (by decide))).trans ((keeps m c main_arg4 (not_written _ (by decide) (by decide) (by decide)) (by exact (by decide : ∀ w, Pipeline.arrRef spec0 w ≠ main_arg4)) (by decide)).trans (V_main_arg4 m c)),
      (h.1 c main_arg5 (Pipeline.mem_restRefs_of main_arg5 (by decide) (by decide))).trans ((keeps m c main_arg5 (not_written _ (by decide) (by decide) (by decide)) (by exact (by decide : ∀ w, Pipeline.arrRef spec0 w ≠ main_arg5)) (by decide)).trans (V_main_arg5 m c)),
      (h.1 c main_arg6 (Pipeline.mem_restRefs_of main_arg6 (by decide) (by decide))).trans ((keeps m c main_arg6 (not_written _ (by decide) (by decide) (by decide)) (by exact (by decide : ∀ w, Pipeline.arrRef spec0 w ≠ main_arg6)) (by decide)).trans (V_main_arg6 m c)),
      (h.1 c main_arg7 (Pipeline.mem_restRefs_of main_arg7 (by decide) (by decide))).trans ((keeps m c main_arg7 (not_written _ (by decide) (by decide) (by decide)) (by exact (by decide : ∀ w, Pipeline.arrRef spec0 w ≠ main_arg7)) (by decide)).trans (V_main_arg7 m c))⟩⟩) (run_main m ρ)
end

end Cert.Kernel.Hand

namespace Cert.Proof

open Idealize.ShloMosaic Idealize.SL.Sem

instance : Cert.Pre_admissible.Facts := Cert.Pre_admissible.Hand.facts

/-- The arguments are admissible on every device. -/
def preK (m : (ℓ : Loc Cert.Kernel.nD Cert.Kernel.τ Cert.Kernel.sig) → Buf (Elt Ideal) ℓ) : Prop :=
  ∀ c : Dev Cert.Kernel.nD,
    (Cert.Pre_admissible.fn (F := Ideal) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

/-- From memories that agree on admissible arguments the kernel and the reference both run, end with equal
    results, and leave their arguments unchanged. -/
def algK : Prop :=
  ∀ (m : (ℓ : Loc Cert.Kernel.nD Cert.Kernel.τ Cert.Kernel.sig) → Buf (Elt Ideal) ℓ) (g : Dev Cert.Kernel.nD → PrngReg)
    (m' : (ℓ : Loc Cert.ReferenceIdeal.nD Cert.ReferenceIdeal.τ Cert.ReferenceIdeal.sig) → Buf (Elt Ideal) ℓ) (g' : Dev Cert.ReferenceIdeal.nD → PrngReg), preK m →
    (∀ c : Dev Cert.Kernel.nD,
      m' ((c.tc : Thread Cert.ReferenceIdeal.nD Cert.ReferenceIdeal.τ).loc Cert.ReferenceIdeal.main_arg0) = m ((c.tc : Thread Cert.Kernel.nD Cert.Kernel.τ).loc Cert.Kernel.main_arg0)
      ∧ m' ((c.tc : Thread Cert.ReferenceIdeal.nD Cert.ReferenceIdeal.τ).loc Cert.ReferenceIdeal.main_arg1) = m ((c.tc : Thread Cert.Kernel.nD Cert.Kernel.τ).loc Cert.Kernel.main_arg1)
      ∧ m' ((c.tc : Thread Cert.ReferenceIdeal.nD Cert.ReferenceIdeal.τ).loc Cert.ReferenceIdeal.main_arg2) = m ((c.tc : Thread Cert.Kernel.nD Cert.Kernel.τ).loc Cert.Kernel.main_arg2)
      ∧ m' ((c.tc : Thread Cert.ReferenceIdeal.nD Cert.ReferenceIdeal.τ).loc Cert.ReferenceIdeal.main_arg3) = m ((c.tc : Thread Cert.Kernel.nD Cert.Kernel.τ).loc Cert.Kernel.main_arg3)
      ∧ m' ((c.tc : Thread Cert.ReferenceIdeal.nD Cert.ReferenceIdeal.τ).loc Cert.ReferenceIdeal.main_arg4) = m ((c.tc : Thread Cert.Kernel.nD Cert.Kernel.τ).loc Cert.Kernel.main_arg4)
      ∧ m' ((c.tc : Thread Cert.ReferenceIdeal.nD Cert.ReferenceIdeal.τ).loc Cert.ReferenceIdeal.main_arg5) = m ((c.tc : Thread Cert.Kernel.nD Cert.Kernel.τ).loc Cert.Kernel.main_arg5)
      ∧ m' ((c.tc : Thread Cert.ReferenceIdeal.nD Cert.ReferenceIdeal.τ).loc Cert.ReferenceIdeal.main_arg6) = m ((c.tc : Thread Cert.Kernel.nD Cert.Kernel.τ).loc Cert.Kernel.main_arg6)
      ∧ m' ((c.tc : Thread Cert.ReferenceIdeal.nD Cert.ReferenceIdeal.τ).loc Cert.ReferenceIdeal.main_arg7) = m ((c.tc : Thread Cert.Kernel.nD Cert.Kernel.τ).loc Cert.Kernel.main_arg7)) →
    ∃ (v0 : (c : Dev Cert.Kernel.nD) → Buf (Elt Ideal) ((c.tc : Thread Cert.Kernel.nD Cert.Kernel.τ).loc Cert.Kernel.main_v12)) (v1 : (c : Dev Cert.Kernel.nD) → Buf (Elt Ideal) ((c.tc : Thread Cert.Kernel.nD Cert.Kernel.τ).loc Cert.Kernel.main_v13)) (v2 : (c : Dev Cert.Kernel.nD) → Buf (Elt Ideal) ((c.tc : Thread Cert.Kernel.nD Cert.Kernel.τ).loc Cert.Kernel.main_v14)),
      θ_run (Cert.Kernel.defs (F := Ideal)) (onTc (τ := Cert.Kernel.τ) (Cert.Kernel.main (F := Ideal))) ⟨m, fun _ => 0, g⟩ (fun r => ∀ c : Dev Cert.Kernel.nD,
          r.2.mem ((c.tc : Thread Cert.Kernel.nD Cert.Kernel.τ).loc Cert.Kernel.main_v12) = v0 c
          ∧ r.2.mem ((c.tc : Thread Cert.Kernel.nD Cert.Kernel.τ).loc Cert.Kernel.main_v13) = v1 c
          ∧ r.2.mem ((c.tc : Thread Cert.Kernel.nD Cert.Kernel.τ).loc Cert.Kernel.main_v14) = v2 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

theorem preK_finite (m : (ℓ : Loc Cert.Kernel.nD Cert.Kernel.τ Cert.Kernel.sig) → Buf (Elt Ideal) ℓ) (h : preK m) (c : Dev Cert.Kernel.nD) :
    Finite m c := by
  obtain ⟨r0, r1, r2, r3, r4, r5, r6, r7⟩ := Cert.Pre_admissible.Hand.unpack _ _ _ _ _ _ _ _ (fun e => e.elim0) (congrFun (h c) (fun e => e.elim0))
  exact ⟨r0, r1, r2, r3, r4, r5, r6, r7⟩

theorem algK_holds : algK := by
  intro m g m' g' hp he
  have hA (c : Dev Cert.Kernel.nD) : Agree m m' c := by
    obtain ⟨e0, e1, e2, e3, e4, e5, e6, e7⟩ := he c
    exact ⟨e0, e1, e2, e3, e4, e5, e6, e7⟩
  refine ⟨fun c => shapeCast Cert.Kernel.S96x784x512 (Cert.Kernel.Hand.DX m c) Cert.Kernel.Facts₀.shapeCasts_S75264x512_S96x784x512,
    fun c => shapeCast Cert.Kernel.S512 (Cert.Kernel.Hand.DG m c) Cert.Kernel.Facts₀.shapeCasts_S4x128_S512,
    fun c => shapeCast Cert.Kernel.S512 (Cert.Kernel.Hand.DB m c) Cert.Kernel.Facts₀.shapeCasts_S4x128_S512, ?_, ?_⟩
  · exact (θ_run _ _ _).mono (fun r h c => ⟨(h.1 c).1, (h.1 c).2.1, (h.1 c).2.2, h.2 c⟩) ((Cert.Kernel.Hand.run_all m g))
  · refine (θ_run _ _ _).mono (fun r h c => ?_) (Cert.ReferenceIdeal.Value.run_blocks m' g')
    obtain ⟨h0, h1, h2, hr⟩ := h c
    exact ⟨h0.trans ((Cert.ReferenceIdeal.Hand.arr8 m' c).trans (same0 (hA c) (preK_finite m hp c)).symm),
      h1.trans ((Cert.ReferenceIdeal.Hand.arr9 m' c).trans (same1 (hA c) (preK_finite m hp c)).symm),
      h2.trans ((Cert.ReferenceIdeal.Hand.arr10 m' c).trans (same2 (hA c) (preK_finite m hp c)).symm), hr⟩

theorem alg_same : Cert.algebraic_KernelIdeal_ReferenceIdeal_pre_admissible (hKernelIdeal := Cert.KernelIdeal.Gen.facts)
    (hReferenceIdeal := Cert.ReferenceIdeal.Gen.facts) (hPre_admissible := Cert.Pre_admissible.Hand.facts) = algK := by
  chain_rfl

theorem alg_holds : Cert.algebraic_KernelIdeal_ReferenceIdeal_pre_admissible (hKernelIdeal := Cert.KernelIdeal.Gen.facts)
    (hReferenceIdeal := Cert.ReferenceIdeal.Gen.facts) (hPre_admissible := Cert.Pre_admissible.Hand.facts) := alg_same.symm ▸ algK_holds

end Cert.Proof

end
-- ==== Proof.lean ====
/-
  The certificate's claims, from the modules that prove them: the kernel's run (Run.lean), its two
  printed programs being the same (Same.lean), its results being the reference's (Value.lean), the
  reference's run (generated).
-/
module

public import proofs.«01_k».proof.Defs
public import proofs.«01_k».proof.Proof.Same
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_admissible.Hand.facts,
    fun m g _ => quietK_holds Bits m g, fun m g _ => quietI_holds Ideal m g, fun m g _ => quietI_holds Ideal m g,
    fun m ρ _ => Cert.ReferenceIdeal.Gen.frame m ρ, fun m ρ _ => Cert.ReferenceIdeal.Gen.frame m ρ, trivial, alg_holds⟩

end Cert.Proof

end
